-- ==== Defs.lean ====
def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantRefIdeal (m : (ℓ : Loc Cert.QuantRefIdeal.nD Cert.QuantRefIdeal.τ Cert.QuantRefIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsRefIdeal (m : (ℓ : Loc Cert.ExpertsRefIdeal.nD Cert.ExpertsRefIdeal.τ Cert.ExpertsRefIdeal.sig) → Buf (Elt Ideal) ℓ) : Prop :=
  True

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6)
      ∧ r.2.mem ((c.tc : Thread Cert.Project.nD Cert.Project.τ).loc Cert.Project.main_arg7) = m ((c.tc : Thread Cert.Project.nD Cert.Project.τ).loc Cert.Project.main_arg7)
      ∧ r.2.mem ((c.tc : Thread Cert.Project.nD Cert.Project.τ).loc Cert.Project.main_arg8) = m ((c.tc : Thread Cert.Project.nD Cert.Project.τ).loc Cert.Project.main_arg8)
      ∧ r.2.mem ((c.tc : Thread Cert.Project.nD Cert.Project.τ).loc Cert.Project.main_arg9) = m ((c.tc : Thread Cert.Project.nD Cert.Project.τ).loc Cert.Project.main_arg9)
      ∧ r.2.mem ((c.tc : Thread Cert.Project.nD Cert.Project.τ).loc Cert.Project.main_arg10) = m ((c.tc : Thread Cert.Project.nD Cert.Project.τ).loc Cert.Project.main_arg10))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
      ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7)
      ∧ r.2.mem ((c.tc : Thread Cert.ProjectIdeal.nD Cert.ProjectIdeal.τ).loc Cert.ProjectIdeal.main_arg8) = m ((c.tc : Thread Cert.ProjectIdeal.nD Cert.ProjectIdeal.τ).loc Cert.ProjectIdeal.main_arg8)
      ∧ r.2.mem ((c.tc : Thread Cert.ProjectIdeal.nD Cert.ProjectIdeal.τ).loc Cert.ProjectIdeal.main_arg9) = m ((c.tc : Thread Cert.ProjectIdeal.nD Cert.ProjectIdeal.τ).loc Cert.ProjectIdeal.main_arg9)
      ∧ r.2.mem ((c.tc : Thread Cert.ProjectIdeal.nD Cert.ProjectIdeal.τ).loc Cert.ProjectIdeal.main_arg10) = m ((c.tc : Thread Cert.ProjectIdeal.nD Cert.ProjectIdeal.τ).loc Cert.ProjectIdeal.main_arg10))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1)
      ∧ r.2.mem ((c.tc : Thread Cert.ProjectRefIdeal.nD Cert.ProjectRefIdeal.τ).loc Cert.ProjectRefIdeal.main_arg2) = m ((c.tc : Thread Cert.ProjectRefIdeal.nD Cert.ProjectRefIdeal.τ).loc Cert.ProjectRefIdeal.main_arg2)
      ∧ r.2.mem ((c.tc : Thread Cert.ProjectRefIdeal.nD Cert.ProjectRefIdeal.τ).loc Cert.ProjectRefIdeal.main_arg3) = m ((c.tc : Thread Cert.ProjectRefIdeal.nD Cert.ProjectRefIdeal.τ).loc Cert.ProjectRefIdeal.main_arg3)
      ∧ r.2.mem ((c.tc : Thread Cert.ProjectRefIdeal.nD Cert.ProjectRefIdeal.τ).loc Cert.ProjectRefIdeal.main_arg4) = m ((c.tc : Thread Cert.ProjectRefIdeal.nD Cert.ProjectRefIdeal.τ).loc Cert.ProjectRefIdeal.main_arg4)
      ∧ r.2.mem ((c.tc : Thread Cert.ProjectRefIdeal.nD Cert.ProjectRefIdeal.τ).loc Cert.ProjectRefIdeal.main_arg5) = m ((c.tc : Thread Cert.ProjectRefIdeal.nD Cert.ProjectRefIdeal.τ).loc Cert.ProjectRefIdeal.main_arg5)
      ∧ r.2.mem ((c.tc : Thread Cert.ProjectRefIdeal.nD Cert.ProjectRefIdeal.τ).loc Cert.ProjectRefIdeal.main_arg6) = m ((c.tc : Thread Cert.ProjectRefIdeal.nD Cert.ProjectRefIdeal.τ).loc Cert.ProjectRefIdeal.main_arg6)
      ∧ r.2.mem ((c.tc : Thread Cert.ProjectRefIdeal.nD Cert.ProjectRefIdeal.τ).loc Cert.ProjectRefIdeal.main_arg7) = m ((c.tc : Thread Cert.ProjectRefIdeal.nD Cert.ProjectRefIdeal.τ).loc Cert.ProjectRefIdeal.main_arg7)
      ∧ r.2.mem ((c.tc : Thread Cert.ProjectRefIdeal.nD Cert.ProjectRefIdeal.τ).loc Cert.ProjectRefIdeal.main_arg8) = m ((c.tc : Thread Cert.ProjectRefIdeal.nD Cert.ProjectRefIdeal.τ).loc Cert.ProjectRefIdeal.main_arg8)
      ∧ r.2.mem ((c.tc : Thread Cert.ProjectRefIdeal.nD Cert.ProjectRefIdeal.τ).loc Cert.ProjectRefIdeal.main_arg9) = m ((c.tc : Thread Cert.ProjectRefIdeal.nD Cert.ProjectRefIdeal.τ).loc Cert.ProjectRefIdeal.main_arg9)
      ∧ r.2.mem ((c.tc : Thread Cert.ProjectRefIdeal.nD Cert.ProjectRefIdeal.τ).loc Cert.ProjectRefIdeal.main_arg10) = m ((c.tc : Thread Cert.ProjectRefIdeal.nD Cert.ProjectRefIdeal.τ).loc Cert.ProjectRefIdeal.main_arg10))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ r.2.sem = fun _ => 0)

def quiescent_QuantRefIdeal [hQuantRefIdeal : Cert.QuantRefIdeal.Facts] : Prop :=
  ∀ (m : (ℓ : Loc Cert.QuantRefIdeal.nD Cert.QuantRefIdeal.τ Cert.QuantRefIdeal.sig) → Buf (Elt Ideal) ℓ) (g : Dev Cert.QuantRefIdeal.nD → PrngReg), Pre_QuantRefIdeal m →
    θ_run (Cert.QuantRefIdeal.defs (F := Ideal)) (onTc (τ := Cert.QuantRefIdeal.τ) (Cert.QuantRefIdeal.main (F := Ideal))) ⟨m, fun _ => 0, g⟩ (fun r => (∀ c : Dev Cert.QuantRefIdeal.nD,
      r.2.mem ((c.tc : Thread Cert.QuantRefIdeal.nD Cert.QuantRefIdeal.τ).loc Cert.QuantRefIdeal.main_arg0) = m ((c.tc : Thread Cert.QuantRefIdeal.nD Cert.QuantRefIdeal.τ).loc Cert.QuantRefIdeal.main_arg0)
      ∧ r.2.mem ((c.tc : Thread Cert.QuantRefIdeal.nD Cert.QuantRefIdeal.τ).loc Cert.QuantRefIdeal.main_arg1) = m ((c.tc : Thread Cert.QuantRefIdeal.nD Cert.QuantRefIdeal.τ).loc Cert.QuantRefIdeal.main_arg1))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8)
      ∧ r.2.mem ((c.tc : Thread Cert.Experts.nD Cert.Experts.τ).loc Cert.Experts.main_arg9) = m ((c.tc : Thread Cert.Experts.nD Cert.Experts.τ).loc Cert.Experts.main_arg9)
      ∧ r.2.mem ((c.tc : Thread Cert.Experts.nD Cert.Experts.τ).loc Cert.Experts.main_arg10) = m ((c.tc : Thread Cert.Experts.nD Cert.Experts.τ).loc Cert.Experts.main_arg10))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
      ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9)
      ∧ r.2.mem ((c.tc : Thread Cert.ExpertsIdeal.nD Cert.ExpertsIdeal.τ).loc Cert.ExpertsIdeal.main_arg10) = m ((c.tc : Thread Cert.ExpertsIdeal.nD Cert.ExpertsIdeal.τ).loc Cert.ExpertsIdeal.main_arg10))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7)
      ∧ r.2.mem ((c.tc : Thread Cert.ExpertsRefIdeal.nD Cert.ExpertsRefIdeal.τ).loc Cert.ExpertsRefIdeal.main_arg8) = m ((c.tc : Thread Cert.ExpertsRefIdeal.nD Cert.ExpertsRefIdeal.τ).loc Cert.ExpertsRefIdeal.main_arg8)
      ∧ r.2.mem ((c.tc : Thread Cert.ExpertsRefIdeal.nD Cert.ExpertsRefIdeal.τ).loc Cert.ExpertsRefIdeal.main_arg9) = m ((c.tc : Thread Cert.ExpertsRefIdeal.nD Cert.ExpertsRefIdeal.τ).loc Cert.ExpertsRefIdeal.main_arg9)
      ∧ r.2.mem ((c.tc : Thread Cert.ExpertsRefIdeal.nD Cert.ExpertsRefIdeal.τ).loc Cert.ExpertsRefIdeal.main_arg10) = m ((c.tc : Thread Cert.ExpertsRefIdeal.nD Cert.ExpertsRefIdeal.τ).loc Cert.ExpertsRefIdeal.main_arg10))
      ∧ r.2.sem = fun _ => 0)

def preserves_Project_ProjectIdeal : Prop :=
  True

def algebraic_ProjectIdeal_ProjectRefIdeal_on_holds_token [hProjectIdeal : Cert.ProjectIdeal.Facts] [hProjectRefIdeal : Cert.ProjectRefIdeal.Facts] [hOn_holds_token : Cert.On_holds_token.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)
      ∧ m' ((c.tc : Thread Cert.ProjectRefIdeal.nD Cert.ProjectRefIdeal.τ).loc Cert.ProjectRefIdeal.main_arg2) = m ((c.tc : Thread Cert.ProjectIdeal.nD Cert.ProjectIdeal.τ).loc Cert.ProjectIdeal.main_arg2)
      ∧ m' ((c.tc : Thread Cert.ProjectRefIdeal.nD Cert.ProjectRefIdeal.τ).loc Cert.ProjectRefIdeal.main_arg3) = m ((c.tc : Thread Cert.ProjectIdeal.nD Cert.ProjectIdeal.τ).loc Cert.ProjectIdeal.main_arg3)
      ∧ m' ((c.tc : Thread Cert.ProjectRefIdeal.nD Cert.ProjectRefIdeal.τ).loc Cert.ProjectRefIdeal.main_arg4) = m ((c.tc : Thread Cert.ProjectIdeal.nD Cert.ProjectIdeal.τ).loc Cert.ProjectIdeal.main_arg4)
      ∧ m' ((c.tc : Thread Cert.ProjectRefIdeal.nD Cert.ProjectRefIdeal.τ).loc Cert.ProjectRefIdeal.main_arg5) = m ((c.tc : Thread Cert.ProjectIdeal.nD Cert.ProjectIdeal.τ).loc Cert.ProjectIdeal.main_arg5)
      ∧ m' ((c.tc : Thread Cert.ProjectRefIdeal.nD Cert.ProjectRefIdeal.τ).loc Cert.ProjectRefIdeal.main_arg6) = m ((c.tc : Thread Cert.ProjectIdeal.nD Cert.ProjectIdeal.τ).loc Cert.ProjectIdeal.main_arg6)
      ∧ m' ((c.tc : Thread Cert.ProjectRefIdeal.nD Cert.ProjectRefIdeal.τ).loc Cert.ProjectRefIdeal.main_arg7) = m ((c.tc : Thread Cert.ProjectIdeal.nD Cert.ProjectIdeal.τ).loc Cert.ProjectIdeal.main_arg7)
      ∧ m' ((c.tc : Thread Cert.ProjectRefIdeal.nD Cert.ProjectRefIdeal.τ).loc Cert.ProjectRefIdeal.main_arg8) = m ((c.tc : Thread Cert.ProjectIdeal.nD Cert.ProjectIdeal.τ).loc Cert.ProjectIdeal.main_arg8)
      ∧ m' ((c.tc : Thread Cert.ProjectRefIdeal.nD Cert.ProjectRefIdeal.τ).loc Cert.ProjectRefIdeal.main_arg9) = m ((c.tc : Thread Cert.ProjectIdeal.nD Cert.ProjectIdeal.τ).loc Cert.ProjectIdeal.main_arg9)
      ∧ m' ((c.tc : Thread Cert.ProjectRefIdeal.nD Cert.ProjectRefIdeal.τ).loc Cert.ProjectRefIdeal.main_arg10) = m ((c.tc : Thread Cert.ProjectIdeal.nD Cert.ProjectIdeal.τ).loc Cert.ProjectIdeal.main_arg10)) →
    ∃ (v0 : (c : Dev Cert.ProjectIdeal.nD) → Buf (Elt Ideal) ((c.tc : Thread Cert.ProjectIdeal.nD Cert.ProjectIdeal.τ).loc Cert.ProjectIdeal.main_v13_0)) (v1 : (c : Dev Cert.ProjectIdeal.nD) → Buf (Elt Ideal) ((c.tc : Thread Cert.ProjectIdeal.nD Cert.ProjectIdeal.τ).loc Cert.ProjectIdeal.main_v13_1)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          (∀ i : (⟨3, ![8, 720, 4096]⟩ : Shape).Idx, (Cert.On_holds_token.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2)) (m ((c.tc : Thread Cert.ProjectIdeal.nD Cert.ProjectIdeal.τ).loc Cert.ProjectIdeal.main_arg3)) (m ((c.tc : Thread Cert.ProjectIdeal.nD Cert.ProjectIdeal.τ).loc Cert.ProjectIdeal.main_arg4)) (m ((c.tc : Thread Cert.ProjectIdeal.nD Cert.ProjectIdeal.τ).loc Cert.ProjectIdeal.main_arg5)) (m ((c.tc : Thread Cert.ProjectIdeal.nD Cert.ProjectIdeal.τ).loc Cert.ProjectIdeal.main_arg6)) (m ((c.tc : Thread Cert.ProjectIdeal.nD Cert.ProjectIdeal.τ).loc Cert.ProjectIdeal.main_arg7)) (m ((c.tc : Thread Cert.ProjectIdeal.nD Cert.ProjectIdeal.τ).loc Cert.ProjectIdeal.main_arg8)) (m ((c.tc : Thread Cert.ProjectIdeal.nD Cert.ProjectIdeal.τ).loc Cert.ProjectIdeal.main_arg9)) (m ((c.tc : Thread Cert.ProjectIdeal.nD Cert.ProjectIdeal.τ).loc Cert.ProjectIdeal.main_arg10))).1 i = 1#1 → r.2.mem ((c.tc : Thread Cert.ProjectIdeal.nD Cert.ProjectIdeal.τ).loc Cert.ProjectIdeal.main_v13_0) i = v0 c i)
          ∧ (∀ i : (⟨3, ![8, 720, 4096]⟩ : Shape).Idx, (Cert.On_holds_token.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2)) (m ((c.tc : Thread Cert.ProjectIdeal.nD Cert.ProjectIdeal.τ).loc Cert.ProjectIdeal.main_arg3)) (m ((c.tc : Thread Cert.ProjectIdeal.nD Cert.ProjectIdeal.τ).loc Cert.ProjectIdeal.main_arg4)) (m ((c.tc : Thread Cert.ProjectIdeal.nD Cert.ProjectIdeal.τ).loc Cert.ProjectIdeal.main_arg5)) (m ((c.tc : Thread Cert.ProjectIdeal.nD Cert.ProjectIdeal.τ).loc Cert.ProjectIdeal.main_arg6)) (m ((c.tc : Thread Cert.ProjectIdeal.nD Cert.ProjectIdeal.τ).loc Cert.ProjectIdeal.main_arg7)) (m ((c.tc : Thread Cert.ProjectIdeal.nD Cert.ProjectIdeal.τ).loc Cert.ProjectIdeal.main_arg8)) (m ((c.tc : Thread Cert.ProjectIdeal.nD Cert.ProjectIdeal.τ).loc Cert.ProjectIdeal.main_arg9)) (m ((c.tc : Thread Cert.ProjectIdeal.nD Cert.ProjectIdeal.τ).loc Cert.ProjectIdeal.main_arg10))).2 i = 1#1 → r.2.mem ((c.tc : Thread Cert.ProjectIdeal.nD Cert.ProjectIdeal.τ).loc Cert.ProjectIdeal.main_v13_1) i = v1 c i)
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
          ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7)
          ∧ r.2.mem ((c.tc : Thread Cert.ProjectIdeal.nD Cert.ProjectIdeal.τ).loc Cert.ProjectIdeal.main_arg8) = m ((c.tc : Thread Cert.ProjectIdeal.nD Cert.ProjectIdeal.τ).loc Cert.ProjectIdeal.main_arg8)
          ∧ r.2.mem ((c.tc : Thread Cert.ProjectIdeal.nD Cert.ProjectIdeal.τ).loc Cert.ProjectIdeal.main_arg9) = m ((c.tc : Thread Cert.ProjectIdeal.nD Cert.ProjectIdeal.τ).loc Cert.ProjectIdeal.main_arg9)
          ∧ r.2.mem ((c.tc : Thread Cert.ProjectIdeal.nD Cert.ProjectIdeal.τ).loc Cert.ProjectIdeal.main_arg10) = m ((c.tc : Thread Cert.ProjectIdeal.nD Cert.ProjectIdeal.τ).loc Cert.ProjectIdeal.main_arg10))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          (∀ i : (⟨3, ![8, 720, 4096]⟩ : Shape).Idx, (Cert.On_holds_token.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2)) (m ((c.tc : Thread Cert.ProjectIdeal.nD Cert.ProjectIdeal.τ).loc Cert.ProjectIdeal.main_arg3)) (m ((c.tc : Thread Cert.ProjectIdeal.nD Cert.ProjectIdeal.τ).loc Cert.ProjectIdeal.main_arg4)) (m ((c.tc : Thread Cert.ProjectIdeal.nD Cert.ProjectIdeal.τ).loc Cert.ProjectIdeal.main_arg5)) (m ((c.tc : Thread Cert.ProjectIdeal.nD Cert.ProjectIdeal.τ).loc Cert.ProjectIdeal.main_arg6)) (m ((c.tc : Thread Cert.ProjectIdeal.nD Cert.ProjectIdeal.τ).loc Cert.ProjectIdeal.main_arg7)) (m ((c.tc : Thread Cert.ProjectIdeal.nD Cert.ProjectIdeal.τ).loc Cert.ProjectIdeal.main_arg8)) (m ((c.tc : Thread Cert.ProjectIdeal.nD Cert.ProjectIdeal.τ).loc Cert.ProjectIdeal.main_arg9)) (m ((c.tc : Thread Cert.ProjectIdeal.nD Cert.ProjectIdeal.τ).loc Cert.ProjectIdeal.main_arg10))).1 i = 1#1 → r.2.mem ((c.tc : Thread Cert.ProjectRefIdeal.nD Cert.ProjectRefIdeal.τ).loc Cert.ProjectRefIdeal.main_v9_0) i = v0 c i)
          ∧ (∀ i : (⟨3, ![8, 720, 4096]⟩ : Shape).Idx, (Cert.On_holds_token.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2)) (m ((c.tc : Thread Cert.ProjectIdeal.nD Cert.ProjectIdeal.τ).loc Cert.ProjectIdeal.main_arg3)) (m ((c.tc : Thread Cert.ProjectIdeal.nD Cert.ProjectIdeal.τ).loc Cert.ProjectIdeal.main_arg4)) (m ((c.tc : Thread Cert.ProjectIdeal.nD Cert.ProjectIdeal.τ).loc Cert.ProjectIdeal.main_arg5)) (m ((c.tc : Thread Cert.ProjectIdeal.nD Cert.ProjectIdeal.τ).loc Cert.ProjectIdeal.main_arg6)) (m ((c.tc : Thread Cert.ProjectIdeal.nD Cert.ProjectIdeal.τ).loc Cert.ProjectIdeal.main_arg7)) (m ((c.tc : Thread Cert.ProjectIdeal.nD Cert.ProjectIdeal.τ).loc Cert.ProjectIdeal.main_arg8)) (m ((c.tc : Thread Cert.ProjectIdeal.nD Cert.ProjectIdeal.τ).loc Cert.ProjectIdeal.main_arg9)) (m ((c.tc : Thread Cert.ProjectIdeal.nD Cert.ProjectIdeal.τ).loc Cert.ProjectIdeal.main_arg10))).2 i = 1#1 → r.2.mem ((c.tc : Thread Cert.ProjectRefIdeal.nD Cert.ProjectRefIdeal.τ).loc Cert.ProjectRefIdeal.main_v9_1) i = v1 c i)
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1)
          ∧ r.2.mem ((c.tc : Thread Cert.ProjectRefIdeal.nD Cert.ProjectRefIdeal.τ).loc Cert.ProjectRefIdeal.main_arg2) = m' ((c.tc : Thread Cert.ProjectRefIdeal.nD Cert.ProjectRefIdeal.τ).loc Cert.ProjectRefIdeal.main_arg2)
          ∧ r.2.mem ((c.tc : Thread Cert.ProjectRefIdeal.nD Cert.ProjectRefIdeal.τ).loc Cert.ProjectRefIdeal.main_arg3) = m' ((c.tc : Thread Cert.ProjectRefIdeal.nD Cert.ProjectRefIdeal.τ).loc Cert.ProjectRefIdeal.main_arg3)
          ∧ r.2.mem ((c.tc : Thread Cert.ProjectRefIdeal.nD Cert.ProjectRefIdeal.τ).loc Cert.ProjectRefIdeal.main_arg4) = m' ((c.tc : Thread Cert.ProjectRefIdeal.nD Cert.ProjectRefIdeal.τ).loc Cert.ProjectRefIdeal.main_arg4)
          ∧ r.2.mem ((c.tc : Thread Cert.ProjectRefIdeal.nD Cert.ProjectRefIdeal.τ).loc Cert.ProjectRefIdeal.main_arg5) = m' ((c.tc : Thread Cert.ProjectRefIdeal.nD Cert.ProjectRefIdeal.τ).loc Cert.ProjectRefIdeal.main_arg5)
          ∧ r.2.mem ((c.tc : Thread Cert.ProjectRefIdeal.nD Cert.ProjectRefIdeal.τ).loc Cert.ProjectRefIdeal.main_arg6) = m' ((c.tc : Thread Cert.ProjectRefIdeal.nD Cert.ProjectRefIdeal.τ).loc Cert.ProjectRefIdeal.main_arg6)
          ∧ r.2.mem ((c.tc : Thread Cert.ProjectRefIdeal.nD Cert.ProjectRefIdeal.τ).loc Cert.ProjectRefIdeal.main_arg7) = m' ((c.tc : Thread Cert.ProjectRefIdeal.nD Cert.ProjectRefIdeal.τ).loc Cert.ProjectRefIdeal.main_arg7)
          ∧ r.2.mem ((c.tc : Thread Cert.ProjectRefIdeal.nD Cert.ProjectRefIdeal.τ).loc Cert.ProjectRefIdeal.main_arg8) = m' ((c.tc : Thread Cert.ProjectRefIdeal.nD Cert.ProjectRefIdeal.τ).loc Cert.ProjectRefIdeal.main_arg8)
          ∧ r.2.mem ((c.tc : Thread Cert.ProjectRefIdeal.nD Cert.ProjectRefIdeal.τ).loc Cert.ProjectRefIdeal.main_arg9) = m' ((c.tc : Thread Cert.ProjectRefIdeal.nD Cert.ProjectRefIdeal.τ).loc Cert.ProjectRefIdeal.main_arg9)
          ∧ r.2.mem ((c.tc : Thread Cert.ProjectRefIdeal.nD Cert.ProjectRefIdeal.τ).loc Cert.ProjectRefIdeal.main_arg10) = m' ((c.tc : Thread Cert.ProjectRefIdeal.nD Cert.ProjectRefIdeal.τ).loc Cert.ProjectRefIdeal.main_arg10))

def preserves_Quant_QuantIdeal : Prop :=
  True

def algebraic_QuantIdeal_QuantRefIdeal [hQuantIdeal : Cert.QuantIdeal.Facts] [hQuantRefIdeal : Cert.QuantRefIdeal.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantRefIdeal.nD Cert.QuantRefIdeal.τ Cert.QuantRefIdeal.sig) → Buf (Elt Ideal) ℓ) (g' : Dev Cert.QuantRefIdeal.nD → PrngReg), Pre_QuantIdeal m →
    (∀ c : Dev Cert.QuantIdeal.nD,
      m' ((c.tc : Thread Cert.QuantRefIdeal.nD Cert.QuantRefIdeal.τ).loc Cert.QuantRefIdeal.main_arg0) = m ((c.tc : Thread Cert.QuantIdeal.nD Cert.QuantIdeal.τ).loc Cert.QuantIdeal.main_arg0)
      ∧ m' ((c.tc : Thread Cert.QuantRefIdeal.nD Cert.QuantRefIdeal.τ).loc Cert.QuantRefIdeal.main_arg1) = m ((c.tc : Thread Cert.QuantIdeal.nD Cert.QuantIdeal.τ).loc Cert.QuantIdeal.main_arg1)) →
    ∃ (v0 : (c : Dev Cert.QuantIdeal.nD) → Buf (Elt Ideal) ((c.tc : Thread Cert.QuantIdeal.nD Cert.QuantIdeal.τ).loc Cert.QuantIdeal.main_v1_0)) (v1 : (c : Dev Cert.QuantIdeal.nD) → Buf (Elt Ideal) ((c.tc : Thread Cert.QuantIdeal.nD Cert.QuantIdeal.τ).loc Cert.QuantIdeal.main_v1_1)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v1_0) = v0 c
          ∧ r.2.mem ((c.tc : Thread Cert.QuantIdeal.nD Cert.QuantIdeal.τ).loc Cert.QuantIdeal.main_v1_1) = v1 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
          ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ θ_run (Cert.QuantRefIdeal.defs (F := Ideal)) (onTc (τ := Cert.QuantRefIdeal.τ) (Cert.QuantRefIdeal.main (F := Ideal))) ⟨m', fun _ => 0, g'⟩ (fun r => ∀ c : Dev Cert.QuantRefIdeal.nD,
          r.2.mem ((c.tc : Thread Cert.QuantRefIdeal.nD Cert.QuantRefIdeal.τ).loc Cert.QuantRefIdeal.main_v1_0) = v0 c
          ∧ r.2.mem ((c.tc : Thread Cert.QuantRefIdeal.nD Cert.QuantRefIdeal.τ).loc Cert.QuantRefIdeal.main_v1_1) = v1 c
          ∧ r.2.mem ((c.tc : Thread Cert.QuantRefIdeal.nD Cert.QuantRefIdeal.τ).loc Cert.QuantRefIdeal.main_arg0) = m' ((c.tc : Thread Cert.QuantRefIdeal.nD Cert.QuantRefIdeal.τ).loc Cert.QuantRefIdeal.main_arg0)
          ∧ r.2.mem ((c.tc : Thread Cert.QuantRefIdeal.nD Cert.QuantRefIdeal.τ).loc Cert.QuantRefIdeal.main_arg1) = m' ((c.tc : Thread Cert.QuantRefIdeal.nD Cert.QuantRefIdeal.τ).loc Cert.QuantRefIdeal.main_arg1))

def preserves_Experts_ExpertsIdeal : Prop :=
  True

def algebraic_ExpertsIdeal_ExpertsRefIdeal_on_codes_of_tokens [hExpertsIdeal : Cert.ExpertsIdeal.Facts] [hExpertsRefIdeal : Cert.ExpertsRefIdeal.Facts] [hOn_codes_of_tokens : Cert.On_codes_of_tokens.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)
      ∧ m' ((c.tc : Thread Cert.ExpertsRefIdeal.nD Cert.ExpertsRefIdeal.τ).loc Cert.ExpertsRefIdeal.main_arg7) = m ((c.tc : Thread Cert.ExpertsIdeal.nD Cert.ExpertsIdeal.τ).loc Cert.ExpertsIdeal.main_arg7)
      ∧ m' ((c.tc : Thread Cert.ExpertsRefIdeal.nD Cert.ExpertsRefIdeal.τ).loc Cert.ExpertsRefIdeal.main_arg8) = m ((c.tc : Thread Cert.ExpertsIdeal.nD Cert.ExpertsIdeal.τ).loc Cert.ExpertsIdeal.main_arg8)
      ∧ m' ((c.tc : Thread Cert.ExpertsRefIdeal.nD Cert.ExpertsRefIdeal.τ).loc Cert.ExpertsRefIdeal.main_arg9) = m ((c.tc : Thread Cert.ExpertsIdeal.nD Cert.ExpertsIdeal.τ).loc Cert.ExpertsIdeal.main_arg9)
      ∧ m' ((c.tc : Thread Cert.ExpertsRefIdeal.nD Cert.ExpertsRefIdeal.τ).loc Cert.ExpertsRefIdeal.main_arg10) = m ((c.tc : Thread Cert.ExpertsIdeal.nD Cert.ExpertsIdeal.τ).loc Cert.ExpertsIdeal.main_arg10)) →
    ∃ (v0 : (c : Dev Cert.ExpertsIdeal.nD) → Buf (Elt Ideal) ((c.tc : Thread Cert.ExpertsIdeal.nD Cert.ExpertsIdeal.τ).loc Cert.ExpertsIdeal.main_v13_0)) (v1 : (c : Dev Cert.ExpertsIdeal.nD) → Buf (Elt Ideal) ((c.tc : Thread Cert.ExpertsIdeal.nD Cert.ExpertsIdeal.τ).loc Cert.ExpertsIdeal.main_v13_1)) (v2 : (c : Dev Cert.ExpertsIdeal.nD) → Buf (Elt Ideal) ((c.tc : Thread Cert.ExpertsIdeal.nD Cert.ExpertsIdeal.τ).loc Cert.ExpertsIdeal.main_v13_2)) (v3 : (c : Dev Cert.ExpertsIdeal.nD) → Buf (Elt Ideal) ((c.tc : Thread Cert.ExpertsIdeal.nD Cert.ExpertsIdeal.τ).loc Cert.ExpertsIdeal.main_v13_3)) (v4 : (c : Dev Cert.ExpertsIdeal.nD) → Buf (Elt Ideal) ((c.tc : Thread Cert.ExpertsIdeal.nD Cert.ExpertsIdeal.τ).loc Cert.ExpertsIdeal.main_v13_4)) (v5 : (c : Dev Cert.ExpertsIdeal.nD) → Buf (Elt Ideal) ((c.tc : Thread Cert.ExpertsIdeal.nD Cert.ExpertsIdeal.τ).loc Cert.ExpertsIdeal.main_v13_5)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          (∀ i : (⟨3, ![8, 720, 1792]⟩ : Shape).Idx, (Cert.On_codes_of_tokens.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9)) (m ((c.tc : Thread Cert.ExpertsIdeal.nD Cert.ExpertsIdeal.τ).loc Cert.ExpertsIdeal.main_arg10))).1 i = 1#1 → r.2.mem ((c.tc : Thread Cert.ExpertsIdeal.nD Cert.ExpertsIdeal.τ).loc Cert.ExpertsIdeal.main_v13_0) i = v0 c i)
          ∧ (∀ i : (⟨4, ![8, 2, 720, 1792]⟩ : Shape).Idx, (Cert.On_codes_of_tokens.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9)) (m ((c.tc : Thread Cert.ExpertsIdeal.nD Cert.ExpertsIdeal.τ).loc Cert.ExpertsIdeal.main_arg10))).2.1 i = 1#1 → r.2.mem ((c.tc : Thread Cert.ExpertsIdeal.nD Cert.ExpertsIdeal.τ).loc Cert.ExpertsIdeal.main_v13_1) i = v1 c i)
          ∧ (∀ i : (⟨4, ![8, 4096, 2, 1792]⟩ : Shape).Idx, (Cert.On_codes_of_tokens.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9)) (m ((c.tc : Thread Cert.ExpertsIdeal.nD Cert.ExpertsIdeal.τ).loc Cert.ExpertsIdeal.main_arg10))).2.2.1 i = 1#1 → r.2.mem ((c.tc : Thread Cert.ExpertsIdeal.nD Cert.ExpertsIdeal.τ).loc Cert.ExpertsIdeal.main_v13_2) i = v2 c i)
          ∧ (∀ i : (⟨3, ![8, 1792, 4096]⟩ : Shape).Idx, (Cert.On_codes_of_tokens.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9)) (m ((c.tc : Thread Cert.ExpertsIdeal.nD Cert.ExpertsIdeal.τ).loc Cert.ExpertsIdeal.main_arg10))).2.2.2.1 i = 1#1 → r.2.mem ((c.tc : Thread Cert.ExpertsIdeal.nD Cert.ExpertsIdeal.τ).loc Cert.ExpertsIdeal.main_v13_3) i = v3 c i)
          ∧ (∀ i : (⟨2, ![1, 1]⟩ : Shape).Idx, (Cert.On_codes_of_tokens.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9)) (m ((c.tc : Thread Cert.ExpertsIdeal.nD Cert.ExpertsIdeal.τ).loc Cert.ExpertsIdeal.main_arg10))).2.2.2.2.1 i = 1#1 → r.2.mem ((c.tc : Thread Cert.ExpertsIdeal.nD Cert.ExpertsIdeal.τ).loc Cert.ExpertsIdeal.main_v13_4) i = v4 c i)
          ∧ (∀ i : (⟨2, ![1, 1]⟩ : Shape).Idx, (Cert.On_codes_of_tokens.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9)) (m ((c.tc : Thread Cert.ExpertsIdeal.nD Cert.ExpertsIdeal.τ).loc Cert.ExpertsIdeal.main_arg10))).2.2.2.2.2 i = 1#1 → r.2.mem ((c.tc : Thread Cert.ExpertsIdeal.nD Cert.ExpertsIdeal.τ).loc Cert.ExpertsIdeal.main_v13_5) i = v5 c i)
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
          ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9)
          ∧ r.2.mem ((c.tc : Thread Cert.ExpertsIdeal.nD Cert.ExpertsIdeal.τ).loc Cert.ExpertsIdeal.main_arg10) = m ((c.tc : Thread Cert.ExpertsIdeal.nD Cert.ExpertsIdeal.τ).loc Cert.ExpertsIdeal.main_arg10))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          (∀ i : (⟨3, ![8, 720, 1792]⟩ : Shape).Idx, (Cert.On_codes_of_tokens.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9)) (m ((c.tc : Thread Cert.ExpertsIdeal.nD Cert.ExpertsIdeal.τ).loc Cert.ExpertsIdeal.main_arg10))).1 i = 1#1 → r.2.mem ((c.tc : Thread Cert.ExpertsRefIdeal.nD Cert.ExpertsRefIdeal.τ).loc Cert.ExpertsRefIdeal.main_v16_0) i = v0 c i)
          ∧ (∀ i : (⟨4, ![8, 2, 720, 1792]⟩ : Shape).Idx, (Cert.On_codes_of_tokens.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9)) (m ((c.tc : Thread Cert.ExpertsIdeal.nD Cert.ExpertsIdeal.τ).loc Cert.ExpertsIdeal.main_arg10))).2.1 i = 1#1 → r.2.mem ((c.tc : Thread Cert.ExpertsRefIdeal.nD Cert.ExpertsRefIdeal.τ).loc Cert.ExpertsRefIdeal.main_v16_1) i = v1 c i)
          ∧ (∀ i : (⟨4, ![8, 4096, 2, 1792]⟩ : Shape).Idx, (Cert.On_codes_of_tokens.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9)) (m ((c.tc : Thread Cert.ExpertsIdeal.nD Cert.ExpertsIdeal.τ).loc Cert.ExpertsIdeal.main_arg10))).2.2.1 i = 1#1 → r.2.mem ((c.tc : Thread Cert.ExpertsRefIdeal.nD Cert.ExpertsRefIdeal.τ).loc Cert.ExpertsRefIdeal.main_v16_2) i = v2 c i)
          ∧ (∀ i : (⟨3, ![8, 1792, 4096]⟩ : Shape).Idx, (Cert.On_codes_of_tokens.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9)) (m ((c.tc : Thread Cert.ExpertsIdeal.nD Cert.ExpertsIdeal.τ).loc Cert.ExpertsIdeal.main_arg10))).2.2.2.1 i = 1#1 → r.2.mem ((c.tc : Thread Cert.ExpertsRefIdeal.nD Cert.ExpertsRefIdeal.τ).loc Cert.ExpertsRefIdeal.main_v16_3) i = v3 c i)
          ∧ (∀ i : (⟨2, ![1, 1]⟩ : Shape).Idx, (Cert.On_codes_of_tokens.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9)) (m ((c.tc : Thread Cert.ExpertsIdeal.nD Cert.ExpertsIdeal.τ).loc Cert.ExpertsIdeal.main_arg10))).2.2.2.2.1 i = 1#1 → r.2.mem ((c.tc : Thread Cert.ExpertsRefIdeal.nD Cert.ExpertsRefIdeal.τ).loc Cert.ExpertsRefIdeal.main_v16_4) i = v4 c i)
          ∧ (∀ i : (⟨2, ![1, 1]⟩ : Shape).Idx, (Cert.On_codes_of_tokens.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9)) (m ((c.tc : Thread Cert.ExpertsIdeal.nD Cert.ExpertsIdeal.τ).loc Cert.ExpertsIdeal.main_arg10))).2.2.2.2.2 i = 1#1 → r.2.mem ((c.tc : Thread Cert.ExpertsRefIdeal.nD Cert.ExpertsRefIdeal.τ).loc Cert.ExpertsRefIdeal.main_v16_5) i = v5 c i)
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6)
          ∧ r.2.mem ((c.tc : Thread Cert.ExpertsRefIdeal.nD Cert.ExpertsRefIdeal.τ).loc Cert.ExpertsRefIdeal.main_arg7) = m' ((c.tc : Thread Cert.ExpertsRefIdeal.nD Cert.ExpertsRefIdeal.τ).loc Cert.ExpertsRefIdeal.main_arg7)
          ∧ r.2.mem ((c.tc : Thread Cert.ExpertsRefIdeal.nD Cert.ExpertsRefIdeal.τ).loc Cert.ExpertsRefIdeal.main_arg8) = m' ((c.tc : Thread Cert.ExpertsRefIdeal.nD Cert.ExpertsRefIdeal.τ).loc Cert.ExpertsRefIdeal.main_arg8)
          ∧ r.2.mem ((c.tc : Thread Cert.ExpertsRefIdeal.nD Cert.ExpertsRefIdeal.τ).loc Cert.ExpertsRefIdeal.main_arg9) = m' ((c.tc : Thread Cert.ExpertsRefIdeal.nD Cert.ExpertsRefIdeal.τ).loc Cert.ExpertsRefIdeal.main_arg9)
          ∧ r.2.mem ((c.tc : Thread Cert.ExpertsRefIdeal.nD Cert.ExpertsRefIdeal.τ).loc Cert.ExpertsRefIdeal.main_arg10) = m' ((c.tc : Thread Cert.ExpertsRefIdeal.nD Cert.ExpertsRefIdeal.τ).loc Cert.ExpertsRefIdeal.main_arg10))

def Claim : Prop :=
  ∃ (hProject : Cert.Project.Facts) (hProjectIdeal : Cert.ProjectIdeal.Facts) (hProjectRefIdeal : Cert.ProjectRefIdeal.Facts) (hQuant : Cert.Quant.Facts) (hQuantIdeal : Cert.QuantIdeal.Facts) (hQuantRefIdeal : Cert.QuantRefIdeal.Facts) (hExperts : Cert.Experts.Facts) (hExpertsIdeal : Cert.ExpertsIdeal.Facts) (hExpertsRefIdeal : Cert.ExpertsRefIdeal.Facts) (hOn_holds_token : Cert.On_holds_token.Facts) (hOn_codes_of_tokens : Cert.On_codes_of_tokens.Facts),
    quiescent_Project (hProject := hProject)
    ∧ quiescent_ProjectIdeal (hProjectIdeal := hProjectIdeal)
    ∧ quiescent_ProjectRefIdeal (hProjectRefIdeal := hProjectRefIdeal)
    ∧ quiescent_Quant (hQuant := hQuant)
    ∧ quiescent_QuantIdeal (hQuantIdeal := hQuantIdeal)
    ∧ quiescent_QuantRefIdeal (hQuantRefIdeal := hQuantRefIdeal)
    ∧ quiescent_Experts (hExperts := hExperts)
    ∧ quiescent_ExpertsIdeal (hExpertsIdeal := hExpertsIdeal)
    ∧ quiescent_ExpertsRefIdeal (hExpertsRefIdeal := hExpertsRefIdeal)
    ∧ preserves_Project_ProjectIdeal
    ∧ algebraic_ProjectIdeal_ProjectRefIdeal_on_holds_token (hProjectIdeal := hProjectIdeal) (hProjectRefIdeal := hProjectRefIdeal) (hOn_holds_token := hOn_holds_token)
    ∧ preserves_Quant_QuantIdeal
    ∧ algebraic_QuantIdeal_QuantRefIdeal (hQuantIdeal := hQuantIdeal) (hQuantRefIdeal := hQuantRefIdeal)
    ∧ preserves_Experts_ExpertsIdeal
    ∧ algebraic_ExpertsIdeal_ExpertsRefIdeal_on_codes_of_tokens (hExpertsIdeal := hExpertsIdeal) (hExpertsRefIdeal := hExpertsRefIdeal) (hOn_codes_of_tokens := hOn_codes_of_tokens)
-- ==== On_codes_of_tokens.lean ====
abbrev S_ : Shape := ⟨0, ![]⟩
abbrev S8 : Shape := ⟨1, ![8]⟩
abbrev S8x720 : Shape := ⟨2, ![8, 720]⟩
abbrev S8x720x4096 : Shape := ⟨3, ![8, 720, 4096]⟩
abbrev S8x4096x2x1792 : Shape := ⟨4, ![8, 4096, 2, 1792]⟩
abbrev S8x1792x4096 : Shape := ⟨3, ![8, 1792, 4096]⟩
abbrev S1x1 : Shape := ⟨2, ![1, 1]⟩
abbrev S8x720x1792 : Shape := ⟨3, ![8, 720, 1792]⟩
abbrev S8x2x720x1792 : Shape := ⟨4, ![8, 2, 720, 1792]⟩

class Facts : Prop where
  bcast_S_S8x720 : S_.BroadcastsInDim S8x720 (![] : Fin 0 → Fin S8x720.rank)
  bcast_S_S1x1 : S_.BroadcastsInDim S1x1 (![] : Fin 0 → Fin S1x1.rank)
  bcast_S8x720_S8x720x1792_0_1 : S8x720.BroadcastsInDim S8x720x1792 (![0, 1] : Fin 2 → Fin S8x720x1792.rank)
  bcast_S8x720_S8x2x720x1792_0_2 : S8x720.BroadcastsInDim S8x2x720x1792 (![0, 2] : Fin 2 → Fin S8x2x720x1792.rank)
  bcast_S_S8x4096x2x1792 : S_.BroadcastsInDim S8x4096x2x1792 (![] : Fin 0 → Fin S8x4096x2x1792.rank)
  bcast_S_S8x1792x4096 : S_.BroadcastsInDim S8x1792x4096 (![] : Fin 0 → Fin S8x1792x4096.rank)

variable [Facts]

def fn {F : FTy → Type} [FloatOps F] (main_arg0 : FVec F S_ .f32) (main_arg1 : FVec F S_ .f32) (main_arg2 : FVec F S_ .f32) (main_arg3 : FVec F S_ .f32) (main_arg4 : FVec F S8 .f32) (main_arg5 : FVec F S8 .f32) (main_arg6 : IVec S8x720 32) (main_arg7 : FVec F S8x720x4096 .fp8e4m3) (main_arg8 : FVec F S8x720x4096 .fp8e5m2) (main_arg9 : FVec F S8x4096x2x1792 .fp8e4m3) (main_arg10 : FVec F S8x1792x4096 .fp8e4m3) : IVec S8x720x1792 1 × IVec S8x2x720x1792 1 × IVec S8x4096x2x1792 1 × IVec S8x1792x4096 1 × IVec S1x1 1 × IVec S1x1 1 :=
  let main_c : IVec S_ 32 := constantI S_ 32 4608#32
  let main_v0 : IVec S8x720 32 := broadcastInDim S8x720 ![] bcast_S_S8x720 main_c
  let main_v1 : IVec S8x720 1 := cmpi .slt main_arg6 main_v0
  let main_c_0 : IVec S_ 1 := constantI S_ 1 0#1
  let main_v2 : IVec S1x1 1 := broadcastInDim S1x1 ![] bcast_S_S1x1 main_c_0
  let main_v3 : IVec S8x720x1792 1 := broadcastInDim S8x720x1792 ![0, 1] bcast_S8x720_S8x720x1792_0_1 main_v1
  let main_v4 : IVec S8x2x720x1792 1 := broadcastInDim S8x2x720x1792 ![0, 2] bcast_S8x720_S8x2x720x1792_0_2 main_v1
  let main_c_1 : IVec S_ 1 := constantI S_ 1 0#1
  let main_v5 : IVec S8x4096x2x1792 1 := broadcastInDim S8x4096x2x1792 ![] bcast_S_S8x4096x2x1792 main_c_1
  let main_c_2 : IVec S_ 1 := constantI S_ 1 0#1
  let main_v6 : IVec S8x1792x4096 1 := broadcastInDim S8x1792x4096 ![] bcast_S_S8x1792x4096 main_c_2
  (main_v3, main_v4, main_v5, main_v6, main_v2, main_v2)
-- ==== On_holds_token.lean ====
abbrev S_ : Shape := ⟨0, ![]⟩
abbrev S8 : Shape := ⟨1, ![8]⟩
abbrev S8x720 : Shape := ⟨2, ![8, 720]⟩
abbrev S8x720x1792 : Shape := ⟨3, ![8, 720, 1792]⟩
abbrev S8x2x720x1792 : Shape := ⟨4, ![8, 2, 720, 1792]⟩
abbrev S8x4096x2x1792 : Shape := ⟨4, ![8, 4096, 2, 1792]⟩
abbrev S8x1792x4096 : Shape := ⟨3, ![8, 1792, 4096]⟩
abbrev S8x720x4096 : Shape := ⟨3, ![8, 720, 4096]⟩

class Facts : Prop where
  bcast_S_S8x720 : S_.BroadcastsInDim S8x720 (![] : Fin 0 → Fin S8x720.rank)
  bcast_S8x720_S8x720x4096_0_1 : S8x720.BroadcastsInDim S8x720x4096 (![0, 1] : Fin 2 → Fin S8x720x4096.rank)

variable [Facts]

def fn {F : FTy → Type} [FloatOps F] (main_arg0 : FVec F S_ .f32) (main_arg1 : FVec F S_ .f32) (main_arg2 : FVec F S_ .f32) (main_arg3 : FVec F S_ .f32) (main_arg4 : FVec F S8 .f32) (main_arg5 : FVec F S8 .f32) (main_arg6 : IVec S8x720 32) (main_arg7 : FVec F S8x720x1792 .fp8e4m3) (main_arg8 : FVec F S8x2x720x1792 .fp8e5m2) (main_arg9 : FVec F S8x4096x2x1792 .fp8e4m3) (main_arg10 : FVec F S8x1792x4096 .fp8e4m3) : IVec S8x720x4096 1 × IVec S8x720x4096 1 :=
  let main_c : IVec S_ 32 := constantI S_ 32 4608#32
  let main_v0 : IVec S8x720 32 := broadcastInDim S8x720 ![] bcast_S_S8x720 main_c
  let main_v1 : IVec S8x720 1 := cmpi .slt main_arg6 main_v0
  let main_v2 : IVec S8x720x4096 1 := broadcastInDim S8x720x4096 ![0, 1] bcast_S8x720_S8x720x4096_0_1 main_v1
  (main_v2, main_v2)
-- ==== Project.lean ====
abbrev S_ : Shape := ⟨0, ![]⟩
abbrev S8 : Shape := ⟨1, ![8]⟩
abbrev S8x720 : Shape := ⟨2, ![8, 720]⟩
abbrev S8x720x1792 : Shape := ⟨3, ![8, 720, 1792]⟩
abbrev S8x2x720x1792 : Shape := ⟨4, ![8, 2, 720, 1792]⟩
abbrev S8x4096x2x1792 : Shape := ⟨4, ![8, 4096, 2, 1792]⟩
abbrev S8x1792x4096 : Shape := ⟨3, ![8, 1792, 4096]⟩
abbrev S8x2x4096x1792 : Shape := ⟨4, ![8, 2, 4096, 1792]⟩
abbrev S1 : Shape := ⟨1, ![1]⟩
abbrev S4 : Shape := ⟨1, ![4]⟩
abbrev S8x720x4096 : Shape := ⟨3, ![8, 720, 4096]⟩
abbrev S1x720x1792 : Shape := ⟨3, ![1, 720, 1792]⟩
abbrev S1x2x720x1792 : Shape := ⟨4, ![1, 2, 720, 1792]⟩
abbrev S1x2x1024x1792 : Shape := ⟨4, ![1, 2, 1024, 1792]⟩
abbrev S1x1792x1024 : Shape := ⟨3, ![1, 1792, 1024]⟩
abbrev S1x720x1024 : Shape := ⟨3, ![1, 720, 1024]⟩
abbrev S736x1792 : Shape := ⟨2, ![736, 1792]⟩
abbrev S736x3584 : Shape := ⟨2, ![736, 3584]⟩
abbrev S720x1792 : Shape := ⟨2, ![720, 1792]⟩
abbrev S1x1x720x1792 : Shape := ⟨4, ![1, 1, 720, 1792]⟩
abbrev S256x1792 : Shape := ⟨2, ![256, 1792]⟩
abbrev S1x1792x256 : Shape := ⟨3, ![1, 1792, 256]⟩
abbrev S1792x256 : Shape := ⟨2, ![1792, 256]⟩
abbrev S256x256 : Shape := ⟨2, ![256, 256]⟩
abbrev S1x1x256x1792 : Shape := ⟨4, ![1, 1, 256, 1792]⟩
abbrev S1x256x256 : Shape := ⟨3, ![1, 256, 256]⟩
abbrev S464x1024 : Shape := ⟨2, ![464, 1024]⟩
abbrev S1x464x1024 : Shape := ⟨3, ![1, 464, 1024]⟩
abbrev S512x1792 : Shape := ⟨2, ![512, 1792]⟩
abbrev S512x256 : Shape := ⟨2, ![512, 256]⟩
abbrev S1x512x256 : Shape := ⟨3, ![1, 512, 256]⟩
abbrev S208x1024 : Shape := ⟨2, ![208, 1024]⟩
abbrev S1x208x1024 : Shape := ⟨3, ![1, 208, 1024]⟩
abbrev S736x256 : Shape := ⟨2, ![736, 256]⟩
abbrev S720x256 : Shape := ⟨2, ![720, 256]⟩
abbrev S1x720x256 : Shape := ⟨3, ![1, 720, 256]⟩

abbrev nBuf : Space → Nat
  | .hbm => 32
  | .vmem => 14
  | .smem => 4
  | _ => 0

abbrev bufTy : (tb : Table) → Fin (tcTables nBuf tb) → BufTy
  | .hbm, ⟨0, _⟩ => ⟨S_, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S8, .f32⟩
  | .hbm, ⟨5, _⟩ => ⟨S8, .f32⟩
  | .hbm, ⟨6, _⟩ => ⟨S8x720, .i32⟩
  | .hbm, ⟨7, _⟩ => ⟨S8x720x1792, .fp8e4m3⟩
  | .hbm, ⟨8, _⟩ => ⟨S8x2x720x1792, .fp8e5m2⟩
  | .hbm, ⟨9, _⟩ => ⟨S8x4096x2x1792, .fp8e4m3⟩
  | .hbm, ⟨10, _⟩ => ⟨S8x1792x4096, .fp8e4m3⟩
  | .hbm, ⟨11, _⟩ => ⟨S8x2x4096x1792, .fp8e4m3⟩
  | .hbm, ⟨12, _⟩ => ⟨S8x720, .i32⟩
  | .hbm, ⟨13, _⟩ => ⟨S_, .i32⟩
  | .hbm, ⟨14, _⟩ => ⟨S8x720, .i32⟩
  | .hbm, ⟨15, _⟩ => ⟨S8x720, .i32⟩
  | .hbm, ⟨16, _⟩ => ⟨S_, .i32⟩
  | .hbm, ⟨17, _⟩ => ⟨S8x720, .i32⟩
  | .hbm, ⟨18, _⟩ => ⟨S8x720, .i1⟩
  | .hbm, ⟨19, _⟩ => ⟨S_, .i32⟩
  | .hbm, ⟨20, _⟩ => ⟨S_, .i32⟩
  | .hbm, ⟨21, _⟩ => ⟨S8x720, .i32⟩
  | .hbm, ⟨22, _⟩ => ⟨S8x720, .i32⟩
  | .hbm, ⟨23, _⟩ => ⟨S_, .i32⟩
  | .hbm, ⟨24, _⟩ => ⟨S8, .i32⟩
  | .hbm, ⟨25, _⟩ => ⟨S1, .f32⟩
  | .hbm, ⟨26, _⟩ => ⟨S1, .f32⟩
  | .hbm, ⟨27, _⟩ => ⟨S1, .f32⟩
  | .hbm, ⟨28, _⟩ => ⟨S1, .f32⟩
  | .hbm, ⟨29, _⟩ => ⟨S4, .f32⟩
  | .hbm, ⟨30, _⟩ => ⟨S8x720x4096, .f32⟩
  | .hbm, ⟨31, _⟩ => ⟨S8x720x4096, .f32⟩
  | .local _ .vmem, ⟨0, _⟩ => ⟨S1x720x1792, .fp8e4m3⟩
  | .local _ .vmem, ⟨1, _⟩ => ⟨S1x720x1792, .fp8e4m3⟩
  | .local _ .vmem, ⟨2, _⟩ => ⟨S1x2x720x1792, .fp8e5m2⟩
  | .local _ .vmem, ⟨3, _⟩ => ⟨S1x2x720x1792, .fp8e5m2⟩
  | .local _ .vmem, ⟨4, _⟩ => ⟨S1x2x1024x1792, .fp8e4m3⟩
  | .local _ .vmem, ⟨5, _⟩ => ⟨S1x2x1024x1792, .fp8e4m3⟩
  | .local _ .vmem, ⟨6, _⟩ => ⟨S1x1792x1024, .fp8e4m3⟩
  | .local _ .vmem, ⟨7, _⟩ => ⟨S1x1792x1024, .fp8e4m3⟩
  | .local _ .vmem, ⟨8, _⟩ => ⟨S1x720x1024, .f32⟩
  | .local _ .vmem, ⟨9, _⟩ => ⟨S1x720x1024, .f32⟩
  | .local _ .vmem, ⟨10, _⟩ => ⟨S1x720x1024, .f32⟩
  | .local _ .vmem, ⟨11, _⟩ => ⟨S1x720x1024, .f32⟩
  | .local _ .vmem, ⟨12, _⟩ => ⟨S736x1792, .fp8e4m3⟩
  | .local _ .vmem, ⟨13, _⟩ => ⟨S736x3584, .fp8e5m2⟩
  | .local _ .smem, ⟨0, _⟩ => ⟨S8, .i32⟩
  | .local _ .smem, ⟨1, _⟩ => ⟨S4, .f32⟩
  | .local _ .smem, ⟨2, _⟩ => ⟨S8, .f32⟩
  | .local _ .smem, ⟨3, _⟩ => ⟨S8, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_v6 : Ref sig .tc := ⟨.hbm, 22, rfl⟩
abbrev main_c_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13_0 : Ref sig .tc := ⟨.hbm, 30, rfl⟩
abbrev main_v13_1 : Ref sig .tc := ⟨.hbm, 31, rfl⟩
abbrev cc0_stg4_0 : Ref sig .tc := ⟨.vmem, 0, rfl⟩
abbrev cc0_stg4_1 : Ref sig .tc := ⟨.vmem, 1, rfl⟩
abbrev cc0_stg5_0 : Ref sig .tc := ⟨.vmem, 2, rfl⟩
abbrev cc0_stg5_1 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 4], ![false, false]⟩

def k0_off1 (i : grid0.Coords) : Fin 1 → Nat :=
  let arg0 : BitVec 32 := BitVec.ofNat 32 (i 0).val
  let v3 : Index := Scalar.indexCast arg0
  ![v3.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x720x1792 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x720x1792 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2x1024x1792 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1792x1024 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x720x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x720x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ProjectRefIdeal.lean ====
abbrev S_ : Shape := ⟨0, ![]⟩
abbrev S8 : Shape := ⟨1, ![8]⟩
abbrev S8x720 : Shape := ⟨2, ![8, 720]⟩
abbrev S8x720x1792 : Shape := ⟨3, ![8, 720, 1792]⟩
abbrev S8x2x720x1792 : Shape := ⟨4, ![8, 2, 720, 1792]⟩
abbrev S8x4096x2x1792 : Shape := ⟨4, ![8, 4096, 2, 1792]⟩
abbrev S8x1792x4096 : Shape := ⟨3, ![8, 1792, 4096]⟩
abbrev S8x720x2x1792 : Shape := ⟨4, ![8, 720, 2, 1792]⟩
abbrev S8x720x3584 : Shape := ⟨3, ![8, 720, 3584]⟩
abbrev S8x4096x3584 : Shape := ⟨3, ![8, 4096, 3584]⟩
abbrev S8x1x1 : Shape := ⟨3, ![8, 1, 1]⟩
abbrev S8x720x4096 : Shape := ⟨3, ![8, 720, 4096]⟩

abbrev nBuf : Space → Nat
  | .hbm => 22
  | .vmem => 8
  | .smem => 0
  | _ => 0

abbrev bufTy : (tb : Table) → Fin (tcTables nBuf tb) → BufTy
  | .hbm, ⟨0, _⟩ => ⟨S_, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S8, .f32⟩
  | .hbm, ⟨5, _⟩ => ⟨S8, .f32⟩
  | .hbm, ⟨6, _⟩ => ⟨S8x720, .i32⟩
  | .hbm, ⟨7, _⟩ => ⟨S8x720x1792, .fp8e4m3⟩
  | .hbm, ⟨8, _⟩ => ⟨S8x2x720x1792, .fp8e5m2⟩
  | .hbm, ⟨9, _⟩ => ⟨S8x4096x2x1792, .fp8e4m3⟩
  | .hbm, ⟨10, _⟩ => ⟨S8x1792x4096, .fp8e4m3⟩
  | .hbm, ⟨11, _⟩ => ⟨S8x720x2x1792, .fp8e5m2⟩
  | .hbm, ⟨12, _⟩ => ⟨S8x720x3584, .fp8e5m2⟩
  | .hbm, ⟨13, _⟩ => ⟨S8x4096x3584, .fp8e4m3⟩
  | .hbm, ⟨14, _⟩ => ⟨S8, .f32⟩
  | .hbm, ⟨15, _⟩ => ⟨S8, .f32⟩
  | .hbm, ⟨16, _⟩ => ⟨S8x1x1, .f32⟩
  | .hbm, ⟨17, _⟩ => ⟨S8, .f32⟩
  | .hbm, ⟨18, _⟩ => ⟨S8, .f32⟩
  | .hbm, ⟨19, _⟩ => ⟨S8x1x1, .f32⟩
  | .hbm, ⟨20, _⟩ => ⟨S8x720x4096, .f32⟩
  | .hbm, ⟨21, _⟩ => ⟨S8x720x4096, .f32⟩
  | .local _ .vmem, ⟨0, _⟩ => ⟨S8x720x1792, .fp8e4m3⟩
  | .local _ .vmem, ⟨1, _⟩ => ⟨S8x720x3584, .fp8e5m2⟩
  | .local _ .vmem, ⟨2, _⟩ => ⟨S8x4096x3584, .fp8e4m3⟩
  | .local _ .vmem, ⟨3, _⟩ => ⟨S8x1792x4096, .fp8e4m3⟩
  | .local _ .vmem, ⟨4, _⟩ => ⟨S8x1x1, .f32⟩
  | .local _ .vmem, ⟨5, _⟩ => ⟨S8x1x1, .f32⟩
  | .local _ .vmem, ⟨6, _⟩ => ⟨S8x720x4096, .f32⟩
  | .local _ .vmem, ⟨7, _⟩ => ⟨S8x720x4096, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x720x1792 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x720x3584 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4096x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1792x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x720x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x720x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Quant.lean ====
abbrev S2304x4096 : Shape := ⟨2, ![2304, 4096]⟩
abbrev S_ : Shape := ⟨0, ![]⟩
abbrev S1 : Shape := ⟨1, ![1]⟩
abbrev S1x1 : Shape := ⟨2, ![1, 1]⟩
abbrev S256x4096 : Shape := ⟨2, ![256, 4096]⟩
abbrev S8x128 : Shape := ⟨2, ![8, 128]⟩
abbrev S32x8x4096 : Shape := ⟨3, ![32, 8, 4096]⟩
abbrev S8x4096 : Shape := ⟨2, ![8, 4096]⟩
abbrev S1x8x128 : Shape := ⟨3, ![1, 8, 128]⟩
abbrev S1x1x1 : Shape := ⟨3, ![1, 1, 1]⟩

abbrev nBuf : Space → Nat
  | .hbm => 5
  | .vmem => 5
  | .smem => 2
  | _ => 0

abbrev bufTy : (tb : Table) → Fin (tcTables nBuf tb) → BufTy
  | .hbm, ⟨0, _⟩ => ⟨S2304x4096, .bf16⟩
  | .hbm, ⟨1, _⟩ => ⟨S_, .f32⟩
  | .hbm, ⟨2, _⟩ => ⟨S1, .f32⟩
  | .hbm, ⟨3, _⟩ => ⟨S2304x4096, .fp8e4m3⟩
  | .hbm, ⟨4, _⟩ => ⟨S1x1, .f32⟩
  | .local _ .vmem, ⟨0, _⟩ => ⟨S256x4096, .bf16⟩
  | .local _ .vmem, ⟨1, _⟩ => ⟨S256x4096, .bf16⟩
  | .local _ .vmem, ⟨2, _⟩ => ⟨S256x4096, .fp8e4m3⟩
  | .local _ .vmem, ⟨3, _⟩ => ⟨S256x4096, .fp8e4m3⟩
  | .local _ .vmem, ⟨4, _⟩ => ⟨S8x128, .f32⟩
  | .local _ .smem, ⟨0, _⟩ => ⟨S1, .f32⟩
  | .local _ .smem, ⟨1, _⟩ => ⟨S1x1, .f32⟩
  | _, _ => ⟨S2304x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_stg0_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c8_i32 : BitVec 32 := 8#32
  let v85 : BitVec 1 := Scalar.cmpi .eq arg0 c8_i32
  let v86 : BitVec 32 := Scalar.extui v85
  let c0_i32_11 : BitVec 32 := 0#32
  let v87 : BitVec 1 := Scalar.cmpi .ne v86 c0_i32_11
  v87

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== QuantRefIdeal.lean ====
abbrev S2304x4096 : Shape := ⟨2, ![2304, 4096]⟩
abbrev S_ : Shape := ⟨0, ![]⟩
abbrev S1 : Shape := ⟨1, ![1]⟩
abbrev S1x1 : Shape := ⟨2, ![1, 1]⟩
abbrev S1x2304x4096 : Shape := ⟨3, ![1, 2304, 4096]⟩
abbrev S1x1x1 : Shape := ⟨3, ![1, 1, 1]⟩

abbrev nBuf : Space → Nat
  | .hbm => 5
  | .vmem => 2
  | .smem => 2
  | _ => 0

abbrev bufTy : (tb : Table) → Fin (tcTables nBuf tb) → BufTy
  | .hbm, ⟨0, _⟩ => ⟨S2304x4096, .bf16⟩
  | .hbm, ⟨1, _⟩ => ⟨S_, .f32⟩
  | .hbm, ⟨2, _⟩ => ⟨S1, .f32⟩
  | .hbm, ⟨3, _⟩ => ⟨S2304x4096, .fp8e4m3⟩
  | .hbm, ⟨4, _⟩ => ⟨S1x1, .f32⟩
  | .local _ .vmem, ⟨0, _⟩ => ⟨S2304x4096, .bf16⟩
  | .local _ .vmem, ⟨1, _⟩ => ⟨S2304x4096, .fp8e4m3⟩
  | .local _ .smem, ⟨0, _⟩ => ⟨S1, .f32⟩
  | .local _ .smem, ⟨1, _⟩ => ⟨S1x1, .f32⟩
  | _, _ => ⟨S2304x4096, .bf16⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2304x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2304x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Experts.lean ====
abbrev S_ : Shape := ⟨0, ![]⟩
abbrev S8 : Shape := ⟨1, ![8]⟩
abbrev S8x720 : Shape := ⟨2, ![8, 720]⟩
abbrev S8x720x4096 : Shape := ⟨3, ![8, 720, 4096]⟩
abbrev S8x4096x2x1792 : Shape := ⟨4, ![8, 4096, 2, 1792]⟩
abbrev S8x1792x4096 : Shape := ⟨3, ![8, 1792, 4096]⟩
abbrev S8x2x4096x1792 : Shape := ⟨4, ![8, 2, 4096, 1792]⟩
abbrev S1 : Shape := ⟨1, ![1]⟩
abbrev S4 : Shape := ⟨1, ![4]⟩
abbrev S8x720x1792 : Shape := ⟨3, ![8, 720, 1792]⟩
abbrev S8x2x720x1792 : Shape := ⟨4, ![8, 2, 720, 1792]⟩
abbrev S1x1 : Shape := ⟨2, ![1, 1]⟩
abbrev S1x720x4096 : Shape := ⟨3, ![1, 720, 4096]⟩
abbrev S1x2x4096x256 : Shape := ⟨4, ![1, 2, 4096, 256]⟩
abbrev S1x256x4096 : Shape := ⟨3, ![1, 256, 4096]⟩
abbrev S1x720x256 : Shape := ⟨3, ![1, 720, 256]⟩
abbrev S1x2x720x256 : Shape := ⟨4, ![1, 2, 720, 256]⟩
abbrev S768x4096 : Shape := ⟨2, ![768, 4096]⟩
abbrev S768x256 : Shape := ⟨2, ![768, 256]⟩
abbrev S768x512 : Shape := ⟨2, ![768, 512]⟩
abbrev S2x2x4096x2x128 : Shape := ⟨5, ![2, 2, 4096, 2, 128]⟩
abbrev S8x128 : Shape := ⟨2, ![8, 128]⟩
abbrev S2 : Shape := ⟨1, ![2]⟩
abbrev S720x4096 : Shape := ⟨2, ![720, 4096]⟩
abbrev S1x4096x2x128 : Shape := ⟨4, ![1, 4096, 2, 128]⟩
abbrev S4096x2x128 : Shape := ⟨3, ![4096, 2, 128]⟩
abbrev S1x1x4096x2x128 : Shape := ⟨5, ![1, 1, 4096, 2, 128]⟩
abbrev S256x4096 : Shape := ⟨2, ![256, 4096]⟩
abbrev S1x1x4096x256 : Shape := ⟨4, ![1, 1, 4096, 256]⟩
abbrev S4096x256 : Shape := ⟨2, ![4096, 256]⟩
abbrev S256x256 : Shape := ⟨2, ![256, 256]⟩
abbrev S32x8x256 : Shape := ⟨3, ![32, 8, 256]⟩
abbrev S8x256 : Shape := ⟨2, ![8, 256]⟩
abbrev S1x256x256 : Shape := ⟨3, ![1, 256, 256]⟩
abbrev S1x1x256x256 : Shape := ⟨4, ![1, 1, 256, 256]⟩
abbrev S464x256 : Shape := ⟨2, ![464, 256]⟩
abbrev S1x464x256 : Shape := ⟨3, ![1, 464, 256]⟩
abbrev S2x464x256 : Shape := ⟨3, ![2, 464, 256]⟩
abbrev S1x2x464x256 : Shape := ⟨4, ![1, 2, 464, 256]⟩
abbrev S256x1024 : Shape := ⟨2, ![256, 1024]⟩
abbrev S1x256x1024 : Shape := ⟨3, ![1, 256, 1024]⟩
abbrev S256x512 : Shape := ⟨2, ![256, 512]⟩
abbrev S512x256 : Shape := ⟨2, ![512, 256]⟩
abbrev S512x1x256 : Shape := ⟨3, ![512, 1, 256]⟩
abbrev S512x2x256 : Shape := ⟨3, ![512, 2, 256]⟩
abbrev S512x2x128 : Shape := ⟨3, ![512, 2, 128]⟩
abbrev S1x1x512x2x128 : Shape := ⟨5, ![1, 1, 512, 2, 128]⟩
abbrev S1x512x256 : Shape := ⟨3, ![1, 512, 256]⟩
abbrev S1x1x512x256 : Shape := ⟨4, ![1, 1, 512, 256]⟩
abbrev S208x256 : Shape := ⟨2, ![208, 256]⟩
abbrev S1x208x256 : Shape := ⟨3, ![1, 208, 256]⟩
abbrev S2x208x256 : Shape := ⟨3, ![2, 208, 256]⟩
abbrev S1x2x208x256 : Shape := ⟨4, ![1, 2, 208, 256]⟩
abbrev S512x1024 : Shape := ⟨2, ![512, 1024]⟩
abbrev S512x512 : Shape := ⟨2, ![512, 512]⟩
abbrev S720x256 : Shape := ⟨2, ![720, 256]⟩
abbrev S1x1x720x256 : Shape := ⟨4, ![1, 1, 720, 256]⟩
abbrev S768x1024 : Shape := ⟨2, ![768, 1024]⟩
abbrev S2x4096x2x128 : Shape := ⟨4, ![2, 4096, 2, 128]⟩
abbrev S1x2x4096x2x128 : Shape := ⟨5, ![1, 2, 4096, 2, 128]⟩
abbrev S1x8x128 : Shape := ⟨3, ![1, 8, 128]⟩
abbrev S1x1x1 : Shape := ⟨3, ![1, 1, 1]⟩

abbrev nBuf : Space → Nat
  | .hbm => 36
  | .vmem => 21
  | .smem => 6
  | _ => 0

abbrev bufTy : (tb : Table) → Fin (tcTables nBuf tb) → BufTy
  | .hbm, ⟨0, _⟩ => ⟨S_, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S8, .f32⟩
  | .hbm, ⟨5, _⟩ => ⟨S8, .f32⟩
  | .hbm, ⟨6, _⟩ => ⟨S8x720, .i32⟩
  | .hbm, ⟨7, _⟩ => ⟨S8x720x4096, .fp8e4m3⟩
  | .hbm, ⟨8, _⟩ => ⟨S8x720x4096, .fp8e5m2⟩
  | .hbm, ⟨9, _⟩ => ⟨S8x4096x2x1792, .fp8e4m3⟩
  | .hbm, ⟨10, _⟩ => ⟨S8x1792x4096, .fp8e4m3⟩
  | .hbm, ⟨11, _⟩ => ⟨S8x2x4096x1792, .fp8e4m3⟩
  | .hbm, ⟨12, _⟩ => ⟨S8x720, .i32⟩
  | .hbm, ⟨13, _⟩ => ⟨S_, .i32⟩
  | .hbm, ⟨14, _⟩ => ⟨S8x720, .i32⟩
  | .hbm, ⟨15, _⟩ => ⟨S8x720, .i32⟩
  | .hbm, ⟨16, _⟩ => ⟨S_, .i32⟩
  | .hbm, ⟨17, _⟩ => ⟨S8x720, .i32⟩
  | .hbm, ⟨18, _⟩ => ⟨S8x720, .i1⟩
  | .hbm, ⟨19, _⟩ => ⟨S_, .i32⟩
  | .hbm, ⟨20, _⟩ => ⟨S_, .i32⟩
  | .hbm, ⟨21, _⟩ => ⟨S8x720, .i32⟩
  | .hbm, ⟨22, _⟩ => ⟨S8x720, .i32⟩
  | .hbm, ⟨23, _⟩ => ⟨S_, .i32⟩
  | .hbm, ⟨24, _⟩ => ⟨S8, .i32⟩
  | .hbm, ⟨25, _⟩ => ⟨S1, .f32⟩
  | .hbm, ⟨26, _⟩ => ⟨S1, .f32⟩
  | .hbm, ⟨27, _⟩ => ⟨S1, .f32⟩
  | .hbm, ⟨28, _⟩ => ⟨S1, .f32⟩
  | .hbm, ⟨29, _⟩ => ⟨S4, .f32⟩
  | .hbm, ⟨30, _⟩ => ⟨S8x720x1792, .fp8e4m3⟩
  | .hbm, ⟨31, _⟩ => ⟨S8x2x720x1792, .fp8e5m2⟩
  | .hbm, ⟨32, _⟩ => ⟨S8x4096x2x1792, .bf16⟩
  | .hbm, ⟨33, _⟩ => ⟨S8x1792x4096, .bf16⟩
  | .hbm, ⟨34, _⟩ => ⟨S1x1, .f32⟩
  | .hbm, ⟨35, _⟩ => ⟨S1x1, .f32⟩
  | .local _ .vmem, ⟨0, _⟩ => ⟨S1x720x4096, .fp8e4m3⟩
  | .local _ .vmem, ⟨1, _⟩ => ⟨S1x720x4096, .fp8e4m3⟩
  | .local _ .vmem, ⟨2, _⟩ => ⟨S1x720x4096, .fp8e5m2⟩
  | .local _ .vmem, ⟨3, _⟩ => ⟨S1x720x4096, .fp8e5m2⟩
  | .local _ .vmem, ⟨4, _⟩ => ⟨S1x2x4096x256, .fp8e4m3⟩
  | .local _ .vmem, ⟨5, _⟩ => ⟨S1x2x4096x256, .fp8e4m3⟩
  | .local _ .vmem, ⟨6, _⟩ => ⟨S1x256x4096, .fp8e4m3⟩
  | .local _ .vmem, ⟨7, _⟩ => ⟨S1x256x4096, .fp8e4m3⟩
  | .local _ .vmem, ⟨8, _⟩ => ⟨S1x720x256, .fp8e4m3⟩
  | .local _ .vmem, ⟨9, _⟩ => ⟨S1x720x256, .fp8e4m3⟩
  | .local _ .vmem, ⟨10, _⟩ => ⟨S1x2x720x256, .fp8e5m2⟩
  | .local _ .vmem, ⟨11, _⟩ => ⟨S1x2x720x256, .fp8e5m2⟩
  | .local _ .vmem, ⟨12, _⟩ => ⟨S1x256x4096, .bf16⟩
  | .local _ .vmem, ⟨13, _⟩ => ⟨S1x256x4096, .bf16⟩
  | .local _ .vmem, ⟨14, _⟩ => ⟨S768x4096, .fp8e4m3⟩
  | .local _ .vmem, ⟨15, _⟩ => ⟨S768x4096, .fp8e5m2⟩
  | .local _ .vmem, ⟨16, _⟩ => ⟨S768x256, .fp8e4m3⟩
  | .local _ .vmem, ⟨17, _⟩ => ⟨S768x512, .fp8e5m2⟩
  | .local _ .vmem, ⟨18, _⟩ => ⟨S2x2x4096x2x128, .bf16⟩
  | .local _ .vmem, ⟨19, _⟩ => ⟨S8x128, .f32⟩
  | .local _ .vmem, ⟨20, _⟩ => ⟨S8x128, .f32⟩
  | .local _ .smem, ⟨0, _⟩ => ⟨S8, .i32⟩
  | .local _ .smem, ⟨1, _⟩ => ⟨S4, .f32⟩
  | .local _ .smem, ⟨2, _⟩ => ⟨S8, .f32⟩
  | .local _ .smem, ⟨3, _⟩ => ⟨S8, .f32⟩
  | .local _ .smem, ⟨4, _⟩ => ⟨S1x1, .f32⟩
  | .local _ .smem, ⟨5, _⟩ => ⟨S1x1, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_v6 : Ref sig .tc := ⟨.hbm, 22, rfl⟩
abbrev main_c_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13_0 : Ref sig .tc := ⟨.hbm, 30, rfl⟩
abbrev main_v13_1 : Ref sig .tc := ⟨.hbm, 31, rfl⟩
abbrev main_v13_2 : Ref sig .tc := ⟨.hbm, 32, rfl⟩
abbrev main_v13_3 : Ref sig .tc := ⟨.hbm, 33, rfl⟩
abbrev main_v13_4 : Ref sig .tc := ⟨.hbm, 34, rfl⟩
abbrev main_v13_5 : Ref sig .tc := ⟨.hbm, 35, rfl⟩
abbrev cc0_stg4_0 : Ref sig .tc := ⟨.vmem, 0, rfl⟩
abbrev cc0_stg4_1 : Ref sig .tc := ⟨.vmem, 1, rfl⟩
abbrev cc0_stg5_0 : Ref sig .tc := ⟨.vmem, 2, rfl⟩
abbrev cc0_stg5_1 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg11_0 : Ref sig .tc := ⟨.smem, 4, rfl⟩
abbrev cc0_stg12_0 : Ref sig .tc := ⟨.smem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨2, ![8, 7], ![false, false]⟩

def k0_cond3 (i : grid0.Coords) : BitVec 1 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c2_i32 : BitVec 32 := 2#32
  let v13 : BitVec 1 := Scalar.cmpi .sge v1 c2_i32
  let v14 : BitVec 32 := Scalar.extui v13
  let c0_i32_3 : BitVec 32 := 0#32
  let v15 : BitVec 1 := Scalar.cmpi .ne v14 c0_i32_3
  v15

def k0_mult1 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c2_i32_43 : BitVec 32 := 2#32
  let v97 : BitVec 32 := Scalar.subi v1 c2_i32_43
  let c0_i32_45 : BitVec 32 := 0#32
  let v99 : BitVec 1 := Scalar.cmpi .sgt v97 c0_i32_45
  let v100 : BitVec 32 := Scalar.extui v99
  let c0_i32_46 : BitVec 32 := 0#32
  let v101 : BitVec 1 := Scalar.cmpi .slt v97 c0_i32_46
  let v102 : BitVec 32 := Scalar.extui v101
  let v103 : BitVec 32 := Scalar.subi v100 v102
  let c7_i32_44 : BitVec 32 := 7#32
  let c0_i32_47 : BitVec 32 := 0#32
  let v104 : BitVec 1 := Scalar.cmpi .sgt c7_i32_44 c0_i32_47
  let v105 : BitVec 32 := Scalar.extui v104
  let c0_i32_48 : BitVec 32 := 0#32
  let v106 : BitVec 1 := Scalar.cmpi .slt c7_i32_44 c0_i32_48
  let v107 : BitVec 32 := Scalar.extui v106
  let v108 : BitVec 32 := Scalar.subi v105 v107
  let v109 : BitVec 1 := Scalar.cmpi .ne v103 v108
  let v110 : BitVec 32 := Scalar.remsi v97 c7_i32_44
  let c0_i32_49 : BitVec 32 := 0#32
  let v111 : BitVec 1 := Scalar.cmpi .ne v110 c0_i32_49
  let v112 : BitVec 1 := Scalar.andi v109 v111
  let v98 : BitVec 32 := Scalar.divsi v97 c7_i32_44
  let c1_i32_50 : BitVec 32 := 1#32
  let v113 : BitVec 32 := Scalar.subi v98 c1_i32_50
  let v114 : BitVec 32 := Scalar.select v112 v113 v98
  let c7_i32_51 : BitVec 32 := 7#32
  let v115 : BitVec 32 := Scalar.muli v114 c7_i32_51
  let v116 : BitVec 32 := Scalar.subi v97 v115
  let c256_i32_52 : BitVec 32 := 256#32
  let v117 : BitVec 32 := Scalar.muli v116 c256_i32_52
  let c0_i32_53 : BitVec 32 := 0#32
  let v118 : BitVec 32 := Scalar.addi v117 c0_i32_53
  v118
def k0_mult2 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c2_i32_43 : BitVec 32 := 2#32
  let v97 : BitVec 32 := Scalar.subi v1 c2_i32_43
  let c0_i32_45 : BitVec 32 := 0#32
  let v99 : BitVec 1 := Scalar.cmpi .sgt v97 c0_i32_45
  let v100 : BitVec 32 := Scalar.extui v99
  let c0_i32_46 : BitVec 32 := 0#32
  let v101 : BitVec 1 := Scalar.cmpi .slt v97 c0_i32_46
  let v102 : BitVec 32 := Scalar.extui v101
  let v103 : BitVec 32 := Scalar.subi v100 v102
  let c7_i32_44 : BitVec 32 := 7#32
  let c0_i32_47 : BitVec 32 := 0#32
  let v104 : BitVec 1 := Scalar.cmpi .sgt c7_i32_44 c0_i32_47
  let v105 : BitVec 32 := Scalar.extui v104
  let c0_i32_48 : BitVec 32 := 0#32
  let v106 : BitVec 1 := Scalar.cmpi .slt c7_i32_44 c0_i32_48
  let v107 : BitVec 32 := Scalar.extui v106
  let v108 : BitVec 32 := Scalar.subi v105 v107
  let v109 : BitVec 1 := Scalar.cmpi .ne v103 v108
  let v110 : BitVec 32 := Scalar.remsi v97 c7_i32_44
  let c0_i32_49 : BitVec 32 := 0#32
  let v111 : BitVec 1 := Scalar.cmpi .ne v110 c0_i32_49
  let v112 : BitVec 1 := Scalar.andi v109 v111
  let v98 : BitVec 32 := Scalar.divsi v97 c7_i32_44
  let c1_i32_50 : BitVec 32 := 1#32
  let v113 : BitVec 32 := Scalar.subi v98 c1_i32_50
  let v114 : BitVec 32 := Scalar.select v112 v113 v98
  let c7_i32_51 : BitVec 32 := 7#32
  let v115 : BitVec 32 := Scalar.muli v114 c7_i32_51
  let v116 : BitVec 32 := Scalar.subi v97 v115
  let c256_i32_54 : BitVec 32 := 256#32
  let v120 : BitVec 32 := Scalar.muli v116 c256_i32_54
  let c128_i32_55 : BitVec 32 := 128#32
  let v121 : BitVec 32 := Scalar.addi v120 c128_i32_55
  v121
def k0_off1 (i : grid0.Coords) : Fin 1 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  ![v6.toNat]
def k0_off2 (i : grid0.Coords) (c0_i32_53 : BitVec 32) : Fin 4 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c2_i32_43 : BitVec 32 := 2#32
  let v97 : BitVec 32 := Scalar.subi v1 c2_i32_43
  let c0_i32_45 : BitVec 32 := 0#32
  let v99 : BitVec 1 := Scalar.cmpi .sgt v97 c0_i32_45
  let v100 : BitVec 32 := Scalar.extui v99
  let c0_i32_46 : BitVec 32 := 0#32
  let v101 : BitVec 1 := Scalar.cmpi .slt v97 c0_i32_46
  let v102 : BitVec 32 := Scalar.extui v101
  let v103 : BitVec 32 := Scalar.subi v100 v102
  let c7_i32_44 : BitVec 32 := 7#32
  let c0_i32_47 : BitVec 32 := 0#32
  let v104 : BitVec 1 := Scalar.cmpi .sgt c7_i32_44 c0_i32_47
  let v105 : BitVec 32 := Scalar.extui v104
  let c0_i32_48 : BitVec 32 := 0#32
  let v106 : BitVec 1 := Scalar.cmpi .slt c7_i32_44 c0_i32_48
  let v107 : BitVec 32 := Scalar.extui v106
  let v108 : BitVec 32 := Scalar.subi v105 v107
  let v109 : BitVec 1 := Scalar.cmpi .ne v103 v108
  let v110 : BitVec 32 := Scalar.remsi v97 c7_i32_44
  let c0_i32_49 : BitVec 32 := 0#32
  let v111 : BitVec 1 := Scalar.cmpi .ne v110 c0_i32_49
  let v112 : BitVec 1 := Scalar.andi v109 v111
  let v98 : BitVec 32 := Scalar.divsi v97 c7_i32_44
  let c1_i32_50 : BitVec 32 := 1#32
  let v113 : BitVec 32 := Scalar.subi v98 c1_i32_50
  let v114 : BitVec 32 := Scalar.select v112 v113 v98
  let c0_i32_57 : BitVec 32 := 0#32
  let c0_i32_58 : BitVec 32 := 0#32
  let c7_i32_51 : BitVec 32 := 7#32
  let v115 : BitVec 32 := Scalar.muli v114 c7_i32_51
  let v116 : BitVec 32 := Scalar.subi v97 v115
  let c256_i32_52 : BitVec 32 := 256#32
  let v117 : BitVec 32 := Scalar.muli v116 c256_i32_52
  let v118 : BitVec 32 := Scalar.addi v117 c0_i32_53
  let v119 : BitVec 32 := v118
  ![v114.toNat, 0, 0, v119.toNat]
def k0_off3 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let c0_i32_56 : BitVec 32 := 0#32
  let c0_i32_59 : BitVec 32 := 0#32
  let c0_i32_60 : BitVec 32 := 0#32
  let c0_i32_61 : BitVec 32 := 0#32
  ![v6.toNat, 0, 0, 0, 0]
def k0_off4 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let c1_i32_62 : BitVec 32 := 1#32
  let c0_i32_65 : BitVec 32 := 0#32
  let c0_i32_66 : BitVec 32 := 0#32
  let c0_i32_67 : BitVec 32 := 0#32
  ![v6.toNat, 1, 0, 0, 0]
def k0_off5 (i : grid0.Coords) : Fin 1 → Nat :=
  let arg0 : BitVec 32 := BitVec.ofNat 32 (i 0).val
  let v16 : Index := Scalar.indexCast arg0
  ![v16.toNat]
def k0_off6 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v254 : Index := Scalar.indexCast v6
  let c0_141 : Index := 0#32
  let c0_142 : Index := 0#32
  let c0_143 : Index := 0#32
  let c0_144 : Index := 0#32
  ![v254.toNat, 0, 0, 0, 0]
def k0_off7 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v259 : Index := Scalar.indexCast v6
  let c1_145 : Index := 1#32
  let c0_146 : Index := 0#32
  let c0_147 : Index := 0#32
  let c0_148 : Index := 0#32
  ![v259.toNat, 1, 0, 0, 0]
def k0_off8 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v278 : Index := Scalar.indexCast v6
  let c0_156 : Index := 0#32
  let c512_157 : Index := 512#32
  let c0_158 : Index := 0#32
  let c0_159 : Index := 0#32
  ![v278.toNat, 0, 512, 0, 0]
def k0_off9 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v283 : Index := Scalar.indexCast v6
  let c1_160 : Index := 1#32
  let c512_161 : Index := 512#32
  let c0_162 : Index := 0#32
  let c0_163 : Index := 0#32
  ![v283.toNat, 1, 512, 0, 0]
def k0_off10 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v302 : Index := Scalar.indexCast v6
  let c0_172 : Index := 0#32
  let c1024_173 : Index := 1024#32
  let c0_174 : Index := 0#32
  let c0_175 : Index := 0#32
  ![v302.toNat, 0, 1024, 0, 0]
def k0_off11 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v307 : Index := Scalar.indexCast v6
  let c1_176 : Index := 1#32
  let c1024_177 : Index := 1024#32
  let c0_178 : Index := 0#32
  let c0_179 : Index := 0#32
  ![v307.toNat, 1, 1024, 0, 0]
def k0_off12 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v326 : Index := Scalar.indexCast v6
  let c0_187 : Index := 0#32
  let c1536_188 : Index := 1536#32
  let c0_189 : Index := 0#32
  let c0_190 : Index := 0#32
  ![v326.toNat, 0, 1536, 0, 0]
def k0_off13 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v331 : Index := Scalar.indexCast v6
  let c1_191 : Index := 1#32
  let c1536_192 : Index := 1536#32
  let c0_193 : Index := 0#32
  let c0_194 : Index := 0#32
  ![v331.toNat, 1, 1536, 0, 0]
def k0_off14 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v350 : Index := Scalar.indexCast v6
  let c0_203 : Index := 0#32
  let c2048_204 : Index := 2048#32
  let c0_205 : Index := 0#32
  let c0_206 : Index := 0#32
  ![v350.toNat, 0, 2048, 0, 0]
def k0_off15 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v355 : Index := Scalar.indexCast v6
  let c1_207 : Index := 1#32
  let c2048_208 : Index := 2048#32
  let c0_209 : Index := 0#32
  let c0_210 : Index := 0#32
  ![v355.toNat, 1, 2048, 0, 0]
def k0_off16 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v374 : Index := Scalar.indexCast v6
  let c0_218 : Index := 0#32
  let c2560_219 : Index := 2560#32
  let c0_220 : Index := 0#32
  let c0_221 : Index := 0#32
  ![v374.toNat, 0, 2560, 0, 0]
def k0_off17 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v379 : Index := Scalar.indexCast v6
  let c1_222 : Index := 1#32
  let c2560_223 : Index := 2560#32
  let c0_224 : Index := 0#32
  let c0_225 : Index := 0#32
  ![v379.toNat, 1, 2560, 0, 0]
def k0_off18 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v398 : Index := Scalar.indexCast v6
  let c0_234 : Index := 0#32
  let c3072_235 : Index := 3072#32
  let c0_236 : Index := 0#32
  let c0_237 : Index := 0#32
  ![v398.toNat, 0, 3072, 0, 0]
def k0_off19 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v403 : Index := Scalar.indexCast v6
  let c1_238 : Index := 1#32
  let c3072_239 : Index := 3072#32
  let c0_240 : Index := 0#32
  let c0_241 : Index := 0#32
  ![v403.toNat, 1, 3072, 0, 0]
def k0_off20 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v422 : Index := Scalar.indexCast v6
  let c0_249 : Index := 0#32
  let c3584_250 : Index := 3584#32
  let c0_251 : Index := 0#32
  let c0_252 : Index := 0#32
  ![v422.toNat, 0, 3584, 0, 0]
def k0_off21 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v427 : Index := Scalar.indexCast v6
  let c1_253 : Index := 1#32
  let c3584_254 : Index := 3584#32
  let c0_255 : Index := 0#32
  let c0_256 : Index := 0#32
  ![v427.toNat, 1, 3584, 0, 0]
def k0_off22 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v335 : Index := Scalar.indexCast v6
  let c0_175 : Index := 0#32
  let c0_176 : Index := 0#32
  let c0_177 : Index := 0#32
  let c0_178 : Index := 0#32
  ![v335.toNat, 0, 0, 0, 0]
def k0_off23 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v340 : Index := Scalar.indexCast v6
  let c1_179 : Index := 1#32
  let c0_180 : Index := 0#32
  let c0_181 : Index := 0#32
  let c0_182 : Index := 0#32
  ![v340.toNat, 1, 0, 0, 0]
def k0_off24 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v359 : Index := Scalar.indexCast v6
  let c0_191 : Index := 0#32
  let c512_192 : Index := 512#32
  let c0_193 : Index := 0#32
  let c0_194 : Index := 0#32
  ![v359.toNat, 0, 512, 0, 0]
def k0_off25 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v364 : Index := Scalar.indexCast v6
  let c1_195 : Index := 1#32
  let c512_196 : Index := 512#32
  let c0_197 : Index := 0#32
  let c0_198 : Index := 0#32
  ![v364.toNat, 1, 512, 0, 0]
def k0_off26 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v383 : Index := Scalar.indexCast v6
  let c0_207 : Index := 0#32
  let c1024_208 : Index := 1024#32
  let c0_209 : Index := 0#32
  let c0_210 : Index := 0#32
  ![v383.toNat, 0, 1024, 0, 0]
def k0_off27 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v388 : Index := Scalar.indexCast v6
  let c1_211 : Index := 1#32
  let c1024_212 : Index := 1024#32
  let c0_213 : Index := 0#32
  let c0_214 : Index := 0#32
  ![v388.toNat, 1, 1024, 0, 0]
def k0_off28 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v407 : Index := Scalar.indexCast v6
  let c0_222 : Index := 0#32
  let c1536_223 : Index := 1536#32
  let c0_224 : Index := 0#32
  let c0_225 : Index := 0#32
  ![v407.toNat, 0, 1536, 0, 0]
def k0_off29 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v412 : Index := Scalar.indexCast v6
  let c1_226 : Index := 1#32
  let c1536_227 : Index := 1536#32
  let c0_228 : Index := 0#32
  let c0_229 : Index := 0#32
  ![v412.toNat, 1, 1536, 0, 0]
def k0_off30 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v431 : Index := Scalar.indexCast v6
  let c0_238 : Index := 0#32
  let c2048_239 : Index := 2048#32
  let c0_240 : Index := 0#32
  let c0_241 : Index := 0#32
  ![v431.toNat, 0, 2048, 0, 0]
def k0_off31 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v436 : Index := Scalar.indexCast v6
  let c1_242 : Index := 1#32
  let c2048_243 : Index := 2048#32
  let c0_244 : Index := 0#32
  let c0_245 : Index := 0#32
  ![v436.toNat, 1, 2048, 0, 0]
def k0_off32 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v455 : Index := Scalar.indexCast v6
  let c0_253 : Index := 0#32
  let c2560_254 : Index := 2560#32
  let c0_255 : Index := 0#32
  let c0_256 : Index := 0#32
  ![v455.toNat, 0, 2560, 0, 0]
def k0_off33 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v460 : Index := Scalar.indexCast v6
  let c1_257 : Index := 1#32
  let c2560_258 : Index := 2560#32
  let c0_259 : Index := 0#32
  let c0_260 : Index := 0#32
  ![v460.toNat, 1, 2560, 0, 0]
def k0_off34 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v479 : Index := Scalar.indexCast v6
  let c0_269 : Index := 0#32
  let c3072_270 : Index := 3072#32
  let c0_271 : Index := 0#32
  let c0_272 : Index := 0#32
  ![v479.toNat, 0, 3072, 0, 0]
def k0_off35 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v484 : Index := Scalar.indexCast v6
  let c1_273 : Index := 1#32
  let c3072_274 : Index := 3072#32
  let c0_275 : Index := 0#32
  let c0_276 : Index := 0#32
  ![v484.toNat, 1, 3072, 0, 0]
def k0_off36 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v503 : Index := Scalar.indexCast v6
  let c0_284 : Index := 0#32
  let c3584_285 : Index := 3584#32
  let c0_286 : Index := 0#32
  let c0_287 : Index := 0#32
  ![v503.toNat, 0, 3584, 0, 0]
def k0_off37 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v508 : Index := Scalar.indexCast v6
  let c1_288 : Index := 1#32
  let c3584_289 : Index := 3584#32
  let c0_290 : Index := 0#32
  let c0_291 : Index := 0#32
  ![v508.toNat, 1, 3584, 0, 0]
def k0_off38 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v408 : Index := Scalar.indexCast v6
  let c0_201 : Index := 0#32
  let c0_202 : Index := 0#32
  let c0_203 : Index := 0#32
  let c0_204 : Index := 0#32
  ![v408.toNat, 0, 0, 0, 0]
def k0_off39 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v413 : Index := Scalar.indexCast v6
  let c1_205 : Index := 1#32
  let c0_206 : Index := 0#32
  let c0_207 : Index := 0#32
  let c0_208 : Index := 0#32
  ![v413.toNat, 1, 0, 0, 0]
def k0_off40 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v432 : Index := Scalar.indexCast v6
  let c0_217 : Index := 0#32
  let c512_218 : Index := 512#32
  let c0_219 : Index := 0#32
  let c0_220 : Index := 0#32
  ![v432.toNat, 0, 512, 0, 0]
def k0_off41 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v437 : Index := Scalar.indexCast v6
  let c1_221 : Index := 1#32
  let c512_222 : Index := 512#32
  let c0_223 : Index := 0#32
  let c0_224 : Index := 0#32
  ![v437.toNat, 1, 512, 0, 0]
def k0_off42 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v456 : Index := Scalar.indexCast v6
  let c0_233 : Index := 0#32
  let c1024_234 : Index := 1024#32
  let c0_235 : Index := 0#32
  let c0_236 : Index := 0#32
  ![v456.toNat, 0, 1024, 0, 0]
def k0_off43 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v461 : Index := Scalar.indexCast v6
  let c1_237 : Index := 1#32
  let c1024_238 : Index := 1024#32
  let c0_239 : Index := 0#32
  let c0_240 : Index := 0#32
  ![v461.toNat, 1, 1024, 0, 0]
def k0_off44 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v480 : Index := Scalar.indexCast v6
  let c0_248 : Index := 0#32
  let c1536_249 : Index := 1536#32
  let c0_250 : Index := 0#32
  let c0_251 : Index := 0#32
  ![v480.toNat, 0, 1536, 0, 0]
def k0_off45 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v485 : Index := Scalar.indexCast v6
  let c1_252 : Index := 1#32
  let c1536_253 : Index := 1536#32
  let c0_254 : Index := 0#32
  let c0_255 : Index := 0#32
  ![v485.toNat, 1, 1536, 0, 0]
def k0_off46 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v504 : Index := Scalar.indexCast v6
  let c0_264 : Index := 0#32
  let c2048_265 : Index := 2048#32
  let c0_266 : Index := 0#32
  let c0_267 : Index := 0#32
  ![v504.toNat, 0, 2048, 0, 0]
def k0_off47 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v509 : Index := Scalar.indexCast v6
  let c1_268 : Index := 1#32
  let c2048_269 : Index := 2048#32
  let c0_270 : Index := 0#32
  let c0_271 : Index := 0#32
  ![v509.toNat, 1, 2048, 0, 0]
def k0_off48 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v528 : Index := Scalar.indexCast v6
  let c0_279 : Index := 0#32
  let c2560_280 : Index := 2560#32
  let c0_281 : Index := 0#32
  let c0_282 : Index := 0#32
  ![v528.toNat, 0, 2560, 0, 0]
def k0_off49 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v533 : Index := Scalar.indexCast v6
  let c1_283 : Index := 1#32
  let c2560_284 : Index := 2560#32
  let c0_285 : Index := 0#32
  let c0_286 : Index := 0#32
  ![v533.toNat, 1, 2560, 0, 0]
def k0_off50 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v552 : Index := Scalar.indexCast v6
  let c0_295 : Index := 0#32
  let c3072_296 : Index := 3072#32
  let c0_297 : Index := 0#32
  let c0_298 : Index := 0#32
  ![v552.toNat, 0, 3072, 0, 0]
def k0_off51 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v557 : Index := Scalar.indexCast v6
  let c1_299 : Index := 1#32
  let c3072_300 : Index := 3072#32
  let c0_301 : Index := 0#32
  let c0_302 : Index := 0#32
  ![v557.toNat, 1, 3072, 0, 0]
def k0_off52 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v576 : Index := Scalar.indexCast v6
  let c0_310 : Index := 0#32
  let c3584_311 : Index := 3584#32
  let c0_312 : Index := 0#32
  let c0_313 : Index := 0#32
  ![v576.toNat, 0, 3584, 0, 0]
def k0_off53 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v581 : Index := Scalar.indexCast v6
  let c1_314 : Index := 1#32
  let c3584_315 : Index := 3584#32
  let c0_316 : Index := 0#32
  let c0_317 : Index := 0#32
  ![v581.toNat, 1, 3584, 0, 0]
def k0_off54 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v104 : Index := Scalar.indexCast v6
  let c0_56 : Index := 0#32
  let c0_57 : Index := 0#32
  let c0_58 : Index := 0#32
  let c0_59 : Index := 0#32
  ![v104.toNat, 0, 0, 0, 0]
def k0_mult3 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c0_i32_20 : BitVec 32 := 0#32
  let v58 : BitVec 1 := Scalar.cmpi .sgt v1 c0_i32_20
  let v59 : BitVec 32 := Scalar.extui v58
  let c0_i32_21 : BitVec 32 := 0#32
  let v60 : BitVec 1 := Scalar.cmpi .slt v1 c0_i32_21
  let v61 : BitVec 32 := Scalar.extui v60
  let v62 : BitVec 32 := Scalar.subi v59 v61
  let c7_i32_19 : BitVec 32 := 7#32
  let c0_i32_22 : BitVec 32 := 0#32
  let v63 : BitVec 1 := Scalar.cmpi .sgt c7_i32_19 c0_i32_22
  let v64 : BitVec 32 := Scalar.extui v63
  let c0_i32_23 : BitVec 32 := 0#32
  let v65 : BitVec 1 := Scalar.cmpi .slt c7_i32_19 c0_i32_23
  let v66 : BitVec 32 := Scalar.extui v65
  let v67 : BitVec 32 := Scalar.subi v64 v66
  let v68 : BitVec 1 := Scalar.cmpi .ne v62 v67
  let v69 : BitVec 32 := Scalar.remsi v1 c7_i32_19
  let c0_i32_24 : BitVec 32 := 0#32
  let v70 : BitVec 1 := Scalar.cmpi .ne v69 c0_i32_24
  let v71 : BitVec 1 := Scalar.andi v68 v70
  let v57 : BitVec 32 := Scalar.divsi v1 c7_i32_19
  let c1_i32_25 : BitVec 32 := 1#32
  let v72 : BitVec 32 := Scalar.subi v57 c1_i32_25
  let v73 : BitVec 32 := Scalar.select v71 v72 v57
  let c7_i32_26 : BitVec 32 := 7#32
  let v74 : BitVec 32 := Scalar.muli v73 c7_i32_26
  let v75 : BitVec 32 := Scalar.subi v1 v74
  let c256_i32_27 : BitVec 32 := 256#32
  let v76 : BitVec 32 := Scalar.muli v75 c256_i32_27
  let c0_i32_28 : BitVec 32 := 0#32
  let v77 : BitVec 32 := Scalar.addi v76 c0_i32_28
  v77
def k0_mult4 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c0_i32_20 : BitVec 32 := 0#32
  let v58 : BitVec 1 := Scalar.cmpi .sgt v1 c0_i32_20
  let v59 : BitVec 32 := Scalar.extui v58
  let c0_i32_21 : BitVec 32 := 0#32
  let v60 : BitVec 1 := Scalar.cmpi .slt v1 c0_i32_21
  let v61 : BitVec 32 := Scalar.extui v60
  let v62 : BitVec 32 := Scalar.subi v59 v61
  let c7_i32_19 : BitVec 32 := 7#32
  let c0_i32_22 : BitVec 32 := 0#32
  let v63 : BitVec 1 := Scalar.cmpi .sgt c7_i32_19 c0_i32_22
  let v64 : BitVec 32 := Scalar.extui v63
  let c0_i32_23 : BitVec 32 := 0#32
  let v65 : BitVec 1 := Scalar.cmpi .slt c7_i32_19 c0_i32_23
  let v66 : BitVec 32 := Scalar.extui v65
  let v67 : BitVec 32 := Scalar.subi v64 v66
  let v68 : BitVec 1 := Scalar.cmpi .ne v62 v67
  let v69 : BitVec 32 := Scalar.remsi v1 c7_i32_19
  let c0_i32_24 : BitVec 32 := 0#32
  let v70 : BitVec 1 := Scalar.cmpi .ne v69 c0_i32_24
  let v71 : BitVec 1 := Scalar.andi v68 v70
  let v57 : BitVec 32 := Scalar.divsi v1 c7_i32_19
  let c1_i32_25 : BitVec 32 := 1#32
  let v72 : BitVec 32 := Scalar.subi v57 c1_i32_25
  let v73 : BitVec 32 := Scalar.select v71 v72 v57
  let c7_i32_26 : BitVec 32 := 7#32
  let v74 : BitVec 32 := Scalar.muli v73 c7_i32_26
  let v75 : BitVec 32 := Scalar.subi v1 v74
  let c256_i32_29 : BitVec 32 := 256#32
  let v79 : BitVec 32 := Scalar.muli v75 c256_i32_29
  let c128_i32 : BitVec 32 := 128#32
  let v80 : BitVec 32 := Scalar.addi v79 c128_i32
  v80
def k0_off55 (i : grid0.Coords) : Fin 1 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  ![v6.toNat]
def k0_off56 (i : grid0.Coords) (c0_i32_28 : BitVec 32) : Fin 4 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c0_i32_20 : BitVec 32 := 0#32
  let v58 : BitVec 1 := Scalar.cmpi .sgt v1 c0_i32_20
  let v59 : BitVec 32 := Scalar.extui v58
  let c0_i32_21 : BitVec 32 := 0#32
  let v60 : BitVec 1 := Scalar.cmpi .slt v1 c0_i32_21
  let v61 : BitVec 32 := Scalar.extui v60
  let v62 : BitVec 32 := Scalar.subi v59 v61
  let c7_i32_19 : BitVec 32 := 7#32
  let c0_i32_22 : BitVec 32 := 0#32
  let v63 : BitVec 1 := Scalar.cmpi .sgt c7_i32_19 c0_i32_22
  let v64 : BitVec 32 := Scalar.extui v63
  let c0_i32_23 : BitVec 32 := 0#32
  let v65 : BitVec 1 := Scalar.cmpi .slt c7_i32_19 c0_i32_23
  let v66 : BitVec 32 := Scalar.extui v65
  let v67 : BitVec 32 := Scalar.subi v64 v66
  let v68 : BitVec 1 := Scalar.cmpi .ne v62 v67
  let v69 : BitVec 32 := Scalar.remsi v1 c7_i32_19
  let c0_i32_24 : BitVec 32 := 0#32
  let v70 : BitVec 1 := Scalar.cmpi .ne v69 c0_i32_24
  let v71 : BitVec 1 := Scalar.andi v68 v70
  let v57 : BitVec 32 := Scalar.divsi v1 c7_i32_19
  let c1_i32_25 : BitVec 32 := 1#32
  let v72 : BitVec 32 := Scalar.subi v57 c1_i32_25
  let v73 : BitVec 32 := Scalar.select v71 v72 v57
  let c0_i32_31 : BitVec 32 := 0#32
  let c0_i32_32 : BitVec 32 := 0#32
  let c7_i32_26 : BitVec 32 := 7#32
  let v74 : BitVec 32 := Scalar.muli v73 c7_i32_26
  let v75 : BitVec 32 := Scalar.subi v1 v74
  let c256_i32_27 : BitVec 32 := 256#32
  let v76 : BitVec 32 := Scalar.muli v75 c256_i32_27
  let v77 : BitVec 32 := Scalar.addi v76 c0_i32_28
  let v78 : BitVec 32 := v77
  ![v73.toNat, 0, 0, v78.toNat]
def k0_off57 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let c0_i32_30 : BitVec 32 := 0#32
  let c0_i32_33 : BitVec 32 := 0#32
  let c0_i32_34 : BitVec 32 := 0#32
  let c0_i32_35 : BitVec 32 := 0#32
  ![v6.toNat, 0, 0, 0, 0]
def k0_off58 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let c1_i32_36 : BitVec 32 := 1#32
  let c0_i32_39 : BitVec 32 := 0#32
  let c0_i32_40 : BitVec 32 := 0#32
  let c0_i32_41 : BitVec 32 := 0#32
  ![v6.toNat, 1, 0, 0, 0]
def k0_cond8 (i : grid0.Coords) : BitVec 1 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c55_i32 : BitVec 32 := 55#32
  let v94 : BitVec 1 := Scalar.cmpi .eq v1 c55_i32
  let v95 : BitVec 32 := Scalar.extui v94
  let c0_i32_42 : BitVec 32 := 0#32
  let v96 : BitVec 1 := Scalar.cmpi .ne v95 c0_i32_42
  v96

def k0_mult5 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32_43 : BitVec 32 := 1#32
  let v97 : BitVec 32 := Scalar.subi v1 c1_i32_43
  let c0_i32_46 : BitVec 32 := 0#32
  let v100 : BitVec 1 := Scalar.cmpi .sgt v97 c0_i32_46
  let v101 : BitVec 32 := Scalar.extui v100
  let c0_i32_47 : BitVec 32 := 0#32
  let v102 : BitVec 1 := Scalar.cmpi .slt v97 c0_i32_47
  let v103 : BitVec 32 := Scalar.extui v102
  let v104 : BitVec 32 := Scalar.subi v101 v103
  let c7_i32_45 : BitVec 32 := 7#32
  let c0_i32_48 : BitVec 32 := 0#32
  let v105 : BitVec 1 := Scalar.cmpi .sgt c7_i32_45 c0_i32_48
  let v106 : BitVec 32 := Scalar.extui v105
  let c0_i32_49 : BitVec 32 := 0#32
  let v107 : BitVec 1 := Scalar.cmpi .slt c7_i32_45 c0_i32_49
  let v108 : BitVec 32 := Scalar.extui v107
  let v109 : BitVec 32 := Scalar.subi v106 v108
  let v110 : BitVec 1 := Scalar.cmpi .ne v104 v109
  let v111 : BitVec 32 := Scalar.remsi v97 c7_i32_45
  let c0_i32_50 : BitVec 32 := 0#32
  let v112 : BitVec 1 := Scalar.cmpi .ne v111 c0_i32_50
  let v113 : BitVec 1 := Scalar.andi v110 v112
  let v99 : BitVec 32 := Scalar.divsi v97 c7_i32_45
  let c1_i32_51 : BitVec 32 := 1#32
  let v114 : BitVec 32 := Scalar.subi v99 c1_i32_51
  let v115 : BitVec 32 := Scalar.select v113 v114 v99
  let c7_i32_52 : BitVec 32 := 7#32
  let v116 : BitVec 32 := Scalar.muli v115 c7_i32_52
  let v117 : BitVec 32 := Scalar.subi v97 v116
  let c256_i32_53 : BitVec 32 := 256#32
  let v118 : BitVec 32 := Scalar.muli v117 c256_i32_53
  let c0_i32_54 : BitVec 32 := 0#32
  let v119 : BitVec 32 := Scalar.addi v118 c0_i32_54
  v119
def k0_mult6 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32_43 : BitVec 32 := 1#32
  let v97 : BitVec 32 := Scalar.subi v1 c1_i32_43
  let c0_i32_46 : BitVec 32 := 0#32
  let v100 : BitVec 1 := Scalar.cmpi .sgt v97 c0_i32_46
  let v101 : BitVec 32 := Scalar.extui v100
  let c0_i32_47 : BitVec 32 := 0#32
  let v102 : BitVec 1 := Scalar.cmpi .slt v97 c0_i32_47
  let v103 : BitVec 32 := Scalar.extui v102
  let v104 : BitVec 32 := Scalar.subi v101 v103
  let c7_i32_45 : BitVec 32 := 7#32
  let c0_i32_48 : BitVec 32 := 0#32
  let v105 : BitVec 1 := Scalar.cmpi .sgt c7_i32_45 c0_i32_48
  let v106 : BitVec 32 := Scalar.extui v105
  let c0_i32_49 : BitVec 32 := 0#32
  let v107 : BitVec 1 := Scalar.cmpi .slt c7_i32_45 c0_i32_49
  let v108 : BitVec 32 := Scalar.extui v107
  let v109 : BitVec 32 := Scalar.subi v106 v108
  let v110 : BitVec 1 := Scalar.cmpi .ne v104 v109
  let v111 : BitVec 32 := Scalar.remsi v97 c7_i32_45
  let c0_i32_50 : BitVec 32 := 0#32
  let v112 : BitVec 1 := Scalar.cmpi .ne v111 c0_i32_50
  let v113 : BitVec 1 := Scalar.andi v110 v112
  let v99 : BitVec 32 := Scalar.divsi v97 c7_i32_45
  let c1_i32_51 : BitVec 32 := 1#32
  let v114 : BitVec 32 := Scalar.subi v99 c1_i32_51
  let v115 : BitVec 32 := Scalar.select v113 v114 v99
  let c7_i32_52 : BitVec 32 := 7#32
  let v116 : BitVec 32 := Scalar.muli v115 c7_i32_52
  let v117 : BitVec 32 := Scalar.subi v97 v116
  let c256_i32_55 : BitVec 32 := 256#32
  let v121 : BitVec 32 := Scalar.muli v117 c256_i32_55
  let c128_i32_56 : BitVec 32 := 128#32
  let v122 : BitVec 32 := Scalar.addi v121 c128_i32_56
  v122
def k0_mult7 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c0_i32_58 : BitVec 32 := 0#32
  let v125 : BitVec 1 := Scalar.cmpi .sgt v1 c0_i32_58
  let v126 : BitVec 32 := Scalar.extui v125
  let c0_i32_59 : BitVec 32 := 0#32
  let v127 : BitVec 1 := Scalar.cmpi .slt v1 c0_i32_59
  let v128 : BitVec 32 := Scalar.extui v127
  let v129 : BitVec 32 := Scalar.subi v126 v128
  let c7_i32_57 : BitVec 32 := 7#32
  let c0_i32_60 : BitVec 32 := 0#32
  let v130 : BitVec 1 := Scalar.cmpi .sgt c7_i32_57 c0_i32_60
  let v131 : BitVec 32 := Scalar.extui v130
  let c0_i32_61 : BitVec 32 := 0#32
  let v132 : BitVec 1 := Scalar.cmpi .slt c7_i32_57 c0_i32_61
  let v133 : BitVec 32 := Scalar.extui v132
  let v134 : BitVec 32 := Scalar.subi v131 v133
  let v135 : BitVec 1 := Scalar.cmpi .ne v129 v134
  let v136 : BitVec 32 := Scalar.remsi v1 c7_i32_57
  let c0_i32_62 : BitVec 32 := 0#32
  let v137 : BitVec 1 := Scalar.cmpi .ne v136 c0_i32_62
  let v138 : BitVec 1 := Scalar.andi v135 v137
  let v124 : BitVec 32 := Scalar.divsi v1 c7_i32_57
  let c1_i32_63 : BitVec 32 := 1#32
  let v139 : BitVec 32 := Scalar.subi v124 c1_i32_63
  let v140 : BitVec 32 := Scalar.select v138 v139 v124
  let c7_i32_64 : BitVec 32 := 7#32
  let v141 : BitVec 32 := Scalar.muli v140 c7_i32_64
  let v142 : BitVec 32 := Scalar.subi v1 v141
  let c256_i32_65 : BitVec 32 := 256#32
  let v143 : BitVec 32 := Scalar.muli v142 c256_i32_65
  let c0_i32_66 : BitVec 32 := 0#32
  let v144 : BitVec 32 := Scalar.addi v143 c0_i32_66
  v144
def k0_mult8 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c0_i32_58 : BitVec 32 := 0#32
  let v125 : BitVec 1 := Scalar.cmpi .sgt v1 c0_i32_58
  let v126 : BitVec 32 := Scalar.extui v125
  let c0_i32_59 : BitVec 32 := 0#32
  let v127 : BitVec 1 := Scalar.cmpi .slt v1 c0_i32_59
  let v128 : BitVec 32 := Scalar.extui v127
  let v129 : BitVec 32 := Scalar.subi v126 v128
  let c7_i32_57 : BitVec 32 := 7#32
  let c0_i32_60 : BitVec 32 := 0#32
  let v130 : BitVec 1 := Scalar.cmpi .sgt c7_i32_57 c0_i32_60
  let v131 : BitVec 32 := Scalar.extui v130
  let c0_i32_61 : BitVec 32 := 0#32
  let v132 : BitVec 1 := Scalar.cmpi .slt c7_i32_57 c0_i32_61
  let v133 : BitVec 32 := Scalar.extui v132
  let v134 : BitVec 32 := Scalar.subi v131 v133
  let v135 : BitVec 1 := Scalar.cmpi .ne v129 v134
  let v136 : BitVec 32 := Scalar.remsi v1 c7_i32_57
  let c0_i32_62 : BitVec 32 := 0#32
  let v137 : BitVec 1 := Scalar.cmpi .ne v136 c0_i32_62
  let v138 : BitVec 1 := Scalar.andi v135 v137
  let v124 : BitVec 32 := Scalar.divsi v1 c7_i32_57
  let c1_i32_63 : BitVec 32 := 1#32
  let v139 : BitVec 32 := Scalar.subi v124 c1_i32_63
  let v140 : BitVec 32 := Scalar.select v138 v139 v124
  let c7_i32_64 : BitVec 32 := 7#32
  let v141 : BitVec 32 := Scalar.muli v140 c7_i32_64
  let v142 : BitVec 32 := Scalar.subi v1 v141
  let c256_i32_67 : BitVec 32 := 256#32
  let v146 : BitVec 32 := Scalar.muli v142 c256_i32_67
  let c128_i32_68 : BitVec 32 := 128#32
  let v147 : BitVec 32 := Scalar.addi v146 c128_i32_68
  v147
def k0_off59 (i : grid0.Coords) : Fin 1 → Nat :=
  let c1_i32_44 : BitVec 32 := 1#32
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v98 : BitVec 32 := Scalar.subi c1_i32_44 v6
  ![v98.toNat]
def k0_off60 (i : grid0.Coords) (c0_i32_54 : BitVec 32) : Fin 4 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32_43 : BitVec 32 := 1#32
  let v97 : BitVec 32 := Scalar.subi v1 c1_i32_43
  let c0_i32_46 : BitVec 32 := 0#32
  let v100 : BitVec 1 := Scalar.cmpi .sgt v97 c0_i32_46
  let v101 : BitVec 32 := Scalar.extui v100
  let c0_i32_47 : BitVec 32 := 0#32
  let v102 : BitVec 1 := Scalar.cmpi .slt v97 c0_i32_47
  let v103 : BitVec 32 := Scalar.extui v102
  let v104 : BitVec 32 := Scalar.subi v101 v103
  let c7_i32_45 : BitVec 32 := 7#32
  let c0_i32_48 : BitVec 32 := 0#32
  let v105 : BitVec 1 := Scalar.cmpi .sgt c7_i32_45 c0_i32_48
  let v106 : BitVec 32 := Scalar.extui v105
  let c0_i32_49 : BitVec 32 := 0#32
  let v107 : BitVec 1 := Scalar.cmpi .slt c7_i32_45 c0_i32_49
  let v108 : BitVec 32 := Scalar.extui v107
  let v109 : BitVec 32 := Scalar.subi v106 v108
  let v110 : BitVec 1 := Scalar.cmpi .ne v104 v109
  let v111 : BitVec 32 := Scalar.remsi v97 c7_i32_45
  let c0_i32_50 : BitVec 32 := 0#32
  let v112 : BitVec 1 := Scalar.cmpi .ne v111 c0_i32_50
  let v113 : BitVec 1 := Scalar.andi v110 v112
  let v99 : BitVec 32 := Scalar.divsi v97 c7_i32_45
  let c1_i32_51 : BitVec 32 := 1#32
  let v114 : BitVec 32 := Scalar.subi v99 c1_i32_51
  let v115 : BitVec 32 := Scalar.select v113 v114 v99
  let c0_i32_70 : BitVec 32 := 0#32
  let c0_i32_71 : BitVec 32 := 0#32
  let c7_i32_52 : BitVec 32 := 7#32
  let v116 : BitVec 32 := Scalar.muli v115 c7_i32_52
  let v117 : BitVec 32 := Scalar.subi v97 v116
  let c256_i32_53 : BitVec 32 := 256#32
  let v118 : BitVec 32 := Scalar.muli v117 c256_i32_53
  let v119 : BitVec 32 := Scalar.addi v118 c0_i32_54
  let v120 : BitVec 32 := v119
  ![v115.toNat, 0, 0, v120.toNat]
def k0_off61 (i : grid0.Coords) : Fin 5 → Nat :=
  let c1_i32_44 : BitVec 32 := 1#32
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v98 : BitVec 32 := Scalar.subi c1_i32_44 v6
  let c0_i32_69 : BitVec 32 := 0#32
  let c0_i32_72 : BitVec 32 := 0#32
  let c0_i32_73 : BitVec 32 := 0#32
  let c0_i32_74 : BitVec 32 := 0#32
  ![v98.toNat, 0, 0, 0, 0]
def k0_off62 (i : grid0.Coords) : Fin 5 → Nat :=
  let c1_i32_44 : BitVec 32 := 1#32
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let v98 : BitVec 32 := Scalar.subi c1_i32_44 v6
  let c1_i32_75 : BitVec 32 := 1#32
  let c0_i32_78 : BitVec 32 := 0#32
  let c0_i32_79 : BitVec 32 := 0#32
  let c0_i32_80 : BitVec 32 := 0#32
  ![v98.toNat, 1, 0, 0, 0]
def k0_off63 (i : grid0.Coords) : Fin 1 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  ![v6.toNat]
def k0_off64 (i : grid0.Coords) (c0_i32_66 : BitVec 32) : Fin 4 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c0_i32_58 : BitVec 32 := 0#32
  let v125 : BitVec 1 := Scalar.cmpi .sgt v1 c0_i32_58
  let v126 : BitVec 32 := Scalar.extui v125
  let c0_i32_59 : BitVec 32 := 0#32
  let v127 : BitVec 1 := Scalar.cmpi .slt v1 c0_i32_59
  let v128 : BitVec 32 := Scalar.extui v127
  let v129 : BitVec 32 := Scalar.subi v126 v128
  let c7_i32_57 : BitVec 32 := 7#32
  let c0_i32_60 : BitVec 32 := 0#32
  let v130 : BitVec 1 := Scalar.cmpi .sgt c7_i32_57 c0_i32_60
  let v131 : BitVec 32 := Scalar.extui v130
  let c0_i32_61 : BitVec 32 := 0#32
  let v132 : BitVec 1 := Scalar.cmpi .slt c7_i32_57 c0_i32_61
  let v133 : BitVec 32 := Scalar.extui v132
  let v134 : BitVec 32 := Scalar.subi v131 v133
  let v135 : BitVec 1 := Scalar.cmpi .ne v129 v134
  let v136 : BitVec 32 := Scalar.remsi v1 c7_i32_57
  let c0_i32_62 : BitVec 32 := 0#32
  let v137 : BitVec 1 := Scalar.cmpi .ne v136 c0_i32_62
  let v138 : BitVec 1 := Scalar.andi v135 v137
  let v124 : BitVec 32 := Scalar.divsi v1 c7_i32_57
  let c1_i32_63 : BitVec 32 := 1#32
  let v139 : BitVec 32 := Scalar.subi v124 c1_i32_63
  let v140 : BitVec 32 := Scalar.select v138 v139 v124
  let c0_i32_82 : BitVec 32 := 0#32
  let c0_i32_83 : BitVec 32 := 0#32
  let c7_i32_64 : BitVec 32 := 7#32
  let v141 : BitVec 32 := Scalar.muli v140 c7_i32_64
  let v142 : BitVec 32 := Scalar.subi v1 v141
  let c256_i32_65 : BitVec 32 := 256#32
  let v143 : BitVec 32 := Scalar.muli v142 c256_i32_65
  let v144 : BitVec 32 := Scalar.addi v143 c0_i32_66
  let v145 : BitVec 32 := v144
  ![v140.toNat, 0, 0, v145.toNat]
def k0_off65 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let c0_i32_81 : BitVec 32 := 0#32
  let c0_i32_84 : BitVec 32 := 0#32
  let c0_i32_85 : BitVec 32 := 0#32
  let c0_i32_86 : BitVec 32 := 0#32
  ![v6.toNat, 0, 0, 0, 0]
def k0_off66 (i : grid0.Coords) : Fin 5 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v6 : BitVec 32 := Scalar.andi v1 c1_i32
  let c1_i32_87 : BitVec 32 := 1#32
  let c0_i32_90 : BitVec 32 := 0#32
  let c0_i32_91 : BitVec 32 := 0#32
  let c0_i32_92 : BitVec 32 := 0#32
  ![v6.toNat, 1, 0, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x720x4096 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x720x4096 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2x4096x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x4096 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x720x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x720x256 .fp8e5m2 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .smem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .smem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== ExpertsRefIdeal.lean ====
abbrev S_ : Shape := ⟨0, ![]⟩
abbrev S8 : Shape := ⟨1, ![8]⟩
abbrev S8x720 : Shape := ⟨2, ![8, 720]⟩
abbrev S8x720x4096 : Shape := ⟨3, ![8, 720, 4096]⟩
abbrev S8x4096x2x1792 : Shape := ⟨4, ![8, 4096, 2, 1792]⟩
abbrev S8x1792x4096 : Shape := ⟨3, ![8, 1792, 4096]⟩
abbrev S1x1x1 : Shape := ⟨3, ![1, 1, 1]⟩
abbrev S8x1x1 : Shape := ⟨3, ![8, 1, 1]⟩
abbrev S8x4096x1x1792 : Shape := ⟨4, ![8, 4096, 1, 1792]⟩
abbrev S8x4096x1792 : Shape := ⟨3, ![8, 4096, 1792]⟩
abbrev S8x720x1792 : Shape := ⟨3, ![8, 720, 1792]⟩
abbrev S8x2x720x1792 : Shape := ⟨4, ![8, 2, 720, 1792]⟩
abbrev S1x1 : Shape := ⟨2, ![1, 1]⟩
abbrev S1x8x720x1792 : Shape := ⟨4, ![1, 8, 720, 1792]⟩
abbrev S1 : Shape := ⟨1, ![1]⟩
abbrev S1x1x1x1 : Shape := ⟨4, ![1, 1, 1, 1]⟩
abbrev S8x1x720x1792 : Shape := ⟨4, ![8, 1, 720, 1792]⟩

abbrev nBuf : Space → Nat
  | .hbm => 33
  | .vmem => 17
  | .smem => 0
  | _ => 0

abbrev bufTy : (tb : Table) → Fin (tcTables nBuf tb) → BufTy
  | .hbm, ⟨0, _⟩ => ⟨S_, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S8, .f32⟩
  | .hbm, ⟨5, _⟩ => ⟨S8, .f32⟩
  | .hbm, ⟨6, _⟩ => ⟨S8x720, .i32⟩
  | .hbm, ⟨7, _⟩ => ⟨S8x720x4096, .fp8e4m3⟩
  | .hbm, ⟨8, _⟩ => ⟨S8x720x4096, .fp8e5m2⟩
  | .hbm, ⟨9, _⟩ => ⟨S8x4096x2x1792, .fp8e4m3⟩
  | .hbm, ⟨10, _⟩ => ⟨S8x1792x4096, .fp8e4m3⟩
  | .hbm, ⟨11, _⟩ => ⟨S1x1x1, .f32⟩
  | .hbm, ⟨12, _⟩ => ⟨S1x1x1, .f32⟩
  | .hbm, ⟨13, _⟩ => ⟨S8, .f32⟩
  | .hbm, ⟨14, _⟩ => ⟨S8, .f32⟩
  | .hbm, ⟨15, _⟩ => ⟨S8x1x1, .f32⟩
  | .hbm, ⟨16, _⟩ => ⟨S8, .f32⟩
  | .hbm, ⟨17, _⟩ => ⟨S8, .f32⟩
  | .hbm, ⟨18, _⟩ => ⟨S8x1x1, .f32⟩
  | .hbm, ⟨19, _⟩ => ⟨S_, .f32⟩
  | .hbm, ⟨20, _⟩ => ⟨S1x1x1, .f32⟩
  | .hbm, ⟨21, _⟩ => ⟨S_, .f32⟩
  | .hbm, ⟨22, _⟩ => ⟨S1x1x1, .f32⟩
  | .hbm, ⟨23, _⟩ => ⟨S8x4096x1x1792, .fp8e4m3⟩
  | .hbm, ⟨24, _⟩ => ⟨S8x4096x1792, .fp8e4m3⟩
  | .hbm, ⟨25, _⟩ => ⟨S8x4096x1x1792, .fp8e4m3⟩
  | .hbm, ⟨26, _⟩ => ⟨S8x4096x1792, .fp8e4m3⟩
  | .hbm, ⟨27, _⟩ => ⟨S8x720x1792, .fp8e4m3⟩
  | .hbm, ⟨28, _⟩ => ⟨S8x2x720x1792, .fp8e5m2⟩
  | .hbm, ⟨29, _⟩ => ⟨S8x4096x2x1792, .bf16⟩
  | .hbm, ⟨30, _⟩ => ⟨S8x1792x4096, .bf16⟩
  | .hbm, ⟨31, _⟩ => ⟨S1x1, .f32⟩
  | .hbm, ⟨32, _⟩ => ⟨S1x1, .f32⟩
  | .local _ .vmem, ⟨0, _⟩ => ⟨S1x1x1, .f32⟩
  | .local _ .vmem, ⟨1, _⟩ => ⟨S1x1x1, .f32⟩
  | .local _ .vmem, ⟨2, _⟩ => ⟨S8x1x1, .f32⟩
  | .local _ .vmem, ⟨3, _⟩ => ⟨S8x1x1, .f32⟩
  | .local _ .vmem, ⟨4, _⟩ => ⟨S1x1x1, .f32⟩
  | .local _ .vmem, ⟨5, _⟩ => ⟨S1x1x1, .f32⟩
  | .local _ .vmem, ⟨6, _⟩ => ⟨S8x720x4096, .fp8e4m3⟩
  | .local _ .vmem, ⟨7, _⟩ => ⟨S8x720x4096, .fp8e5m2⟩
  | .local _ .vmem, ⟨8, _⟩ => ⟨S8x4096x1792, .fp8e4m3⟩
  | .local _ .vmem, ⟨9, _⟩ => ⟨S8x4096x1792, .fp8e4m3⟩
  | .local _ .vmem, ⟨10, _⟩ => ⟨S8x1792x4096, .fp8e4m3⟩
  | .local _ .vmem, ⟨11, _⟩ => ⟨S8x720x1792, .fp8e4m3⟩
  | .local _ .vmem, ⟨12, _⟩ => ⟨S8x2x720x1792, .fp8e5m2⟩
  | .local _ .vmem, ⟨13, _⟩ => ⟨S8x4096x2x1792, .bf16⟩
  | .local _ .vmem, ⟨14, _⟩ => ⟨S8x1792x4096, .bf16⟩
  | .local _ .vmem, ⟨15, _⟩ => ⟨S1x1, .f32⟩
  | .local _ .vmem, ⟨16, _⟩ => ⟨S1x1, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_v16_3 : Ref sig .tc := ⟨.hbm, 30, rfl⟩
abbrev main_v16_4 : Ref sig .tc := ⟨.hbm, 31, rfl⟩
abbrev main_v16_5 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S1x1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x720x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x720x4096 .fp8e5m2 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x4096x1792 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x4096x1792 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x1792x4096 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x720x1792 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x2x720x1792 .fp8e5m2 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x4096x2x1792 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8x1792x4096 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Proof.ProjectRun.lean ====
/- The run of the projection kernel with its two outputs constrained, not named: what the body leaves in the staging buffers
   of the two outputs at a point, and in its two scratch buffers, is stated by predicates `R8`, `R9`, `S` that the user of this
   module chooses, and that the body is to establish at each point (`StepOK`). Concludes the launch (`run_main`) and the frame. -/
module

public import proofs.«01_k».proof.Proof.Gen.Project.Frame
public import proofs.«01_k».proof.Proof.Gen.Project.Skeleton
public import proofs.«01_k».proof.Proof.Gen.Project.Points
public import Idealize.ShloMosaic.Lib.Pipeline.ArrRel
public import Idealize.ShloMosaic.Lib.Tactic
public import Idealize.ShloMosaic.Lib.WordCmp

@[expose] public section

set_option maxRecDepth 16384

noncomputable section

namespace Cert.Project.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Contents of an output's staging buffer, and of the two scratch buffers. -/
abbrev B8 (F : FTy → Type) [FloatOps F] := Vec F S1x720x1024 .f32
abbrev Bh (F : FTy → Type) [FloatOps F] := Vec F S736x1792 .fp8e4m3
abbrev Bd (F : FTy → Type) [FloatOps F] := Vec F S736x3584 .fp8e5m2

/-- Window 0's staging buffer at point `t` is a whole buffer. -/
abbrev hs0_0 (t : Fin cfg0.N) : (win0_0.stage (cfg0.slots t 0)).IsWhole := hstage0_0 ((cfg0.slots t 0).cast nbuf0_0)
/-- Window 1's staging buffer at point `t` is a whole buffer. -/
abbrev hs0_1 (t : Fin cfg0.N) : (win0_1.stage (cfg0.slots t 1)).IsWhole := hstage0_1 ((cfg0.slots t 1).cast nbuf0_1)
/-- Window 2's staging buffer at point `t` is a whole buffer. -/
abbrev hs0_2 (t : Fin cfg0.N) : (win0_2.stage (cfg0.slots t 2)).IsWhole := hstage0_2 ((cfg0.slots t 2).cast nbuf0_2)
/-- Window 3's staging buffer at point `t` is a whole buffer. -/
abbrev hs0_3 (t : Fin cfg0.N) : (win0_3.stage (cfg0.slots t 3)).IsWhole := hstage0_3 ((cfg0.slots t 3).cast nbuf0_3)
/-- Window 4's staging buffer at point `t` is a whole buffer. -/
abbrev hs0_4 (t : Fin cfg0.N) : (win0_4.stage (cfg0.slots t 4)).IsWhole := hstage0_4 ((cfg0.slots t 4).cast nbuf0_4)
/-- Window 5's staging buffer at point `t` is a whole buffer. -/
abbrev hs0_5 (t : Fin cfg0.N) : (win0_5.stage (cfg0.slots t 5)).IsWhole := hstage0_5 ((cfg0.slots t 5).cast nbuf0_5)
/-- Window 6's staging buffer at point `t` is a whole buffer. -/
abbrev hs0_6 (t : Fin cfg0.N) : (win0_6.stage (cfg0.slots t 6)).IsWhole := hstage0_6 ((cfg0.slots t 6).cast nbuf0_6)
/-- Window 7's staging buffer at point `t` is a whole buffer. -/
abbrev hs0_7 (t : Fin cfg0.N) : (win0_7.stage (cfg0.slots t 7)).IsWhole := hstage0_7 ((cfg0.slots t 7).cast nbuf0_7)
/-- Window 8's staging buffer at point `t` is a whole buffer. -/
abbrev hs0_8 (t : Fin cfg0.N) : (win0_8.stage (cfg0.slots t 8)).IsWhole := hstage0_8 ((cfg0.slots t 8).cast nbuf0_8)
/-- Window 9's staging buffer at point `t` is a whole buffer. -/
abbrev hs0_9 (t : Fin cfg0.N) : (win0_9.stage (cfg0.slots t 9)).IsWhole := hstage0_9 ((cfg0.slots t 9).cast nbuf0_9)

/-- The two scratch buffers, whole. -/
abbrev scM0 : Memref sig .tc .vmem S736x1792 .fp8e4m3 := Memref.whole cc0_scratch0
abbrev scM1 : Memref sig .tc .vmem S736x3584 .fp8e5m2 := Memref.whole cc0_scratch1

/-- The invariant over the scratch buffers: some contents of which `S` holds. -/
def PhiS (c : Dev nD) (S : Bh F → Bd F → Prop) : sProp 𝕄 :=
  iprop((∃ x12 x13, ⌜S x12 x13⌝ ∗ owns (c : Thread nD τ) scM0 fullShare x12 ∗ owns (c : Thread nD τ) scM1 fullShare x13)
    ∗ ∃ r, prngReg c r)

theorem PhiA0_eq (c : Dev nD) : (Pipeline.ΦA (Val := Elt F) spec0 c : sProp 𝕄)
    = iprop(((∃ f, owns (c : Thread nD τ) scM0 fullShare f) ∗ (∃ f, owns (c : Thread nD τ) scM1 fullShare f)) ∗ (∃ r, prngReg c r)) := by
  unfold Pipeline.ΦA; rw [scopedRest0_eq]; simp only [scM0, scM1, owns_whole]; try rfl

/-- The exact data whose inputs are left in place and whose outputs are not named. -/
def datB (Φ : Fin (cfg0.N + 1) → sProp 𝕄) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Dat.unnamed 8 t
    | ⟨9, _⟩ => Dat.unnamed 9 t
  Φ := Φ
  q _ := fullShare
  owed _ := 0

variable (R8 R9 : Dev nD → Fin cfg0.N → B8 F → Prop) (S : Dev nD → Fin (cfg0.N + 1) → Bh F → Bd F → Prop)

/-- The relational data: inputs left in place, the outputs' contents satisfying `R8` and `R9`. -/
def rdat (c : Dev nD) : RDat τ (Elt F) Unit ℕ (UR sig nD τ) ℕ cfg0 c :=
  (datB m (fun n => PhiS c (S c n)) c).toR.override fun w => match w with
    | ⟨8, _⟩ => some fun t _ X => R8 c t X
    | ⟨9, _⟩ => some fun t _ X => R9 c t X
    | _ => none

theorem rdat_A (c : Dev nD) (w : Fin cfg0.W) : (rdat m R8 R9 S c).A w = V m c (Pipeline.arrRef spec0 w) := rfl

theorem finds_0 (c : Dev nD) (t : Fin cfg0.N) (X) (h : (rdat m R8 R9 S c).Finds 0 t X) : X = iblk m c 0 t := by
  obtain ⟨d, rfl⟩ := (datB m (fun n => PhiS c (S c n)) c).toR_finds 0 t X ((RDat.override_finds _ rfl t X).mp h)
  exact before0_0_of m (datB m (fun n => PhiS c (S c n)) c) rfl (fun _ => rfl) t d
theorem after_0 (c : Dev nD) (t : Fin cfg0.N) (Y) : (rdat m R8 R9 S c).after 0 t Y (iblk m c 0 t) := by
  show (datB m (fun n => PhiS c (S c n)) c).toR.after 0 t Y (iblk m c 0 t)
  exact rfl
theorem finds_1 (c : Dev nD) (t : Fin cfg0.N) (X) (h : (rdat m R8 R9 S c).Finds 1 t X) : X = iblk m c 1 t := by
  obtain ⟨d, rfl⟩ := (datB m (fun n => PhiS c (S c n)) c).toR_finds 1 t X ((RDat.override_finds _ rfl t X).mp h)
  exact before0_1_of m (datB m (fun n => PhiS c (S c n)) c) rfl (fun _ => rfl) t d
theorem after_1 (c : Dev nD) (t : Fin cfg0.N) (Y) : (rdat m R8 R9 S c).after 1 t Y (iblk m c 1 t) := by
  show (datB m (fun n => PhiS c (S c n)) c).toR.after 1 t Y (iblk m c 1 t)
  exact rfl
theorem finds_2 (c : Dev nD) (t : Fin cfg0.N) (X) (h : (rdat m R8 R9 S c).Finds 2 t X) : X = iblk m c 2 t := by
  obtain ⟨d, rfl⟩ := (datB m (fun n => PhiS c (S c n)) c).toR_finds 2 t X ((RDat.override_finds _ rfl t X).mp h)
  exact before0_2_of m (datB m (fun n => PhiS c (S c n)) c) rfl (fun _ => rfl) t d
theorem after_2 (c : Dev nD) (t : Fin cfg0.N) (Y) : (rdat m R8 R9 S c).after 2 t Y (iblk m c 2 t) := by
  show (datB m (fun n => PhiS c (S c n)) c).toR.after 2 t Y (iblk m c 2 t)
  exact rfl
theorem finds_3 (c : Dev nD) (t : Fin cfg0.N) (X) (h : (rdat m R8 R9 S c).Finds 3 t X) : X = iblk m c 3 t := by
  obtain ⟨d, rfl⟩ := (datB m (fun n => PhiS c (S c n)) c).toR_finds 3 t X ((RDat.override_finds _ rfl t X).mp h)
  exact before0_3_of m (datB m (fun n => PhiS c (S c n)) c) rfl (fun _ => rfl) t d
theorem after_3 (c : Dev nD) (t : Fin cfg0.N) (Y) : (rdat m R8 R9 S c).after 3 t Y (iblk m c 3 t) := by
  show (datB m (fun n => PhiS c (S c n)) c).toR.after 3 t Y (iblk m c 3 t)
  exact rfl
theorem finds_4 (c : Dev nD) (t : Fin cfg0.N) (X) (h : (rdat m R8 R9 S c).Finds 4 t X) : X = iblk m c 4 t := by
  obtain ⟨d, rfl⟩ := (datB m (fun n => PhiS c (S c n)) c).toR_finds 4 t X ((RDat.override_finds _ rfl t X).mp h)
  exact before0_4_of m (datB m (fun n => PhiS c (S c n)) c) rfl (fun _ => rfl) t d
theorem after_4 (c : Dev nD) (t : Fin cfg0.N) (Y) : (rdat m R8 R9 S c).after 4 t Y (iblk m c 4 t) := by
  show (datB m (fun n => PhiS c (S c n)) c).toR.after 4 t Y (iblk m c 4 t)
  exact rfl
theorem finds_5 (c : Dev nD) (t : Fin cfg0.N) (X) (h : (rdat m R8 R9 S c).Finds 5 t X) : X = iblk m c 5 t := by
  obtain ⟨d, rfl⟩ := (datB m (fun n => PhiS c (S c n)) c).toR_finds 5 t X ((RDat.override_finds _ rfl t X).mp h)
  exact before0_5_of m (datB m (fun n => PhiS c (S c n)) c) rfl (fun _ => rfl) t d
theorem after_5 (c : Dev nD) (t : Fin cfg0.N) (Y) : (rdat m R8 R9 S c).after 5 t Y (iblk m c 5 t) := by
  show (datB m (fun n => PhiS c (S c n)) c).toR.after 5 t Y (iblk m c 5 t)
  exact rfl
theorem finds_6 (c : Dev nD) (t : Fin cfg0.N) (X) (h : (rdat m R8 R9 S c).Finds 6 t X) : X = iblk m c 6 t := by
  obtain ⟨d, rfl⟩ := (datB m (fun n => PhiS c (S c n)) c).toR_finds 6 t X ((RDat.override_finds _ rfl t X).mp h)
  exact before0_6_of m (datB m (fun n => PhiS c (S c n)) c) rfl (fun _ => rfl) t d
theorem after_6 (c : Dev nD) (t : Fin cfg0.N) (Y) : (rdat m R8 R9 S c).after 6 t Y (iblk m c 6 t) := by
  show (datB m (fun n => PhiS c (S c n)) c).toR.after 6 t Y (iblk m c 6 t)
  exact rfl
theorem finds_7 (c : Dev nD) (t : Fin cfg0.N) (X) (h : (rdat m R8 R9 S c).Finds 7 t X) : X = iblk m c 7 t := by
  obtain ⟨d, rfl⟩ := (datB m (fun n => PhiS c (S c n)) c).toR_finds 7 t X ((RDat.override_finds _ rfl t X).mp h)
  exact before0_7_of m (datB m (fun n => PhiS c (S c n)) c) rfl (fun _ => rfl) t d
theorem after_7 (c : Dev nD) (t : Fin cfg0.N) (Y) : (rdat m R8 R9 S c).after 7 t Y (iblk m c 7 t) := by
  show (datB m (fun n => PhiS c (S c n)) c).toR.after 7 t Y (iblk m c 7 t)
  exact rfl

/-- What the body is to establish at a point: from the inputs' blocks, anything in the outputs' buffers and scratch contents of
    which `S` holds, it ends with the inputs' blocks in place, outputs satisfying `R8` and `R9`, and scratch satisfying the next `S`. -/
def StepOK (c : Dev nD) (t : Fin cfg0.N) : Prop :=
  ∀ (x10 x11 : B8 F) (x12 : Bh F) (x13 : Bd F) (K : PUnit → sProp 𝕄), S c t.castSucc x12 x13 →
    iprop(owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare x10 ∗ owns (c : Thread nD τ) (win0_9.stage (cfg0.slots t 9)) fullShare x11
      ∗ owns (c : Thread nD τ) scM0 fullShare x12 ∗ owns (c : Thread nD τ) scM1 fullShare x13
      ∗ (∀ y10 : B8 F, ∀ y11 : B8 F, ∀ y12 : Bh F, ∀ y13 : Bd F, (⌜R8 c t y10 ∧ R9 c t y11 ∧ S c t.succ y12 y13⌝ ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare y10 ∗ owns (c : Thread nD τ) (win0_9.stage (cfg0.slots t 9)) fullShare y11
      ∗ owns (c : Thread nD τ) scM0 fullShare y12 ∗ owns (c : Thread nD τ) scM1 fullShare y13) -∗ K ()))
    ⊢ wp frame (wpE (defs₀ (F := F)) Variants.none c none) Set.univ (bodyAt0 t) K

theorem defs₀_row (t : Fin cfg0.N) :
    defs₀ (F := F) .tc cfg0.body (cfg0.bodyArgs t (cfg0.slots t)) = bodyAt0 t := by
  unfold defs₀; rw [Defs.onTc_tc]

/-- The library's body obligation from `StepOK` at every point. -/
theorem body_obligation (c : Dev nD) (hstep : ∀ t, StepOK m R8 R9 S c t) :
    (rdat m R8 R9 S c).BodyObligation (defs₀ (F := F)) Variants.none () Set.univ := by
  intro t Y hY
  rw [defs₀_row, bigSep_W0]
  simp only [bigSep_W0]
  rw [finds_0 m R8 R9 S c t _ (hY 0)]
  rw [finds_1 m R8 R9 S c t _ (hY 1)]
  rw [finds_2 m R8 R9 S c t _ (hY 2)]
  rw [finds_3 m R8 R9 S c t _ (hY 3)]
  rw [finds_4 m R8 R9 S c t _ (hY 4)]
  rw [finds_5 m R8 R9 S c t _ (hY 5)]
  rw [finds_6 m R8 R9 S c t _ (hY 6)]
  rw [finds_7 m R8 R9 S c t _ (hY 7)]
  rw [show (rdat m R8 R9 S c).Φ t.castSucc = PhiS c (S c t.castSucc) from rfl, show (rdat m R8 R9 S c).Φ t.succ = PhiS c (S c t.succ) from rfl]
  unfold PhiS
  iintro ⟨⟨⟨%x12, %x13, %hS, HS0, HS1⟩, Hg⟩, Ho, H0, H1, H2, H3, H4, H5, H6, H7, H8, H9⟩
  iapply (hstep t _ _ x12 x13 _ hS)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iintro %y10 %y11 %y12 %y13 ⟨%hR, H0, H1, H2, H3, H4, H5, H6, H7, H8, H9, HS0, HS1⟩
  isplitl [HS0 HS1 Hg]
  · isplitl [HS0 HS1]
    · iexists y12; iexists y13
      isplitr; · ipureintro; exact hR.2.2
      isplitl [HS0]; · iexact HS0
      iexact HS1
    iexact Hg
  isplitl [Ho]; · iexact Ho
  isplitl [H0]
  · iexists _; isplitr; swap; · iexact H0
    ipureintro; exact after_0 m R8 R9 S c t _
  isplitl [H1]
  · iexists _; isplitr; swap; · iexact H1
    ipureintro; exact after_1 m R8 R9 S c t _
  isplitl [H2]
  · iexists _; isplitr; swap; · iexact H2
    ipureintro; exact after_2 m R8 R9 S c t _
  isplitl [H3]
  · iexists _; isplitr; swap; · iexact H3
    ipureintro; exact after_3 m R8 R9 S c t _
  isplitl [H4]
  · iexists _; isplitr; swap; · iexact H4
    ipureintro; exact after_4 m R8 R9 S c t _
  isplitl [H5]
  · iexists _; isplitr; swap; · iexact H5
    ipureintro; exact after_5 m R8 R9 S c t _
  isplitl [H6]
  · iexists _; isplitr; swap; · iexact H6
    ipureintro; exact after_6 m R8 R9 S c t _
  isplitl [H7]
  · iexists _; isplitr; swap; · iexact H7
    ipureintro; exact after_7 m R8 R9 S c t _
  isplitl [H8]
  · iexists _; isplitr; swap; · iexact H8
    ipureintro; exact hR.1
  iexists _; isplitr; swap; · iexact H9
  ipureintro; exact hR.2.1

set_option backward.isDefEq.respectTransparency.types false in
set_option maxHeartbeats 800000 in
/-- THE LAUNCH: every array ends at contents that the relational data allow, and every semaphore counter at zero. -/
theorem run_main (hstep : ∀ c t, StepOK m R8 R9 S c t) (hS0 : ∀ c x12 x13, S c 0 x12 x13) :
    θ_run defs (onTc (τ := τ) (main (F := F))) (s₀ m ρ) (fun r => (RDat.FramePost cfg0 (rdat m R8 R9 S) (V m)) r ∧ r.2.sem = fun _ => 0) :=
  RDat.θ_run_frame_track cfgs (0 : Fin 1) launch0 defs₀ Variants.none (Q' := _) (rdat m R8 R9 S) m ρ main
    (hbody := fun c => body_obligation m R8 R9 S c (hstep c)) (hshare := fun c => (rdat m R8 R9 S c).share_full fun _ => rfl)
    (howed := fun _ _ => rfl) (V := V m) (hmain := hmain m Variants.none) (hA := fun _ _ => rfl)
    (hin := fun c => by
      rw [PhiA0_eq, show (rdat m R8 R9 S c).Φ 0 = PhiS c (S c 0) from rfl]; unfold PhiS
      iintro ⟨⟨⟨%x12, H0⟩, ⟨%x13, H1⟩⟩, Hg⟩
      isplitl [H0 H1]
      · iexists x12; iexists x13
        isplitr; · ipureintro; exact hS0 c x12 x13
        isplitl [H0]; · iexact H0
        iexact H1
      iexact Hg)
    (hout := fun c => by
      rw [PhiA0_eq, show (rdat m R8 R9 S c).Φ (Fin.last cfg0.N) = PhiS c (S c (Fin.last cfg0.N)) from rfl]; unfold PhiS
      iintro ⟨⟨%x12, %x13, -, H0, H1⟩, Hg⟩
      isplitl [H0 H1]
      · isplitl [H0]; · iexists x12; iexact H0
        iexists x13; iexact H1
      iexact Hg)

/-- The argument arrays end unchanged, off the launch's post. -/
theorem args_unchanged (r : PUnit × MemSt nD τ sig (Elt F)) (h : RDat.FramePost cfg0 (rdat m R8 R9 S) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    (h.arr_in c 2 rfl).trans (V_main_arg4 m c),
    (h.arr_in c 3 rfl).trans (V_main_arg5 m c),
    ((h c).2 main_arg6 (Pipeline.mem_restRefs_of main_arg6 (by decide) (by decide))).trans (V_main_arg6 m c),
    (h.arr_in c 4 rfl).trans (V_main_arg7 m c),
    (h.arr_in c 5 rfl).trans (V_main_arg8 m c),
    ((h c).2 main_arg9 (Pipeline.mem_restRefs_of main_arg9 (by decide) (by decide))).trans (V_main_arg9 m c),
    (h.arr_in c 7 rfl).trans (V_main_arg10 m c)⟩

end Cert.Project.Gen

end
-- ==== Proof.ProjectFrame.lean ====
/- The frame of the projection kernel: its body, on any inputs, any outputs' contents and any scratch contents, runs to its end
   and leaves its inputs as they were; the launch therefore ends with the argument arrays unchanged. -/
module

public import proofs.«01_k».proof.Proof.ProjectRun
public import proofs.«01_k».proof.Proof.Gen.Project.Skeleton
public import Idealize.ShloMosaic.Lib.Tactic
public import Idealize.ShloMosaic.Lib.WordCmp

@[expose] public section

set_option maxRecDepth 16384

noncomputable section

namespace Cert.Project.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- One call of the body, on any whole memrefs at any contents. -/
theorem body_frame (c : Dev nD) (i : grid0.Coords) (arg2 : Memref sig .tc .smem S8 .i32) (harg2 : arg2.IsWhole) (arg3 : Memref sig .tc .smem S4 .f32) (harg3 : arg3.IsWhole) (arg4 : Memref sig .tc .smem S8 .f32) (harg4 : arg4.IsWhole) (arg5 : Memref sig .tc .smem S8 .f32) (harg5 : arg5.IsWhole) (arg6 : Memref sig .tc .vmem S1x720x1792 .fp8e4m3) (harg6 : arg6.IsWhole) (arg7 : Memref sig .tc .vmem S1x2x720x1792 .fp8e5m2) (harg7 : arg7.IsWhole) (arg8 : Memref sig .tc .vmem S1x2x1024x1792 .fp8e4m3) (harg8 : arg8.IsWhole) (arg9 : Memref sig .tc .vmem S1x1792x1024 .fp8e4m3) (harg9 : arg9.IsWhole) (arg10 : Memref sig .tc .vmem S1x720x1024 .f32) (harg10 : arg10.IsWhole) (arg11 : Memref sig .tc .vmem S1x720x1024 .f32) (harg11 : arg11.IsWhole) (arg12 : Memref sig .tc .vmem S736x1792 .fp8e4m3) (harg12 : arg12.IsWhole) (arg13 : Memref sig .tc .vmem S736x3584 .fp8e5m2) (harg13 : arg13.IsWhole) (x2 : Vec F S8 .i32) (x3 : Vec F S4 .f32) (x4 : Vec F S8 .f32) (x5 : Vec F S8 .f32) (x6 : Vec F S1x720x1792 .fp8e4m3) (x7 : Vec F S1x2x720x1792 .fp8e5m2) (x8 : Vec F S1x2x1024x1792 .fp8e4m3) (x9 : Vec F S1x1792x1024 .fp8e4m3) (x10 x11 : Vec F S1x720x1024 .f32) (x12 : Vec F S736x1792 .fp8e4m3) (x13 : Vec F S736x3584 .fp8e5m2) (E : Set ℕ) (K : PUnit → sProp 𝕄) :
   iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∀ y10 : B8 F, ∀ y11 : B8 F, ∀ y12 : Bh F, ∀ y13 : Bd F, (owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare y10 ∗ owns (c : Thread nD τ) arg11 fullShare y11 ∗ owns (c : Thread nD τ) arg12 fullShare y12 ∗ owns (c : Thread nD τ) arg13 fullShare y13) -∗ K ()))
    ⊢ wp frame (wpE (defs₀ (F := F)) Variants.none c none) E (cc0_project i arg2 harg2 arg3 harg3 arg4 harg4 arg5 harg5 arg6 harg6 arg7 harg7 arg8 harg8 arg9 harg9 arg10 harg10 arg11 harg11 arg12 harg12 arg13 harg13) K := by
  simp only [cc0_project_eq_skeleton]; unfold cc0_project_skel
  simp only [k0_part10_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec
  sl_step
  iapply Hk $$ %(arg10.view.read (Elt F) _) %(arg11.view.read (Elt F) _) %(arg12.view.read (Elt F) _) %(arg13.view.read (Elt F) _)
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  iexists _; isplitr; swap; · iexact H13
  ipureintro; rfl

/-- The body at a grid point. -/
theorem step_frame (c : Dev nD) (t : Fin cfg0.N) : StepOK m (fun _ _ _ => True) (fun _ _ _ => True) (fun _ _ _ _ => True) c t := by
  intro x10 x11 x12 x13 K _
  refine .trans ?_ (body_frame c (grid0.coords t) _ (hs0_0 t) _ (hs0_1 t) _ (hs0_2 t) _ (hs0_3 t) _ (hs0_4 t) _ (hs0_5 t) _ (hs0_6 t) _ (hs0_7 t) _ (hs0_8 t) _ (hs0_9 t) _ (Memref.isWhole_whole _) _ (Memref.isWhole_whole _) (iblk m c 0 t) (iblk m c 1 t) (iblk m c 2 t) (iblk m c 3 t) (iblk m c 4 t) (iblk m c 5 t) (iblk m c 6 t) (iblk m c 7 t) x10 x11 x12 x13 Set.univ K)
  iintro ⟨H2, H3, H4, H5, H6, H7, H8, H9, H10, H11, H12, H13, Hk⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro %y10 %y11 %y12 %y13 ⟨H2, H3, H4, H5, H6, H7, H8, H9, H10, H11, H12, H13⟩
  iapply Hk $$ %y10 %y11 %y12 %y13
  isplitr; · ipureintro; exact ⟨trivial, trivial, trivial⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The kernel's program terminates without fault, leaves its argument arrays unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => args_unchanged m _ _ _ r h.1 c, h.2⟩)
    (run_main m ρ (fun _ _ _ => True) (fun _ _ _ => True) (fun _ _ _ _ => True) (fun c t => step_frame m c t) fun _ _ _ => trivial)

end Cert.Project.Gen

end
-- ==== Proof.ProjectIdealRun.lean ====
/- The run of the projection kernel with its two outputs constrained, not named: what the body leaves in the staging buffers
   of the two outputs at a point, and in its two scratch buffers, is stated by predicates `R8`, `R9`, `S` that the user of this
   module chooses, and that the body is to establish at each point (`StepOK`). Concludes the launch (`run_main`) and the frame. -/
module

public import proofs.«01_k».proof.Proof.Gen.ProjectIdeal.Frame
public import proofs.«01_k».proof.Proof.Gen.ProjectIdeal.Skeleton
public import proofs.«01_k».proof.Proof.Gen.ProjectIdeal.Points
public import Idealize.ShloMosaic.Lib.Pipeline.ArrRel
public import Idealize.ShloMosaic.Lib.Tactic
public import Idealize.ShloMosaic.Lib.WordCmp

@[expose] public section

set_option maxRecDepth 16384

noncomputable section

namespace Cert.ProjectIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Contents of an output's staging buffer, and of the two scratch buffers. -/
abbrev B8 (F : FTy → Type) [FloatOps F] := Vec F S1x720x1024 .f32
abbrev Bh (F : FTy → Type) [FloatOps F] := Vec F S736x1792 .fp8e4m3
abbrev Bd (F : FTy → Type) [FloatOps F] := Vec F S736x3584 .fp8e5m2

/-- Window 0's staging buffer at point `t` is a whole buffer. -/
abbrev hs0_0 (t : Fin cfg0.N) : (win0_0.stage (cfg0.slots t 0)).IsWhole := hstage0_0 ((cfg0.slots t 0).cast nbuf0_0)
/-- Window 1's staging buffer at point `t` is a whole buffer. -/
abbrev hs0_1 (t : Fin cfg0.N) : (win0_1.stage (cfg0.slots t 1)).IsWhole := hstage0_1 ((cfg0.slots t 1).cast nbuf0_1)
/-- Window 2's staging buffer at point `t` is a whole buffer. -/
abbrev hs0_2 (t : Fin cfg0.N) : (win0_2.stage (cfg0.slots t 2)).IsWhole := hstage0_2 ((cfg0.slots t 2).cast nbuf0_2)
/-- Window 3's staging buffer at point `t` is a whole buffer. -/
abbrev hs0_3 (t : Fin cfg0.N) : (win0_3.stage (cfg0.slots t 3)).IsWhole := hstage0_3 ((cfg0.slots t 3).cast nbuf0_3)
/-- Window 4's staging buffer at point `t` is a whole buffer. -/
abbrev hs0_4 (t : Fin cfg0.N) : (win0_4.stage (cfg0.slots t 4)).IsWhole := hstage0_4 ((cfg0.slots t 4).cast nbuf0_4)
/-- Window 5's staging buffer at point `t` is a whole buffer. -/
abbrev hs0_5 (t : Fin cfg0.N) : (win0_5.stage (cfg0.slots t 5)).IsWhole := hstage0_5 ((cfg0.slots t 5).cast nbuf0_5)
/-- Window 6's staging buffer at point `t` is a whole buffer. -/
abbrev hs0_6 (t : Fin cfg0.N) : (win0_6.stage (cfg0.slots t 6)).IsWhole := hstage0_6 ((cfg0.slots t 6).cast nbuf0_6)
/-- Window 7's staging buffer at point `t` is a whole buffer. -/
abbrev hs0_7 (t : Fin cfg0.N) : (win0_7.stage (cfg0.slots t 7)).IsWhole := hstage0_7 ((cfg0.slots t 7).cast nbuf0_7)
/-- Window 8's staging buffer at point `t` is a whole buffer. -/
abbrev hs0_8 (t : Fin cfg0.N) : (win0_8.stage (cfg0.slots t 8)).IsWhole := hstage0_8 ((cfg0.slots t 8).cast nbuf0_8)
/-- Window 9's staging buffer at point `t` is a whole buffer. -/
abbrev hs0_9 (t : Fin cfg0.N) : (win0_9.stage (cfg0.slots t 9)).IsWhole := hstage0_9 ((cfg0.slots t 9).cast nbuf0_9)

/-- The two scratch buffers, whole. -/
abbrev scM0 : Memref sig .tc .vmem S736x1792 .fp8e4m3 := Memref.whole cc0_scratch0
abbrev scM1 : Memref sig .tc .vmem S736x3584 .fp8e5m2 := Memref.whole cc0_scratch1

/-- The invariant over the scratch buffers: some contents of which `S` holds. -/
def PhiS (c : Dev nD) (S : Bh F → Bd F → Prop) : sProp 𝕄 :=
  iprop((∃ x12 x13, ⌜S x12 x13⌝ ∗ owns (c : Thread nD τ) scM0 fullShare x12 ∗ owns (c : Thread nD τ) scM1 fullShare x13)
    ∗ ∃ r, prngReg c r)

theorem PhiA0_eq (c : Dev nD) : (Pipeline.ΦA (Val := Elt F) spec0 c : sProp 𝕄)
    = iprop(((∃ f, owns (c : Thread nD τ) scM0 fullShare f) ∗ (∃ f, owns (c : Thread nD τ) scM1 fullShare f)) ∗ (∃ r, prngReg c r)) := by
  unfold Pipeline.ΦA; rw [scopedRest0_eq]; simp only [scM0, scM1, owns_whole]; try rfl

/-- The exact data whose inputs are left in place and whose outputs are not named. -/
def datB (Φ : Fin (cfg0.N + 1) → sProp 𝕄) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Dat.unnamed 8 t
    | ⟨9, _⟩ => Dat.unnamed 9 t
  Φ := Φ
  q _ := fullShare
  owed _ := 0

variable (R8 R9 : Dev nD → Fin cfg0.N → B8 F → Prop) (S : Dev nD → Fin (cfg0.N + 1) → Bh F → Bd F → Prop)

/-- The relational data: inputs left in place, the outputs' contents satisfying `R8` and `R9`. -/
def rdat (c : Dev nD) : RDat τ (Elt F) Unit ℕ (UR sig nD τ) ℕ cfg0 c :=
  (datB m (fun n => PhiS c (S c n)) c).toR.override fun w => match w with
    | ⟨8, _⟩ => some fun t _ X => R8 c t X
    | ⟨9, _⟩ => some fun t _ X => R9 c t X
    | _ => none

theorem rdat_A (c : Dev nD) (w : Fin cfg0.W) : (rdat m R8 R9 S c).A w = V m c (Pipeline.arrRef spec0 w) := rfl

theorem finds_0 (c : Dev nD) (t : Fin cfg0.N) (X) (h : (rdat m R8 R9 S c).Finds 0 t X) : X = iblk m c 0 t := by
  obtain ⟨d, rfl⟩ := (datB m (fun n => PhiS c (S c n)) c).toR_finds 0 t X ((RDat.override_finds _ rfl t X).mp h)
  exact before0_0_of m (datB m (fun n => PhiS c (S c n)) c) rfl (fun _ => rfl) t d
theorem after_0 (c : Dev nD) (t : Fin cfg0.N) (Y) : (rdat m R8 R9 S c).after 0 t Y (iblk m c 0 t) := by
  show (datB m (fun n => PhiS c (S c n)) c).toR.after 0 t Y (iblk m c 0 t)
  exact rfl
theorem finds_1 (c : Dev nD) (t : Fin cfg0.N) (X) (h : (rdat m R8 R9 S c).Finds 1 t X) : X = iblk m c 1 t := by
  obtain ⟨d, rfl⟩ := (datB m (fun n => PhiS c (S c n)) c).toR_finds 1 t X ((RDat.override_finds _ rfl t X).mp h)
  exact before0_1_of m (datB m (fun n => PhiS c (S c n)) c) rfl (fun _ => rfl) t d
theorem after_1 (c : Dev nD) (t : Fin cfg0.N) (Y) : (rdat m R8 R9 S c).after 1 t Y (iblk m c 1 t) := by
  show (datB m (fun n => PhiS c (S c n)) c).toR.after 1 t Y (iblk m c 1 t)
  exact rfl
theorem finds_2 (c : Dev nD) (t : Fin cfg0.N) (X) (h : (rdat m R8 R9 S c).Finds 2 t X) : X = iblk m c 2 t := by
  obtain ⟨d, rfl⟩ := (datB m (fun n => PhiS c (S c n)) c).toR_finds 2 t X ((RDat.override_finds _ rfl t X).mp h)
  exact before0_2_of m (datB m (fun n => PhiS c (S c n)) c) rfl (fun _ => rfl) t d
theorem after_2 (c : Dev nD) (t : Fin cfg0.N) (Y) : (rdat m R8 R9 S c).after 2 t Y (iblk m c 2 t) := by
  show (datB m (fun n => PhiS c (S c n)) c).toR.after 2 t Y (iblk m c 2 t)
  exact rfl
theorem finds_3 (c : Dev nD) (t : Fin cfg0.N) (X) (h : (rdat m R8 R9 S c).Finds 3 t X) : X = iblk m c 3 t := by
  obtain ⟨d, rfl⟩ := (datB m (fun n => PhiS c (S c n)) c).toR_finds 3 t X ((RDat.override_finds _ rfl t X).mp h)
  exact before0_3_of m (datB m (fun n => PhiS c (S c n)) c) rfl (fun _ => rfl) t d
theorem after_3 (c : Dev nD) (t : Fin cfg0.N) (Y) : (rdat m R8 R9 S c).after 3 t Y (iblk m c 3 t) := by
  show (datB m (fun n => PhiS c (S c n)) c).toR.after 3 t Y (iblk m c 3 t)
  exact rfl
theorem finds_4 (c : Dev nD) (t : Fin cfg0.N) (X) (h : (rdat m R8 R9 S c).Finds 4 t X) : X = iblk m c 4 t := by
  obtain ⟨d, rfl⟩ := (datB m (fun n => PhiS c (S c n)) c).toR_finds 4 t X ((RDat.override_finds _ rfl t X).mp h)
  exact before0_4_of m (datB m (fun n => PhiS c (S c n)) c) rfl (fun _ => rfl) t d
theorem after_4 (c : Dev nD) (t : Fin cfg0.N) (Y) : (rdat m R8 R9 S c).after 4 t Y (iblk m c 4 t) := by
  show (datB m (fun n => PhiS c (S c n)) c).toR.after 4 t Y (iblk m c 4 t)
  exact rfl
theorem finds_5 (c : Dev nD) (t : Fin cfg0.N) (X) (h : (rdat m R8 R9 S c).Finds 5 t X) : X = iblk m c 5 t := by
  obtain ⟨d, rfl⟩ := (datB m (fun n => PhiS c (S c n)) c).toR_finds 5 t X ((RDat.override_finds _ rfl t X).mp h)
  exact before0_5_of m (datB m (fun n => PhiS c (S c n)) c) rfl (fun _ => rfl) t d
theorem after_5 (c : Dev nD) (t : Fin cfg0.N) (Y) : (rdat m R8 R9 S c).after 5 t Y (iblk m c 5 t) := by
  show (datB m (fun n => PhiS c (S c n)) c).toR.after 5 t Y (iblk m c 5 t)
  exact rfl
theorem finds_6 (c : Dev nD) (t : Fin cfg0.N) (X) (h : (rdat m R8 R9 S c).Finds 6 t X) : X = iblk m c 6 t := by
  obtain ⟨d, rfl⟩ := (datB m (fun n => PhiS c (S c n)) c).toR_finds 6 t X ((RDat.override_finds _ rfl t X).mp h)
  exact before0_6_of m (datB m (fun n => PhiS c (S c n)) c) rfl (fun _ => rfl) t d
theorem after_6 (c : Dev nD) (t : Fin cfg0.N) (Y) : (rdat m R8 R9 S c).after 6 t Y (iblk m c 6 t) := by
  show (datB m (fun n => PhiS c (S c n)) c).toR.after 6 t Y (iblk m c 6 t)
  exact rfl
theorem finds_7 (c : Dev nD) (t : Fin cfg0.N) (X) (h : (rdat m R8 R9 S c).Finds 7 t X) : X = iblk m c 7 t := by
  obtain ⟨d, rfl⟩ := (datB m (fun n => PhiS c (S c n)) c).toR_finds 7 t X ((RDat.override_finds _ rfl t X).mp h)
  exact before0_7_of m (datB m (fun n => PhiS c (S c n)) c) rfl (fun _ => rfl) t d
theorem after_7 (c : Dev nD) (t : Fin cfg0.N) (Y) : (rdat m R8 R9 S c).after 7 t Y (iblk m c 7 t) := by
  show (datB m (fun n => PhiS c (S c n)) c).toR.after 7 t Y (iblk m c 7 t)
  exact rfl

/-- What the body is to establish at a point: from the inputs' blocks, anything in the outputs' buffers and scratch contents of
    which `S` holds, it ends with the inputs' blocks in place, outputs satisfying `R8` and `R9`, and scratch satisfying the next `S`. -/
def StepOK (c : Dev nD) (t : Fin cfg0.N) : Prop :=
  ∀ (x10 x11 : B8 F) (x12 : Bh F) (x13 : Bd F) (K : PUnit → sProp 𝕄), S c t.castSucc x12 x13 →
    iprop(owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare x10 ∗ owns (c : Thread nD τ) (win0_9.stage (cfg0.slots t 9)) fullShare x11
      ∗ owns (c : Thread nD τ) scM0 fullShare x12 ∗ owns (c : Thread nD τ) scM1 fullShare x13
      ∗ (∀ y10 : B8 F, ∀ y11 : B8 F, ∀ y12 : Bh F, ∀ y13 : Bd F, (⌜R8 c t y10 ∧ R9 c t y11 ∧ S c t.succ y12 y13⌝ ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare y10 ∗ owns (c : Thread nD τ) (win0_9.stage (cfg0.slots t 9)) fullShare y11
      ∗ owns (c : Thread nD τ) scM0 fullShare y12 ∗ owns (c : Thread nD τ) scM1 fullShare y13) -∗ K ()))
    ⊢ wp frame (wpE (defs₀ (F := F)) Variants.none c none) Set.univ (bodyAt0 t) K

theorem defs₀_row (t : Fin cfg0.N) :
    defs₀ (F := F) .tc cfg0.body (cfg0.bodyArgs t (cfg0.slots t)) = bodyAt0 t := by
  unfold defs₀; rw [Defs.onTc_tc]

/-- The library's body obligation from `StepOK` at every point. -/
theorem body_obligation (c : Dev nD) (hstep : ∀ t, StepOK m R8 R9 S c t) :
    (rdat m R8 R9 S c).BodyObligation (defs₀ (F := F)) Variants.none () Set.univ := by
  intro t Y hY
  rw [defs₀_row, bigSep_W0]
  simp only [bigSep_W0]
  rw [finds_0 m R8 R9 S c t _ (hY 0)]
  rw [finds_1 m R8 R9 S c t _ (hY 1)]
  rw [finds_2 m R8 R9 S c t _ (hY 2)]
  rw [finds_3 m R8 R9 S c t _ (hY 3)]
  rw [finds_4 m R8 R9 S c t _ (hY 4)]
  rw [finds_5 m R8 R9 S c t _ (hY 5)]
  rw [finds_6 m R8 R9 S c t _ (hY 6)]
  rw [finds_7 m R8 R9 S c t _ (hY 7)]
  rw [show (rdat m R8 R9 S c).Φ t.castSucc = PhiS c (S c t.castSucc) from rfl, show (rdat m R8 R9 S c).Φ t.succ = PhiS c (S c t.succ) from rfl]
  unfold PhiS
  iintro ⟨⟨⟨%x12, %x13, %hS, HS0, HS1⟩, Hg⟩, Ho, H0, H1, H2, H3, H4, H5, H6, H7, H8, H9⟩
  iapply (hstep t _ _ x12 x13 _ hS)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iintro %y10 %y11 %y12 %y13 ⟨%hR, H0, H1, H2, H3, H4, H5, H6, H7, H8, H9, HS0, HS1⟩
  isplitl [HS0 HS1 Hg]
  · isplitl [HS0 HS1]
    · iexists y12; iexists y13
      isplitr; · ipureintro; exact hR.2.2
      isplitl [HS0]; · iexact HS0
      iexact HS1
    iexact Hg
  isplitl [Ho]; · iexact Ho
  isplitl [H0]
  · iexists _; isplitr; swap; · iexact H0
    ipureintro; exact after_0 m R8 R9 S c t _
  isplitl [H1]
  · iexists _; isplitr; swap; · iexact H1
    ipureintro; exact after_1 m R8 R9 S c t _
  isplitl [H2]
  · iexists _; isplitr; swap; · iexact H2
    ipureintro; exact after_2 m R8 R9 S c t _
  isplitl [H3]
  · iexists _; isplitr; swap; · iexact H3
    ipureintro; exact after_3 m R8 R9 S c t _
  isplitl [H4]
  · iexists _; isplitr; swap; · iexact H4
    ipureintro; exact after_4 m R8 R9 S c t _
  isplitl [H5]
  · iexists _; isplitr; swap; · iexact H5
    ipureintro; exact after_5 m R8 R9 S c t _
  isplitl [H6]
  · iexists _; isplitr; swap; · iexact H6
    ipureintro; exact after_6 m R8 R9 S c t _
  isplitl [H7]
  · iexists _; isplitr; swap; · iexact H7
    ipureintro; exact after_7 m R8 R9 S c t _
  isplitl [H8]
  · iexists _; isplitr; swap; · iexact H8
    ipureintro; exact hR.1
  iexists _; isplitr; swap; · iexact H9
  ipureintro; exact hR.2.1

set_option backward.isDefEq.respectTransparency.types false in
set_option maxHeartbeats 800000 in
/-- THE LAUNCH: every array ends at contents that the relational data allow, and every semaphore counter at zero. -/
theorem run_main (hstep : ∀ c t, StepOK m R8 R9 S c t) (hS0 : ∀ c x12 x13, S c 0 x12 x13) :
    θ_run defs (onTc (τ := τ) (main (F := F))) (s₀ m ρ) (fun r => (RDat.FramePost cfg0 (rdat m R8 R9 S) (V m)) r ∧ r.2.sem = fun _ => 0) :=
  RDat.θ_run_frame_track cfgs (0 : Fin 1) launch0 defs₀ Variants.none (Q' := _) (rdat m R8 R9 S) m ρ main
    (hbody := fun c => body_obligation m R8 R9 S c (hstep c)) (hshare := fun c => (rdat m R8 R9 S c).share_full fun _ => rfl)
    (howed := fun _ _ => rfl) (V := V m) (hmain := hmain m Variants.none) (hA := fun _ _ => rfl)
    (hin := fun c => by
      rw [PhiA0_eq, show (rdat m R8 R9 S c).Φ 0 = PhiS c (S c 0) from rfl]; unfold PhiS
      iintro ⟨⟨⟨%x12, H0⟩, ⟨%x13, H1⟩⟩, Hg⟩
      isplitl [H0 H1]
      · iexists x12; iexists x13
        isplitr; · ipureintro; exact hS0 c x12 x13
        isplitl [H0]; · iexact H0
        iexact H1
      iexact Hg)
    (hout := fun c => by
      rw [PhiA0_eq, show (rdat m R8 R9 S c).Φ (Fin.last cfg0.N) = PhiS c (S c (Fin.last cfg0.N)) from rfl]; unfold PhiS
      iintro ⟨⟨%x12, %x13, -, H0, H1⟩, Hg⟩
      isplitl [H0 H1]
      · isplitl [H0]; · iexists x12; iexact H0
        iexists x13; iexact H1
      iexact Hg)

/-- The argument arrays end unchanged, off the launch's post. -/
theorem args_unchanged (r : PUnit × MemSt nD τ sig (Elt F)) (h : RDat.FramePost cfg0 (rdat m R8 R9 S) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    (h.arr_in c 2 rfl).trans (V_main_arg4 m c),
    (h.arr_in c 3 rfl).trans (V_main_arg5 m c),
    ((h c).2 main_arg6 (Pipeline.mem_restRefs_of main_arg6 (by decide) (by decide))).trans (V_main_arg6 m c),
    (h.arr_in c 4 rfl).trans (V_main_arg7 m c),
    (h.arr_in c 5 rfl).trans (V_main_arg8 m c),
    ((h c).2 main_arg9 (Pipeline.mem_restRefs_of main_arg9 (by decide) (by decide))).trans (V_main_arg9 m c),
    (h.arr_in c 7 rfl).trans (V_main_arg10 m c)⟩

end Cert.ProjectIdeal.Gen

end
-- ==== Proof.ProjectPure.lean ====
/- What one call of the projection kernel's body leaves in its two outputs and in its scratch, on the extended reals: in every
   row below the expert's count, the scaled product of the hidden codes by the second weights, and the sum of the two scaled products
   of the gradient codes by the two halves of the first weights; in the scratch, the expert's two blocks of codes. -/
module

public import proofs.«01_k».proof.Proof.ProjectIdealRun
public import proofs.«01_k».proof.Proof.Gen.ProjectIdeal.Skeleton
public import Idealize.ShloMosaic.Lib.Tactic
public import Idealize.ShloMosaic.Lib.WholeRead
public import Idealize.ShloMosaic.Lib.WordCmp
public import Idealize.ShloMosaic.Lib.Pointwise

@[expose] public section

set_option maxRecDepth 16384

noncomputable section

namespace Cert.ProjectIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The word that counts an expert's row chunks of 256, from its count of rows: the count plus 255, divided by 256 rounding down. -/
def chunks (n : BitVec 32) : BitVec 32 :=
  Scalar.select (Scalar.andi (Scalar.cmpi .ne (Scalar.subi (Scalar.extui (Scalar.cmpi .sgt (Scalar.subi (Scalar.addi n 256#32) 1#32) 0#32))
      (Scalar.extui (Scalar.cmpi .slt (Scalar.subi (Scalar.addi n 256#32) 1#32) 0#32))) 1#32)
      (Scalar.cmpi .ne (Scalar.remsi (Scalar.subi (Scalar.addi n 256#32) 1#32) 256#32) 0#32))
    (Scalar.subi (Scalar.divsi (Scalar.subi (Scalar.addi n 256#32) 1#32) 256#32) 1#32)
    (Scalar.divsi (Scalar.subi (Scalar.addi n 256#32) 1#32) 256#32)

theorem chunks_ofNat : ∀ k : Fin 721, chunks (BitVec.ofNat 32 k.val) = BitVec.ofNat 32 ((k.val + 255) / 256) := by decide +kernel

/-- A count of at most 720 rows makes this many chunks. -/
theorem chunks_eq (n : BitVec 32) (hn : n.toNat ≤ 720) : chunks n = BitVec.ofNat 32 ((n.toNat + 255) / 256) := by
  have h := chunks_ofNat ⟨n.toNat, by omega⟩
  simpa using h

/-- An output row's value: the hidden codes' row against the second weights' column, scaled. -/
def GO (x6 : Vec Ideal S1x720x1792 .fp8e4m3) (x9 : Vec Ideal S1x1792x1024 .fp8e4m3) (s : EReal) (r : Fin 720) (d : Fin 1024) : EReal :=
  (∑ k : Fin 1792, (x6 (ix3 0 r k) : EReal) * x9 (ix3 0 k d)) * s

/-- The gradient's row: the two halves of the gradient codes' row against the two halves of the first weights' row, summed and scaled. -/
def GD (x7 : Vec Ideal S1x2x720x1792 .fp8e5m2) (x8 : Vec Ideal S1x2x1024x1792 .fp8e4m3) (s : EReal) (r : Fin 720) (d : Fin 1024) : EReal :=
  ((∑ k : Fin 1792, (x7 (ix4 0 0 r k) : EReal) * x8 (ix4 0 0 d k)) + ∑ k : Fin 1792, (x7 (ix4 0 1 r k) : EReal) * x8 (ix4 0 1 d k)) * s

/-- The scratch holds the expert's blocks of codes in its first 720 rows. -/
def ScrOK (x6 : Vec Ideal S1x720x1792 .fp8e4m3) (x7 : Vec Ideal S1x2x720x1792 .fp8e5m2) (y12 : Bh Ideal) (y13 : Bd Ideal) : Prop :=
  (∀ (r : Fin 720) (k : Fin 1792), y12 (ix2 ⟨r.val, by omega⟩ k) = x6 (ix3 0 r k))
    ∧ (∀ (r : Fin 720) (k : Fin 1792), y13 (ix2 ⟨r.val, by omega⟩ ⟨k.val, by omega⟩) = x7 (ix4 0 0 r k))
    ∧ (∀ (r : Fin 720) (k : Fin 1792), y13 (ix2 ⟨r.val, by omega⟩ ⟨1792 + k.val, by omega⟩) = x7 (ix4 0 1 r k))

/-- What an output's buffer is to hold: `G` in the rows below the count `n`, if that is at most 720. -/
def RowsOK (n : BitVec 32) (G : Fin 720 → Fin 1024 → EReal) (y : B8 Ideal) : Prop :=
  n.toNat ≤ 720 → ∀ (r : Fin 720) (d : Fin 1024), r.val < n.toNat → (y (ix3 0 r d) : EReal) = G r d

theorem chunkIs (a b : BitVec 32) : Scalar.cmpi .ne (Scalar.extui (Scalar.cmpi .eq a b)) 0#32 = 1#1 ↔ a = b := by
  by_cases h : a = b
  · simp [Scalar.cmpi, Scalar.extui, IntOp.cmpi, BitVec.ofBool, h]
  · have h' : (a == b) = false := by simpa using h
    simp [Scalar.cmpi, Scalar.extui, IntOp.cmpi, BitVec.ofBool, h, h']

/-- A load from a two-dimensional buffer, read at one place. -/
theorem readAt_ix2 {κ sp N0 N1 e n0 n1} (v : View sig κ sp ⟨2, ![N0, N1]⟩ e) (f) (o0 o1 : ℕ)
    (h : ∀ a : Fin 2, (![o0, o1] : Fin 2 → ℕ) a + (![n0, n1] : Fin 2 → ℕ) a ≤ (![N0, N1] : Fin 2 → ℕ) a) (r : Fin n0) (k : Fin n1) (r' : Fin N0) (k' : Fin N1)
    (hr : r'.val = o0 + r.val) (hk : k'.val = o1 + k.val) :
    View.readAt (Elt Ideal) v (Rect.unit (s := ⟨2, ![N0, N1]⟩) ![o0, o1] ![n0, n1] h).toLoadRect f (ix2 r k) = v.read (Elt Ideal) f (ix2 r' k') := by
  refine congrArg (v.read (Elt Ideal) f) ?_
  funext a; apply Fin.ext; fin_cases a
  · simp [LoadRect.idx, hr]
  · simp [LoadRect.idx, hk]

/-- A one-element load of a vector reads the element at its offset. -/
theorem idx_unit1 {N : ℕ} (f : Fin 1 → ℕ) (h : ∀ a : Fin 1, f a + S1.size a ≤ (![N] : Fin 1 → ℕ) a) (hp) (n : Fin N) (hf : f 0 = n.val) :
    (Rect.unit (s := ⟨1, ![N]⟩) f S1.size h).toLoadRect.idx (Shape.Idx.first hp) = ix1 n := by
  funext a; apply Fin.ext; fin_cases a; simpa [LoadRect.idx, Shape.Idx.first] using hf

/-- The newest write of a list, read at a place that one axis tells apart from its rectangle. -/
theorem read_miss {κ sp s e} (v : View sig κ sp s e) (f) (off size : Fin s.rank → ℕ) (h) (w) (L : List (View.Piece (Elt Ideal) s e)) (y : s.Idx) (a : Fin s.rank)
    (hy : (y a).val < off a ∨ off a + size a ≤ (y a).val) :
    v.read (Elt Ideal) (v.writes (Elt Ideal) f (⟨Rect.unit off size h, w⟩ :: L)) y = v.read (Elt Ideal) (v.writes (Elt Ideal) f L) y :=
  View.read_writes_cons_miss_of_axis v f _ L y a (off a) (size a) rfl rfl rfl hy

/-- A list of writes whose newest four are the four column quarters of the first `M` rows, read in those rows. -/
theorem read_quarters (v : View sig .tc .vmem S1x720x1024 (.f32)) (f) (M : ℕ) (hM : M ≤ 720) (h0 h1 h2 h3)
    (w0 w1 w2 w3 : Vec Ideal ⟨3, ![1, M, 256]⟩ .f32) (G : Fin 720 → Fin 1024 → EReal)
    (g0 : ∀ (r : Fin M) (d : Fin 256), (w0 (ix3 0 r d) : EReal) = G ⟨r.val, by omega⟩ ⟨d.val, by omega⟩)
    (g1 : ∀ (r : Fin M) (d : Fin 256), (w1 (ix3 0 r d) : EReal) = G ⟨r.val, by omega⟩ ⟨256 + d.val, by omega⟩)
    (g2 : ∀ (r : Fin M) (d : Fin 256), (w2 (ix3 0 r d) : EReal) = G ⟨r.val, by omega⟩ ⟨512 + d.val, by omega⟩)
    (g3 : ∀ (r : Fin M) (d : Fin 256), (w3 (ix3 0 r d) : EReal) = G ⟨r.val, by omega⟩ ⟨768 + d.val, by omega⟩)
    (r : Fin 720) (d : Fin 1024) (hr : r.val < M) :
    (v.read (Elt Ideal) (v.writes (Elt Ideal) f [⟨Rect.unit ![0, 0, 768] ![1, M, 256] h3, w3⟩, ⟨Rect.unit ![0, 0, 512] ![1, M, 256] h2, w2⟩,
      ⟨Rect.unit ![0, 0, 256] ![1, M, 256] h1, w1⟩, ⟨Rect.unit ![0, 0, 0] ![1, M, 256] h0, w0⟩]) (ix3 0 r d) : EReal) = G r d := by
  have key : ∀ (q : ℕ) (e : Fin 256) (hd : d.val = q + e.val) (h) (w : Vec Ideal ⟨3, ![1, M, 256]⟩ .f32) (L : List (View.Piece (Elt Ideal) S1x720x1024 .f32)),
      v.read (Elt Ideal) (v.writes (Elt Ideal) f (⟨Rect.unit ![0, 0, q] ![1, M, 256] h, w⟩ :: L)) (ix3 0 r d) = w (ix3 0 ⟨r.val, hr⟩ e) := by
    intro q e hd h w L
    refine View.read_writes_cons_hit_of_coords _ _ _ _ _ _ _ fun a => ?_
    fin_cases a <;> simp [Rect.unit, hd]
  by_cases c3 : 768 ≤ d.val
  · rw [key 768 ⟨d.val - 768, by omega⟩ (by simp; omega), g3]; congr 1; apply Fin.ext; simp; omega
  refine (read_miss _ _ _ _ _ _ _ _ 2 (.inl (by simp; omega))).trans ?_
  by_cases c2 : 512 ≤ d.val
  · rw [key 512 ⟨d.val - 512, by omega⟩ (by simp; omega), g2]; congr 1; apply Fin.ext; simp; omega
  refine (read_miss _ _ _ _ _ _ _ _ 2 (.inl (by simp; omega))).trans ?_
  by_cases c1 : 256 ≤ d.val
  · rw [key 256 ⟨d.val - 256, by omega⟩ (by simp; omega), g1]; congr 1; apply Fin.ext; simp; omega
  refine (read_miss _ _ _ _ _ _ _ _ 2 (.inl (by simp; omega))).trans ?_
  rw [key 0 ⟨d.val, by omega⟩ (by simp), g0]

end Cert.ProjectIdeal.Gen

end
-- ==== Proof.ProjectSpec.lean ====
/- The two results of the projection as formulas of its arguments, on the extended reals. -/
module

public import Idealize.ShloMosaic.Lib.StableHlo
public import Idealize.ShloMosaic.PureOps
public import Idealize.ShloMosaic.Lib.Pointwise

@[expose] public section

noncomputable section

namespace Cert.Project.Spec

open Idealize.ShloMosaic

/-- The output of row `r` of expert `e`: its hidden codes against a column of the expert's second weights, with the two scales. -/
def TO (sh : Vec Ideal ⟨0, ![]⟩ .f32) (s2 : Vec Ideal ⟨1, ![8]⟩ .f32) (h : Vec Ideal ⟨3, ![8, 720, 1792]⟩ .fp8e4m3) (w2 : Vec Ideal ⟨3, ![8, 1792, 4096]⟩ .fp8e4m3)
    (e : Fin 8) (r : Fin 720) (d : Fin 4096) : EReal :=
  (∑ k : Fin 1792, (h (ix3 e r k) : EReal) * w2 (ix3 e k d)) * ((sh ix0 : EReal) * s2 (ix1 e))

/-- The input gradient of row `r` of expert `e`: both halves of its gradient codes against a row of the expert's first weights, with the two scales. -/
def TD (sd : Vec Ideal ⟨0, ![]⟩ .f32) (s1 : Vec Ideal ⟨1, ![8]⟩ .f32) (da : Vec Ideal ⟨4, ![8, 2, 720, 1792]⟩ .fp8e5m2) (w1 : Vec Ideal ⟨4, ![8, 4096, 2, 1792]⟩ .fp8e4m3)
    (e : Fin 8) (r : Fin 720) (d : Fin 4096) : EReal :=
  ((∑ k : Fin 1792, (da (ix4 e 0 r k) : EReal) * w1 (ix4 e d 0 k)) + ∑ k : Fin 1792, (da (ix4 e 1 r k) : EReal) * w1 (ix4 e d 1 k))
    * ((sd ix0 : EReal) * s1 (ix1 e))

/-- A sum over the concatenated halves is the sum of the sums over each. -/
theorem sum_halves (f : Fin 3584 → EReal) :
    ∑ k, f k = (∑ k : Fin 1792, f ⟨k.val, by omega⟩) + ∑ k : Fin 1792, f ⟨1792 + k.val, by omega⟩ :=
  Fin.sum_univ_add (a := 1792) (b := 1792) f

end Cert.Project.Spec

end
-- ==== Proof.ProjectIdealBlocks.lean ====
/- The blocks that the projection kernel reads, at an index, as places of its argument arrays; and the count of an expert's rows. -/
module

public import proofs.«01_k».proof.Proof.ProjectPure
public import proofs.«01_k».proof.Proof.ProjectSpec
public import Idealize.ShloMosaic.Lib.Pipeline.ValueKit
public import Idealize.ShloMosaic.Lib.Claim
public import Idealize.ShloMosaic.Lib.Tactic

@[expose] public section

set_option maxRecDepth 16384

noncomputable section

namespace Cert.ProjectIdeal.Gen

open Cert.Project.Spec
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- The blocks' places: the expert is the point's number divided by four, the column tile is the remainder. -/
theorem idx_facts : ∀ t : Fin cfg0.N, win0_0.index t = ![0] ∧ win0_1.index t = ![0] ∧ win0_2.index t = ![0] ∧ win0_3.index t = ![0]
    ∧ win0_4.index t = ![t.val / 4, 0, 0] ∧ win0_5.index t = ![t.val / 4, 0, 0, 0] ∧ win0_6.index t = ![t.val / 4, 0, t.val % 4, 0]
    ∧ win0_7.index t = ![t.val / 4, 0, t.val % 4] ∧ win0_8.index t = ![t.val / 4, 0, t.val % 4] ∧ win0_9.index t = ![t.val / 4, 0, t.val % 4] := by
  decide +kernel

/-- The whole small operands are staged at every point. -/
theorem iblk_small (c : Dev nD) (t : Fin cfg0.N) :
    (∀ x, iblk m c 0 t x = V m c main_v7 x) ∧ (∀ x, iblk m c 1 t x = V m c main_v12 x) ∧ (∀ x, iblk m c 2 t x = m ((c : Thread nD τ).loc main_arg4) x)
    ∧ (∀ x, iblk m c 3 t x = m ((c : Thread nD τ).loc main_arg5) x) := by
  obtain ⟨e0, e1, e2, e3, -⟩ := idx_facts t
  refine ⟨fun x => ?_, fun x => ?_, fun x => ?_, fun x => ?_⟩
  · blk_ext [iblk, e0]
  · blk_ext [iblk, e1]
  · blk_ext [iblk, V, e2]
  · blk_ext [iblk, V, e3]

theorem iblk_4 (c : Dev nD) (t : Fin cfg0.N) (e : Fin 8) (he : e.val = t.val / 4) (r : Fin 720) (k : Fin 1792) :
    iblk m c 4 t (ix3 0 r k) = m ((c : Thread nD τ).loc main_arg7) (ix3 e r k) := by
  obtain ⟨-, -, -, -, e4, -⟩ := idx_facts t
  blk_ext [iblk, V, e4]

theorem iblk_5 (c : Dev nD) (t : Fin cfg0.N) (e : Fin 8) (he : e.val = t.val / 4) (q : Fin 2) (r : Fin 720) (k : Fin 1792) :
    iblk m c 5 t (ix4 0 q r k) = m ((c : Thread nD τ).loc main_arg8) (ix4 e q r k) := by
  obtain ⟨-, -, -, -, -, e5, -⟩ := idx_facts t
  blk_ext [iblk, V, e5]

/-- The transposed first weights. -/
theorem V_v0 (c : Dev nD) (e : Fin 8) (q : Fin 2) (d : Fin 4096) (k : Fin 1792) :
    V m c main_v0 (ix4 e q d k) = m ((c : Thread nD τ).loc main_arg9) (ix4 e d q k) := by
  simp only [V, hostOps0, hostOps0_1, hostOps0_2, List.flatten_cons, List.flatten_nil, List.append_nil, List.cons_append, List.nil_append]
  entry_read; pointwise

theorem iblk_6 (c : Dev nD) (t : Fin cfg0.N) (e : Fin 8) (he : e.val = t.val / 4) (q : Fin 2) (d : Fin 1024) (d' : Fin 4096) (hd : d'.val = t.val % 4 * 1024 + d.val)
    (k : Fin 1792) : iblk m c 6 t (ix4 0 q d k) = m ((c : Thread nD τ).loc main_arg9) (ix4 e d' q k) := by
  obtain ⟨-, -, -, -, -, -, e6, -⟩ := idx_facts t
  rw [← V_v0 m]
  blk_ext [iblk, e6]

theorem iblk_7 (c : Dev nD) (t : Fin cfg0.N) (e : Fin 8) (he : e.val = t.val / 4) (d : Fin 1024) (d' : Fin 4096) (hd : d'.val = t.val % 4 * 1024 + d.val)
    (k : Fin 1792) : iblk m c 7 t (ix3 0 k d) = m ((c : Thread nD τ).loc main_arg10) (ix3 e k d') := by
  obtain ⟨-, -, -, -, -, -, -, e7, -⟩ := idx_facts t
  blk_ext [iblk, V, e7]

/-- Four one-element pieces joined: the second and the fourth. -/
theorem concat4 (w : (k : Fin 4) → Vec Ideal S1 .f32) :
    concatenate S4 0 [⟨S1, w 0⟩, ⟨S1, w 1⟩, ⟨S1, w 2⟩, ⟨S1, w 3⟩] concatenates_S1_S1_S1_S1_S4_d0 (ix1 1) = w 1 (ix1 0)
    ∧ concatenate S4 0 [⟨S1, w 0⟩, ⟨S1, w 1⟩, ⟨S1, w 2⟩, ⟨S1, w 3⟩] concatenates_S1_S1_S1_S1_S4_d0 (ix1 3) = w 3 (ix1 0) := by
  constructor
  · concat_tiles i h
    all_goals first
      | exact absurd h (by decide)
      | exact congrArg _ (by funext b; apply Fin.ext; have := i b |>.isLt; fin_cases b; simp_all)
  · concat_tiles i h
    all_goals first
      | exact absurd h (by decide)
      | exact congrArg _ (by funext b; apply Fin.ext; have := i b |>.isLt; fin_cases b; simp_all)

/-- The stack of the four scales, at place 1. -/
theorem stack_1 (G : Valuation τ sig (Elt Ideal)) (h h') :
    (StableHlo.nary ![main_v8, main_v9, main_v10, main_v11] main_v12 (fun u => (concatenate S4 0 [⟨S1, (u 0 : (⟨S1, .f32⟩ : BufTy).Contents (Elt Ideal))⟩, ⟨S1, (u 1 : (⟨S1, .f32⟩ : BufTy).Contents (Elt Ideal))⟩, ⟨S1, (u 2 : (⟨S1, .f32⟩ : BufTy).Contents (Elt Ideal))⟩, ⟨S1, (u 3 : (⟨S1, .f32⟩ : BufTy).Contents (Elt Ideal))⟩] concatenates_S1_S1_S1_S1_S4_d0 : (⟨S4, .f32⟩ : BufTy).Contents (Elt Ideal))) h h').result G (Proc.devRef .tc main_v12) (ix1 1)
      = G (Proc.devRef .tc main_v9) (ix1 0) :=
  (congrFun (StableHlo.nary_result _ _ _ _ _ _) _).trans
    (concat4 (fun k : Fin 4 => (![G (Proc.devRef .tc main_v8), G (Proc.devRef .tc main_v9), G (Proc.devRef .tc main_v10), G (Proc.devRef .tc main_v11)] : Fin 4 → Vec Ideal S1 .f32) k)).1

/-- The stack of the four scales, at place 3. -/
theorem stack_3 (G : Valuation τ sig (Elt Ideal)) (h h') :
    (StableHlo.nary ![main_v8, main_v9, main_v10, main_v11] main_v12 (fun u => (concatenate S4 0 [⟨S1, (u 0 : (⟨S1, .f32⟩ : BufTy).Contents (Elt Ideal))⟩, ⟨S1, (u 1 : (⟨S1, .f32⟩ : BufTy).Contents (Elt Ideal))⟩, ⟨S1, (u 2 : (⟨S1, .f32⟩ : BufTy).Contents (Elt Ideal))⟩, ⟨S1, (u 3 : (⟨S1, .f32⟩ : BufTy).Contents (Elt Ideal))⟩] concatenates_S1_S1_S1_S1_S4_d0 : (⟨S4, .f32⟩ : BufTy).Contents (Elt Ideal))) h h').result G (Proc.devRef .tc main_v12) (ix1 3)
      = G (Proc.devRef .tc main_v11) (ix1 0) :=
  (congrFun (StableHlo.nary_result _ _ _ _ _ _) _).trans
    (concat4 (fun k : Fin 4 => (![G (Proc.devRef .tc main_v8), G (Proc.devRef .tc main_v9), G (Proc.devRef .tc main_v10), G (Proc.devRef .tc main_v11)] : Fin 4 → Vec Ideal S1 .f32) k)).2

set_option maxHeartbeats 1600000 in
/-- The hidden codes' scale among the stacked scales. -/
theorem V_v12_1 (c : Dev nD) : V m c main_v12 (ix1 1) = m ((c : Thread nD τ).loc main_arg1) ix0 := by
  simp only [V, hostOps0, hostOps0_1, hostOps0_2, List.flatten_cons, List.flatten_nil, List.append_nil, List.cons_append, List.nil_append]
  simp only [StableHlo.after_cons, StableHlo.after_nil]
  refine (stack_1 _ _ _).trans ?_
  after_results_simp
  pointwise

set_option maxHeartbeats 1600000 in
/-- The gradient codes' scale among the stacked scales. -/
theorem V_v12_3 (c : Dev nD) : V m c main_v12 (ix1 3) = m ((c : Thread nD τ).loc main_arg3) ix0 := by
  simp only [V, hostOps0, hostOps0_1, hostOps0_2, List.flatten_cons, List.flatten_nil, List.append_nil, List.cons_append, List.nil_append]
  simp only [StableHlo.after_cons, StableHlo.after_nil]
  refine (stack_3 _ _ _).trans ?_
  after_results_simp
  pointwise

/-- What the body's output formula is at a point. -/
theorem GO_eq (c : Dev nD) (t : Fin cfg0.N) (e : Fin 8) (he : e.val = t.val / 4) (r : Fin 720) (d : Fin 1024) (d' : Fin 4096) (hd : d'.val = t.val % 4 * 1024 + d.val) :
    GO (iblk m c 4 t) (iblk m c 7 t) (HMul.hMul (α := EReal) (β := EReal) (γ := EReal) (iblk m c 1 t (ix1 1)) (iblk m c 3 t (ix1 e))) r d
      = TO (m ((c : Thread nD τ).loc main_arg1)) (m ((c : Thread nD τ).loc main_arg5)) (m ((c : Thread nD τ).loc main_arg7)) (m ((c : Thread nD τ).loc main_arg10)) e r d' := by
  obtain ⟨-, h1, -, h3⟩ := iblk_small m c t
  unfold GO TO
  rw [h1, h3, V_v12_1 m c]
  simp only [iblk_4 m c t e he, iblk_7 m c t e he d d' hd]

theorem GD_eq (c : Dev nD) (t : Fin cfg0.N) (e : Fin 8) (he : e.val = t.val / 4) (r : Fin 720) (d : Fin 1024) (d' : Fin 4096) (hd : d'.val = t.val % 4 * 1024 + d.val) :
    GD (iblk m c 5 t) (iblk m c 6 t) (HMul.hMul (α := EReal) (β := EReal) (γ := EReal) (iblk m c 1 t (ix1 3)) (iblk m c 2 t (ix1 e))) r d
      = TD (m ((c : Thread nD τ).loc main_arg3)) (m ((c : Thread nD τ).loc main_arg4)) (m ((c : Thread nD τ).loc main_arg8)) (m ((c : Thread nD τ).loc main_arg9)) e r d' := by
  obtain ⟨-, h1, h2, -⟩ := iblk_small m c t
  unfold GD TD
  rw [h1, h2, V_v12_3 m c]
  simp only [iblk_5 m c t e he, iblk_6 m c t e he _ d d' hd]

/-- A row's contribution to its expert's count: its number plus one if it holds a token, else nothing. -/
def rowWord (s : BitVec 32) (r : ℕ) : BitVec 32 := if s.slt 4608#32 then BitVec.ofNat 32 r + 1#32 else 0#32

theorem rowWord_eq (s : BitVec 32) (r : ℕ) :
    Scalar.select (IntOp.cmpi .slt s 4608#32) (IntOp.addi (BitVec.ofNat 32 r) 1#32) 0#32 = rowWord s r := by
  unfold rowWord
  cases h : s.slt 4608#32 <;> simp [Scalar.select, IntOp.cmpi, IntOp.addi, h]

theorem rowWord_le (s : BitVec 32) (r : Fin 720) : (rowWord s r.val).toNat ≤ 720 := by
  unfold rowWord; split
  · have : r.val < 720 := r.isLt
    rw [BitVec.toNat_add]; simp; omega
  · simp

theorem rowWord_of (s : BitVec 32) (r : Fin 720) (h : s.slt 4608#32 = true) : (rowWord s r.val).toNat = r.val + 1 := by
  unfold rowWord; rw [if_pos h]
  have : r.val < 720 := r.isLt
  rw [BitVec.toNat_add]; simp; omega

/-- The signed maximum of words that are at most 720. -/
theorem maxsi_small (a b : BitVec 32) (ha : a.toNat ≤ 720) (hb : b.toNat ≤ 720) : (IntOp.maxsi a b).toNat = max a.toNat b.toNat := by
  have h1 : a.toInt = a.toNat := BitVec.toInt_eq_toNat_of_lt (by omega)
  have h2 : b.toInt = b.toNat := BitVec.toInt_eq_toNat_of_lt (by omega)
  unfold IntOp.maxsi
  rw [BitVec.slt_eq_decide, h1, h2]
  by_cases h : b.toNat < a.toNat
  · rw [if_pos (by simpa using h)]; omega
  · rw [if_neg (by simpa using h)]; omega

/-- The signed maximum with the least word. -/
theorem maxsi_least (a : BitVec 32) (ha : a.toNat ≤ 720) : IntOp.maxsi a 2147483648#32 = a := by
  have h1 : a.toInt = a.toNat := BitVec.toInt_eq_toNat_of_lt (by omega)
  unfold IntOp.maxsi
  rw [BitVec.slt_eq_decide, h1, if_pos]
  simp; omega

/-- The greatest of some words that are at most 720, folded from the least word. -/
theorem fold_maxsi [Std.Commutative (IntOp.maxsi (w := 32))] [Std.Associative (IntOp.maxsi (w := 32))] {ι : Type} (S : Finset ι) (f : ι → BitVec 32) (hf : ∀ x, (f x).toNat ≤ 720) :
    S = ∅ ∨ ((S.fold IntOp.maxsi 2147483648#32 f).toNat ≤ 720 ∧ ∀ x ∈ S, (f x).toNat ≤ (S.fold IntOp.maxsi 2147483648#32 f).toNat) := by
  classical
  induction S using Finset.induction_on with
  | empty => exact .inl rfl
  | insert a S ha ih =>
    right
    rw [Finset.fold_insert ha]
    rcases ih with rfl | ⟨h1, h2⟩
    · rw [Finset.fold_empty, maxsi_least _ (hf a)]
      exact ⟨hf a, fun x hx => by simp at hx; rw [hx]⟩
    · rw [maxsi_small _ _ (hf a) h1]
      refine ⟨max_le (hf a) h1, fun x hx => ?_⟩
      rcases Finset.mem_insert.mp hx with rfl | hx
      · exact le_max_left _ _
      · exact (h2 x hx).trans (le_max_right _ _)

set_option maxHeartbeats 1600000 in
/-- An expert's count of rows: at most 720, and above the number of every row that holds a token. -/
theorem count (c : Dev nD) (e : Fin 8) :
    (V m c main_v7 (ix1 e) : BitVec 32).toNat ≤ 720 ∧ ∀ r : Fin 720, BitVec.slt (m ((c : Thread nD τ).loc main_arg6) (ix2 e r)) 4608#32 = true → r.val < (V m c main_v7 (ix1 e) : BitVec 32).toNat := by
  simp only [V, hostOps0, hostOps0_1, hostOps0_2, List.flatten_cons, List.flatten_nil, List.append_nil, List.cons_append, List.nil_append]
  entry_read
  pointwise
  rw [Finset.fold_congr (g := fun x : Fin 720 => rowWord (m ((c : Thread nD τ).loc main_arg6) (ix2 e x)) x.val) (fun x _ => by
    refine Eq.trans (b := select (cmpi CmpIPredicate.slt (m ((c : Thread nD τ).loc main_arg6)) (broadcastInDim S8x720 ![] bcast_S_S8x720 (constantI S_ 32 4608#32)))
      (addi (iotaInDim S8x720 32 1) (broadcastInDim S8x720 ![] bcast_S_S8x720 (constantI S_ 32 1#32)))
      (broadcastInDim S8x720 ![] bcast_S_S8x720 (constantI S_ 32 0#32)) (ix2 e x)) rfl ?_
    pointwise
    exact rowWord_eq _ _)]
  rcases fold_maxsi Finset.univ (fun x : Fin 720 => rowWord (m ((c : Thread nD τ).loc main_arg6) (ix2 e x)) x.val) (fun x => rowWord_le _ x) with h | ⟨h1, h2⟩
  · exact absurd h (Finset.univ_nonempty.ne_empty)
  · refine ⟨h1, fun r hr => ?_⟩
    have := h2 r (Finset.mem_univ r)
    rw [rowWord_of _ r hr] at this
    omega

end Cert.ProjectIdeal.Gen

end
-- ==== Proof.ProjectBody.lean ====
/- What one run of the projection kernel's body does over the extended reals: on a grid step whose rows hold tokens it stores the two
   scaled products of its blocks into the two output windows, and it leaves every other buffer as it was. -/
module

public import proofs.«01_k».proof.Proof.ProjectIdealRun
public import proofs.«01_k».proof.Proof.Gen.ProjectIdeal.Skeleton
public import proofs.«01_k».proof.Proof.ProjectPure
public import Idealize.ShloMosaic.Lib.Tactic
public import Idealize.ShloMosaic.Lib.WholeRead
public import Idealize.ShloMosaic.Lib.WordCmp
public import Idealize.ShloMosaic.Lib.Pointwise

@[expose] public section

set_option maxRecDepth 16384

noncomputable section

namespace Cert.ProjectIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 3200000 in
/-- One call of the body. The scratch holds the expert's blocks already, unless this is the expert's first tile. -/
theorem body_value (c : Dev nD) (i : grid0.Coords) (e : Fin 8) (he : e.val = (i 0).val) (arg2 : Memref sig .tc .smem S8 .i32) (harg2 : arg2.IsWhole) (arg3 : Memref sig .tc .smem S4 .f32) (harg3 : arg3.IsWhole) (arg4 : Memref sig .tc .smem S8 .f32) (harg4 : arg4.IsWhole) (arg5 : Memref sig .tc .smem S8 .f32) (harg5 : arg5.IsWhole) (arg6 : Memref sig .tc .vmem S1x720x1792 .fp8e4m3) (harg6 : arg6.IsWhole) (arg7 : Memref sig .tc .vmem S1x2x720x1792 .fp8e5m2) (harg7 : arg7.IsWhole) (arg8 : Memref sig .tc .vmem S1x2x1024x1792 .fp8e4m3) (harg8 : arg8.IsWhole) (arg9 : Memref sig .tc .vmem S1x1792x1024 .fp8e4m3) (harg9 : arg9.IsWhole) (arg10 : Memref sig .tc .vmem S1x720x1024 .f32) (harg10 : arg10.IsWhole) (arg11 : Memref sig .tc .vmem S1x720x1024 .f32) (harg11 : arg11.IsWhole) (arg12 : Memref sig .tc .vmem S736x1792 .fp8e4m3) (harg12 : arg12.IsWhole) (arg13 : Memref sig .tc .vmem S736x3584 .fp8e5m2) (harg13 : arg13.IsWhole) (x2 : Vec Ideal S8 .i32) (x3 : Vec Ideal S4 .f32) (x4 : Vec Ideal S8 .f32) (x5 : Vec Ideal S8 .f32) (x6 : Vec Ideal S1x720x1792 .fp8e4m3) (x7 : Vec Ideal S1x2x720x1792 .fp8e5m2) (x8 : Vec Ideal S1x2x1024x1792 .fp8e4m3) (x9 : Vec Ideal S1x1792x1024 .fp8e4m3) (x10 x11 : Vec Ideal S1x720x1024 .f32) (x12 : Vec Ideal S736x1792 .fp8e4m3) (x13 : Vec Ideal S736x3584 .fp8e5m2) (E : Set ℕ) (K : PUnit → sProp 𝕄)
    (hscr : (i 1).val ≠ 0 → ScrOK x6 x7 x12 x13) :
   iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∀ y10 : B8 Ideal, ∀ y11 : B8 Ideal, ∀ y12 : Bh Ideal, ∀ y13 : Bd Ideal, (owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare y10 ∗ owns (c : Thread nD τ) arg11 fullShare y11 ∗ owns (c : Thread nD τ) arg12 fullShare y12 ∗ owns (c : Thread nD τ) arg13 fullShare y13
      ∗ ⌜ScrOK x6 x7 y12 y13 ∧ RowsOK (x2 (ix1 e)) (GO x6 x9 (x3 (ix1 1) * x5 (ix1 e))) y10 ∧ RowsOK (x2 (ix1 e)) (GD x7 x8 (x3 (ix1 3) * x4 (ix1 e))) y11⌝) -∗ K ()))
    ⊢ wp frame (wpE (defs₀ (F := Ideal)) Variants.none c none) E (cc0_project i arg2 harg2 arg3 harg3 arg4 harg4 arg5 harg5 arg6 harg6 arg7 harg7 arg8 harg8 arg9 harg9 arg10 harg10 arg11 harg11 arg12 harg12 arg13 harg13) K := by
  simp only [cc0_project_eq_skeleton]; unfold cc0_project_skel
  simp only [k0_part10_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec
  sl_step
  iapply Hk $$ %(arg10.view.read (Elt Ideal) _) %(arg11.view.read (Elt Ideal) _) %(arg12.view.read (Elt Ideal) _) %(arg13.view.read (Elt Ideal) _)
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  ipureintro
  have hi1 : (i 1).val < 4 := (i 1).isLt
  have hi0 : (i 0).val < 8 := (i 0).isLt
  have hoff : k0_off1 i 0 = e.val := by
    simp [k0_off1, Scalar.indexCast, ← he]; omega
  have hr1 : body_value.sl.r_1 c arg3 harg3 x3 = x3 (ix1 1) := by
    unfold body_value.sl.r_1; rw [harg3.readAt_unread]; exact congrArg x3 (idx_unit1 _ _ _ 1 rfl)
  have hr3 : body_value.sl.r_3 c arg3 harg3 x3 = x3 (ix1 3) := by
    unfold body_value.sl.r_3; rw [harg3.readAt_unread]; exact congrArg x3 (idx_unit1 _ _ _ 3 rfl)
  have hr2 : body_value.sl.r_2 c i arg5 harg5 x5 = x5 (ix1 e) := by
    unfold body_value.sl.r_2; rw [harg5.readAt_unread]; exact congrArg x5 (idx_unit1 _ _ _ e hoff)
  have hr4 : body_value.sl.r_4 c i arg4 harg4 x4 = x4 (ix1 e) := by
    unfold body_value.sl.r_4; rw [harg4.readAt_unread]; exact congrArg x4 (idx_unit1 _ _ _ e hoff)
  have hr : body_value.sl.r c i arg2 harg2 x2 = x2 (ix1 e) := by
    unfold body_value.sl.r; rw [harg2.readAt_unread]; exact congrArg x2 (idx_unit1 _ _ _ e hoff)
  have hr13 : body_value.sl.r_13 c i arg3 harg3 arg5 harg5 x3 x5 = (x3 (ix1 1) * x5 (ix1 e) : EReal) := by
    unfold body_value.sl.r_13; exact congrArg₂ (fun a b : EReal => a * b) hr1 hr2
  have hr14 : body_value.sl.r_14 c i arg3 harg3 arg4 harg4 x3 x4 = (x3 (ix1 3) * x4 (ix1 e) : EReal) := by
    unfold body_value.sl.r_14; exact congrArg₂ (fun a b : EReal => a * b) hr3 hr4
  have hr18 : ∀ (d : Fin 256) (k : Fin 1792), body_value.sl.r_18 c arg8 harg8 x8 (ix2 d k) = x8 (ix4 0 0 ⟨768 + d.val, by omega⟩ k) := by
    intro d k; unfold body_value.sl.r_18; pointwise [k0_pay33, harg8.readAt_unread]
  have hv130 : ∀ (d : Fin 256) (k : Fin 1792), body_value.sl.v130 c arg8 harg8 x8 (ix4 0 0 d k) = x8 (ix4 0 1 ⟨768 + d.val, by omega⟩ k) := by
    intro d k; unfold body_value.sl.v130; pointwise [harg8.readAt_unread]
  have hv23 : body_value.sl.v23 c i arg2 harg2 x2 = chunks (x2 (ix1 e)) := by
    rw [← hr]; rfl
  have hv2 : body_value.sl.v2 i = 1#1 ↔ (i 1).val = 0 := by
    unfold body_value.sl.v2 body_value.sl.v1 body_value.sl.v0
    rw [chunkIs]; constructor
    · intro h; have := congrArg BitVec.toNat h; simp at this; omega
    · intro h; rw [h]
  have s12 : ∀ (r : Fin 736) (hr : r.val < 720) (k : Fin 1792), arg12.view.read (Elt Ideal)
      (if hc : body_value.sl.v2 i = 1#1 then arg12.view.writes (Elt Ideal) (harg12.unread x12) [⟨Rect.unit ![0, 0] S720x1792.size inb_S736x1792_S720x1792_0_0,
            k0_pay34 (View.readAt (Elt Ideal) arg6.view (Rect.unit (s := S1x720x1792) ![0, 0, 0] S1x720x1792.size inb_S1x720x1792_S1x720x1792_0_0_0).toLoadRect (harg6.unread x6))⟩]
        else harg12.unread x12) (ix2 r k) = x6 (ix3 0 ⟨r.val, hr⟩ k) := by
    intro r hr k
    split
    · rw [View.read_writes_cons_hit_of_coords (x := ix2 ⟨r.val, hr⟩ k)]
      · pointwise [k0_pay34, harg6.readAt_unread]
      · intro a; fin_cases a <;> simp [Rect.unit]
    · rename_i hc
      rw [harg12.read_unread]
      exact (hscr fun h => hc (hv2.2 h)).1 ⟨r.val, hr⟩ k
  have s13 : ∀ (f13) (_ : f13 = if hc : body_value.sl.v2 i = 1#1 then
        arg13.view.writes (Elt Ideal) (harg13.unread x13)
        [⟨Rect.unit ![0, 1792] S720x1792.size inb_S736x3584_S720x1792_0_1792,
            k0_pay36 (View.readAt (Elt Ideal) arg7.view (Rect.unit (s := S1x2x720x1792) ![0, 1, 0, 0] S1x1x720x1792.size inb_S1x2x720x1792_S1x1x720x1792_0_1_0_0).toLoadRect (harg7.unread x7))⟩,
          ⟨Rect.unit ![0, 0] S720x1792.size inb_S736x3584_S720x1792_0_0,
            k0_pay35 (View.readAt (Elt Ideal) arg7.view (Rect.unit (s := S1x2x720x1792) ![0, 0, 0, 0] S1x1x720x1792.size inb_S1x2x720x1792_S1x1x720x1792_0_0_0_0).toLoadRect (harg7.unread x7))⟩]
        else harg13.unread x13) (r : Fin 736) (hr : r.val < 720) (k : Fin 1792),
      arg13.view.read (Elt Ideal) f13 (ix2 r ⟨k.val, by omega⟩) = x7 (ix4 0 0 ⟨r.val, hr⟩ k)
        ∧ arg13.view.read (Elt Ideal) f13 (ix2 r ⟨1792 + k.val, by omega⟩) = x7 (ix4 0 1 ⟨r.val, hr⟩ k) := by
    rintro _ rfl r hr k
    split
    · constructor
      · refine (read_miss _ _ _ _ _ _ _ _ 1 (.inl (by simp))).trans ?_
        rw [View.read_writes_cons_hit_of_coords (x := ix2 ⟨r.val, hr⟩ k)]
        · pointwise [k0_pay35, harg7.readAt_unread]
        · intro a; fin_cases a <;> simp [Rect.unit]
      · rw [View.read_writes_cons_hit_of_coords (x := ix2 ⟨r.val, hr⟩ k)]
        · pointwise [k0_pay36, harg7.readAt_unread]
        · intro a; fin_cases a <;> simp [Rect.unit]
    · rename_i hc
      rw [harg13.read_unread]
      have h := hscr fun h => hc (hv2.2 h)
      exact ⟨h.2.1 ⟨r.val, hr⟩ k, h.2.2 ⟨r.val, hr⟩ k⟩
  have hv44 : ∀ (r : Fin 256) (k : Fin 1792), body_value.sl.v44 c i arg6 harg6 arg12 harg12 x6 x12 (ix2 r k) = x6 (ix3 0 ⟨r.val, by omega⟩ k) := by
    intro r k
    unfold body_value.sl.v44
    refine (readAt_ix2 _ _ _ _ _ r k ⟨r.val, by omega⟩ k (by simp) (by simp)).trans ?_
    exact (s12 ⟨r.val, by omega⟩ (show r.val < 720 by omega) k)
  have hv50 : ∀ (r : Fin 256) (k : Fin 1792), body_value.sl.v50 c i arg7 harg7 arg13 harg13 x7 x13 (ix2 r k) = x7 (ix4 0 0 ⟨r.val, by omega⟩ k) := by
    intro r k
    unfold body_value.sl.v50
    refine (readAt_ix2 _ _ _ _ _ r k ⟨r.val, by omega⟩ ⟨k.val, by omega⟩ (by simp) (by simp)).trans ?_
    exact (s13 _ rfl ⟨r.val, by omega⟩ (show r.val < 720 by omega) k).1
  have hv54 : ∀ (r : Fin 256) (k : Fin 1792), body_value.sl.v54 c i arg7 harg7 arg13 harg13 x7 x13 (ix2 r k) = x7 (ix4 0 1 ⟨r.val, by omega⟩ k) := by
    intro r k
    unfold body_value.sl.v54
    refine (readAt_ix2 _ _ _ _ _ r k ⟨r.val, by omega⟩ ⟨1792 + k.val, by omega⟩ (by simp) (by simp)).trans ?_
    exact (s13 _ rfl ⟨r.val, by omega⟩ (show r.val < 720 by omega) k).2
  have hv44_1 : ∀ (r : Fin 512) (k : Fin 1792), body_value.sl.v44_1 c i arg6 harg6 arg12 harg12 x6 x12 (ix2 r k) = x6 (ix3 0 ⟨r.val, by omega⟩ k) := by
    intro r k
    unfold body_value.sl.v44_1
    refine (readAt_ix2 _ _ _ _ _ r k ⟨r.val, by omega⟩ k (by simp) (by simp)).trans ?_
    exact (s12 ⟨r.val, by omega⟩ (show r.val < 720 by omega) k)
  have hv50_1 : ∀ (r : Fin 512) (k : Fin 1792), body_value.sl.v50_1 c i arg7 harg7 arg13 harg13 x7 x13 (ix2 r k) = x7 (ix4 0 0 ⟨r.val, by omega⟩ k) := by
    intro r k
    unfold body_value.sl.v50_1
    refine (readAt_ix2 _ _ _ _ _ r k ⟨r.val, by omega⟩ ⟨k.val, by omega⟩ (by simp) (by simp)).trans ?_
    exact (s13 _ rfl ⟨r.val, by omega⟩ (show r.val < 720 by omega) k).1
  have hv54_1 : ∀ (r : Fin 512) (k : Fin 1792), body_value.sl.v54_1 c i arg7 harg7 arg13 harg13 x7 x13 (ix2 r k) = x7 (ix4 0 1 ⟨r.val, by omega⟩ k) := by
    intro r k
    unfold body_value.sl.v54_1
    refine (readAt_ix2 _ _ _ _ _ r k ⟨r.val, by omega⟩ ⟨1792 + k.val, by omega⟩ (by simp) (by simp)).trans ?_
    exact (s13 _ rfl ⟨r.val, by omega⟩ (show r.val < 720 by omega) k).2
  have hv44_2 : ∀ (r : Fin 736) (hr : r.val < 720) (k : Fin 1792), body_value.sl.v44_2 c i arg6 harg6 arg12 harg12 x6 x12 (ix2 r k) = x6 (ix3 0 ⟨r.val, hr⟩ k) := by
    intro r hr k
    unfold body_value.sl.v44_2
    refine (readAt_ix2 _ _ _ _ _ r k ⟨r.val, by omega⟩ k (by simp) (by simp)).trans ?_
    exact (s12 ⟨r.val, by omega⟩ (show r.val < 720 by omega) k)
  have hv50_2 : ∀ (r : Fin 736) (hr : r.val < 720) (k : Fin 1792), body_value.sl.v50_2 c i arg7 harg7 arg13 harg13 x7 x13 (ix2 r k) = x7 (ix4 0 0 ⟨r.val, hr⟩ k) := by
    intro r hr k
    unfold body_value.sl.v50_2
    refine (readAt_ix2 _ _ _ _ _ r k ⟨r.val, by omega⟩ ⟨k.val, by omega⟩ (by simp) (by simp)).trans ?_
    exact (s13 _ rfl ⟨r.val, by omega⟩ (show r.val < 720 by omega) k).1
  have hv54_2 : ∀ (r : Fin 736) (hr : r.val < 720) (k : Fin 1792), body_value.sl.v54_2 c i arg7 harg7 arg13 harg13 x7 x13 (ix2 r k) = x7 (ix4 0 1 ⟨r.val, hr⟩ k) := by
    intro r hr k
    unfold body_value.sl.v54_2
    refine (readAt_ix2 _ _ _ _ _ r k ⟨r.val, by omega⟩ ⟨1792 + k.val, by omega⟩ (by simp) (by simp)).trans ?_
    exact (s13 _ rfl ⟨r.val, by omega⟩ (show r.val < 720 by omega) k).2
  have hv129 : ∀ (r : Fin 736) (hr : r.val < 720) (k : Fin 1792), body_value.sl.v129 c i arg7 harg7 arg13 harg13 x7 x13 (ix2 r k) = x7 (ix4 0 1 ⟨r.val, hr⟩ k) := by
    intro r hr k
    unfold body_value.sl.v129
    refine (readAt_ix2 _ _ _ _ _ r k ⟨r.val, by omega⟩ ⟨1792 + k.val, by omega⟩ (by simp) (by simp)).trans ?_
    exact (s13 _ rfl ⟨r.val, by omega⟩ (show r.val < 720 by omega) k).2
  have hN : ∀ b : ℕ, b < 4 → (x2 (ix1 e)).toNat ≤ 720 → (Scalar.cmpi .ne (Scalar.extui (Scalar.cmpi .eq (body_value.sl.v23 c i arg2 harg2 x2) (BitVec.ofNat 32 b))) 0#32 = 1#1
      ↔ ((x2 (ix1 e)).toNat + 255) / 256 = b) := by
    intro b hb hn
    rw [chunkIs, hv23, chunks_eq _ hn]
    constructor
    · intro h; have := congrArg BitVec.toNat h; simp at this; omega
    · intro h; rw [h]
  have hN1 : (x2 (ix1 e)).toNat ≤ 720 → (body_value.sl.v34 c i arg2 harg2 x2 = 1#1 ↔ ((x2 (ix1 e)).toNat + 255) / 256 = 1) := hN 1 (by norm_num)
  have hN2 : (x2 (ix1 e)).toNat ≤ 720 → (body_value.sl.v37 c i arg2 harg2 x2 = 1#1 ↔ ((x2 (ix1 e)).toNat + 255) / 256 = 2) := hN 2 (by norm_num)
  have hN3 := hN 3 (by norm_num)
  refine ⟨⟨fun r k => s12 _ r.isLt k, fun r k => (s13 _ rfl _ r.isLt k).1, fun r k => (s13 _ rfl _ r.isLt k).2⟩, ?_, ?_⟩
  · intro hn r d hr'
    have hz := mt (hN 0 (by norm_num) hn).1 (by omega)
    obtain h1 | h1 | h1 : ((x2 (ix1 e)).toNat + 255) / 256 = 1 ∨ ((x2 (ix1 e)).toNat + 255) / 256 = 2 ∨ ((x2 (ix1 e)).toNat + 255) / 256 = 3 := by omega
    · rw [dif_neg hz, dif_neg (mt (hN3 hn).1 (by omega)), dif_neg (mt (hN2 hn).1 (by omega)), dif_pos ((hN1 hn).2 h1)]
      refine (read_miss _ _ _ _ _ _ _ _ 1 (.inl (by simp; omega))).trans ?_
      refine read_quarters _ _ 256 (by norm_num) _ _ _ _ _ _ _ _ _ ?_ ?_ ?_ ?_ r d (by omega) <;> intro r d
      · pointwise [k0_pay5, k0_pay37, GO, k0_pay7, k0_pay10, k0_pay13, hr1, hr2, harg9.readAt_unread, hv44]
      · unfold body_value.sl.r_5; unfold body_value.sl.cst_41; pointwise [k0_pay8, k0_pay37, GO, k0_pay7, k0_pay10, k0_pay13, hr1, hr2, harg9.readAt_unread, hv44]
      · unfold body_value.sl.r_6; pointwise [k0_pay11, k0_pay37, GO, k0_pay7, k0_pay10, k0_pay13, hr1, hr2, harg9.readAt_unread, hv44]
      · unfold body_value.sl.r_7; pointwise [k0_pay39, k0_pay37, GO, k0_pay7, k0_pay10, k0_pay13, hr1, hr2, harg9.readAt_unread, hv44]
    · rw [dif_neg hz, dif_neg (mt (hN3 hn).1 (by omega)), dif_pos ((hN2 hn).2 h1)]
      refine (read_miss _ _ _ _ _ _ _ _ 1 (.inl (by simp; omega))).trans ?_
      refine read_quarters _ _ 512 (by norm_num) _ _ _ _ _ _ _ _ _ ?_ ?_ ?_ ?_ r d (by omega) <;> intro r d
      · pointwise [k0_pay15, k0_pay37, GO, k0_pay17, k0_pay20, k0_pay23, hr1, hr2, harg9.readAt_unread, hv44_1]
      · unfold body_value.sl.r_9; unfold body_value.sl.cst_41_1; pointwise [k0_pay18, k0_pay37, GO, k0_pay17, k0_pay20, k0_pay23, hr1, hr2, harg9.readAt_unread, hv44_1]
      · unfold body_value.sl.r_10; pointwise [k0_pay21, k0_pay37, GO, k0_pay17, k0_pay20, k0_pay23, hr1, hr2, harg9.readAt_unread, hv44_1]
      · unfold body_value.sl.r_11; pointwise [k0_pay43, k0_pay37, GO, k0_pay17, k0_pay20, k0_pay23, hr1, hr2, harg9.readAt_unread, hv44_1]
    · rw [dif_neg hz, dif_pos ((hN3 hn).2 h1)]
      refine read_quarters _ _ 720 (by norm_num) _ _ _ _ _ _ _ _ _ ?_ ?_ ?_ ?_ r d (by omega) <;> intro r d
      · pointwise [k0_pay25, k0_pay37, GO, hr13, k0_pay29, k0_pay32, hr1, hr2, harg9.readAt_unread, hv44_2 ⟨r.val, by omega⟩ r.isLt]
      · unfold body_value.sl.r_15; pointwise [k0_pay27, k0_pay37, GO, hr13, k0_pay29, k0_pay32, hr1, hr2, harg9.readAt_unread, hv44_2 ⟨r.val, by omega⟩ r.isLt]
      · unfold body_value.sl.r_16; pointwise [k0_pay30, k0_pay37, GO, hr13, k0_pay29, k0_pay32, hr1, hr2, harg9.readAt_unread, hv44_2 ⟨r.val, by omega⟩ r.isLt]
      · unfold body_value.sl.r_17; pointwise [k0_pay1, k0_pay37, GO, hr13, k0_pay29, k0_pay32, hr1, hr2, harg9.readAt_unread, hv44_2 ⟨r.val, by omega⟩ r.isLt]
  · intro hn r d hr'
    have hz := mt (hN 0 (by norm_num) hn).1 (by omega)
    obtain h1 | h1 | h1 : ((x2 (ix1 e)).toNat + 255) / 256 = 1 ∨ ((x2 (ix1 e)).toNat + 255) / 256 = 2 ∨ ((x2 (ix1 e)).toNat + 255) / 256 = 3 := by omega
    · rw [dif_neg hz, dif_neg (mt (hN3 hn).1 (by omega)), dif_neg (mt (hN2 hn).1 (by omega)), dif_pos ((hN1 hn).2 h1)]
      refine (read_miss _ _ _ _ _ _ _ _ 1 (.inl (by simp; omega))).trans ?_
      refine read_quarters _ _ 256 (by norm_num) _ _ _ _ _ _ _ _ _ ?_ ?_ ?_ ?_ r d (by omega) <;> intro r d
      · pointwise [k0_pay6, k0_pay38, GD, k0_pay14, hr3, hr4, harg8.readAt_unread, hv50, hv54]
      · pointwise [k0_pay9, k0_pay38, GD, k0_pay14, hr3, hr4, harg8.readAt_unread, hv50, hv54]
      · pointwise [k0_pay12, k0_pay38, GD, k0_pay14, hr3, hr4, harg8.readAt_unread, hv50, hv54]
      · unfold body_value.sl.r_8; pointwise [k0_pay40, k0_pay38, GD, k0_pay14, hr3, hr4, harg8.readAt_unread, hv50, hv54]
    · rw [dif_neg hz, dif_neg (mt (hN3 hn).1 (by omega)), dif_pos ((hN2 hn).2 h1)]
      refine (read_miss _ _ _ _ _ _ _ _ 1 (.inl (by simp; omega))).trans ?_
      refine read_quarters _ _ 512 (by norm_num) _ _ _ _ _ _ _ _ _ ?_ ?_ ?_ ?_ r d (by omega) <;> intro r d
      · pointwise [k0_pay16, k0_pay38, GD, k0_pay24, hr3, hr4, harg8.readAt_unread, hv50_1, hv54_1]
      · pointwise [k0_pay19, k0_pay38, GD, k0_pay24, hr3, hr4, harg8.readAt_unread, hv50_1, hv54_1]
      · pointwise [k0_pay22, k0_pay38, GD, k0_pay24, hr3, hr4, harg8.readAt_unread, hv50_1, hv54_1]
      · unfold body_value.sl.r_12; pointwise [k0_pay44, k0_pay38, GD, k0_pay24, hr3, hr4, harg8.readAt_unread, hv50_1, hv54_1]
    · rw [dif_neg hz, dif_pos ((hN3 hn).2 h1)]
      refine read_quarters _ _ 720 (by norm_num) _ _ _ _ _ _ _ _ _ ?_ ?_ ?_ ?_ r d (by omega) <;> intro r d
      · pointwise [k0_pay26, k0_pay38, GD, hr14, hr18, hv130, hr3, hr4, harg8.readAt_unread, hv50_2 ⟨r.val, by omega⟩ r.isLt, hv54_2 ⟨r.val, by omega⟩ r.isLt, hv129 ⟨r.val, by omega⟩ r.isLt]
      · pointwise [k0_pay28, k0_pay38, GD, hr14, hr18, hv130, hr3, hr4, harg8.readAt_unread, hv50_2 ⟨r.val, by omega⟩ r.isLt, hv54_2 ⟨r.val, by omega⟩ r.isLt, hv129 ⟨r.val, by omega⟩ r.isLt]
      · pointwise [k0_pay31, k0_pay38, GD, hr14, hr18, hv130, hr3, hr4, harg8.readAt_unread, hv50_2 ⟨r.val, by omega⟩ r.isLt, hv54_2 ⟨r.val, by omega⟩ r.isLt, hv129 ⟨r.val, by omega⟩ r.isLt]
      · pointwise [k0_pay2, k0_pay38, GD, hr14, hr18, hv130, hr3, hr4, harg8.readAt_unread, hv50_2 ⟨r.val, by omega⟩ r.isLt, hv54_2 ⟨r.val, by omega⟩ r.isLt, hv129 ⟨r.val, by omega⟩ r.isLt]

end Cert.ProjectIdeal.Gen

end
-- ==== Proof.ProjectIdealValue.lean ====
/- The two arrays of the projection kernel after its run, in the rows that hold tokens: the formulas of the specification. -/
module

public import proofs.«01_k».proof.Proof.ProjectIdealBlocks
public import proofs.«01_k».proof.Proof.ProjectBody
public import Idealize.ShloMosaic.Lib.Pipeline.ArrRel
public import Idealize.ShloMosaic.Lib.Pipeline.ValueKit

@[expose] public section

set_option maxRecDepth 16384

noncomputable section

namespace Cert.ProjectIdeal.Gen

open Cert.Project.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

local notation "𝕄" => MT nD τ sig Unit (Elt Ideal) ℕ (UR sig nD τ) ℕ

variable (m : (ℓ : Loc nD τ sig) → Buf (Elt Ideal) ℓ) (ρ : Dev nD → PrngReg)

/-- The output formula over the launch contents. -/
abbrev TOm (c : Dev nD) (e : Fin 8) (r : Fin 720) (d : Fin 4096) : EReal :=
  TO (m ((c : Thread nD τ).loc main_arg1)) (m ((c : Thread nD τ).loc main_arg5)) (m ((c : Thread nD τ).loc main_arg7)) (m ((c : Thread nD τ).loc main_arg10)) e r d
/-- The input gradient formula over the launch contents. -/
abbrev TDm (c : Dev nD) (e : Fin 8) (r : Fin 720) (d : Fin 4096) : EReal :=
  TD (m ((c : Thread nD τ).loc main_arg3)) (m ((c : Thread nD τ).loc main_arg4)) (m ((c : Thread nD τ).loc main_arg8)) (m ((c : Thread nD τ).loc main_arg9)) e r d

theorem N32 (t : Fin cfg0.N) : t.val < 32 := lt_of_lt_of_eq t.isLt (by decide)

/-- A point's expert. -/
def eOf (t : Fin cfg0.N) : Fin 8 := ⟨t.val / 4, by have := N32 t; omega⟩
/-- A point's column in the whole array. -/
def dOf (t : Fin cfg0.N) (d : Fin 1024) : Fin 4096 := ⟨t.val % 4 * 1024 + d.val, by omega⟩

/-- What a point leaves in the output's buffer. -/
def R8 (c : Dev nD) (t : Fin cfg0.N) (y : B8 Ideal) : Prop := RowsOK (V m c main_v7 (ix1 (eOf t))) (fun r d => TOm m c (eOf t) r (dOf t d)) y
/-- What a point leaves in the gradient's buffer. -/
def R9 (c : Dev nD) (t : Fin cfg0.N) (y : B8 Ideal) : Prop := RowsOK (V m c main_v7 (ix1 (eOf t))) (fun r d => TDm m c (eOf t) r (dOf t d)) y
/-- What the scratch holds before a point that is not its expert's first: the expert's codes. -/
def Scr (c : Dev nD) (n : Fin (cfg0.N + 1)) (y12 : Bh Ideal) (y13 : Bd Ideal) : Prop :=
  n.val % 4 ≠ 0 → ∀ t : Fin cfg0.N, t.val / 4 = n.val / 4 → ScrOK (iblk m c 4 t) (iblk m c 5 t) y12 y13

/-- Points of one expert stage the same codes. -/
theorem scr_congr (c : Dev nD) (t t' : Fin cfg0.N) (h : t.val / 4 = t'.val / 4) (y12 : Bh Ideal) (y13 : Bd Ideal) (hs : ScrOK (iblk m c 4 t) (iblk m c 5 t) y12 y13) :
    ScrOK (iblk m c 4 t') (iblk m c 5 t') y12 y13 := by
  obtain ⟨h1, h2, h3⟩ := hs
  refine ⟨fun r k => (h1 r k).trans ?_, fun r k => (h2 r k).trans ?_, fun r k => (h3 r k).trans ?_⟩
  · exact (iblk_4 m c t (eOf t) rfl r k).trans (iblk_4 m c t' (eOf t) h r k).symm
  · exact (iblk_5 m c t (eOf t) rfl 0 r k).trans (iblk_5 m c t' (eOf t) h 0 r k).symm
  · exact (iblk_5 m c t (eOf t) rfl 1 r k).trans (iblk_5 m c t' (eOf t) h 1 r k).symm

theorem coord0 (t : Fin cfg0.N) : (grid0.coords t 0).val = t.val / 4 := by
  revert t; decide +kernel
theorem coord1 (t : Fin cfg0.N) : (grid0.coords t 1).val = t.val % 4 := by
  revert t; decide +kernel

theorem rows_congr {n n' : BitVec 32} {G G' : Fin 720 → Fin 1024 → EReal} {y : B8 Ideal} (hn : n = n') (hG : ∀ r d, G r d = G' r d) (h : RowsOK n G y) : RowsOK n' G' y := by
  subst hn
  exact fun hle r d hr => (h hle r d hr).trans (hG r d)

set_option maxHeartbeats 1600000 in
/-- The body establishes all that at every point. -/
theorem stepOK (c : Dev nD) (t : Fin cfg0.N) : StepOK m (R8 m) (R9 m) (Scr m) c t := by
  intro x10 x11 x12 x13 K hS
  unfold bodyAt0
  iintro ⟨H0, H1, H2, H3, H4, H5, H6, H7, H8, H9, HS0, HS1, Hk⟩
  iapply (body_value c (grid0.coords t) (eOf t) (coord0 t).symm _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) x10 x11 x12 x13 Set.univ K
    (fun h => hS (by rw [coord1] at h; exact h) t rfl))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iintro %y10 %y11 %y12 %y13 ⟨H0, H1, H2, H3, H4, H5, H6, H7, H8, H9, HS0, HS1, %hR⟩
  iapply Hk $$ %y10 %y11 %y12 %y13
  isplitr
  · ipureintro
    obtain ⟨hs, h8, h9⟩ := hR
    obtain ⟨hn, -⟩ := iblk_small m c t
    refine ⟨rows_congr (hn _) (fun r d => GO_eq m c t (eOf t) rfl r d (dOf t d) rfl) h8, rows_congr (hn _) (fun r d => GD_eq m c t (eOf t) rfl r d (dOf t d) rfl) h9, ?_⟩
    intro hne t' ht'
    refine scr_congr m c t t' ?_ _ _ hs
    simp only [Fin.val_succ] at hne ht'
    omega
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  iexact HS1

/-- A row holds a token. -/
def Holds (c : Dev nD) (e : Fin 8) (r : Fin 720) : Prop := BitVec.slt (m ((c : Thread nD τ).loc main_arg6) (ix2 e r)) 4608#32 = true

/-- The run: in the rows that hold tokens the two arrays are the formulas, and the arguments end unchanged. -/
theorem run_value : θ_run defs (onTc (τ := τ) (main (F := Ideal))) (s₀ m ρ) (fun r => (∀ c : Dev nD,
      (∀ i : S8x720x4096.Idx, Holds m c (i 0) (i 1) → (r.2.mem ((c : Thread nD τ).loc main_v13_0) i : EReal) = TOm m c (i 0) (i 1) (i 2))
      ∧ (∀ i : S8x720x4096.Idx, Holds m c (i 0) (i 1) → (r.2.mem ((c : Thread nD τ).loc main_v13_1) i : EReal) = TDm m c (i 0) (i 1) (i 2)))
      ∧ RDat.FramePost cfg0 (rdat m (R8 m) (R9 m) (Scr m)) (V m) r ∧ r.2.sem = fun _ => 0) := by
  refine (θ_run defs _ _).mono (fun r h => ⟨fun c => ?_, h⟩) (run_main m ρ (R8 m) (R9 m) (Scr m) (stepOK m) (fun c x12 x13 h => absurd rfl h))
  obtain ⟨after, hL, hA⟩ := RDat.FramePost.exists_exact h.1 c
  constructor
  · intro i
    rw [show r.2.mem ((c : Thread nD τ).loc main_v13_0) = _ from hA 8]
    revert i
    refine ((rdat m (R8 m) (R9 m) (Scr m) c).withAfter after).arrAt_forall_of_covers 8 (fun (i : S8x720x4096.Idx) v => Holds m c (i 0) (i 1) → (v : EReal) = TOm m c (i 0) (i 1) (i 2)) (by decide +kernel) fun t hf (y : S1x720x1024.Idx) => ?_
    obtain ⟨z, r', d, rfl⟩ : ∃ (z : Fin 1) (r' : Fin 720) (d : Fin 1024), y = ix3 z r' d := ⟨_, _, _, eq_ix3 y⟩
    obtain ⟨Y, -, h8⟩ := hL 8 t hf
    have h8' : R8 m c t (after 8 t) := h8
    have hy : ((cfg0.win 8).blk t).view.emb (ix3 z r' d) = ix3 (eOf t) r' (dOf t d) := by
      have hz : z.val = 0 := by omega
      have he : (eOf t).val = t.val / 4 := rfl
      have hd : (dOf t d).val = t.val % 4 * 1024 + d.val := rfl
      blk_ext [(idx_facts t).2.2.2.2.2.2.2.2.1, he, hd]
    rw [hy]
    intro hh
    have hz : z = 0 := Subsingleton.elim _ _
    subst hz
    exact h8' (count m c (eOf t)).1 r' d ((count m c (eOf t)).2 r' hh)
  · intro i
    rw [show r.2.mem ((c : Thread nD τ).loc main_v13_1) = _ from hA 9]
    revert i
    refine ((rdat m (R8 m) (R9 m) (Scr m) c).withAfter after).arrAt_forall_of_covers 9 (fun (i : S8x720x4096.Idx) v => Holds m c (i 0) (i 1) → (v : EReal) = TDm m c (i 0) (i 1) (i 2)) (by decide +kernel) fun t hf (y : S1x720x1024.Idx) => ?_
    obtain ⟨z, r', d, rfl⟩ : ∃ (z : Fin 1) (r' : Fin 720) (d : Fin 1024), y = ix3 z r' d := ⟨_, _, _, eq_ix3 y⟩
    obtain ⟨Y, -, h9⟩ := hL 9 t hf
    have h9' : R9 m c t (after 9 t) := h9
    have hy : ((cfg0.win 9).blk t).view.emb (ix3 z r' d) = ix3 (eOf t) r' (dOf t d) := by
      have hz : z.val = 0 := by omega
      have he : (eOf t).val = t.val / 4 := rfl
      have hd : (dOf t d).val = t.val % 4 * 1024 + d.val := rfl
      blk_ext [(idx_facts t).2.2.2.2.2.2.2.2.2, he, hd]
    rw [hy]
    intro hh
    have hz : z = 0 := Subsingleton.elim _ _
    subst hz
    exact h9' (count m c (eOf t)).1 r' d ((count m c (eOf t)).2 r' hh)

end Cert.ProjectIdeal.Gen

end
-- ==== Proof.ProjectRefValue.lean ====
/- The reference's two arrays after its run, at an index: the formulas of the specification. -/
module

public import proofs.«01_k».proof.Proof.ProjectSpec
public import proofs.«01_k».proof.Proof.Gen.ProjectRefIdeal.Value
public import proofs.«01_k».proof.Proof.Gen.ProjectRefIdeal.Skeleton
public import Idealize.ShloMosaic.Lib.Pipeline.ValueKit
public import Idealize.ShloMosaic.Lib.Claim
public import Idealize.ShloMosaic.Lib.Tactic

@[expose] public section

set_option maxRecDepth 16384

noncomputable section

namespace Cert.ProjectRefIdeal.Value

open Cert.ProjectRefIdeal Cert.ProjectRefIdeal.Gen Cert.Project.Spec
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- The one grid point's block is the whole array, for every window. -/
theorem idx0 : ∀ t : Fin cfg0.N, win0_0.index t = (fun _ => 0) ∧ win0_1.index t = (fun _ => 0) ∧ win0_2.index t = (fun _ => 0) ∧ win0_3.index t = (fun _ => 0)
    ∧ win0_4.index t = (fun _ => 0) ∧ win0_5.index t = (fun _ => 0) ∧ win0_6.index t = (fun _ => 0) ∧ win0_7.index t = (fun _ => 0) := by
  decide +kernel

/-- The output scale that the host computes, at an expert. -/
theorem V_v5 (c : Dev nD) (e : Fin 8) : (V m c main_v5 (ix3 e 0 0) : EReal) = HMul.hMul (α := EReal) (β := EReal) (γ := EReal) (m ((c : Thread nD τ).loc main_arg1) ix0) (m ((c : Thread nD τ).loc main_arg5) (ix1 e)) := by
  entry_read; pointwise

/-- The gradient scale that the host computes, at an expert. -/
theorem V_v8 (c : Dev nD) (e : Fin 8) : (V m c main_v8 (ix3 e 0 0) : EReal) = HMul.hMul (α := EReal) (β := EReal) (γ := EReal) (m ((c : Thread nD τ).loc main_arg3) ix0) (m ((c : Thread nD τ).loc main_arg4) (ix1 e)) := by
  entry_read; pointwise

/-- The gradient codes with their two halves side by side. -/
theorem V_v1 (c : Dev nD) (e : Fin 8) (r : Fin 720) (q : Fin 2) (k : Fin 1792) (kk : Fin 3584) (hk : kk.val = q.val * 1792 + k.val) :
    V m c main_v1 (ix3 e r kk) = m ((c : Thread nD τ).loc main_arg8) (ix4 e q r k) := by
  entry_read; pointwise; blk_ext!

/-- The first weights with their two halves side by side. -/
theorem V_v2 (c : Dev nD) (e : Fin 8) (d : Fin 4096) (q : Fin 2) (k : Fin 1792) (kk : Fin 3584) (hk : kk.val = q.val * 1792 + k.val) :
    V m c main_v2 (ix3 e d kk) = m ((c : Thread nD τ).loc main_arg9) (ix4 e d q k) := by
  entry_read; pointwise; blk_ext!

/-- A block read is the array read at the same place. -/
theorem iblk_at (c : Dev nD) (t : Fin cfg0.N) :
    (∀ x, iblk m c 0 t x = V m c main_arg7 x) ∧ (∀ x, iblk m c 1 t x = V m c main_v1 x) ∧ (∀ x, iblk m c 2 t x = V m c main_v2 x)
    ∧ (∀ x, iblk m c 3 t x = V m c main_arg10 x) ∧ (∀ x, iblk m c 4 t x = V m c main_v5 x) ∧ (∀ x, iblk m c 5 t x = V m c main_v8 x) := by
  obtain ⟨e0, e1, e2, e3, e4, e5, -⟩ := idx0 t
  refine ⟨fun x => ?_, fun x => ?_, fun x => ?_, fun x => ?_, fun x => ?_, fun x => ?_⟩
  · blk_ext [iblk, e0]
  · blk_ext [iblk, e1]
  · blk_ext [iblk, e2]
  · blk_ext [iblk, e3]
  · blk_ext [iblk, e4]
  · blk_ext [iblk, e5]

/-- The reference's output array. -/
theorem arr6 (c : Dev nD) (i : S8x720x4096.Idx) :
    ((dats m 0 c).arrAt 6 cfg0.N i : EReal) = TO (m ((c : Thread nD τ).loc main_arg1)) (m ((c : Thread nD τ).loc main_arg5)) (m ((c : Thread nD τ).loc main_arg7)) (m ((c : Thread nD τ).loc main_arg10)) (i 0) (i 1) (i 2) := by
  suffices h : (dats m 0 c).arrAt 6 cfg0.N = fun i : S8x720x4096.Idx => TO (m ((c : Thread nD τ).loc main_arg1)) (m ((c : Thread nD τ).loc main_arg5)) (m ((c : Thread nD τ).loc main_arg7)) (m ((c : Thread nD τ).loc main_arg10)) (i 0) (i 1) (i 2) from congrFun h i
  refine (dats m 0 c).arrAt_eq_of_covers 6 _ (by decide +kernel) fun t hf (y : S8x720x4096.Idx) => ?_
  have hy : ((cfg0.win 6).blk t).view.emb y = y := by
    blk_ext [(idx0 t).2.2.2.2.2.2.1]
  rw [hy]; clear hy
  obtain ⟨e, r, d, rfl⟩ : ∃ (e : Fin 8) (r : Fin 720) (d : Fin 4096), y = ix3 e r d := ⟨_, _, _, eq_ix3 y⟩
  blk_simp; rw [after0_6]; frame_out
  pointwise [k0_pay1, TO]
  obtain ⟨h0, h1, h2, h3, h4, h5⟩ := iblk_at m c t
  rw [h4, V_v5]
  simp only [h0, h3, V_main_arg7, V_main_arg10]
  try rfl

set_option maxHeartbeats 1600000 in
/-- The reference's input gradient array. -/
theorem arr7 (c : Dev nD) (i : S8x720x4096.Idx) :
    ((dats m 0 c).arrAt 7 cfg0.N i : EReal) = TD (m ((c : Thread nD τ).loc main_arg3)) (m ((c : Thread nD τ).loc main_arg4)) (m ((c : Thread nD τ).loc main_arg8)) (m ((c : Thread nD τ).loc main_arg9)) (i 0) (i 1) (i 2) := by
  suffices h : (dats m 0 c).arrAt 7 cfg0.N = fun i : S8x720x4096.Idx => TD (m ((c : Thread nD τ).loc main_arg3)) (m ((c : Thread nD τ).loc main_arg4)) (m ((c : Thread nD τ).loc main_arg8)) (m ((c : Thread nD τ).loc main_arg9)) (i 0) (i 1) (i 2) from congrFun h i
  refine (dats m 0 c).arrAt_eq_of_covers 7 _ (by decide +kernel) fun t hf (y : S8x720x4096.Idx) => ?_
  have hy : ((cfg0.win 7).blk t).view.emb y = y := by
    blk_ext [(idx0 t).2.2.2.2.2.2.2]
  rw [hy]; clear hy
  obtain ⟨e, r, d, rfl⟩ : ∃ (e : Fin 8) (r : Fin 720) (d : Fin 4096), y = ix3 e r d := ⟨_, _, _, eq_ix3 y⟩
  blk_simp; rw [after0_7]; frame_out
  pointwise [k0_pay2, TD]
  obtain ⟨h0, h1, h2, h3, h4, h5⟩ := iblk_at m c t
  rw [h5, V_v8]
  refine congrArg (fun z : EReal => z * _) ((sum_halves _).trans (congrArg₂ (fun a b : EReal => a + b) (Finset.sum_congr rfl fun k _ => ?_) (Finset.sum_congr rfl fun k _ => ?_)))
  · refine congrArg₂ (fun a b : EReal => a * b) ((h1 _).trans (V_v1 m c _ _ 0 k _ ?_)) ((h2 _).trans (V_v2 m c _ _ 0 k _ ?_)) <;> simp
  · refine congrArg₂ (fun a b : EReal => a * b) ((h1 _).trans (V_v1 m c _ _ 1 k _ ?_)) ((h2 _).trans (V_v2 m c _ _ 1 k _ ?_)) <;> simp

end Cert.ProjectRefIdeal.Value

end
-- ==== Proof.ExpertsRing.lean ====
/- The write ring of the experts call: the result dw1, left in HBM, is written from the four tiles of the staging buffer, two
   copies a step, each step's copies waited for two steps later. Here: @main up to the call, the windows' blocks, the tiles and
   pieces, their splitting and joining, and the addresses of the body's accesses in the ring's terms. -/
module

public import proofs.«01_k».proof.Proof.Gen.Experts.Launch
public import proofs.«01_k».proof.Proof.Gen.Experts.Skeleton
public import proofs.«01_k».proof.Proof.Gen.Experts.Points
public import Idealize.ShloMosaic.Lib.Pipeline.FrameBody
public import Idealize.ShloMosaic.Lib.Ring
public import Idealize.ShloMosaic.Lib.Batch
public import Idealize.ShloMosaic.Lib.Ring.WriteBehind
public import Idealize.ShloMosaic.Lib.Tactic
public import Idealize.ShloMosaic.Lib.WordCmp

@[expose] public section

set_option maxRecDepth 16384

noncomputable section

namespace Cert.Experts.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! @main up to the region -/

abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! The windows' blocks -/

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

def R0 : Finset (Ref sig .tc) := {main_v13_2}

/-! The frame claim's post from the frame run's -/

theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePostR cfgs dats 0 R0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).1 2).trans (((dats 0 c).arrAt_in 2 rfl _).trans ((hA c 2).trans (V_main_arg4 m c))),
      ((h c).1 3).trans (((dats 0 c).arrAt_in 3 rfl _).trans ((hA c 3).trans (V_main_arg5 m c))),
      ((h c).2 main_arg6 (Finset.mem_sdiff.mpr ⟨Pipeline.mem_restRefs_of main_arg6 (by decide) (by decide), by decide⟩)).trans (V_main_arg6 m c),
      ((h c).1 4).trans (((dats 0 c).arrAt_in 4 rfl _).trans ((hA c 4).trans (V_main_arg7 m c))),
      ((h c).1 5).trans (((dats 0 c).arrAt_in 5 rfl _).trans ((hA c 5).trans (V_main_arg8 m c))),
      ((h c).2 main_arg9 (Finset.mem_sdiff.mpr ⟨Pipeline.mem_restRefs_of main_arg9 (by decide) (by decide), by decide⟩)).trans (V_main_arg9 m c),
      ((h c).1 7).trans (((dats 0 c).arrAt_in 7 rfl _).trans ((hA c 7).trans (V_main_arg10 m c)))⟩) h

/-! The body's branch conditions -/

abbrev cond0_0 (i : grid0.Coords) : Prop := k0_cond3 i = 1#1
theorem hcond0_0 : ∀ t : Fin cfg0.N, cond0_0 (grid0.coords t) ↔ 2 ≤ t.val :=
  (by decide +kernel : ∀ t : Fin grid0.N, cond0_0 (grid0.coords t) ↔ 2 ≤ t.val)

abbrev cond0_1 (i : grid0.Coords) : Prop := k0_cond8 i = 1#1
theorem hcond0_1 : ∀ t : Fin cfg0.N, cond0_1 (grid0.coords t) ↔ t.val % 56 = 55 :=
  (by decide +kernel : ∀ t : Fin grid0.N, cond0_1 (grid0.coords t) ↔ t.val % 56 = 55)

/-! Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem idleAt0_11_A : ∀ t : Fin cfg0.N, ¬cond0_0 (grid0.coords t) → ¬cond0_1 (grid0.coords t) → cfg0.idle 11 (grid0.coords t) = true := by decide +kernel
theorem noFlush0_11_A : ∀ t : Fin cfg0.N, ¬cond0_0 (grid0.coords t) → ¬cond0_1 (grid0.coords t) → (cfg0.win 11).flush t = false := by decide +kernel
theorem idleAt0_11_B : ∀ t : Fin cfg0.N, cond0_0 (grid0.coords t) → ¬cond0_1 (grid0.coords t) → cfg0.idle 11 (grid0.coords t) = true := by decide +kernel
theorem noFlush0_11_B : ∀ t : Fin cfg0.N, cond0_0 (grid0.coords t) → ¬cond0_1 (grid0.coords t) → (cfg0.win 11).flush t = false := by decide +kernel
theorem liveAt0_11_C : ∀ t : Fin cfg0.N, cond0_0 (grid0.coords t) → cond0_1 (grid0.coords t) → cfg0.idle 11 (grid0.coords t) = false := by decide +kernel
theorem idleAt0_12_A : ∀ t : Fin cfg0.N, ¬cond0_0 (grid0.coords t) → ¬cond0_1 (grid0.coords t) → cfg0.idle 12 (grid0.coords t) = true := by decide +kernel
theorem noFlush0_12_A : ∀ t : Fin cfg0.N, ¬cond0_0 (grid0.coords t) → ¬cond0_1 (grid0.coords t) → (cfg0.win 12).flush t = false := by decide +kernel
theorem idleAt0_12_B : ∀ t : Fin cfg0.N, cond0_0 (grid0.coords t) → ¬cond0_1 (grid0.coords t) → cfg0.idle 12 (grid0.coords t) = true := by decide +kernel
theorem noFlush0_12_B : ∀ t : Fin cfg0.N, cond0_0 (grid0.coords t) → ¬cond0_1 (grid0.coords t) → (cfg0.win 12).flush t = false := by decide +kernel
theorem liveAt0_12_C : ∀ t : Fin cfg0.N, cond0_0 (grid0.coords t) → cond0_1 (grid0.coords t) → cfg0.idle 12 (grid0.coords t) = false := by decide +kernel

/-! The kernel body on any staging memrefs: a subtype the run finds -/

abbrev VO0_8 : View sig .tc .vmem S1x720x256 .fp8e4m3 := (Memref.whole cc0_stg8_0 : Memref sig .tc .vmem S1x720x256 .fp8e4m3).view
abbrev VO0_9 : View sig .tc .vmem S1x2x720x256 .fp8e5m2 := (Memref.whole cc0_stg9_0 : Memref sig .tc .vmem S1x2x720x256 .fp8e5m2).view
abbrev VO0_10 : View sig .tc .vmem S1x256x4096 .bf16 := (Memref.whole cc0_stg10_0 : Memref sig .tc .vmem S1x256x4096 .bf16).view
abbrev VO0_11 : View sig .tc .smem S1x1 .f32 := (Memref.whole cc0_stg11_0 : Memref sig .tc .smem S1x1 .f32).view
abbrev VO0_12 : View sig .tc .smem S1x1 .f32 := (Memref.whole cc0_stg12_0 : Memref sig .tc .smem S1x1 .f32).view
abbrev ms0_0 (t : Fin cfg0.N) : Memref sig .tc .smem S8 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S8 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S8 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x720x4096 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x720x4096 .fp8e5m2 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x4096x256 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256x4096 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x720x256 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2x720x256 .fp8e5m2 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256x4096 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .smem S1x1 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .smem S1x1 .f32 := win0_12.stage (cfg0.slots t 12)
abbrev hs0_12 (t : Fin cfg0.N) : (ms0_12 t).IsWhole := hstage0_12 ((cfg0.slots t 12).cast nbuf0_12)
abbrev scM0_0 : Memref sig .tc .vmem S768x4096 .fp8e4m3 := Memref.whole cc0_scratch0
abbrev scM0_1 : Memref sig .tc .vmem S768x4096 .fp8e5m2 := Memref.whole cc0_scratch1
abbrev scM0_2 : Memref sig .tc .vmem S768x256 .fp8e4m3 := Memref.whole cc0_scratch2
abbrev scM0_3 : Memref sig .tc .vmem S768x512 .fp8e5m2 := Memref.whole cc0_scratch3
abbrev scM0_4 : Memref sig .tc .vmem S2x2x4096x2x128 .bf16 := Memref.whole cc0_scratch4
abbrev scM0_5 : Memref sig .tc .vmem S8x128 .f32 := Memref.whole cc0_scratch5
abbrev scM0_6 : Memref sig .tc .vmem S8x128 .f32 := Memref.whole cc0_scratch6
abbrev hbM0_0 : Memref sig .tc .hbm S8x4096x2x1792 .bf16 := Memref.whole main_v13_2
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

abbrev osem0 : Fin 2 → SemLoc sig := fun j => (![SemLoc.dma 20, SemLoc.dma 21] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 20) 0 ∗ semVal ((c : Thread nD τ), SemLoc.dma 21) 0) := by
  rw [Pipeline.ownSems0_eq_of_list c osem0 [0, 1] (by decide) (by decide)]; rfl
def H0 : Finset (Ref sig .tc) := {}
theorem H0_sub : H0 ⊆ Pipeline.restRefs sig spec0 := by decide
theorem R0_sub : R0 ⊆ Pipeline.restRefs sig spec0 \ H0 := by decide
theorem hbmPts0_eq (c : Dev nD) :
    (bigSep H0 (fun b => ((c : Thread nD τ).loc b) ↦{fullShare} V m c b) : sProp 𝕄) = iprop(emp) := by
  rw [BI.bigSep_eq_bigSepL_of_eq [] (by decide) (by decide)]; rfl
theorem ownedPts0_eq (c : Dev nD) :
    (Pipeline.owned R0 c : sProp 𝕄) = iprop((∃ f, hbPt0 c hbM0_0 f)) := by
  unfold Pipeline.owned; rw [BI.bigSep_eq_bigSepL_of_eq [main_v13_2] (by decide) (by decide)]; rfl

theorem PhiDR0_eq (c : Dev nD) :
    (Pipeline.ΦDR osem0 spec0 H0 R0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r) ∗ iprop(semVal ((c : Thread nD τ), SemLoc.dma 20) 0 ∗ semVal ((c : Thread nD τ), SemLoc.dma 21) 0) ∗ iprop(emp) ∗ iprop((∃ f, hbPt0 c hbM0_0 f))) := by
  rw [Pipeline.ΦDR_eq, scopedRest0_eq, ownSems00_eq, hbmPts0_eq, ownedPts0_eq]; simp only [scM0_0, scM0_1, scM0_2, scM0_3, scM0_4, scM0_5, scM0_6, owns_whole]; try rfl

/-! Write ring 0 of kernel 0: `main_v13_2` written behind through the 2 × 2 tiles of `cc0_scratch4` on the cells of `cc0_scratch7`, each copy waited 2 steps later, in 56 steps -/

instance : NeZero grid0.N := ⟨by rw [N_0]; decide⟩
theorem inb_wtile0_0 (g : Fin 2) (m : Fin 2) : ∀ a, (![g.val, m.val, 0, 0, 0] : Fin 5 → Nat) a + S1x1x4096x2x128.size a ≤ S2x2x4096x2x128.size a := by
  have := g.isLt; have := m.isLt; intro a; fin_cases a <;> simp <;> omega
theorem inb_wpiece0_0 (u : Fin 56) (m : Fin 2) : ∀ a, (![(u.val / 7), 0, 0, 256 * (u.val % 7) + 128 * m.val] : Fin 4 → Nat) a + S1x4096x2x128.size a ≤ S8x4096x2x1792.size a := by
  have := u.isLt; have := m.isLt; intro a; fin_cases a <;> simp <;> omega
theorem inb_wcell0_0 (g : Fin 2) : ∀ a, (![g.val] : Fin 1 → Nat) a + S1.size a ≤ S2.size a := by
  have := g.isLt; intro a; fin_cases a <;> simp <;> omega
def wtile0_0 (g : Fin 2) (m : Fin 2) : Memref sig .tc .vmem S4096x2x128 .bf16 :=
  (scM0_4.slice (Rect.unit (s := S2x2x4096x2x128) ![g.val, m.val, 0, 0, 0] S1x1x4096x2x128.size (inb_wtile0_0 g m)) (fun _ => rfl)).squeeze S4096x2x128 squeezes_S1x1x4096x2x128_S4096x2x128
def wpiece0_0 (u : Fin 56) (m : Fin 2) : Memref sig .tc .hbm S4096x2x128 .bf16 :=
  (hbM0_0.slice (Rect.unit (s := S8x4096x2x1792) ![(u.val / 7), 0, 0, 256 * (u.val % 7) + 128 * m.val] S1x4096x2x128.size (inb_wpiece0_0 u m)) (fun _ => rfl)).squeeze S4096x2x128 squeezes_S1x4096x2x128_S4096x2x128
def wcellA0_0 (g : Fin 2) : DmaSems sig S_ := (cc0_scratch7.slice (Rect.unit (s := S2) ![g.val] S1.size (inb_wcell0_0 g))).squeeze S_ squeezes_S1_S_
abbrev wcellR0_0 (g : Fin 2) : SemLoc sig := SemLoc.dma (wcellA0_0 g).sem
theorem wcellR0_0_0 : wcellR0_0 0 = SemLoc.dma 20 := by decide
theorem wcellR0_0_1 : wcellR0_0 1 = SemLoc.dma 21 := by decide

section WRing0_0
variable (c : Dev nD)
abbrev wtileP0_0 (g : Fin 2) (m : Fin 2) (e : HbBuf0 (F := F) c (wtile0_0 g m)) : sProp 𝕄 := (wtile0_0 g m).view.loc (c : Thread nD τ) ↦[(wtile0_0 g m).view.set]{fullShare} e
abbrev wcellP0_0 (g : Fin 2) : sProp 𝕄 := semVal ((c : Thread nD τ), wcellR0_0 g) 0
abbrev wpieceP0_0 (u : Fin 56) (m : Fin 2) (f : HbBuf0 (F := F) c (wpiece0_0 u m)) : sProp 𝕄 := (wpiece0_0 u m).view.loc (c : Thread nD τ) ↦[(wpiece0_0 u m).view.set]{fullShare} f
abbrev wN0_0 : ℕ := (wpiece0_0 0 0).view.amount (wcellR0_0 0)
abbrev wdl0_0 (u : Fin 56) (g : Fin 2) (m : Fin 2) : sProp 𝕄 := iprop((∃ f, wpieceP0_0 c u m f) ∗ (∃ e, wtileP0_0 c g m e))
abbrev wsig0_0 : Fin 2 → Fin 2 := ![0, 1]
abbrev wdlv0_0 (u : Fin 56) (g : Fin 2) : Fin 2 → sProp 𝕄 := fun j => wdl0_0 c u g (wsig0_0 j)
abbrev winfl0_0 (g : Fin 2) (u : Fin 56) : sProp 𝕄 := Transfers.Batch countersEmb (c : Thread nD τ) (wcellR0_0 g) default wN0_0 (wdlv0_0 c u g) 2 0
theorem wstorable_pt0_0 {nD' : Nat} {τ' : Topo} {sg : RefSig} {Ix' : Type} [DecidableEq Ix'] {Val' : EltTy → Type} {Name' : Type} [DecidableEq Name']
    {U' : Type} [URA U'] {Lvl' : Type} (ℓ : Loc nD' τ' sg) (I : Finset (Idx ℓ)) (q : PosShare TreeShare) (f : Buf Val' ℓ) :
    Storable (upEmb : UEmb _ (MT nD' τ' sg Ix' Val' Name' U' Lvl')) (ℓ ↦[I]{q} f) := inferInstance
theorem wstorable_dlv0_0 (u : Fin 56) (g : Fin 2) : ∀ j, Storable (upEmb : UEmb _ 𝕄) (wdlv0_0 (F := F) c u g j) := by
  intro j; fin_cases j <;> exact @Storable.sep _ _ _ _ _ _ _ _ (@Storable.«exists» _ _ _ _ _ _ _ _ fun _ => wstorable_pt0_0 _ _ _ _) (@Storable.«exists» _ _ _ _ _ _ _ _ fun _ => wstorable_pt0_0 _ _ _ _)
abbrev wfree0_0 (g : Fin 2) : sProp 𝕄 := iprop(wcellP0_0 c g ∗ (∃ e, wtileP0_0 c g 0 e) ∗ ∃ e, wtileP0_0 c g 1 e)
abbrev whome0_0 (u : Fin 56) : sProp 𝕄 := iprop((∃ f, wpieceP0_0 c u 0 f) ∗ ∃ f, wpieceP0_0 c u 1 f)
def wringAt0_0 (k : ℕ) : sProp 𝕄 := Ring.AtBΦ 2 (wfree0_0 c) (winfl0_0 c) (whome0_0 c) (whome0_0 c) k
theorem wfree0_0_eq (g : Fin 2) : iprop(wcellP0_0 (F := F) c g ∗ bigSep Finset.univ (fun m : Fin 2 => iprop(∃ e, wtileP0_0 (F := F) c g m e))) = wfree0_0 c g := by
  rw [BI.bigSep_eq_bigSepL_of_eq [0, 1] (by decide) (by decide)]; rfl
theorem whome0_0_eq (u : Fin 56) : (bigSep Finset.univ (fun m : Fin 2 => iprop(∃ f, wpieceP0_0 (F := F) c u m f)) : sProp 𝕄) = whome0_0 c u := by
  rw [BI.bigSep_eq_bigSepL_of_eq [0, 1] (by decide) (by decide)]; rfl
omit [FloatOps F] in
theorem wcellP0_0_0 : wcellP0_0 (F := F) c 0 = semVal ((c : Thread nD τ), SemLoc.dma 20) 0 := congrArg (fun x => (semVal ((c : Thread nD τ), x) 0 : sProp 𝕄)) wcellR0_0_0
omit [FloatOps F] in
theorem wcellP0_0_1 : wcellP0_0 (F := F) c 1 = semVal ((c : Thread nD τ), SemLoc.dma 21) 0 := congrArg (fun x => (semVal ((c : Thread nD τ), x) 0 : sProp 𝕄)) wcellR0_0_1
end WRing0_0

/-! The tiles: boxes of one size at box offsets, pairwise disjoint by their box index -/

abbrev wtileOff0_0 (i : Fin 2 × Fin 2) : Fin 5 → Nat := ![i.1.val, i.2.val, 0, 0, 0]
theorem inb_wtile0_0' (i : Fin 2 × Fin 2) : ∀ a, wtileOff0_0 i a + S1x1x4096x2x128.size a ≤ S2x2x4096x2x128.size a := inb_wtile0_0 i.1 i.2
abbrev wtileSet0_0 (i : Fin 2 × Fin 2) : Finset S2x2x4096x2x128.Idx := (Rect.unit (s := S2x2x4096x2x128) (wtileOff0_0 i) S1x1x4096x2x128.size (inb_wtile0_0' i)).set
theorem wtileSet0_0_eq (g : Fin 2) (m : Fin 2) : (wtile0_0 g m).view.set = wtileSet0_0 (g, m) := by
  simp only [wtile0_0, Memref.view_squeeze, View.set_reshape]; exact View.set_slice_whole _ _
def wtileIx0_0 (i : Fin 2 × Fin 2) : Fin 5 → ℕ := ![i.1.val, i.2.val, 0, 0, 0]
def wtileUn0_0 (v : Fin 5 → ℕ) : Fin 2 × Fin 2 := (Fin.ofNat 2 (v 0), Fin.ofNat 2 (v 1))
theorem wtileUn0_0_left : ∀ i : Fin 2 × Fin 2, wtileUn0_0 (wtileIx0_0 i) = i := by decide +kernel
theorem wtiles0_0_disjoint (i i' : Fin 2 × Fin 2) (h : i ≠ i') : Disjoint (wtileSet0_0 i) (wtileSet0_0 i') :=
  Ring.boxes_disjoint (s := S2x2x4096x2x128) S1x1x4096x2x128.size wtileOff0_0 inb_wtile0_0' wtileIx0_0
    (fun i a => by fin_cases a <;> simp [wtileOff0_0, wtileIx0_0] <;> omega) wtileUn0_0 wtileUn0_0_left i i' h

/-! The pieces: boxes of one size at box offsets, pairwise disjoint by their box index -/

abbrev wpieceOff0_0 (i : Fin 56 × Fin 2) : Fin 4 → Nat := ![(i.1.val / 7), 0, 0, 256 * (i.1.val % 7) + 128 * i.2.val]
theorem inb_wpiece0_0' (i : Fin 56 × Fin 2) : ∀ a, wpieceOff0_0 i a + S1x4096x2x128.size a ≤ S8x4096x2x1792.size a := inb_wpiece0_0 i.1 i.2
abbrev wpieceSet0_0 (i : Fin 56 × Fin 2) : Finset S8x4096x2x1792.Idx := (Rect.unit (s := S8x4096x2x1792) (wpieceOff0_0 i) S1x4096x2x128.size (inb_wpiece0_0' i)).set
theorem wpieceSet0_0_eq (u : Fin 56) (m : Fin 2) : (wpiece0_0 u m).view.set = wpieceSet0_0 (u, m) := by
  simp only [wpiece0_0, Memref.view_squeeze, View.set_reshape]; exact View.set_slice_whole _ _
def wpieceIx0_0 (i : Fin 56 × Fin 2) : Fin 4 → ℕ := ![(i.1.val / 7), 0, 0, 2 * (i.1.val % 7) + i.2.val]
def wpieceUn0_0 (v : Fin 4 → ℕ) : Fin 56 × Fin 2 := (Fin.ofNat 56 (7 * (v 0) + v 3 / 2), Fin.ofNat 2 (v 3 % 2))
theorem wpieceUn0_0_left : ∀ i : Fin 56 × Fin 2, wpieceUn0_0 (wpieceIx0_0 i) = i := by decide +kernel
theorem wpieces0_0_disjoint (i i' : Fin 56 × Fin 2) (h : i ≠ i') : Disjoint (wpieceSet0_0 i) (wpieceSet0_0 i') :=
  Ring.boxes_disjoint (s := S8x4096x2x1792) S1x4096x2x128.size wpieceOff0_0 inb_wpiece0_0' wpieceIx0_0
    (fun i a => by fin_cases a <;> simp [wpieceOff0_0, wpieceIx0_0] <;> omega) wpieceUn0_0 wpieceUn0_0_left i i' h

/-! What the launch hands the write ring, and takes back -/

section WInOut0_0
variable (c : Dev nD)
theorem wtileP0_0_eq (g : Fin 2) (m : Fin 2) (e) : wtileP0_0 (F := F) c g m e = (((c : Thread nD τ).loc cc0_scratch4) ↦[wtileSet0_0 (g, m)]{fullShare} e : sProp 𝕄) := by
  unfold wtileP0_0; rw [wtileSet0_0_eq]; rfl
theorem wpieceP0_0_eq (u : Fin 56) (m : Fin 2) (f) : wpieceP0_0 (F := F) c u m f = (((c : Thread nD τ).loc main_v13_2) ↦[wpieceSet0_0 (u, m)]{fullShare} f : sProp 𝕄) := by
  unfold wpieceP0_0; rw [wpieceSet0_0_eq]; rfl
abbrev wtileSpare0_0 : sProp 𝕄 := iprop(∃ f : Buf (Elt F) ((c : Thread nD τ).loc cc0_scratch4), ((c : Thread nD τ).loc cc0_scratch4) ↦[Finset.univ \ Finset.univ.biUnion wtileSet0_0]{fullShare} f)
abbrev wpieceSpare0_0 : sProp 𝕄 := iprop(∃ f : Buf (Elt F) ((c : Thread nD τ).loc main_v13_2), ((c : Thread nD τ).loc main_v13_2) ↦[Finset.univ \ Finset.univ.biUnion wpieceSet0_0]{fullShare} f)
theorem wtiles0_0_in : iprop(∃ d, owns (c : Thread nD τ) scM0_4 fullShare d) ⊢ (iprop(bigSep Finset.univ (fun i : Fin 2 × Fin 2 => iprop(∃ e, wtileP0_0 (F := F) c i.1 i.2 e)) ∗ wtileSpare0_0 c) : sProp 𝕄) := by
  simp only [scM0_4, owns_whole]
  exact Ring.pieces_split_spare (U := Pipeline.UD sig nD τ) (ℓ := (c : Thread nD τ).loc cc0_scratch4) (q := fullShare) wtileSet0_0 wtiles0_0_disjoint
    (fun i e => wtileP0_0 c i.1 i.2 e) (fun i e => wtileP0_0_eq c i.1 i.2 e)
theorem wtiles0_0_out : (iprop(bigSep Finset.univ (fun i : Fin 2 × Fin 2 => iprop(∃ e, wtileP0_0 (F := F) c i.1 i.2 e)) ∗ wtileSpare0_0 c) : sProp 𝕄) ⊢ iprop(∃ d, owns (c : Thread nD τ) scM0_4 fullShare d) := by
  simp only [scM0_4, owns_whole]
  exact Ring.pieces_join_spare (U := Pipeline.UD sig nD τ) (ℓ := (c : Thread nD τ).loc cc0_scratch4) (q := fullShare) wtileSet0_0 wtiles0_0_disjoint
    (fun i e => wtileP0_0 c i.1 i.2 e) (fun i e => wtileP0_0_eq c i.1 i.2 e)
theorem wpieces0_0_in : iprop(∃ f, hbPt0 c hbM0_0 f) ⊢ (iprop(bigSep Finset.univ (fun i : Fin 56 × Fin 2 => iprop(∃ f, wpieceP0_0 (F := F) c i.1 i.2 f)) ∗ wpieceSpare0_0 c) : sProp 𝕄) := by
  unfold hbPt0
  exact Ring.pieces_split_spare (U := Pipeline.UD sig nD τ) (ℓ := (c : Thread nD τ).loc main_v13_2) (q := fullShare) wpieceSet0_0 wpieces0_0_disjoint
    (fun i f => wpieceP0_0 c i.1 i.2 f) (fun i f => wpieceP0_0_eq c i.1 i.2 f)
theorem wpieces0_0_out : (iprop(bigSep Finset.univ (fun i : Fin 56 × Fin 2 => iprop(∃ f, wpieceP0_0 (F := F) c i.1 i.2 f)) ∗ wpieceSpare0_0 c) : sProp 𝕄) ⊢ iprop(∃ f, hbPt0 c hbM0_0 f) := by
  unfold hbPt0
  exact Ring.pieces_join_spare (U := Pipeline.UD sig nD τ) (ℓ := (c : Thread nD τ).loc main_v13_2) (q := fullShare) wpieceSet0_0 wpieces0_0_disjoint
    (fun i f => wpieceP0_0 c i.1 i.2 f) (fun i f => wpieceP0_0_eq c i.1 i.2 f)
theorem wcells0_0_eq : (bigSep Finset.univ (fun g : Fin 2 => wcellP0_0 (F := F) c g) : sProp 𝕄) = iprop(semVal ((c : Thread nD τ), SemLoc.dma 20) 0 ∗ semVal ((c : Thread nD τ), SemLoc.dma 21) 0) := by
  rw [BI.bigSep_eq_bigSepL_of_eq [0, 1] (by decide) (by decide)]; simp only [BI.bigSepL_cons_cons, BI.bigSepL_singleton, wcellP0_0_0, wcellP0_0_1]; rfl
theorem wfrees0_0_eq : iprop(bigSep Finset.univ (fun g : Fin 2 => wcellP0_0 (F := F) c g) ∗ bigSep Finset.univ (fun i : Fin 2 × Fin 2 => iprop(∃ e, wtileP0_0 (F := F) c i.1 i.2 e))) = (bigSep Finset.univ (wfree0_0 c) : sProp 𝕄) := by
  rw [BI.bigSep_univ_prod (fun i : Fin 2 × Fin 2 => iprop(∃ e, wtileP0_0 (F := F) c i.1 i.2 e))]
  exact (BI.bigSep_sep Finset.univ (fun g : Fin 2 => wcellP0_0 (F := F) c g) (fun g => bigSep Finset.univ fun m => iprop(∃ e, wtileP0_0 (F := F) c g m e))).symm.trans (BI.bigSep_congr fun g _ => wfree0_0_eq c g)
theorem whomes0_0_eq : (bigSep Finset.univ (fun i : Fin 56 × Fin 2 => iprop(∃ f, wpieceP0_0 (F := F) c i.1 i.2 f)) : sProp 𝕄) = bigSep Finset.univ (whome0_0 c) := by
  rw [BI.bigSep_univ_prod]; exact BI.bigSep_congr fun u _ => whome0_0_eq c u
end WInOut0_0

theorem wring0_0_in (c : Dev nD) :
    iprop((∃ d, owns (c : Thread nD τ) scM0_4 fullShare d) ∗ (semVal ((c : Thread nD τ), SemLoc.dma 20) 0 ∗ semVal ((c : Thread nD τ), SemLoc.dma 21) 0) ∗ (∃ f, hbPt0 (F := F) c hbM0_0 f))
      ⊢ iprop(wringAt0_0 (F := F) c 0 ∗ wtileSpare0_0 c ∗ wpieceSpare0_0 c) := by
  unfold wringAt0_0; rw [Ring.AtBΦ_lt _ _ _ _ _ 0 (by decide), Ring.AtB_zero]; unfold Ring.AtB₀
  rw [← whomes0_0_eq, ← wfrees0_0_eq, wcells0_0_eq]
  iintro ⟨HS, HQ, HD⟩
  ihave HS' := (wtiles0_0_in (F := F) c) $$ HS
  icases HS' with ⟨HT, HTsp⟩
  ihave HD' := (wpieces0_0_in (F := F) c) $$ HD
  icases HD' with ⟨HP, HPsp⟩
  isplitl [HP HQ HT]
  · isplitl [HP]
    · iexact HP
    isplitl [HQ]
    · iexact HQ
    iexact HT
  isplitl [HTsp]
  · iexact HTsp
  iexact HPsp
theorem wring0_0_out (c : Dev nD) :
    iprop(wringAt0_0 (F := F) c 56 ∗ wtileSpare0_0 c ∗ wpieceSpare0_0 c)
      ⊢ iprop((∃ d, owns (c : Thread nD τ) scM0_4 fullShare d) ∗ (semVal ((c : Thread nD τ), SemLoc.dma 20) 0 ∗ semVal ((c : Thread nD τ), SemLoc.dma 21) 0) ∗ (∃ f, hbPt0 (F := F) c hbM0_0 f)) := by
  unfold wringAt0_0; rw [Ring.AtBΦ_ge _ _ _ _ _ 56 (by decide), Ring.AtBEnd_frame]; unfold Ring.AtB₀
  rw [← whomes0_0_eq, ← wfrees0_0_eq, wcells0_0_eq]
  iintro ⟨⟨HP, HQ, HT⟩, HTsp, HPsp⟩
  isplitl [HT HTsp]
  · iapply (wtiles0_0_out (F := F) c)
    isplitl [HT]
    · iexact HT
    iexact HTsp
  isplitl [HQ]
  · iexact HQ
  iapply (wpieces0_0_out (F := F) c)
  isplitl [HP]
  · iexact HP
  iexact HPsp

/-! Write ring 0's steps at each case's points, and its canonical names: the body's operands at point `t` are the ring's tiles, pieces and cells -/

section WCanon0_0
omit [FloatOps F]
theorem wstep0_0_A : ∀ t : Fin grid0.N, ¬cond0_0 (grid0.coords t) → ¬cond0_1 (grid0.coords t) → t.val < 2 ∧ (t.val + 1) = t.val + 1 := by decide +kernel
theorem wstep0_0_B : ∀ t : Fin grid0.N, cond0_0 (grid0.coords t) → ¬cond0_1 (grid0.coords t) → 2 ≤ t.val ∧ t.val + 1 < 56 ∧ (t.val + 1) = t.val + 1 := by decide +kernel
theorem wstep0_0_C : ∀ t : Fin grid0.N, cond0_0 (grid0.coords t) → cond0_1 (grid0.coords t) → 2 ≤ t.val ∧ t.val + 1 = 56 ∧ (t.val + 1) = t.val + 1 := by decide +kernel
set_option synthInstance.maxSize 4096 in
theorem wcoff0_0_1 : ∀ t : Fin grid0.N, k0_off55 (grid0.coords t) = ![(Ring.sl 2 t.val).val] := by decide +kernel
@[sl_canon] theorem wcanon0_0_1 (t : Fin grid0.N) :
    (cc0_scratch7.slice (Rect.unit (s := S2) (k0_off55 (grid0.coords t)) S1.size (k0_off55_inb (grid0.coords t)))).squeeze S_ squeezes_S1_S_ = wcellA0_0 (Ring.sl 2 t.val) :=
  congrArg (fun A : DmaSems sig S1 => A.squeeze S_ squeezes_S1_S_) (SemArray.slice_unit_congr _ (wcoff0_0_1 t) _ _)
@[sl_canon] theorem wcanon0_0_1' (t : Fin grid0.N) :
    (cc0_scratch7.slice (Rect.unit (s := S2) (k0_off55 (grid0.coords t)) ![1] (k0_off55_inb (grid0.coords t)))).squeeze S_ squeezes_S1_S_ = wcellA0_0 (Ring.sl 2 t.val) :=
  wcanon0_0_1 t
set_option synthInstance.maxSize 4096 in
theorem wcoff0_0_2 : ∀ t : Fin grid0.N, k0_off57 (grid0.coords t) = ![(Ring.sl 2 t.val).val, 0, 0, 0, 0] := by decide +kernel
@[sl_canon] theorem wcanon0_0_2 (t : Fin grid0.N) :
    (scM0_4.slice (Rect.unit (s := S2x2x4096x2x128) (k0_off57 (grid0.coords t)) S1x1x4096x2x128.size (k0_off57_inb (grid0.coords t))) (fun _ => rfl)).squeeze S4096x2x128 squeezes_S1x1x4096x2x128_S4096x2x128 = wtile0_0 (Ring.sl 2 t.val) 0 :=
  congrArg (fun M : Memref sig .tc .vmem S1x1x4096x2x128 .bf16 => M.squeeze S4096x2x128 squeezes_S1x1x4096x2x128_S4096x2x128) (Memref.slice_unit_congr _ (wcoff0_0_2 t) _ _ (fun _ => rfl) (fun _ => rfl))
@[sl_canon] theorem wcanon0_0_2' (t : Fin grid0.N) :
    (scM0_4.slice (Rect.unit (s := S2x2x4096x2x128) (k0_off57 (grid0.coords t)) ![1, 1, 4096, 2, 128] (k0_off57_inb (grid0.coords t))) (fun _ => rfl)).squeeze S4096x2x128 squeezes_S1x1x4096x2x128_S4096x2x128 = wtile0_0 (Ring.sl 2 t.val) 0 :=
  wcanon0_0_2 t
set_option synthInstance.maxSize 4096 in
theorem wcoff0_0_3 : ∀ t : Fin grid0.N, k0_off56 (grid0.coords t) 0#32 = ![((Ring.bk 56 t.val).val / 7), 0, 0, 256 * ((Ring.bk 56 t.val).val % 7) + 128 * 0] := by decide +kernel
@[sl_canon] theorem wcanon0_0_3 (t : Fin grid0.N) :
    (hbM0_0.slice (Rect.unit (s := S8x4096x2x1792) (k0_off56 (grid0.coords t) 0#32) S1x4096x2x128.size (k0_off56_inb (grid0.coords t) 0)) (fun _ => rfl)).squeeze S4096x2x128 squeezes_S1x4096x2x128_S4096x2x128 = wpiece0_0 (Ring.bk 56 t.val) 0 :=
  congrArg (fun M : Memref sig .tc .hbm S1x4096x2x128 .bf16 => M.squeeze S4096x2x128 squeezes_S1x4096x2x128_S4096x2x128) (Memref.slice_unit_congr _ (wcoff0_0_3 t) _ _ (fun _ => rfl) (fun _ => rfl))
@[sl_canon] theorem wcanon0_0_3' (t : Fin grid0.N) :
    (hbM0_0.slice (Rect.unit (s := S8x4096x2x1792) (k0_off56 (grid0.coords t) 0#32) ![1, 4096, 2, 128] (k0_off56_inb (grid0.coords t) 0)) (fun _ => rfl)).squeeze S4096x2x128 squeezes_S1x4096x2x128_S4096x2x128 = wpiece0_0 (Ring.bk 56 t.val) 0 :=
  wcanon0_0_3 t
set_option synthInstance.maxSize 4096 in
theorem wcoff0_0_4 : ∀ t : Fin grid0.N, k0_off58 (grid0.coords t) = ![(Ring.sl 2 t.val).val, 1, 0, 0, 0] := by decide +kernel
@[sl_canon] theorem wcanon0_0_4 (t : Fin grid0.N) :
    (scM0_4.slice (Rect.unit (s := S2x2x4096x2x128) (k0_off58 (grid0.coords t)) S1x1x4096x2x128.size (k0_off58_inb (grid0.coords t))) (fun _ => rfl)).squeeze S4096x2x128 squeezes_S1x1x4096x2x128_S4096x2x128 = wtile0_0 (Ring.sl 2 t.val) 1 :=
  congrArg (fun M : Memref sig .tc .vmem S1x1x4096x2x128 .bf16 => M.squeeze S4096x2x128 squeezes_S1x1x4096x2x128_S4096x2x128) (Memref.slice_unit_congr _ (wcoff0_0_4 t) _ _ (fun _ => rfl) (fun _ => rfl))
@[sl_canon] theorem wcanon0_0_4' (t : Fin grid0.N) :
    (scM0_4.slice (Rect.unit (s := S2x2x4096x2x128) (k0_off58 (grid0.coords t)) ![1, 1, 4096, 2, 128] (k0_off58_inb (grid0.coords t))) (fun _ => rfl)).squeeze S4096x2x128 squeezes_S1x1x4096x2x128_S4096x2x128 = wtile0_0 (Ring.sl 2 t.val) 1 :=
  wcanon0_0_4 t
set_option synthInstance.maxSize 4096 in
theorem wcoff0_0_5 : ∀ t : Fin grid0.N, k0_off56 (grid0.coords t) 128#32 = ![((Ring.bk 56 t.val).val / 7), 0, 0, 256 * ((Ring.bk 56 t.val).val % 7) + 128 * 1] := by decide +kernel
@[sl_canon] theorem wcanon0_0_5 (t : Fin grid0.N) :
    (hbM0_0.slice (Rect.unit (s := S8x4096x2x1792) (k0_off56 (grid0.coords t) 128#32) S1x4096x2x128.size (k0_off56_inb (grid0.coords t) 1)) (fun _ => rfl)).squeeze S4096x2x128 squeezes_S1x4096x2x128_S4096x2x128 = wpiece0_0 (Ring.bk 56 t.val) 1 :=
  congrArg (fun M : Memref sig .tc .hbm S1x4096x2x128 .bf16 => M.squeeze S4096x2x128 squeezes_S1x4096x2x128_S4096x2x128) (Memref.slice_unit_congr _ (wcoff0_0_5 t) _ _ (fun _ => rfl) (fun _ => rfl))
@[sl_canon] theorem wcanon0_0_5' (t : Fin grid0.N) :
    (hbM0_0.slice (Rect.unit (s := S8x4096x2x1792) (k0_off56 (grid0.coords t) 128#32) ![1, 4096, 2, 128] (k0_off56_inb (grid0.coords t) 1)) (fun _ => rfl)).squeeze S4096x2x128 squeezes_S1x4096x2x128_S4096x2x128 = wpiece0_0 (Ring.bk 56 t.val) 1 :=
  wcanon0_0_5 t
set_option synthInstance.maxSize 4096 in
theorem wcoff0_0_6 : ∀ t : Fin grid0.N, k0_off1 (grid0.coords t) = ![(Ring.sl 2 t.val).val] := by decide +kernel
@[sl_canon] theorem wcanon0_0_6 (t : Fin grid0.N) (h0 : cond0_0 (grid0.coords t)) :
    (cc0_scratch7.slice (Rect.unit (s := S2) (k0_off1 (grid0.coords t)) S1.size (k0_off1_inb (grid0.coords t) h0))).squeeze S_ squeezes_S1_S_ = wcellA0_0 (Ring.sl 2 t.val) :=
  congrArg (fun A : DmaSems sig S1 => A.squeeze S_ squeezes_S1_S_) (SemArray.slice_unit_congr _ (wcoff0_0_6 t) _ _)
@[sl_canon] theorem wcanon0_0_6' (t : Fin grid0.N) (h0 : cond0_0 (grid0.coords t)) :
    (cc0_scratch7.slice (Rect.unit (s := S2) (k0_off1 (grid0.coords t)) ![1] (k0_off1_inb (grid0.coords t) h0))).squeeze S_ squeezes_S1_S_ = wcellA0_0 (Ring.sl 2 t.val) :=
  wcanon0_0_6 t h0
set_option synthInstance.maxSize 4096 in
theorem wcoff0_0_7 : ∀ t : Fin grid0.N, k0_off59 (grid0.coords t) = ![(Ring.sl 2 (t.val + 1)).val] := by decide +kernel
@[sl_canon] theorem wcanon0_0_7 (t : Fin grid0.N) (h1 : cond0_1 (grid0.coords t)) :
    (cc0_scratch7.slice (Rect.unit (s := S2) (k0_off59 (grid0.coords t)) S1.size (k0_off59_inb (grid0.coords t) h1))).squeeze S_ squeezes_S1_S_ = wcellA0_0 (Ring.sl 2 (t.val + 1)) :=
  congrArg (fun A : DmaSems sig S1 => A.squeeze S_ squeezes_S1_S_) (SemArray.slice_unit_congr _ (wcoff0_0_7 t) _ _)
@[sl_canon] theorem wcanon0_0_7' (t : Fin grid0.N) (h1 : cond0_1 (grid0.coords t)) :
    (cc0_scratch7.slice (Rect.unit (s := S2) (k0_off59 (grid0.coords t)) ![1] (k0_off59_inb (grid0.coords t) h1))).squeeze S_ squeezes_S1_S_ = wcellA0_0 (Ring.sl 2 (t.val + 1)) :=
  wcanon0_0_7 t h1
set_option synthInstance.maxSize 4096 in
theorem wcoff0_0_8 : ∀ t : Fin grid0.N, k0_off63 (grid0.coords t) = ![(Ring.sl 2 t.val).val] := by decide +kernel
@[sl_canon] theorem wcanon0_0_8 (t : Fin grid0.N) (h1 : cond0_1 (grid0.coords t)) :
    (cc0_scratch7.slice (Rect.unit (s := S2) (k0_off63 (grid0.coords t)) S1.size (k0_off63_inb (grid0.coords t) h1))).squeeze S_ squeezes_S1_S_ = wcellA0_0 (Ring.sl 2 t.val) :=
  congrArg (fun A : DmaSems sig S1 => A.squeeze S_ squeezes_S1_S_) (SemArray.slice_unit_congr _ (wcoff0_0_8 t) _ _)
@[sl_canon] theorem wcanon0_0_8' (t : Fin grid0.N) (h1 : cond0_1 (grid0.coords t)) :
    (cc0_scratch7.slice (Rect.unit (s := S2) (k0_off63 (grid0.coords t)) ![1] (k0_off63_inb (grid0.coords t) h1))).squeeze S_ squeezes_S1_S_ = wcellA0_0 (Ring.sl 2 t.val) :=
  wcanon0_0_8 t h1
/- The accesses of the point's slot of the staging buffer, in the tiles' spelling. -/
set_option synthInstance.maxSize 4096
theorem wcoff_6 : ∀ t : Fin grid0.N, k0_off6 (grid0.coords t) = ![(Ring.sl 2 t.val).val, 0, 0, 0, 0] := by decide +kernel
instance (priority := high) wclosedOff_6 (t : Fin grid0.N) : ClosedOff (k0_off6 (grid0.coords t)) := ⟨![(Ring.sl 2 t.val).val, 0, 0, 0, 0], wcoff_6 t⟩
theorem wcoff_7 : ∀ t : Fin grid0.N, k0_off7 (grid0.coords t) = ![(Ring.sl 2 t.val).val, 1, 0, 0, 0] := by decide +kernel
instance (priority := high) wclosedOff_7 (t : Fin grid0.N) : ClosedOff (k0_off7 (grid0.coords t)) := ⟨![(Ring.sl 2 t.val).val, 1, 0, 0, 0], wcoff_7 t⟩
theorem wcoff_8 : ∀ t : Fin grid0.N, k0_off8 (grid0.coords t) = ![(Ring.sl 2 t.val).val, 0, 512, 0, 0] := by decide +kernel
instance (priority := high) wclosedOff_8 (t : Fin grid0.N) : ClosedOff (k0_off8 (grid0.coords t)) := ⟨![(Ring.sl 2 t.val).val, 0, 512, 0, 0], wcoff_8 t⟩
theorem wcoff_9 : ∀ t : Fin grid0.N, k0_off9 (grid0.coords t) = ![(Ring.sl 2 t.val).val, 1, 512, 0, 0] := by decide +kernel
instance (priority := high) wclosedOff_9 (t : Fin grid0.N) : ClosedOff (k0_off9 (grid0.coords t)) := ⟨![(Ring.sl 2 t.val).val, 1, 512, 0, 0], wcoff_9 t⟩
theorem wcoff_10 : ∀ t : Fin grid0.N, k0_off10 (grid0.coords t) = ![(Ring.sl 2 t.val).val, 0, 1024, 0, 0] := by decide +kernel
instance (priority := high) wclosedOff_10 (t : Fin grid0.N) : ClosedOff (k0_off10 (grid0.coords t)) := ⟨![(Ring.sl 2 t.val).val, 0, 1024, 0, 0], wcoff_10 t⟩
theorem wcoff_11 : ∀ t : Fin grid0.N, k0_off11 (grid0.coords t) = ![(Ring.sl 2 t.val).val, 1, 1024, 0, 0] := by decide +kernel
instance (priority := high) wclosedOff_11 (t : Fin grid0.N) : ClosedOff (k0_off11 (grid0.coords t)) := ⟨![(Ring.sl 2 t.val).val, 1, 1024, 0, 0], wcoff_11 t⟩
theorem wcoff_12 : ∀ t : Fin grid0.N, k0_off12 (grid0.coords t) = ![(Ring.sl 2 t.val).val, 0, 1536, 0, 0] := by decide +kernel
instance (priority := high) wclosedOff_12 (t : Fin grid0.N) : ClosedOff (k0_off12 (grid0.coords t)) := ⟨![(Ring.sl 2 t.val).val, 0, 1536, 0, 0], wcoff_12 t⟩
theorem wcoff_13 : ∀ t : Fin grid0.N, k0_off13 (grid0.coords t) = ![(Ring.sl 2 t.val).val, 1, 1536, 0, 0] := by decide +kernel
instance (priority := high) wclosedOff_13 (t : Fin grid0.N) : ClosedOff (k0_off13 (grid0.coords t)) := ⟨![(Ring.sl 2 t.val).val, 1, 1536, 0, 0], wcoff_13 t⟩
theorem wcoff_14 : ∀ t : Fin grid0.N, k0_off14 (grid0.coords t) = ![(Ring.sl 2 t.val).val, 0, 2048, 0, 0] := by decide +kernel
instance (priority := high) wclosedOff_14 (t : Fin grid0.N) : ClosedOff (k0_off14 (grid0.coords t)) := ⟨![(Ring.sl 2 t.val).val, 0, 2048, 0, 0], wcoff_14 t⟩
theorem wcoff_15 : ∀ t : Fin grid0.N, k0_off15 (grid0.coords t) = ![(Ring.sl 2 t.val).val, 1, 2048, 0, 0] := by decide +kernel
instance (priority := high) wclosedOff_15 (t : Fin grid0.N) : ClosedOff (k0_off15 (grid0.coords t)) := ⟨![(Ring.sl 2 t.val).val, 1, 2048, 0, 0], wcoff_15 t⟩
theorem wcoff_16 : ∀ t : Fin grid0.N, k0_off16 (grid0.coords t) = ![(Ring.sl 2 t.val).val, 0, 2560, 0, 0] := by decide +kernel
instance (priority := high) wclosedOff_16 (t : Fin grid0.N) : ClosedOff (k0_off16 (grid0.coords t)) := ⟨![(Ring.sl 2 t.val).val, 0, 2560, 0, 0], wcoff_16 t⟩
theorem wcoff_17 : ∀ t : Fin grid0.N, k0_off17 (grid0.coords t) = ![(Ring.sl 2 t.val).val, 1, 2560, 0, 0] := by decide +kernel
instance (priority := high) wclosedOff_17 (t : Fin grid0.N) : ClosedOff (k0_off17 (grid0.coords t)) := ⟨![(Ring.sl 2 t.val).val, 1, 2560, 0, 0], wcoff_17 t⟩
theorem wcoff_18 : ∀ t : Fin grid0.N, k0_off18 (grid0.coords t) = ![(Ring.sl 2 t.val).val, 0, 3072, 0, 0] := by decide +kernel
instance (priority := high) wclosedOff_18 (t : Fin grid0.N) : ClosedOff (k0_off18 (grid0.coords t)) := ⟨![(Ring.sl 2 t.val).val, 0, 3072, 0, 0], wcoff_18 t⟩
theorem wcoff_19 : ∀ t : Fin grid0.N, k0_off19 (grid0.coords t) = ![(Ring.sl 2 t.val).val, 1, 3072, 0, 0] := by decide +kernel
instance (priority := high) wclosedOff_19 (t : Fin grid0.N) : ClosedOff (k0_off19 (grid0.coords t)) := ⟨![(Ring.sl 2 t.val).val, 1, 3072, 0, 0], wcoff_19 t⟩
theorem wcoff_20 : ∀ t : Fin grid0.N, k0_off20 (grid0.coords t) = ![(Ring.sl 2 t.val).val, 0, 3584, 0, 0] := by decide +kernel
instance (priority := high) wclosedOff_20 (t : Fin grid0.N) : ClosedOff (k0_off20 (grid0.coords t)) := ⟨![(Ring.sl 2 t.val).val, 0, 3584, 0, 0], wcoff_20 t⟩
theorem wcoff_21 : ∀ t : Fin grid0.N, k0_off21 (grid0.coords t) = ![(Ring.sl 2 t.val).val, 1, 3584, 0, 0] := by decide +kernel
instance (priority := high) wclosedOff_21 (t : Fin grid0.N) : ClosedOff (k0_off21 (grid0.coords t)) := ⟨![(Ring.sl 2 t.val).val, 1, 3584, 0, 0], wcoff_21 t⟩
theorem wcoff_22 : ∀ t : Fin grid0.N, k0_off22 (grid0.coords t) = ![(Ring.sl 2 t.val).val, 0, 0, 0, 0] := by decide +kernel
instance (priority := high) wclosedOff_22 (t : Fin grid0.N) : ClosedOff (k0_off22 (grid0.coords t)) := ⟨![(Ring.sl 2 t.val).val, 0, 0, 0, 0], wcoff_22 t⟩
theorem wcoff_23 : ∀ t : Fin grid0.N, k0_off23 (grid0.coords t) = ![(Ring.sl 2 t.val).val, 1, 0, 0, 0] := by decide +kernel
instance (priority := high) wclosedOff_23 (t : Fin grid0.N) : ClosedOff (k0_off23 (grid0.coords t)) := ⟨![(Ring.sl 2 t.val).val, 1, 0, 0, 0], wcoff_23 t⟩
theorem wcoff_24 : ∀ t : Fin grid0.N, k0_off24 (grid0.coords t) = ![(Ring.sl 2 t.val).val, 0, 512, 0, 0] := by decide +kernel
instance (priority := high) wclosedOff_24 (t : Fin grid0.N) : ClosedOff (k0_off24 (grid0.coords t)) := ⟨![(Ring.sl 2 t.val).val, 0, 512, 0, 0], wcoff_24 t⟩
theorem wcoff_25 : ∀ t : Fin grid0.N, k0_off25 (grid0.coords t) = ![(Ring.sl 2 t.val).val, 1, 512, 0, 0] := by decide +kernel
instance (priority := high) wclosedOff_25 (t : Fin grid0.N) : ClosedOff (k0_off25 (grid0.coords t)) := ⟨![(Ring.sl 2 t.val).val, 1, 512, 0, 0], wcoff_25 t⟩
theorem wcoff_26 : ∀ t : Fin grid0.N, k0_off26 (grid0.coords t) = ![(Ring.sl 2 t.val).val, 0, 1024, 0, 0] := by decide +kernel
instance (priority := high) wclosedOff_26 (t : Fin grid0.N) : ClosedOff (k0_off26 (grid0.coords t)) := ⟨![(Ring.sl 2 t.val).val, 0, 1024, 0, 0], wcoff_26 t⟩
theorem wcoff_27 : ∀ t : Fin grid0.N, k0_off27 (grid0.coords t) = ![(Ring.sl 2 t.val).val, 1, 1024, 0, 0] := by decide +kernel
instance (priority := high) wclosedOff_27 (t : Fin grid0.N) : ClosedOff (k0_off27 (grid0.coords t)) := ⟨![(Ring.sl 2 t.val).val, 1, 1024, 0, 0], wcoff_27 t⟩
theorem wcoff_28 : ∀ t : Fin grid0.N, k0_off28 (grid0.coords t) = ![(Ring.sl 2 t.val).val, 0, 1536, 0, 0] := by decide +kernel
instance (priority := high) wclosedOff_28 (t : Fin grid0.N) : ClosedOff (k0_off28 (grid0.coords t)) := ⟨![(Ring.sl 2 t.val).val, 0, 1536, 0, 0], wcoff_28 t⟩
theorem wcoff_29 : ∀ t : Fin grid0.N, k0_off29 (grid0.coords t) = ![(Ring.sl 2 t.val).val, 1, 1536, 0, 0] := by decide +kernel
instance (priority := high) wclosedOff_29 (t : Fin grid0.N) : ClosedOff (k0_off29 (grid0.coords t)) := ⟨![(Ring.sl 2 t.val).val, 1, 1536, 0, 0], wcoff_29 t⟩
theorem wcoff_30 : ∀ t : Fin grid0.N, k0_off30 (grid0.coords t) = ![(Ring.sl 2 t.val).val, 0, 2048, 0, 0] := by decide +kernel
instance (priority := high) wclosedOff_30 (t : Fin grid0.N) : ClosedOff (k0_off30 (grid0.coords t)) := ⟨![(Ring.sl 2 t.val).val, 0, 2048, 0, 0], wcoff_30 t⟩
theorem wcoff_31 : ∀ t : Fin grid0.N, k0_off31 (grid0.coords t) = ![(Ring.sl 2 t.val).val, 1, 2048, 0, 0] := by decide +kernel
instance (priority := high) wclosedOff_31 (t : Fin grid0.N) : ClosedOff (k0_off31 (grid0.coords t)) := ⟨![(Ring.sl 2 t.val).val, 1, 2048, 0, 0], wcoff_31 t⟩
theorem wcoff_32 : ∀ t : Fin grid0.N, k0_off32 (grid0.coords t) = ![(Ring.sl 2 t.val).val, 0, 2560, 0, 0] := by decide +kernel
instance (priority := high) wclosedOff_32 (t : Fin grid0.N) : ClosedOff (k0_off32 (grid0.coords t)) := ⟨![(Ring.sl 2 t.val).val, 0, 2560, 0, 0], wcoff_32 t⟩
theorem wcoff_33 : ∀ t : Fin grid0.N, k0_off33 (grid0.coords t) = ![(Ring.sl 2 t.val).val, 1, 2560, 0, 0] := by decide +kernel
instance (priority := high) wclosedOff_33 (t : Fin grid0.N) : ClosedOff (k0_off33 (grid0.coords t)) := ⟨![(Ring.sl 2 t.val).val, 1, 2560, 0, 0], wcoff_33 t⟩
theorem wcoff_34 : ∀ t : Fin grid0.N, k0_off34 (grid0.coords t) = ![(Ring.sl 2 t.val).val, 0, 3072, 0, 0] := by decide +kernel
instance (priority := high) wclosedOff_34 (t : Fin grid0.N) : ClosedOff (k0_off34 (grid0.coords t)) := ⟨![(Ring.sl 2 t.val).val, 0, 3072, 0, 0], wcoff_34 t⟩
theorem wcoff_35 : ∀ t : Fin grid0.N, k0_off35 (grid0.coords t) = ![(Ring.sl 2 t.val).val, 1, 3072, 0, 0] := by decide +kernel
instance (priority := high) wclosedOff_35 (t : Fin grid0.N) : ClosedOff (k0_off35 (grid0.coords t)) := ⟨![(Ring.sl 2 t.val).val, 1, 3072, 0, 0], wcoff_35 t⟩
theorem wcoff_36 : ∀ t : Fin grid0.N, k0_off36 (grid0.coords t) = ![(Ring.sl 2 t.val).val, 0, 3584, 0, 0] := by decide +kernel
instance (priority := high) wclosedOff_36 (t : Fin grid0.N) : ClosedOff (k0_off36 (grid0.coords t)) := ⟨![(Ring.sl 2 t.val).val, 0, 3584, 0, 0], wcoff_36 t⟩
theorem wcoff_37 : ∀ t : Fin grid0.N, k0_off37 (grid0.coords t) = ![(Ring.sl 2 t.val).val, 1, 3584, 0, 0] := by decide +kernel
instance (priority := high) wclosedOff_37 (t : Fin grid0.N) : ClosedOff (k0_off37 (grid0.coords t)) := ⟨![(Ring.sl 2 t.val).val, 1, 3584, 0, 0], wcoff_37 t⟩
theorem wcoff_38 : ∀ t : Fin grid0.N, k0_off38 (grid0.coords t) = ![(Ring.sl 2 t.val).val, 0, 0, 0, 0] := by decide +kernel
instance (priority := high) wclosedOff_38 (t : Fin grid0.N) : ClosedOff (k0_off38 (grid0.coords t)) := ⟨![(Ring.sl 2 t.val).val, 0, 0, 0, 0], wcoff_38 t⟩
theorem wcoff_39 : ∀ t : Fin grid0.N, k0_off39 (grid0.coords t) = ![(Ring.sl 2 t.val).val, 1, 0, 0, 0] := by decide +kernel
instance (priority := high) wclosedOff_39 (t : Fin grid0.N) : ClosedOff (k0_off39 (grid0.coords t)) := ⟨![(Ring.sl 2 t.val).val, 1, 0, 0, 0], wcoff_39 t⟩
theorem wcoff_40 : ∀ t : Fin grid0.N, k0_off40 (grid0.coords t) = ![(Ring.sl 2 t.val).val, 0, 512, 0, 0] := by decide +kernel
instance (priority := high) wclosedOff_40 (t : Fin grid0.N) : ClosedOff (k0_off40 (grid0.coords t)) := ⟨![(Ring.sl 2 t.val).val, 0, 512, 0, 0], wcoff_40 t⟩
theorem wcoff_41 : ∀ t : Fin grid0.N, k0_off41 (grid0.coords t) = ![(Ring.sl 2 t.val).val, 1, 512, 0, 0] := by decide +kernel
instance (priority := high) wclosedOff_41 (t : Fin grid0.N) : ClosedOff (k0_off41 (grid0.coords t)) := ⟨![(Ring.sl 2 t.val).val, 1, 512, 0, 0], wcoff_41 t⟩
theorem wcoff_42 : ∀ t : Fin grid0.N, k0_off42 (grid0.coords t) = ![(Ring.sl 2 t.val).val, 0, 1024, 0, 0] := by decide +kernel
instance (priority := high) wclosedOff_42 (t : Fin grid0.N) : ClosedOff (k0_off42 (grid0.coords t)) := ⟨![(Ring.sl 2 t.val).val, 0, 1024, 0, 0], wcoff_42 t⟩
theorem wcoff_43 : ∀ t : Fin grid0.N, k0_off43 (grid0.coords t) = ![(Ring.sl 2 t.val).val, 1, 1024, 0, 0] := by decide +kernel
instance (priority := high) wclosedOff_43 (t : Fin grid0.N) : ClosedOff (k0_off43 (grid0.coords t)) := ⟨![(Ring.sl 2 t.val).val, 1, 1024, 0, 0], wcoff_43 t⟩
theorem wcoff_44 : ∀ t : Fin grid0.N, k0_off44 (grid0.coords t) = ![(Ring.sl 2 t.val).val, 0, 1536, 0, 0] := by decide +kernel
instance (priority := high) wclosedOff_44 (t : Fin grid0.N) : ClosedOff (k0_off44 (grid0.coords t)) := ⟨![(Ring.sl 2 t.val).val, 0, 1536, 0, 0], wcoff_44 t⟩
theorem wcoff_45 : ∀ t : Fin grid0.N, k0_off45 (grid0.coords t) = ![(Ring.sl 2 t.val).val, 1, 1536, 0, 0] := by decide +kernel
instance (priority := high) wclosedOff_45 (t : Fin grid0.N) : ClosedOff (k0_off45 (grid0.coords t)) := ⟨![(Ring.sl 2 t.val).val, 1, 1536, 0, 0], wcoff_45 t⟩
theorem wcoff_46 : ∀ t : Fin grid0.N, k0_off46 (grid0.coords t) = ![(Ring.sl 2 t.val).val, 0, 2048, 0, 0] := by decide +kernel
instance (priority := high) wclosedOff_46 (t : Fin grid0.N) : ClosedOff (k0_off46 (grid0.coords t)) := ⟨![(Ring.sl 2 t.val).val, 0, 2048, 0, 0], wcoff_46 t⟩
theorem wcoff_47 : ∀ t : Fin grid0.N, k0_off47 (grid0.coords t) = ![(Ring.sl 2 t.val).val, 1, 2048, 0, 0] := by decide +kernel
instance (priority := high) wclosedOff_47 (t : Fin grid0.N) : ClosedOff (k0_off47 (grid0.coords t)) := ⟨![(Ring.sl 2 t.val).val, 1, 2048, 0, 0], wcoff_47 t⟩
theorem wcoff_48 : ∀ t : Fin grid0.N, k0_off48 (grid0.coords t) = ![(Ring.sl 2 t.val).val, 0, 2560, 0, 0] := by decide +kernel
instance (priority := high) wclosedOff_48 (t : Fin grid0.N) : ClosedOff (k0_off48 (grid0.coords t)) := ⟨![(Ring.sl 2 t.val).val, 0, 2560, 0, 0], wcoff_48 t⟩
theorem wcoff_49 : ∀ t : Fin grid0.N, k0_off49 (grid0.coords t) = ![(Ring.sl 2 t.val).val, 1, 2560, 0, 0] := by decide +kernel
instance (priority := high) wclosedOff_49 (t : Fin grid0.N) : ClosedOff (k0_off49 (grid0.coords t)) := ⟨![(Ring.sl 2 t.val).val, 1, 2560, 0, 0], wcoff_49 t⟩
theorem wcoff_50 : ∀ t : Fin grid0.N, k0_off50 (grid0.coords t) = ![(Ring.sl 2 t.val).val, 0, 3072, 0, 0] := by decide +kernel
instance (priority := high) wclosedOff_50 (t : Fin grid0.N) : ClosedOff (k0_off50 (grid0.coords t)) := ⟨![(Ring.sl 2 t.val).val, 0, 3072, 0, 0], wcoff_50 t⟩
theorem wcoff_51 : ∀ t : Fin grid0.N, k0_off51 (grid0.coords t) = ![(Ring.sl 2 t.val).val, 1, 3072, 0, 0] := by decide +kernel
instance (priority := high) wclosedOff_51 (t : Fin grid0.N) : ClosedOff (k0_off51 (grid0.coords t)) := ⟨![(Ring.sl 2 t.val).val, 1, 3072, 0, 0], wcoff_51 t⟩
theorem wcoff_52 : ∀ t : Fin grid0.N, k0_off52 (grid0.coords t) = ![(Ring.sl 2 t.val).val, 0, 3584, 0, 0] := by decide +kernel
instance (priority := high) wclosedOff_52 (t : Fin grid0.N) : ClosedOff (k0_off52 (grid0.coords t)) := ⟨![(Ring.sl 2 t.val).val, 0, 3584, 0, 0], wcoff_52 t⟩
theorem wcoff_53 : ∀ t : Fin grid0.N, k0_off53 (grid0.coords t) = ![(Ring.sl 2 t.val).val, 1, 3584, 0, 0] := by decide +kernel
instance (priority := high) wclosedOff_53 (t : Fin grid0.N) : ClosedOff (k0_off53 (grid0.coords t)) := ⟨![(Ring.sl 2 t.val).val, 1, 3584, 0, 0], wcoff_53 t⟩
theorem wcoff_54 : ∀ t : Fin grid0.N, k0_off54 (grid0.coords t) = ![(Ring.sl 2 t.val).val, 0, 0, 0, 0] := by decide +kernel
instance (priority := high) wclosedOff_54 (t : Fin grid0.N) : ClosedOff (k0_off54 (grid0.coords t)) := ⟨![(Ring.sl 2 t.val).val, 0, 0, 0, 0], wcoff_54 t⟩
end WCanon0_0

end Cert.Experts.Gen

end
-- ==== Proof.ExpertsPart1.lean ====
/- What the part of the experts body that computes does to the buffers, by the number of row chunks. -/
module

public import proofs.«01_k».proof.Proof.ExpertsRing
public import proofs.«01_k».proof.Proof.Gen.Experts.Skeleton

@[expose] public section

set_option maxRecDepth 16384

noncomputable section

namespace Cert.Experts.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 6400000 in
theorem part38_1 (c : Dev nD) (t : Fin cfg0.N) (arg2 : Memref sig .tc .smem S8 .i32) (harg2 : arg2.IsWhole) (arg3 : Memref sig .tc .smem S4 .f32) (harg3 : arg3.IsWhole) (arg4 : Memref sig .tc .smem S8 .f32) (harg4 : arg4.IsWhole) (arg5 : Memref sig .tc .smem S8 .f32) (harg5 : arg5.IsWhole) (arg6 : Memref sig .tc .vmem S1x720x4096 .fp8e4m3) (harg6 : arg6.IsWhole) (arg7 : Memref sig .tc .vmem S1x720x4096 .fp8e5m2) (harg7 : arg7.IsWhole) (arg8 : Memref sig .tc .vmem S1x2x4096x256 .fp8e4m3) (harg8 : arg8.IsWhole) (arg9 : Memref sig .tc .vmem S1x256x4096 .fp8e4m3) (harg9 : arg9.IsWhole) (arg10 : Memref sig .tc .vmem S1x720x256 .fp8e4m3) (harg10 : arg10.IsWhole) (arg11 : Memref sig .tc .vmem S1x2x720x256 .fp8e5m2) (harg11 : arg11.IsWhole) (arg13 : Memref sig .tc .vmem S1x256x4096 .bf16) (harg13 : arg13.IsWhole) (arg14 : Memref sig .tc .smem S1x1 .f32) (harg14 : arg14.IsWhole) (arg15 : Memref sig .tc .smem S1x1 .f32) (harg15 : arg15.IsWhole) (arg16 : Memref sig .tc .vmem S768x4096 .fp8e4m3) (harg16 : arg16.IsWhole) (arg17 : Memref sig .tc .vmem S768x4096 .fp8e5m2) (harg17 : arg17.IsWhole) (arg18 : Memref sig .tc .vmem S768x256 .fp8e4m3) (harg18 : arg18.IsWhole) (arg19 : Memref sig .tc .vmem S768x512 .fp8e5m2) (harg19 : arg19.IsWhole) (arg21 : Memref sig .tc .vmem S8x128 .f32) (harg21 : arg21.IsWhole) (arg22 : Memref sig .tc .vmem S8x128 .f32) (harg22 : arg22.IsWhole) (arg0 v1 : BitVec 32) (v2 v3 v4 v5 : Elt F .f32) (v6 v20 : BitVec 32) (v34 : BitVec 1) (hc1 : (Scalar.cmpi .ne (Scalar.extui (Scalar.cmpi .eq (Scalar.select v34 (Scalar.subi v20 1#32) v20) 1#32)) 0#32 = 1#1)) (hc2 : ¬(Scalar.cmpi .ne (Scalar.extui (Scalar.cmpi .eq (Scalar.select v34 (Scalar.subi v20 1#32) v20) 2#32)) 0#32 = 1#1)) (hc3 : ¬(Scalar.cmpi .ne (Scalar.extui (Scalar.cmpi .eq (Scalar.select v34 (Scalar.subi v20 1#32) v20) 3#32)) 0#32 = 1#1)) (hc0 : ¬(Scalar.cmpi .ne (Scalar.extui (Scalar.cmpi .eq (Scalar.select v34 (Scalar.subi v20 1#32) v20) 0#32)) 0#32 = 1#1)) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f16 : Buf (Elt F) (arg16.view.loc (c : Thread nD τ))) (f17 : Buf (Elt F) (arg17.view.loc (c : Thread nD τ))) (f10 : Buf (Elt F) (arg10.view.loc (c : Thread nD τ))) (f11 : Buf (Elt F) (arg11.view.loc (c : Thread nD τ))) (f13 : Buf (Elt F) (arg13.view.loc (c : Thread nD τ))) (f18 : Buf (Elt F) (arg18.view.loc (c : Thread nD τ))) (f19 : Buf (Elt F) (arg19.view.loc (c : Thread nD τ))) (f21 : Buf (Elt F) (arg21.view.loc (c : Thread nD τ))) (f22 : Buf (Elt F) (arg22.view.loc (c : Thread nD τ))) (e0 : HbBuf0 (F := F) c (wtile0_0 (Ring.sl 2 t.val) 0)) (e1 : HbBuf0 (F := F) c (wtile0_0 (Ring.sl 2 t.val) 1)) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg16.view.loc (c : Thread nD τ) ↦[arg16.view.set]{fullShare} f16) ∗ (arg17.view.loc (c : Thread nD τ) ↦[arg17.view.set]{fullShare} f17) ∗ (arg10.view.loc (c : Thread nD τ) ↦[arg10.view.set]{fullShare} f10) ∗ (arg11.view.loc (c : Thread nD τ) ↦[arg11.view.set]{fullShare} f11) ∗ (arg13.view.loc (c : Thread nD τ) ↦[arg13.view.set]{fullShare} f13) ∗ (arg18.view.loc (c : Thread nD τ) ↦[arg18.view.set]{fullShare} f18) ∗ (arg19.view.loc (c : Thread nD τ) ↦[arg19.view.set]{fullShare} f19) ∗ (arg21.view.loc (c : Thread nD τ) ↦[arg21.view.set]{fullShare} f21) ∗ (arg22.view.loc (c : Thread nD τ) ↦[arg22.view.set]{fullShare} f22) ∗ wtileP0_0 c (Ring.sl 2 t.val) 0 e0 ∗ wtileP0_0 c (Ring.sl 2 t.val) 1 e1) : sProp 𝕄)
    ⊢ wp frame (wpE (defs₀ (F := F)) Variants.none c none) Set.univ (k0_part38 (grid0.coords t) arg2 harg2 arg3 harg3 arg4 harg4 arg5 harg5 arg6 harg6 arg7 harg7 arg8 harg8 arg9 harg9 arg10 harg10 arg11 harg11 (Memref.whole main_v13_2) (Memref.isWhole_whole _) arg13 harg13 arg14 harg14 arg15 harg15 arg16 harg16 arg17 harg17 arg18 harg18 arg19 harg19 scM0_4 (Memref.isWhole_whole _) arg21 harg21 arg22 harg22 cc0_scratch7 arg0 v1 v2 v3 v4 v5 v6 v20 v34)
        (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg16.view.loc (c : Thread nD τ) ↦[arg16.view.set]{fullShare} f16) ∗ (arg17.view.loc (c : Thread nD τ) ↦[arg17.view.set]{fullShare} f17) ∗ (∃ f, (arg10.view.loc (c : Thread nD τ) ↦[arg10.view.set]{fullShare} f)) ∗ (∃ f, (arg11.view.loc (c : Thread nD τ) ↦[arg11.view.set]{fullShare} f)) ∗ (∃ f, (arg13.view.loc (c : Thread nD τ) ↦[arg13.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg21.view.loc (c : Thread nD τ) ↦[arg21.view.set]{fullShare} f)) ∗ (∃ f, (arg22.view.loc (c : Thread nD τ) ↦[arg22.view.set]{fullShare} f)) ∗ (∃ e, wtileP0_0 c (Ring.sl 2 t.val) 0 e) ∗ (∃ e, wtileP0_0 c (Ring.sl 2 t.val) 1 e))) := by
  haveI : Fact ((Scalar.cmpi .ne (Scalar.extui (Scalar.cmpi .eq (Scalar.select v34 (Scalar.subi v20 1#32) v20) 1#32)) 0#32 = 1#1)) := ⟨hc1⟩
  haveI : Fact (¬(Scalar.cmpi .ne (Scalar.extui (Scalar.cmpi .eq (Scalar.select v34 (Scalar.subi v20 1#32) v20) 2#32)) 0#32 = 1#1)) := ⟨hc2⟩
  haveI : Fact (¬(Scalar.cmpi .ne (Scalar.extui (Scalar.cmpi .eq (Scalar.select v34 (Scalar.subi v20 1#32) v20) 3#32)) 0#32 = 1#1)) := ⟨hc3⟩
  haveI : Fact (¬(Scalar.cmpi .ne (Scalar.extui (Scalar.cmpi .eq (Scalar.select v34 (Scalar.subi v20 1#32) v20) 0#32)) 0#32 = 1#1)) := ⟨hc0⟩
  simp only [k0_part38_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold k0_part38_skel
  iintro ⟨H2, H3, H4, H5, H6, H7, H8, H9, H16, H17, H10, H11, H13, H18, H19, H21, H22, T0, T1⟩
  sl_exec (disch := first | sl_exact hc1 | sl_exact hc2 | sl_exact hc3 | sl_exact hc0)
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H16]; · iexact H16
  isplitl [H17]; · iexact H17
  isplitl [H10]; · iexists _; iexact H10
  isplitl [H11]; · iexists _; iexact H11
  isplitl [H13]; · iexists _; iexact H13
  isplitl [H18]; · iexists _; iexact H18
  isplitl [H19]; · iexists _; iexact H19
  isplitl [H21]; · iexists _; iexact H21
  isplitl [H22]; · iexists _; iexact H22
  isplitl [T0]; · iexists _; iexact T0
  iexists _; iexact T1

end Cert.Experts.Gen

end
-- ==== Proof.ExpertsPart2.lean ====
/- What the part of the experts body that computes does to the buffers, by the number of row chunks. -/
module

public import proofs.«01_k».proof.Proof.ExpertsRing
public import proofs.«01_k».proof.Proof.Gen.Experts.Skeleton

@[expose] public section

set_option maxRecDepth 16384

noncomputable section

namespace Cert.Experts.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 6400000 in
theorem part38_2 (c : Dev nD) (t : Fin cfg0.N) (arg2 : Memref sig .tc .smem S8 .i32) (harg2 : arg2.IsWhole) (arg3 : Memref sig .tc .smem S4 .f32) (harg3 : arg3.IsWhole) (arg4 : Memref sig .tc .smem S8 .f32) (harg4 : arg4.IsWhole) (arg5 : Memref sig .tc .smem S8 .f32) (harg5 : arg5.IsWhole) (arg6 : Memref sig .tc .vmem S1x720x4096 .fp8e4m3) (harg6 : arg6.IsWhole) (arg7 : Memref sig .tc .vmem S1x720x4096 .fp8e5m2) (harg7 : arg7.IsWhole) (arg8 : Memref sig .tc .vmem S1x2x4096x256 .fp8e4m3) (harg8 : arg8.IsWhole) (arg9 : Memref sig .tc .vmem S1x256x4096 .fp8e4m3) (harg9 : arg9.IsWhole) (arg10 : Memref sig .tc .vmem S1x720x256 .fp8e4m3) (harg10 : arg10.IsWhole) (arg11 : Memref sig .tc .vmem S1x2x720x256 .fp8e5m2) (harg11 : arg11.IsWhole) (arg13 : Memref sig .tc .vmem S1x256x4096 .bf16) (harg13 : arg13.IsWhole) (arg14 : Memref sig .tc .smem S1x1 .f32) (harg14 : arg14.IsWhole) (arg15 : Memref sig .tc .smem S1x1 .f32) (harg15 : arg15.IsWhole) (arg16 : Memref sig .tc .vmem S768x4096 .fp8e4m3) (harg16 : arg16.IsWhole) (arg17 : Memref sig .tc .vmem S768x4096 .fp8e5m2) (harg17 : arg17.IsWhole) (arg18 : Memref sig .tc .vmem S768x256 .fp8e4m3) (harg18 : arg18.IsWhole) (arg19 : Memref sig .tc .vmem S768x512 .fp8e5m2) (harg19 : arg19.IsWhole) (arg21 : Memref sig .tc .vmem S8x128 .f32) (harg21 : arg21.IsWhole) (arg22 : Memref sig .tc .vmem S8x128 .f32) (harg22 : arg22.IsWhole) (arg0 v1 : BitVec 32) (v2 v3 v4 v5 : Elt F .f32) (v6 v20 : BitVec 32) (v34 : BitVec 1) (hc1 : ¬(Scalar.cmpi .ne (Scalar.extui (Scalar.cmpi .eq (Scalar.select v34 (Scalar.subi v20 1#32) v20) 1#32)) 0#32 = 1#1)) (hc2 : (Scalar.cmpi .ne (Scalar.extui (Scalar.cmpi .eq (Scalar.select v34 (Scalar.subi v20 1#32) v20) 2#32)) 0#32 = 1#1)) (hc3 : ¬(Scalar.cmpi .ne (Scalar.extui (Scalar.cmpi .eq (Scalar.select v34 (Scalar.subi v20 1#32) v20) 3#32)) 0#32 = 1#1)) (hc0 : ¬(Scalar.cmpi .ne (Scalar.extui (Scalar.cmpi .eq (Scalar.select v34 (Scalar.subi v20 1#32) v20) 0#32)) 0#32 = 1#1)) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f16 : Buf (Elt F) (arg16.view.loc (c : Thread nD τ))) (f17 : Buf (Elt F) (arg17.view.loc (c : Thread nD τ))) (f10 : Buf (Elt F) (arg10.view.loc (c : Thread nD τ))) (f11 : Buf (Elt F) (arg11.view.loc (c : Thread nD τ))) (f13 : Buf (Elt F) (arg13.view.loc (c : Thread nD τ))) (f18 : Buf (Elt F) (arg18.view.loc (c : Thread nD τ))) (f19 : Buf (Elt F) (arg19.view.loc (c : Thread nD τ))) (f21 : Buf (Elt F) (arg21.view.loc (c : Thread nD τ))) (f22 : Buf (Elt F) (arg22.view.loc (c : Thread nD τ))) (e0 : HbBuf0 (F := F) c (wtile0_0 (Ring.sl 2 t.val) 0)) (e1 : HbBuf0 (F := F) c (wtile0_0 (Ring.sl 2 t.val) 1)) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg16.view.loc (c : Thread nD τ) ↦[arg16.view.set]{fullShare} f16) ∗ (arg17.view.loc (c : Thread nD τ) ↦[arg17.view.set]{fullShare} f17) ∗ (arg10.view.loc (c : Thread nD τ) ↦[arg10.view.set]{fullShare} f10) ∗ (arg11.view.loc (c : Thread nD τ) ↦[arg11.view.set]{fullShare} f11) ∗ (arg13.view.loc (c : Thread nD τ) ↦[arg13.view.set]{fullShare} f13) ∗ (arg18.view.loc (c : Thread nD τ) ↦[arg18.view.set]{fullShare} f18) ∗ (arg19.view.loc (c : Thread nD τ) ↦[arg19.view.set]{fullShare} f19) ∗ (arg21.view.loc (c : Thread nD τ) ↦[arg21.view.set]{fullShare} f21) ∗ (arg22.view.loc (c : Thread nD τ) ↦[arg22.view.set]{fullShare} f22) ∗ wtileP0_0 c (Ring.sl 2 t.val) 0 e0 ∗ wtileP0_0 c (Ring.sl 2 t.val) 1 e1) : sProp 𝕄)
    ⊢ wp frame (wpE (defs₀ (F := F)) Variants.none c none) Set.univ (k0_part38 (grid0.coords t) arg2 harg2 arg3 harg3 arg4 harg4 arg5 harg5 arg6 harg6 arg7 harg7 arg8 harg8 arg9 harg9 arg10 harg10 arg11 harg11 (Memref.whole main_v13_2) (Memref.isWhole_whole _) arg13 harg13 arg14 harg14 arg15 harg15 arg16 harg16 arg17 harg17 arg18 harg18 arg19 harg19 scM0_4 (Memref.isWhole_whole _) arg21 harg21 arg22 harg22 cc0_scratch7 arg0 v1 v2 v3 v4 v5 v6 v20 v34)
        (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg16.view.loc (c : Thread nD τ) ↦[arg16.view.set]{fullShare} f16) ∗ (arg17.view.loc (c : Thread nD τ) ↦[arg17.view.set]{fullShare} f17) ∗ (∃ f, (arg10.view.loc (c : Thread nD τ) ↦[arg10.view.set]{fullShare} f)) ∗ (∃ f, (arg11.view.loc (c : Thread nD τ) ↦[arg11.view.set]{fullShare} f)) ∗ (∃ f, (arg13.view.loc (c : Thread nD τ) ↦[arg13.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg21.view.loc (c : Thread nD τ) ↦[arg21.view.set]{fullShare} f)) ∗ (∃ f, (arg22.view.loc (c : Thread nD τ) ↦[arg22.view.set]{fullShare} f)) ∗ (∃ e, wtileP0_0 c (Ring.sl 2 t.val) 0 e) ∗ (∃ e, wtileP0_0 c (Ring.sl 2 t.val) 1 e))) := by
  haveI : Fact (¬(Scalar.cmpi .ne (Scalar.extui (Scalar.cmpi .eq (Scalar.select v34 (Scalar.subi v20 1#32) v20) 1#32)) 0#32 = 1#1)) := ⟨hc1⟩
  haveI : Fact ((Scalar.cmpi .ne (Scalar.extui (Scalar.cmpi .eq (Scalar.select v34 (Scalar.subi v20 1#32) v20) 2#32)) 0#32 = 1#1)) := ⟨hc2⟩
  haveI : Fact (¬(Scalar.cmpi .ne (Scalar.extui (Scalar.cmpi .eq (Scalar.select v34 (Scalar.subi v20 1#32) v20) 3#32)) 0#32 = 1#1)) := ⟨hc3⟩
  haveI : Fact (¬(Scalar.cmpi .ne (Scalar.extui (Scalar.cmpi .eq (Scalar.select v34 (Scalar.subi v20 1#32) v20) 0#32)) 0#32 = 1#1)) := ⟨hc0⟩
  simp only [k0_part38_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold k0_part38_skel
  iintro ⟨H2, H3, H4, H5, H6, H7, H8, H9, H16, H17, H10, H11, H13, H18, H19, H21, H22, T0, T1⟩
  sl_exec (disch := first | sl_exact hc1 | sl_exact hc2 | sl_exact hc3 | sl_exact hc0)
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H16]; · iexact H16
  isplitl [H17]; · iexact H17
  isplitl [H10]; · iexists _; iexact H10
  isplitl [H11]; · iexists _; iexact H11
  isplitl [H13]; · iexists _; iexact H13
  isplitl [H18]; · iexists _; iexact H18
  isplitl [H19]; · iexists _; iexact H19
  isplitl [H21]; · iexists _; iexact H21
  isplitl [H22]; · iexists _; iexact H22
  isplitl [T0]; · iexists _; iexact T0
  iexists _; iexact T1

end Cert.Experts.Gen

end
-- ==== Proof.ExpertsPart3.lean ====
/- What the part of the experts body that computes does to the buffers, by the number of row chunks. -/
module

public import proofs.«01_k».proof.Proof.ExpertsRing
public import proofs.«01_k».proof.Proof.Gen.Experts.Skeleton

@[expose] public section

set_option maxRecDepth 16384

noncomputable section

namespace Cert.Experts.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 6400000 in
theorem part38_3 (c : Dev nD) (t : Fin cfg0.N) (arg2 : Memref sig .tc .smem S8 .i32) (harg2 : arg2.IsWhole) (arg3 : Memref sig .tc .smem S4 .f32) (harg3 : arg3.IsWhole) (arg4 : Memref sig .tc .smem S8 .f32) (harg4 : arg4.IsWhole) (arg5 : Memref sig .tc .smem S8 .f32) (harg5 : arg5.IsWhole) (arg6 : Memref sig .tc .vmem S1x720x4096 .fp8e4m3) (harg6 : arg6.IsWhole) (arg7 : Memref sig .tc .vmem S1x720x4096 .fp8e5m2) (harg7 : arg7.IsWhole) (arg8 : Memref sig .tc .vmem S1x2x4096x256 .fp8e4m3) (harg8 : arg8.IsWhole) (arg9 : Memref sig .tc .vmem S1x256x4096 .fp8e4m3) (harg9 : arg9.IsWhole) (arg10 : Memref sig .tc .vmem S1x720x256 .fp8e4m3) (harg10 : arg10.IsWhole) (arg11 : Memref sig .tc .vmem S1x2x720x256 .fp8e5m2) (harg11 : arg11.IsWhole) (arg13 : Memref sig .tc .vmem S1x256x4096 .bf16) (harg13 : arg13.IsWhole) (arg14 : Memref sig .tc .smem S1x1 .f32) (harg14 : arg14.IsWhole) (arg15 : Memref sig .tc .smem S1x1 .f32) (harg15 : arg15.IsWhole) (arg16 : Memref sig .tc .vmem S768x4096 .fp8e4m3) (harg16 : arg16.IsWhole) (arg17 : Memref sig .tc .vmem S768x4096 .fp8e5m2) (harg17 : arg17.IsWhole) (arg18 : Memref sig .tc .vmem S768x256 .fp8e4m3) (harg18 : arg18.IsWhole) (arg19 : Memref sig .tc .vmem S768x512 .fp8e5m2) (harg19 : arg19.IsWhole) (arg21 : Memref sig .tc .vmem S8x128 .f32) (harg21 : arg21.IsWhole) (arg22 : Memref sig .tc .vmem S8x128 .f32) (harg22 : arg22.IsWhole) (arg0 v1 : BitVec 32) (v2 v3 v4 v5 : Elt F .f32) (v6 v20 : BitVec 32) (v34 : BitVec 1) (hc1 : ¬(Scalar.cmpi .ne (Scalar.extui (Scalar.cmpi .eq (Scalar.select v34 (Scalar.subi v20 1#32) v20) 1#32)) 0#32 = 1#1)) (hc2 : ¬(Scalar.cmpi .ne (Scalar.extui (Scalar.cmpi .eq (Scalar.select v34 (Scalar.subi v20 1#32) v20) 2#32)) 0#32 = 1#1)) (hc3 : (Scalar.cmpi .ne (Scalar.extui (Scalar.cmpi .eq (Scalar.select v34 (Scalar.subi v20 1#32) v20) 3#32)) 0#32 = 1#1)) (hc0 : ¬(Scalar.cmpi .ne (Scalar.extui (Scalar.cmpi .eq (Scalar.select v34 (Scalar.subi v20 1#32) v20) 0#32)) 0#32 = 1#1)) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f16 : Buf (Elt F) (arg16.view.loc (c : Thread nD τ))) (f17 : Buf (Elt F) (arg17.view.loc (c : Thread nD τ))) (f10 : Buf (Elt F) (arg10.view.loc (c : Thread nD τ))) (f11 : Buf (Elt F) (arg11.view.loc (c : Thread nD τ))) (f13 : Buf (Elt F) (arg13.view.loc (c : Thread nD τ))) (f18 : Buf (Elt F) (arg18.view.loc (c : Thread nD τ))) (f19 : Buf (Elt F) (arg19.view.loc (c : Thread nD τ))) (f21 : Buf (Elt F) (arg21.view.loc (c : Thread nD τ))) (f22 : Buf (Elt F) (arg22.view.loc (c : Thread nD τ))) (e0 : HbBuf0 (F := F) c (wtile0_0 (Ring.sl 2 t.val) 0)) (e1 : HbBuf0 (F := F) c (wtile0_0 (Ring.sl 2 t.val) 1)) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg16.view.loc (c : Thread nD τ) ↦[arg16.view.set]{fullShare} f16) ∗ (arg17.view.loc (c : Thread nD τ) ↦[arg17.view.set]{fullShare} f17) ∗ (arg10.view.loc (c : Thread nD τ) ↦[arg10.view.set]{fullShare} f10) ∗ (arg11.view.loc (c : Thread nD τ) ↦[arg11.view.set]{fullShare} f11) ∗ (arg13.view.loc (c : Thread nD τ) ↦[arg13.view.set]{fullShare} f13) ∗ (arg18.view.loc (c : Thread nD τ) ↦[arg18.view.set]{fullShare} f18) ∗ (arg19.view.loc (c : Thread nD τ) ↦[arg19.view.set]{fullShare} f19) ∗ (arg21.view.loc (c : Thread nD τ) ↦[arg21.view.set]{fullShare} f21) ∗ (arg22.view.loc (c : Thread nD τ) ↦[arg22.view.set]{fullShare} f22) ∗ wtileP0_0 c (Ring.sl 2 t.val) 0 e0 ∗ wtileP0_0 c (Ring.sl 2 t.val) 1 e1) : sProp 𝕄)
    ⊢ wp frame (wpE (defs₀ (F := F)) Variants.none c none) Set.univ (k0_part38 (grid0.coords t) arg2 harg2 arg3 harg3 arg4 harg4 arg5 harg5 arg6 harg6 arg7 harg7 arg8 harg8 arg9 harg9 arg10 harg10 arg11 harg11 (Memref.whole main_v13_2) (Memref.isWhole_whole _) arg13 harg13 arg14 harg14 arg15 harg15 arg16 harg16 arg17 harg17 arg18 harg18 arg19 harg19 scM0_4 (Memref.isWhole_whole _) arg21 harg21 arg22 harg22 cc0_scratch7 arg0 v1 v2 v3 v4 v5 v6 v20 v34)
        (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg16.view.loc (c : Thread nD τ) ↦[arg16.view.set]{fullShare} f16) ∗ (arg17.view.loc (c : Thread nD τ) ↦[arg17.view.set]{fullShare} f17) ∗ (∃ f, (arg10.view.loc (c : Thread nD τ) ↦[arg10.view.set]{fullShare} f)) ∗ (∃ f, (arg11.view.loc (c : Thread nD τ) ↦[arg11.view.set]{fullShare} f)) ∗ (∃ f, (arg13.view.loc (c : Thread nD τ) ↦[arg13.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg21.view.loc (c : Thread nD τ) ↦[arg21.view.set]{fullShare} f)) ∗ (∃ f, (arg22.view.loc (c : Thread nD τ) ↦[arg22.view.set]{fullShare} f)) ∗ (∃ e, wtileP0_0 c (Ring.sl 2 t.val) 0 e) ∗ (∃ e, wtileP0_0 c (Ring.sl 2 t.val) 1 e))) := by
  haveI : Fact (¬(Scalar.cmpi .ne (Scalar.extui (Scalar.cmpi .eq (Scalar.select v34 (Scalar.subi v20 1#32) v20) 1#32)) 0#32 = 1#1)) := ⟨hc1⟩
  haveI : Fact (¬(Scalar.cmpi .ne (Scalar.extui (Scalar.cmpi .eq (Scalar.select v34 (Scalar.subi v20 1#32) v20) 2#32)) 0#32 = 1#1)) := ⟨hc2⟩
  haveI : Fact ((Scalar.cmpi .ne (Scalar.extui (Scalar.cmpi .eq (Scalar.select v34 (Scalar.subi v20 1#32) v20) 3#32)) 0#32 = 1#1)) := ⟨hc3⟩
  haveI : Fact (¬(Scalar.cmpi .ne (Scalar.extui (Scalar.cmpi .eq (Scalar.select v34 (Scalar.subi v20 1#32) v20) 0#32)) 0#32 = 1#1)) := ⟨hc0⟩
  simp only [k0_part38_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  unfold k0_part38_skel
  iintro ⟨H2, H3, H4, H5, H6, H7, H8, H9, H16, H17, H10, H11, H13, H18, H19, H21, H22, T0, T1⟩
  sl_exec (disch := first | sl_exact hc1 | sl_exact hc2 | sl_exact hc3 | sl_exact hc0)
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H16]; · iexact H16
  isplitl [H17]; · iexact H17
  isplitl [H10]; · iexists _; iexact H10
  isplitl [H11]; · iexists _; iexact H11
  isplitl [H13]; · iexists _; iexact H13
  isplitl [H18]; · iexists _; iexact H18
  isplitl [H19]; · iexists _; iexact H19
  isplitl [H21]; · iexists _; iexact H21
  isplitl [H22]; · iexists _; iexact H22
  isplitl [T0]; · iexists _; iexact T0
  iexists _; iexact T1

end Cert.Experts.Gen

end
-- ==== Proof.ExpertsBody.lean ====
/- The experts body at an expert with no row, and whatever the number of chunks is. -/
module

public import proofs.«01_k».proof.Proof.ExpertsPart1
public import proofs.«01_k».proof.Proof.ExpertsPart2
public import proofs.«01_k».proof.Proof.ExpertsPart3

@[expose] public section

set_option maxRecDepth 16384

noncomputable section

namespace Cert.Experts.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## A slot of the packed gradient: its two tiles together -/

theorem inb_wslot (g : Fin 2) : ∀ a, (![g.val, 0, 0, 0, 0] : Fin 5 → Nat) a + S1x2x4096x2x128.size a ≤ S2x2x4096x2x128.size a := by
  have := g.isLt; intro a; fin_cases a <;> simp <;> omega
def wslot (g : Fin 2) : Memref sig .tc .vmem S1x2x4096x2x128 .bf16 :=
  scM0_4.slice (Rect.unit (s := S2x2x4096x2x128) ![g.val, 0, 0, 0, 0] S1x2x4096x2x128.size (inb_wslot g)) (fun _ => rfl)
abbrev wslotSet (g : Fin 2) : Finset S2x2x4096x2x128.Idx := (Rect.unit (s := S2x2x4096x2x128) ![g.val, 0, 0, 0, 0] S1x2x4096x2x128.size (inb_wslot g)).set
theorem wslotSet_eq (g : Fin 2) : (wslot g).view.set = wslotSet g := View.set_slice_whole _ _
theorem wslotSet_tiles (g : Fin 2) : wslotSet g = Finset.univ.biUnion (fun j : Fin 2 => wtileSet0_0 (g, j)) := by
  ext i
  rw [Finset.mem_biUnion]
  simp only [wtileSet0_0, wslotSet, Rect.mem_set_unit]
  have h1 : (i 1).val < 2 := (i 1).isLt
  constructor
  · intro h
    refine ⟨⟨(i 1).val, h1⟩, Finset.mem_univ _, fun a => ?_⟩
    match a with
    | 0 => exact h 0
    | 1 => exact ⟨Nat.le_refl (i 1).val, Nat.lt_succ_self (i 1).val⟩
    | 2 => exact h 2
    | 3 => exact h 3
    | 4 => exact h 4
  · rintro ⟨j, -, h⟩ a
    match a with
    | 0 => exact h 0
    | 1 => exact ⟨Nat.zero_le (i 1).val, lt_of_lt_of_eq h1 (Nat.zero_add 2).symm⟩
    | 2 => exact h 2
    | 3 => exact h 3
    | 4 => exact h 4

abbrev wslotP (c : Dev nD) (g : Fin 2) (e : HbBuf0 (F := F) c (wslot g)) : sProp 𝕄 := (wslot g).view.loc (c : Thread nD τ) ↦[(wslot g).view.set]{fullShare} e
theorem wslotP_eq (c : Dev nD) (g : Fin 2) (e) : wslotP (F := F) c g e = (((c : Thread nD τ).loc cc0_scratch4) ↦[Finset.univ.biUnion (fun j : Fin 2 => wtileSet0_0 (g, j))]{fullShare} e : sProp 𝕄) := by
  unfold wslotP; rw [wslotSet_eq, wslotSet_tiles]; rfl
theorem wtiles_disj (g : Fin 2) (i : Fin 2) (_ : i ∈ Finset.univ) (i' : Fin 2) (_ : i' ∈ Finset.univ) (h : i ≠ i') : Disjoint (wtileSet0_0 (g, i)) (wtileSet0_0 (g, i')) :=
  wtiles0_0_disjoint _ _ fun e => h (congrArg Prod.snd e)

theorem join_two (ℓ : Loc nD τ sig) (K : Fin 2 → Finset (Idx ℓ)) (hd : ∀ i ∈ Finset.univ, ∀ i' ∈ Finset.univ, i ≠ i' → Disjoint (K i) (K i')) (f0 f1 : Buf (Elt F) ℓ) :
    (iprop((ℓ ↦[K 0]{fullShare} f0) ∗ (ℓ ↦[K 1]{fullShare} f1)) : sProp 𝕄) ⊢ iprop(∃ e, (ℓ ↦[Finset.univ.biUnion K]{fullShare} e)) := by
  have hq : (iprop((ℓ ↦[K 0]{fullShare} f0) ∗ (ℓ ↦[K 1]{fullShare} f1)) : sProp 𝕄) =
      bigSep Finset.univ (fun j : Fin 2 => (ℓ ↦[K j]{fullShare} (![f0, f1] : Fin 2 → Buf (Elt F) ℓ) j : sProp 𝕄)) := by
    rw [Ring.bigSep_fin2]; rfl
  rw [hq]
  iintro H
  ihave HJ := (pointsTo_biUnion_join (q := fullShare) Finset.univ K (![f0, f1] : Fin 2 → Buf (Elt F) ℓ) f0 hd) $$ H
  icases HJ with ⟨%e, -, Hs⟩
  iexists e
  iexact Hs
theorem wtileP_loc (c : Dev nD) (g m : Fin 2) (e : HbBuf0 (F := F) c (wtile0_0 g m)) :
    wtileP0_0 (F := F) c g m e ⊢ (iprop(∃ f, (((c : Thread nD τ).loc cc0_scratch4) ↦[wtileSet0_0 (g, m)]{fullShare} f)) : sProp 𝕄) := by
  iintro H
  iexists e
  iapply (Entails.of_eq (wtileP0_0_eq c g m e))
  iexact H
theorem wslotP_of (c : Dev nD) (g : Fin 2) (e) :
    (((c : Thread nD τ).loc cc0_scratch4) ↦[Finset.univ.biUnion (fun j : Fin 2 => wtileSet0_0 (g, j))]{fullShare} e : sProp 𝕄) ⊢ iprop(∃ e, wslotP (F := F) c g e) := by
  iintro H
  iexists e
  iapply (Entails.of_eq (wslotP_eq c g e).symm)
  iexact H
theorem wslot_join (c : Dev nD) (g : Fin 2) (e0 : HbBuf0 (F := F) c (wtile0_0 g 0)) (e1 : HbBuf0 (F := F) c (wtile0_0 g 1)) :
    iprop(wtileP0_0 (F := F) c g 0 e0 ∗ wtileP0_0 c g 1 e1) ⊢ (iprop(∃ e, wslotP c g e) : sProp 𝕄) := by
  iintro ⟨H0, H1⟩
  ihave A0 := (wtileP_loc c g 0 e0) $$ H0
  ihave A1 := (wtileP_loc c g 1 e1) $$ H1
  icases A0 with ⟨%f0, A0⟩
  icases A1 with ⟨%f1, A1⟩
  icombine A0 A1 as A
  ihave HJ := (join_two ((c : Thread nD τ).loc cc0_scratch4) (fun j : Fin 2 => wtileSet0_0 (g, j)) (wtiles_disj g) f0 f1) $$ A
  icases HJ with ⟨%e, Hs⟩
  iapply (wslotP_of c g e)
  iexact Hs

theorem wslot_split (c : Dev nD) (g : Fin 2) (e : HbBuf0 (F := F) c (wslot g)) :
    wslotP (F := F) c g e ⊢ (iprop((∃ e, wtileP0_0 c g 0 e) ∗ ∃ e, wtileP0_0 c g 1 e) : sProp 𝕄) := by
  iintro H
  ihave HB := ((show wslotP (F := F) c g e ⊢ (((c : Thread nD τ).loc cc0_scratch4) ↦[Finset.univ.biUnion (fun j : Fin 2 => wtileSet0_0 (g, j))]{fullShare} e : sProp 𝕄) from Entails.of_eq (wslotP_eq c g e)).trans (Entails.of_eq (pointsTo_biUnion (ℓ := (c : Thread nD τ).loc cc0_scratch4) (q := fullShare) (f := e) Finset.univ (fun j : Fin 2 => wtileSet0_0 (g, j)) (wtiles_disj g)))) $$ H
  ihave HC := (Entails.of_eq (Ring.bigSep_fin2 (fun j : Fin 2 => (((c : Thread nD τ).loc cc0_scratch4) ↦[wtileSet0_0 (g, j)]{fullShare} e : sProp 𝕄)))) $$ HB
  icases HC with ⟨H0, H1⟩
  isplitl [H0]
  · iexists e; iapply (Entails.of_eq (wtileP0_0_eq c g 0 e).symm); iexact H0
  iexists e; iapply (Entails.of_eq (wtileP0_0_eq c g 1 e).symm); iexact H1

set_option maxHeartbeats 6400000 in
theorem part38_0 (c : Dev nD) (t : Fin cfg0.N) (arg2 : Memref sig .tc .smem S8 .i32) (harg2 : arg2.IsWhole) (arg3 : Memref sig .tc .smem S4 .f32) (harg3 : arg3.IsWhole) (arg4 : Memref sig .tc .smem S8 .f32) (harg4 : arg4.IsWhole) (arg5 : Memref sig .tc .smem S8 .f32) (harg5 : arg5.IsWhole) (arg6 : Memref sig .tc .vmem S1x720x4096 .fp8e4m3) (harg6 : arg6.IsWhole) (arg7 : Memref sig .tc .vmem S1x720x4096 .fp8e5m2) (harg7 : arg7.IsWhole) (arg8 : Memref sig .tc .vmem S1x2x4096x256 .fp8e4m3) (harg8 : arg8.IsWhole) (arg9 : Memref sig .tc .vmem S1x256x4096 .fp8e4m3) (harg9 : arg9.IsWhole) (arg10 : Memref sig .tc .vmem S1x720x256 .fp8e4m3) (harg10 : arg10.IsWhole) (arg11 : Memref sig .tc .vmem S1x2x720x256 .fp8e5m2) (harg11 : arg11.IsWhole) (arg13 : Memref sig .tc .vmem S1x256x4096 .bf16) (harg13 : arg13.IsWhole) (arg14 : Memref sig .tc .smem S1x1 .f32) (harg14 : arg14.IsWhole) (arg15 : Memref sig .tc .smem S1x1 .f32) (harg15 : arg15.IsWhole) (arg16 : Memref sig .tc .vmem S768x4096 .fp8e4m3) (harg16 : arg16.IsWhole) (arg17 : Memref sig .tc .vmem S768x4096 .fp8e5m2) (harg17 : arg17.IsWhole) (arg18 : Memref sig .tc .vmem S768x256 .fp8e4m3) (harg18 : arg18.IsWhole) (arg19 : Memref sig .tc .vmem S768x512 .fp8e5m2) (harg19 : arg19.IsWhole) (arg21 : Memref sig .tc .vmem S8x128 .f32) (harg21 : arg21.IsWhole) (arg22 : Memref sig .tc .vmem S8x128 .f32) (harg22 : arg22.IsWhole) (arg0 v1 : BitVec 32) (v2 v3 v4 v5 : Elt F .f32) (v6 v20 : BitVec 32) (v34 : BitVec 1) (hc1 : ¬(Scalar.cmpi .ne (Scalar.extui (Scalar.cmpi .eq (Scalar.select v34 (Scalar.subi v20 1#32) v20) 1#32)) 0#32 = 1#1)) (hc2 : ¬(Scalar.cmpi .ne (Scalar.extui (Scalar.cmpi .eq (Scalar.select v34 (Scalar.subi v20 1#32) v20) 2#32)) 0#32 = 1#1)) (hc3 : ¬(Scalar.cmpi .ne (Scalar.extui (Scalar.cmpi .eq (Scalar.select v34 (Scalar.subi v20 1#32) v20) 3#32)) 0#32 = 1#1)) (hc0 : (Scalar.cmpi .ne (Scalar.extui (Scalar.cmpi .eq (Scalar.select v34 (Scalar.subi v20 1#32) v20) 0#32)) 0#32 = 1#1)) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f16 : Buf (Elt F) (arg16.view.loc (c : Thread nD τ))) (f17 : Buf (Elt F) (arg17.view.loc (c : Thread nD τ))) (f10 : Buf (Elt F) (arg10.view.loc (c : Thread nD τ))) (f11 : Buf (Elt F) (arg11.view.loc (c : Thread nD τ))) (f13 : Buf (Elt F) (arg13.view.loc (c : Thread nD τ))) (f18 : Buf (Elt F) (arg18.view.loc (c : Thread nD τ))) (f19 : Buf (Elt F) (arg19.view.loc (c : Thread nD τ))) (f21 : Buf (Elt F) (arg21.view.loc (c : Thread nD τ))) (f22 : Buf (Elt F) (arg22.view.loc (c : Thread nD τ))) (e0 : HbBuf0 (F := F) c (wtile0_0 (Ring.sl 2 t.val) 0)) (e1 : HbBuf0 (F := F) c (wtile0_0 (Ring.sl 2 t.val) 1)) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg16.view.loc (c : Thread nD τ) ↦[arg16.view.set]{fullShare} f16) ∗ (arg17.view.loc (c : Thread nD τ) ↦[arg17.view.set]{fullShare} f17) ∗ (arg10.view.loc (c : Thread nD τ) ↦[arg10.view.set]{fullShare} f10) ∗ (arg11.view.loc (c : Thread nD τ) ↦[arg11.view.set]{fullShare} f11) ∗ (arg13.view.loc (c : Thread nD τ) ↦[arg13.view.set]{fullShare} f13) ∗ (arg18.view.loc (c : Thread nD τ) ↦[arg18.view.set]{fullShare} f18) ∗ (arg19.view.loc (c : Thread nD τ) ↦[arg19.view.set]{fullShare} f19) ∗ (arg21.view.loc (c : Thread nD τ) ↦[arg21.view.set]{fullShare} f21) ∗ (arg22.view.loc (c : Thread nD τ) ↦[arg22.view.set]{fullShare} f22) ∗ wtileP0_0 c (Ring.sl 2 t.val) 0 e0 ∗ wtileP0_0 c (Ring.sl 2 t.val) 1 e1) : sProp 𝕄)
    ⊢ wp frame (wpE (defs₀ (F := F)) Variants.none c none) Set.univ (k0_part38 (grid0.coords t) arg2 harg2 arg3 harg3 arg4 harg4 arg5 harg5 arg6 harg6 arg7 harg7 arg8 harg8 arg9 harg9 arg10 harg10 arg11 harg11 (Memref.whole main_v13_2) (Memref.isWhole_whole _) arg13 harg13 arg14 harg14 arg15 harg15 arg16 harg16 arg17 harg17 arg18 harg18 arg19 harg19 scM0_4 (Memref.isWhole_whole _) arg21 harg21 arg22 harg22 cc0_scratch7 arg0 v1 v2 v3 v4 v5 v6 v20 v34)
        (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg16.view.loc (c : Thread nD τ) ↦[arg16.view.set]{fullShare} f16) ∗ (arg17.view.loc (c : Thread nD τ) ↦[arg17.view.set]{fullShare} f17) ∗ (∃ f, (arg10.view.loc (c : Thread nD τ) ↦[arg10.view.set]{fullShare} f)) ∗ (∃ f, (arg11.view.loc (c : Thread nD τ) ↦[arg11.view.set]{fullShare} f)) ∗ (∃ f, (arg13.view.loc (c : Thread nD τ) ↦[arg13.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg21.view.loc (c : Thread nD τ) ↦[arg21.view.set]{fullShare} f)) ∗ (∃ f, (arg22.view.loc (c : Thread nD τ) ↦[arg22.view.set]{fullShare} f)) ∗ (∃ e, wtileP0_0 c (Ring.sl 2 t.val) 0 e) ∗ (∃ e, wtileP0_0 c (Ring.sl 2 t.val) 1 e))) := by
  haveI : Fact (¬(Scalar.cmpi .ne (Scalar.extui (Scalar.cmpi .eq (Scalar.select v34 (Scalar.subi v20 1#32) v20) 1#32)) 0#32 = 1#1)) := ⟨hc1⟩
  haveI : Fact (¬(Scalar.cmpi .ne (Scalar.extui (Scalar.cmpi .eq (Scalar.select v34 (Scalar.subi v20 1#32) v20) 2#32)) 0#32 = 1#1)) := ⟨hc2⟩
  haveI : Fact (¬(Scalar.cmpi .ne (Scalar.extui (Scalar.cmpi .eq (Scalar.select v34 (Scalar.subi v20 1#32) v20) 3#32)) 0#32 = 1#1)) := ⟨hc3⟩
  haveI : Fact ((Scalar.cmpi .ne (Scalar.extui (Scalar.cmpi .eq (Scalar.select v34 (Scalar.subi v20 1#32) v20) 0#32)) 0#32 = 1#1)) := ⟨hc0⟩
  simp only [k0_part38_eq_skeleton]
  unfold k0_part38_skel
  iintro ⟨H2, H3, H4, H5, H6, H7, H8, H9, H16, H17, H10, H11, H13, H18, H19, H21, H22, T0, T1⟩
  icombine T0 T1 as T01
  ihave TS := (wslot_join c (Ring.sl 2 t.val) e0 e1) $$ T01
  icases TS with ⟨%eS, TS⟩
  sl_exec (disch := first | sl_exact hc1 | sl_exact hc2 | sl_exact hc3 | sl_exact hc0)
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H16]; · iexact H16
  isplitl [H17]; · iexact H17
  isplitl [H10]; · iexists _; iexact H10
  isplitl [H11]; · iexists _; iexact H11
  isplitl [H13]; · iexists _; iexact H13
  isplitl [H18]; · iexists _; iexact H18
  isplitl [H19]; · iexists _; iexact H19
  isplitl [H21]; · iexists _; iexact H21
  isplitl [H22]; · iexists _; iexact H22
  iapply (wslot_split c (Ring.sl 2 t.val) _)
  iexact TS

set_option maxHeartbeats 6400000 in
theorem part38_9 (c : Dev nD) (t : Fin cfg0.N) (arg2 : Memref sig .tc .smem S8 .i32) (harg2 : arg2.IsWhole) (arg3 : Memref sig .tc .smem S4 .f32) (harg3 : arg3.IsWhole) (arg4 : Memref sig .tc .smem S8 .f32) (harg4 : arg4.IsWhole) (arg5 : Memref sig .tc .smem S8 .f32) (harg5 : arg5.IsWhole) (arg6 : Memref sig .tc .vmem S1x720x4096 .fp8e4m3) (harg6 : arg6.IsWhole) (arg7 : Memref sig .tc .vmem S1x720x4096 .fp8e5m2) (harg7 : arg7.IsWhole) (arg8 : Memref sig .tc .vmem S1x2x4096x256 .fp8e4m3) (harg8 : arg8.IsWhole) (arg9 : Memref sig .tc .vmem S1x256x4096 .fp8e4m3) (harg9 : arg9.IsWhole) (arg10 : Memref sig .tc .vmem S1x720x256 .fp8e4m3) (harg10 : arg10.IsWhole) (arg11 : Memref sig .tc .vmem S1x2x720x256 .fp8e5m2) (harg11 : arg11.IsWhole) (arg13 : Memref sig .tc .vmem S1x256x4096 .bf16) (harg13 : arg13.IsWhole) (arg14 : Memref sig .tc .smem S1x1 .f32) (harg14 : arg14.IsWhole) (arg15 : Memref sig .tc .smem S1x1 .f32) (harg15 : arg15.IsWhole) (arg16 : Memref sig .tc .vmem S768x4096 .fp8e4m3) (harg16 : arg16.IsWhole) (arg17 : Memref sig .tc .vmem S768x4096 .fp8e5m2) (harg17 : arg17.IsWhole) (arg18 : Memref sig .tc .vmem S768x256 .fp8e4m3) (harg18 : arg18.IsWhole) (arg19 : Memref sig .tc .vmem S768x512 .fp8e5m2) (harg19 : arg19.IsWhole) (arg21 : Memref sig .tc .vmem S8x128 .f32) (harg21 : arg21.IsWhole) (arg22 : Memref sig .tc .vmem S8x128 .f32) (harg22 : arg22.IsWhole) (arg0 v1 : BitVec 32) (v2 v3 v4 v5 : Elt F .f32) (v6 v20 : BitVec 32) (v34 : BitVec 1) (hc1 : ¬(Scalar.cmpi .ne (Scalar.extui (Scalar.cmpi .eq (Scalar.select v34 (Scalar.subi v20 1#32) v20) 1#32)) 0#32 = 1#1)) (hc2 : ¬(Scalar.cmpi .ne (Scalar.extui (Scalar.cmpi .eq (Scalar.select v34 (Scalar.subi v20 1#32) v20) 2#32)) 0#32 = 1#1)) (hc3 : ¬(Scalar.cmpi .ne (Scalar.extui (Scalar.cmpi .eq (Scalar.select v34 (Scalar.subi v20 1#32) v20) 3#32)) 0#32 = 1#1)) (hc0 : ¬(Scalar.cmpi .ne (Scalar.extui (Scalar.cmpi .eq (Scalar.select v34 (Scalar.subi v20 1#32) v20) 0#32)) 0#32 = 1#1)) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f16 : Buf (Elt F) (arg16.view.loc (c : Thread nD τ))) (f17 : Buf (Elt F) (arg17.view.loc (c : Thread nD τ))) (f10 : Buf (Elt F) (arg10.view.loc (c : Thread nD τ))) (f11 : Buf (Elt F) (arg11.view.loc (c : Thread nD τ))) (f13 : Buf (Elt F) (arg13.view.loc (c : Thread nD τ))) (f18 : Buf (Elt F) (arg18.view.loc (c : Thread nD τ))) (f19 : Buf (Elt F) (arg19.view.loc (c : Thread nD τ))) (f21 : Buf (Elt F) (arg21.view.loc (c : Thread nD τ))) (f22 : Buf (Elt F) (arg22.view.loc (c : Thread nD τ))) (e0 : HbBuf0 (F := F) c (wtile0_0 (Ring.sl 2 t.val) 0)) (e1 : HbBuf0 (F := F) c (wtile0_0 (Ring.sl 2 t.val) 1)) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg16.view.loc (c : Thread nD τ) ↦[arg16.view.set]{fullShare} f16) ∗ (arg17.view.loc (c : Thread nD τ) ↦[arg17.view.set]{fullShare} f17) ∗ (arg10.view.loc (c : Thread nD τ) ↦[arg10.view.set]{fullShare} f10) ∗ (arg11.view.loc (c : Thread nD τ) ↦[arg11.view.set]{fullShare} f11) ∗ (arg13.view.loc (c : Thread nD τ) ↦[arg13.view.set]{fullShare} f13) ∗ (arg18.view.loc (c : Thread nD τ) ↦[arg18.view.set]{fullShare} f18) ∗ (arg19.view.loc (c : Thread nD τ) ↦[arg19.view.set]{fullShare} f19) ∗ (arg21.view.loc (c : Thread nD τ) ↦[arg21.view.set]{fullShare} f21) ∗ (arg22.view.loc (c : Thread nD τ) ↦[arg22.view.set]{fullShare} f22) ∗ wtileP0_0 c (Ring.sl 2 t.val) 0 e0 ∗ wtileP0_0 c (Ring.sl 2 t.val) 1 e1) : sProp 𝕄)
    ⊢ wp frame (wpE (defs₀ (F := F)) Variants.none c none) Set.univ (k0_part38 (grid0.coords t) arg2 harg2 arg3 harg3 arg4 harg4 arg5 harg5 arg6 harg6 arg7 harg7 arg8 harg8 arg9 harg9 arg10 harg10 arg11 harg11 (Memref.whole main_v13_2) (Memref.isWhole_whole _) arg13 harg13 arg14 harg14 arg15 harg15 arg16 harg16 arg17 harg17 arg18 harg18 arg19 harg19 scM0_4 (Memref.isWhole_whole _) arg21 harg21 arg22 harg22 cc0_scratch7 arg0 v1 v2 v3 v4 v5 v6 v20 v34)
        (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg16.view.loc (c : Thread nD τ) ↦[arg16.view.set]{fullShare} f16) ∗ (arg17.view.loc (c : Thread nD τ) ↦[arg17.view.set]{fullShare} f17) ∗ (∃ f, (arg10.view.loc (c : Thread nD τ) ↦[arg10.view.set]{fullShare} f)) ∗ (∃ f, (arg11.view.loc (c : Thread nD τ) ↦[arg11.view.set]{fullShare} f)) ∗ (∃ f, (arg13.view.loc (c : Thread nD τ) ↦[arg13.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg21.view.loc (c : Thread nD τ) ↦[arg21.view.set]{fullShare} f)) ∗ (∃ f, (arg22.view.loc (c : Thread nD τ) ↦[arg22.view.set]{fullShare} f)) ∗ (∃ e, wtileP0_0 c (Ring.sl 2 t.val) 0 e) ∗ (∃ e, wtileP0_0 c (Ring.sl 2 t.val) 1 e))) := by
  haveI : Fact (¬(Scalar.cmpi .ne (Scalar.extui (Scalar.cmpi .eq (Scalar.select v34 (Scalar.subi v20 1#32) v20) 1#32)) 0#32 = 1#1)) := ⟨hc1⟩
  haveI : Fact (¬(Scalar.cmpi .ne (Scalar.extui (Scalar.cmpi .eq (Scalar.select v34 (Scalar.subi v20 1#32) v20) 2#32)) 0#32 = 1#1)) := ⟨hc2⟩
  haveI : Fact (¬(Scalar.cmpi .ne (Scalar.extui (Scalar.cmpi .eq (Scalar.select v34 (Scalar.subi v20 1#32) v20) 3#32)) 0#32 = 1#1)) := ⟨hc3⟩
  haveI : Fact (¬(Scalar.cmpi .ne (Scalar.extui (Scalar.cmpi .eq (Scalar.select v34 (Scalar.subi v20 1#32) v20) 0#32)) 0#32 = 1#1)) := ⟨hc0⟩
  simp only [k0_part38_eq_skeleton]
  unfold k0_part38_skel
  iintro ⟨H2, H3, H4, H5, H6, H7, H8, H9, H16, H17, H10, H11, H13, H18, H19, H21, H22, T0, T1⟩
  sl_exec (disch := first | sl_exact hc1 | sl_exact hc2 | sl_exact hc3 | sl_exact hc0)
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H16]; · iexact H16
  isplitl [H17]; · iexact H17
  isplitl [H10]; · iexists _; iexact H10
  isplitl [H11]; · iexists _; iexact H11
  isplitl [H13]; · iexists _; iexact H13
  isplitl [H18]; · iexists _; iexact H18
  isplitl [H19]; · iexists _; iexact H19
  isplitl [H21]; · iexists _; iexact H21
  isplitl [H22]; · iexists _; iexact H22
  isplitl [T0]; · iexists _; iexact T0
  iexists _; iexact T1

/-- A call and the rest of the program, the rest kept apart while the call runs. -/
theorem bind_run {α β : Type} (c : Dev nD) (p : Prog (TpuEff nD τ sig (Elt F) Λ₀ .tc) α) (k : α → Prog (TpuEff nD τ sig (Elt F) Λ₀ .tc) β) (Q : β → sProp 𝕄) (R : sProp 𝕄)
    (h : ∀ Q' : α → sProp 𝕄, (∀ a, Q' a = wp frame (wpE (defs₀ (F := F)) Variants.none c none) Set.univ (k a) Q) → R ⊢ wp frame (wpE (defs₀ (F := F)) Variants.none c none) Set.univ p Q') :
    R ⊢ wp frame (wpE (defs₀ (F := F)) Variants.none c none) Set.univ (p >>= k) Q := by
  rw [Idealize.SL.Sem.wp_bind]; exact h _ fun _ => rfl

theorem branch_excl (i j : BitVec 32) (hij : i ≠ j) (w : BitVec 32) (h : Scalar.cmpi .ne (Scalar.extui (Scalar.cmpi .eq w i)) 0#32 = 1#1) :
    ¬ Scalar.cmpi .ne (Scalar.extui (Scalar.cmpi .eq w j)) 0#32 = 1#1 := by
  intro h'
  have e : ∀ k : BitVec 32, Scalar.cmpi .ne (Scalar.extui (Scalar.cmpi .eq w k)) 0#32 = 1#1 → w = k := fun k hk => by
    by_contra hne
    have : Scalar.cmpi .eq w k = 0#1 := by show BitVec.ofBool (w == k) = 0#1; rw [beq_eq_false_iff_ne.mpr hne]; rfl
    rw [this] at hk
    exact absurd hk (by decide)
  exact hij ((e i h).symm.trans (e j h'))

set_option maxHeartbeats 6400000 in
theorem part38 (c : Dev nD) (t : Fin cfg0.N) (arg2 : Memref sig .tc .smem S8 .i32) (harg2 : arg2.IsWhole) (arg3 : Memref sig .tc .smem S4 .f32) (harg3 : arg3.IsWhole) (arg4 : Memref sig .tc .smem S8 .f32) (harg4 : arg4.IsWhole) (arg5 : Memref sig .tc .smem S8 .f32) (harg5 : arg5.IsWhole) (arg6 : Memref sig .tc .vmem S1x720x4096 .fp8e4m3) (harg6 : arg6.IsWhole) (arg7 : Memref sig .tc .vmem S1x720x4096 .fp8e5m2) (harg7 : arg7.IsWhole) (arg8 : Memref sig .tc .vmem S1x2x4096x256 .fp8e4m3) (harg8 : arg8.IsWhole) (arg9 : Memref sig .tc .vmem S1x256x4096 .fp8e4m3) (harg9 : arg9.IsWhole) (arg10 : Memref sig .tc .vmem S1x720x256 .fp8e4m3) (harg10 : arg10.IsWhole) (arg11 : Memref sig .tc .vmem S1x2x720x256 .fp8e5m2) (harg11 : arg11.IsWhole) (arg13 : Memref sig .tc .vmem S1x256x4096 .bf16) (harg13 : arg13.IsWhole) (arg14 : Memref sig .tc .smem S1x1 .f32) (harg14 : arg14.IsWhole) (arg15 : Memref sig .tc .smem S1x1 .f32) (harg15 : arg15.IsWhole) (arg16 : Memref sig .tc .vmem S768x4096 .fp8e4m3) (harg16 : arg16.IsWhole) (arg17 : Memref sig .tc .vmem S768x4096 .fp8e5m2) (harg17 : arg17.IsWhole) (arg18 : Memref sig .tc .vmem S768x256 .fp8e4m3) (harg18 : arg18.IsWhole) (arg19 : Memref sig .tc .vmem S768x512 .fp8e5m2) (harg19 : arg19.IsWhole) (arg21 : Memref sig .tc .vmem S8x128 .f32) (harg21 : arg21.IsWhole) (arg22 : Memref sig .tc .vmem S8x128 .f32) (harg22 : arg22.IsWhole) (arg0 v1 : BitVec 32) (v2 v3 v4 v5 : Elt F .f32) (v6 v20 : BitVec 32) (v34 : BitVec 1) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f16 : Buf (Elt F) (arg16.view.loc (c : Thread nD τ))) (f17 : Buf (Elt F) (arg17.view.loc (c : Thread nD τ))) (f10 : Buf (Elt F) (arg10.view.loc (c : Thread nD τ))) (f11 : Buf (Elt F) (arg11.view.loc (c : Thread nD τ))) (f13 : Buf (Elt F) (arg13.view.loc (c : Thread nD τ))) (f18 : Buf (Elt F) (arg18.view.loc (c : Thread nD τ))) (f19 : Buf (Elt F) (arg19.view.loc (c : Thread nD τ))) (f21 : Buf (Elt F) (arg21.view.loc (c : Thread nD τ))) (f22 : Buf (Elt F) (arg22.view.loc (c : Thread nD τ))) (e0 : HbBuf0 (F := F) c (wtile0_0 (Ring.sl 2 t.val) 0)) (e1 : HbBuf0 (F := F) c (wtile0_0 (Ring.sl 2 t.val) 1)) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg16.view.loc (c : Thread nD τ) ↦[arg16.view.set]{fullShare} f16) ∗ (arg17.view.loc (c : Thread nD τ) ↦[arg17.view.set]{fullShare} f17) ∗ (arg10.view.loc (c : Thread nD τ) ↦[arg10.view.set]{fullShare} f10) ∗ (arg11.view.loc (c : Thread nD τ) ↦[arg11.view.set]{fullShare} f11) ∗ (arg13.view.loc (c : Thread nD τ) ↦[arg13.view.set]{fullShare} f13) ∗ (arg18.view.loc (c : Thread nD τ) ↦[arg18.view.set]{fullShare} f18) ∗ (arg19.view.loc (c : Thread nD τ) ↦[arg19.view.set]{fullShare} f19) ∗ (arg21.view.loc (c : Thread nD τ) ↦[arg21.view.set]{fullShare} f21) ∗ (arg22.view.loc (c : Thread nD τ) ↦[arg22.view.set]{fullShare} f22) ∗ wtileP0_0 c (Ring.sl 2 t.val) 0 e0 ∗ wtileP0_0 c (Ring.sl 2 t.val) 1 e1) : sProp 𝕄)
    ⊢ wp frame (wpE (defs₀ (F := F)) Variants.none c none) Set.univ (k0_part38 (grid0.coords t) arg2 harg2 arg3 harg3 arg4 harg4 arg5 harg5 arg6 harg6 arg7 harg7 arg8 harg8 arg9 harg9 arg10 harg10 arg11 harg11 (Memref.whole main_v13_2) (Memref.isWhole_whole _) arg13 harg13 arg14 harg14 arg15 harg15 arg16 harg16 arg17 harg17 arg18 harg18 arg19 harg19 scM0_4 (Memref.isWhole_whole _) arg21 harg21 arg22 harg22 cc0_scratch7 arg0 v1 v2 v3 v4 v5 v6 v20 v34)
        (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg16.view.loc (c : Thread nD τ) ↦[arg16.view.set]{fullShare} f16) ∗ (arg17.view.loc (c : Thread nD τ) ↦[arg17.view.set]{fullShare} f17) ∗ (∃ f, (arg10.view.loc (c : Thread nD τ) ↦[arg10.view.set]{fullShare} f)) ∗ (∃ f, (arg11.view.loc (c : Thread nD τ) ↦[arg11.view.set]{fullShare} f)) ∗ (∃ f, (arg13.view.loc (c : Thread nD τ) ↦[arg13.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg21.view.loc (c : Thread nD τ) ↦[arg21.view.set]{fullShare} f)) ∗ (∃ f, (arg22.view.loc (c : Thread nD τ) ↦[arg22.view.set]{fullShare} f)) ∗ (∃ e, wtileP0_0 c (Ring.sl 2 t.val) 0 e) ∗ (∃ e, wtileP0_0 c (Ring.sl 2 t.val) 1 e))) := by
  have hx : ∀ i j : BitVec 32, i ≠ j → ∀ w : BitVec 32, Scalar.cmpi .ne (Scalar.extui (Scalar.cmpi .eq w i)) 0#32 = 1#1 → ¬ Scalar.cmpi .ne (Scalar.extui (Scalar.cmpi .eq w j)) 0#32 = 1#1 := branch_excl
  by_cases hc1 : Scalar.cmpi .ne (Scalar.extui (Scalar.cmpi .eq (Scalar.select v34 (Scalar.subi v20 1#32) v20) 1#32)) 0#32 = 1#1
  · have hc2 := hx 1#32 2#32 (by decide) _ hc1; have hc3 := hx 1#32 3#32 (by decide) _ hc1; have hc0 := hx 1#32 0#32 (by decide) _ hc1; exact part38_1 c t arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg21 harg21 arg22 harg22 arg0 v1 v2 v3 v4 v5 v6 v20 v34 hc1 hc2 hc3 hc0 f2 f3 f4 f5 f6 f7 f8 f9 f16 f17 f10 f11 f13 f18 f19 f21 f22 e0 e1
  by_cases hc2 : Scalar.cmpi .ne (Scalar.extui (Scalar.cmpi .eq (Scalar.select v34 (Scalar.subi v20 1#32) v20) 2#32)) 0#32 = 1#1
  · have hc1 := hx 2#32 1#32 (by decide) _ hc2; have hc3 := hx 2#32 3#32 (by decide) _ hc2; have hc0 := hx 2#32 0#32 (by decide) _ hc2; exact part38_2 c t arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg21 harg21 arg22 harg22 arg0 v1 v2 v3 v4 v5 v6 v20 v34 hc1 hc2 hc3 hc0 f2 f3 f4 f5 f6 f7 f8 f9 f16 f17 f10 f11 f13 f18 f19 f21 f22 e0 e1
  by_cases hc3 : Scalar.cmpi .ne (Scalar.extui (Scalar.cmpi .eq (Scalar.select v34 (Scalar.subi v20 1#32) v20) 3#32)) 0#32 = 1#1
  · have hc1 := hx 3#32 1#32 (by decide) _ hc3; have hc2 := hx 3#32 2#32 (by decide) _ hc3; have hc0 := hx 3#32 0#32 (by decide) _ hc3; exact part38_3 c t arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg21 harg21 arg22 harg22 arg0 v1 v2 v3 v4 v5 v6 v20 v34 hc1 hc2 hc3 hc0 f2 f3 f4 f5 f6 f7 f8 f9 f16 f17 f10 f11 f13 f18 f19 f21 f22 e0 e1
  by_cases hc0 : Scalar.cmpi .ne (Scalar.extui (Scalar.cmpi .eq (Scalar.select v34 (Scalar.subi v20 1#32) v20) 0#32)) 0#32 = 1#1
  · exact part38_0 c t arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg21 harg21 arg22 harg22 arg0 v1 v2 v3 v4 v5 v6 v20 v34 hc1 hc2 hc3 hc0 f2 f3 f4 f5 f6 f7 f8 f9 f16 f17 f10 f11 f13 f18 f19 f21 f22 e0 e1
  exact part38_9 c t arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg21 harg21 arg22 harg22 arg0 v1 v2 v3 v4 v5 v6 v20 v34 hc1 hc2 hc3 hc0 f2 f3 f4 f5 f6 f7 f8 f9 f16 f17 f10 f11 f13 f18 f19 f21 f22 e0 e1

end Cert.Experts.Gen

end
-- ==== Proof.ExpertsRunA.lean ====
/- The experts body at a point that waits for no transfer. -/
module

public import proofs.«01_k».proof.Proof.ExpertsBody

@[expose] public section

set_option maxRecDepth 16384

noncomputable section

namespace Cert.Experts.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 6400000 in
/-- The body at a point that waits for no transfer: the inputs' buffers end as they were, the others at some contents. -/
theorem run_A (c : Dev nD) (t : Fin cfg0.N) (arg2 : Memref sig .tc .smem S8 .i32) (harg2 : arg2.IsWhole) (arg3 : Memref sig .tc .smem S4 .f32) (harg3 : arg3.IsWhole) (arg4 : Memref sig .tc .smem S8 .f32) (harg4 : arg4.IsWhole) (arg5 : Memref sig .tc .smem S8 .f32) (harg5 : arg5.IsWhole) (arg6 : Memref sig .tc .vmem S1x720x4096 .fp8e4m3) (harg6 : arg6.IsWhole) (arg7 : Memref sig .tc .vmem S1x720x4096 .fp8e5m2) (harg7 : arg7.IsWhole) (arg8 : Memref sig .tc .vmem S1x2x4096x256 .fp8e4m3) (harg8 : arg8.IsWhole) (arg9 : Memref sig .tc .vmem S1x256x4096 .fp8e4m3) (harg9 : arg9.IsWhole) (arg10 : Memref sig .tc .vmem S1x720x256 .fp8e4m3) (harg10 : arg10.IsWhole) (arg11 : Memref sig .tc .vmem S1x2x720x256 .fp8e5m2) (harg11 : arg11.IsWhole) (arg13 : Memref sig .tc .vmem S1x256x4096 .bf16) (harg13 : arg13.IsWhole) (arg14 : Memref sig .tc .smem S1x1 .f32) (harg14 : arg14.IsWhole) (arg15 : Memref sig .tc .smem S1x1 .f32) (harg15 : arg15.IsWhole) (arg16 : Memref sig .tc .vmem S768x4096 .fp8e4m3) (harg16 : arg16.IsWhole) (arg17 : Memref sig .tc .vmem S768x4096 .fp8e5m2) (harg17 : arg17.IsWhole) (arg18 : Memref sig .tc .vmem S768x256 .fp8e4m3) (harg18 : arg18.IsWhole) (arg19 : Memref sig .tc .vmem S768x512 .fp8e5m2) (harg19 : arg19.IsWhole) (arg21 : Memref sig .tc .vmem S8x128 .f32) (harg21 : arg21.IsWhole) (arg22 : Memref sig .tc .vmem S8x128 .f32) (harg22 : arg22.IsWhole) (hc0 : ¬cond0_0 (grid0.coords t)) (hc1 : ¬cond0_1 (grid0.coords t))
    (x2 : Vec F S8 .i32) (x3 : Vec F S4 .f32) (x4 : Vec F S8 .f32) (x5 : Vec F S8 .f32) (x6 : Vec F S1x720x4096 .fp8e4m3) (x7 : Vec F S1x720x4096 .fp8e5m2) (x8 : Vec F S1x2x4096x256 .fp8e4m3) (x9 : Vec F S1x256x4096 .fp8e4m3) (W : Waits sig Unit) (K : PUnit → sProp 𝕄) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg21 fullShare d) ∗ (∃ d, owns (c : Thread nD τ) arg22 fullShare d) ∗ (∃ f, wpieceP0_0 c (Ring.bk 56 t.val) 0 f) ∗ (∃ f, wpieceP0_0 c (Ring.bk 56 t.val) 1 f) ∗ wcellP0_0 c (Ring.sl 2 t.val) ∗ (∃ e, wtileP0_0 c (Ring.sl 2 t.val) 0 e) ∗ (∃ e, wtileP0_0 c (Ring.sl 2 t.val) 1 e) ∗ owes (c : Thread nD τ) 0 W
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg21 fullShare d) ∗ (∃ d, owns (c : Thread nD τ) arg22 fullShare d) ∗ winfl0_0 c (Ring.sl 2 t.val) (Ring.bk 56 t.val) ∗ (∃ W', owes (c : Thread nD τ) 0 W')) -∗ K ⟨⟩)) : sProp 𝕄)
    ⊢ wp frame (wpE (defs₀ (F := F)) Variants.none c none) Set.univ (cc0_experts (grid0.coords t) arg2 harg2 arg3 harg3 arg4 harg4 arg5 harg5 arg6 harg6 arg7 harg7 arg8 harg8 arg9 harg9 arg10 harg10 arg11 harg11 (Memref.whole main_v13_2) (Memref.isWhole_whole _) arg13 harg13 arg14 harg14 arg15 harg15 arg16 harg16 arg17 harg17 arg18 harg18 arg19 harg19 scM0_4 (Memref.isWhole_whole _) arg21 harg21 arg22 harg22 cc0_scratch7) K := by
  haveI : Fact (¬cond0_0 (grid0.coords t)) := ⟨hc0⟩
  haveI : Fact (¬cond0_1 (grid0.coords t)) := ⟨hc1⟩
  simp only [cc0_experts_eq_skeleton]; unfold cc0_experts_skel
  simp only [k0_part37_eq_skeleton, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d21, %f21, -, H21⟩, ⟨%d22, %f22, -, H22⟩, ⟨%fp0, Hp0_0_0⟩, ⟨%fp1, Hp0_0_1⟩, Hq0_0, ⟨%et0, Ht0⟩, ⟨%et1, Ht1⟩, HW, Hk⟩
  have hD0_0 := wstorable_dlv0_0 (F := F) c (Ring.bk 56 t.val) (Ring.sl 2 t.val)
  imod (Transfers.batch_alloc' (Lvl := ℕ) countersEmb (c : Thread nD τ) default wN0_0 (wdlv0_0 c (Ring.bk 56 t.val) (Ring.sl 2 t.val)) (sm := wcellR0_0 (Ring.sl 2 t.val)) (E := Set.univ)) $$ Hq0_0 with HN0_0
  clear hD0_0
  have hcut := part38 (F := F) c t arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg21 harg21 arg22 harg22
  sl_exec (disch := first | sl_exact hc0 | sl_exact hc1)
  sl_step
  iapply Hk
  isplitl [Hk0_part38_0]
  · iexists _; isplitr; · ipureintro; exact hf2
    iexact Hk0_part38_0
  isplitl [Hk0_part38_1]
  · iexists _; isplitr; · ipureintro; exact hf3
    iexact Hk0_part38_1
  isplitl [Hk0_part38_2]
  · iexists _; isplitr; · ipureintro; exact hf4
    iexact Hk0_part38_2
  isplitl [Hk0_part38_3]
  · iexists _; isplitr; · ipureintro; exact hf5
    iexact Hk0_part38_3
  isplitl [Hk0_part38_4]
  · iexists _; isplitr; · ipureintro; exact hf6
    iexact Hk0_part38_4
  isplitl [Hk0_part38_5]
  · iexists _; isplitr; · ipureintro; exact hf7
    iexact Hk0_part38_5
  isplitl [Hk0_part38_6]
  · iexists _; isplitr; · ipureintro; exact hf8
    iexact Hk0_part38_6
  isplitl [Hk0_part38_7]
  · iexists _; isplitr; · ipureintro; exact hf9
    iexact Hk0_part38_7
  isplitl [Hk0_part38_10]
  · iexists _, _; isplitr; swap; · iexact Hk0_part38_10
    ipureintro; rfl
  isplitl [Hk0_part38_11]
  · iexists _, _; isplitr; swap; · iexact Hk0_part38_11
    ipureintro; rfl
  isplitl [Hk0_part38_12]
  · iexists _, _; isplitr; swap; · iexact Hk0_part38_12
    ipureintro; rfl
  isplitl [H14]
  · iexists _, _; isplitr; swap; · iexact H14
    ipureintro; rfl
  isplitl [H15]
  · iexists _, _; isplitr; swap; · iexact H15
    ipureintro; rfl
  isplitl [Hk0_part38_8]
  · iexists _, _; isplitr; swap; · iexact Hk0_part38_8
    ipureintro; rfl
  isplitl [Hk0_part38_9]
  · iexists _, _; isplitr; swap; · iexact Hk0_part38_9
    ipureintro; rfl
  isplitl [Hk0_part38_13]
  · iexists _, _; isplitr; swap; · iexact Hk0_part38_13
    ipureintro; rfl
  isplitl [Hk0_part38_14]
  · iexists _, _; isplitr; swap; · iexact Hk0_part38_14
    ipureintro; rfl
  isplitl [Hk0_part38_15]
  · iexists _, _; isplitr; swap; · iexact Hk0_part38_15
    ipureintro; rfl
  isplitl [Hk0_part38_16]
  · iexists _, _; isplitr; swap; · iexact Hk0_part38_16
    ipureintro; rfl
  isplitl [HN0_0]; · iexact HN0_0
  iexists _; iexact HW

end Cert.Experts.Gen

end
-- ==== Proof.ExpertsRunB.lean ====
/- The experts body at a point that waits for the transfers started two points before. -/
module

public import proofs.«01_k».proof.Proof.ExpertsRunA

@[expose] public section

set_option maxRecDepth 16384

noncomputable section

namespace Cert.Experts.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 6400000 in
/-- The body at a point that waits for the transfers started two points before: the inputs' buffers end as they were, the others at some contents. -/
theorem run_B (c : Dev nD) (t : Fin cfg0.N) (arg2 : Memref sig .tc .smem S8 .i32) (harg2 : arg2.IsWhole) (arg3 : Memref sig .tc .smem S4 .f32) (harg3 : arg3.IsWhole) (arg4 : Memref sig .tc .smem S8 .f32) (harg4 : arg4.IsWhole) (arg5 : Memref sig .tc .smem S8 .f32) (harg5 : arg5.IsWhole) (arg6 : Memref sig .tc .vmem S1x720x4096 .fp8e4m3) (harg6 : arg6.IsWhole) (arg7 : Memref sig .tc .vmem S1x720x4096 .fp8e5m2) (harg7 : arg7.IsWhole) (arg8 : Memref sig .tc .vmem S1x2x4096x256 .fp8e4m3) (harg8 : arg8.IsWhole) (arg9 : Memref sig .tc .vmem S1x256x4096 .fp8e4m3) (harg9 : arg9.IsWhole) (arg10 : Memref sig .tc .vmem S1x720x256 .fp8e4m3) (harg10 : arg10.IsWhole) (arg11 : Memref sig .tc .vmem S1x2x720x256 .fp8e5m2) (harg11 : arg11.IsWhole) (arg13 : Memref sig .tc .vmem S1x256x4096 .bf16) (harg13 : arg13.IsWhole) (arg14 : Memref sig .tc .smem S1x1 .f32) (harg14 : arg14.IsWhole) (arg15 : Memref sig .tc .smem S1x1 .f32) (harg15 : arg15.IsWhole) (arg16 : Memref sig .tc .vmem S768x4096 .fp8e4m3) (harg16 : arg16.IsWhole) (arg17 : Memref sig .tc .vmem S768x4096 .fp8e5m2) (harg17 : arg17.IsWhole) (arg18 : Memref sig .tc .vmem S768x256 .fp8e4m3) (harg18 : arg18.IsWhole) (arg19 : Memref sig .tc .vmem S768x512 .fp8e5m2) (harg19 : arg19.IsWhole) (arg21 : Memref sig .tc .vmem S8x128 .f32) (harg21 : arg21.IsWhole) (arg22 : Memref sig .tc .vmem S8x128 .f32) (harg22 : arg22.IsWhole) (hc0 : cond0_0 (grid0.coords t)) (hc1 : ¬cond0_1 (grid0.coords t))
    (x2 : Vec F S8 .i32) (x3 : Vec F S4 .f32) (x4 : Vec F S8 .f32) (x5 : Vec F S8 .f32) (x6 : Vec F S1x720x4096 .fp8e4m3) (x7 : Vec F S1x720x4096 .fp8e5m2) (x8 : Vec F S1x2x4096x256 .fp8e4m3) (x9 : Vec F S1x256x4096 .fp8e4m3) (W : Waits sig Unit) (K : PUnit → sProp 𝕄) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg21 fullShare d) ∗ (∃ d, owns (c : Thread nD τ) arg22 fullShare d) ∗ (∃ f, wpieceP0_0 c (Ring.bk 56 t.val) 0 f) ∗ (∃ f, wpieceP0_0 c (Ring.bk 56 t.val) 1 f) ∗ winfl0_0 c (Ring.sl 2 t.val) (Ring.bk 56 (t.val - 2)) ∗ owes (c : Thread nD τ) 0 W
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg21 fullShare d) ∗ (∃ d, owns (c : Thread nD τ) arg22 fullShare d) ∗ (∃ f, wpieceP0_0 c (Ring.bk 56 (t.val - 2)) 0 f) ∗ (∃ f, wpieceP0_0 c (Ring.bk 56 (t.val - 2)) 1 f) ∗ winfl0_0 c (Ring.sl 2 t.val) (Ring.bk 56 t.val) ∗ (∃ W', owes (c : Thread nD τ) 0 W')) -∗ K ⟨⟩)) : sProp 𝕄)
    ⊢ wp frame (wpE (defs₀ (F := F)) Variants.none c none) Set.univ (cc0_experts (grid0.coords t) arg2 harg2 arg3 harg3 arg4 harg4 arg5 harg5 arg6 harg6 arg7 harg7 arg8 harg8 arg9 harg9 arg10 harg10 arg11 harg11 (Memref.whole main_v13_2) (Memref.isWhole_whole _) arg13 harg13 arg14 harg14 arg15 harg15 arg16 harg16 arg17 harg17 arg18 harg18 arg19 harg19 scM0_4 (Memref.isWhole_whole _) arg21 harg21 arg22 harg22 cc0_scratch7) K := by
  haveI : Fact (cond0_0 (grid0.coords t)) := ⟨hc0⟩
  haveI : Fact (¬cond0_1 (grid0.coords t)) := ⟨hc1⟩
  simp only [cc0_experts_eq_skeleton]; unfold cc0_experts_skel
  simp only [k0_part37_eq_skeleton, k0_part1_eq_skeleton]
  unfold owns
  refine bind_run c _ _ _ _ fun Q hQ => ?_
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d21, %f21, -, H21⟩, ⟨%d22, %f22, -, H22⟩, ⟨%fp0, Hp0_0_0⟩, ⟨%fp1, Hp0_0_1⟩, HF0_0, HW, Hk⟩
  sl_exec (disch := first | sl_exact hc0 | sl_exact hc1)
  sl_step
  rw [hQ]
  icases HF0_0_src0 with ⟨%eF0, HtF0⟩
  icases HF0_0_src1 with ⟨%eF1, HtF1⟩
  have hD0_0 := wstorable_dlv0_0 (F := F) c (Ring.bk 56 t.val) (Ring.sl 2 t.val)
  imod (Transfers.batch_alloc' (Lvl := ℕ) countersEmb (c : Thread nD τ) default wN0_0 (wdlv0_0 c (Ring.bk 56 t.val) (Ring.sl 2 t.val)) (sm := wcellR0_0 (Ring.sl 2 t.val)) (E := Set.univ)) $$ HF0_0 with HN0_0
  clear hD0_0
  have hcut := part38 (F := F) c t arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg21 harg21 arg22 harg22
  sl_exec (disch := first | sl_exact hc0 | sl_exact hc1)
  sl_step
  iapply Hk
  isplitl [Hk0_part38_0]
  · iexists _; isplitr; · ipureintro; exact hf2
    iexact Hk0_part38_0
  isplitl [Hk0_part38_1]
  · iexists _; isplitr; · ipureintro; exact hf3
    iexact Hk0_part38_1
  isplitl [Hk0_part38_2]
  · iexists _; isplitr; · ipureintro; exact hf4
    iexact Hk0_part38_2
  isplitl [Hk0_part38_3]
  · iexists _; isplitr; · ipureintro; exact hf5
    iexact Hk0_part38_3
  isplitl [Hk0_part38_4]
  · iexists _; isplitr; · ipureintro; exact hf6
    iexact Hk0_part38_4
  isplitl [Hk0_part38_5]
  · iexists _; isplitr; · ipureintro; exact hf7
    iexact Hk0_part38_5
  isplitl [Hk0_part38_6]
  · iexists _; isplitr; · ipureintro; exact hf8
    iexact Hk0_part38_6
  isplitl [Hk0_part38_7]
  · iexists _; isplitr; · ipureintro; exact hf9
    iexact Hk0_part38_7
  isplitl [Hk0_part38_10]
  · iexists _, _; isplitr; swap; · iexact Hk0_part38_10
    ipureintro; rfl
  isplitl [Hk0_part38_11]
  · iexists _, _; isplitr; swap; · iexact Hk0_part38_11
    ipureintro; rfl
  isplitl [Hk0_part38_12]
  · iexists _, _; isplitr; swap; · iexact Hk0_part38_12
    ipureintro; rfl
  isplitl [H14]
  · iexists _, _; isplitr; swap; · iexact H14
    ipureintro; rfl
  isplitl [H15]
  · iexists _, _; isplitr; swap; · iexact H15
    ipureintro; rfl
  isplitl [Hk0_part38_8]
  · iexists _, _; isplitr; swap; · iexact Hk0_part38_8
    ipureintro; rfl
  isplitl [Hk0_part38_9]
  · iexists _, _; isplitr; swap; · iexact Hk0_part38_9
    ipureintro; rfl
  isplitl [Hk0_part38_13]
  · iexists _, _; isplitr; swap; · iexact Hk0_part38_13
    ipureintro; rfl
  isplitl [Hk0_part38_14]
  · iexists _, _; isplitr; swap; · iexact Hk0_part38_14
    ipureintro; rfl
  isplitl [Hk0_part38_15]
  · iexists _, _; isplitr; swap; · iexact Hk0_part38_15
    ipureintro; rfl
  isplitl [Hk0_part38_16]
  · iexists _, _; isplitr; swap; · iexact Hk0_part38_16
    ipureintro; rfl
  isplitl [HF0_0_dst0]; · iexact HF0_0_dst0
  isplitl [HF0_0_dst1]; · iexact HF0_0_dst1
  isplitl [HN0_0]; · iexact HN0_0
  iexists _; iexact HW

end Cert.Experts.Gen

end
-- ==== Proof.ExpertsRunC.lean ====
/- The experts body at the last point, which waits for every transfer. -/
module

public import proofs.«01_k».proof.Proof.ExpertsRunB

@[expose] public section

set_option maxRecDepth 16384

noncomputable section

namespace Cert.Experts.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 6400000 in
/-- The body at the last point, which waits for every transfer: the inputs' buffers end as they were, the others at some contents. -/
theorem run_C (c : Dev nD) (t : Fin cfg0.N) (arg2 : Memref sig .tc .smem S8 .i32) (harg2 : arg2.IsWhole) (arg3 : Memref sig .tc .smem S4 .f32) (harg3 : arg3.IsWhole) (arg4 : Memref sig .tc .smem S8 .f32) (harg4 : arg4.IsWhole) (arg5 : Memref sig .tc .smem S8 .f32) (harg5 : arg5.IsWhole) (arg6 : Memref sig .tc .vmem S1x720x4096 .fp8e4m3) (harg6 : arg6.IsWhole) (arg7 : Memref sig .tc .vmem S1x720x4096 .fp8e5m2) (harg7 : arg7.IsWhole) (arg8 : Memref sig .tc .vmem S1x2x4096x256 .fp8e4m3) (harg8 : arg8.IsWhole) (arg9 : Memref sig .tc .vmem S1x256x4096 .fp8e4m3) (harg9 : arg9.IsWhole) (arg10 : Memref sig .tc .vmem S1x720x256 .fp8e4m3) (harg10 : arg10.IsWhole) (arg11 : Memref sig .tc .vmem S1x2x720x256 .fp8e5m2) (harg11 : arg11.IsWhole) (arg13 : Memref sig .tc .vmem S1x256x4096 .bf16) (harg13 : arg13.IsWhole) (arg14 : Memref sig .tc .smem S1x1 .f32) (harg14 : arg14.IsWhole) (arg15 : Memref sig .tc .smem S1x1 .f32) (harg15 : arg15.IsWhole) (arg16 : Memref sig .tc .vmem S768x4096 .fp8e4m3) (harg16 : arg16.IsWhole) (arg17 : Memref sig .tc .vmem S768x4096 .fp8e5m2) (harg17 : arg17.IsWhole) (arg18 : Memref sig .tc .vmem S768x256 .fp8e4m3) (harg18 : arg18.IsWhole) (arg19 : Memref sig .tc .vmem S768x512 .fp8e5m2) (harg19 : arg19.IsWhole) (arg21 : Memref sig .tc .vmem S8x128 .f32) (harg21 : arg21.IsWhole) (arg22 : Memref sig .tc .vmem S8x128 .f32) (harg22 : arg22.IsWhole) (hc0 : cond0_0 (grid0.coords t)) (hc1 : cond0_1 (grid0.coords t))
    (x2 : Vec F S8 .i32) (x3 : Vec F S4 .f32) (x4 : Vec F S8 .f32) (x5 : Vec F S8 .f32) (x6 : Vec F S1x720x4096 .fp8e4m3) (x7 : Vec F S1x720x4096 .fp8e5m2) (x8 : Vec F S1x2x4096x256 .fp8e4m3) (x9 : Vec F S1x256x4096 .fp8e4m3) (W : Waits sig Unit) (K : PUnit → sProp 𝕄) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg21 fullShare d) ∗ (∃ d, owns (c : Thread nD τ) arg22 fullShare d) ∗ (∃ f, wpieceP0_0 c (Ring.bk 56 t.val) 0 f) ∗ (∃ f, wpieceP0_0 c (Ring.bk 56 t.val) 1 f) ∗ winfl0_0 c (Ring.sl 2 t.val) (Ring.bk 56 (t.val - 2)) ∗ winfl0_0 c (Ring.sl 2 (t.val + 1)) (Ring.bk 56 (t.val - 1)) ∗ owes (c : Thread nD τ) 0 W
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg21 fullShare d) ∗ (∃ d, owns (c : Thread nD τ) arg22 fullShare d) ∗ (∃ f, wpieceP0_0 c (Ring.bk 56 t.val) 0 f) ∗ (∃ f, wpieceP0_0 c (Ring.bk 56 t.val) 1 f) ∗ (∃ f, wpieceP0_0 c (Ring.bk 56 (t.val - 2)) 0 f) ∗ (∃ f, wpieceP0_0 c (Ring.bk 56 (t.val - 2)) 1 f) ∗ (∃ f, wpieceP0_0 c (Ring.bk 56 (t.val - 1)) 0 f) ∗ (∃ f, wpieceP0_0 c (Ring.bk 56 (t.val - 1)) 1 f) ∗ wcellP0_0 c (Ring.sl 2 t.val) ∗ (∃ e, wtileP0_0 c (Ring.sl 2 t.val) 0 e) ∗ (∃ e, wtileP0_0 c (Ring.sl 2 t.val) 1 e) ∗ wcellP0_0 c (Ring.sl 2 (t.val + 1)) ∗ (∃ e, wtileP0_0 c (Ring.sl 2 (t.val + 1)) 0 e) ∗ (∃ e, wtileP0_0 c (Ring.sl 2 (t.val + 1)) 1 e) ∗ (∃ W', owes (c : Thread nD τ) 0 W')) -∗ K ⟨⟩)) : sProp 𝕄)
    ⊢ wp frame (wpE (defs₀ (F := F)) Variants.none c none) Set.univ (cc0_experts (grid0.coords t) arg2 harg2 arg3 harg3 arg4 harg4 arg5 harg5 arg6 harg6 arg7 harg7 arg8 harg8 arg9 harg9 arg10 harg10 arg11 harg11 (Memref.whole main_v13_2) (Memref.isWhole_whole _) arg13 harg13 arg14 harg14 arg15 harg15 arg16 harg16 arg17 harg17 arg18 harg18 arg19 harg19 scM0_4 (Memref.isWhole_whole _) arg21 harg21 arg22 harg22 cc0_scratch7) K := by
  haveI : Fact (cond0_0 (grid0.coords t)) := ⟨hc0⟩
  haveI : Fact (cond0_1 (grid0.coords t)) := ⟨hc1⟩
  simp only [cc0_experts_eq_skeleton]; unfold cc0_experts_skel
  simp only [k0_part37_eq_skeleton, k0_part1_eq_skeleton, k0_part35_eq_skeleton, k0_part36_eq_skeleton]
  unfold owns
  refine bind_run c _ _ _ _ fun Q hQ => ?_
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d21, %f21, -, H21⟩, ⟨%d22, %f22, -, H22⟩, ⟨%fp0, Hp0_0_0⟩, ⟨%fp1, Hp0_0_1⟩, HF0_0, HI0_0, HW, Hk⟩
  sl_exec (disch := first | sl_exact hc0 | sl_exact hc1)
  sl_step
  rw [hQ]
  icases HF0_0_src0 with ⟨%eF0, HtF0⟩
  icases HF0_0_src1 with ⟨%eF1, HtF1⟩
  have hD0_0 := wstorable_dlv0_0 (F := F) c (Ring.bk 56 t.val) (Ring.sl 2 t.val)
  imod (Transfers.batch_alloc' (Lvl := ℕ) countersEmb (c : Thread nD τ) default wN0_0 (wdlv0_0 c (Ring.bk 56 t.val) (Ring.sl 2 t.val)) (sm := wcellR0_0 (Ring.sl 2 t.val)) (E := Set.univ)) $$ HF0_0 with HN0_0
  clear hD0_0
  have hcut := part38 (F := F) c t arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg21 harg21 arg22 harg22
  sl_exec (disch := first | sl_exact hc0 | sl_exact hc1)
  sl_step
  iapply Hk
  isplitl [Hk0_part38_0]
  · iexists _; isplitr; · ipureintro; exact hf2
    iexact Hk0_part38_0
  isplitl [Hk0_part38_1]
  · iexists _; isplitr; · ipureintro; exact hf3
    iexact Hk0_part38_1
  isplitl [Hk0_part38_2]
  · iexists _; isplitr; · ipureintro; exact hf4
    iexact Hk0_part38_2
  isplitl [Hk0_part38_3]
  · iexists _; isplitr; · ipureintro; exact hf5
    iexact Hk0_part38_3
  isplitl [Hk0_part38_4]
  · iexists _; isplitr; · ipureintro; exact hf6
    iexact Hk0_part38_4
  isplitl [Hk0_part38_5]
  · iexists _; isplitr; · ipureintro; exact hf7
    iexact Hk0_part38_5
  isplitl [Hk0_part38_6]
  · iexists _; isplitr; · ipureintro; exact hf8
    iexact Hk0_part38_6
  isplitl [Hk0_part38_7]
  · iexists _; isplitr; · ipureintro; exact hf9
    iexact Hk0_part38_7
  isplitl [Hk0_part38_10]
  · iexists _, _; isplitr; swap; · iexact Hk0_part38_10
    ipureintro; rfl
  isplitl [Hk0_part38_11]
  · iexists _, _; isplitr; swap; · iexact Hk0_part38_11
    ipureintro; rfl
  isplitl [Hk0_part38_12]
  · iexists _, _; isplitr; swap; · iexact Hk0_part38_12
    ipureintro; rfl
  isplitl [H14]
  · iexists _, _; isplitr; swap; · iexact H14
    ipureintro; rfl
  isplitl [H15]
  · iexists _, _; isplitr; swap; · iexact H15
    ipureintro; rfl
  isplitl [Hk0_part38_8]
  · iexists _, _; isplitr; swap; · iexact Hk0_part38_8
    ipureintro; rfl
  isplitl [Hk0_part38_9]
  · iexists _, _; isplitr; swap; · iexact Hk0_part38_9
    ipureintro; rfl
  isplitl [Hk0_part38_13]
  · iexists _, _; isplitr; swap; · iexact Hk0_part38_13
    ipureintro; rfl
  isplitl [Hk0_part38_14]
  · iexists _, _; isplitr; swap; · iexact Hk0_part38_14
    ipureintro; rfl
  isplitl [Hk0_part38_15]
  · iexists _, _; isplitr; swap; · iexact Hk0_part38_15
    ipureintro; rfl
  isplitl [Hk0_part38_16]
  · iexists _, _; isplitr; swap; · iexact Hk0_part38_16
    ipureintro; rfl
  isplitl [HN0_0_dst0]; · iexact HN0_0_dst0
  isplitl [HN0_0_dst1]; · iexact HN0_0_dst1
  isplitl [HF0_0_dst0]; · iexact HF0_0_dst0
  isplitl [HF0_0_dst1]; · iexact HF0_0_dst1
  isplitl [HI0_0_dst0]; · iexact HI0_0_dst0
  isplitl [HI0_0_dst1]; · iexact HI0_0_dst1
  isplitl [HN0_0]; · iexact HN0_0
  isplitl [HN0_0_src0]; · iexact HN0_0_src0
  isplitl [HN0_0_src1]; · iexact HN0_0_src1
  isplitl [HI0_0]; · iexact HI0_0
  isplitl [HI0_0_src0]; · iexact HI0_0_src0
  isplitl [HI0_0_src1]; · iexact HI0_0_src1
  iexists _; iexact HW

end Cert.Experts.Gen

end
-- ==== Proof.ExpertsFrame.lean ====
/- The experts kernel run over its grid: the body at every point, the launch, and the frame. -/
module

public import proofs.«01_k».proof.Proof.ExpertsRunC
public import Idealize.ShloMosaic.Lib.Pipeline.ArrRel

@[expose] public section

set_option maxRecDepth 16384

noncomputable section

namespace Cert.Experts.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The invariant before point `k`: the scratch buffers the body takes whole, the generator register, and the ring of transfers. -/
def PhiR (c : Dev nD) (k : ℕ) : sProp 𝕄 := iprop((∃ x16 x17, owns (c : Thread nD τ) scM0_0 fullShare x16 ∗ owns (c : Thread nD τ) scM0_1 fullShare x17) ∗ (∃ d, owns (c : Thread nD τ) scM0_2 fullShare d) ∗ (∃ d, owns (c : Thread nD τ) scM0_3 fullShare d) ∗ (∃ d, owns (c : Thread nD τ) scM0_5 fullShare d) ∗ (∃ d, owns (c : Thread nD τ) scM0_6 fullShare d) ∗ (∃ r, prngReg c r) ∗ (wringAt0_0 c k ∗ wtileSpare0_0 c ∗ wpieceSpare0_0 c))

/-- The exact data whose inputs are left in place and whose outputs are not named. -/
def datB (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Dat.unnamed 8 t
    | ⟨9, _⟩ => Dat.unnamed 9 t
    | ⟨10, _⟩ => Dat.unnamed 10 t
    | ⟨11, _⟩ => Dat.unnamed 11 t
    | ⟨12, _⟩ => Dat.unnamed 12 t
  Φ t := PhiR c t.val
  q _ := fullShare
  owed _ := 0

/-- The relational data: inputs left in place, the outputs constrained by nothing. -/
def rdat (c : Dev nD) : RDat τ (Elt F) Unit ℕ (Pipeline.UD sig nD τ) ℕ cfg0 c :=
  (datB m c).toR.override fun w => match w with
    | ⟨8, _⟩ => some fun t _ _ => True
    | ⟨9, _⟩ => some fun t _ _ => True
    | ⟨10, _⟩ => some fun _ _ _ => True
    | ⟨11, _⟩ => some fun _ _ _ => True
    | ⟨12, _⟩ => some fun _ _ _ => True
    | _ => none

theorem finds_0 (c : Dev nD) (t : Fin cfg0.N) (X) (h : (rdat m c).Finds 0 t X) : X = iblk m c 0 t := by
  obtain ⟨d, rfl⟩ := (datB m c).toR_finds 0 t X ((RDat.override_finds _ rfl t X).mp h)
  exact before0_0_of m (datB m c) rfl (fun _ => rfl) t d
theorem after_0 (c : Dev nD) (t : Fin cfg0.N) (Y) : (rdat m c).after 0 t Y (iblk m c 0 t) := by
  show (datB m c).toR.after 0 t Y (iblk m c 0 t)
  exact rfl
theorem finds_1 (c : Dev nD) (t : Fin cfg0.N) (X) (h : (rdat m c).Finds 1 t X) : X = iblk m c 1 t := by
  obtain ⟨d, rfl⟩ := (datB m c).toR_finds 1 t X ((RDat.override_finds _ rfl t X).mp h)
  exact before0_1_of m (datB m c) rfl (fun _ => rfl) t d
theorem after_1 (c : Dev nD) (t : Fin cfg0.N) (Y) : (rdat m c).after 1 t Y (iblk m c 1 t) := by
  show (datB m c).toR.after 1 t Y (iblk m c 1 t)
  exact rfl
theorem finds_2 (c : Dev nD) (t : Fin cfg0.N) (X) (h : (rdat m c).Finds 2 t X) : X = iblk m c 2 t := by
  obtain ⟨d, rfl⟩ := (datB m c).toR_finds 2 t X ((RDat.override_finds _ rfl t X).mp h)
  exact before0_2_of m (datB m c) rfl (fun _ => rfl) t d
theorem after_2 (c : Dev nD) (t : Fin cfg0.N) (Y) : (rdat m c).after 2 t Y (iblk m c 2 t) := by
  show (datB m c).toR.after 2 t Y (iblk m c 2 t)
  exact rfl
theorem finds_3 (c : Dev nD) (t : Fin cfg0.N) (X) (h : (rdat m c).Finds 3 t X) : X = iblk m c 3 t := by
  obtain ⟨d, rfl⟩ := (datB m c).toR_finds 3 t X ((RDat.override_finds _ rfl t X).mp h)
  exact before0_3_of m (datB m c) rfl (fun _ => rfl) t d
theorem after_3 (c : Dev nD) (t : Fin cfg0.N) (Y) : (rdat m c).after 3 t Y (iblk m c 3 t) := by
  show (datB m c).toR.after 3 t Y (iblk m c 3 t)
  exact rfl
theorem finds_4 (c : Dev nD) (t : Fin cfg0.N) (X) (h : (rdat m c).Finds 4 t X) : X = iblk m c 4 t := by
  obtain ⟨d, rfl⟩ := (datB m c).toR_finds 4 t X ((RDat.override_finds _ rfl t X).mp h)
  exact before0_4_of m (datB m c) rfl (fun _ => rfl) t d
theorem after_4 (c : Dev nD) (t : Fin cfg0.N) (Y) : (rdat m c).after 4 t Y (iblk m c 4 t) := by
  show (datB m c).toR.after 4 t Y (iblk m c 4 t)
  exact rfl
theorem finds_5 (c : Dev nD) (t : Fin cfg0.N) (X) (h : (rdat m c).Finds 5 t X) : X = iblk m c 5 t := by
  obtain ⟨d, rfl⟩ := (datB m c).toR_finds 5 t X ((RDat.override_finds _ rfl t X).mp h)
  exact before0_5_of m (datB m c) rfl (fun _ => rfl) t d
theorem after_5 (c : Dev nD) (t : Fin cfg0.N) (Y) : (rdat m c).after 5 t Y (iblk m c 5 t) := by
  show (datB m c).toR.after 5 t Y (iblk m c 5 t)
  exact rfl
theorem finds_6 (c : Dev nD) (t : Fin cfg0.N) (X) (h : (rdat m c).Finds 6 t X) : X = iblk m c 6 t := by
  obtain ⟨d, rfl⟩ := (datB m c).toR_finds 6 t X ((RDat.override_finds _ rfl t X).mp h)
  exact before0_6_of m (datB m c) rfl (fun _ => rfl) t d
theorem after_6 (c : Dev nD) (t : Fin cfg0.N) (Y) : (rdat m c).after 6 t Y (iblk m c 6 t) := by
  show (datB m c).toR.after 6 t Y (iblk m c 6 t)
  exact rfl
theorem finds_7 (c : Dev nD) (t : Fin cfg0.N) (X) (h : (rdat m c).Finds 7 t X) : X = iblk m c 7 t := by
  obtain ⟨d, rfl⟩ := (datB m c).toR_finds 7 t X ((RDat.override_finds _ rfl t X).mp h)
  exact before0_7_of m (datB m c) rfl (fun _ => rfl) t d
theorem after_7 (c : Dev nD) (t : Fin cfg0.N) (Y) : (rdat m c).after 7 t Y (iblk m c 7 t) := by
  show (datB m c).toR.after 7 t Y (iblk m c 7 t)
  exact rfl

theorem defs₀_row (t : Fin cfg0.N) :
    defs₀ (F := F) .tc cfg0.body (cfg0.bodyArgs t (cfg0.slots t)) = bodyAt0 t := by
  unfold defs₀; rw [Defs.onTc_tc]

set_option maxHeartbeats 6400000 in
/-- The library's body obligation at every point. -/
theorem body_obligation (c : Dev nD) : (rdat m c).BodyObligation (defs₀ (F := F)) Variants.none () Set.univ := by
  intro t Y hY
  rw [defs₀_row, bigSep_W0]
  simp only [bigSep_W0]
  rw [finds_0 m c t _ (hY 0)]
  rw [finds_1 m c t _ (hY 1)]
  rw [finds_2 m c t _ (hY 2)]
  rw [finds_3 m c t _ (hY 3)]
  rw [finds_4 m c t _ (hY 4)]
  rw [finds_5 m c t _ (hY 5)]
  rw [finds_6 m c t _ (hY 6)]
  rw [finds_7 m c t _ (hY 7)]
  rw [show (rdat m c).Φ t.castSucc = PhiR c t.val from rfl, show (rdat m c).Φ t.succ = PhiR c (t.val + 1) from rfl]
  unfold RDat.owesAt Pipeline.owesWithin
  rw [show (rdat m c).owed t.castSucc = 0 from rfl, show (rdat m c).owed t.succ = 0 from rfl]
  unfold PhiR wringAt0_0
  have hgN : grid0.N = 56 := N_0
  have hN : t.val < 56 := lt_of_lt_of_eq t.isLt (show cfg0.N = 56 from N_0)
  by_cases h0 : 2 ≤ t.val
  · by_cases h1 : t.val % 56 = 55
    · obtain ⟨hW20, hWend0, hWs0⟩ := wstep0_0_C t ((hcond0_0 t).mpr h0) ((hcond0_1 t).mpr h1)
      rw [Ring.AtBΦ_lt _ _ _ _ _ t.val (by omega), Ring.AtB22_here_last _ _ _ _ t.val hW20 hWend0, Ring.AtBΦ_end _ _ _ _ _ (t.val + 1) hWend0, Ring.AtB22_drained _ _ t.val hW20 hWend0]
      iintro ⟨⟨⟨%x16, %x17, HS0, HS1⟩, HS2, HS3, HS5, HS6, Hg, ⟨⟨⟨Hp0_0_0, Hp0_0_1⟩, HB0_0, HF0_0, HI0_0⟩, HTsp0_0, HPsp0_0⟩⟩, ⟨%W, -, HW⟩, H0, H1, H2, H3, H4, H5, H6, H7, H8, H9, H10, H11, H12⟩
      iapply (run_C c t _ _ _ _ _ _ _ _ _ _ _ _ _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t) (iblk m c 7 t) W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [HS0]; · iexists _; iexact HS0
      isplitl [HS1]; · iexists _; iexact HS1
      isplitl [HS2]; · iexact HS2
      isplitl [HS3]; · iexact HS3
      isplitl [HS5]; · iexact HS5
      isplitl [HS6]; · iexact HS6
      isplitl [Hp0_0_0]; · iexact Hp0_0_0
      isplitl [Hp0_0_1]; · iexact Hp0_0_1
      isplitl [HF0_0]; · iexact HF0_0
      isplitl [HI0_0]; · iexact HI0_0
      isplitl [HW]; · iexact HW
      iintro ⟨H0, H1, H2, H3, H4, H5, H6, H7, ⟨%y8, H8⟩, ⟨%y9, H9⟩, ⟨%y10, H10⟩, ⟨%y11, H11⟩, ⟨%y12, H12⟩, ⟨%y16, HS0⟩, ⟨%y17, HS1⟩, HS2, HS3, HS5, HS6, Ho0_0_0, Ho0_0_1, Hl0_0_0, Hl0_0_1, Hm0_0_0, Hm0_0_1, Hqo0_0, Hto0_0_0, Hto0_0_1, Hqp0_0, Htp0_0_0, Htp0_0_1, ⟨%W', HW'⟩⟩
      isplitl [HS0 HS1 HS2 HS3 HS5 HS6 Hg HB0_0 HTsp0_0 HPsp0_0 Ho0_0_0 Ho0_0_1 Hl0_0_0 Hl0_0_1 Hm0_0_0 Hm0_0_1 Hqo0_0 Hto0_0_0 Hto0_0_1 Hqp0_0 Htp0_0_0 Htp0_0_1]
      · isplitl [HS0 HS1]
        · iexists y16; iexists y17
          isplitl [HS0]; · iexact HS0
          iexact HS1
        isplitl [HS2]; · iexact HS2
        isplitl [HS3]; · iexact HS3
        isplitl [HS5]; · iexact HS5
        isplitl [HS6]; · iexact HS6
        isplitl [Hg]; · iexact Hg
        isplitl [Ho0_0_0 Ho0_0_1 Hl0_0_0 Hl0_0_1 Hm0_0_0 Hm0_0_1 HB0_0 Hqo0_0 Hto0_0_0 Hto0_0_1 Hqp0_0 Htp0_0_0 Htp0_0_1]
        · isplitl [Ho0_0_0 Ho0_0_1 Hl0_0_0 Hl0_0_1 Hm0_0_0 Hm0_0_1 HB0_0]
          · isplitl [Ho0_0_0 Ho0_0_1]
            · isplitl [Ho0_0_0]
              · iexact Ho0_0_0
              iexact Ho0_0_1
            isplitl [Hl0_0_0 Hl0_0_1]
            · isplitl [Hl0_0_0]
              · iexact Hl0_0_0
              iexact Hl0_0_1
            isplitl [Hm0_0_0 Hm0_0_1]
            · isplitl [Hm0_0_0]
              · iexact Hm0_0_0
              iexact Hm0_0_1
            iexact HB0_0
          isplitl [Hqo0_0 Hto0_0_0 Hto0_0_1]
          · isplitl [Hqo0_0]
            · iexact Hqo0_0
            isplitl [Hto0_0_0]
            · iexact Hto0_0_0
            iexact Hto0_0_1
          isplitl [Hqp0_0]
          · iexact Hqp0_0
          isplitl [Htp0_0_0]
          · iexact Htp0_0_0
          iexact Htp0_0_1
        isplitl [HTsp0_0]
        · iexact HTsp0_0
        iexact HPsp0_0
      isplitl [HW']
      · iexists W'; isplitr; · ipureintro; exact fun _ _ => Or.inl trivial
        iexact HW'
      isplitl [H0]
      · iexists _; isplitr; swap; · iexact H0
        ipureintro; exact after_0 m c t _
      isplitl [H1]
      · iexists _; isplitr; swap; · iexact H1
        ipureintro; exact after_1 m c t _
      isplitl [H2]
      · iexists _; isplitr; swap; · iexact H2
        ipureintro; exact after_2 m c t _
      isplitl [H3]
      · iexists _; isplitr; swap; · iexact H3
        ipureintro; exact after_3 m c t _
      isplitl [H4]
      · iexists _; isplitr; swap; · iexact H4
        ipureintro; exact after_4 m c t _
      isplitl [H5]
      · iexists _; isplitr; swap; · iexact H5
        ipureintro; exact after_5 m c t _
      isplitl [H6]
      · iexists _; isplitr; swap; · iexact H6
        ipureintro; exact after_6 m c t _
      isplitl [H7]
      · iexists _; isplitr; swap; · iexact H7
        ipureintro; exact after_7 m c t _
      isplitl [H8]
      · iexists _; isplitr; swap; · iexact H8
        ipureintro; exact trivial
      isplitl [H9]
      · iexists _; isplitr; swap; · iexact H9
        ipureintro; exact trivial
      isplitl [H10]
      · iexists _; isplitr; swap; · iexact H10
        ipureintro; exact trivial
      isplitl [H11]
      · iexists _; isplitr; swap; · iexact H11
        ipureintro; exact trivial
      iexists _; isplitr; swap; · iexact H12
      ipureintro; exact trivial
    · obtain ⟨hW20, hWlt0, hWs0⟩ := wstep0_0_B t ((hcond0_0 t).mpr h0) (fun h => h1 ((hcond0_1 t).mp h))
      rw [Ring.AtBΦ_lt _ _ _ _ _ t.val (by omega), Ring.AtB22_here _ _ _ _ t.val hW20 (by omega), Ring.AtBΦ_lt _ _ _ _ _ (t.val + 1) hWlt0, Ring.AtB22_next _ _ _ _ t.val hW20 (by omega)]
      iintro ⟨⟨⟨%x16, %x17, HS0, HS1⟩, HS2, HS3, HS5, HS6, Hg, ⟨⟨⟨⟨Hp0_0_0, Hp0_0_1⟩, HA0_0⟩, HB0_0, HF0_0, Hcar0_0⟩, HTsp0_0, HPsp0_0⟩⟩, ⟨%W, -, HW⟩, H0, H1, H2, H3, H4, H5, H6, H7, H8, H9, H10, H11, H12⟩
      iapply (run_B c t _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [HS0]; · iexists _; iexact HS0
      isplitl [HS1]; · iexists _; iexact HS1
      isplitl [HS2]; · iexact HS2
      isplitl [HS3]; · iexact HS3
      isplitl [HS5]; · iexact HS5
      isplitl [HS6]; · iexact HS6
      isplitl [Hp0_0_0]; · iexact Hp0_0_0
      isplitl [Hp0_0_1]; · iexact Hp0_0_1
      isplitl [HF0_0]; · iexact HF0_0
      isplitl [HW]; · iexact HW
      iintro ⟨H0, H1, H2, H3, H4, H5, H6, H7, ⟨%y8, H8⟩, ⟨%y9, H9⟩, ⟨%y10, H10⟩, ⟨%y11, H11⟩, ⟨%y12, H12⟩, ⟨%y16, HS0⟩, ⟨%y17, HS1⟩, HS2, HS3, HS5, HS6, Hl0_0_0, Hl0_0_1, Hn0_0, ⟨%W', HW'⟩⟩
      isplitl [HS0 HS1 HS2 HS3 HS5 HS6 Hg HA0_0 HB0_0 Hcar0_0 HTsp0_0 HPsp0_0 Hl0_0_0 Hl0_0_1 Hn0_0]
      · isplitl [HS0 HS1]
        · iexists y16; iexists y17
          isplitl [HS0]; · iexact HS0
          iexact HS1
        isplitl [HS2]; · iexact HS2
        isplitl [HS3]; · iexact HS3
        isplitl [HS5]; · iexact HS5
        isplitl [HS6]; · iexact HS6
        isplitl [Hg]; · iexact Hg
        isplitl [HA0_0 Hl0_0_0 Hl0_0_1 HB0_0 Hcar0_0 Hn0_0]
        · isplitl [HA0_0]
          · iexact HA0_0
          isplitl [Hl0_0_0 Hl0_0_1 HB0_0]
          · isplitl [Hl0_0_0 Hl0_0_1]
            · isplitl [Hl0_0_0]
              · iexact Hl0_0_0
              iexact Hl0_0_1
            iexact HB0_0
          isplitl [Hcar0_0]
          · iexact Hcar0_0
          iexact Hn0_0
        isplitl [HTsp0_0]
        · iexact HTsp0_0
        iexact HPsp0_0
      isplitl [HW']
      · iexists W'; isplitr; · ipureintro; exact fun _ _ => Or.inl trivial
        iexact HW'
      isplitl [H0]
      · iexists _; isplitr; swap; · iexact H0
        ipureintro; exact after_0 m c t _
      isplitl [H1]
      · iexists _; isplitr; swap; · iexact H1
        ipureintro; exact after_1 m c t _
      isplitl [H2]
      · iexists _; isplitr; swap; · iexact H2
        ipureintro; exact after_2 m c t _
      isplitl [H3]
      · iexists _; isplitr; swap; · iexact H3
        ipureintro; exact after_3 m c t _
      isplitl [H4]
      · iexists _; isplitr; swap; · iexact H4
        ipureintro; exact after_4 m c t _
      isplitl [H5]
      · iexists _; isplitr; swap; · iexact H5
        ipureintro; exact after_5 m c t _
      isplitl [H6]
      · iexists _; isplitr; swap; · iexact H6
        ipureintro; exact after_6 m c t _
      isplitl [H7]
      · iexists _; isplitr; swap; · iexact H7
        ipureintro; exact after_7 m c t _
      isplitl [H8]
      · iexists _; isplitr; swap; · iexact H8
        ipureintro; exact trivial
      isplitl [H9]
      · iexists _; isplitr; swap; · iexact H9
        ipureintro; exact trivial
      isplitl [H10]
      · iexists _; isplitr; swap; · iexact H10
        ipureintro; exact trivial
      isplitl [H11]
      · iexists _; isplitr; swap; · iexact H11
        ipureintro; exact trivial
      iexists _; isplitr; swap; · iexact H12
      ipureintro; exact trivial
  · by_cases h1 : t.val % 56 = 55
    · exfalso; omega
    · obtain ⟨hWlt0, hWs0⟩ := wstep0_0_A t (fun h => h0 ((hcond0_0 t).mp h)) (fun h => h1 ((hcond0_1 t).mp h))
      rcases (show t.val = 0 ∨ t.val = 1 by omega) with hW0 | hW0
      · rw [Ring.AtBΦ_lt _ _ _ _ _ t.val (by omega), Ring.AtB2_zero' 2 _ _ _ _ t.val hW0, Ring.AtBΦ_lt _ _ _ _ _ (t.val + 1) (by omega), Ring.AtB22_next_zero' _ _ _ _ t.val hW0]
        iintro ⟨⟨⟨%x16, %x17, HS0, HS1⟩, HS2, HS3, HS5, HS6, Hg, ⟨⟨⟨⟨Hp0_0_0, Hp0_0_1⟩, HA0_0⟩, ⟨Hq0_0, Ht0_0_0, Ht0_0_1⟩, Hfx0_0⟩, HTsp0_0, HPsp0_0⟩⟩, ⟨%W, -, HW⟩, H0, H1, H2, H3, H4, H5, H6, H7, H8, H9, H10, H11, H12⟩
        iapply (run_A c t _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [H11]; · iexists _; iexact H11
        isplitl [H12]; · iexists _; iexact H12
        isplitl [HS0]; · iexists _; iexact HS0
        isplitl [HS1]; · iexists _; iexact HS1
        isplitl [HS2]; · iexact HS2
        isplitl [HS3]; · iexact HS3
        isplitl [HS5]; · iexact HS5
        isplitl [HS6]; · iexact HS6
        isplitl [Hp0_0_0]; · iexact Hp0_0_0
        isplitl [Hp0_0_1]; · iexact Hp0_0_1
        isplitl [Hq0_0]; · iexact Hq0_0
        isplitl [Ht0_0_0]; · iexact Ht0_0_0
        isplitl [Ht0_0_1]; · iexact Ht0_0_1
        isplitl [HW]; · iexact HW
        iintro ⟨H0, H1, H2, H3, H4, H5, H6, H7, ⟨%y8, H8⟩, ⟨%y9, H9⟩, ⟨%y10, H10⟩, ⟨%y11, H11⟩, ⟨%y12, H12⟩, ⟨%y16, HS0⟩, ⟨%y17, HS1⟩, HS2, HS3, HS5, HS6, Hn0_0, ⟨%W', HW'⟩⟩
        isplitl [HS0 HS1 HS2 HS3 HS5 HS6 Hg HA0_0 Hfx0_0 HTsp0_0 HPsp0_0 Hn0_0]
        · isplitl [HS0 HS1]
          · iexists y16; iexists y17
            isplitl [HS0]; · iexact HS0
            iexact HS1
          isplitl [HS2]; · iexact HS2
          isplitl [HS3]; · iexact HS3
          isplitl [HS5]; · iexact HS5
          isplitl [HS6]; · iexact HS6
          isplitl [Hg]; · iexact Hg
          isplitl [HA0_0 Hfx0_0 Hn0_0]
          · isplitl [HA0_0]
            · iexact HA0_0
            isplitl [Hfx0_0]
            · iexact Hfx0_0
            iexact Hn0_0
          isplitl [HTsp0_0]
          · iexact HTsp0_0
          iexact HPsp0_0
        isplitl [HW']
        · iexists W'; isplitr; · ipureintro; exact fun _ _ => Or.inl trivial
          iexact HW'
        isplitl [H0]
        · iexists _; isplitr; swap; · iexact H0
          ipureintro; exact after_0 m c t _
        isplitl [H1]
        · iexists _; isplitr; swap; · iexact H1
          ipureintro; exact after_1 m c t _
        isplitl [H2]
        · iexists _; isplitr; swap; · iexact H2
          ipureintro; exact after_2 m c t _
        isplitl [H3]
        · iexists _; isplitr; swap; · iexact H3
          ipureintro; exact after_3 m c t _
        isplitl [H4]
        · iexists _; isplitr; swap; · iexact H4
          ipureintro; exact after_4 m c t _
        isplitl [H5]
        · iexists _; isplitr; swap; · iexact H5
          ipureintro; exact after_5 m c t _
        isplitl [H6]
        · iexists _; isplitr; swap; · iexact H6
          ipureintro; exact after_6 m c t _
        isplitl [H7]
        · iexists _; isplitr; swap; · iexact H7
          ipureintro; exact after_7 m c t _
        isplitl [H8]
        · iexists _; isplitr; swap; · iexact H8
          ipureintro; exact trivial
        isplitl [H9]
        · iexists _; isplitr; swap; · iexact H9
          ipureintro; exact trivial
        isplitl [H10]
        · iexists _; isplitr; swap; · iexact H10
          ipureintro; exact trivial
        isplitl [H11]
        · iexists _; isplitr; swap; · iexact H11
          ipureintro; exact trivial
        iexists _; isplitr; swap; · iexact H12
        ipureintro; exact trivial
      · rw [Ring.AtBΦ_lt _ _ _ _ _ t.val (by omega), Ring.AtB22_one' _ _ _ _ t.val hW0 (by decide), Ring.AtBΦ_lt _ _ _ _ _ (t.val + 1) (by omega), Ring.AtB22_next_one' _ _ _ _ t.val hW0]
        iintro ⟨⟨⟨%x16, %x17, HS0, HS1⟩, HS2, HS3, HS5, HS6, Hg, ⟨⟨⟨⟨Hp0_0_0, Hp0_0_1⟩, HA0_0⟩, ⟨Hq0_0, Ht0_0_0, Ht0_0_1⟩, Hcar0_0⟩, HTsp0_0, HPsp0_0⟩⟩, ⟨%W, -, HW⟩, H0, H1, H2, H3, H4, H5, H6, H7, H8, H9, H10, H11, H12⟩
        iapply (run_A c t _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [H11]; · iexists _; iexact H11
        isplitl [H12]; · iexists _; iexact H12
        isplitl [HS0]; · iexists _; iexact HS0
        isplitl [HS1]; · iexists _; iexact HS1
        isplitl [HS2]; · iexact HS2
        isplitl [HS3]; · iexact HS3
        isplitl [HS5]; · iexact HS5
        isplitl [HS6]; · iexact HS6
        isplitl [Hp0_0_0]; · iexact Hp0_0_0
        isplitl [Hp0_0_1]; · iexact Hp0_0_1
        isplitl [Hq0_0]; · iexact Hq0_0
        isplitl [Ht0_0_0]; · iexact Ht0_0_0
        isplitl [Ht0_0_1]; · iexact Ht0_0_1
        isplitl [HW]; · iexact HW
        iintro ⟨H0, H1, H2, H3, H4, H5, H6, H7, ⟨%y8, H8⟩, ⟨%y9, H9⟩, ⟨%y10, H10⟩, ⟨%y11, H11⟩, ⟨%y12, H12⟩, ⟨%y16, HS0⟩, ⟨%y17, HS1⟩, HS2, HS3, HS5, HS6, Hn0_0, ⟨%W', HW'⟩⟩
        isplitl [HS0 HS1 HS2 HS3 HS5 HS6 Hg HA0_0 Hcar0_0 HTsp0_0 HPsp0_0 Hn0_0]
        · isplitl [HS0 HS1]
          · iexists y16; iexists y17
            isplitl [HS0]; · iexact HS0
            iexact HS1
          isplitl [HS2]; · iexact HS2
          isplitl [HS3]; · iexact HS3
          isplitl [HS5]; · iexact HS5
          isplitl [HS6]; · iexact HS6
          isplitl [Hg]; · iexact Hg
          isplitl [HA0_0 Hcar0_0 Hn0_0]
          · isplitl [HA0_0]
            · iexact HA0_0
            isplitl [Hcar0_0]
            · iexact Hcar0_0
            iexact Hn0_0
          isplitl [HTsp0_0]
          · iexact HTsp0_0
          iexact HPsp0_0
        isplitl [HW']
        · iexists W'; isplitr; · ipureintro; exact fun _ _ => Or.inl trivial
          iexact HW'
        isplitl [H0]
        · iexists _; isplitr; swap; · iexact H0
          ipureintro; exact after_0 m c t _
        isplitl [H1]
        · iexists _; isplitr; swap; · iexact H1
          ipureintro; exact after_1 m c t _
        isplitl [H2]
        · iexists _; isplitr; swap; · iexact H2
          ipureintro; exact after_2 m c t _
        isplitl [H3]
        · iexists _; isplitr; swap; · iexact H3
          ipureintro; exact after_3 m c t _
        isplitl [H4]
        · iexists _; isplitr; swap; · iexact H4
          ipureintro; exact after_4 m c t _
        isplitl [H5]
        · iexists _; isplitr; swap; · iexact H5
          ipureintro; exact after_5 m c t _
        isplitl [H6]
        · iexists _; isplitr; swap; · iexact H6
          ipureintro; exact after_6 m c t _
        isplitl [H7]
        · iexists _; isplitr; swap; · iexact H7
          ipureintro; exact after_7 m c t _
        isplitl [H8]
        · iexists _; isplitr; swap; · iexact H8
          ipureintro; exact trivial
        isplitl [H9]
        · iexists _; isplitr; swap; · iexact H9
          ipureintro; exact trivial
        isplitl [H10]
        · iexists _; isplitr; swap; · iexact H10
          ipureintro; exact trivial
        isplitl [H11]
        · iexists _; isplitr; swap; · iexact H11
          ipureintro; exact trivial
        iexists _; isplitr; swap; · iexact H12
        ipureintro; exact trivial

/-- What the launch hands the region is the invariant before the first point. -/
theorem hin (c : Dev nD) : Pipeline.ΦDR osem0 spec0 H0 R0 (V m) c ⊢ (rdat m c).Φ 0 := by
  rw [PhiDR0_eq, show (rdat m c).Φ 0 = PhiR c 0 from rfl]
  unfold PhiR
  iintro ⟨⟨⟨%x16, HS0⟩, ⟨%x17, HS1⟩, HS2, HS3, HRS0_0, HS5, HS6⟩, Hg, ⟨Hq0, Hq1⟩, -, Ho0⟩
  isplitl [HS0 HS1]
  · iexists x16; iexists x17
    isplitl [HS0]; · iexact HS0
    iexact HS1
  isplitl [HS2]; · iexact HS2
  isplitl [HS3]; · iexact HS3
  isplitl [HS5]; · iexact HS5
  isplitl [HS6]; · iexact HS6
  isplitl [Hg]; · iexact Hg
  iapply (wring0_0_in (F := F) c)
  isplitl [HRS0_0]; · iexact HRS0_0
  isplitl [Hq0 Hq1]
  · isplitl [Hq0]; · iexact Hq0
    iexact Hq1
  iexact Ho0

/-- The invariant after the last point hands it back. -/
theorem hout (c : Dev nD) : (rdat m c).Φ (Fin.last cfg0.N) ⊢ Pipeline.ΦDR osem0 spec0 H0 R0 (V m) c := by
  rw [PhiDR0_eq, show (rdat m c).Φ (Fin.last cfg0.N) = PhiR c grid0.N from rfl]
  unfold PhiR
  rw [show grid0.N = 56 by rw [N_0]]
  iintro ⟨⟨%x16, %x17, HS0, HS1⟩, HS2, HS3, HS5, HS6, Hg, HRW0_0⟩
  ihave HX0_0 := (wring0_0_out (F := F) c) $$ HRW0_0
  icases HX0_0 with ⟨HRS0_0, ⟨Hq0, Hq1⟩, Ho0⟩
  isplitl [HS0 HS1 HS2 HS3 HRS0_0 HS5 HS6]
  · isplitl [HS0]; · iexists x16; iexact HS0
    isplitl [HS1]; · iexists x17; iexact HS1
    isplitl [HS2]; · iexact HS2
    isplitl [HS3]; · iexact HS3
    isplitl [HRS0_0]; · iexact HRS0_0
    isplitl [HS5]; · iexact HS5
    iexact HS6
  isplitl [Hg]
  · iexact Hg
  isplitl [Hq0 Hq1]
  · isplitl [Hq0]; · iexact Hq0
    iexact Hq1
  isplitr; · iempintro
  iexact Ho0

set_option backward.isDefEq.respectTransparency.types false in
set_option maxHeartbeats 800000 in
/-- The launch: every array ends at contents that the relational data allow, and every semaphore counter at zero. -/
theorem run_main : θ_run defs (onTc (τ := τ) (main (F := F))) (s₀ m ρ) (fun r => (RDat.FramePostR cfg0 (rdat m) R0 (V m)) r ∧ r.2.sem = fun _ => 0) :=
  RDat.θ_run_frame_dmaR (Q' := _) cfgs (0 : Fin 1) launch0 osem0 defs₀ Variants.none (rdat m) ownSemFacts0 H0 R0 H0_sub R0_sub m ρ main
    (hbody := fun c => body_obligation m c) (hshare := fun c => (rdat m c).share_full fun _ => rfl)
    (howed := fun _ _ => rfl) (V := V m) (hmain := hmain m Variants.none) (hA := fun _ _ => rfl)
    (hin := hin m) (hout := hout m)

/-- The argument arrays end unchanged, off the launch's post. -/
theorem args_unchanged (r : PUnit × MemSt nD τ sig (Elt F)) (h : RDat.FramePostR cfg0 (rdat m) R0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (Finset.mem_sdiff.mpr ⟨Pipeline.mem_restRefs_of main_arg0 (by decide) (by decide), by decide⟩)).trans (V_main_arg0 m c),
    ((h c).2 main_arg1 (Finset.mem_sdiff.mpr ⟨Pipeline.mem_restRefs_of main_arg1 (by decide) (by decide), by decide⟩)).trans (V_main_arg1 m c),
    ((h c).2 main_arg2 (Finset.mem_sdiff.mpr ⟨Pipeline.mem_restRefs_of main_arg2 (by decide) (by decide), by decide⟩)).trans (V_main_arg2 m c),
    ((h c).2 main_arg3 (Finset.mem_sdiff.mpr ⟨Pipeline.mem_restRefs_of main_arg3 (by decide) (by decide), by decide⟩)).trans (V_main_arg3 m c),
    (h.arr_in c 2 rfl).trans (V_main_arg4 m c),
    (h.arr_in c 3 rfl).trans (V_main_arg5 m c),
    ((h c).2 main_arg6 (Finset.mem_sdiff.mpr ⟨Pipeline.mem_restRefs_of main_arg6 (by decide) (by decide), by decide⟩)).trans (V_main_arg6 m c),
    (h.arr_in c 4 rfl).trans (V_main_arg7 m c),
    (h.arr_in c 5 rfl).trans (V_main_arg8 m c),
    ((h c).2 main_arg9 (Finset.mem_sdiff.mpr ⟨Pipeline.mem_restRefs_of main_arg9 (by decide) (by decide), by decide⟩)).trans (V_main_arg9 m c),
    (h.arr_in c 7 rfl).trans (V_main_arg10 m c)⟩

/-- The frame: the argument arrays end unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => args_unchanged m r h.1 c, h.2⟩) (run_main m ρ)

end Cert.Experts.Gen

end
-- ==== Proof.ExpertsIdealRing.lean ====
/- The write ring of the experts call: the result dw1, left in HBM, is written from the four tiles of the staging buffer, two
   copies a step, each step's copies waited for two steps later. Here: @main up to the call, the windows' blocks, the tiles and
   pieces, their splitting and joining, and the addresses of the body's accesses in the ring's terms. -/
module

public import proofs.«01_k».proof.Proof.Gen.ExpertsIdeal.Launch
public import proofs.«01_k».proof.Proof.Gen.ExpertsIdeal.Skeleton
public import proofs.«01_k».proof.Proof.Gen.ExpertsIdeal.Points
public import Idealize.ShloMosaic.Lib.Pipeline.FrameBody
public import Idealize.ShloMosaic.Lib.Ring
public import Idealize.ShloMosaic.Lib.Batch
public import Idealize.ShloMosaic.Lib.Ring.WriteBehind
public import Idealize.ShloMosaic.Lib.Tactic
public import Idealize.ShloMosaic.Lib.WordCmp

@[expose] public section

set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! @main up to the region -/

abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! The windows' blocks -/

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

def R0 : Finset (Ref sig .tc) := {main_v13_2}

/-! The frame claim's post from the frame run's -/

theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePostR cfgs dats 0 R0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).1 2).trans (((dats 0 c).arrAt_in 2 rfl _).trans ((hA c 2).trans (V_main_arg4 m c))),
      ((h c).1 3).trans (((dats 0 c).arrAt_in 3 rfl _).trans ((hA c 3).trans (V_main_arg5 m c))),
      ((h c).2 main_arg6 (Finset.mem_sdiff.mpr ⟨Pipeline.mem_restRefs_of main_arg6 (by decide) (by decide), by decide⟩)).trans (V_main_arg6 m c),
      ((h c).1 4).trans (((dats 0 c).arrAt_in 4 rfl _).trans ((hA c 4).trans (V_main_arg7 m c))),
      ((h c).1 5).trans (((dats 0 c).arrAt_in 5 rfl _).trans ((hA c 5).trans (V_main_arg8 m c))),
      ((h c).2 main_arg9 (Finset.mem_sdiff.mpr ⟨Pipeline.mem_restRefs_of main_arg9 (by decide) (by decide), by decide⟩)).trans (V_main_arg9 m c),
      ((h c).1 7).trans (((dats 0 c).arrAt_in 7 rfl _).trans ((hA c 7).trans (V_main_arg10 m c)))⟩) h

/-! The body's branch conditions -/

abbrev cond0_0 (i : grid0.Coords) : Prop := k0_cond3 i = 1#1
theorem hcond0_0 : ∀ t : Fin cfg0.N, cond0_0 (grid0.coords t) ↔ 2 ≤ t.val :=
  (by decide +kernel : ∀ t : Fin grid0.N, cond0_0 (grid0.coords t) ↔ 2 ≤ t.val)

abbrev cond0_1 (i : grid0.Coords) : Prop := k0_cond8 i = 1#1
theorem hcond0_1 : ∀ t : Fin cfg0.N, cond0_1 (grid0.coords t) ↔ t.val % 56 = 55 :=
  (by decide +kernel : ∀ t : Fin grid0.N, cond0_1 (grid0.coords t) ↔ t.val % 56 = 55)

/-! Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem idleAt0_11_A : ∀ t : Fin cfg0.N, ¬cond0_0 (grid0.coords t) → ¬cond0_1 (grid0.coords t) → cfg0.idle 11 (grid0.coords t) = true := by decide +kernel
theorem noFlush0_11_A : ∀ t : Fin cfg0.N, ¬cond0_0 (grid0.coords t) → ¬cond0_1 (grid0.coords t) → (cfg0.win 11).flush t = false := by decide +kernel
theorem idleAt0_11_B : ∀ t : Fin cfg0.N, cond0_0 (grid0.coords t) → ¬cond0_1 (grid0.coords t) → cfg0.idle 11 (grid0.coords t) = true := by decide +kernel
theorem noFlush0_11_B : ∀ t : Fin cfg0.N, cond0_0 (grid0.coords t) → ¬cond0_1 (grid0.coords t) → (cfg0.win 11).flush t = false := by decide +kernel
theorem liveAt0_11_C : ∀ t : Fin cfg0.N, cond0_0 (grid0.coords t) → cond0_1 (grid0.coords t) → cfg0.idle 11 (grid0.coords t) = false := by decide +kernel
theorem idleAt0_12_A : ∀ t : Fin cfg0.N, ¬cond0_0 (grid0.coords t) → ¬cond0_1 (grid0.coords t) → cfg0.idle 12 (grid0.coords t) = true := by decide +kernel
theorem noFlush0_12_A : ∀ t : Fin cfg0.N, ¬cond0_0 (grid0.coords t) → ¬cond0_1 (grid0.coords t) → (cfg0.win 12).flush t = false := by decide +kernel
theorem idleAt0_12_B : ∀ t : Fin cfg0.N, cond0_0 (grid0.coords t) → ¬cond0_1 (grid0.coords t) → cfg0.idle 12 (grid0.coords t) = true := by decide +kernel
theorem noFlush0_12_B : ∀ t : Fin cfg0.N, cond0_0 (grid0.coords t) → ¬cond0_1 (grid0.coords t) → (cfg0.win 12).flush t = false := by decide +kernel
theorem liveAt0_12_C : ∀ t : Fin cfg0.N, cond0_0 (grid0.coords t) → cond0_1 (grid0.coords t) → cfg0.idle 12 (grid0.coords t) = false := by decide +kernel

/-! The kernel body on any staging memrefs: a subtype the run finds -/

abbrev VO0_8 : View sig .tc .vmem S1x720x256 .fp8e4m3 := (Memref.whole cc0_stg8_0 : Memref sig .tc .vmem S1x720x256 .fp8e4m3).view
abbrev VO0_9 : View sig .tc .vmem S1x2x720x256 .fp8e5m2 := (Memref.whole cc0_stg9_0 : Memref sig .tc .vmem S1x2x720x256 .fp8e5m2).view
abbrev VO0_10 : View sig .tc .vmem S1x256x4096 .bf16 := (Memref.whole cc0_stg10_0 : Memref sig .tc .vmem S1x256x4096 .bf16).view
abbrev VO0_11 : View sig .tc .smem S1x1 .f32 := (Memref.whole cc0_stg11_0 : Memref sig .tc .smem S1x1 .f32).view
abbrev VO0_12 : View sig .tc .smem S1x1 .f32 := (Memref.whole cc0_stg12_0 : Memref sig .tc .smem S1x1 .f32).view
abbrev ms0_0 (t : Fin cfg0.N) : Memref sig .tc .smem S8 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S8 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S8 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x720x4096 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x720x4096 .fp8e5m2 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x4096x256 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256x4096 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x720x256 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2x720x256 .fp8e5m2 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256x4096 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .smem S1x1 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .smem S1x1 .f32 := win0_12.stage (cfg0.slots t 12)
abbrev hs0_12 (t : Fin cfg0.N) : (ms0_12 t).IsWhole := hstage0_12 ((cfg0.slots t 12).cast nbuf0_12)
abbrev scM0_0 : Memref sig .tc .vmem S768x4096 .fp8e4m3 := Memref.whole cc0_scratch0
abbrev scM0_1 : Memref sig .tc .vmem S768x4096 .fp8e5m2 := Memref.whole cc0_scratch1
abbrev scM0_2 : Memref sig .tc .vmem S768x256 .fp8e4m3 := Memref.whole cc0_scratch2
abbrev scM0_3 : Memref sig .tc .vmem S768x512 .fp8e5m2 := Memref.whole cc0_scratch3
abbrev scM0_4 : Memref sig .tc .vmem S2x2x4096x2x128 .bf16 := Memref.whole cc0_scratch4
abbrev scM0_5 : Memref sig .tc .vmem S8x128 .f32 := Memref.whole cc0_scratch5
abbrev scM0_6 : Memref sig .tc .vmem S8x128 .f32 := Memref.whole cc0_scratch6
abbrev hbM0_0 : Memref sig .tc .hbm S8x4096x2x1792 .bf16 := Memref.whole main_v13_2
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

abbrev osem0 : Fin 2 → SemLoc sig := fun j => (![SemLoc.dma 20, SemLoc.dma 21] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 20) 0 ∗ semVal ((c : Thread nD τ), SemLoc.dma 21) 0) := by
  rw [Pipeline.ownSems0_eq_of_list c osem0 [0, 1] (by decide) (by decide)]; rfl
def H0 : Finset (Ref sig .tc) := {}
theorem H0_sub : H0 ⊆ Pipeline.restRefs sig spec0 := by decide
theorem R0_sub : R0 ⊆ Pipeline.restRefs sig spec0 \ H0 := by decide
theorem hbmPts0_eq (c : Dev nD) :
    (bigSep H0 (fun b => ((c : Thread nD τ).loc b) ↦{fullShare} V m c b) : sProp 𝕄) = iprop(emp) := by
  rw [BI.bigSep_eq_bigSepL_of_eq [] (by decide) (by decide)]; rfl
theorem ownedPts0_eq (c : Dev nD) :
    (Pipeline.owned R0 c : sProp 𝕄) = iprop((∃ f, hbPt0 c hbM0_0 f)) := by
  unfold Pipeline.owned; rw [BI.bigSep_eq_bigSepL_of_eq [main_v13_2] (by decide) (by decide)]; rfl

theorem PhiDR0_eq (c : Dev nD) :
    (Pipeline.ΦDR osem0 spec0 H0 R0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r) ∗ iprop(semVal ((c : Thread nD τ), SemLoc.dma 20) 0 ∗ semVal ((c : Thread nD τ), SemLoc.dma 21) 0) ∗ iprop(emp) ∗ iprop((∃ f, hbPt0 c hbM0_0 f))) := by
  rw [Pipeline.ΦDR_eq, scopedRest0_eq, ownSems00_eq, hbmPts0_eq, ownedPts0_eq]; simp only [scM0_0, scM0_1, scM0_2, scM0_3, scM0_4, scM0_5, scM0_6, owns_whole]; try rfl

/-! Write ring 0 of kernel 0: `main_v13_2` written behind through the 2 × 2 tiles of `cc0_scratch4` on the cells of `cc0_scratch7`, each copy waited 2 steps later, in 56 steps -/

instance : NeZero grid0.N := ⟨by rw [N_0]; decide⟩
theorem inb_wtile0_0 (g : Fin 2) (m : Fin 2) : ∀ a, (![g.val, m.val, 0, 0, 0] : Fin 5 → Nat) a + S1x1x4096x2x128.size a ≤ S2x2x4096x2x128.size a := by
  have := g.isLt; have := m.isLt; intro a; fin_cases a <;> simp <;> omega
theorem inb_wpiece0_0 (u : Fin 56) (m : Fin 2) : ∀ a, (![(u.val / 7), 0, 0, 256 * (u.val % 7) + 128 * m.val] : Fin 4 → Nat) a + S1x4096x2x128.size a ≤ S8x4096x2x1792.size a := by
  have := u.isLt; have := m.isLt; intro a; fin_cases a <;> simp <;> omega
theorem inb_wcell0_0 (g : Fin 2) : ∀ a, (![g.val] : Fin 1 → Nat) a + S1.size a ≤ S2.size a := by
  have := g.isLt; intro a; fin_cases a <;> simp <;> omega
def wtile0_0 (g : Fin 2) (m : Fin 2) : Memref sig .tc .vmem S4096x2x128 .bf16 :=
  (scM0_4.slice (Rect.unit (s := S2x2x4096x2x128) ![g.val, m.val, 0, 0, 0] S1x1x4096x2x128.size (inb_wtile0_0 g m)) (fun _ => rfl)).squeeze S4096x2x128 squeezes_S1x1x4096x2x128_S4096x2x128
def wpiece0_0 (u : Fin 56) (m : Fin 2) : Memref sig .tc .hbm S4096x2x128 .bf16 :=
  (hbM0_0.slice (Rect.unit (s := S8x4096x2x1792) ![(u.val / 7), 0, 0, 256 * (u.val % 7) + 128 * m.val] S1x4096x2x128.size (inb_wpiece0_0 u m)) (fun _ => rfl)).squeeze S4096x2x128 squeezes_S1x4096x2x128_S4096x2x128
def wcellA0_0 (g : Fin 2) : DmaSems sig S_ := (cc0_scratch7.slice (Rect.unit (s := S2) ![g.val] S1.size (inb_wcell0_0 g))).squeeze S_ squeezes_S1_S_
abbrev wcellR0_0 (g : Fin 2) : SemLoc sig := SemLoc.dma (wcellA0_0 g).sem
theorem wcellR0_0_0 : wcellR0_0 0 = SemLoc.dma 20 := by decide
theorem wcellR0_0_1 : wcellR0_0 1 = SemLoc.dma 21 := by decide

section WRing0_0
variable (c : Dev nD)
abbrev wtileP0_0 (g : Fin 2) (m : Fin 2) (e : HbBuf0 (F := F) c (wtile0_0 g m)) : sProp 𝕄 := (wtile0_0 g m).view.loc (c : Thread nD τ) ↦[(wtile0_0 g m).view.set]{fullShare} e
abbrev wcellP0_0 (g : Fin 2) : sProp 𝕄 := semVal ((c : Thread nD τ), wcellR0_0 g) 0
abbrev wpieceP0_0 (u : Fin 56) (m : Fin 2) (f : HbBuf0 (F := F) c (wpiece0_0 u m)) : sProp 𝕄 := (wpiece0_0 u m).view.loc (c : Thread nD τ) ↦[(wpiece0_0 u m).view.set]{fullShare} f
abbrev wN0_0 : ℕ := (wpiece0_0 0 0).view.amount (wcellR0_0 0)
abbrev wdl0_0 (u : Fin 56) (g : Fin 2) (m : Fin 2) : sProp 𝕄 := iprop((∃ f, wpieceP0_0 c u m f) ∗ (∃ e, wtileP0_0 c g m e))
abbrev wsig0_0 : Fin 2 → Fin 2 := ![0, 1]
abbrev wdlv0_0 (u : Fin 56) (g : Fin 2) : Fin 2 → sProp 𝕄 := fun j => wdl0_0 c u g (wsig0_0 j)
abbrev winfl0_0 (g : Fin 2) (u : Fin 56) : sProp 𝕄 := Transfers.Batch countersEmb (c : Thread nD τ) (wcellR0_0 g) default wN0_0 (wdlv0_0 c u g) 2 0
theorem wstorable_pt0_0 {nD' : Nat} {τ' : Topo} {sg : RefSig} {Ix' : Type} [DecidableEq Ix'] {Val' : EltTy → Type} {Name' : Type} [DecidableEq Name']
    {U' : Type} [URA U'] {Lvl' : Type} (ℓ : Loc nD' τ' sg) (I : Finset (Idx ℓ)) (q : PosShare TreeShare) (f : Buf Val' ℓ) :
    Storable (upEmb : UEmb _ (MT nD' τ' sg Ix' Val' Name' U' Lvl')) (ℓ ↦[I]{q} f) := inferInstance
theorem wstorable_dlv0_0 (u : Fin 56) (g : Fin 2) : ∀ j, Storable (upEmb : UEmb _ 𝕄) (wdlv0_0 (F := F) c u g j) := by
  intro j; fin_cases j <;> exact @Storable.sep _ _ _ _ _ _ _ _ (@Storable.«exists» _ _ _ _ _ _ _ _ fun _ => wstorable_pt0_0 _ _ _ _) (@Storable.«exists» _ _ _ _ _ _ _ _ fun _ => wstorable_pt0_0 _ _ _ _)
abbrev wfree0_0 (g : Fin 2) : sProp 𝕄 := iprop(wcellP0_0 c g ∗ (∃ e, wtileP0_0 c g 0 e) ∗ ∃ e, wtileP0_0 c g 1 e)
abbrev whome0_0 (u : Fin 56) : sProp 𝕄 := iprop((∃ f, wpieceP0_0 c u 0 f) ∗ ∃ f, wpieceP0_0 c u 1 f)
def wringAt0_0 (k : ℕ) : sProp 𝕄 := Ring.AtBΦ 2 (wfree0_0 c) (winfl0_0 c) (whome0_0 c) (whome0_0 c) k
theorem wfree0_0_eq (g : Fin 2) : iprop(wcellP0_0 (F := F) c g ∗ bigSep Finset.univ (fun m : Fin 2 => iprop(∃ e, wtileP0_0 (F := F) c g m e))) = wfree0_0 c g := by
  rw [BI.bigSep_eq_bigSepL_of_eq [0, 1] (by decide) (by decide)]; rfl
theorem whome0_0_eq (u : Fin 56) : (bigSep Finset.univ (fun m : Fin 2 => iprop(∃ f, wpieceP0_0 (F := F) c u m f)) : sProp 𝕄) = whome0_0 c u := by
  rw [BI.bigSep_eq_bigSepL_of_eq [0, 1] (by decide) (by decide)]; rfl
omit [FloatOps F] in
theorem wcellP0_0_0 : wcellP0_0 (F := F) c 0 = semVal ((c : Thread nD τ), SemLoc.dma 20) 0 := congrArg (fun x => (semVal ((c : Thread nD τ), x) 0 : sProp 𝕄)) wcellR0_0_0
omit [FloatOps F] in
theorem wcellP0_0_1 : wcellP0_0 (F := F) c 1 = semVal ((c : Thread nD τ), SemLoc.dma 21) 0 := congrArg (fun x => (semVal ((c : Thread nD τ), x) 0 : sProp 𝕄)) wcellR0_0_1
end WRing0_0

/-! The tiles: boxes of one size at box offsets, pairwise disjoint by their box index -/

abbrev wtileOff0_0 (i : Fin 2 × Fin 2) : Fin 5 → Nat := ![i.1.val, i.2.val, 0, 0, 0]
theorem inb_wtile0_0' (i : Fin 2 × Fin 2) : ∀ a, wtileOff0_0 i a + S1x1x4096x2x128.size a ≤ S2x2x4096x2x128.size a := inb_wtile0_0 i.1 i.2
abbrev wtileSet0_0 (i : Fin 2 × Fin 2) : Finset S2x2x4096x2x128.Idx := (Rect.unit (s := S2x2x4096x2x128) (wtileOff0_0 i) S1x1x4096x2x128.size (inb_wtile0_0' i)).set
theorem wtileSet0_0_eq (g : Fin 2) (m : Fin 2) : (wtile0_0 g m).view.set = wtileSet0_0 (g, m) := by
  simp only [wtile0_0, Memref.view_squeeze, View.set_reshape]; exact View.set_slice_whole _ _
def wtileIx0_0 (i : Fin 2 × Fin 2) : Fin 5 → ℕ := ![i.1.val, i.2.val, 0, 0, 0]
def wtileUn0_0 (v : Fin 5 → ℕ) : Fin 2 × Fin 2 := (Fin.ofNat 2 (v 0), Fin.ofNat 2 (v 1))
theorem wtileUn0_0_left : ∀ i : Fin 2 × Fin 2, wtileUn0_0 (wtileIx0_0 i) = i := by decide +kernel
theorem wtiles0_0_disjoint (i i' : Fin 2 × Fin 2) (h : i ≠ i') : Disjoint (wtileSet0_0 i) (wtileSet0_0 i') :=
  Ring.boxes_disjoint (s := S2x2x4096x2x128) S1x1x4096x2x128.size wtileOff0_0 inb_wtile0_0' wtileIx0_0
    (fun i a => by fin_cases a <;> simp [wtileOff0_0, wtileIx0_0] <;> omega) wtileUn0_0 wtileUn0_0_left i i' h

/-! The pieces: boxes of one size at box offsets, pairwise disjoint by their box index -/

abbrev wpieceOff0_0 (i : Fin 56 × Fin 2) : Fin 4 → Nat := ![(i.1.val / 7), 0, 0, 256 * (i.1.val % 7) + 128 * i.2.val]
theorem inb_wpiece0_0' (i : Fin 56 × Fin 2) : ∀ a, wpieceOff0_0 i a + S1x4096x2x128.size a ≤ S8x4096x2x1792.size a := inb_wpiece0_0 i.1 i.2
abbrev wpieceSet0_0 (i : Fin 56 × Fin 2) : Finset S8x4096x2x1792.Idx := (Rect.unit (s := S8x4096x2x1792) (wpieceOff0_0 i) S1x4096x2x128.size (inb_wpiece0_0' i)).set
theorem wpieceSet0_0_eq (u : Fin 56) (m : Fin 2) : (wpiece0_0 u m).view.set = wpieceSet0_0 (u, m) := by
  simp only [wpiece0_0, Memref.view_squeeze, View.set_reshape]; exact View.set_slice_whole _ _
def wpieceIx0_0 (i : Fin 56 × Fin 2) : Fin 4 → ℕ := ![(i.1.val / 7), 0, 0, 2 * (i.1.val % 7) + i.2.val]
def wpieceUn0_0 (v : Fin 4 → ℕ) : Fin 56 × Fin 2 := (Fin.ofNat 56 (7 * (v 0) + v 3 / 2), Fin.ofNat 2 (v 3 % 2))
theorem wpieceUn0_0_left : ∀ i : Fin 56 × Fin 2, wpieceUn0_0 (wpieceIx0_0 i) = i := by decide +kernel
theorem wpieces0_0_disjoint (i i' : Fin 56 × Fin 2) (h : i ≠ i') : Disjoint (wpieceSet0_0 i) (wpieceSet0_0 i') :=
  Ring.boxes_disjoint (s := S8x4096x2x1792) S1x4096x2x128.size wpieceOff0_0 inb_wpiece0_0' wpieceIx0_0
    (fun i a => by fin_cases a <;> simp [wpieceOff0_0, wpieceIx0_0] <;> omega) wpieceUn0_0 wpieceUn0_0_left i i' h

/-! What the launch hands the write ring, and takes back -/

section WInOut0_0
variable (c : Dev nD)
theorem wtileP0_0_eq (g : Fin 2) (m : Fin 2) (e) : wtileP0_0 (F := F) c g m e = (((c : Thread nD τ).loc cc0_scratch4) ↦[wtileSet0_0 (g, m)]{fullShare} e : sProp 𝕄) := by
  unfold wtileP0_0; rw [wtileSet0_0_eq]; rfl
theorem wpieceP0_0_eq (u : Fin 56) (m : Fin 2) (f) : wpieceP0_0 (F := F) c u m f = (((c : Thread nD τ).loc main_v13_2) ↦[wpieceSet0_0 (u, m)]{fullShare} f : sProp 𝕄) := by
  unfold wpieceP0_0; rw [wpieceSet0_0_eq]; rfl
abbrev wtileSpare0_0 : sProp 𝕄 := iprop(∃ f : Buf (Elt F) ((c : Thread nD τ).loc cc0_scratch4), ((c : Thread nD τ).loc cc0_scratch4) ↦[Finset.univ \ Finset.univ.biUnion wtileSet0_0]{fullShare} f)
abbrev wpieceSpare0_0 : sProp 𝕄 := iprop(∃ f : Buf (Elt F) ((c : Thread nD τ).loc main_v13_2), ((c : Thread nD τ).loc main_v13_2) ↦[Finset.univ \ Finset.univ.biUnion wpieceSet0_0]{fullShare} f)
theorem wtiles0_0_in : iprop(∃ d, owns (c : Thread nD τ) scM0_4 fullShare d) ⊢ (iprop(bigSep Finset.univ (fun i : Fin 2 × Fin 2 => iprop(∃ e, wtileP0_0 (F := F) c i.1 i.2 e)) ∗ wtileSpare0_0 c) : sProp 𝕄) := by
  simp only [scM0_4, owns_whole]
  exact Ring.pieces_split_spare (U := Pipeline.UD sig nD τ) (ℓ := (c : Thread nD τ).loc cc0_scratch4) (q := fullShare) wtileSet0_0 wtiles0_0_disjoint
    (fun i e => wtileP0_0 c i.1 i.2 e) (fun i e => wtileP0_0_eq c i.1 i.2 e)
theorem wtiles0_0_out : (iprop(bigSep Finset.univ (fun i : Fin 2 × Fin 2 => iprop(∃ e, wtileP0_0 (F := F) c i.1 i.2 e)) ∗ wtileSpare0_0 c) : sProp 𝕄) ⊢ iprop(∃ d, owns (c : Thread nD τ) scM0_4 fullShare d) := by
  simp only [scM0_4, owns_whole]
  exact Ring.pieces_join_spare (U := Pipeline.UD sig nD τ) (ℓ := (c : Thread nD τ).loc cc0_scratch4) (q := fullShare) wtileSet0_0 wtiles0_0_disjoint
    (fun i e => wtileP0_0 c i.1 i.2 e) (fun i e => wtileP0_0_eq c i.1 i.2 e)
theorem wpieces0_0_in : iprop(∃ f, hbPt0 c hbM0_0 f) ⊢ (iprop(bigSep Finset.univ (fun i : Fin 56 × Fin 2 => iprop(∃ f, wpieceP0_0 (F := F) c i.1 i.2 f)) ∗ wpieceSpare0_0 c) : sProp 𝕄) := by
  unfold hbPt0
  exact Ring.pieces_split_spare (U := Pipeline.UD sig nD τ) (ℓ := (c : Thread nD τ).loc main_v13_2) (q := fullShare) wpieceSet0_0 wpieces0_0_disjoint
    (fun i f => wpieceP0_0 c i.1 i.2 f) (fun i f => wpieceP0_0_eq c i.1 i.2 f)
theorem wpieces0_0_out : (iprop(bigSep Finset.univ (fun i : Fin 56 × Fin 2 => iprop(∃ f, wpieceP0_0 (F := F) c i.1 i.2 f)) ∗ wpieceSpare0_0 c) : sProp 𝕄) ⊢ iprop(∃ f, hbPt0 c hbM0_0 f) := by
  unfold hbPt0
  exact Ring.pieces_join_spare (U := Pipeline.UD sig nD τ) (ℓ := (c : Thread nD τ).loc main_v13_2) (q := fullShare) wpieceSet0_0 wpieces0_0_disjoint
    (fun i f => wpieceP0_0 c i.1 i.2 f) (fun i f => wpieceP0_0_eq c i.1 i.2 f)
theorem wcells0_0_eq : (bigSep Finset.univ (fun g : Fin 2 => wcellP0_0 (F := F) c g) : sProp 𝕄) = iprop(semVal ((c : Thread nD τ), SemLoc.dma 20) 0 ∗ semVal ((c : Thread nD τ), SemLoc.dma 21) 0) := by
  rw [BI.bigSep_eq_bigSepL_of_eq [0, 1] (by decide) (by decide)]; simp only [BI.bigSepL_cons_cons, BI.bigSepL_singleton, wcellP0_0_0, wcellP0_0_1]; rfl
theorem wfrees0_0_eq : iprop(bigSep Finset.univ (fun g : Fin 2 => wcellP0_0 (F := F) c g) ∗ bigSep Finset.univ (fun i : Fin 2 × Fin 2 => iprop(∃ e, wtileP0_0 (F := F) c i.1 i.2 e))) = (bigSep Finset.univ (wfree0_0 c) : sProp 𝕄) := by
  rw [BI.bigSep_univ_prod (fun i : Fin 2 × Fin 2 => iprop(∃ e, wtileP0_0 (F := F) c i.1 i.2 e))]
  exact (BI.bigSep_sep Finset.univ (fun g : Fin 2 => wcellP0_0 (F := F) c g) (fun g => bigSep Finset.univ fun m => iprop(∃ e, wtileP0_0 (F := F) c g m e))).symm.trans (BI.bigSep_congr fun g _ => wfree0_0_eq c g)
theorem whomes0_0_eq : (bigSep Finset.univ (fun i : Fin 56 × Fin 2 => iprop(∃ f, wpieceP0_0 (F := F) c i.1 i.2 f)) : sProp 𝕄) = bigSep Finset.univ (whome0_0 c) := by
  rw [BI.bigSep_univ_prod]; exact BI.bigSep_congr fun u _ => whome0_0_eq c u
end WInOut0_0

theorem wring0_0_in (c : Dev nD) :
    iprop((∃ d, owns (c : Thread nD τ) scM0_4 fullShare d) ∗ (semVal ((c : Thread nD τ), SemLoc.dma 20) 0 ∗ semVal ((c : Thread nD τ), SemLoc.dma 21) 0) ∗ (∃ f, hbPt0 (F := F) c hbM0_0 f))
      ⊢ iprop(wringAt0_0 (F := F) c 0 ∗ wtileSpare0_0 c ∗ wpieceSpare0_0 c) := by
  unfold wringAt0_0; rw [Ring.AtBΦ_lt _ _ _ _ _ 0 (by decide), Ring.AtB_zero]; unfold Ring.AtB₀
  rw [← whomes0_0_eq, ← wfrees0_0_eq, wcells0_0_eq]
  iintro ⟨HS, HQ, HD⟩
  ihave HS' := (wtiles0_0_in (F := F) c) $$ HS
  icases HS' with ⟨HT, HTsp⟩
  ihave HD' := (wpieces0_0_in (F := F) c) $$ HD
  icases HD' with ⟨HP, HPsp⟩
  isplitl [HP HQ HT]
  · isplitl [HP]
    · iexact HP
    isplitl [HQ]
    · iexact HQ
    iexact HT
  isplitl [HTsp]
  · iexact HTsp
  iexact HPsp
theorem wring0_0_out (c : Dev nD) :
    iprop(wringAt0_0 (F := F) c 56 ∗ wtileSpare0_0 c ∗ wpieceSpare0_0 c)
      ⊢ iprop((∃ d, owns (c : Thread nD τ) scM0_4 fullShare d) ∗ (semVal ((c : Thread nD τ), SemLoc.dma 20) 0 ∗ semVal ((c : Thread nD τ), SemLoc.dma 21) 0) ∗ (∃ f, hbPt0 (F := F) c hbM0_0 f)) := by
  unfold wringAt0_0; rw [Ring.AtBΦ_ge _ _ _ _ _ 56 (by decide), Ring.AtBEnd_frame]; unfold Ring.AtB₀
  rw [← whomes0_0_eq, ← wfrees0_0_eq, wcells0_0_eq]
  iintro ⟨⟨HP, HQ, HT⟩, HTsp, HPsp⟩
  isplitl [HT HTsp]
  · iapply (wtiles0_0_out (F := F) c)
    isplitl [HT]
    · iexact HT
    iexact HTsp
  isplitl [HQ]
  · iexact HQ
  iapply (wpieces0_0_out (F := F) c)
  isplitl [HP]
  · iexact HP
  iexact HPsp

/-! Write ring 0's steps at each case's points, and its canonical names: the body's operands at point `t` are the ring's tiles, pieces and cells -/

section WCanon0_0
omit [FloatOps F]
theorem wstep0_0_A : ∀ t : Fin grid0.N, ¬cond0_0 (grid0.coords t) → ¬cond0_1 (grid0.coords t) → t.val < 2 ∧ (t.val + 1) = t.val + 1 := by decide +kernel
theorem wstep0_0_B : ∀ t : Fin grid0.N, cond0_0 (grid0.coords t) → ¬cond0_1 (grid0.coords t) → 2 ≤ t.val ∧ t.val + 1 < 56 ∧ (t.val + 1) = t.val + 1 := by decide +kernel
theorem wstep0_0_C : ∀ t : Fin grid0.N, cond0_0 (grid0.coords t) → cond0_1 (grid0.coords t) → 2 ≤ t.val ∧ t.val + 1 = 56 ∧ (t.val + 1) = t.val + 1 := by decide +kernel
set_option synthInstance.maxSize 4096 in
theorem wcoff0_0_1 : ∀ t : Fin grid0.N, k0_off55 (grid0.coords t) = ![(Ring.sl 2 t.val).val] := by decide +kernel
@[sl_canon] theorem wcanon0_0_1 (t : Fin grid0.N) :
    (cc0_scratch7.slice (Rect.unit (s := S2) (k0_off55 (grid0.coords t)) S1.size (k0_off55_inb (grid0.coords t)))).squeeze S_ squeezes_S1_S_ = wcellA0_0 (Ring.sl 2 t.val) :=
  congrArg (fun A : DmaSems sig S1 => A.squeeze S_ squeezes_S1_S_) (SemArray.slice_unit_congr _ (wcoff0_0_1 t) _ _)
@[sl_canon] theorem wcanon0_0_1' (t : Fin grid0.N) :
    (cc0_scratch7.slice (Rect.unit (s := S2) (k0_off55 (grid0.coords t)) ![1] (k0_off55_inb (grid0.coords t)))).squeeze S_ squeezes_S1_S_ = wcellA0_0 (Ring.sl 2 t.val) :=
  wcanon0_0_1 t
set_option synthInstance.maxSize 4096 in
theorem wcoff0_0_2 : ∀ t : Fin grid0.N, k0_off57 (grid0.coords t) = ![(Ring.sl 2 t.val).val, 0, 0, 0, 0] := by decide +kernel
@[sl_canon] theorem wcanon0_0_2 (t : Fin grid0.N) :
    (scM0_4.slice (Rect.unit (s := S2x2x4096x2x128) (k0_off57 (grid0.coords t)) S1x1x4096x2x128.size (k0_off57_inb (grid0.coords t))) (fun _ => rfl)).squeeze S4096x2x128 squeezes_S1x1x4096x2x128_S4096x2x128 = wtile0_0 (Ring.sl 2 t.val) 0 :=
  congrArg (fun M : Memref sig .tc .vmem S1x1x4096x2x128 .bf16 => M.squeeze S4096x2x128 squeezes_S1x1x4096x2x128_S4096x2x128) (Memref.slice_unit_congr _ (wcoff0_0_2 t) _ _ (fun _ => rfl) (fun _ => rfl))
@[sl_canon] theorem wcanon0_0_2' (t : Fin grid0.N) :
    (scM0_4.slice (Rect.unit (s := S2x2x4096x2x128) (k0_off57 (grid0.coords t)) ![1, 1, 4096, 2, 128] (k0_off57_inb (grid0.coords t))) (fun _ => rfl)).squeeze S4096x2x128 squeezes_S1x1x4096x2x128_S4096x2x128 = wtile0_0 (Ring.sl 2 t.val) 0 :=
  wcanon0_0_2 t
set_option synthInstance.maxSize 4096 in
theorem wcoff0_0_3 : ∀ t : Fin grid0.N, k0_off56 (grid0.coords t) 0#32 = ![((Ring.bk 56 t.val).val / 7), 0, 0, 256 * ((Ring.bk 56 t.val).val % 7) + 128 * 0] := by decide +kernel
@[sl_canon] theorem wcanon0_0_3 (t : Fin grid0.N) :
    (hbM0_0.slice (Rect.unit (s := S8x4096x2x1792) (k0_off56 (grid0.coords t) 0#32) S1x4096x2x128.size (k0_off56_inb (grid0.coords t) 0)) (fun _ => rfl)).squeeze S4096x2x128 squeezes_S1x4096x2x128_S4096x2x128 = wpiece0_0 (Ring.bk 56 t.val) 0 :=
  congrArg (fun M : Memref sig .tc .hbm S1x4096x2x128 .bf16 => M.squeeze S4096x2x128 squeezes_S1x4096x2x128_S4096x2x128) (Memref.slice_unit_congr _ (wcoff0_0_3 t) _ _ (fun _ => rfl) (fun _ => rfl))
@[sl_canon] theorem wcanon0_0_3' (t : Fin grid0.N) :
    (hbM0_0.slice (Rect.unit (s := S8x4096x2x1792) (k0_off56 (grid0.coords t) 0#32) ![1, 4096, 2, 128] (k0_off56_inb (grid0.coords t) 0)) (fun _ => rfl)).squeeze S4096x2x128 squeezes_S1x4096x2x128_S4096x2x128 = wpiece0_0 (Ring.bk 56 t.val) 0 :=
  wcanon0_0_3 t
set_option synthInstance.maxSize 4096 in
theorem wcoff0_0_4 : ∀ t : Fin grid0.N, k0_off58 (grid0.coords t) = ![(Ring.sl 2 t.val).val, 1, 0, 0, 0] := by decide +kernel
@[sl_canon] theorem wcanon0_0_4 (t : Fin grid0.N) :
    (scM0_4.slice (Rect.unit (s := S2x2x4096x2x128) (k0_off58 (grid0.coords t)) S1x1x4096x2x128.size (k0_off58_inb (grid0.coords t))) (fun _ => rfl)).squeeze S4096x2x128 squeezes_S1x1x4096x2x128_S4096x2x128 = wtile0_0 (Ring.sl 2 t.val) 1 :=
  congrArg (fun M : Memref sig .tc .vmem S1x1x4096x2x128 .bf16 => M.squeeze S4096x2x128 squeezes_S1x1x4096x2x128_S4096x2x128) (Memref.slice_unit_congr _ (wcoff0_0_4 t) _ _ (fun _ => rfl) (fun _ => rfl))
@[sl_canon] theorem wcanon0_0_4' (t : Fin grid0.N) :
    (scM0_4.slice (Rect.unit (s := S2x2x4096x2x128) (k0_off58 (grid0.coords t)) ![1, 1, 4096, 2, 128] (k0_off58_inb (grid0.coords t))) (fun _ => rfl)).squeeze S4096x2x128 squeezes_S1x1x4096x2x128_S4096x2x128 = wtile0_0 (Ring.sl 2 t.val) 1 :=
  wcanon0_0_4 t
set_option synthInstance.maxSize 4096 in
theorem wcoff0_0_5 : ∀ t : Fin grid0.N, k0_off56 (grid0.coords t) 128#32 = ![((Ring.bk 56 t.val).val / 7), 0, 0, 256 * ((Ring.bk 56 t.val).val % 7) + 128 * 1] := by decide +kernel
@[sl_canon] theorem wcanon0_0_5 (t : Fin grid0.N) :
    (hbM0_0.slice (Rect.unit (s := S8x4096x2x1792) (k0_off56 (grid0.coords t) 128#32) S1x4096x2x128.size (k0_off56_inb (grid0.coords t) 1)) (fun _ => rfl)).squeeze S4096x2x128 squeezes_S1x4096x2x128_S4096x2x128 = wpiece0_0 (Ring.bk 56 t.val) 1 :=
  congrArg (fun M : Memref sig .tc .hbm S1x4096x2x128 .bf16 => M.squeeze S4096x2x128 squeezes_S1x4096x2x128_S4096x2x128) (Memref.slice_unit_congr _ (wcoff0_0_5 t) _ _ (fun _ => rfl) (fun _ => rfl))
@[sl_canon] theorem wcanon0_0_5' (t : Fin grid0.N) :
    (hbM0_0.slice (Rect.unit (s := S8x4096x2x1792) (k0_off56 (grid0.coords t) 128#32) ![1, 4096, 2, 128] (k0_off56_inb (grid0.coords t) 1)) (fun _ => rfl)).squeeze S4096x2x128 squeezes_S1x4096x2x128_S4096x2x128 = wpiece0_0 (Ring.bk 56 t.val) 1 :=
  wcanon0_0_5 t
set_option synthInstance.maxSize 4096 in
theorem wcoff0_0_6 : ∀ t : Fin grid0.N, k0_off1 (grid0.coords t) = ![(Ring.sl 2 t.val).val] := by decide +kernel
@[sl_canon] theorem wcanon0_0_6 (t : Fin grid0.N) (h0 : cond0_0 (grid0.coords t)) :
    (cc0_scratch7.slice (Rect.unit (s := S2) (k0_off1 (grid0.coords t)) S1.size (k0_off1_inb (grid0.coords t) h0))).squeeze S_ squeezes_S1_S_ = wcellA0_0 (Ring.sl 2 t.val) :=
  congrArg (fun A : DmaSems sig S1 => A.squeeze S_ squeezes_S1_S_) (SemArray.slice_unit_congr _ (wcoff0_0_6 t) _ _)
@[sl_canon] theorem wcanon0_0_6' (t : Fin grid0.N) (h0 : cond0_0 (grid0.coords t)) :
    (cc0_scratch7.slice (Rect.unit (s := S2) (k0_off1 (grid0.coords t)) ![1] (k0_off1_inb (grid0.coords t) h0))).squeeze S_ squeezes_S1_S_ = wcellA0_0 (Ring.sl 2 t.val) :=
  wcanon0_0_6 t h0
set_option synthInstance.maxSize 4096 in
theorem wcoff0_0_7 : ∀ t : Fin grid0.N, k0_off59 (grid0.coords t) = ![(Ring.sl 2 (t.val + 1)).val] := by decide +kernel
@[sl_canon] theorem wcanon0_0_7 (t : Fin grid0.N) (h1 : cond0_1 (grid0.coords t)) :
    (cc0_scratch7.slice (Rect.unit (s := S2) (k0_off59 (grid0.coords t)) S1.size (k0_off59_inb (grid0.coords t) h1))).squeeze S_ squeezes_S1_S_ = wcellA0_0 (Ring.sl 2 (t.val + 1)) :=
  congrArg (fun A : DmaSems sig S1 => A.squeeze S_ squeezes_S1_S_) (SemArray.slice_unit_congr _ (wcoff0_0_7 t) _ _)
@[sl_canon] theorem wcanon0_0_7' (t : Fin grid0.N) (h1 : cond0_1 (grid0.coords t)) :
    (cc0_scratch7.slice (Rect.unit (s := S2) (k0_off59 (grid0.coords t)) ![1] (k0_off59_inb (grid0.coords t) h1))).squeeze S_ squeezes_S1_S_ = wcellA0_0 (Ring.sl 2 (t.val + 1)) :=
  wcanon0_0_7 t h1
set_option synthInstance.maxSize 4096 in
theorem wcoff0_0_8 : ∀ t : Fin grid0.N, k0_off63 (grid0.coords t) = ![(Ring.sl 2 t.val).val] := by decide +kernel
@[sl_canon] theorem wcanon0_0_8 (t : Fin grid0.N) (h1 : cond0_1 (grid0.coords t)) :
    (cc0_scratch7.slice (Rect.unit (s := S2) (k0_off63 (grid0.coords t)) S1.size (k0_off63_inb (grid0.coords t) h1))).squeeze S_ squeezes_S1_S_ = wcellA0_0 (Ring.sl 2 t.val) :=
  congrArg (fun A : DmaSems sig S1 => A.squeeze S_ squeezes_S1_S_) (SemArray.slice_unit_congr _ (wcoff0_0_8 t) _ _)
@[sl_canon] theorem wcanon0_0_8' (t : Fin grid0.N) (h1 : cond0_1 (grid0.coords t)) :
    (cc0_scratch7.slice (Rect.unit (s := S2) (k0_off63 (grid0.coords t)) ![1] (k0_off63_inb (grid0.coords t) h1))).squeeze S_ squeezes_S1_S_ = wcellA0_0 (Ring.sl 2 t.val) :=
  wcanon0_0_8 t h1
/- The accesses of the point's slot of the staging buffer, in the tiles' spelling. -/
set_option synthInstance.maxSize 4096
theorem wcoff_6 : ∀ t : Fin grid0.N, k0_off6 (grid0.coords t) = ![(Ring.sl 2 t.val).val, 0, 0, 0, 0] := by decide +kernel
instance (priority := high) wclosedOff_6 (t : Fin grid0.N) : ClosedOff (k0_off6 (grid0.coords t)) := ⟨![(Ring.sl 2 t.val).val, 0, 0, 0, 0], wcoff_6 t⟩
theorem wcoff_7 : ∀ t : Fin grid0.N, k0_off7 (grid0.coords t) = ![(Ring.sl 2 t.val).val, 1, 0, 0, 0] := by decide +kernel
instance (priority := high) wclosedOff_7 (t : Fin grid0.N) : ClosedOff (k0_off7 (grid0.coords t)) := ⟨![(Ring.sl 2 t.val).val, 1, 0, 0, 0], wcoff_7 t⟩
theorem wcoff_8 : ∀ t : Fin grid0.N, k0_off8 (grid0.coords t) = ![(Ring.sl 2 t.val).val, 0, 512, 0, 0] := by decide +kernel
instance (priority := high) wclosedOff_8 (t : Fin grid0.N) : ClosedOff (k0_off8 (grid0.coords t)) := ⟨![(Ring.sl 2 t.val).val, 0, 512, 0, 0], wcoff_8 t⟩
theorem wcoff_9 : ∀ t : Fin grid0.N, k0_off9 (grid0.coords t) = ![(Ring.sl 2 t.val).val, 1, 512, 0, 0] := by decide +kernel
instance (priority := high) wclosedOff_9 (t : Fin grid0.N) : ClosedOff (k0_off9 (grid0.coords t)) := ⟨![(Ring.sl 2 t.val).val, 1, 512, 0, 0], wcoff_9 t⟩
theorem wcoff_10 : ∀ t : Fin grid0.N, k0_off10 (grid0.coords t) = ![(Ring.sl 2 t.val).val, 0, 1024, 0, 0] := by decide +kernel
instance (priority := high) wclosedOff_10 (t : Fin grid0.N) : ClosedOff (k0_off10 (grid0.coords t)) := ⟨![(Ring.sl 2 t.val).val, 0, 1024, 0, 0], wcoff_10 t⟩
theorem wcoff_11 : ∀ t : Fin grid0.N, k0_off11 (grid0.coords t) = ![(Ring.sl 2 t.val).val, 1, 1024, 0, 0] := by decide +kernel
instance (priority := high) wclosedOff_11 (t : Fin grid0.N) : ClosedOff (k0_off11 (grid0.coords t)) := ⟨![(Ring.sl 2 t.val).val, 1, 1024, 0, 0], wcoff_11 t⟩
theorem wcoff_12 : ∀ t : Fin grid0.N, k0_off12 (grid0.coords t) = ![(Ring.sl 2 t.val).val, 0, 1536, 0, 0] := by decide +kernel
instance (priority := high) wclosedOff_12 (t : Fin grid0.N) : ClosedOff (k0_off12 (grid0.coords t)) := ⟨![(Ring.sl 2 t.val).val, 0, 1536, 0, 0], wcoff_12 t⟩
theorem wcoff_13 : ∀ t : Fin grid0.N, k0_off13 (grid0.coords t) = ![(Ring.sl 2 t.val).val, 1, 1536, 0, 0] := by decide +kernel
instance (priority := high) wclosedOff_13 (t : Fin grid0.N) : ClosedOff (k0_off13 (grid0.coords t)) := ⟨![(Ring.sl 2 t.val).val, 1, 1536, 0, 0], wcoff_13 t⟩
theorem wcoff_14 : ∀ t : Fin grid0.N, k0_off14 (grid0.coords t) = ![(Ring.sl 2 t.val).val, 0, 2048, 0, 0] := by decide +kernel
instance (priority := high) wclosedOff_14 (t : Fin grid0.N) : ClosedOff (k0_off14 (grid0.coords t)) := ⟨![(Ring.sl 2 t.val).val, 0, 2048, 0, 0], wcoff_14 t⟩
theorem wcoff_15 : ∀ t : Fin grid0.N, k0_off15 (grid0.coords t) = ![(Ring.sl 2 t.val).val, 1, 2048, 0, 0] := by decide +kernel
instance (priority := high) wclosedOff_15 (t : Fin grid0.N) : ClosedOff (k0_off15 (grid0.coords t)) := ⟨![(Ring.sl 2 t.val).val, 1, 2048, 0, 0], wcoff_15 t⟩
theorem wcoff_16 : ∀ t : Fin grid0.N, k0_off16 (grid0.coords t) = ![(Ring.sl 2 t.val).val, 0, 2560, 0, 0] := by decide +kernel
instance (priority := high) wclosedOff_16 (t : Fin grid0.N) : ClosedOff (k0_off16 (grid0.coords t)) := ⟨![(Ring.sl 2 t.val).val, 0, 2560, 0, 0], wcoff_16 t⟩
theorem wcoff_17 : ∀ t : Fin grid0.N, k0_off17 (grid0.coords t) = ![(Ring.sl 2 t.val).val, 1, 2560, 0, 0] := by decide +kernel
instance (priority := high) wclosedOff_17 (t : Fin grid0.N) : ClosedOff (k0_off17 (grid0.coords t)) := ⟨![(Ring.sl 2 t.val).val, 1, 2560, 0, 0], wcoff_17 t⟩
theorem wcoff_18 : ∀ t : Fin grid0.N, k0_off18 (grid0.coords t) = ![(Ring.sl 2 t.val).val, 0, 3072, 0, 0] := by decide +kernel
instance (priority := high) wclosedOff_18 (t : Fin grid0.N) : ClosedOff (k0_off18 (grid0.coords t)) := ⟨![(Ring.sl 2 t.val).val, 0, 3072, 0, 0], wcoff_18 t⟩
theorem wcoff_19 : ∀ t : Fin grid0.N, k0_off19 (grid0.coords t) = ![(Ring.sl 2 t.val).val, 1, 3072, 0, 0] := by decide +kernel
instance (priority := high) wclosedOff_19 (t : Fin grid0.N) : ClosedOff (k0_off19 (grid0.coords t)) := ⟨![(Ring.sl 2 t.val).val, 1, 3072, 0, 0], wcoff_19 t⟩
theorem wcoff_20 : ∀ t : Fin grid0.N, k0_off20 (grid0.coords t) = ![(Ring.sl 2 t.val).val, 0, 3584, 0, 0] := by decide +kernel
instance (priority := high) wclosedOff_20 (t : Fin grid0.N) : ClosedOff (k0_off20 (grid0.coords t)) := ⟨![(Ring.sl 2 t.val).val, 0, 3584, 0, 0], wcoff_20 t⟩
theorem wcoff_21 : ∀ t : Fin grid0.N, k0_off21 (grid0.coords t) = ![(Ring.sl 2 t.val).val, 1, 3584, 0, 0] := by decide +kernel
instance (priority := high) wclosedOff_21 (t : Fin grid0.N) : ClosedOff (k0_off21 (grid0.coords t)) := ⟨![(Ring.sl 2 t.val).val, 1, 3584, 0, 0], wcoff_21 t⟩
theorem wcoff_22 : ∀ t : Fin grid0.N, k0_off22 (grid0.coords t) = ![(Ring.sl 2 t.val).val, 0, 0, 0, 0] := by decide +kernel
instance (priority := high) wclosedOff_22 (t : Fin grid0.N) : ClosedOff (k0_off22 (grid0.coords t)) := ⟨![(Ring.sl 2 t.val).val, 0, 0, 0, 0], wcoff_22 t⟩
theorem wcoff_23 : ∀ t : Fin grid0.N, k0_off23 (grid0.coords t) = ![(Ring.sl 2 t.val).val, 1, 0, 0, 0] := by decide +kernel
instance (priority := high) wclosedOff_23 (t : Fin grid0.N) : ClosedOff (k0_off23 (grid0.coords t)) := ⟨![(Ring.sl 2 t.val).val, 1, 0, 0, 0], wcoff_23 t⟩
theorem wcoff_24 : ∀ t : Fin grid0.N, k0_off24 (grid0.coords t) = ![(Ring.sl 2 t.val).val, 0, 512, 0, 0] := by decide +kernel
instance (priority := high) wclosedOff_24 (t : Fin grid0.N) : ClosedOff (k0_off24 (grid0.coords t)) := ⟨![(Ring.sl 2 t.val).val, 0, 512, 0, 0], wcoff_24 t⟩
theorem wcoff_25 : ∀ t : Fin grid0.N, k0_off25 (grid0.coords t) = ![(Ring.sl 2 t.val).val, 1, 512, 0, 0] := by decide +kernel
instance (priority := high) wclosedOff_25 (t : Fin grid0.N) : ClosedOff (k0_off25 (grid0.coords t)) := ⟨![(Ring.sl 2 t.val).val, 1, 512, 0, 0], wcoff_25 t⟩
theorem wcoff_26 : ∀ t : Fin grid0.N, k0_off26 (grid0.coords t) = ![(Ring.sl 2 t.val).val, 0, 1024, 0, 0] := by decide +kernel
instance (priority := high) wclosedOff_26 (t : Fin grid0.N) : ClosedOff (k0_off26 (grid0.coords t)) := ⟨![(Ring.sl 2 t.val).val, 0, 1024, 0, 0], wcoff_26 t⟩
theorem wcoff_27 : ∀ t : Fin grid0.N, k0_off27 (grid0.coords t) = ![(Ring.sl 2 t.val).val, 1, 1024, 0, 0] := by decide +kernel
instance (priority := high) wclosedOff_27 (t : Fin grid0.N) : ClosedOff (k0_off27 (grid0.coords t)) := ⟨![(Ring.sl 2 t.val).val, 1, 1024, 0, 0], wcoff_27 t⟩
theorem wcoff_28 : ∀ t : Fin grid0.N, k0_off28 (grid0.coords t) = ![(Ring.sl 2 t.val).val, 0, 1536, 0, 0] := by decide +kernel
instance (priority := high) wclosedOff_28 (t : Fin grid0.N) : ClosedOff (k0_off28 (grid0.coords t)) := ⟨![(Ring.sl 2 t.val).val, 0, 1536, 0, 0], wcoff_28 t⟩
theorem wcoff_29 : ∀ t : Fin grid0.N, k0_off29 (grid0.coords t) = ![(Ring.sl 2 t.val).val, 1, 1536, 0, 0] := by decide +kernel
instance (priority := high) wclosedOff_29 (t : Fin grid0.N) : ClosedOff (k0_off29 (grid0.coords t)) := ⟨![(Ring.sl 2 t.val).val, 1, 1536, 0, 0], wcoff_29 t⟩
theorem wcoff_30 : ∀ t : Fin grid0.N, k0_off30 (grid0.coords t) = ![(Ring.sl 2 t.val).val, 0, 2048, 0, 0] := by decide +kernel
instance (priority := high) wclosedOff_30 (t : Fin grid0.N) : ClosedOff (k0_off30 (grid0.coords t)) := ⟨![(Ring.sl 2 t.val).val, 0, 2048, 0, 0], wcoff_30 t⟩
theorem wcoff_31 : ∀ t : Fin grid0.N, k0_off31 (grid0.coords t) = ![(Ring.sl 2 t.val).val, 1, 2048, 0, 0] := by decide +kernel
instance (priority := high) wclosedOff_31 (t : Fin grid0.N) : ClosedOff (k0_off31 (grid0.coords t)) := ⟨![(Ring.sl 2 t.val).val, 1, 2048, 0, 0], wcoff_31 t⟩
theorem wcoff_32 : ∀ t : Fin grid0.N, k0_off32 (grid0.coords t) = ![(Ring.sl 2 t.val).val, 0, 2560, 0, 0] := by decide +kernel
instance (priority := high) wclosedOff_32 (t : Fin grid0.N) : ClosedOff (k0_off32 (grid0.coords t)) := ⟨![(Ring.sl 2 t.val).val, 0, 2560, 0, 0], wcoff_32 t⟩
theorem wcoff_33 : ∀ t : Fin grid0.N, k0_off33 (grid0.coords t) = ![(Ring.sl 2 t.val).val, 1, 2560, 0, 0] := by decide +kernel
instance (priority := high) wclosedOff_33 (t : Fin grid0.N) : ClosedOff (k0_off33 (grid0.coords t)) := ⟨![(Ring.sl 2 t.val).val, 1, 2560, 0, 0], wcoff_33 t⟩
theorem wcoff_34 : ∀ t : Fin grid0.N, k0_off34 (grid0.coords t) = ![(Ring.sl 2 t.val).val, 0, 3072, 0, 0] := by decide +kernel
instance (priority := high) wclosedOff_34 (t : Fin grid0.N) : ClosedOff (k0_off34 (grid0.coords t)) := ⟨![(Ring.sl 2 t.val).val, 0, 3072, 0, 0], wcoff_34 t⟩
theorem wcoff_35 : ∀ t : Fin grid0.N, k0_off35 (grid0.coords t) = ![(Ring.sl 2 t.val).val, 1, 3072, 0, 0] := by decide +kernel
instance (priority := high) wclosedOff_35 (t : Fin grid0.N) : ClosedOff (k0_off35 (grid0.coords t)) := ⟨![(Ring.sl 2 t.val).val, 1, 3072, 0, 0], wcoff_35 t⟩
theorem wcoff_36 : ∀ t : Fin grid0.N, k0_off36 (grid0.coords t) = ![(Ring.sl 2 t.val).val, 0, 3584, 0, 0] := by decide +kernel
instance (priority := high) wclosedOff_36 (t : Fin grid0.N) : ClosedOff (k0_off36 (grid0.coords t)) := ⟨![(Ring.sl 2 t.val).val, 0, 3584, 0, 0], wcoff_36 t⟩
theorem wcoff_37 : ∀ t : Fin grid0.N, k0_off37 (grid0.coords t) = ![(Ring.sl 2 t.val).val, 1, 3584, 0, 0] := by decide +kernel
instance (priority := high) wclosedOff_37 (t : Fin grid0.N) : ClosedOff (k0_off37 (grid0.coords t)) := ⟨![(Ring.sl 2 t.val).val, 1, 3584, 0, 0], wcoff_37 t⟩
theorem wcoff_38 : ∀ t : Fin grid0.N, k0_off38 (grid0.coords t) = ![(Ring.sl 2 t.val).val, 0, 0, 0, 0] := by decide +kernel
instance (priority := high) wclosedOff_38 (t : Fin grid0.N) : ClosedOff (k0_off38 (grid0.coords t)) := ⟨![(Ring.sl 2 t.val).val, 0, 0, 0, 0], wcoff_38 t⟩
theorem wcoff_39 : ∀ t : Fin grid0.N, k0_off39 (grid0.coords t) = ![(Ring.sl 2 t.val).val, 1, 0, 0, 0] := by decide +kernel
instance (priority := high) wclosedOff_39 (t : Fin grid0.N) : ClosedOff (k0_off39 (grid0.coords t)) := ⟨![(Ring.sl 2 t.val).val, 1, 0, 0, 0], wcoff_39 t⟩
theorem wcoff_40 : ∀ t : Fin grid0.N, k0_off40 (grid0.coords t) = ![(Ring.sl 2 t.val).val, 0, 512, 0, 0] := by decide +kernel
instance (priority := high) wclosedOff_40 (t : Fin grid0.N) : ClosedOff (k0_off40 (grid0.coords t)) := ⟨![(Ring.sl 2 t.val).val, 0, 512, 0, 0], wcoff_40 t⟩
theorem wcoff_41 : ∀ t : Fin grid0.N, k0_off41 (grid0.coords t) = ![(Ring.sl 2 t.val).val, 1, 512, 0, 0] := by decide +kernel
instance (priority := high) wclosedOff_41 (t : Fin grid0.N) : ClosedOff (k0_off41 (grid0.coords t)) := ⟨![(Ring.sl 2 t.val).val, 1, 512, 0, 0], wcoff_41 t⟩
theorem wcoff_42 : ∀ t : Fin grid0.N, k0_off42 (grid0.coords t) = ![(Ring.sl 2 t.val).val, 0, 1024, 0, 0] := by decide +kernel
instance (priority := high) wclosedOff_42 (t : Fin grid0.N) : ClosedOff (k0_off42 (grid0.coords t)) := ⟨![(Ring.sl 2 t.val).val, 0, 1024, 0, 0], wcoff_42 t⟩
theorem wcoff_43 : ∀ t : Fin grid0.N, k0_off43 (grid0.coords t) = ![(Ring.sl 2 t.val).val, 1, 1024, 0, 0] := by decide +kernel
instance (priority := high) wclosedOff_43 (t : Fin grid0.N) : ClosedOff (k0_off43 (grid0.coords t)) := ⟨![(Ring.sl 2 t.val).val, 1, 1024, 0, 0], wcoff_43 t⟩
theorem wcoff_44 : ∀ t : Fin grid0.N, k0_off44 (grid0.coords t) = ![(Ring.sl 2 t.val).val, 0, 1536, 0, 0] := by decide +kernel
instance (priority := high) wclosedOff_44 (t : Fin grid0.N) : ClosedOff (k0_off44 (grid0.coords t)) := ⟨![(Ring.sl 2 t.val).val, 0, 1536, 0, 0], wcoff_44 t⟩
theorem wcoff_45 : ∀ t : Fin grid0.N, k0_off45 (grid0.coords t) = ![(Ring.sl 2 t.val).val, 1, 1536, 0, 0] := by decide +kernel
instance (priority := high) wclosedOff_45 (t : Fin grid0.N) : ClosedOff (k0_off45 (grid0.coords t)) := ⟨![(Ring.sl 2 t.val).val, 1, 1536, 0, 0], wcoff_45 t⟩
theorem wcoff_46 : ∀ t : Fin grid0.N, k0_off46 (grid0.coords t) = ![(Ring.sl 2 t.val).val, 0, 2048, 0, 0] := by decide +kernel
instance (priority := high) wclosedOff_46 (t : Fin grid0.N) : ClosedOff (k0_off46 (grid0.coords t)) := ⟨![(Ring.sl 2 t.val).val, 0, 2048, 0, 0], wcoff_46 t⟩
theorem wcoff_47 : ∀ t : Fin grid0.N, k0_off47 (grid0.coords t) = ![(Ring.sl 2 t.val).val, 1, 2048, 0, 0] := by decide +kernel
instance (priority := high) wclosedOff_47 (t : Fin grid0.N) : ClosedOff (k0_off47 (grid0.coords t)) := ⟨![(Ring.sl 2 t.val).val, 1, 2048, 0, 0], wcoff_47 t⟩
theorem wcoff_48 : ∀ t : Fin grid0.N, k0_off48 (grid0.coords t) = ![(Ring.sl 2 t.val).val, 0, 2560, 0, 0] := by decide +kernel
instance (priority := high) wclosedOff_48 (t : Fin grid0.N) : ClosedOff (k0_off48 (grid0.coords t)) := ⟨![(Ring.sl 2 t.val).val, 0, 2560, 0, 0], wcoff_48 t⟩
theorem wcoff_49 : ∀ t : Fin grid0.N, k0_off49 (grid0.coords t) = ![(Ring.sl 2 t.val).val, 1, 2560, 0, 0] := by decide +kernel
instance (priority := high) wclosedOff_49 (t : Fin grid0.N) : ClosedOff (k0_off49 (grid0.coords t)) := ⟨![(Ring.sl 2 t.val).val, 1, 2560, 0, 0], wcoff_49 t⟩
theorem wcoff_50 : ∀ t : Fin grid0.N, k0_off50 (grid0.coords t) = ![(Ring.sl 2 t.val).val, 0, 3072, 0, 0] := by decide +kernel
instance (priority := high) wclosedOff_50 (t : Fin grid0.N) : ClosedOff (k0_off50 (grid0.coords t)) := ⟨![(Ring.sl 2 t.val).val, 0, 3072, 0, 0], wcoff_50 t⟩
theorem wcoff_51 : ∀ t : Fin grid0.N, k0_off51 (grid0.coords t) = ![(Ring.sl 2 t.val).val, 1, 3072, 0, 0] := by decide +kernel
instance (priority := high) wclosedOff_51 (t : Fin grid0.N) : ClosedOff (k0_off51 (grid0.coords t)) := ⟨![(Ring.sl 2 t.val).val, 1, 3072, 0, 0], wcoff_51 t⟩
theorem wcoff_52 : ∀ t : Fin grid0.N, k0_off52 (grid0.coords t) = ![(Ring.sl 2 t.val).val, 0, 3584, 0, 0] := by decide +kernel
instance (priority := high) wclosedOff_52 (t : Fin grid0.N) : ClosedOff (k0_off52 (grid0.coords t)) := ⟨![(Ring.sl 2 t.val).val, 0, 3584, 0, 0], wcoff_52 t⟩
theorem wcoff_53 : ∀ t : Fin grid0.N, k0_off53 (grid0.coords t) = ![(Ring.sl 2 t.val).val, 1, 3584, 0, 0] := by decide +kernel
instance (priority := high) wclosedOff_53 (t : Fin grid0.N) : ClosedOff (k0_off53 (grid0.coords t)) := ⟨![(Ring.sl 2 t.val).val, 1, 3584, 0, 0], wcoff_53 t⟩
theorem wcoff_54 : ∀ t : Fin grid0.N, k0_off54 (grid0.coords t) = ![(Ring.sl 2 t.val).val, 0, 0, 0, 0] := by decide +kernel
instance (priority := high) wclosedOff_54 (t : Fin grid0.N) : ClosedOff (k0_off54 (grid0.coords t)) := ⟨![(Ring.sl 2 t.val).val, 0, 0, 0, 0], wcoff_54 t⟩
end WCanon0_0

end Cert.ExpertsIdeal.Gen

end
-- ==== Proof.ExpertsSpec.lean ====
/- What the experts call computes at a slot of an expert, on the extended reals: the hidden activation's code and the two gradient
   codes, from the two pre-activations, the gradient that comes back and the scales. -/
module

public import Idealize.ShloMosaic.Lib.Pointwise
public import Idealize.ShloMosaic.Lib.Tactic

@[expose] public section

noncomputable section

namespace Cert.Experts.Spec

open Idealize.ShloMosaic

/-- The logistic function, as the kernel's and the reference's operation reads on the extended reals. -/
def sg (a : EReal) : EReal := FloatOps.logistic (F := Ideal) (φ := .f32) a

/-- The quotient by a scale, clipped between `lo` and `hi`. -/
def quant (lo hi : EReal) (x s : EReal) : EReal := min hi (max lo (FloatOps.divf (F := Ideal) (φ := .f32) x s))

/-- The hidden code: the gate's activation times the other half, over the scale, clipped to 448. -/
def hq (a u s : EReal) : EReal := quant (Ideal.ofBits .f32 0xC3E00000#32) (Ideal.ofBits .f32 0x43E00000#32) (a * sg a * u) s

/-- The code of the gate's gradient, clipped to 57344. -/
def gq (a u dh s : EReal) : EReal :=
  quant (Ideal.ofBits .f32 0xC7600000#32) (Ideal.ofBits .f32 0x47600000#32) (dh * u * sg a * (Ideal.ofBits .f32 0x3F800000#32 + a * (Ideal.ofBits .f32 0x3F800000#32 - sg a))) s

/-- The code of the other half's gradient, clipped to 57344. -/
def uq (a dh s : EReal) : EReal :=
  quant (Ideal.ofBits .f32 0xC7600000#32) (Ideal.ofBits .f32 0x47600000#32) (dh * a * sg a) s

/-- A scaled inner product. -/
def dotS {n : ℕ} (x w : Fin n → EReal) (s : EReal) : EReal := (∑ k, x k * w k) * s

/-- The two gradient codes by half. -/
def dq (g : Fin 2) (a u dh s : EReal) : EReal := if g = 0 then gq a u dh s else uq a dh s

end Cert.Experts.Spec

end
-- ==== Proof.ExpertsIdealPure.lean ====
/- The codes that the payloads of the experts kernel hold, entry by entry on the extended reals. -/
module

public import proofs.«01_k».proof.Proof.ExpertsIdealRing
public import proofs.«01_k».proof.Proof.ExpertsSpec
public import proofs.«01_k».proof.Proof.Gen.ExpertsIdeal.Skeleton
public import Idealize.ShloMosaic.Lib.Tactic
public import Idealize.ShloMosaic.Lib.WholeRead
public import Idealize.ShloMosaic.Lib.WordCmp
public import Idealize.ShloMosaic.Lib.Pointwise

@[expose] public section

set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Experts.Spec

local notation "𝕄" => MT nD τ sig Unit (Elt Ideal) ℕ (Pipeline.UD sig nD τ) ℕ

/-- The word that counts an expert's row chunks of 256, from its count of rows: the count plus 255, divided by 256 rounding down. -/
def chunks (n : BitVec 32) : BitVec 32 :=
  Scalar.select (Scalar.andi (Scalar.cmpi .ne (Scalar.subi (Scalar.extui (Scalar.cmpi .sgt (Scalar.subi (Scalar.addi n 256#32) 1#32) 0#32))
      (Scalar.extui (Scalar.cmpi .slt (Scalar.subi (Scalar.addi n 256#32) 1#32) 0#32))) 1#32)
      (Scalar.cmpi .ne (Scalar.remsi (Scalar.subi (Scalar.addi n 256#32) 1#32) 256#32) 0#32))
    (Scalar.subi (Scalar.divsi (Scalar.subi (Scalar.addi n 256#32) 1#32) 256#32) 1#32)
    (Scalar.divsi (Scalar.subi (Scalar.addi n 256#32) 1#32) 256#32)

theorem chunks_ofNat : ∀ k : Fin 721, chunks (BitVec.ofNat 32 k.val) = BitVec.ofNat 32 ((k.val + 255) / 256) := by decide +kernel

/-- A count of at most 720 rows makes this many chunks. -/
theorem chunks_eq (n : BitVec 32) (hn : n.toNat ≤ 720) : chunks n = BitVec.ofNat 32 ((n.toNat + 255) / 256) := by
  have h := chunks_ofNat ⟨n.toNat, by omega⟩
  simpa using h

theorem chunkIs (a b : BitVec 32) : Scalar.cmpi .ne (Scalar.extui (Scalar.cmpi .eq a b)) 0#32 = 1#1 ↔ a = b := by
  by_cases h : a = b
  · simp [Scalar.cmpi, Scalar.extui, IntOp.cmpi, BitVec.ofBool, h]
  · have h' : (a == b) = false := by simpa using h
    simp [Scalar.cmpi, Scalar.extui, IntOp.cmpi, BitVec.ofBool, h, h']

/-- A load from a two-dimensional buffer, read at one place. -/
theorem readAt_ix2 {κ sp N0 N1 e n0 n1} (v : View sig κ sp ⟨2, ![N0, N1]⟩ e) (f) (o0 o1 : ℕ)
    (h : ∀ a : Fin 2, (![o0, o1] : Fin 2 → ℕ) a + (![n0, n1] : Fin 2 → ℕ) a ≤ (![N0, N1] : Fin 2 → ℕ) a) (r : Fin n0) (k : Fin n1) (r' : Fin N0) (k' : Fin N1)
    (hr : r'.val = o0 + r.val) (hk : k'.val = o1 + k.val) :
    View.readAt (Elt Ideal) v (Rect.unit (s := ⟨2, ![N0, N1]⟩) ![o0, o1] ![n0, n1] h).toLoadRect f (ix2 r k) = v.read (Elt Ideal) f (ix2 r' k') := by
  refine congrArg (v.read (Elt Ideal) f) ?_
  funext a; apply Fin.ext; fin_cases a
  · simp [LoadRect.idx, hr]
  · simp [LoadRect.idx, hk]

/-- A one-element load of a vector reads the element at its offset. -/
theorem idx_unit1 {N : ℕ} (f : Fin 1 → ℕ) (h : ∀ a : Fin 1, f a + S1.size a ≤ (![N] : Fin 1 → ℕ) a) (hp) (n : Fin N) (hf : f 0 = n.val) :
    (Rect.unit (s := ⟨1, ![N]⟩) f S1.size h).toLoadRect.idx (Shape.Idx.first hp) = ix1 n := by
  funext a; apply Fin.ext; fin_cases a; simpa [LoadRect.idx, Shape.Idx.first] using hf

/-- The newest write of a list, read at a place that one axis tells apart from its rectangle. -/
theorem read_miss {κ sp s e} (v : View sig κ sp s e) (f) (off size : Fin s.rank → ℕ) (h) (w) (L : List (View.Piece (Elt Ideal) s e)) (y : s.Idx) (a : Fin s.rank)
    (hy : (y a).val < off a ∨ off a + size a ≤ (y a).val) :
    v.read (Elt Ideal) (v.writes (Elt Ideal) f (⟨Rect.unit off size h, w⟩ :: L)) y = v.read (Elt Ideal) (v.writes (Elt Ideal) f L) y :=
  View.read_writes_cons_miss_of_axis v f _ L y a (off a) (size a) rfl rfl rfl hy

/-- The newest write of a list to a two-dimensional buffer, read inside it. -/
theorem read_hit2 {κ sp N0 N1 e n0 n1} (v : View sig κ sp ⟨2, ![N0, N1]⟩ e) (f) (o0 o1 : ℕ) (h) (w) (L : List (View.Piece (Elt Ideal) ⟨2, ![N0, N1]⟩ e))
    (r : Fin n0) (k : Fin n1) (r' : Fin N0) (k' : Fin N1) (hr : r'.val = o0 + r.val) (hk : k'.val = o1 + k.val) :
    v.read (Elt Ideal) (v.writes (Elt Ideal) f (⟨Rect.unit (s := ⟨2, ![N0, N1]⟩) ![o0, o1] ![n0, n1] h, w⟩ :: L)) (ix2 r' k') = w (ix2 r k) := by
  refine View.read_writes_cons_hit_of_coords _ _ _ _ _ _ _ fun a => ?_
  fin_cases a <;> simp [Rect.unit, hr, hk]

/-! ## The codes of a row -/

/-- The hidden code of a row `x` at a column of the tile `w`. -/
def HC (x : Fin 4096 → EReal) (w : Vec Ideal S1x2x4096x256 .fp8e4m3) (sa s : EReal) (q : Fin 256) : EReal :=
  hq (dotS x (fun k => w (ix4 0 0 k q)) sa) (dotS x (fun k => w (ix4 0 1 k q)) sa) s

/-- The gradient codes of a row `x` with the gradient `y`, at a column of the tiles `w` and `w2`. -/
def DC (g : Fin 2) (x y : Fin 4096 → EReal) (w : Vec Ideal S1x2x4096x256 .fp8e4m3) (w2 : Vec Ideal S1x256x4096 .fp8e4m3) (sa sd s : EReal) (q : Fin 256) : EReal :=
  dq g (dotS x (fun k => w (ix4 0 0 k q)) sa) (dotS x (fun k => w (ix4 0 1 k q)) sa) (dotS y (fun k => w2 (ix3 0 q k)) sd) s

theorem pay53_at (s : EReal) (A : Vec Ideal S256x4096 .fp8e4m3) (w : Vec Ideal S1x1x4096x256 .fp8e4m3) (r q : Fin 256) :
    (k0_pay53 (F := Ideal) s A w (ix2 r q) : EReal) = dotS (fun k => A (ix2 r k)) (fun k => w (ix4 0 0 k q)) s := by
  pointwise [k0_pay53, dotS]

theorem pay54_at (s : EReal) (A : Vec Ideal S256x4096 .fp8e4m3) (w : Vec Ideal S1x1x4096x256 .fp8e4m3) (r q : Fin 256) :
    (k0_pay54 (F := Ideal) s A w (ix2 r q) : EReal) = dotS (fun k => A (ix2 r k)) (fun k => w (ix4 0 0 k q)) s := by
  pointwise [k0_pay54, dotS]

theorem pay55_at (s : EReal) (A : Vec Ideal S256x4096 .fp8e5m2) (w : Vec Ideal S1x256x4096 .fp8e4m3) (r q : Fin 256) :
    (k0_pay55 (F := Ideal) s A w (ix2 r q) : EReal) = dotS (fun k => A (ix2 r k)) (fun k => w (ix3 0 q k)) s := by
  pointwise [k0_pay55, dotS]

theorem pay58_at (v3 v39 : EReal) (A : Vec Ideal S256x4096 .fp8e4m3) (w w' : Vec Ideal S1x1x4096x256 .fp8e4m3) (r q : Fin 256) :
    (k0_pay58 (F := Ideal) v3 v39 A w w' (ix2 r q) : EReal)
      = hq (dotS (fun k => A (ix2 r k)) (fun k => w (ix4 0 0 k q)) v39) (dotS (fun k => A (ix2 r k)) (fun k => w' (ix4 0 0 k q)) v39) v3 := by
  rw [← pay53_at, ← pay54_at]
  pointwise [k0_pay58, k0_pay57, k0_pay56, hq, quant, sg]

theorem pay63_at (v5 : EReal) (a u dh : FVec Ideal S256x256 .f32) (r q : Fin 256) :
    (k0_pay63 (F := Ideal) v5 a u dh (logistic a) (ix2 r q) : EReal) = gq (a (ix2 r q)) (u (ix2 r q)) (dh (ix2 r q)) v5 := by
  pointwise [k0_pay63, k0_pay61, gq, quant, sg]

theorem pay64_at (v5 : EReal) (a dh : FVec Ideal S256x256 .f32) (r q : Fin 256) :
    (k0_pay64 (F := Ideal) v5 a dh (logistic a) (ix2 r q) : EReal) = uq (a (ix2 r q)) (dh (ix2 r q)) v5 := by
  pointwise [k0_pay64, k0_pay62, uq, quant, sg]

/-! ## The codes of a chunk of rows -/

section chunk
variable (arg6 : Memref sig .tc .vmem S768x4096 .fp8e4m3) (arg7 : Memref sig .tc .vmem S768x4096 .fp8e5m2) (arg8 : Memref sig .tc .vmem S1x2x4096x256 .fp8e4m3) (arg9 : Memref sig .tc .vmem S1x256x4096 .fp8e4m3)
  (c : Dev nD) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ)))
  (o : ℕ) (h6 : ∀ a : Fin 2, (![o, 0] : Fin 2 → ℕ) a + (![256, 4096] : Fin 2 → ℕ) a ≤ (![768, 4096] : Fin 2 → ℕ) a)
  (h80 : ∀ a, (![0, 0, 0, 0] : Fin 4 → ℕ) a + S1x1x4096x256.size a ≤ S1x2x4096x256.size a) (h81 : ∀ a, (![0, 1, 0, 0] : Fin 4 → ℕ) a + S1x1x4096x256.size a ≤ S1x2x4096x256.size a)
  (h9 : ∀ a, (![0, 0, 0] : Fin 3 → ℕ) a + S1x256x4096.size a ≤ S1x256x4096.size a)

theorem rd8_0 (k : Fin 4096) (q : Fin 256) : View.readAt (Elt Ideal) arg8.view (Rect.unit (s := S1x2x4096x256) ![0, 0, 0, 0] S1x1x4096x256.size h80).toLoadRect f8 (ix4 0 0 k q) = arg8.view.read (Elt Ideal) f8 (ix4 0 0 k q) := by
  refine congrArg (arg8.view.read (Elt Ideal) f8) ?_
  funext a; apply Fin.ext; fin_cases a <;> simp [LoadRect.idx]
theorem rd8_1 (k : Fin 4096) (q : Fin 256) : View.readAt (Elt Ideal) arg8.view (Rect.unit (s := S1x2x4096x256) ![0, 1, 0, 0] S1x1x4096x256.size h81).toLoadRect f8 (ix4 0 0 k q) = arg8.view.read (Elt Ideal) f8 (ix4 0 1 k q) := by
  refine congrArg (arg8.view.read (Elt Ideal) f8) ?_
  funext a; apply Fin.ext; fin_cases a <;> simp [LoadRect.idx]
theorem rd9 (q : Fin 256) (k : Fin 4096) : View.readAt (Elt Ideal) arg9.view (Rect.unit (s := S1x256x4096) ![0, 0, 0] S1x256x4096.size h9).toLoadRect f9 (ix3 0 q k) = arg9.view.read (Elt Ideal) f9 (ix3 0 q k) := by
  refine congrArg (arg9.view.read (Elt Ideal) f9) ?_
  funext a; apply Fin.ext; fin_cases a <;> simp [LoadRect.idx]

end chunk

section codes
variable (A : Vec Ideal S256x4096 .fp8e4m3) (B : Vec Ideal S256x4096 .fp8e5m2) (w0 w1 : Vec Ideal S1x1x4096x256 .fp8e4m3) (w2 : Vec Ideal S1x256x4096 .fp8e4m3)
  (r q : Fin 256) (x y : Fin 4096 → EReal) (W : Vec Ideal S1x2x4096x256 .fp8e4m3) (W2 : Vec Ideal S1x256x4096 .fp8e4m3)

theorem chunk_h (v3 v39 : EReal) (hA : ∀ k, (A (ix2 r k) : EReal) = x k) (h0 : ∀ k, w0 (ix4 0 0 k q) = W (ix4 0 0 k q)) (h1 : ∀ k, w1 (ix4 0 0 k q) = W (ix4 0 1 k q)) :
    (k0_pay58 (F := Ideal) v3 v39 A w0 w1 (ix2 r q) : EReal) = HC x W v39 v3 q := by
  rw [pay58_at]; unfold HC
  simp only [hA, h0, h1]

theorem chunk_g (v5 v39 v42 : EReal) (hA : ∀ k, (A (ix2 r k) : EReal) = x k) (hB : ∀ k, (B (ix2 r k) : EReal) = y k) (h0 : ∀ k, w0 (ix4 0 0 k q) = W (ix4 0 0 k q)) (h1 : ∀ k, w1 (ix4 0 0 k q) = W (ix4 0 1 k q))
    (h2 : ∀ k, w2 (ix3 0 q k) = W2 (ix3 0 q k)) :
    (k0_pay63 (F := Ideal) v5 (k0_pay53 v39 A w0) (k0_pay54 v39 A w1) (k0_pay55 v42 B w2) (k0_pay56 v39 A w0) (ix2 r q) : EReal) = DC 0 x y W W2 v39 v42 v5 q := by
  refine (pay63_at _ _ _ _ _ _).trans ?_
  rw [pay53_at, pay54_at, pay55_at]; unfold DC dq
  simp only [hA, hB, h0, h1, h2, if_true]

theorem chunk_u (v5 v39 v42 : EReal) (hA : ∀ k, (A (ix2 r k) : EReal) = x k) (hB : ∀ k, (B (ix2 r k) : EReal) = y k) (h0 : ∀ k, w0 (ix4 0 0 k q) = W (ix4 0 0 k q))
    (h2 : ∀ k, w2 (ix3 0 q k) = W2 (ix3 0 q k)) :
    (k0_pay64 (F := Ideal) v5 (k0_pay53 v39 A w0) (k0_pay55 v42 B w2) (k0_pay56 v39 A w0) (ix2 r q) : EReal) = DC 1 x y W W2 v39 v42 v5 q := by
  refine (pay64_at _ _ _ _ _).trans ?_
  rw [pay53_at, pay55_at]; unfold DC dq
  simp only [hA, hB, h0, h2]
  exact (if_neg (by decide)).symm

end codes

/-! ## Buffers whose contents are constrained -/

/-- Row `r` of a scratch buffer of rows. -/
def row16 (y : Vec Ideal S768x4096 .fp8e4m3) (r : Fin 720) (k : Fin 4096) : EReal := y (ix2 ⟨r.val, by omega⟩ k)
def row17 (y : Vec Ideal S768x4096 .fp8e5m2) (r : Fin 720) (k : Fin 4096) : EReal := y (ix2 ⟨r.val, by omega⟩ k)

/-- For the chunk counts 1 to 3, the hidden codes of the counted chunks' rows are `G`. -/
def HOk (n : BitVec 32) (G : Fin 720 → Fin 256 → EReal) (y : Vec Ideal S1x720x256 .fp8e4m3) : Prop :=
  ∀ k : ℕ, 1 ≤ k → k ≤ 3 → n = BitVec.ofNat 32 k → ∀ (r : Fin 720) (q : Fin 256), r.val < 256 * k → (y (ix3 0 r q) : EReal) = G r q
/-- The same for the two gradient codes. -/
def DOk (n : BitVec 32) (G : Fin 2 → Fin 720 → Fin 256 → EReal) (y : Vec Ideal S1x2x720x256 .fp8e5m2) : Prop :=
  ∀ k : ℕ, 1 ≤ k → k ≤ 3 → n = BitVec.ofNat 32 k → ∀ (g : Fin 2) (r : Fin 720) (q : Fin 256), r.val < 256 * k → (y (ix4 0 g r q) : EReal) = G g r q

/-- A scale of an expert: the common factor times the expert's. -/
def SC (v : EReal) (s : Vec Ideal S8 .f32) (e : Fin 8) : EReal := v * (s (ix1 e) : EReal)
/-- The hidden codes from the rows in the scratch. -/
def HG (v2 v3 : EReal) (s4 : Vec Ideal S8 .f32) (y8 : Vec Ideal S1x2x4096x256 .fp8e4m3) (y16 : Vec Ideal S768x4096 .fp8e4m3) (e : Fin 8) (r : Fin 720) (q : Fin 256) : EReal :=
  HC (row16 y16 r) y8 (SC v2 s4 e) v3 q
/-- The gradient codes from the rows in the scratch. -/
def DG (v2 v4 v5 : EReal) (s4 s5 : Vec Ideal S8 .f32) (y8 : Vec Ideal S1x2x4096x256 .fp8e4m3) (y9 : Vec Ideal S1x256x4096 .fp8e4m3) (y16 : Vec Ideal S768x4096 .fp8e4m3) (y17 : Vec Ideal S768x4096 .fp8e5m2) (e : Fin 8)
    (g : Fin 2) (r : Fin 720) (q : Fin 256) : EReal :=
  DC g (row16 y16 r) (row17 y17 r) y8 y9 (SC v2 s4 e) (SC v4 s5 e) v5 q

/-- The hidden codes' buffer at contents with the codes in the counted chunks' rows. -/
def HBuf (c : Dev nD) (arg10 : Memref sig .tc .vmem S1x720x256 .fp8e4m3) (n : BitVec 32) (G : Fin 720 → Fin 256 → EReal) : sProp 𝕄 :=
  iprop(∃ f, ⌜HOk n G (arg10.view.read (Elt Ideal) f)⌝ ∗ (arg10.view.loc (c : Thread nD τ) ↦[arg10.view.set]{fullShare} f))
/-- The gradient codes' buffer likewise. -/
def DBuf (c : Dev nD) (arg11 : Memref sig .tc .vmem S1x2x720x256 .fp8e5m2) (n : BitVec 32) (G : Fin 2 → Fin 720 → Fin 256 → EReal) : sProp 𝕄 :=
  iprop(∃ f, ⌜DOk n G (arg11.view.read (Elt Ideal) f)⌝ ∗ (arg11.view.loc (c : Thread nD τ) ↦[arg11.view.set]{fullShare} f))

/-- What the hidden codes' buffer is to hold: `G` in the rows below the count `n`, if that is at most 720. -/
def RowsH (n : BitVec 32) (G : Fin 720 → Fin 256 → EReal) (y : Vec Ideal S1x720x256 .fp8e4m3) : Prop :=
  n.toNat ≤ 720 → ∀ (r : Fin 720) (q : Fin 256), r.val < n.toNat → (y (ix3 0 r q) : EReal) = G r q
/-- The same for the gradient codes. -/
def RowsD (n : BitVec 32) (G : Fin 2 → Fin 720 → Fin 256 → EReal) (y : Vec Ideal S1x2x720x256 .fp8e5m2) : Prop :=
  n.toNat ≤ 720 → ∀ (g : Fin 2) (r : Fin 720) (q : Fin 256), r.val < n.toNat → (y (ix4 0 g r q) : EReal) = G g r q

theorem rowsH_of (n N : BitVec 32) (hn : n = chunks N) (G G') (y) (h : HOk n G y) (hG : ∀ r q, G r q = G' r q) : RowsH N G' y := by
  intro hN r q hr
  rw [← hG]
  exact h ((N.toNat + 255) / 256) (by omega) (by omega) (by rw [hn, chunks_eq N hN]) r q (by omega)
theorem rowsD_of (n N : BitVec 32) (hn : n = chunks N) (G G') (y) (h : DOk n G y) (hG : ∀ g r q, G g r q = G' g r q) : RowsD N G' y := by
  intro hN g r q hr
  rw [← hG]
  exact h ((N.toNat + 255) / 256) (by omega) (by omega) (by rw [hn, chunks_eq N hN]) g r q (by omega)

/-- The scratch holds the expert's blocks of codes in its first 720 rows. -/
def ScrOK (x6 : Vec Ideal S1x720x4096 .fp8e4m3) (x7 : Vec Ideal S1x720x4096 .fp8e5m2) (y16 : Vec Ideal S768x4096 .fp8e4m3) (y17 : Vec Ideal S768x4096 .fp8e5m2) : Prop :=
  (∀ r, row16 y16 r = fun k => x6 (ix3 0 r k)) ∧ (∀ r, row17 y17 r = fun k => x7 (ix3 0 r k))

/-- The hidden codes from the expert's blocks. -/
def HX (v2 v3 : EReal) (s4 : Vec Ideal S8 .f32) (x6 : Vec Ideal S1x720x4096 .fp8e4m3) (x8 : Vec Ideal S1x2x4096x256 .fp8e4m3) (e : Fin 8) (r : Fin 720) (q : Fin 256) : EReal :=
  HC (fun k => x6 (ix3 0 r k)) x8 (SC v2 s4 e) v3 q
/-- The gradient codes from the expert's blocks. -/
def DX (v2 v4 v5 : EReal) (s4 s5 : Vec Ideal S8 .f32) (x6 : Vec Ideal S1x720x4096 .fp8e4m3) (x7 : Vec Ideal S1x720x4096 .fp8e5m2) (x8 : Vec Ideal S1x2x4096x256 .fp8e4m3) (x9 : Vec Ideal S1x256x4096 .fp8e4m3) (e : Fin 8)
    (g : Fin 2) (r : Fin 720) (q : Fin 256) : EReal :=
  DC g (fun k => x6 (ix3 0 r k)) (fun k => x7 (ix3 0 r k)) x8 x9 (SC v2 s4 e) (SC v4 s5 e) v5 q

/-- The scratch rows after the copy at an expert's first tile, whatever was stored before. -/
theorem scr16 (arg6 : Memref sig .tc .vmem S1x720x4096 .fp8e4m3) (arg16 : Memref sig .tc .vmem S768x4096 .fp8e4m3) (c : Dev nD) (p q : Prop) [Decidable p] [Decidable q] (hqp : q → p)
    (f6 : Buf (Elt Ideal) (arg6.view.loc (c : Thread nD τ))) (f16 : Buf (Elt Ideal) (arg16.view.loc (c : Thread nD τ))) (x6 : Vec Ideal S1x720x4096 .fp8e4m3) (x16 : Vec Ideal S768x4096 .fp8e4m3)
    (hs : arg6.view.read (Elt Ideal) f6 = x6) (hd : arg16.view.read (Elt Ideal) f16 = x16) (L : List (View.Piece (Elt Ideal) S768x4096 .fp8e4m3))
    (hl : ¬p → ∀ r, row16 x16 r = fun k => x6 (ix3 0 r k)) (h0) (h1) (r : Fin 720) :
    row16 (arg16.view.read (Elt Ideal) (if hc : p then
        arg16.view.writes (Elt Ideal) (if hc : q then arg16.view.writes (Elt Ideal) f16 L else f16)
          [⟨Rect.unit (s := S768x4096) ![0, 0] S720x4096.size h0, k0_pay211 (View.readAt (Elt Ideal) arg6.view (Rect.unit (s := S1x720x4096) ![0, 0, 0] S1x720x4096.size h1).toLoadRect f6)⟩]
      else if hc : q then arg16.view.writes (Elt Ideal) f16 L else f16)) r = fun k => x6 (ix3 0 r k) := by
  funext k
  split
  · unfold row16
    refine (read_hit2 _ _ 0 0 _ _ _ r k _ _ (by simp) (by simp)).trans ?_
    have e1 : ∀ w : Vec Ideal S1x720x4096 .fp8e4m3, (k0_pay211 (F := Ideal) w (ix2 r k) : EReal) = w (ix3 0 r k) := by intro w; pointwise [k0_pay211]
    refine (e1 _).trans ?_
    rw [← hs]
    refine congrArg (arg6.view.read (Elt Ideal) f6) ?_
    funext a; apply Fin.ext; fin_cases a <;> simp [LoadRect.idx]
  · rename_i hp
    rw [dif_neg (fun h => hp (hqp h)), hd]
    exact congrFun (hl hp r) k

/-- The scratch rows after the copy at an expert's first tile, whatever was stored before. -/
theorem scr17 (arg7 : Memref sig .tc .vmem S1x720x4096 .fp8e5m2) (arg17 : Memref sig .tc .vmem S768x4096 .fp8e5m2) (c : Dev nD) (p q : Prop) [Decidable p] [Decidable q] (hqp : q → p)
    (f7 : Buf (Elt Ideal) (arg7.view.loc (c : Thread nD τ))) (f17 : Buf (Elt Ideal) (arg17.view.loc (c : Thread nD τ))) (x7 : Vec Ideal S1x720x4096 .fp8e5m2) (x17 : Vec Ideal S768x4096 .fp8e5m2)
    (hs : arg7.view.read (Elt Ideal) f7 = x7) (hd : arg17.view.read (Elt Ideal) f17 = x17) (L : List (View.Piece (Elt Ideal) S768x4096 .fp8e5m2))
    (hl : ¬p → ∀ r, row17 x17 r = fun k => x7 (ix3 0 r k)) (h0) (h1) (r : Fin 720) :
    row17 (arg17.view.read (Elt Ideal) (if hc : p then
        arg17.view.writes (Elt Ideal) (if hc : q then arg17.view.writes (Elt Ideal) f17 L else f17)
          [⟨Rect.unit (s := S768x4096) ![0, 0] S720x4096.size h0, k0_pay212 (View.readAt (Elt Ideal) arg7.view (Rect.unit (s := S1x720x4096) ![0, 0, 0] S1x720x4096.size h1).toLoadRect f7)⟩]
      else if hc : q then arg17.view.writes (Elt Ideal) f17 L else f17)) r = fun k => x7 (ix3 0 r k) := by
  funext k
  split
  · unfold row17
    refine (read_hit2 _ _ 0 0 _ _ _ r k _ _ (by simp) (by simp)).trans ?_
    have e1 : ∀ w : Vec Ideal S1x720x4096 .fp8e5m2, (k0_pay212 (F := Ideal) w (ix2 r k) : EReal) = w (ix3 0 r k) := by intro w; pointwise [k0_pay212]
    refine (e1 _).trans ?_
    rw [← hs]
    refine congrArg (arg7.view.read (Elt Ideal) f7) ?_
    funext a; apply Fin.ext; fin_cases a <;> simp [LoadRect.idx]
  · rename_i hp
    rw [dif_neg (fun h => hp (hqp h)), hd]
    exact congrFun (hl hp r) k

theorem HOk_of (k : ℕ) (hk : k ≤ 3) (n : BitVec 32) (hn : n = BitVec.ofNat 32 k) (G) (y) (h : ∀ (r : Fin 720) (q : Fin 256), r.val < 256 * k → (y (ix3 0 r q) : EReal) = G r q) : HOk n G y := by
  intro k' h1 h3 e r q hr
  have : k = k' := by
    have := congrArg BitVec.toNat (hn.symm.trans e); simp at this; omega
  exact h r q (by omega)
theorem DOk_of (k : ℕ) (hk : k ≤ 3) (n : BitVec 32) (hn : n = BitVec.ofNat 32 k) (G) (y) (h : ∀ (g : Fin 2) (r : Fin 720) (q : Fin 256), r.val < 256 * k → (y (ix4 0 g r q) : EReal) = G g r q) : DOk n G y := by
  intro k' h1 h3 e g r q hr
  have : k = k' := by
    have := congrArg BitVec.toNat (hn.symm.trans e); simp at this; omega
  exact h g r q (by omega)
theorem HOk_none (n : BitVec 32) (h1 : n ≠ 1#32) (h2 : n ≠ 2#32) (h3 : n ≠ 3#32) (G) (y) : HOk n G y := by
  intro k a b e; exfalso
  interval_cases k
  · exact h1 e
  · exact h2 e
  · exact h3 e
theorem DOk_none (n : BitVec 32) (h1 : n ≠ 1#32) (h2 : n ≠ 2#32) (h3 : n ≠ 3#32) (G) (y) : DOk n G y := by
  intro k a b e; exfalso
  interval_cases k
  · exact h1 e
  · exact h2 e
  · exact h3 e

end Cert.ExpertsIdeal.Gen

end
-- ==== Proof.ExpertsIdealPart1.lean ====
/- What the part of the experts body that computes does to the buffers, and the codes it leaves, with 1 row chunk. -/
module

public import proofs.«01_k».proof.Proof.ExpertsIdealPure

@[expose] public section

set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Experts.Spec

local notation "𝕄" => MT nD τ sig Unit (Elt Ideal) ℕ (Pipeline.UD sig nD τ) ℕ

set_option maxHeartbeats 6400000 in
theorem part38_1 (c : Dev nD) (t : Fin cfg0.N) (ee : Fin 8) (hee : ee.val = (grid0.coords t 0).val) (arg2 : Memref sig .tc .smem S8 .i32) (harg2 : arg2.IsWhole) (arg3 : Memref sig .tc .smem S4 .f32) (harg3 : arg3.IsWhole) (arg4 : Memref sig .tc .smem S8 .f32) (harg4 : arg4.IsWhole) (arg5 : Memref sig .tc .smem S8 .f32) (harg5 : arg5.IsWhole) (arg6 : Memref sig .tc .vmem S1x720x4096 .fp8e4m3) (harg6 : arg6.IsWhole) (arg7 : Memref sig .tc .vmem S1x720x4096 .fp8e5m2) (harg7 : arg7.IsWhole) (arg8 : Memref sig .tc .vmem S1x2x4096x256 .fp8e4m3) (harg8 : arg8.IsWhole) (arg9 : Memref sig .tc .vmem S1x256x4096 .fp8e4m3) (harg9 : arg9.IsWhole) (arg10 : Memref sig .tc .vmem S1x720x256 .fp8e4m3) (harg10 : arg10.IsWhole) (arg11 : Memref sig .tc .vmem S1x2x720x256 .fp8e5m2) (harg11 : arg11.IsWhole) (arg13 : Memref sig .tc .vmem S1x256x4096 .bf16) (harg13 : arg13.IsWhole) (arg14 : Memref sig .tc .smem S1x1 .f32) (harg14 : arg14.IsWhole) (arg15 : Memref sig .tc .smem S1x1 .f32) (harg15 : arg15.IsWhole) (arg16 : Memref sig .tc .vmem S768x4096 .fp8e4m3) (harg16 : arg16.IsWhole) (arg17 : Memref sig .tc .vmem S768x4096 .fp8e5m2) (harg17 : arg17.IsWhole) (arg18 : Memref sig .tc .vmem S768x256 .fp8e4m3) (harg18 : arg18.IsWhole) (arg19 : Memref sig .tc .vmem S768x512 .fp8e5m2) (harg19 : arg19.IsWhole) (arg21 : Memref sig .tc .vmem S8x128 .f32) (harg21 : arg21.IsWhole) (arg22 : Memref sig .tc .vmem S8x128 .f32) (harg22 : arg22.IsWhole) (arg0 v1 : BitVec 32) (v2 v3 v4 v5 : Elt Ideal .f32) (v6 v20 : BitVec 32) (v34 : BitVec 1) (hc1 : (Scalar.cmpi .ne (Scalar.extui (Scalar.cmpi .eq (Scalar.select v34 (Scalar.subi v20 1#32) v20) 1#32)) 0#32 = 1#1)) (hc2 : ¬(Scalar.cmpi .ne (Scalar.extui (Scalar.cmpi .eq (Scalar.select v34 (Scalar.subi v20 1#32) v20) 2#32)) 0#32 = 1#1)) (hc3 : ¬(Scalar.cmpi .ne (Scalar.extui (Scalar.cmpi .eq (Scalar.select v34 (Scalar.subi v20 1#32) v20) 3#32)) 0#32 = 1#1)) (hc0 : ¬(Scalar.cmpi .ne (Scalar.extui (Scalar.cmpi .eq (Scalar.select v34 (Scalar.subi v20 1#32) v20) 0#32)) 0#32 = 1#1)) (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f16 : Buf (Elt Ideal) (arg16.view.loc (c : Thread nD τ))) (f17 : Buf (Elt Ideal) (arg17.view.loc (c : Thread nD τ))) (f10 : Buf (Elt Ideal) (arg10.view.loc (c : Thread nD τ))) (f11 : Buf (Elt Ideal) (arg11.view.loc (c : Thread nD τ))) (f13 : Buf (Elt Ideal) (arg13.view.loc (c : Thread nD τ))) (f18 : Buf (Elt Ideal) (arg18.view.loc (c : Thread nD τ))) (f19 : Buf (Elt Ideal) (arg19.view.loc (c : Thread nD τ))) (f21 : Buf (Elt Ideal) (arg21.view.loc (c : Thread nD τ))) (f22 : Buf (Elt Ideal) (arg22.view.loc (c : Thread nD τ))) (e0 : HbBuf0 (F := Ideal) c (wtile0_0 (Ring.sl 2 t.val) 0)) (e1 : HbBuf0 (F := Ideal) c (wtile0_0 (Ring.sl 2 t.val) 1)) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg16.view.loc (c : Thread nD τ) ↦[arg16.view.set]{fullShare} f16) ∗ (arg17.view.loc (c : Thread nD τ) ↦[arg17.view.set]{fullShare} f17) ∗ (arg10.view.loc (c : Thread nD τ) ↦[arg10.view.set]{fullShare} f10) ∗ (arg11.view.loc (c : Thread nD τ) ↦[arg11.view.set]{fullShare} f11) ∗ (arg13.view.loc (c : Thread nD τ) ↦[arg13.view.set]{fullShare} f13) ∗ (arg18.view.loc (c : Thread nD τ) ↦[arg18.view.set]{fullShare} f18) ∗ (arg19.view.loc (c : Thread nD τ) ↦[arg19.view.set]{fullShare} f19) ∗ (arg21.view.loc (c : Thread nD τ) ↦[arg21.view.set]{fullShare} f21) ∗ (arg22.view.loc (c : Thread nD τ) ↦[arg22.view.set]{fullShare} f22) ∗ wtileP0_0 c (Ring.sl 2 t.val) 0 e0 ∗ wtileP0_0 c (Ring.sl 2 t.val) 1 e1) : sProp 𝕄)
    ⊢ wp frame (wpE (defs₀ (F := Ideal)) Variants.none c none) Set.univ (k0_part38 (grid0.coords t) arg2 harg2 arg3 harg3 arg4 harg4 arg5 harg5 arg6 harg6 arg7 harg7 arg8 harg8 arg9 harg9 arg10 harg10 arg11 harg11 (Memref.whole main_v13_2) (Memref.isWhole_whole _) arg13 harg13 arg14 harg14 arg15 harg15 arg16 harg16 arg17 harg17 arg18 harg18 arg19 harg19 scM0_4 (Memref.isWhole_whole _) arg21 harg21 arg22 harg22 cc0_scratch7 arg0 v1 v2 v3 v4 v5 v6 v20 v34)
        (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg16.view.loc (c : Thread nD τ) ↦[arg16.view.set]{fullShare} f16) ∗ (arg17.view.loc (c : Thread nD τ) ↦[arg17.view.set]{fullShare} f17) ∗ HBuf c arg10 (Scalar.select v34 (Scalar.subi v20 1#32) v20) (HG v2 v3 (arg4.view.read (Elt Ideal) f4) (arg8.view.read (Elt Ideal) f8) (arg16.view.read (Elt Ideal) f16) ee) ∗ DBuf c arg11 (Scalar.select v34 (Scalar.subi v20 1#32) v20) (DG v2 v4 v5 (arg4.view.read (Elt Ideal) f4) (arg5.view.read (Elt Ideal) f5) (arg8.view.read (Elt Ideal) f8) (arg9.view.read (Elt Ideal) f9) (arg16.view.read (Elt Ideal) f16) (arg17.view.read (Elt Ideal) f17) ee) ∗ (∃ f, (arg13.view.loc (c : Thread nD τ) ↦[arg13.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg21.view.loc (c : Thread nD τ) ↦[arg21.view.set]{fullShare} f)) ∗ (∃ f, (arg22.view.loc (c : Thread nD τ) ↦[arg22.view.set]{fullShare} f)) ∗ (∃ e, wtileP0_0 c (Ring.sl 2 t.val) 0 e) ∗ (∃ e, wtileP0_0 c (Ring.sl 2 t.val) 1 e))) := by
  haveI : Fact ((Scalar.cmpi .ne (Scalar.extui (Scalar.cmpi .eq (Scalar.select v34 (Scalar.subi v20 1#32) v20) 1#32)) 0#32 = 1#1)) := ⟨hc1⟩
  haveI : Fact (¬(Scalar.cmpi .ne (Scalar.extui (Scalar.cmpi .eq (Scalar.select v34 (Scalar.subi v20 1#32) v20) 2#32)) 0#32 = 1#1)) := ⟨hc2⟩
  haveI : Fact (¬(Scalar.cmpi .ne (Scalar.extui (Scalar.cmpi .eq (Scalar.select v34 (Scalar.subi v20 1#32) v20) 3#32)) 0#32 = 1#1)) := ⟨hc3⟩
  haveI : Fact (¬(Scalar.cmpi .ne (Scalar.extui (Scalar.cmpi .eq (Scalar.select v34 (Scalar.subi v20 1#32) v20) 0#32)) 0#32 = 1#1)) := ⟨hc0⟩
  simp only [k0_part38_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold k0_part38_skel
  iintro ⟨H2, H3, H4, H5, H6, H7, H8, H9, H16, H17, H10, H11, H13, H18, H19, H21, H22, T0, T1⟩
  sl_exec (disch := first | sl_exact hc1 | sl_exact hc2 | sl_exact hc3 | sl_exact hc0)
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H16]; · iexact H16
  isplitl [H17]; · iexact H17
  isplitl [H10]
  · unfold HBuf; iexists _; isplitr; swap; · iexact H10
    ipureintro
    refine HOk_of 1 (by norm_num) _ ((chunkIs _ _).mp hc1) _ _ fun r q hr => ?_
    have hoff : k0_off5 (grid0.coords t) 0 = ee.val := by
      have : (grid0.coords t 0).val < 8 := (grid0.coords t 0).isLt
      simp [k0_off5, Scalar.indexCast, ← hee]; omega
    have hs4 : (k0_pay213 (F := Ideal) v2 (part38_1.sl.r c t arg4 f4) : EReal) = SC v2 (arg4.view.read (Elt Ideal) f4) ee := by
      refine congrArg (fun z : EReal => v2 * z) ?_
      unfold part38_1.sl.r
      exact congrArg (arg4.view.read (Elt Ideal) f4) (idx_unit1 _ _ _ ee hoff)
    refine (read_miss _ _ _ _ _ _ _ _ 1 (.inl (by simpa using hr))).trans ?_
    rw [View.read_writes_cons_hit_of_coords (x := ix3 0 ⟨r.val, by omega⟩ q)]
    swap
    · intro a; fin_cases a <;> simp [Rect.unit]
    have e1 : k0_pay19 (F := Ideal) (part38_1.sl.v186 c t arg4 arg8 arg16 arg18 v2 v3 f4 f8 f16) (ix3 0 ⟨r.val, by omega⟩ q) = part38_1.sl.v186 c t arg4 arg8 arg16 arg18 v2 v3 f4 f8 f16 (ix2 ⟨r.val, by omega⟩ q) := by
      pointwise [k0_pay19]
    rw [e1]; clear e1
    unfold part38_1.sl.v186 HG
    rw [← hs4]
    refine (readAt_ix2 _ _ 0 0 _ _ _ ⟨r.val, by omega⟩ q (by simp) (by simp)).trans ?_
    unfold part38_1.sl.H18_1
    refine (read_hit2 _ _ 0 0 _ _ _ ⟨r.val - 0, by omega⟩ q _ _ (by simp; try omega) (by simp)).trans ?_
    exact chunk_h _ _ _ _ _ _ _ _ _ (fun k => readAt_ix2 arg16.view f16 0 0 _ _ k ⟨r.val, by omega⟩ k (by simp; try omega) (by simp)) (fun k => rd8_0 arg8 c f8 _ k q) (fun k => rd8_1 arg8 c f8 _ k q)
  isplitl [H11]
  · unfold DBuf; iexists _; isplitr; swap; · iexact H11
    ipureintro
    refine DOk_of 1 (by norm_num) _ ((chunkIs _ _).mp hc1) _ _ fun g r q hr => ?_
    have hoff : k0_off5 (grid0.coords t) 0 = ee.val := by
      have : (grid0.coords t 0).val < 8 := (grid0.coords t 0).isLt
      simp [k0_off5, Scalar.indexCast, ← hee]; omega
    have hs4 : (k0_pay213 (F := Ideal) v2 (part38_1.sl.r c t arg4 f4) : EReal) = SC v2 (arg4.view.read (Elt Ideal) f4) ee := by
      refine congrArg (fun z : EReal => v2 * z) ?_
      unfold part38_1.sl.r
      exact congrArg (arg4.view.read (Elt Ideal) f4) (idx_unit1 _ _ _ ee hoff)
    have hs5 : (k0_pay214 (F := Ideal) v4 (part38_1.sl.r_1 c t arg5 f5) : EReal) = SC v4 (arg5.view.read (Elt Ideal) f5) ee := by
      refine congrArg (fun z : EReal => v4 * z) ?_
      unfold part38_1.sl.r_1
      exact congrArg (arg5.view.read (Elt Ideal) f5) (idx_unit1 _ _ _ ee hoff)
    refine (read_miss _ _ _ _ _ _ _ _ 2 (.inl (by simpa using hr))).trans ?_
    rcases (show g = 0 ∨ g = 1 by omega) with rfl | rfl
    · refine (read_miss _ _ _ _ _ _ _ _ 1 (.inl (by simp))).trans ?_
      rw [View.read_writes_cons_hit_of_coords (x := ix4 0 0 ⟨r.val, by omega⟩ q)]
      swap
      · intro a; fin_cases a <;> simp [Rect.unit]
      have e1 : k0_pay20 (F := Ideal) (part38_1.sl.v190 c t arg4 arg5 arg8 arg9 arg16 arg17 arg19 v2 v4 v5 f4 f5 f8 f9 f16 f17) (ix4 0 0 ⟨r.val, by omega⟩ q) = part38_1.sl.v190 c t arg4 arg5 arg8 arg9 arg16 arg17 arg19 v2 v4 v5 f4 f5 f8 f9 f16 f17 (ix2 ⟨r.val, by omega⟩ q) := by
        pointwise [k0_pay20]
      rw [e1]; clear e1
      unfold part38_1.sl.v190 DG
      rw [← hs4, ← hs5]
      unfold View.readCov
      refine (readAt_ix2 _ _ 0 0 _ _ _ ⟨r.val, by omega⟩ ⟨q.val, by omega⟩ (by simp) (by simp)).trans ?_
      unfold part38_1.sl.H19_2
      refine (read_miss _ _ _ _ _ _ _ _ 1 (.inl (by simp))).trans ?_
      refine (read_hit2 _ _ 0 0 _ _ _ ⟨r.val - 0, by omega⟩ q _ _ (by simp; try omega) (by simp)).trans ?_
      exact chunk_g _ _ _ _ _ _ _ _ _ _ _ _ _ _ (fun k => readAt_ix2 arg16.view f16 0 0 _ _ k ⟨r.val, by omega⟩ k (by simp; try omega) (by simp)) (fun k => readAt_ix2 arg17.view f17 0 0 _ _ k ⟨r.val, by omega⟩ k (by simp; try omega) (by simp)) (fun k => rd8_0 arg8 c f8 _ k q) (fun k => rd8_1 arg8 c f8 _ k q) (fun k => rd9 arg9 c f9 _ q k)
    · rw [View.read_writes_cons_hit_of_coords (x := ix4 0 0 ⟨r.val, by omega⟩ q)]
      swap
      · intro a; fin_cases a <;> simp [Rect.unit]
      have e1 : k0_pay21 (F := Ideal) (part38_1.sl.v194 c t arg4 arg5 arg8 arg9 arg16 arg17 arg19 v2 v4 v5 f4 f5 f8 f9 f16 f17) (ix4 0 0 ⟨r.val, by omega⟩ q) = part38_1.sl.v194 c t arg4 arg5 arg8 arg9 arg16 arg17 arg19 v2 v4 v5 f4 f5 f8 f9 f16 f17 (ix2 ⟨r.val, by omega⟩ q) := by
        pointwise [k0_pay21]
      rw [e1]; clear e1
      unfold part38_1.sl.v194 DG
      rw [← hs4, ← hs5]
      unfold View.readCov
      refine (readAt_ix2 _ _ 0 256 _ _ _ ⟨r.val, by omega⟩ ⟨256 + q.val, by omega⟩ (by simp) (by simp)).trans ?_
      unfold part38_1.sl.H19_2
      refine (read_hit2 _ _ 0 256 _ _ _ ⟨r.val - 0, by omega⟩ q _ _ (by simp; try omega) (by simp)).trans ?_
      exact chunk_u _ _ _ _ _ _ _ _ _ _ _ _ _ (fun k => readAt_ix2 arg16.view f16 0 0 _ _ k ⟨r.val, by omega⟩ k (by simp; try omega) (by simp)) (fun k => readAt_ix2 arg17.view f17 0 0 _ _ k ⟨r.val, by omega⟩ k (by simp; try omega) (by simp)) (fun k => rd8_0 arg8 c f8 _ k q) (fun k => rd9 arg9 c f9 _ q k)
  isplitl [H13]; · iexists _; iexact H13
  isplitl [H18]; · iexists _; iexact H18
  isplitl [H19]; · iexists _; iexact H19
  isplitl [H21]; · iexists _; iexact H21
  isplitl [H22]; · iexists _; iexact H22
  isplitl [T0]; · iexists _; iexact T0
  iexists _; iexact T1

end Cert.ExpertsIdeal.Gen

end
-- ==== Proof.ExpertsIdealPart2.lean ====
/- What the part of the experts body that computes does to the buffers, and the codes it leaves, with 2 row chunks. -/
module

public import proofs.«01_k».proof.Proof.ExpertsIdealPure

@[expose] public section

set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Experts.Spec

local notation "𝕄" => MT nD τ sig Unit (Elt Ideal) ℕ (Pipeline.UD sig nD τ) ℕ

set_option maxHeartbeats 6400000 in
theorem part38_2 (c : Dev nD) (t : Fin cfg0.N) (ee : Fin 8) (hee : ee.val = (grid0.coords t 0).val) (arg2 : Memref sig .tc .smem S8 .i32) (harg2 : arg2.IsWhole) (arg3 : Memref sig .tc .smem S4 .f32) (harg3 : arg3.IsWhole) (arg4 : Memref sig .tc .smem S8 .f32) (harg4 : arg4.IsWhole) (arg5 : Memref sig .tc .smem S8 .f32) (harg5 : arg5.IsWhole) (arg6 : Memref sig .tc .vmem S1x720x4096 .fp8e4m3) (harg6 : arg6.IsWhole) (arg7 : Memref sig .tc .vmem S1x720x4096 .fp8e5m2) (harg7 : arg7.IsWhole) (arg8 : Memref sig .tc .vmem S1x2x4096x256 .fp8e4m3) (harg8 : arg8.IsWhole) (arg9 : Memref sig .tc .vmem S1x256x4096 .fp8e4m3) (harg9 : arg9.IsWhole) (arg10 : Memref sig .tc .vmem S1x720x256 .fp8e4m3) (harg10 : arg10.IsWhole) (arg11 : Memref sig .tc .vmem S1x2x720x256 .fp8e5m2) (harg11 : arg11.IsWhole) (arg13 : Memref sig .tc .vmem S1x256x4096 .bf16) (harg13 : arg13.IsWhole) (arg14 : Memref sig .tc .smem S1x1 .f32) (harg14 : arg14.IsWhole) (arg15 : Memref sig .tc .smem S1x1 .f32) (harg15 : arg15.IsWhole) (arg16 : Memref sig .tc .vmem S768x4096 .fp8e4m3) (harg16 : arg16.IsWhole) (arg17 : Memref sig .tc .vmem S768x4096 .fp8e5m2) (harg17 : arg17.IsWhole) (arg18 : Memref sig .tc .vmem S768x256 .fp8e4m3) (harg18 : arg18.IsWhole) (arg19 : Memref sig .tc .vmem S768x512 .fp8e5m2) (harg19 : arg19.IsWhole) (arg21 : Memref sig .tc .vmem S8x128 .f32) (harg21 : arg21.IsWhole) (arg22 : Memref sig .tc .vmem S8x128 .f32) (harg22 : arg22.IsWhole) (arg0 v1 : BitVec 32) (v2 v3 v4 v5 : Elt Ideal .f32) (v6 v20 : BitVec 32) (v34 : BitVec 1) (hc1 : ¬(Scalar.cmpi .ne (Scalar.extui (Scalar.cmpi .eq (Scalar.select v34 (Scalar.subi v20 1#32) v20) 1#32)) 0#32 = 1#1)) (hc2 : (Scalar.cmpi .ne (Scalar.extui (Scalar.cmpi .eq (Scalar.select v34 (Scalar.subi v20 1#32) v20) 2#32)) 0#32 = 1#1)) (hc3 : ¬(Scalar.cmpi .ne (Scalar.extui (Scalar.cmpi .eq (Scalar.select v34 (Scalar.subi v20 1#32) v20) 3#32)) 0#32 = 1#1)) (hc0 : ¬(Scalar.cmpi .ne (Scalar.extui (Scalar.cmpi .eq (Scalar.select v34 (Scalar.subi v20 1#32) v20) 0#32)) 0#32 = 1#1)) (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f16 : Buf (Elt Ideal) (arg16.view.loc (c : Thread nD τ))) (f17 : Buf (Elt Ideal) (arg17.view.loc (c : Thread nD τ))) (f10 : Buf (Elt Ideal) (arg10.view.loc (c : Thread nD τ))) (f11 : Buf (Elt Ideal) (arg11.view.loc (c : Thread nD τ))) (f13 : Buf (Elt Ideal) (arg13.view.loc (c : Thread nD τ))) (f18 : Buf (Elt Ideal) (arg18.view.loc (c : Thread nD τ))) (f19 : Buf (Elt Ideal) (arg19.view.loc (c : Thread nD τ))) (f21 : Buf (Elt Ideal) (arg21.view.loc (c : Thread nD τ))) (f22 : Buf (Elt Ideal) (arg22.view.loc (c : Thread nD τ))) (e0 : HbBuf0 (F := Ideal) c (wtile0_0 (Ring.sl 2 t.val) 0)) (e1 : HbBuf0 (F := Ideal) c (wtile0_0 (Ring.sl 2 t.val) 1)) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg16.view.loc (c : Thread nD τ) ↦[arg16.view.set]{fullShare} f16) ∗ (arg17.view.loc (c : Thread nD τ) ↦[arg17.view.set]{fullShare} f17) ∗ (arg10.view.loc (c : Thread nD τ) ↦[arg10.view.set]{fullShare} f10) ∗ (arg11.view.loc (c : Thread nD τ) ↦[arg11.view.set]{fullShare} f11) ∗ (arg13.view.loc (c : Thread nD τ) ↦[arg13.view.set]{fullShare} f13) ∗ (arg18.view.loc (c : Thread nD τ) ↦[arg18.view.set]{fullShare} f18) ∗ (arg19.view.loc (c : Thread nD τ) ↦[arg19.view.set]{fullShare} f19) ∗ (arg21.view.loc (c : Thread nD τ) ↦[arg21.view.set]{fullShare} f21) ∗ (arg22.view.loc (c : Thread nD τ) ↦[arg22.view.set]{fullShare} f22) ∗ wtileP0_0 c (Ring.sl 2 t.val) 0 e0 ∗ wtileP0_0 c (Ring.sl 2 t.val) 1 e1) : sProp 𝕄)
    ⊢ wp frame (wpE (defs₀ (F := Ideal)) Variants.none c none) Set.univ (k0_part38 (grid0.coords t) arg2 harg2 arg3 harg3 arg4 harg4 arg5 harg5 arg6 harg6 arg7 harg7 arg8 harg8 arg9 harg9 arg10 harg10 arg11 harg11 (Memref.whole main_v13_2) (Memref.isWhole_whole _) arg13 harg13 arg14 harg14 arg15 harg15 arg16 harg16 arg17 harg17 arg18 harg18 arg19 harg19 scM0_4 (Memref.isWhole_whole _) arg21 harg21 arg22 harg22 cc0_scratch7 arg0 v1 v2 v3 v4 v5 v6 v20 v34)
        (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg16.view.loc (c : Thread nD τ) ↦[arg16.view.set]{fullShare} f16) ∗ (arg17.view.loc (c : Thread nD τ) ↦[arg17.view.set]{fullShare} f17) ∗ HBuf c arg10 (Scalar.select v34 (Scalar.subi v20 1#32) v20) (HG v2 v3 (arg4.view.read (Elt Ideal) f4) (arg8.view.read (Elt Ideal) f8) (arg16.view.read (Elt Ideal) f16) ee) ∗ DBuf c arg11 (Scalar.select v34 (Scalar.subi v20 1#32) v20) (DG v2 v4 v5 (arg4.view.read (Elt Ideal) f4) (arg5.view.read (Elt Ideal) f5) (arg8.view.read (Elt Ideal) f8) (arg9.view.read (Elt Ideal) f9) (arg16.view.read (Elt Ideal) f16) (arg17.view.read (Elt Ideal) f17) ee) ∗ (∃ f, (arg13.view.loc (c : Thread nD τ) ↦[arg13.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg21.view.loc (c : Thread nD τ) ↦[arg21.view.set]{fullShare} f)) ∗ (∃ f, (arg22.view.loc (c : Thread nD τ) ↦[arg22.view.set]{fullShare} f)) ∗ (∃ e, wtileP0_0 c (Ring.sl 2 t.val) 0 e) ∗ (∃ e, wtileP0_0 c (Ring.sl 2 t.val) 1 e))) := by
  haveI : Fact (¬(Scalar.cmpi .ne (Scalar.extui (Scalar.cmpi .eq (Scalar.select v34 (Scalar.subi v20 1#32) v20) 1#32)) 0#32 = 1#1)) := ⟨hc1⟩
  haveI : Fact ((Scalar.cmpi .ne (Scalar.extui (Scalar.cmpi .eq (Scalar.select v34 (Scalar.subi v20 1#32) v20) 2#32)) 0#32 = 1#1)) := ⟨hc2⟩
  haveI : Fact (¬(Scalar.cmpi .ne (Scalar.extui (Scalar.cmpi .eq (Scalar.select v34 (Scalar.subi v20 1#32) v20) 3#32)) 0#32 = 1#1)) := ⟨hc3⟩
  haveI : Fact (¬(Scalar.cmpi .ne (Scalar.extui (Scalar.cmpi .eq (Scalar.select v34 (Scalar.subi v20 1#32) v20) 0#32)) 0#32 = 1#1)) := ⟨hc0⟩
  simp only [k0_part38_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold k0_part38_skel
  iintro ⟨H2, H3, H4, H5, H6, H7, H8, H9, H16, H17, H10, H11, H13, H18, H19, H21, H22, T0, T1⟩
  sl_exec (disch := first | sl_exact hc1 | sl_exact hc2 | sl_exact hc3 | sl_exact hc0)
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H16]; · iexact H16
  isplitl [H17]; · iexact H17
  isplitl [H10]
  · unfold HBuf; iexists _; isplitr; swap; · iexact H10
    ipureintro
    refine HOk_of 2 (by norm_num) _ ((chunkIs _ _).mp hc2) _ _ fun r q hr => ?_
    have hoff : k0_off5 (grid0.coords t) 0 = ee.val := by
      have : (grid0.coords t 0).val < 8 := (grid0.coords t 0).isLt
      simp [k0_off5, Scalar.indexCast, ← hee]; omega
    have hs4 : (k0_pay213 (F := Ideal) v2 (part38_2.sl.r c t arg4 f4) : EReal) = SC v2 (arg4.view.read (Elt Ideal) f4) ee := by
      refine congrArg (fun z : EReal => v2 * z) ?_
      unfold part38_2.sl.r
      exact congrArg (arg4.view.read (Elt Ideal) f4) (idx_unit1 _ _ _ ee hoff)
    refine (read_miss _ _ _ _ _ _ _ _ 1 (.inl (by simpa using hr))).trans ?_
    rw [View.read_writes_cons_hit_of_coords (x := ix3 0 ⟨r.val, by omega⟩ q)]
    swap
    · intro a; fin_cases a <;> simp [Rect.unit]
    have e1 : k0_pay85 (F := Ideal) (part38_2.sl.v267 c t arg4 arg8 arg16 arg18 v2 v3 f4 f8 f16) (ix3 0 ⟨r.val, by omega⟩ q) = part38_2.sl.v267 c t arg4 arg8 arg16 arg18 v2 v3 f4 f8 f16 (ix2 ⟨r.val, by omega⟩ q) := by
      pointwise [k0_pay85]
    rw [e1]; clear e1
    unfold part38_2.sl.v267 HG
    rw [← hs4]
    refine (readAt_ix2 _ _ 0 0 _ _ _ ⟨r.val, by omega⟩ q (by simp) (by simp)).trans ?_
    unfold part38_2.sl.H18_2
    by_cases h1 : 256 ≤ r.val
    · refine (read_hit2 _ _ 256 0 _ _ _ ⟨r.val - 256, by omega⟩ q _ _ (by simp; try omega) (by simp)).trans ?_
      exact chunk_h _ _ _ _ _ _ _ _ _ (fun k => readAt_ix2 arg16.view f16 256 0 _ _ k ⟨r.val, by omega⟩ k (by simp; try omega) (by simp)) (fun k => rd8_0 arg8 c f8 _ k q) (fun k => rd8_1 arg8 c f8 _ k q)
    refine (read_miss _ _ _ _ _ _ _ _ 0 (.inl (by simp; omega))).trans ?_
    refine (read_hit2 _ _ 0 0 _ _ _ ⟨r.val - 0, by omega⟩ q _ _ (by simp; try omega) (by simp)).trans ?_
    exact chunk_h _ _ _ _ _ _ _ _ _ (fun k => readAt_ix2 arg16.view f16 0 0 _ _ k ⟨r.val, by omega⟩ k (by simp; try omega) (by simp)) (fun k => rd8_0 arg8 c f8 _ k q) (fun k => rd8_1 arg8 c f8 _ k q)
  isplitl [H11]
  · unfold DBuf; iexists _; isplitr; swap; · iexact H11
    ipureintro
    refine DOk_of 2 (by norm_num) _ ((chunkIs _ _).mp hc2) _ _ fun g r q hr => ?_
    have hoff : k0_off5 (grid0.coords t) 0 = ee.val := by
      have : (grid0.coords t 0).val < 8 := (grid0.coords t 0).isLt
      simp [k0_off5, Scalar.indexCast, ← hee]; omega
    have hs4 : (k0_pay213 (F := Ideal) v2 (part38_2.sl.r c t arg4 f4) : EReal) = SC v2 (arg4.view.read (Elt Ideal) f4) ee := by
      refine congrArg (fun z : EReal => v2 * z) ?_
      unfold part38_2.sl.r
      exact congrArg (arg4.view.read (Elt Ideal) f4) (idx_unit1 _ _ _ ee hoff)
    have hs5 : (k0_pay214 (F := Ideal) v4 (part38_2.sl.r_1 c t arg5 f5) : EReal) = SC v4 (arg5.view.read (Elt Ideal) f5) ee := by
      refine congrArg (fun z : EReal => v4 * z) ?_
      unfold part38_2.sl.r_1
      exact congrArg (arg5.view.read (Elt Ideal) f5) (idx_unit1 _ _ _ ee hoff)
    refine (read_miss _ _ _ _ _ _ _ _ 2 (.inl (by simpa using hr))).trans ?_
    rcases (show g = 0 ∨ g = 1 by omega) with rfl | rfl
    · refine (read_miss _ _ _ _ _ _ _ _ 1 (.inl (by simp))).trans ?_
      rw [View.read_writes_cons_hit_of_coords (x := ix4 0 0 ⟨r.val, by omega⟩ q)]
      swap
      · intro a; fin_cases a <;> simp [Rect.unit]
      have e1 : k0_pay86 (F := Ideal) (part38_2.sl.v271 c t arg4 arg5 arg8 arg9 arg16 arg17 arg19 v2 v4 v5 f4 f5 f8 f9 f16 f17) (ix4 0 0 ⟨r.val, by omega⟩ q) = part38_2.sl.v271 c t arg4 arg5 arg8 arg9 arg16 arg17 arg19 v2 v4 v5 f4 f5 f8 f9 f16 f17 (ix2 ⟨r.val, by omega⟩ q) := by
        pointwise [k0_pay86]
      rw [e1]; clear e1
      unfold part38_2.sl.v271 DG
      rw [← hs4, ← hs5]
      refine (readAt_ix2 _ _ 0 0 _ _ _ ⟨r.val, by omega⟩ ⟨q.val, by omega⟩ (by simp) (by simp)).trans ?_
      unfold part38_2.sl.H19_4
      by_cases h1 : 256 ≤ r.val
      · refine (read_miss _ _ _ _ _ _ _ _ 1 (.inl (by simp))).trans ?_
        refine (read_hit2 _ _ 256 0 _ _ _ ⟨r.val - 256, by omega⟩ q _ _ (by simp; try omega) (by simp)).trans ?_
        exact chunk_g _ _ _ _ _ _ _ _ _ _ _ _ _ _ (fun k => readAt_ix2 arg16.view f16 256 0 _ _ k ⟨r.val, by omega⟩ k (by simp; try omega) (by simp)) (fun k => readAt_ix2 arg17.view f17 256 0 _ _ k ⟨r.val, by omega⟩ k (by simp; try omega) (by simp)) (fun k => rd8_0 arg8 c f8 _ k q) (fun k => rd8_1 arg8 c f8 _ k q) (fun k => rd9 arg9 c f9 _ q k)
      refine (read_miss _ _ _ _ _ _ _ _ 0 (.inl (by simp; omega))).trans ?_
      refine (read_miss _ _ _ _ _ _ _ _ 0 (.inl (by simp; omega))).trans ?_
      refine (read_miss _ _ _ _ _ _ _ _ 1 (.inl (by simp))).trans ?_
      refine (read_hit2 _ _ 0 0 _ _ _ ⟨r.val - 0, by omega⟩ q _ _ (by simp; try omega) (by simp)).trans ?_
      exact chunk_g _ _ _ _ _ _ _ _ _ _ _ _ _ _ (fun k => readAt_ix2 arg16.view f16 0 0 _ _ k ⟨r.val, by omega⟩ k (by simp; try omega) (by simp)) (fun k => readAt_ix2 arg17.view f17 0 0 _ _ k ⟨r.val, by omega⟩ k (by simp; try omega) (by simp)) (fun k => rd8_0 arg8 c f8 _ k q) (fun k => rd8_1 arg8 c f8 _ k q) (fun k => rd9 arg9 c f9 _ q k)
    · rw [View.read_writes_cons_hit_of_coords (x := ix4 0 0 ⟨r.val, by omega⟩ q)]
      swap
      · intro a; fin_cases a <;> simp [Rect.unit]
      have e1 : k0_pay87 (F := Ideal) (part38_2.sl.v275 c t arg4 arg5 arg8 arg9 arg16 arg17 arg19 v2 v4 v5 f4 f5 f8 f9 f16 f17) (ix4 0 0 ⟨r.val, by omega⟩ q) = part38_2.sl.v275 c t arg4 arg5 arg8 arg9 arg16 arg17 arg19 v2 v4 v5 f4 f5 f8 f9 f16 f17 (ix2 ⟨r.val, by omega⟩ q) := by
        pointwise [k0_pay87]
      rw [e1]; clear e1
      unfold part38_2.sl.v275 DG
      rw [← hs4, ← hs5]
      refine (readAt_ix2 _ _ 0 256 _ _ _ ⟨r.val, by omega⟩ ⟨256 + q.val, by omega⟩ (by simp) (by simp)).trans ?_
      unfold part38_2.sl.H19_4
      by_cases h1 : 256 ≤ r.val
      · refine (read_hit2 _ _ 256 256 _ _ _ ⟨r.val - 256, by omega⟩ q _ _ (by simp; try omega) (by simp)).trans ?_
        exact chunk_u _ _ _ _ _ _ _ _ _ _ _ _ _ (fun k => readAt_ix2 arg16.view f16 256 0 _ _ k ⟨r.val, by omega⟩ k (by simp; try omega) (by simp)) (fun k => readAt_ix2 arg17.view f17 256 0 _ _ k ⟨r.val, by omega⟩ k (by simp; try omega) (by simp)) (fun k => rd8_0 arg8 c f8 _ k q) (fun k => rd9 arg9 c f9 _ q k)
      refine (read_miss _ _ _ _ _ _ _ _ 0 (.inl (by simp; omega))).trans ?_
      refine (read_miss _ _ _ _ _ _ _ _ 0 (.inl (by simp; omega))).trans ?_
      refine (read_hit2 _ _ 0 256 _ _ _ ⟨r.val - 0, by omega⟩ q _ _ (by simp; try omega) (by simp)).trans ?_
      exact chunk_u _ _ _ _ _ _ _ _ _ _ _ _ _ (fun k => readAt_ix2 arg16.view f16 0 0 _ _ k ⟨r.val, by omega⟩ k (by simp; try omega) (by simp)) (fun k => readAt_ix2 arg17.view f17 0 0 _ _ k ⟨r.val, by omega⟩ k (by simp; try omega) (by simp)) (fun k => rd8_0 arg8 c f8 _ k q) (fun k => rd9 arg9 c f9 _ q k)
  isplitl [H13]; · iexists _; iexact H13
  isplitl [H18]; · iexists _; iexact H18
  isplitl [H19]; · iexists _; iexact H19
  isplitl [H21]; · iexists _; iexact H21
  isplitl [H22]; · iexists _; iexact H22
  isplitl [T0]; · iexists _; iexact T0
  iexists _; iexact T1

end Cert.ExpertsIdeal.Gen

end
-- ==== Proof.ExpertsIdealPart3.lean ====
/- What the part of the experts body that computes does to the buffers, and the codes it leaves, with 3 row chunks. -/
module

public import proofs.«01_k».proof.Proof.ExpertsIdealPure

@[expose] public section

set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Experts.Spec

local notation "𝕄" => MT nD τ sig Unit (Elt Ideal) ℕ (Pipeline.UD sig nD τ) ℕ

set_option maxHeartbeats 6400000 in
theorem part38_3 (c : Dev nD) (t : Fin cfg0.N) (ee : Fin 8) (hee : ee.val = (grid0.coords t 0).val) (arg2 : Memref sig .tc .smem S8 .i32) (harg2 : arg2.IsWhole) (arg3 : Memref sig .tc .smem S4 .f32) (harg3 : arg3.IsWhole) (arg4 : Memref sig .tc .smem S8 .f32) (harg4 : arg4.IsWhole) (arg5 : Memref sig .tc .smem S8 .f32) (harg5 : arg5.IsWhole) (arg6 : Memref sig .tc .vmem S1x720x4096 .fp8e4m3) (harg6 : arg6.IsWhole) (arg7 : Memref sig .tc .vmem S1x720x4096 .fp8e5m2) (harg7 : arg7.IsWhole) (arg8 : Memref sig .tc .vmem S1x2x4096x256 .fp8e4m3) (harg8 : arg8.IsWhole) (arg9 : Memref sig .tc .vmem S1x256x4096 .fp8e4m3) (harg9 : arg9.IsWhole) (arg10 : Memref sig .tc .vmem S1x720x256 .fp8e4m3) (harg10 : arg10.IsWhole) (arg11 : Memref sig .tc .vmem S1x2x720x256 .fp8e5m2) (harg11 : arg11.IsWhole) (arg13 : Memref sig .tc .vmem S1x256x4096 .bf16) (harg13 : arg13.IsWhole) (arg14 : Memref sig .tc .smem S1x1 .f32) (harg14 : arg14.IsWhole) (arg15 : Memref sig .tc .smem S1x1 .f32) (harg15 : arg15.IsWhole) (arg16 : Memref sig .tc .vmem S768x4096 .fp8e4m3) (harg16 : arg16.IsWhole) (arg17 : Memref sig .tc .vmem S768x4096 .fp8e5m2) (harg17 : arg17.IsWhole) (arg18 : Memref sig .tc .vmem S768x256 .fp8e4m3) (harg18 : arg18.IsWhole) (arg19 : Memref sig .tc .vmem S768x512 .fp8e5m2) (harg19 : arg19.IsWhole) (arg21 : Memref sig .tc .vmem S8x128 .f32) (harg21 : arg21.IsWhole) (arg22 : Memref sig .tc .vmem S8x128 .f32) (harg22 : arg22.IsWhole) (arg0 v1 : BitVec 32) (v2 v3 v4 v5 : Elt Ideal .f32) (v6 v20 : BitVec 32) (v34 : BitVec 1) (hc1 : ¬(Scalar.cmpi .ne (Scalar.extui (Scalar.cmpi .eq (Scalar.select v34 (Scalar.subi v20 1#32) v20) 1#32)) 0#32 = 1#1)) (hc2 : ¬(Scalar.cmpi .ne (Scalar.extui (Scalar.cmpi .eq (Scalar.select v34 (Scalar.subi v20 1#32) v20) 2#32)) 0#32 = 1#1)) (hc3 : (Scalar.cmpi .ne (Scalar.extui (Scalar.cmpi .eq (Scalar.select v34 (Scalar.subi v20 1#32) v20) 3#32)) 0#32 = 1#1)) (hc0 : ¬(Scalar.cmpi .ne (Scalar.extui (Scalar.cmpi .eq (Scalar.select v34 (Scalar.subi v20 1#32) v20) 0#32)) 0#32 = 1#1)) (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f16 : Buf (Elt Ideal) (arg16.view.loc (c : Thread nD τ))) (f17 : Buf (Elt Ideal) (arg17.view.loc (c : Thread nD τ))) (f10 : Buf (Elt Ideal) (arg10.view.loc (c : Thread nD τ))) (f11 : Buf (Elt Ideal) (arg11.view.loc (c : Thread nD τ))) (f13 : Buf (Elt Ideal) (arg13.view.loc (c : Thread nD τ))) (f18 : Buf (Elt Ideal) (arg18.view.loc (c : Thread nD τ))) (f19 : Buf (Elt Ideal) (arg19.view.loc (c : Thread nD τ))) (f21 : Buf (Elt Ideal) (arg21.view.loc (c : Thread nD τ))) (f22 : Buf (Elt Ideal) (arg22.view.loc (c : Thread nD τ))) (e0 : HbBuf0 (F := Ideal) c (wtile0_0 (Ring.sl 2 t.val) 0)) (e1 : HbBuf0 (F := Ideal) c (wtile0_0 (Ring.sl 2 t.val) 1)) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg16.view.loc (c : Thread nD τ) ↦[arg16.view.set]{fullShare} f16) ∗ (arg17.view.loc (c : Thread nD τ) ↦[arg17.view.set]{fullShare} f17) ∗ (arg10.view.loc (c : Thread nD τ) ↦[arg10.view.set]{fullShare} f10) ∗ (arg11.view.loc (c : Thread nD τ) ↦[arg11.view.set]{fullShare} f11) ∗ (arg13.view.loc (c : Thread nD τ) ↦[arg13.view.set]{fullShare} f13) ∗ (arg18.view.loc (c : Thread nD τ) ↦[arg18.view.set]{fullShare} f18) ∗ (arg19.view.loc (c : Thread nD τ) ↦[arg19.view.set]{fullShare} f19) ∗ (arg21.view.loc (c : Thread nD τ) ↦[arg21.view.set]{fullShare} f21) ∗ (arg22.view.loc (c : Thread nD τ) ↦[arg22.view.set]{fullShare} f22) ∗ wtileP0_0 c (Ring.sl 2 t.val) 0 e0 ∗ wtileP0_0 c (Ring.sl 2 t.val) 1 e1) : sProp 𝕄)
    ⊢ wp frame (wpE (defs₀ (F := Ideal)) Variants.none c none) Set.univ (k0_part38 (grid0.coords t) arg2 harg2 arg3 harg3 arg4 harg4 arg5 harg5 arg6 harg6 arg7 harg7 arg8 harg8 arg9 harg9 arg10 harg10 arg11 harg11 (Memref.whole main_v13_2) (Memref.isWhole_whole _) arg13 harg13 arg14 harg14 arg15 harg15 arg16 harg16 arg17 harg17 arg18 harg18 arg19 harg19 scM0_4 (Memref.isWhole_whole _) arg21 harg21 arg22 harg22 cc0_scratch7 arg0 v1 v2 v3 v4 v5 v6 v20 v34)
        (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg16.view.loc (c : Thread nD τ) ↦[arg16.view.set]{fullShare} f16) ∗ (arg17.view.loc (c : Thread nD τ) ↦[arg17.view.set]{fullShare} f17) ∗ HBuf c arg10 (Scalar.select v34 (Scalar.subi v20 1#32) v20) (HG v2 v3 (arg4.view.read (Elt Ideal) f4) (arg8.view.read (Elt Ideal) f8) (arg16.view.read (Elt Ideal) f16) ee) ∗ DBuf c arg11 (Scalar.select v34 (Scalar.subi v20 1#32) v20) (DG v2 v4 v5 (arg4.view.read (Elt Ideal) f4) (arg5.view.read (Elt Ideal) f5) (arg8.view.read (Elt Ideal) f8) (arg9.view.read (Elt Ideal) f9) (arg16.view.read (Elt Ideal) f16) (arg17.view.read (Elt Ideal) f17) ee) ∗ (∃ f, (arg13.view.loc (c : Thread nD τ) ↦[arg13.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg21.view.loc (c : Thread nD τ) ↦[arg21.view.set]{fullShare} f)) ∗ (∃ f, (arg22.view.loc (c : Thread nD τ) ↦[arg22.view.set]{fullShare} f)) ∗ (∃ e, wtileP0_0 c (Ring.sl 2 t.val) 0 e) ∗ (∃ e, wtileP0_0 c (Ring.sl 2 t.val) 1 e))) := by
  haveI : Fact (¬(Scalar.cmpi .ne (Scalar.extui (Scalar.cmpi .eq (Scalar.select v34 (Scalar.subi v20 1#32) v20) 1#32)) 0#32 = 1#1)) := ⟨hc1⟩
  haveI : Fact (¬(Scalar.cmpi .ne (Scalar.extui (Scalar.cmpi .eq (Scalar.select v34 (Scalar.subi v20 1#32) v20) 2#32)) 0#32 = 1#1)) := ⟨hc2⟩
  haveI : Fact ((Scalar.cmpi .ne (Scalar.extui (Scalar.cmpi .eq (Scalar.select v34 (Scalar.subi v20 1#32) v20) 3#32)) 0#32 = 1#1)) := ⟨hc3⟩
  haveI : Fact (¬(Scalar.cmpi .ne (Scalar.extui (Scalar.cmpi .eq (Scalar.select v34 (Scalar.subi v20 1#32) v20) 0#32)) 0#32 = 1#1)) := ⟨hc0⟩
  simp only [k0_part38_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  unfold k0_part38_skel
  iintro ⟨H2, H3, H4, H5, H6, H7, H8, H9, H16, H17, H10, H11, H13, H18, H19, H21, H22, T0, T1⟩
  sl_exec (disch := first | sl_exact hc1 | sl_exact hc2 | sl_exact hc3 | sl_exact hc0)
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H16]; · iexact H16
  isplitl [H17]; · iexact H17
  isplitl [H10]
  · unfold HBuf; iexists _; isplitr; swap; · iexact H10
    ipureintro
    refine HOk_of 3 (by norm_num) _ ((chunkIs _ _).mp hc3) _ _ fun r q hr => ?_
    have hoff : k0_off5 (grid0.coords t) 0 = ee.val := by
      have : (grid0.coords t 0).val < 8 := (grid0.coords t 0).isLt
      simp [k0_off5, Scalar.indexCast, ← hee]; omega
    have hs4 : (k0_pay213 (F := Ideal) v2 (part38_3.sl.r c t arg4 f4) : EReal) = SC v2 (arg4.view.read (Elt Ideal) f4) ee := by
      refine congrArg (fun z : EReal => v2 * z) ?_
      unfold part38_3.sl.r
      exact congrArg (arg4.view.read (Elt Ideal) f4) (idx_unit1 _ _ _ ee hoff)
    rw [View.read_writes_cons_hit_of_coords (x := ix3 0 ⟨r.val, by omega⟩ q)]
    swap
    · intro a; fin_cases a <;> simp [Rect.unit]
    have e1 : k0_pay170 (F := Ideal) (part38_3.sl.v348 c t arg4 arg8 arg16 arg18 v2 v3 f4 f8 f16) (ix3 0 ⟨r.val, by omega⟩ q) = part38_3.sl.v348 c t arg4 arg8 arg16 arg18 v2 v3 f4 f8 f16 (ix2 ⟨r.val, by omega⟩ q) := by
      pointwise [k0_pay170]
    rw [e1]; clear e1
    unfold part38_3.sl.v348 HG
    rw [← hs4]
    refine (readAt_ix2 _ _ 0 0 _ _ _ ⟨r.val, by omega⟩ q (by simp) (by simp)).trans ?_
    unfold part38_3.sl.H18_3
    by_cases h2 : 512 ≤ r.val
    · refine (read_hit2 _ _ 512 0 _ _ _ ⟨r.val - 512, by omega⟩ q _ _ (by simp; try omega) (by simp)).trans ?_
      exact chunk_h _ _ _ _ _ _ _ _ _ (fun k => readAt_ix2 arg16.view f16 512 0 _ _ k ⟨r.val, by omega⟩ k (by simp; try omega) (by simp)) (fun k => rd8_0 arg8 c f8 _ k q) (fun k => rd8_1 arg8 c f8 _ k q)
    refine (read_miss _ _ _ _ _ _ _ _ 0 (.inl (by simp; omega))).trans ?_
    by_cases h1 : 256 ≤ r.val
    · refine (read_hit2 _ _ 256 0 _ _ _ ⟨r.val - 256, by omega⟩ q _ _ (by simp; try omega) (by simp)).trans ?_
      exact chunk_h _ _ _ _ _ _ _ _ _ (fun k => readAt_ix2 arg16.view f16 256 0 _ _ k ⟨r.val, by omega⟩ k (by simp; try omega) (by simp)) (fun k => rd8_0 arg8 c f8 _ k q) (fun k => rd8_1 arg8 c f8 _ k q)
    refine (read_miss _ _ _ _ _ _ _ _ 0 (.inl (by simp; omega))).trans ?_
    refine (read_hit2 _ _ 0 0 _ _ _ ⟨r.val - 0, by omega⟩ q _ _ (by simp; try omega) (by simp)).trans ?_
    exact chunk_h _ _ _ _ _ _ _ _ _ (fun k => readAt_ix2 arg16.view f16 0 0 _ _ k ⟨r.val, by omega⟩ k (by simp; try omega) (by simp)) (fun k => rd8_0 arg8 c f8 _ k q) (fun k => rd8_1 arg8 c f8 _ k q)
  isplitl [H11]
  · unfold DBuf; iexists _; isplitr; swap; · iexact H11
    ipureintro
    refine DOk_of 3 (by norm_num) _ ((chunkIs _ _).mp hc3) _ _ fun g r q hr => ?_
    have hoff : k0_off5 (grid0.coords t) 0 = ee.val := by
      have : (grid0.coords t 0).val < 8 := (grid0.coords t 0).isLt
      simp [k0_off5, Scalar.indexCast, ← hee]; omega
    have hs4 : (k0_pay213 (F := Ideal) v2 (part38_3.sl.r c t arg4 f4) : EReal) = SC v2 (arg4.view.read (Elt Ideal) f4) ee := by
      refine congrArg (fun z : EReal => v2 * z) ?_
      unfold part38_3.sl.r
      exact congrArg (arg4.view.read (Elt Ideal) f4) (idx_unit1 _ _ _ ee hoff)
    have hs5 : (k0_pay214 (F := Ideal) v4 (part38_3.sl.r_1 c t arg5 f5) : EReal) = SC v4 (arg5.view.read (Elt Ideal) f5) ee := by
      refine congrArg (fun z : EReal => v4 * z) ?_
      unfold part38_3.sl.r_1
      exact congrArg (arg5.view.read (Elt Ideal) f5) (idx_unit1 _ _ _ ee hoff)
    rcases (show g = 0 ∨ g = 1 by omega) with rfl | rfl
    · refine (read_miss _ _ _ _ _ _ _ _ 1 (.inl (by simp))).trans ?_
      rw [View.read_writes_cons_hit_of_coords (x := ix4 0 0 ⟨r.val, by omega⟩ q)]
      swap
      · intro a; fin_cases a <;> simp [Rect.unit]
      have e1 : k0_pay171 (F := Ideal) (part38_3.sl.v352 c t arg4 arg5 arg8 arg9 arg16 arg17 arg19 v2 v4 v5 f4 f5 f8 f9 f16 f17) (ix4 0 0 ⟨r.val, by omega⟩ q) = part38_3.sl.v352 c t arg4 arg5 arg8 arg9 arg16 arg17 arg19 v2 v4 v5 f4 f5 f8 f9 f16 f17 (ix2 ⟨r.val, by omega⟩ q) := by
        pointwise [k0_pay171]
      rw [e1]; clear e1
      unfold part38_3.sl.v352 DG
      rw [← hs4, ← hs5]
      refine (readAt_ix2 _ _ 0 0 _ _ _ ⟨r.val, by omega⟩ ⟨q.val, by omega⟩ (by simp) (by simp)).trans ?_
      unfold part38_3.sl.H19_6
      by_cases h2 : 512 ≤ r.val
      · refine (read_miss _ _ _ _ _ _ _ _ 1 (.inl (by simp))).trans ?_
        refine (read_hit2 _ _ 512 0 _ _ _ ⟨r.val - 512, by omega⟩ q _ _ (by simp; try omega) (by simp)).trans ?_
        exact chunk_g _ _ _ _ _ _ _ _ _ _ _ _ _ _ (fun k => readAt_ix2 arg16.view f16 512 0 _ _ k ⟨r.val, by omega⟩ k (by simp; try omega) (by simp)) (fun k => readAt_ix2 arg17.view f17 512 0 _ _ k ⟨r.val, by omega⟩ k (by simp; try omega) (by simp)) (fun k => rd8_0 arg8 c f8 _ k q) (fun k => rd8_1 arg8 c f8 _ k q) (fun k => rd9 arg9 c f9 _ q k)
      refine (read_miss _ _ _ _ _ _ _ _ 0 (.inl (by simp; omega))).trans ?_
      refine (read_miss _ _ _ _ _ _ _ _ 0 (.inl (by simp; omega))).trans ?_
      by_cases h1 : 256 ≤ r.val
      · refine (read_miss _ _ _ _ _ _ _ _ 1 (.inl (by simp))).trans ?_
        refine (read_hit2 _ _ 256 0 _ _ _ ⟨r.val - 256, by omega⟩ q _ _ (by simp; try omega) (by simp)).trans ?_
        exact chunk_g _ _ _ _ _ _ _ _ _ _ _ _ _ _ (fun k => readAt_ix2 arg16.view f16 256 0 _ _ k ⟨r.val, by omega⟩ k (by simp; try omega) (by simp)) (fun k => readAt_ix2 arg17.view f17 256 0 _ _ k ⟨r.val, by omega⟩ k (by simp; try omega) (by simp)) (fun k => rd8_0 arg8 c f8 _ k q) (fun k => rd8_1 arg8 c f8 _ k q) (fun k => rd9 arg9 c f9 _ q k)
      refine (read_miss _ _ _ _ _ _ _ _ 0 (.inl (by simp; omega))).trans ?_
      refine (read_miss _ _ _ _ _ _ _ _ 0 (.inl (by simp; omega))).trans ?_
      refine (read_miss _ _ _ _ _ _ _ _ 1 (.inl (by simp))).trans ?_
      refine (read_hit2 _ _ 0 0 _ _ _ ⟨r.val - 0, by omega⟩ q _ _ (by simp; try omega) (by simp)).trans ?_
      exact chunk_g _ _ _ _ _ _ _ _ _ _ _ _ _ _ (fun k => readAt_ix2 arg16.view f16 0 0 _ _ k ⟨r.val, by omega⟩ k (by simp; try omega) (by simp)) (fun k => readAt_ix2 arg17.view f17 0 0 _ _ k ⟨r.val, by omega⟩ k (by simp; try omega) (by simp)) (fun k => rd8_0 arg8 c f8 _ k q) (fun k => rd8_1 arg8 c f8 _ k q) (fun k => rd9 arg9 c f9 _ q k)
    · rw [View.read_writes_cons_hit_of_coords (x := ix4 0 0 ⟨r.val, by omega⟩ q)]
      swap
      · intro a; fin_cases a <;> simp [Rect.unit]
      have e1 : k0_pay172 (F := Ideal) (part38_3.sl.v356 c t arg4 arg5 arg8 arg9 arg16 arg17 arg19 v2 v4 v5 f4 f5 f8 f9 f16 f17) (ix4 0 0 ⟨r.val, by omega⟩ q) = part38_3.sl.v356 c t arg4 arg5 arg8 arg9 arg16 arg17 arg19 v2 v4 v5 f4 f5 f8 f9 f16 f17 (ix2 ⟨r.val, by omega⟩ q) := by
        pointwise [k0_pay172]
      rw [e1]; clear e1
      unfold part38_3.sl.v356 DG
      rw [← hs4, ← hs5]
      refine (readAt_ix2 _ _ 0 256 _ _ _ ⟨r.val, by omega⟩ ⟨256 + q.val, by omega⟩ (by simp) (by simp)).trans ?_
      unfold part38_3.sl.H19_6
      by_cases h2 : 512 ≤ r.val
      · refine (read_hit2 _ _ 512 256 _ _ _ ⟨r.val - 512, by omega⟩ q _ _ (by simp; try omega) (by simp)).trans ?_
        exact chunk_u _ _ _ _ _ _ _ _ _ _ _ _ _ (fun k => readAt_ix2 arg16.view f16 512 0 _ _ k ⟨r.val, by omega⟩ k (by simp; try omega) (by simp)) (fun k => readAt_ix2 arg17.view f17 512 0 _ _ k ⟨r.val, by omega⟩ k (by simp; try omega) (by simp)) (fun k => rd8_0 arg8 c f8 _ k q) (fun k => rd9 arg9 c f9 _ q k)
      refine (read_miss _ _ _ _ _ _ _ _ 0 (.inl (by simp; omega))).trans ?_
      refine (read_miss _ _ _ _ _ _ _ _ 0 (.inl (by simp; omega))).trans ?_
      by_cases h1 : 256 ≤ r.val
      · refine (read_hit2 _ _ 256 256 _ _ _ ⟨r.val - 256, by omega⟩ q _ _ (by simp; try omega) (by simp)).trans ?_
        exact chunk_u _ _ _ _ _ _ _ _ _ _ _ _ _ (fun k => readAt_ix2 arg16.view f16 256 0 _ _ k ⟨r.val, by omega⟩ k (by simp; try omega) (by simp)) (fun k => readAt_ix2 arg17.view f17 256 0 _ _ k ⟨r.val, by omega⟩ k (by simp; try omega) (by simp)) (fun k => rd8_0 arg8 c f8 _ k q) (fun k => rd9 arg9 c f9 _ q k)
      refine (read_miss _ _ _ _ _ _ _ _ 0 (.inl (by simp; omega))).trans ?_
      refine (read_miss _ _ _ _ _ _ _ _ 0 (.inl (by simp; omega))).trans ?_
      refine (read_hit2 _ _ 0 256 _ _ _ ⟨r.val - 0, by omega⟩ q _ _ (by simp; try omega) (by simp)).trans ?_
      exact chunk_u _ _ _ _ _ _ _ _ _ _ _ _ _ (fun k => readAt_ix2 arg16.view f16 0 0 _ _ k ⟨r.val, by omega⟩ k (by simp; try omega) (by simp)) (fun k => readAt_ix2 arg17.view f17 0 0 _ _ k ⟨r.val, by omega⟩ k (by simp; try omega) (by simp)) (fun k => rd8_0 arg8 c f8 _ k q) (fun k => rd9 arg9 c f9 _ q k)
  isplitl [H13]; · iexists _; iexact H13
  isplitl [H18]; · iexists _; iexact H18
  isplitl [H19]; · iexists _; iexact H19
  isplitl [H21]; · iexists _; iexact H21
  isplitl [H22]; · iexists _; iexact H22
  isplitl [T0]; · iexists _; iexact T0
  iexists _; iexact T1

end Cert.ExpertsIdeal.Gen

end
-- ==== Proof.ExpertsIdealBody.lean ====
/- The experts body at an expert with no row, and whatever the number of chunks is. -/
module

public import proofs.«01_k».proof.Proof.ExpertsIdealPart1
public import proofs.«01_k».proof.Proof.ExpertsIdealPart2
public import proofs.«01_k».proof.Proof.ExpertsIdealPart3

@[expose] public section

set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Experts.Spec

local notation "𝕄" => MT nD τ sig Unit (Elt Ideal) ℕ (Pipeline.UD sig nD τ) ℕ

/-! ## A slot of the packed gradient: its two tiles together -/

theorem inb_wslot (g : Fin 2) : ∀ a, (![g.val, 0, 0, 0, 0] : Fin 5 → Nat) a + S1x2x4096x2x128.size a ≤ S2x2x4096x2x128.size a := by
  have := g.isLt; intro a; fin_cases a <;> simp <;> omega
def wslot (g : Fin 2) : Memref sig .tc .vmem S1x2x4096x2x128 .bf16 :=
  scM0_4.slice (Rect.unit (s := S2x2x4096x2x128) ![g.val, 0, 0, 0, 0] S1x2x4096x2x128.size (inb_wslot g)) (fun _ => rfl)
abbrev wslotSet (g : Fin 2) : Finset S2x2x4096x2x128.Idx := (Rect.unit (s := S2x2x4096x2x128) ![g.val, 0, 0, 0, 0] S1x2x4096x2x128.size (inb_wslot g)).set
theorem wslotSet_eq (g : Fin 2) : (wslot g).view.set = wslotSet g := View.set_slice_whole _ _
theorem wslotSet_tiles (g : Fin 2) : wslotSet g = Finset.univ.biUnion (fun j : Fin 2 => wtileSet0_0 (g, j)) := by
  ext i
  rw [Finset.mem_biUnion]
  simp only [wtileSet0_0, wslotSet, Rect.mem_set_unit]
  have h1 : (i 1).val < 2 := (i 1).isLt
  constructor
  · intro h
    refine ⟨⟨(i 1).val, h1⟩, Finset.mem_univ _, fun a => ?_⟩
    match a with
    | 0 => exact h 0
    | 1 => exact ⟨Nat.le_refl (i 1).val, Nat.lt_succ_self (i 1).val⟩
    | 2 => exact h 2
    | 3 => exact h 3
    | 4 => exact h 4
  · rintro ⟨j, -, h⟩ a
    match a with
    | 0 => exact h 0
    | 1 => exact ⟨Nat.zero_le (i 1).val, lt_of_lt_of_eq h1 (Nat.zero_add 2).symm⟩
    | 2 => exact h 2
    | 3 => exact h 3
    | 4 => exact h 4

abbrev wslotP (c : Dev nD) (g : Fin 2) (e : HbBuf0 (F := Ideal) c (wslot g)) : sProp 𝕄 := (wslot g).view.loc (c : Thread nD τ) ↦[(wslot g).view.set]{fullShare} e
theorem wslotP_eq (c : Dev nD) (g : Fin 2) (e) : wslotP c g e = (((c : Thread nD τ).loc cc0_scratch4) ↦[Finset.univ.biUnion (fun j : Fin 2 => wtileSet0_0 (g, j))]{fullShare} e : sProp 𝕄) := by
  unfold wslotP; rw [wslotSet_eq, wslotSet_tiles]; rfl
theorem wtiles_disj (g : Fin 2) (i : Fin 2) (_ : i ∈ Finset.univ) (i' : Fin 2) (_ : i' ∈ Finset.univ) (h : i ≠ i') : Disjoint (wtileSet0_0 (g, i)) (wtileSet0_0 (g, i')) :=
  wtiles0_0_disjoint _ _ fun e => h (congrArg Prod.snd e)

theorem join_two (ℓ : Loc nD τ sig) (K : Fin 2 → Finset (Idx ℓ)) (hd : ∀ i ∈ Finset.univ, ∀ i' ∈ Finset.univ, i ≠ i' → Disjoint (K i) (K i')) (f0 f1 : Buf (Elt Ideal) ℓ) :
    (iprop((ℓ ↦[K 0]{fullShare} f0) ∗ (ℓ ↦[K 1]{fullShare} f1)) : sProp 𝕄) ⊢ iprop(∃ e, (ℓ ↦[Finset.univ.biUnion K]{fullShare} e)) := by
  have hq : (iprop((ℓ ↦[K 0]{fullShare} f0) ∗ (ℓ ↦[K 1]{fullShare} f1)) : sProp 𝕄) =
      bigSep Finset.univ (fun j : Fin 2 => (ℓ ↦[K j]{fullShare} (![f0, f1] : Fin 2 → Buf (Elt Ideal) ℓ) j : sProp 𝕄)) := by
    rw [Ring.bigSep_fin2]; rfl
  rw [hq]
  iintro H
  ihave HJ := (pointsTo_biUnion_join (q := fullShare) Finset.univ K (![f0, f1] : Fin 2 → Buf (Elt Ideal) ℓ) f0 hd) $$ H
  icases HJ with ⟨%e, -, Hs⟩
  iexists e
  iexact Hs
theorem wtileP_loc (c : Dev nD) (g m : Fin 2) (e : HbBuf0 (F := Ideal) c (wtile0_0 g m)) :
    wtileP0_0 (F := Ideal) c g m e ⊢ (iprop(∃ f, (((c : Thread nD τ).loc cc0_scratch4) ↦[wtileSet0_0 (g, m)]{fullShare} f)) : sProp 𝕄) := by
  iintro H
  iexists e
  iapply (Entails.of_eq (wtileP0_0_eq c g m e))
  iexact H
theorem wslotP_of (c : Dev nD) (g : Fin 2) (e) :
    (((c : Thread nD τ).loc cc0_scratch4) ↦[Finset.univ.biUnion (fun j : Fin 2 => wtileSet0_0 (g, j))]{fullShare} e : sProp 𝕄) ⊢ iprop(∃ e, wslotP c g e) := by
  iintro H
  iexists e
  iapply (Entails.of_eq (wslotP_eq c g e).symm)
  iexact H
theorem wslot_join (c : Dev nD) (g : Fin 2) (e0 : HbBuf0 (F := Ideal) c (wtile0_0 g 0)) (e1 : HbBuf0 (F := Ideal) c (wtile0_0 g 1)) :
    iprop(wtileP0_0 (F := Ideal) c g 0 e0 ∗ wtileP0_0 c g 1 e1) ⊢ (iprop(∃ e, wslotP c g e) : sProp 𝕄) := by
  iintro ⟨H0, H1⟩
  ihave A0 := (wtileP_loc c g 0 e0) $$ H0
  ihave A1 := (wtileP_loc c g 1 e1) $$ H1
  icases A0 with ⟨%f0, A0⟩
  icases A1 with ⟨%f1, A1⟩
  icombine A0 A1 as A
  ihave HJ := (join_two ((c : Thread nD τ).loc cc0_scratch4) (fun j : Fin 2 => wtileSet0_0 (g, j)) (wtiles_disj g) f0 f1) $$ A
  icases HJ with ⟨%e, Hs⟩
  iapply (wslotP_of c g e)
  iexact Hs

theorem wslot_split (c : Dev nD) (g : Fin 2) (e : HbBuf0 (F := Ideal) c (wslot g)) :
    wslotP c g e ⊢ (iprop((∃ e, wtileP0_0 c g 0 e) ∗ ∃ e, wtileP0_0 c g 1 e) : sProp 𝕄) := by
  iintro H
  ihave HB := ((show wslotP c g e ⊢ (((c : Thread nD τ).loc cc0_scratch4) ↦[Finset.univ.biUnion (fun j : Fin 2 => wtileSet0_0 (g, j))]{fullShare} e : sProp 𝕄) from Entails.of_eq (wslotP_eq c g e)).trans (Entails.of_eq (pointsTo_biUnion (ℓ := (c : Thread nD τ).loc cc0_scratch4) (q := fullShare) (f := e) Finset.univ (fun j : Fin 2 => wtileSet0_0 (g, j)) (wtiles_disj g)))) $$ H
  ihave HC := (Entails.of_eq (Ring.bigSep_fin2 (fun j : Fin 2 => (((c : Thread nD τ).loc cc0_scratch4) ↦[wtileSet0_0 (g, j)]{fullShare} e : sProp 𝕄)))) $$ HB
  icases HC with ⟨H0, H1⟩
  isplitl [H0]
  · iexists e; iapply (Entails.of_eq (wtileP0_0_eq c g 0 e).symm); iexact H0
  iexists e; iapply (Entails.of_eq (wtileP0_0_eq c g 1 e).symm); iexact H1

set_option maxHeartbeats 6400000 in
theorem part38_0 (c : Dev nD) (t : Fin cfg0.N) (ee : Fin 8) (hee : ee.val = (grid0.coords t 0).val) (arg2 : Memref sig .tc .smem S8 .i32) (harg2 : arg2.IsWhole) (arg3 : Memref sig .tc .smem S4 .f32) (harg3 : arg3.IsWhole) (arg4 : Memref sig .tc .smem S8 .f32) (harg4 : arg4.IsWhole) (arg5 : Memref sig .tc .smem S8 .f32) (harg5 : arg5.IsWhole) (arg6 : Memref sig .tc .vmem S1x720x4096 .fp8e4m3) (harg6 : arg6.IsWhole) (arg7 : Memref sig .tc .vmem S1x720x4096 .fp8e5m2) (harg7 : arg7.IsWhole) (arg8 : Memref sig .tc .vmem S1x2x4096x256 .fp8e4m3) (harg8 : arg8.IsWhole) (arg9 : Memref sig .tc .vmem S1x256x4096 .fp8e4m3) (harg9 : arg9.IsWhole) (arg10 : Memref sig .tc .vmem S1x720x256 .fp8e4m3) (harg10 : arg10.IsWhole) (arg11 : Memref sig .tc .vmem S1x2x720x256 .fp8e5m2) (harg11 : arg11.IsWhole) (arg13 : Memref sig .tc .vmem S1x256x4096 .bf16) (harg13 : arg13.IsWhole) (arg14 : Memref sig .tc .smem S1x1 .f32) (harg14 : arg14.IsWhole) (arg15 : Memref sig .tc .smem S1x1 .f32) (harg15 : arg15.IsWhole) (arg16 : Memref sig .tc .vmem S768x4096 .fp8e4m3) (harg16 : arg16.IsWhole) (arg17 : Memref sig .tc .vmem S768x4096 .fp8e5m2) (harg17 : arg17.IsWhole) (arg18 : Memref sig .tc .vmem S768x256 .fp8e4m3) (harg18 : arg18.IsWhole) (arg19 : Memref sig .tc .vmem S768x512 .fp8e5m2) (harg19 : arg19.IsWhole) (arg21 : Memref sig .tc .vmem S8x128 .f32) (harg21 : arg21.IsWhole) (arg22 : Memref sig .tc .vmem S8x128 .f32) (harg22 : arg22.IsWhole) (arg0 v1 : BitVec 32) (v2 v3 v4 v5 : Elt Ideal .f32) (v6 v20 : BitVec 32) (v34 : BitVec 1) (hc1 : ¬(Scalar.cmpi .ne (Scalar.extui (Scalar.cmpi .eq (Scalar.select v34 (Scalar.subi v20 1#32) v20) 1#32)) 0#32 = 1#1)) (hc2 : ¬(Scalar.cmpi .ne (Scalar.extui (Scalar.cmpi .eq (Scalar.select v34 (Scalar.subi v20 1#32) v20) 2#32)) 0#32 = 1#1)) (hc3 : ¬(Scalar.cmpi .ne (Scalar.extui (Scalar.cmpi .eq (Scalar.select v34 (Scalar.subi v20 1#32) v20) 3#32)) 0#32 = 1#1)) (hc0 : (Scalar.cmpi .ne (Scalar.extui (Scalar.cmpi .eq (Scalar.select v34 (Scalar.subi v20 1#32) v20) 0#32)) 0#32 = 1#1)) (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f16 : Buf (Elt Ideal) (arg16.view.loc (c : Thread nD τ))) (f17 : Buf (Elt Ideal) (arg17.view.loc (c : Thread nD τ))) (f10 : Buf (Elt Ideal) (arg10.view.loc (c : Thread nD τ))) (f11 : Buf (Elt Ideal) (arg11.view.loc (c : Thread nD τ))) (f13 : Buf (Elt Ideal) (arg13.view.loc (c : Thread nD τ))) (f18 : Buf (Elt Ideal) (arg18.view.loc (c : Thread nD τ))) (f19 : Buf (Elt Ideal) (arg19.view.loc (c : Thread nD τ))) (f21 : Buf (Elt Ideal) (arg21.view.loc (c : Thread nD τ))) (f22 : Buf (Elt Ideal) (arg22.view.loc (c : Thread nD τ))) (e0 : HbBuf0 (F := Ideal) c (wtile0_0 (Ring.sl 2 t.val) 0)) (e1 : HbBuf0 (F := Ideal) c (wtile0_0 (Ring.sl 2 t.val) 1)) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg16.view.loc (c : Thread nD τ) ↦[arg16.view.set]{fullShare} f16) ∗ (arg17.view.loc (c : Thread nD τ) ↦[arg17.view.set]{fullShare} f17) ∗ (arg10.view.loc (c : Thread nD τ) ↦[arg10.view.set]{fullShare} f10) ∗ (arg11.view.loc (c : Thread nD τ) ↦[arg11.view.set]{fullShare} f11) ∗ (arg13.view.loc (c : Thread nD τ) ↦[arg13.view.set]{fullShare} f13) ∗ (arg18.view.loc (c : Thread nD τ) ↦[arg18.view.set]{fullShare} f18) ∗ (arg19.view.loc (c : Thread nD τ) ↦[arg19.view.set]{fullShare} f19) ∗ (arg21.view.loc (c : Thread nD τ) ↦[arg21.view.set]{fullShare} f21) ∗ (arg22.view.loc (c : Thread nD τ) ↦[arg22.view.set]{fullShare} f22) ∗ wtileP0_0 c (Ring.sl 2 t.val) 0 e0 ∗ wtileP0_0 c (Ring.sl 2 t.val) 1 e1) : sProp 𝕄)
    ⊢ wp frame (wpE (defs₀ (F := Ideal)) Variants.none c none) Set.univ (k0_part38 (grid0.coords t) arg2 harg2 arg3 harg3 arg4 harg4 arg5 harg5 arg6 harg6 arg7 harg7 arg8 harg8 arg9 harg9 arg10 harg10 arg11 harg11 (Memref.whole main_v13_2) (Memref.isWhole_whole _) arg13 harg13 arg14 harg14 arg15 harg15 arg16 harg16 arg17 harg17 arg18 harg18 arg19 harg19 scM0_4 (Memref.isWhole_whole _) arg21 harg21 arg22 harg22 cc0_scratch7 arg0 v1 v2 v3 v4 v5 v6 v20 v34)
        (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg16.view.loc (c : Thread nD τ) ↦[arg16.view.set]{fullShare} f16) ∗ (arg17.view.loc (c : Thread nD τ) ↦[arg17.view.set]{fullShare} f17) ∗ HBuf c arg10 (Scalar.select v34 (Scalar.subi v20 1#32) v20) (HG v2 v3 (arg4.view.read (Elt Ideal) f4) (arg8.view.read (Elt Ideal) f8) (arg16.view.read (Elt Ideal) f16) ee) ∗ DBuf c arg11 (Scalar.select v34 (Scalar.subi v20 1#32) v20) (DG v2 v4 v5 (arg4.view.read (Elt Ideal) f4) (arg5.view.read (Elt Ideal) f5) (arg8.view.read (Elt Ideal) f8) (arg9.view.read (Elt Ideal) f9) (arg16.view.read (Elt Ideal) f16) (arg17.view.read (Elt Ideal) f17) ee) ∗ (∃ f, (arg13.view.loc (c : Thread nD τ) ↦[arg13.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg21.view.loc (c : Thread nD τ) ↦[arg21.view.set]{fullShare} f)) ∗ (∃ f, (arg22.view.loc (c : Thread nD τ) ↦[arg22.view.set]{fullShare} f)) ∗ (∃ e, wtileP0_0 c (Ring.sl 2 t.val) 0 e) ∗ (∃ e, wtileP0_0 c (Ring.sl 2 t.val) 1 e))) := by
  haveI : Fact (¬(Scalar.cmpi .ne (Scalar.extui (Scalar.cmpi .eq (Scalar.select v34 (Scalar.subi v20 1#32) v20) 1#32)) 0#32 = 1#1)) := ⟨hc1⟩
  haveI : Fact (¬(Scalar.cmpi .ne (Scalar.extui (Scalar.cmpi .eq (Scalar.select v34 (Scalar.subi v20 1#32) v20) 2#32)) 0#32 = 1#1)) := ⟨hc2⟩
  haveI : Fact (¬(Scalar.cmpi .ne (Scalar.extui (Scalar.cmpi .eq (Scalar.select v34 (Scalar.subi v20 1#32) v20) 3#32)) 0#32 = 1#1)) := ⟨hc3⟩
  haveI : Fact ((Scalar.cmpi .ne (Scalar.extui (Scalar.cmpi .eq (Scalar.select v34 (Scalar.subi v20 1#32) v20) 0#32)) 0#32 = 1#1)) := ⟨hc0⟩
  simp only [k0_part38_eq_skeleton]
  unfold k0_part38_skel
  iintro ⟨H2, H3, H4, H5, H6, H7, H8, H9, H16, H17, H10, H11, H13, H18, H19, H21, H22, T0, T1⟩
  icombine T0 T1 as T01
  ihave TS := (wslot_join c (Ring.sl 2 t.val) e0 e1) $$ T01
  icases TS with ⟨%eS, TS⟩
  sl_exec (disch := first | sl_exact hc1 | sl_exact hc2 | sl_exact hc3 | sl_exact hc0)
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H16]; · iexact H16
  isplitl [H17]; · iexact H17
  isplitl [H10]
  · unfold HBuf; iexists _; isplitr; swap; · iexact H10
    ipureintro
    exact HOk_none _ (fun h => hc1 ((chunkIs _ _).mpr h)) (fun h => hc2 ((chunkIs _ _).mpr h)) (fun h => hc3 ((chunkIs _ _).mpr h)) _ _
  isplitl [H11]
  · unfold DBuf; iexists _; isplitr; swap; · iexact H11
    ipureintro
    exact DOk_none _ (fun h => hc1 ((chunkIs _ _).mpr h)) (fun h => hc2 ((chunkIs _ _).mpr h)) (fun h => hc3 ((chunkIs _ _).mpr h)) _ _
  isplitl [H13]; · iexists _; iexact H13
  isplitl [H18]; · iexists _; iexact H18
  isplitl [H19]; · iexists _; iexact H19
  isplitl [H21]; · iexists _; iexact H21
  isplitl [H22]; · iexists _; iexact H22
  iapply (wslot_split c (Ring.sl 2 t.val) _)
  iexact TS

set_option maxHeartbeats 6400000 in
theorem part38_9 (c : Dev nD) (t : Fin cfg0.N) (ee : Fin 8) (hee : ee.val = (grid0.coords t 0).val) (arg2 : Memref sig .tc .smem S8 .i32) (harg2 : arg2.IsWhole) (arg3 : Memref sig .tc .smem S4 .f32) (harg3 : arg3.IsWhole) (arg4 : Memref sig .tc .smem S8 .f32) (harg4 : arg4.IsWhole) (arg5 : Memref sig .tc .smem S8 .f32) (harg5 : arg5.IsWhole) (arg6 : Memref sig .tc .vmem S1x720x4096 .fp8e4m3) (harg6 : arg6.IsWhole) (arg7 : Memref sig .tc .vmem S1x720x4096 .fp8e5m2) (harg7 : arg7.IsWhole) (arg8 : Memref sig .tc .vmem S1x2x4096x256 .fp8e4m3) (harg8 : arg8.IsWhole) (arg9 : Memref sig .tc .vmem S1x256x4096 .fp8e4m3) (harg9 : arg9.IsWhole) (arg10 : Memref sig .tc .vmem S1x720x256 .fp8e4m3) (harg10 : arg10.IsWhole) (arg11 : Memref sig .tc .vmem S1x2x720x256 .fp8e5m2) (harg11 : arg11.IsWhole) (arg13 : Memref sig .tc .vmem S1x256x4096 .bf16) (harg13 : arg13.IsWhole) (arg14 : Memref sig .tc .smem S1x1 .f32) (harg14 : arg14.IsWhole) (arg15 : Memref sig .tc .smem S1x1 .f32) (harg15 : arg15.IsWhole) (arg16 : Memref sig .tc .vmem S768x4096 .fp8e4m3) (harg16 : arg16.IsWhole) (arg17 : Memref sig .tc .vmem S768x4096 .fp8e5m2) (harg17 : arg17.IsWhole) (arg18 : Memref sig .tc .vmem S768x256 .fp8e4m3) (harg18 : arg18.IsWhole) (arg19 : Memref sig .tc .vmem S768x512 .fp8e5m2) (harg19 : arg19.IsWhole) (arg21 : Memref sig .tc .vmem S8x128 .f32) (harg21 : arg21.IsWhole) (arg22 : Memref sig .tc .vmem S8x128 .f32) (harg22 : arg22.IsWhole) (arg0 v1 : BitVec 32) (v2 v3 v4 v5 : Elt Ideal .f32) (v6 v20 : BitVec 32) (v34 : BitVec 1) (hc1 : ¬(Scalar.cmpi .ne (Scalar.extui (Scalar.cmpi .eq (Scalar.select v34 (Scalar.subi v20 1#32) v20) 1#32)) 0#32 = 1#1)) (hc2 : ¬(Scalar.cmpi .ne (Scalar.extui (Scalar.cmpi .eq (Scalar.select v34 (Scalar.subi v20 1#32) v20) 2#32)) 0#32 = 1#1)) (hc3 : ¬(Scalar.cmpi .ne (Scalar.extui (Scalar.cmpi .eq (Scalar.select v34 (Scalar.subi v20 1#32) v20) 3#32)) 0#32 = 1#1)) (hc0 : ¬(Scalar.cmpi .ne (Scalar.extui (Scalar.cmpi .eq (Scalar.select v34 (Scalar.subi v20 1#32) v20) 0#32)) 0#32 = 1#1)) (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f16 : Buf (Elt Ideal) (arg16.view.loc (c : Thread nD τ))) (f17 : Buf (Elt Ideal) (arg17.view.loc (c : Thread nD τ))) (f10 : Buf (Elt Ideal) (arg10.view.loc (c : Thread nD τ))) (f11 : Buf (Elt Ideal) (arg11.view.loc (c : Thread nD τ))) (f13 : Buf (Elt Ideal) (arg13.view.loc (c : Thread nD τ))) (f18 : Buf (Elt Ideal) (arg18.view.loc (c : Thread nD τ))) (f19 : Buf (Elt Ideal) (arg19.view.loc (c : Thread nD τ))) (f21 : Buf (Elt Ideal) (arg21.view.loc (c : Thread nD τ))) (f22 : Buf (Elt Ideal) (arg22.view.loc (c : Thread nD τ))) (e0 : HbBuf0 (F := Ideal) c (wtile0_0 (Ring.sl 2 t.val) 0)) (e1 : HbBuf0 (F := Ideal) c (wtile0_0 (Ring.sl 2 t.val) 1)) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg16.view.loc (c : Thread nD τ) ↦[arg16.view.set]{fullShare} f16) ∗ (arg17.view.loc (c : Thread nD τ) ↦[arg17.view.set]{fullShare} f17) ∗ (arg10.view.loc (c : Thread nD τ) ↦[arg10.view.set]{fullShare} f10) ∗ (arg11.view.loc (c : Thread nD τ) ↦[arg11.view.set]{fullShare} f11) ∗ (arg13.view.loc (c : Thread nD τ) ↦[arg13.view.set]{fullShare} f13) ∗ (arg18.view.loc (c : Thread nD τ) ↦[arg18.view.set]{fullShare} f18) ∗ (arg19.view.loc (c : Thread nD τ) ↦[arg19.view.set]{fullShare} f19) ∗ (arg21.view.loc (c : Thread nD τ) ↦[arg21.view.set]{fullShare} f21) ∗ (arg22.view.loc (c : Thread nD τ) ↦[arg22.view.set]{fullShare} f22) ∗ wtileP0_0 c (Ring.sl 2 t.val) 0 e0 ∗ wtileP0_0 c (Ring.sl 2 t.val) 1 e1) : sProp 𝕄)
    ⊢ wp frame (wpE (defs₀ (F := Ideal)) Variants.none c none) Set.univ (k0_part38 (grid0.coords t) arg2 harg2 arg3 harg3 arg4 harg4 arg5 harg5 arg6 harg6 arg7 harg7 arg8 harg8 arg9 harg9 arg10 harg10 arg11 harg11 (Memref.whole main_v13_2) (Memref.isWhole_whole _) arg13 harg13 arg14 harg14 arg15 harg15 arg16 harg16 arg17 harg17 arg18 harg18 arg19 harg19 scM0_4 (Memref.isWhole_whole _) arg21 harg21 arg22 harg22 cc0_scratch7 arg0 v1 v2 v3 v4 v5 v6 v20 v34)
        (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg16.view.loc (c : Thread nD τ) ↦[arg16.view.set]{fullShare} f16) ∗ (arg17.view.loc (c : Thread nD τ) ↦[arg17.view.set]{fullShare} f17) ∗ HBuf c arg10 (Scalar.select v34 (Scalar.subi v20 1#32) v20) (HG v2 v3 (arg4.view.read (Elt Ideal) f4) (arg8.view.read (Elt Ideal) f8) (arg16.view.read (Elt Ideal) f16) ee) ∗ DBuf c arg11 (Scalar.select v34 (Scalar.subi v20 1#32) v20) (DG v2 v4 v5 (arg4.view.read (Elt Ideal) f4) (arg5.view.read (Elt Ideal) f5) (arg8.view.read (Elt Ideal) f8) (arg9.view.read (Elt Ideal) f9) (arg16.view.read (Elt Ideal) f16) (arg17.view.read (Elt Ideal) f17) ee) ∗ (∃ f, (arg13.view.loc (c : Thread nD τ) ↦[arg13.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg21.view.loc (c : Thread nD τ) ↦[arg21.view.set]{fullShare} f)) ∗ (∃ f, (arg22.view.loc (c : Thread nD τ) ↦[arg22.view.set]{fullShare} f)) ∗ (∃ e, wtileP0_0 c (Ring.sl 2 t.val) 0 e) ∗ (∃ e, wtileP0_0 c (Ring.sl 2 t.val) 1 e))) := by
  haveI : Fact (¬(Scalar.cmpi .ne (Scalar.extui (Scalar.cmpi .eq (Scalar.select v34 (Scalar.subi v20 1#32) v20) 1#32)) 0#32 = 1#1)) := ⟨hc1⟩
  haveI : Fact (¬(Scalar.cmpi .ne (Scalar.extui (Scalar.cmpi .eq (Scalar.select v34 (Scalar.subi v20 1#32) v20) 2#32)) 0#32 = 1#1)) := ⟨hc2⟩
  haveI : Fact (¬(Scalar.cmpi .ne (Scalar.extui (Scalar.cmpi .eq (Scalar.select v34 (Scalar.subi v20 1#32) v20) 3#32)) 0#32 = 1#1)) := ⟨hc3⟩
  haveI : Fact (¬(Scalar.cmpi .ne (Scalar.extui (Scalar.cmpi .eq (Scalar.select v34 (Scalar.subi v20 1#32) v20) 0#32)) 0#32 = 1#1)) := ⟨hc0⟩
  simp only [k0_part38_eq_skeleton]
  unfold k0_part38_skel
  iintro ⟨H2, H3, H4, H5, H6, H7, H8, H9, H16, H17, H10, H11, H13, H18, H19, H21, H22, T0, T1⟩
  sl_exec (disch := first | sl_exact hc1 | sl_exact hc2 | sl_exact hc3 | sl_exact hc0)
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H16]; · iexact H16
  isplitl [H17]; · iexact H17
  isplitl [H10]
  · unfold HBuf; iexists _; isplitr; swap; · iexact H10
    ipureintro
    exact HOk_none _ (fun h => hc1 ((chunkIs _ _).mpr h)) (fun h => hc2 ((chunkIs _ _).mpr h)) (fun h => hc3 ((chunkIs _ _).mpr h)) _ _
  isplitl [H11]
  · unfold DBuf; iexists _; isplitr; swap; · iexact H11
    ipureintro
    exact DOk_none _ (fun h => hc1 ((chunkIs _ _).mpr h)) (fun h => hc2 ((chunkIs _ _).mpr h)) (fun h => hc3 ((chunkIs _ _).mpr h)) _ _
  isplitl [H13]; · iexists _; iexact H13
  isplitl [H18]; · iexists _; iexact H18
  isplitl [H19]; · iexists _; iexact H19
  isplitl [H21]; · iexists _; iexact H21
  isplitl [H22]; · iexists _; iexact H22
  isplitl [T0]; · iexists _; iexact T0
  iexists _; iexact T1

/-- A call and the rest of the program, the rest kept apart while the call runs. -/
theorem bind_run {α β : Type} (c : Dev nD) (p : Prog (TpuEff nD τ sig (Elt Ideal) Λ₀ .tc) α) (k : α → Prog (TpuEff nD τ sig (Elt Ideal) Λ₀ .tc) β) (Q : β → sProp 𝕄) (R : sProp 𝕄)
    (h : ∀ Q' : α → sProp 𝕄, (∀ a, Q' a = wp frame (wpE (defs₀ (F := Ideal)) Variants.none c none) Set.univ (k a) Q) → R ⊢ wp frame (wpE (defs₀ (F := Ideal)) Variants.none c none) Set.univ p Q') :
    R ⊢ wp frame (wpE (defs₀ (F := Ideal)) Variants.none c none) Set.univ (p >>= k) Q := by
  rw [Idealize.SL.Sem.wp_bind]; exact h _ fun _ => rfl

theorem branch_excl (i j : BitVec 32) (hij : i ≠ j) (w : BitVec 32) (h : Scalar.cmpi .ne (Scalar.extui (Scalar.cmpi .eq w i)) 0#32 = 1#1) :
    ¬ Scalar.cmpi .ne (Scalar.extui (Scalar.cmpi .eq w j)) 0#32 = 1#1 := by
  intro h'
  have e : ∀ k : BitVec 32, Scalar.cmpi .ne (Scalar.extui (Scalar.cmpi .eq w k)) 0#32 = 1#1 → w = k := fun k hk => by
    by_contra hne
    have : Scalar.cmpi .eq w k = 0#1 := by show BitVec.ofBool (w == k) = 0#1; rw [beq_eq_false_iff_ne.mpr hne]; rfl
    rw [this] at hk
    exact absurd hk (by decide)
  exact hij ((e i h).symm.trans (e j h'))

set_option maxHeartbeats 6400000 in
theorem part38 (c : Dev nD) (t : Fin cfg0.N) (ee : Fin 8) (hee : ee.val = (grid0.coords t 0).val) (arg2 : Memref sig .tc .smem S8 .i32) (harg2 : arg2.IsWhole) (arg3 : Memref sig .tc .smem S4 .f32) (harg3 : arg3.IsWhole) (arg4 : Memref sig .tc .smem S8 .f32) (harg4 : arg4.IsWhole) (arg5 : Memref sig .tc .smem S8 .f32) (harg5 : arg5.IsWhole) (arg6 : Memref sig .tc .vmem S1x720x4096 .fp8e4m3) (harg6 : arg6.IsWhole) (arg7 : Memref sig .tc .vmem S1x720x4096 .fp8e5m2) (harg7 : arg7.IsWhole) (arg8 : Memref sig .tc .vmem S1x2x4096x256 .fp8e4m3) (harg8 : arg8.IsWhole) (arg9 : Memref sig .tc .vmem S1x256x4096 .fp8e4m3) (harg9 : arg9.IsWhole) (arg10 : Memref sig .tc .vmem S1x720x256 .fp8e4m3) (harg10 : arg10.IsWhole) (arg11 : Memref sig .tc .vmem S1x2x720x256 .fp8e5m2) (harg11 : arg11.IsWhole) (arg13 : Memref sig .tc .vmem S1x256x4096 .bf16) (harg13 : arg13.IsWhole) (arg14 : Memref sig .tc .smem S1x1 .f32) (harg14 : arg14.IsWhole) (arg15 : Memref sig .tc .smem S1x1 .f32) (harg15 : arg15.IsWhole) (arg16 : Memref sig .tc .vmem S768x4096 .fp8e4m3) (harg16 : arg16.IsWhole) (arg17 : Memref sig .tc .vmem S768x4096 .fp8e5m2) (harg17 : arg17.IsWhole) (arg18 : Memref sig .tc .vmem S768x256 .fp8e4m3) (harg18 : arg18.IsWhole) (arg19 : Memref sig .tc .vmem S768x512 .fp8e5m2) (harg19 : arg19.IsWhole) (arg21 : Memref sig .tc .vmem S8x128 .f32) (harg21 : arg21.IsWhole) (arg22 : Memref sig .tc .vmem S8x128 .f32) (harg22 : arg22.IsWhole) (arg0 v1 : BitVec 32) (v2 v3 v4 v5 : Elt Ideal .f32) (v6 v20 : BitVec 32) (v34 : BitVec 1) (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f16 : Buf (Elt Ideal) (arg16.view.loc (c : Thread nD τ))) (f17 : Buf (Elt Ideal) (arg17.view.loc (c : Thread nD τ))) (f10 : Buf (Elt Ideal) (arg10.view.loc (c : Thread nD τ))) (f11 : Buf (Elt Ideal) (arg11.view.loc (c : Thread nD τ))) (f13 : Buf (Elt Ideal) (arg13.view.loc (c : Thread nD τ))) (f18 : Buf (Elt Ideal) (arg18.view.loc (c : Thread nD τ))) (f19 : Buf (Elt Ideal) (arg19.view.loc (c : Thread nD τ))) (f21 : Buf (Elt Ideal) (arg21.view.loc (c : Thread nD τ))) (f22 : Buf (Elt Ideal) (arg22.view.loc (c : Thread nD τ))) (e0 : HbBuf0 (F := Ideal) c (wtile0_0 (Ring.sl 2 t.val) 0)) (e1 : HbBuf0 (F := Ideal) c (wtile0_0 (Ring.sl 2 t.val) 1)) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg16.view.loc (c : Thread nD τ) ↦[arg16.view.set]{fullShare} f16) ∗ (arg17.view.loc (c : Thread nD τ) ↦[arg17.view.set]{fullShare} f17) ∗ (arg10.view.loc (c : Thread nD τ) ↦[arg10.view.set]{fullShare} f10) ∗ (arg11.view.loc (c : Thread nD τ) ↦[arg11.view.set]{fullShare} f11) ∗ (arg13.view.loc (c : Thread nD τ) ↦[arg13.view.set]{fullShare} f13) ∗ (arg18.view.loc (c : Thread nD τ) ↦[arg18.view.set]{fullShare} f18) ∗ (arg19.view.loc (c : Thread nD τ) ↦[arg19.view.set]{fullShare} f19) ∗ (arg21.view.loc (c : Thread nD τ) ↦[arg21.view.set]{fullShare} f21) ∗ (arg22.view.loc (c : Thread nD τ) ↦[arg22.view.set]{fullShare} f22) ∗ wtileP0_0 c (Ring.sl 2 t.val) 0 e0 ∗ wtileP0_0 c (Ring.sl 2 t.val) 1 e1) : sProp 𝕄)
    ⊢ wp frame (wpE (defs₀ (F := Ideal)) Variants.none c none) Set.univ (k0_part38 (grid0.coords t) arg2 harg2 arg3 harg3 arg4 harg4 arg5 harg5 arg6 harg6 arg7 harg7 arg8 harg8 arg9 harg9 arg10 harg10 arg11 harg11 (Memref.whole main_v13_2) (Memref.isWhole_whole _) arg13 harg13 arg14 harg14 arg15 harg15 arg16 harg16 arg17 harg17 arg18 harg18 arg19 harg19 scM0_4 (Memref.isWhole_whole _) arg21 harg21 arg22 harg22 cc0_scratch7 arg0 v1 v2 v3 v4 v5 v6 v20 v34)
        (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg16.view.loc (c : Thread nD τ) ↦[arg16.view.set]{fullShare} f16) ∗ (arg17.view.loc (c : Thread nD τ) ↦[arg17.view.set]{fullShare} f17) ∗ HBuf c arg10 (Scalar.select v34 (Scalar.subi v20 1#32) v20) (HG v2 v3 (arg4.view.read (Elt Ideal) f4) (arg8.view.read (Elt Ideal) f8) (arg16.view.read (Elt Ideal) f16) ee) ∗ DBuf c arg11 (Scalar.select v34 (Scalar.subi v20 1#32) v20) (DG v2 v4 v5 (arg4.view.read (Elt Ideal) f4) (arg5.view.read (Elt Ideal) f5) (arg8.view.read (Elt Ideal) f8) (arg9.view.read (Elt Ideal) f9) (arg16.view.read (Elt Ideal) f16) (arg17.view.read (Elt Ideal) f17) ee) ∗ (∃ f, (arg13.view.loc (c : Thread nD τ) ↦[arg13.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg21.view.loc (c : Thread nD τ) ↦[arg21.view.set]{fullShare} f)) ∗ (∃ f, (arg22.view.loc (c : Thread nD τ) ↦[arg22.view.set]{fullShare} f)) ∗ (∃ e, wtileP0_0 c (Ring.sl 2 t.val) 0 e) ∗ (∃ e, wtileP0_0 c (Ring.sl 2 t.val) 1 e))) := by
  have hx : ∀ i j : BitVec 32, i ≠ j → ∀ w : BitVec 32, Scalar.cmpi .ne (Scalar.extui (Scalar.cmpi .eq w i)) 0#32 = 1#1 → ¬ Scalar.cmpi .ne (Scalar.extui (Scalar.cmpi .eq w j)) 0#32 = 1#1 := branch_excl
  by_cases hc1 : Scalar.cmpi .ne (Scalar.extui (Scalar.cmpi .eq (Scalar.select v34 (Scalar.subi v20 1#32) v20) 1#32)) 0#32 = 1#1
  · have hc2 := hx 1#32 2#32 (by decide) _ hc1; have hc3 := hx 1#32 3#32 (by decide) _ hc1; have hc0 := hx 1#32 0#32 (by decide) _ hc1; exact part38_1 c t ee hee arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg21 harg21 arg22 harg22 arg0 v1 v2 v3 v4 v5 v6 v20 v34 hc1 hc2 hc3 hc0 f2 f3 f4 f5 f6 f7 f8 f9 f16 f17 f10 f11 f13 f18 f19 f21 f22 e0 e1
  by_cases hc2 : Scalar.cmpi .ne (Scalar.extui (Scalar.cmpi .eq (Scalar.select v34 (Scalar.subi v20 1#32) v20) 2#32)) 0#32 = 1#1
  · have hc1 := hx 2#32 1#32 (by decide) _ hc2; have hc3 := hx 2#32 3#32 (by decide) _ hc2; have hc0 := hx 2#32 0#32 (by decide) _ hc2; exact part38_2 c t ee hee arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg21 harg21 arg22 harg22 arg0 v1 v2 v3 v4 v5 v6 v20 v34 hc1 hc2 hc3 hc0 f2 f3 f4 f5 f6 f7 f8 f9 f16 f17 f10 f11 f13 f18 f19 f21 f22 e0 e1
  by_cases hc3 : Scalar.cmpi .ne (Scalar.extui (Scalar.cmpi .eq (Scalar.select v34 (Scalar.subi v20 1#32) v20) 3#32)) 0#32 = 1#1
  · have hc1 := hx 3#32 1#32 (by decide) _ hc3; have hc2 := hx 3#32 2#32 (by decide) _ hc3; have hc0 := hx 3#32 0#32 (by decide) _ hc3; exact part38_3 c t ee hee arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg21 harg21 arg22 harg22 arg0 v1 v2 v3 v4 v5 v6 v20 v34 hc1 hc2 hc3 hc0 f2 f3 f4 f5 f6 f7 f8 f9 f16 f17 f10 f11 f13 f18 f19 f21 f22 e0 e1
  by_cases hc0 : Scalar.cmpi .ne (Scalar.extui (Scalar.cmpi .eq (Scalar.select v34 (Scalar.subi v20 1#32) v20) 0#32)) 0#32 = 1#1
  · exact part38_0 c t ee hee arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg21 harg21 arg22 harg22 arg0 v1 v2 v3 v4 v5 v6 v20 v34 hc1 hc2 hc3 hc0 f2 f3 f4 f5 f6 f7 f8 f9 f16 f17 f10 f11 f13 f18 f19 f21 f22 e0 e1
  exact part38_9 c t ee hee arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg21 harg21 arg22 harg22 arg0 v1 v2 v3 v4 v5 v6 v20 v34 hc1 hc2 hc3 hc0 f2 f3 f4 f5 f6 f7 f8 f9 f16 f17 f10 f11 f13 f18 f19 f21 f22 e0 e1

end Cert.ExpertsIdeal.Gen

end
-- ==== Proof.ExpertsIdealRunA.lean ====
/- The experts body at a point that waits for no transfer. -/
module

public import proofs.«01_k».proof.Proof.ExpertsIdealBody

@[expose] public section

set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Experts.Spec

local notation "𝕄" => MT nD τ sig Unit (Elt Ideal) ℕ (Pipeline.UD sig nD τ) ℕ

set_option maxHeartbeats 6400000 in
/-- The body at a point that waits for no transfer: the inputs' buffers end as they were, the codes are those of the rows that count. -/
theorem run_A (c : Dev nD) (t : Fin cfg0.N) (arg2 : Memref sig .tc .smem S8 .i32) (harg2 : arg2.IsWhole) (arg3 : Memref sig .tc .smem S4 .f32) (harg3 : arg3.IsWhole) (arg4 : Memref sig .tc .smem S8 .f32) (harg4 : arg4.IsWhole) (arg5 : Memref sig .tc .smem S8 .f32) (harg5 : arg5.IsWhole) (arg6 : Memref sig .tc .vmem S1x720x4096 .fp8e4m3) (harg6 : arg6.IsWhole) (arg7 : Memref sig .tc .vmem S1x720x4096 .fp8e5m2) (harg7 : arg7.IsWhole) (arg8 : Memref sig .tc .vmem S1x2x4096x256 .fp8e4m3) (harg8 : arg8.IsWhole) (arg9 : Memref sig .tc .vmem S1x256x4096 .fp8e4m3) (harg9 : arg9.IsWhole) (arg10 : Memref sig .tc .vmem S1x720x256 .fp8e4m3) (harg10 : arg10.IsWhole) (arg11 : Memref sig .tc .vmem S1x2x720x256 .fp8e5m2) (harg11 : arg11.IsWhole) (arg13 : Memref sig .tc .vmem S1x256x4096 .bf16) (harg13 : arg13.IsWhole) (arg14 : Memref sig .tc .smem S1x1 .f32) (harg14 : arg14.IsWhole) (arg15 : Memref sig .tc .smem S1x1 .f32) (harg15 : arg15.IsWhole) (arg16 : Memref sig .tc .vmem S768x4096 .fp8e4m3) (harg16 : arg16.IsWhole) (arg17 : Memref sig .tc .vmem S768x4096 .fp8e5m2) (harg17 : arg17.IsWhole) (arg18 : Memref sig .tc .vmem S768x256 .fp8e4m3) (harg18 : arg18.IsWhole) (arg19 : Memref sig .tc .vmem S768x512 .fp8e5m2) (harg19 : arg19.IsWhole) (arg21 : Memref sig .tc .vmem S8x128 .f32) (harg21 : arg21.IsWhole) (arg22 : Memref sig .tc .vmem S8x128 .f32) (harg22 : arg22.IsWhole) (hc0 : ¬cond0_0 (grid0.coords t)) (hc1 : ¬cond0_1 (grid0.coords t))
    (x2 : Vec Ideal S8 .i32) (x3 : Vec Ideal S4 .f32) (x4 : Vec Ideal S8 .f32) (x5 : Vec Ideal S8 .f32) (x6 : Vec Ideal S1x720x4096 .fp8e4m3) (x7 : Vec Ideal S1x720x4096 .fp8e5m2) (x8 : Vec Ideal S1x2x4096x256 .fp8e4m3) (x9 : Vec Ideal S1x256x4096 .fp8e4m3) (x16 : Vec Ideal S768x4096 .fp8e4m3) (x17 : Vec Ideal S768x4096 .fp8e5m2) (hscr : t.val % 7 ≠ 0 → ScrOK x6 x7 x16 x17) (ee : Fin 8) (hee : ee.val = (grid0.coords t 0).val) (W : Waits sig Unit) (K : PUnit → sProp 𝕄) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ (∃ d, owns (c : Thread nD τ) arg21 fullShare d) ∗ (∃ d, owns (c : Thread nD τ) arg22 fullShare d) ∗ (∃ f, wpieceP0_0 c (Ring.bk 56 t.val) 0 f) ∗ (∃ f, wpieceP0_0 c (Ring.bk 56 t.val) 1 f) ∗ wcellP0_0 c (Ring.sl 2 t.val) ∗ (∃ e, wtileP0_0 c (Ring.sl 2 t.val) 0 e) ∗ (∃ e, wtileP0_0 c (Ring.sl 2 t.val) 1 e) ∗ owes (c : Thread nD τ) 0 W
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, ⌜RowsH (x2 (ix1 ee)) (HX (x3 (ix1 0)) (x3 (ix1 1)) x4 x6 x8 ee) d⌝ ∗ owns (c : Thread nD τ) arg10 fullShare d) ∗ (∃ d, ⌜RowsD (x2 (ix1 ee)) (DX (x3 (ix1 0)) (x3 (ix1 2)) (x3 (ix1 3)) x4 x5 x6 x7 x8 x9 ee) d⌝ ∗ owns (c : Thread nD τ) arg11 fullShare d) ∗ (∃ d, owns (c : Thread nD τ) arg13 fullShare d) ∗ (∃ d, owns (c : Thread nD τ) arg14 fullShare d) ∗ (∃ d, owns (c : Thread nD τ) arg15 fullShare d) ∗ (∃ y16 y17, ⌜ScrOK x6 x7 y16 y17⌝ ∗ owns (c : Thread nD τ) arg16 fullShare y16 ∗ owns (c : Thread nD τ) arg17 fullShare y17) ∗ (∃ d, owns (c : Thread nD τ) arg18 fullShare d) ∗ (∃ d, owns (c : Thread nD τ) arg19 fullShare d) ∗ (∃ d, owns (c : Thread nD τ) arg21 fullShare d) ∗ (∃ d, owns (c : Thread nD τ) arg22 fullShare d) ∗ winfl0_0 c (Ring.sl 2 t.val) (Ring.bk 56 t.val) ∗ (∃ W', owes (c : Thread nD τ) 0 W')) -∗ K ⟨⟩)) : sProp 𝕄)
    ⊢ wp frame (wpE (defs₀ (F := Ideal)) Variants.none c none) Set.univ (cc0_experts (grid0.coords t) arg2 harg2 arg3 harg3 arg4 harg4 arg5 harg5 arg6 harg6 arg7 harg7 arg8 harg8 arg9 harg9 arg10 harg10 arg11 harg11 (Memref.whole main_v13_2) (Memref.isWhole_whole _) arg13 harg13 arg14 harg14 arg15 harg15 arg16 harg16 arg17 harg17 arg18 harg18 arg19 harg19 scM0_4 (Memref.isWhole_whole _) arg21 harg21 arg22 harg22 cc0_scratch7) K := by
  haveI : Fact (¬cond0_0 (grid0.coords t)) := ⟨hc0⟩
  haveI : Fact (¬cond0_1 (grid0.coords t)) := ⟨hc1⟩
  simp only [cc0_experts_eq_skeleton]; unfold cc0_experts_skel
  simp only [k0_part37_eq_skeleton, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d13, %f13, -, H13⟩, ⟨%d14, %f14, -, H14⟩, ⟨%d15, %f15, -, H15⟩, ⟨%f16, %hf16, H16⟩, ⟨%f17, %hf17, H17⟩, ⟨%d18, %f18, -, H18⟩, ⟨%d19, %f19, -, H19⟩, ⟨%d21, %f21, -, H21⟩, ⟨%d22, %f22, -, H22⟩, ⟨%fp0, Hp0_0_0⟩, ⟨%fp1, Hp0_0_1⟩, Hq0_0, ⟨%et0, Ht0⟩, ⟨%et1, Ht1⟩, HW, Hk⟩
  have hD0_0 := wstorable_dlv0_0 (F := Ideal) c (Ring.bk 56 t.val) (Ring.sl 2 t.val)
  imod (Transfers.batch_alloc' (Lvl := ℕ) countersEmb (c : Thread nD τ) default wN0_0 (wdlv0_0 c (Ring.bk 56 t.val) (Ring.sl 2 t.val)) (sm := wcellR0_0 (Ring.sl 2 t.val)) (E := Set.univ)) $$ Hq0_0 with HN0_0
  clear hD0_0
  have hcut := part38 c t ee hee arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg21 harg21 arg22 harg22
  sl_exec (disch := first | sl_exact hc0 | sl_exact hc1)
  have hv12 : ∀ t : Fin cfg0.N, run_A.sl.v12 t = 1#1 ↔ t.val % 7 = 0 := by decide +kernel
  have hv9 : ∀ t : Fin cfg0.N, run_A.sl.v9 t = 1#1 → run_A.sl.v12 t = 1#1 := by decide +kernel
  have hoff : k0_off5 (grid0.coords t) 0 = ee.val := by
    have : (grid0.coords t 0).val < 8 := (grid0.coords t 0).isLt
    simp [k0_off5, Scalar.indexCast, ← hee]; omega
  have hn : Scalar.select (run_A.sl.v34 c t arg2 f2) (Scalar.subi (run_A.sl.v20 c t arg2 f2) 1#32) (run_A.sl.v20 c t arg2 f2) = chunks (x2 (ix1 ee)) := by
    refine Eq.trans (b := chunks (View.readAt (Elt Ideal) arg2.view (Rect.unit (s := S8) (k0_off5 (grid0.coords t)) S1.size (k0_off5_inb (grid0.coords t))).toLoadRect f2 (Shape.Idx.first (numel1_S1.symm ▸ Nat.one_pos)))) rfl (congrArg chunks ?_)
    rw [← hf2]; exact congrArg (arg2.view.read (Elt Ideal) f2) (idx_unit1 _ _ _ ee hoff)
  have e0 : run_A.sl.r c arg3 f3 = x3 (ix1 0) := by
    unfold run_A.sl.r; rw [← hf3]; exact congrArg (arg3.view.read (Elt Ideal) f3) (idx_unit1 _ _ _ 0 rfl)
  have e1 : run_A.sl.r_1 c arg3 f3 = x3 (ix1 1) := by
    unfold run_A.sl.r_1; rw [← hf3]; exact congrArg (arg3.view.read (Elt Ideal) f3) (idx_unit1 _ _ _ 1 rfl)
  have e2 : run_A.sl.r_2 c arg3 f3 = x3 (ix1 2) := by
    unfold run_A.sl.r_2; rw [← hf3]; exact congrArg (arg3.view.read (Elt Ideal) f3) (idx_unit1 _ _ _ 2 rfl)
  have e3 : run_A.sl.r_3 c arg3 f3 = x3 (ix1 3) := by
    unfold run_A.sl.r_3; rw [← hf3]; exact congrArg (arg3.view.read (Elt Ideal) f3) (idx_unit1 _ _ _ 3 rfl)
  sl_step
  iapply Hk
  isplitl [Hk0_part38_0]
  · iexists _; isplitr; · ipureintro; exact hf2
    iexact Hk0_part38_0
  isplitl [Hk0_part38_1]
  · iexists _; isplitr; · ipureintro; exact hf3
    iexact Hk0_part38_1
  isplitl [Hk0_part38_2]
  · iexists _; isplitr; · ipureintro; exact hf4
    iexact Hk0_part38_2
  isplitl [Hk0_part38_3]
  · iexists _; isplitr; · ipureintro; exact hf5
    iexact Hk0_part38_3
  isplitl [Hk0_part38_4]
  · iexists _; isplitr; · ipureintro; exact hf6
    iexact Hk0_part38_4
  isplitl [Hk0_part38_5]
  · iexists _; isplitr; · ipureintro; exact hf7
    iexact Hk0_part38_5
  isplitl [Hk0_part38_6]
  · iexists _; isplitr; · ipureintro; exact hf8
    iexact Hk0_part38_6
  isplitl [Hk0_part38_7]
  · iexists _; isplitr; · ipureintro; exact hf9
    iexact Hk0_part38_7
  isplitl [Hk0_part38_11]
  · iexists _; isplitr; swap
    · iexists _; isplitr; swap; · iexact Hk0_part38_11
      ipureintro; rfl
    ipureintro
    refine rowsH_of _ _ hn _ _ _ hk0_part38_10 fun r q => ?_
    unfold HG HX
    rw [hf4, hf8, e0, e1]
    exact congrArg (fun x => HC x x8 _ _ q) (scr16 arg6 arg16 c _ _ (hv9 t) f6 f16 x6 x16 hf6 hf16 _ (fun h => (hscr fun h7 => h ((hv12 t).mpr h7)).1) _ _ r)
  isplitl [Hk0_part38_13]
  · iexists _; isplitr; swap
    · iexists _; isplitr; swap; · iexact Hk0_part38_13
      ipureintro; rfl
    ipureintro
    refine rowsD_of _ _ hn _ _ _ hk0_part38_12 fun g r q => ?_
    unfold DG DX
    rw [hf4, hf5, hf8, hf9, e0, e2, e3]
    exact congrArg₂ (fun x y => DC g x y x8 x9 _ _ _ q) (scr16 arg6 arg16 c _ _ (hv9 t) f6 f16 x6 x16 hf6 hf16 _ (fun h => (hscr fun h7 => h ((hv12 t).mpr h7)).1) _ _ r) (scr17 arg7 arg17 c _ _ (hv9 t) f7 f17 x7 x17 hf7 hf17 _ (fun h => (hscr fun h7 => h ((hv12 t).mpr h7)).2) _ _ r)
  isplitl [Hk0_part38_14]
  · iexists _, _; isplitr; swap; · iexact Hk0_part38_14
    ipureintro; rfl
  isplitl [H14]
  · iexists _, _; isplitr; swap; · iexact H14
    ipureintro; rfl
  isplitl [H15]
  · iexists _, _; isplitr; swap; · iexact H15
    ipureintro; rfl
  isplitl [Hk0_part38_8 Hk0_part38_9]
  · iexists _, _; isplitr; swap
    · isplitl [Hk0_part38_8]
      · iexists _; isplitr; swap; · iexact Hk0_part38_8
        ipureintro; rfl
      iexists _; isplitr; swap; · iexact Hk0_part38_9
      ipureintro; rfl
    ipureintro
    exact ⟨fun r => (scr16 arg6 arg16 c _ _ (hv9 t) f6 f16 x6 x16 hf6 hf16 _ (fun h => (hscr fun h7 => h ((hv12 t).mpr h7)).1) _ _ r), fun r => (scr17 arg7 arg17 c _ _ (hv9 t) f7 f17 x7 x17 hf7 hf17 _ (fun h => (hscr fun h7 => h ((hv12 t).mpr h7)).2) _ _ r)⟩
  isplitl [Hk0_part38_15]
  · iexists _, _; isplitr; swap; · iexact Hk0_part38_15
    ipureintro; rfl
  isplitl [Hk0_part38_16]
  · iexists _, _; isplitr; swap; · iexact Hk0_part38_16
    ipureintro; rfl
  isplitl [Hk0_part38_17]
  · iexists _, _; isplitr; swap; · iexact Hk0_part38_17
    ipureintro; rfl
  isplitl [Hk0_part38_18]
  · iexists _, _; isplitr; swap; · iexact Hk0_part38_18
    ipureintro; rfl
  isplitl [HN0_0]; · iexact HN0_0
  iexists _; iexact HW

end Cert.ExpertsIdeal.Gen

end
-- ==== Proof.ExpertsIdealRunB.lean ====
/- The experts body at a point that waits for the transfers started two points before. -/
module

public import proofs.«01_k».proof.Proof.ExpertsIdealRunA

@[expose] public section

set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Experts.Spec

local notation "𝕄" => MT nD τ sig Unit (Elt Ideal) ℕ (Pipeline.UD sig nD τ) ℕ

set_option maxHeartbeats 6400000 in
/-- The body at a point that waits for the transfers started two points before: the inputs' buffers end as they were, the codes are those of the rows that count. -/
theorem run_B (c : Dev nD) (t : Fin cfg0.N) (arg2 : Memref sig .tc .smem S8 .i32) (harg2 : arg2.IsWhole) (arg3 : Memref sig .tc .smem S4 .f32) (harg3 : arg3.IsWhole) (arg4 : Memref sig .tc .smem S8 .f32) (harg4 : arg4.IsWhole) (arg5 : Memref sig .tc .smem S8 .f32) (harg5 : arg5.IsWhole) (arg6 : Memref sig .tc .vmem S1x720x4096 .fp8e4m3) (harg6 : arg6.IsWhole) (arg7 : Memref sig .tc .vmem S1x720x4096 .fp8e5m2) (harg7 : arg7.IsWhole) (arg8 : Memref sig .tc .vmem S1x2x4096x256 .fp8e4m3) (harg8 : arg8.IsWhole) (arg9 : Memref sig .tc .vmem S1x256x4096 .fp8e4m3) (harg9 : arg9.IsWhole) (arg10 : Memref sig .tc .vmem S1x720x256 .fp8e4m3) (harg10 : arg10.IsWhole) (arg11 : Memref sig .tc .vmem S1x2x720x256 .fp8e5m2) (harg11 : arg11.IsWhole) (arg13 : Memref sig .tc .vmem S1x256x4096 .bf16) (harg13 : arg13.IsWhole) (arg14 : Memref sig .tc .smem S1x1 .f32) (harg14 : arg14.IsWhole) (arg15 : Memref sig .tc .smem S1x1 .f32) (harg15 : arg15.IsWhole) (arg16 : Memref sig .tc .vmem S768x4096 .fp8e4m3) (harg16 : arg16.IsWhole) (arg17 : Memref sig .tc .vmem S768x4096 .fp8e5m2) (harg17 : arg17.IsWhole) (arg18 : Memref sig .tc .vmem S768x256 .fp8e4m3) (harg18 : arg18.IsWhole) (arg19 : Memref sig .tc .vmem S768x512 .fp8e5m2) (harg19 : arg19.IsWhole) (arg21 : Memref sig .tc .vmem S8x128 .f32) (harg21 : arg21.IsWhole) (arg22 : Memref sig .tc .vmem S8x128 .f32) (harg22 : arg22.IsWhole) (hc0 : cond0_0 (grid0.coords t)) (hc1 : ¬cond0_1 (grid0.coords t))
    (x2 : Vec Ideal S8 .i32) (x3 : Vec Ideal S4 .f32) (x4 : Vec Ideal S8 .f32) (x5 : Vec Ideal S8 .f32) (x6 : Vec Ideal S1x720x4096 .fp8e4m3) (x7 : Vec Ideal S1x720x4096 .fp8e5m2) (x8 : Vec Ideal S1x2x4096x256 .fp8e4m3) (x9 : Vec Ideal S1x256x4096 .fp8e4m3) (x16 : Vec Ideal S768x4096 .fp8e4m3) (x17 : Vec Ideal S768x4096 .fp8e5m2) (hscr : t.val % 7 ≠ 0 → ScrOK x6 x7 x16 x17) (ee : Fin 8) (hee : ee.val = (grid0.coords t 0).val) (W : Waits sig Unit) (K : PUnit → sProp 𝕄) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ (∃ d, owns (c : Thread nD τ) arg21 fullShare d) ∗ (∃ d, owns (c : Thread nD τ) arg22 fullShare d) ∗ (∃ f, wpieceP0_0 c (Ring.bk 56 t.val) 0 f) ∗ (∃ f, wpieceP0_0 c (Ring.bk 56 t.val) 1 f) ∗ winfl0_0 c (Ring.sl 2 t.val) (Ring.bk 56 (t.val - 2)) ∗ owes (c : Thread nD τ) 0 W
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, ⌜RowsH (x2 (ix1 ee)) (HX (x3 (ix1 0)) (x3 (ix1 1)) x4 x6 x8 ee) d⌝ ∗ owns (c : Thread nD τ) arg10 fullShare d) ∗ (∃ d, ⌜RowsD (x2 (ix1 ee)) (DX (x3 (ix1 0)) (x3 (ix1 2)) (x3 (ix1 3)) x4 x5 x6 x7 x8 x9 ee) d⌝ ∗ owns (c : Thread nD τ) arg11 fullShare d) ∗ (∃ d, owns (c : Thread nD τ) arg13 fullShare d) ∗ (∃ d, owns (c : Thread nD τ) arg14 fullShare d) ∗ (∃ d, owns (c : Thread nD τ) arg15 fullShare d) ∗ (∃ y16 y17, ⌜ScrOK x6 x7 y16 y17⌝ ∗ owns (c : Thread nD τ) arg16 fullShare y16 ∗ owns (c : Thread nD τ) arg17 fullShare y17) ∗ (∃ d, owns (c : Thread nD τ) arg18 fullShare d) ∗ (∃ d, owns (c : Thread nD τ) arg19 fullShare d) ∗ (∃ d, owns (c : Thread nD τ) arg21 fullShare d) ∗ (∃ d, owns (c : Thread nD τ) arg22 fullShare d) ∗ (∃ f, wpieceP0_0 c (Ring.bk 56 (t.val - 2)) 0 f) ∗ (∃ f, wpieceP0_0 c (Ring.bk 56 (t.val - 2)) 1 f) ∗ winfl0_0 c (Ring.sl 2 t.val) (Ring.bk 56 t.val) ∗ (∃ W', owes (c : Thread nD τ) 0 W')) -∗ K ⟨⟩)) : sProp 𝕄)
    ⊢ wp frame (wpE (defs₀ (F := Ideal)) Variants.none c none) Set.univ (cc0_experts (grid0.coords t) arg2 harg2 arg3 harg3 arg4 harg4 arg5 harg5 arg6 harg6 arg7 harg7 arg8 harg8 arg9 harg9 arg10 harg10 arg11 harg11 (Memref.whole main_v13_2) (Memref.isWhole_whole _) arg13 harg13 arg14 harg14 arg15 harg15 arg16 harg16 arg17 harg17 arg18 harg18 arg19 harg19 scM0_4 (Memref.isWhole_whole _) arg21 harg21 arg22 harg22 cc0_scratch7) K := by
  haveI : Fact (cond0_0 (grid0.coords t)) := ⟨hc0⟩
  haveI : Fact (¬cond0_1 (grid0.coords t)) := ⟨hc1⟩
  simp only [cc0_experts_eq_skeleton]; unfold cc0_experts_skel
  simp only [k0_part37_eq_skeleton, k0_part1_eq_skeleton]
  unfold owns
  refine bind_run c _ _ _ _ fun Q hQ => ?_
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d13, %f13, -, H13⟩, ⟨%d14, %f14, -, H14⟩, ⟨%d15, %f15, -, H15⟩, ⟨%f16, %hf16, H16⟩, ⟨%f17, %hf17, H17⟩, ⟨%d18, %f18, -, H18⟩, ⟨%d19, %f19, -, H19⟩, ⟨%d21, %f21, -, H21⟩, ⟨%d22, %f22, -, H22⟩, ⟨%fp0, Hp0_0_0⟩, ⟨%fp1, Hp0_0_1⟩, HF0_0, HW, Hk⟩
  sl_exec (disch := first | sl_exact hc0 | sl_exact hc1)
  sl_step
  rw [hQ]
  icases HF0_0_src0 with ⟨%eF0, HtF0⟩
  icases HF0_0_src1 with ⟨%eF1, HtF1⟩
  have hD0_0 := wstorable_dlv0_0 (F := Ideal) c (Ring.bk 56 t.val) (Ring.sl 2 t.val)
  imod (Transfers.batch_alloc' (Lvl := ℕ) countersEmb (c : Thread nD τ) default wN0_0 (wdlv0_0 c (Ring.bk 56 t.val) (Ring.sl 2 t.val)) (sm := wcellR0_0 (Ring.sl 2 t.val)) (E := Set.univ)) $$ HF0_0 with HN0_0
  clear hD0_0
  have hcut := part38 c t ee hee arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg21 harg21 arg22 harg22
  sl_exec (disch := first | sl_exact hc0 | sl_exact hc1)
  have hv12 : ∀ t : Fin cfg0.N, run_B.sl.v12 t = 1#1 ↔ t.val % 7 = 0 := by decide +kernel
  have hv9 : ∀ t : Fin cfg0.N, run_B.sl.v9 t = 1#1 → run_B.sl.v12 t = 1#1 := by decide +kernel
  have hoff : k0_off5 (grid0.coords t) 0 = ee.val := by
    have : (grid0.coords t 0).val < 8 := (grid0.coords t 0).isLt
    simp [k0_off5, Scalar.indexCast, ← hee]; omega
  have hn : Scalar.select (run_B.sl.v34 c t arg2 f2) (Scalar.subi (run_B.sl.v20 c t arg2 f2) 1#32) (run_B.sl.v20 c t arg2 f2) = chunks (x2 (ix1 ee)) := by
    refine Eq.trans (b := chunks (View.readAt (Elt Ideal) arg2.view (Rect.unit (s := S8) (k0_off5 (grid0.coords t)) S1.size (k0_off5_inb (grid0.coords t))).toLoadRect f2 (Shape.Idx.first (numel1_S1.symm ▸ Nat.one_pos)))) rfl (congrArg chunks ?_)
    rw [← hf2]; exact congrArg (arg2.view.read (Elt Ideal) f2) (idx_unit1 _ _ _ ee hoff)
  have e0 : run_B.sl.r c arg3 f3 = x3 (ix1 0) := by
    unfold run_B.sl.r; rw [← hf3]; exact congrArg (arg3.view.read (Elt Ideal) f3) (idx_unit1 _ _ _ 0 rfl)
  have e1 : run_B.sl.r_1 c arg3 f3 = x3 (ix1 1) := by
    unfold run_B.sl.r_1; rw [← hf3]; exact congrArg (arg3.view.read (Elt Ideal) f3) (idx_unit1 _ _ _ 1 rfl)
  have e2 : run_B.sl.r_2 c arg3 f3 = x3 (ix1 2) := by
    unfold run_B.sl.r_2; rw [← hf3]; exact congrArg (arg3.view.read (Elt Ideal) f3) (idx_unit1 _ _ _ 2 rfl)
  have e3 : run_B.sl.r_3 c arg3 f3 = x3 (ix1 3) := by
    unfold run_B.sl.r_3; rw [← hf3]; exact congrArg (arg3.view.read (Elt Ideal) f3) (idx_unit1 _ _ _ 3 rfl)
  sl_step
  iapply Hk
  isplitl [Hk0_part38_0]
  · iexists _; isplitr; · ipureintro; exact hf2
    iexact Hk0_part38_0
  isplitl [Hk0_part38_1]
  · iexists _; isplitr; · ipureintro; exact hf3
    iexact Hk0_part38_1
  isplitl [Hk0_part38_2]
  · iexists _; isplitr; · ipureintro; exact hf4
    iexact Hk0_part38_2
  isplitl [Hk0_part38_3]
  · iexists _; isplitr; · ipureintro; exact hf5
    iexact Hk0_part38_3
  isplitl [Hk0_part38_4]
  · iexists _; isplitr; · ipureintro; exact hf6
    iexact Hk0_part38_4
  isplitl [Hk0_part38_5]
  · iexists _; isplitr; · ipureintro; exact hf7
    iexact Hk0_part38_5
  isplitl [Hk0_part38_6]
  · iexists _; isplitr; · ipureintro; exact hf8
    iexact Hk0_part38_6
  isplitl [Hk0_part38_7]
  · iexists _; isplitr; · ipureintro; exact hf9
    iexact Hk0_part38_7
  isplitl [Hk0_part38_11]
  · iexists _; isplitr; swap
    · iexists _; isplitr; swap; · iexact Hk0_part38_11
      ipureintro; rfl
    ipureintro
    refine rowsH_of _ _ hn _ _ _ hk0_part38_10 fun r q => ?_
    unfold HG HX
    rw [hf4, hf8, e0, e1]
    exact congrArg (fun x => HC x x8 _ _ q) (scr16 arg6 arg16 c _ _ (hv9 t) f6 f16 x6 x16 hf6 hf16 _ (fun h => (hscr fun h7 => h ((hv12 t).mpr h7)).1) _ _ r)
  isplitl [Hk0_part38_13]
  · iexists _; isplitr; swap
    · iexists _; isplitr; swap; · iexact Hk0_part38_13
      ipureintro; rfl
    ipureintro
    refine rowsD_of _ _ hn _ _ _ hk0_part38_12 fun g r q => ?_
    unfold DG DX
    rw [hf4, hf5, hf8, hf9, e0, e2, e3]
    exact congrArg₂ (fun x y => DC g x y x8 x9 _ _ _ q) (scr16 arg6 arg16 c _ _ (hv9 t) f6 f16 x6 x16 hf6 hf16 _ (fun h => (hscr fun h7 => h ((hv12 t).mpr h7)).1) _ _ r) (scr17 arg7 arg17 c _ _ (hv9 t) f7 f17 x7 x17 hf7 hf17 _ (fun h => (hscr fun h7 => h ((hv12 t).mpr h7)).2) _ _ r)
  isplitl [Hk0_part38_14]
  · iexists _, _; isplitr; swap; · iexact Hk0_part38_14
    ipureintro; rfl
  isplitl [H14]
  · iexists _, _; isplitr; swap; · iexact H14
    ipureintro; rfl
  isplitl [H15]
  · iexists _, _; isplitr; swap; · iexact H15
    ipureintro; rfl
  isplitl [Hk0_part38_8 Hk0_part38_9]
  · iexists _, _; isplitr; swap
    · isplitl [Hk0_part38_8]
      · iexists _; isplitr; swap; · iexact Hk0_part38_8
        ipureintro; rfl
      iexists _; isplitr; swap; · iexact Hk0_part38_9
      ipureintro; rfl
    ipureintro
    exact ⟨fun r => (scr16 arg6 arg16 c _ _ (hv9 t) f6 f16 x6 x16 hf6 hf16 _ (fun h => (hscr fun h7 => h ((hv12 t).mpr h7)).1) _ _ r), fun r => (scr17 arg7 arg17 c _ _ (hv9 t) f7 f17 x7 x17 hf7 hf17 _ (fun h => (hscr fun h7 => h ((hv12 t).mpr h7)).2) _ _ r)⟩
  isplitl [Hk0_part38_15]
  · iexists _, _; isplitr; swap; · iexact Hk0_part38_15
    ipureintro; rfl
  isplitl [Hk0_part38_16]
  · iexists _, _; isplitr; swap; · iexact Hk0_part38_16
    ipureintro; rfl
  isplitl [Hk0_part38_17]
  · iexists _, _; isplitr; swap; · iexact Hk0_part38_17
    ipureintro; rfl
  isplitl [Hk0_part38_18]
  · iexists _, _; isplitr; swap; · iexact Hk0_part38_18
    ipureintro; rfl
  isplitl [HF0_0_dst0]; · iexact HF0_0_dst0
  isplitl [HF0_0_dst1]; · iexact HF0_0_dst1
  isplitl [HN0_0]; · iexact HN0_0
  iexists _; iexact HW

end Cert.ExpertsIdeal.Gen

end
-- ==== Proof.ExpertsIdealRunC.lean ====
/- The experts body at the last point, which waits for every transfer. -/
module

public import proofs.«01_k».proof.Proof.ExpertsIdealRunB

@[expose] public section

set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Experts.Spec

local notation "𝕄" => MT nD τ sig Unit (Elt Ideal) ℕ (Pipeline.UD sig nD τ) ℕ

set_option maxHeartbeats 6400000 in
/-- The body at the last point, which waits for every transfer: the inputs' buffers end as they were, the codes are those of the rows that count. -/
theorem run_C (c : Dev nD) (t : Fin cfg0.N) (arg2 : Memref sig .tc .smem S8 .i32) (harg2 : arg2.IsWhole) (arg3 : Memref sig .tc .smem S4 .f32) (harg3 : arg3.IsWhole) (arg4 : Memref sig .tc .smem S8 .f32) (harg4 : arg4.IsWhole) (arg5 : Memref sig .tc .smem S8 .f32) (harg5 : arg5.IsWhole) (arg6 : Memref sig .tc .vmem S1x720x4096 .fp8e4m3) (harg6 : arg6.IsWhole) (arg7 : Memref sig .tc .vmem S1x720x4096 .fp8e5m2) (harg7 : arg7.IsWhole) (arg8 : Memref sig .tc .vmem S1x2x4096x256 .fp8e4m3) (harg8 : arg8.IsWhole) (arg9 : Memref sig .tc .vmem S1x256x4096 .fp8e4m3) (harg9 : arg9.IsWhole) (arg10 : Memref sig .tc .vmem S1x720x256 .fp8e4m3) (harg10 : arg10.IsWhole) (arg11 : Memref sig .tc .vmem S1x2x720x256 .fp8e5m2) (harg11 : arg11.IsWhole) (arg13 : Memref sig .tc .vmem S1x256x4096 .bf16) (harg13 : arg13.IsWhole) (arg14 : Memref sig .tc .smem S1x1 .f32) (harg14 : arg14.IsWhole) (arg15 : Memref sig .tc .smem S1x1 .f32) (harg15 : arg15.IsWhole) (arg16 : Memref sig .tc .vmem S768x4096 .fp8e4m3) (harg16 : arg16.IsWhole) (arg17 : Memref sig .tc .vmem S768x4096 .fp8e5m2) (harg17 : arg17.IsWhole) (arg18 : Memref sig .tc .vmem S768x256 .fp8e4m3) (harg18 : arg18.IsWhole) (arg19 : Memref sig .tc .vmem S768x512 .fp8e5m2) (harg19 : arg19.IsWhole) (arg21 : Memref sig .tc .vmem S8x128 .f32) (harg21 : arg21.IsWhole) (arg22 : Memref sig .tc .vmem S8x128 .f32) (harg22 : arg22.IsWhole) (hc0 : cond0_0 (grid0.coords t)) (hc1 : cond0_1 (grid0.coords t))
    (x2 : Vec Ideal S8 .i32) (x3 : Vec Ideal S4 .f32) (x4 : Vec Ideal S8 .f32) (x5 : Vec Ideal S8 .f32) (x6 : Vec Ideal S1x720x4096 .fp8e4m3) (x7 : Vec Ideal S1x720x4096 .fp8e5m2) (x8 : Vec Ideal S1x2x4096x256 .fp8e4m3) (x9 : Vec Ideal S1x256x4096 .fp8e4m3) (x16 : Vec Ideal S768x4096 .fp8e4m3) (x17 : Vec Ideal S768x4096 .fp8e5m2) (hscr : t.val % 7 ≠ 0 → ScrOK x6 x7 x16 x17) (ee : Fin 8) (hee : ee.val = (grid0.coords t 0).val) (W : Waits sig Unit) (K : PUnit → sProp 𝕄) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ (∃ d, owns (c : Thread nD τ) arg21 fullShare d) ∗ (∃ d, owns (c : Thread nD τ) arg22 fullShare d) ∗ (∃ f, wpieceP0_0 c (Ring.bk 56 t.val) 0 f) ∗ (∃ f, wpieceP0_0 c (Ring.bk 56 t.val) 1 f) ∗ winfl0_0 c (Ring.sl 2 t.val) (Ring.bk 56 (t.val - 2)) ∗ winfl0_0 c (Ring.sl 2 (t.val + 1)) (Ring.bk 56 (t.val - 1)) ∗ owes (c : Thread nD τ) 0 W
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, ⌜RowsH (x2 (ix1 ee)) (HX (x3 (ix1 0)) (x3 (ix1 1)) x4 x6 x8 ee) d⌝ ∗ owns (c : Thread nD τ) arg10 fullShare d) ∗ (∃ d, ⌜RowsD (x2 (ix1 ee)) (DX (x3 (ix1 0)) (x3 (ix1 2)) (x3 (ix1 3)) x4 x5 x6 x7 x8 x9 ee) d⌝ ∗ owns (c : Thread nD τ) arg11 fullShare d) ∗ (∃ d, owns (c : Thread nD τ) arg13 fullShare d) ∗ (∃ d, owns (c : Thread nD τ) arg14 fullShare d) ∗ (∃ d, owns (c : Thread nD τ) arg15 fullShare d) ∗ (∃ y16 y17, ⌜ScrOK x6 x7 y16 y17⌝ ∗ owns (c : Thread nD τ) arg16 fullShare y16 ∗ owns (c : Thread nD τ) arg17 fullShare y17) ∗ (∃ d, owns (c : Thread nD τ) arg18 fullShare d) ∗ (∃ d, owns (c : Thread nD τ) arg19 fullShare d) ∗ (∃ d, owns (c : Thread nD τ) arg21 fullShare d) ∗ (∃ d, owns (c : Thread nD τ) arg22 fullShare d) ∗ (∃ f, wpieceP0_0 c (Ring.bk 56 t.val) 0 f) ∗ (∃ f, wpieceP0_0 c (Ring.bk 56 t.val) 1 f) ∗ (∃ f, wpieceP0_0 c (Ring.bk 56 (t.val - 2)) 0 f) ∗ (∃ f, wpieceP0_0 c (Ring.bk 56 (t.val - 2)) 1 f) ∗ (∃ f, wpieceP0_0 c (Ring.bk 56 (t.val - 1)) 0 f) ∗ (∃ f, wpieceP0_0 c (Ring.bk 56 (t.val - 1)) 1 f) ∗ wcellP0_0 c (Ring.sl 2 t.val) ∗ (∃ e, wtileP0_0 c (Ring.sl 2 t.val) 0 e) ∗ (∃ e, wtileP0_0 c (Ring.sl 2 t.val) 1 e) ∗ wcellP0_0 c (Ring.sl 2 (t.val + 1)) ∗ (∃ e, wtileP0_0 c (Ring.sl 2 (t.val + 1)) 0 e) ∗ (∃ e, wtileP0_0 c (Ring.sl 2 (t.val + 1)) 1 e) ∗ (∃ W', owes (c : Thread nD τ) 0 W')) -∗ K ⟨⟩)) : sProp 𝕄)
    ⊢ wp frame (wpE (defs₀ (F := Ideal)) Variants.none c none) Set.univ (cc0_experts (grid0.coords t) arg2 harg2 arg3 harg3 arg4 harg4 arg5 harg5 arg6 harg6 arg7 harg7 arg8 harg8 arg9 harg9 arg10 harg10 arg11 harg11 (Memref.whole main_v13_2) (Memref.isWhole_whole _) arg13 harg13 arg14 harg14 arg15 harg15 arg16 harg16 arg17 harg17 arg18 harg18 arg19 harg19 scM0_4 (Memref.isWhole_whole _) arg21 harg21 arg22 harg22 cc0_scratch7) K := by
  haveI : Fact (cond0_0 (grid0.coords t)) := ⟨hc0⟩
  haveI : Fact (cond0_1 (grid0.coords t)) := ⟨hc1⟩
  simp only [cc0_experts_eq_skeleton]; unfold cc0_experts_skel
  simp only [k0_part37_eq_skeleton, k0_part1_eq_skeleton, k0_part35_eq_skeleton, k0_part36_eq_skeleton]
  unfold owns
  refine bind_run c _ _ _ _ fun Q hQ => ?_
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d13, %f13, -, H13⟩, ⟨%d14, %f14, -, H14⟩, ⟨%d15, %f15, -, H15⟩, ⟨%f16, %hf16, H16⟩, ⟨%f17, %hf17, H17⟩, ⟨%d18, %f18, -, H18⟩, ⟨%d19, %f19, -, H19⟩, ⟨%d21, %f21, -, H21⟩, ⟨%d22, %f22, -, H22⟩, ⟨%fp0, Hp0_0_0⟩, ⟨%fp1, Hp0_0_1⟩, HF0_0, HI0_0, HW, Hk⟩
  sl_exec (disch := first | sl_exact hc0 | sl_exact hc1)
  sl_step
  rw [hQ]
  icases HF0_0_src0 with ⟨%eF0, HtF0⟩
  icases HF0_0_src1 with ⟨%eF1, HtF1⟩
  have hD0_0 := wstorable_dlv0_0 (F := Ideal) c (Ring.bk 56 t.val) (Ring.sl 2 t.val)
  imod (Transfers.batch_alloc' (Lvl := ℕ) countersEmb (c : Thread nD τ) default wN0_0 (wdlv0_0 c (Ring.bk 56 t.val) (Ring.sl 2 t.val)) (sm := wcellR0_0 (Ring.sl 2 t.val)) (E := Set.univ)) $$ HF0_0 with HN0_0
  clear hD0_0
  have hcut := part38 c t ee hee arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg21 harg21 arg22 harg22
  sl_exec (disch := first | sl_exact hc0 | sl_exact hc1)
  have hv12 : ∀ t : Fin cfg0.N, run_C.sl.v12 t = 1#1 ↔ t.val % 7 = 0 := by decide +kernel
  have hv9 : ∀ t : Fin cfg0.N, run_C.sl.v9 t = 1#1 → run_C.sl.v12 t = 1#1 := by decide +kernel
  have hoff : k0_off5 (grid0.coords t) 0 = ee.val := by
    have : (grid0.coords t 0).val < 8 := (grid0.coords t 0).isLt
    simp [k0_off5, Scalar.indexCast, ← hee]; omega
  have hn : Scalar.select (run_C.sl.v34 c t arg2 f2) (Scalar.subi (run_C.sl.v20 c t arg2 f2) 1#32) (run_C.sl.v20 c t arg2 f2) = chunks (x2 (ix1 ee)) := by
    refine Eq.trans (b := chunks (View.readAt (Elt Ideal) arg2.view (Rect.unit (s := S8) (k0_off5 (grid0.coords t)) S1.size (k0_off5_inb (grid0.coords t))).toLoadRect f2 (Shape.Idx.first (numel1_S1.symm ▸ Nat.one_pos)))) rfl (congrArg chunks ?_)
    rw [← hf2]; exact congrArg (arg2.view.read (Elt Ideal) f2) (idx_unit1 _ _ _ ee hoff)
  have e0 : run_C.sl.r c arg3 f3 = x3 (ix1 0) := by
    unfold run_C.sl.r; rw [← hf3]; exact congrArg (arg3.view.read (Elt Ideal) f3) (idx_unit1 _ _ _ 0 rfl)
  have e1 : run_C.sl.r_1 c arg3 f3 = x3 (ix1 1) := by
    unfold run_C.sl.r_1; rw [← hf3]; exact congrArg (arg3.view.read (Elt Ideal) f3) (idx_unit1 _ _ _ 1 rfl)
  have e2 : run_C.sl.r_2 c arg3 f3 = x3 (ix1 2) := by
    unfold run_C.sl.r_2; rw [← hf3]; exact congrArg (arg3.view.read (Elt Ideal) f3) (idx_unit1 _ _ _ 2 rfl)
  have e3 : run_C.sl.r_3 c arg3 f3 = x3 (ix1 3) := by
    unfold run_C.sl.r_3; rw [← hf3]; exact congrArg (arg3.view.read (Elt Ideal) f3) (idx_unit1 _ _ _ 3 rfl)
  sl_step
  iapply Hk
  isplitl [Hk0_part38_0]
  · iexists _; isplitr; · ipureintro; exact hf2
    iexact Hk0_part38_0
  isplitl [Hk0_part38_1]
  · iexists _; isplitr; · ipureintro; exact hf3
    iexact Hk0_part38_1
  isplitl [Hk0_part38_2]
  · iexists _; isplitr; · ipureintro; exact hf4
    iexact Hk0_part38_2
  isplitl [Hk0_part38_3]
  · iexists _; isplitr; · ipureintro; exact hf5
    iexact Hk0_part38_3
  isplitl [Hk0_part38_4]
  · iexists _; isplitr; · ipureintro; exact hf6
    iexact Hk0_part38_4
  isplitl [Hk0_part38_5]
  · iexists _; isplitr; · ipureintro; exact hf7
    iexact Hk0_part38_5
  isplitl [Hk0_part38_6]
  · iexists _; isplitr; · ipureintro; exact hf8
    iexact Hk0_part38_6
  isplitl [Hk0_part38_7]
  · iexists _; isplitr; · ipureintro; exact hf9
    iexact Hk0_part38_7
  isplitl [Hk0_part38_11]
  · iexists _; isplitr; swap
    · iexists _; isplitr; swap; · iexact Hk0_part38_11
      ipureintro; rfl
    ipureintro
    refine rowsH_of _ _ hn _ _ _ hk0_part38_10 fun r q => ?_
    unfold HG HX
    rw [hf4, hf8, e0, e1]
    exact congrArg (fun x => HC x x8 _ _ q) (scr16 arg6 arg16 c _ _ (hv9 t) f6 f16 x6 x16 hf6 hf16 _ (fun h => (hscr fun h7 => h ((hv12 t).mpr h7)).1) _ _ r)
  isplitl [Hk0_part38_13]
  · iexists _; isplitr; swap
    · iexists _; isplitr; swap; · iexact Hk0_part38_13
      ipureintro; rfl
    ipureintro
    refine rowsD_of _ _ hn _ _ _ hk0_part38_12 fun g r q => ?_
    unfold DG DX
    rw [hf4, hf5, hf8, hf9, e0, e2, e3]
    exact congrArg₂ (fun x y => DC g x y x8 x9 _ _ _ q) (scr16 arg6 arg16 c _ _ (hv9 t) f6 f16 x6 x16 hf6 hf16 _ (fun h => (hscr fun h7 => h ((hv12 t).mpr h7)).1) _ _ r) (scr17 arg7 arg17 c _ _ (hv9 t) f7 f17 x7 x17 hf7 hf17 _ (fun h => (hscr fun h7 => h ((hv12 t).mpr h7)).2) _ _ r)
  isplitl [Hk0_part38_14]
  · iexists _, _; isplitr; swap; · iexact Hk0_part38_14
    ipureintro; rfl
  isplitl [H14]
  · iexists _, _; isplitr; swap; · iexact H14
    ipureintro; rfl
  isplitl [H15]
  · iexists _, _; isplitr; swap; · iexact H15
    ipureintro; rfl
  isplitl [Hk0_part38_8 Hk0_part38_9]
  · iexists _, _; isplitr; swap
    · isplitl [Hk0_part38_8]
      · iexists _; isplitr; swap; · iexact Hk0_part38_8
        ipureintro; rfl
      iexists _; isplitr; swap; · iexact Hk0_part38_9
      ipureintro; rfl
    ipureintro
    exact ⟨fun r => (scr16 arg6 arg16 c _ _ (hv9 t) f6 f16 x6 x16 hf6 hf16 _ (fun h => (hscr fun h7 => h ((hv12 t).mpr h7)).1) _ _ r), fun r => (scr17 arg7 arg17 c _ _ (hv9 t) f7 f17 x7 x17 hf7 hf17 _ (fun h => (hscr fun h7 => h ((hv12 t).mpr h7)).2) _ _ r)⟩
  isplitl [Hk0_part38_15]
  · iexists _, _; isplitr; swap; · iexact Hk0_part38_15
    ipureintro; rfl
  isplitl [Hk0_part38_16]
  · iexists _, _; isplitr; swap; · iexact Hk0_part38_16
    ipureintro; rfl
  isplitl [Hk0_part38_17]
  · iexists _, _; isplitr; swap; · iexact Hk0_part38_17
    ipureintro; rfl
  isplitl [Hk0_part38_18]
  · iexists _, _; isplitr; swap; · iexact Hk0_part38_18
    ipureintro; rfl
  isplitl [HN0_0_dst0]; · iexact HN0_0_dst0
  isplitl [HN0_0_dst1]; · iexact HN0_0_dst1
  isplitl [HF0_0_dst0]; · iexact HF0_0_dst0
  isplitl [HF0_0_dst1]; · iexact HF0_0_dst1
  isplitl [HI0_0_dst0]; · iexact HI0_0_dst0
  isplitl [HI0_0_dst1]; · iexact HI0_0_dst1
  isplitl [HN0_0]; · iexact HN0_0
  isplitl [HN0_0_src0]; · iexact HN0_0_src0
  isplitl [HN0_0_src1]; · iexact HN0_0_src1
  isplitl [HI0_0]; · iexact HI0_0
  isplitl [HI0_0_src0]; · iexact HI0_0_src0
  isplitl [HI0_0_src1]; · iexact HI0_0_src1
  iexists _; iexact HW

end Cert.ExpertsIdeal.Gen

end
-- ==== Proof.ExpertsResult.lean ====
/- The codes that the experts call leaves in a row, as formulas over the contents of its arguments. -/
module

public import proofs.«01_k».proof.Proof.ExpertsSpec

@[expose] public section

noncomputable section

namespace Cert.Experts.Spec

open Idealize.ShloMosaic

/-- A scale of an expert: the common scale times the expert's. -/
def sc (s : Vec Ideal (⟨0, ![]⟩ : Shape) .f32) (w : Vec Ideal (⟨1, ![8]⟩ : Shape) .f32) (e : Fin 8) : EReal := (s ix0 : EReal) * (w (ix1 e) : EReal)

/-- One half of the first product, scaled, at an expert's row and column. -/
def pre (sx : Vec Ideal (⟨0, ![]⟩ : Shape) .f32) (s1 : Vec Ideal (⟨1, ![8]⟩ : Shape) .f32) (xs : Vec Ideal (⟨3, ![8, 720, 4096]⟩ : Shape) .fp8e4m3)
    (w1 : Vec Ideal (⟨4, ![8, 4096, 2, 1792]⟩ : Shape) .fp8e4m3) (g : Fin 2) (e : Fin 8) (r : Fin 720) (k : Fin 1792) : EReal :=
  dotS (fun d => xs (ix3 e r d)) (fun d => w1 (ix4 e d g k)) (sc sx s1 e)

/-- The gradient that comes back through the second weights, scaled. -/
def back (sd : Vec Ideal (⟨0, ![]⟩ : Shape) .f32) (s2 : Vec Ideal (⟨1, ![8]⟩ : Shape) .f32) (dy : Vec Ideal (⟨3, ![8, 720, 4096]⟩ : Shape) .fp8e5m2)
    (w2 : Vec Ideal (⟨3, ![8, 1792, 4096]⟩ : Shape) .fp8e4m3) (e : Fin 8) (r : Fin 720) (k : Fin 1792) : EReal :=
  dotS (fun d => dy (ix3 e r d)) (fun d => w2 (ix3 e k d)) (sc sd s2 e)

/-- The hidden codes. -/
def TH (sx sh : Vec Ideal (⟨0, ![]⟩ : Shape) .f32) (s1 : Vec Ideal (⟨1, ![8]⟩ : Shape) .f32) (xs : Vec Ideal (⟨3, ![8, 720, 4096]⟩ : Shape) .fp8e4m3)
    (w1 : Vec Ideal (⟨4, ![8, 4096, 2, 1792]⟩ : Shape) .fp8e4m3) (e : Fin 8) (r : Fin 720) (k : Fin 1792) : EReal :=
  hq (pre sx s1 xs w1 0 e r k) (pre sx s1 xs w1 1 e r k) (sh ix0)

/-- The gradient codes. -/
def TA (sx sd sa : Vec Ideal (⟨0, ![]⟩ : Shape) .f32) (s1 s2 : Vec Ideal (⟨1, ![8]⟩ : Shape) .f32) (xs : Vec Ideal (⟨3, ![8, 720, 4096]⟩ : Shape) .fp8e4m3)
    (dy : Vec Ideal (⟨3, ![8, 720, 4096]⟩ : Shape) .fp8e5m2) (w1 : Vec Ideal (⟨4, ![8, 4096, 2, 1792]⟩ : Shape) .fp8e4m3)
    (w2 : Vec Ideal (⟨3, ![8, 1792, 4096]⟩ : Shape) .fp8e4m3) (e : Fin 8) (g : Fin 2) (r : Fin 720) (k : Fin 1792) : EReal :=
  dq g (pre sx s1 xs w1 0 e r k) (pre sx s1 xs w1 1 e r k) (back sd s2 dy w2 e r k) (sa ix0)

end Cert.Experts.Spec

end
-- ==== Proof.ExpertsIdealBlocks.lean ====
/- The blocks that the experts kernel reads, at an index, as places of its argument arrays; the count of an expert's rows; and what the
   buffers are to hold at every point. -/
module

public import proofs.«01_k».proof.Proof.ExpertsIdealPure
public import proofs.«01_k».proof.Proof.ExpertsIdealRing
public import proofs.«01_k».proof.Proof.ExpertsResult
public import Idealize.ShloMosaic.Lib.Pipeline.ValueKit
public import Idealize.ShloMosaic.Lib.Claim
public import Idealize.ShloMosaic.Lib.Tactic

@[expose] public section

set_option maxRecDepth 16384

noncomputable section

namespace Cert.ExpertsIdeal.Gen

open Cert.Experts.Spec
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- The blocks' places: the expert is the point's number divided by seven, the column tile is the remainder. -/
theorem idx_facts : ∀ t : Fin cfg0.N, win0_0.index t = ![0] ∧ win0_1.index t = ![0] ∧ win0_2.index t = ![0] ∧ win0_3.index t = ![0]
    ∧ win0_4.index t = ![t.val / 7, 0, 0] ∧ win0_5.index t = ![t.val / 7, 0, 0] ∧ win0_6.index t = ![t.val / 7, 0, 0, t.val % 7]
    ∧ win0_7.index t = ![t.val / 7, t.val % 7, 0] ∧ win0_8.index t = ![t.val / 7, 0, t.val % 7] ∧ win0_9.index t = ![t.val / 7, 0, 0, t.val % 7] := by
  decide +kernel

theorem N56 (t : Fin cfg0.N) : t.val < 56 := lt_of_lt_of_eq t.isLt (by decide)
/-- A point's expert. -/
def eOf (t : Fin cfg0.N) : Fin 8 := ⟨t.val / 7, by have := N56 t; omega⟩
/-- A point's column in the whole array. -/
def kOf (t : Fin cfg0.N) (q : Fin 256) : Fin 1792 := ⟨t.val % 7 * 256 + q.val, by omega⟩

theorem coord0 (t : Fin cfg0.N) : (grid0.coords t 0).val = (eOf t).val := by
  revert t; decide +kernel

/-- The whole small operands are staged at every point. -/
theorem iblk_small (c : Dev nD) (t : Fin cfg0.N) :
    (∀ x, iblk m c 0 t x = V m c main_v7 x) ∧ (∀ x, iblk m c 1 t x = V m c main_v12 x) ∧ (∀ x, iblk m c 2 t x = m ((c : Thread nD τ).loc main_arg4) x)
    ∧ (∀ x, iblk m c 3 t x = m ((c : Thread nD τ).loc main_arg5) x) := by
  obtain ⟨e0, e1, e2, e3, -⟩ := idx_facts t
  refine ⟨fun x => ?_, fun x => ?_, fun x => ?_, fun x => ?_⟩
  · blk_ext [iblk, e0]
  · blk_ext [iblk, e1]
  · blk_ext [iblk, V, e2]
  · blk_ext [iblk, V, e3]

theorem iblk_4 (c : Dev nD) (t : Fin cfg0.N) (e : Fin 8) (he : e.val = t.val / 7) (r : Fin 720) (k : Fin 4096) :
    iblk m c 4 t (ix3 0 r k) = m ((c : Thread nD τ).loc main_arg7) (ix3 e r k) := by
  obtain ⟨-, -, -, -, e4, -⟩ := idx_facts t
  blk_ext [iblk, V, e4]

theorem iblk_5 (c : Dev nD) (t : Fin cfg0.N) (e : Fin 8) (he : e.val = t.val / 7) (r : Fin 720) (k : Fin 4096) :
    iblk m c 5 t (ix3 0 r k) = m ((c : Thread nD τ).loc main_arg8) (ix3 e r k) := by
  obtain ⟨-, -, -, -, -, e5, -⟩ := idx_facts t
  blk_ext [iblk, V, e5]

/-- The transposed first weights. -/
theorem V_v0 (c : Dev nD) (e : Fin 8) (g : Fin 2) (d : Fin 4096) (k : Fin 1792) :
    V m c main_v0 (ix4 e g d k) = m ((c : Thread nD τ).loc main_arg9) (ix4 e d g k) := by
  simp only [V, hostOps0, hostOps0_1, hostOps0_2, List.flatten_cons, List.flatten_nil, List.append_nil, List.cons_append, List.nil_append]
  entry_read; pointwise

theorem iblk_6 (c : Dev nD) (t : Fin cfg0.N) (e : Fin 8) (he : e.val = t.val / 7) (g : Fin 2) (d : Fin 4096) (q : Fin 256) (k : Fin 1792) (hk : k.val = t.val % 7 * 256 + q.val) :
    iblk m c 6 t (ix4 0 g d q) = m ((c : Thread nD τ).loc main_arg9) (ix4 e d g k) := by
  obtain ⟨-, -, -, -, -, -, e6, -⟩ := idx_facts t
  rw [← V_v0 m]
  blk_ext [iblk, e6]

theorem iblk_7 (c : Dev nD) (t : Fin cfg0.N) (e : Fin 8) (he : e.val = t.val / 7) (q : Fin 256) (k : Fin 1792) (hk : k.val = t.val % 7 * 256 + q.val) (d : Fin 4096) :
    iblk m c 7 t (ix3 0 q d) = m ((c : Thread nD τ).loc main_arg10) (ix3 e k d) := by
  obtain ⟨-, -, -, -, -, -, -, e7, -⟩ := idx_facts t
  blk_ext [iblk, V, e7]

/-- Four one-element pieces joined, at each place. -/
theorem concat4 (w : (k : Fin 4) → Vec Ideal S1 .f32) (k : Fin 4) : concatenate S4 0 [⟨S1, w 0⟩, ⟨S1, w 1⟩, ⟨S1, w 2⟩, ⟨S1, w 3⟩] concatenates_S1_S1_S1_S1_S4_d0 (ix1 k) = w k (ix1 0) := by
  fin_cases k
  all_goals
    concat_tiles i h
    all_goals first
      | exact absurd h (by decide)
      | exact congrArg _ (by funext b; apply Fin.ext; have := i b |>.isLt; fin_cases b; simp_all)

/-- The stack of the four scales, at a place. -/
theorem stack_at (G : Valuation τ sig (Elt Ideal)) (h h') (k : Fin 4) :
    (StableHlo.nary ![main_v8, main_v9, main_v10, main_v11] main_v12 (fun u => (concatenate S4 0 [⟨S1, (u 0 : (⟨S1, .f32⟩ : BufTy).Contents (Elt Ideal))⟩, ⟨S1, (u 1 : (⟨S1, .f32⟩ : BufTy).Contents (Elt Ideal))⟩, ⟨S1, (u 2 : (⟨S1, .f32⟩ : BufTy).Contents (Elt Ideal))⟩, ⟨S1, (u 3 : (⟨S1, .f32⟩ : BufTy).Contents (Elt Ideal))⟩] concatenates_S1_S1_S1_S1_S4_d0 : (⟨S4, .f32⟩ : BufTy).Contents (Elt Ideal))) h h').result G (Proc.devRef .tc main_v12) (ix1 k)
      = (![G (Proc.devRef .tc main_v8), G (Proc.devRef .tc main_v9), G (Proc.devRef .tc main_v10), G (Proc.devRef .tc main_v11)] : Fin 4 → Vec Ideal S1 .f32) k (ix1 0) :=
  (congrFun (StableHlo.nary_result _ _ _ _ _ _) _).trans
    (concat4 (fun k : Fin 4 => (![G (Proc.devRef .tc main_v8), G (Proc.devRef .tc main_v9), G (Proc.devRef .tc main_v10), G (Proc.devRef .tc main_v11)] : Fin 4 → Vec Ideal S1 .f32) k) k)

set_option maxHeartbeats 1600000 in
/-- The input scale among the stacked scales. -/
theorem V_v12_0 (c : Dev nD) : V m c main_v12 (ix1 0) = m ((c : Thread nD τ).loc main_arg0) ix0 := by
  simp only [V, hostOps0, hostOps0_1, hostOps0_2, List.flatten_cons, List.flatten_nil, List.append_nil, List.cons_append, List.nil_append]
  simp only [StableHlo.after_cons, StableHlo.after_nil]
  refine (stack_at _ _ _ 0).trans ?_
  simp only [Matrix.cons_val]
  after_results_simp
  pointwise

set_option maxHeartbeats 1600000 in
/-- The hidden scale among the stacked scales. -/
theorem V_v12_1 (c : Dev nD) : V m c main_v12 (ix1 1) = m ((c : Thread nD τ).loc main_arg1) ix0 := by
  simp only [V, hostOps0, hostOps0_1, hostOps0_2, List.flatten_cons, List.flatten_nil, List.append_nil, List.cons_append, List.nil_append]
  simp only [StableHlo.after_cons, StableHlo.after_nil]
  refine (stack_at _ _ _ 1).trans ?_
  simp only [Matrix.cons_val]
  after_results_simp
  pointwise

set_option maxHeartbeats 1600000 in
/-- The output gradient scale among the stacked scales. -/
theorem V_v12_2 (c : Dev nD) : V m c main_v12 (ix1 2) = m ((c : Thread nD τ).loc main_arg2) ix0 := by
  simp only [V, hostOps0, hostOps0_1, hostOps0_2, List.flatten_cons, List.flatten_nil, List.append_nil, List.cons_append, List.nil_append]
  simp only [StableHlo.after_cons, StableHlo.after_nil]
  refine (stack_at _ _ _ 2).trans ?_
  simp only [Matrix.cons_val]
  after_results_simp
  pointwise

set_option maxHeartbeats 1600000 in
/-- The pre-activation gradient scale among the stacked scales. -/
theorem V_v12_3 (c : Dev nD) : V m c main_v12 (ix1 3) = m ((c : Thread nD τ).loc main_arg3) ix0 := by
  simp only [V, hostOps0, hostOps0_1, hostOps0_2, List.flatten_cons, List.flatten_nil, List.append_nil, List.cons_append, List.nil_append]
  simp only [StableHlo.after_cons, StableHlo.after_nil]
  refine (stack_at _ _ _ 3).trans ?_
  simp only [Matrix.cons_val]
  after_results_simp
  pointwise

/-- The hidden code formula over the launch contents. -/
abbrev THm (c : Dev nD) (e : Fin 8) (r : Fin 720) (k : Fin 1792) : EReal :=
  TH (m ((c : Thread nD τ).loc main_arg0)) (m ((c : Thread nD τ).loc main_arg1)) (m ((c : Thread nD τ).loc main_arg4)) (m ((c : Thread nD τ).loc main_arg7)) (m ((c : Thread nD τ).loc main_arg9)) e r k
/-- The gradient code formula over the launch contents. -/
abbrev TAm (c : Dev nD) (e : Fin 8) (g : Fin 2) (r : Fin 720) (k : Fin 1792) : EReal :=
  TA (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) e g r k

/-- What the hidden codes' buffer holds after a point. -/
def R8 (c : Dev nD) (t : Fin cfg0.N) (y : Vec Ideal S1x720x256 .fp8e4m3) : Prop :=
  RowsH (iblk m c 0 t (ix1 (eOf t))) (HX (iblk m c 1 t (ix1 0)) (iblk m c 1 t (ix1 1)) (iblk m c 2 t) (iblk m c 4 t) (iblk m c 6 t) (eOf t)) y
/-- What the gradient codes' buffer holds after a point. -/
def R9 (c : Dev nD) (t : Fin cfg0.N) (y : Vec Ideal S1x2x720x256 .fp8e5m2) : Prop :=
  RowsD (iblk m c 0 t (ix1 (eOf t))) (DX (iblk m c 1 t (ix1 0)) (iblk m c 1 t (ix1 2)) (iblk m c 1 t (ix1 3)) (iblk m c 2 t) (iblk m c 3 t) (iblk m c 4 t) (iblk m c 5 t) (iblk m c 6 t)
    (iblk m c 7 t) (eOf t)) y
/-- What the scratch holds before a point that is not its expert's first: the expert's codes. -/
def Scr (c : Dev nD) (k : ℕ) (x16 : Vec Ideal S768x4096 .fp8e4m3) (x17 : Vec Ideal S768x4096 .fp8e5m2) : Prop :=
  k % 7 ≠ 0 → ∀ t : Fin cfg0.N, t.val = k → ScrOK (iblk m c 4 t) (iblk m c 5 t) x16 x17

/-- The next point of the same expert finds its codes. -/
theorem scr_next (c : Dev nD) (t : Fin cfg0.N) (y16 : Vec Ideal S768x4096 .fp8e4m3) (y17 : Vec Ideal S768x4096 .fp8e5m2) (h : ScrOK (iblk m c 4 t) (iblk m c 5 t) y16 y17) :
    Scr m c (t.val + 1) y16 y17 := by
  intro hne t' ht'
  have he : (eOf t).val = t'.val / 7 := by show t.val / 7 = _; omega
  refine ⟨fun r => (h.1 r).trans (funext fun k => ?_), fun r => (h.2 r).trans (funext fun k => ?_)⟩
  · exact (iblk_4 m c t (eOf t) rfl r k).trans (iblk_4 m c t' (eOf t) he r k).symm
  · exact (iblk_5 m c t (eOf t) rfl r k).trans (iblk_5 m c t' (eOf t) he r k).symm

/-- The first product's formula at a point. -/
theorem pre_eq (c : Dev nD) (t : Fin cfg0.N) (g : Fin 2) (r : Fin 720) (q : Fin 256) :
    dotS (fun k => iblk m c 4 t (ix3 0 r k)) (fun k => iblk m c 6 t (ix4 0 g k q)) (SC (iblk m c 1 t (ix1 0)) (iblk m c 2 t) (eOf t))
      = pre (m ((c : Thread nD τ).loc main_arg0)) (m ((c : Thread nD τ).loc main_arg4)) (m ((c : Thread nD τ).loc main_arg7)) (m ((c : Thread nD τ).loc main_arg9)) g (eOf t) r (kOf t q) := by
  obtain ⟨-, h1, h2, -⟩ := iblk_small m c t
  unfold pre SC sc
  rw [h1, h2, V_v12_0 m c]
  simp only [iblk_4 m c t (eOf t) rfl, iblk_6 m c t (eOf t) rfl g _ q (kOf t q) rfl]

/-- The returning gradient's formula at a point. -/
theorem back_eq (c : Dev nD) (t : Fin cfg0.N) (r : Fin 720) (q : Fin 256) :
    dotS (fun k => iblk m c 5 t (ix3 0 r k)) (fun k => iblk m c 7 t (ix3 0 q k)) (SC (iblk m c 1 t (ix1 2)) (iblk m c 3 t) (eOf t))
      = back (m ((c : Thread nD τ).loc main_arg2)) (m ((c : Thread nD τ).loc main_arg5)) (m ((c : Thread nD τ).loc main_arg8)) (m ((c : Thread nD τ).loc main_arg10)) (eOf t) r (kOf t q) := by
  obtain ⟨-, h1, -, h3⟩ := iblk_small m c t
  unfold back SC sc
  rw [h1, h3, V_v12_2 m c]
  simp only [iblk_5 m c t (eOf t) rfl, iblk_7 m c t (eOf t) rfl q (kOf t q) rfl]

theorem HX_eq (c : Dev nD) (t : Fin cfg0.N) (r : Fin 720) (q : Fin 256) :
    HX (iblk m c 1 t (ix1 0)) (iblk m c 1 t (ix1 1)) (iblk m c 2 t) (iblk m c 4 t) (iblk m c 6 t) (eOf t) r q = THm m c (eOf t) r (kOf t q) := by
  unfold HX HC THm TH
  rw [pre_eq m c t 0 r q, pre_eq m c t 1 r q, (iblk_small m c t).2.1, V_v12_1 m c]

theorem DX_eq (c : Dev nD) (t : Fin cfg0.N) (g : Fin 2) (r : Fin 720) (q : Fin 256) :
    DX (iblk m c 1 t (ix1 0)) (iblk m c 1 t (ix1 2)) (iblk m c 1 t (ix1 3)) (iblk m c 2 t) (iblk m c 3 t) (iblk m c 4 t) (iblk m c 5 t) (iblk m c 6 t) (iblk m c 7 t) (eOf t) g r q
      = TAm m c (eOf t) g r (kOf t q) := by
  unfold DX DC TAm TA
  rw [pre_eq m c t 0 r q, pre_eq m c t 1 r q, back_eq m c t r q, (iblk_small m c t).2.1, V_v12_3 m c]

/-- A row's contribution to its expert's count: its number plus one if it holds a token, else nothing. -/
def rowWord (s : BitVec 32) (r : ℕ) : BitVec 32 := if s.slt 4608#32 then BitVec.ofNat 32 r + 1#32 else 0#32

theorem rowWord_eq (s : BitVec 32) (r : ℕ) :
    Scalar.select (IntOp.cmpi .slt s 4608#32) (IntOp.addi (BitVec.ofNat 32 r) 1#32) 0#32 = rowWord s r := by
  unfold rowWord
  cases h : s.slt 4608#32 <;> simp [Scalar.select, IntOp.cmpi, IntOp.addi, h]

theorem rowWord_le (s : BitVec 32) (r : Fin 720) : (rowWord s r.val).toNat ≤ 720 := by
  unfold rowWord; split
  · have : r.val < 720 := r.isLt
    rw [BitVec.toNat_add]; simp; omega
  · simp

theorem rowWord_of (s : BitVec 32) (r : Fin 720) (h : s.slt 4608#32 = true) : (rowWord s r.val).toNat = r.val + 1 := by
  unfold rowWord; rw [if_pos h]
  have : r.val < 720 := r.isLt
  rw [BitVec.toNat_add]; simp; omega

/-- The signed maximum of words that are at most 720. -/
theorem maxsi_small (a b : BitVec 32) (ha : a.toNat ≤ 720) (hb : b.toNat ≤ 720) : (IntOp.maxsi a b).toNat = max a.toNat b.toNat := by
  have h1 : a.toInt = a.toNat := BitVec.toInt_eq_toNat_of_lt (by omega)
  have h2 : b.toInt = b.toNat := BitVec.toInt_eq_toNat_of_lt (by omega)
  unfold IntOp.maxsi
  rw [BitVec.slt_eq_decide, h1, h2]
  by_cases h : b.toNat < a.toNat
  · rw [if_pos (by simpa using h)]; omega
  · rw [if_neg (by simpa using h)]; omega

/-- The signed maximum with the least word. -/
theorem maxsi_least (a : BitVec 32) (ha : a.toNat ≤ 720) : IntOp.maxsi a 2147483648#32 = a := by
  have h1 : a.toInt = a.toNat := BitVec.toInt_eq_toNat_of_lt (by omega)
  unfold IntOp.maxsi
  rw [BitVec.slt_eq_decide, h1, if_pos]
  simp; omega

/-- The greatest of some words that are at most 720, folded from the least word. -/
theorem fold_maxsi [Std.Commutative (IntOp.maxsi (w := 32))] [Std.Associative (IntOp.maxsi (w := 32))] {ι : Type} (S : Finset ι) (f : ι → BitVec 32) (hf : ∀ x, (f x).toNat ≤ 720) :
    S = ∅ ∨ ((S.fold IntOp.maxsi 2147483648#32 f).toNat ≤ 720 ∧ ∀ x ∈ S, (f x).toNat ≤ (S.fold IntOp.maxsi 2147483648#32 f).toNat) := by
  classical
  induction S using Finset.induction_on with
  | empty => exact .inl rfl
  | insert a S ha ih =>
    right
    rw [Finset.fold_insert ha]
    rcases ih with rfl | ⟨h1, h2⟩
    · rw [Finset.fold_empty, maxsi_least _ (hf a)]
      exact ⟨hf a, fun x hx => by simp at hx; rw [hx]⟩
    · rw [maxsi_small _ _ (hf a) h1]
      refine ⟨max_le (hf a) h1, fun x hx => ?_⟩
      rcases Finset.mem_insert.mp hx with rfl | hx
      · exact le_max_left _ _
      · exact (h2 x hx).trans (le_max_right _ _)

set_option maxHeartbeats 1600000 in
/-- An expert's count of rows: at most 720, and above the number of every row that holds a token. -/
theorem count (c : Dev nD) (e : Fin 8) :
    (V m c main_v7 (ix1 e) : BitVec 32).toNat ≤ 720 ∧ ∀ r : Fin 720, BitVec.slt (m ((c : Thread nD τ).loc main_arg6) (ix2 e r)) 4608#32 = true → r.val < (V m c main_v7 (ix1 e) : BitVec 32).toNat := by
  simp only [V, hostOps0, hostOps0_1, hostOps0_2, List.flatten_cons, List.flatten_nil, List.append_nil, List.cons_append, List.nil_append]
  entry_read
  pointwise
  rw [Finset.fold_congr (g := fun x : Fin 720 => rowWord (m ((c : Thread nD τ).loc main_arg6) (ix2 e x)) x.val) (fun x _ => by
    refine Eq.trans (b := select (cmpi CmpIPredicate.slt (m ((c : Thread nD τ).loc main_arg6)) (broadcastInDim S8x720 ![] bcast_S_S8x720 (constantI S_ 32 4608#32)))
      (addi (iotaInDim S8x720 32 1) (broadcastInDim S8x720 ![] bcast_S_S8x720 (constantI S_ 32 1#32)))
      (broadcastInDim S8x720 ![] bcast_S_S8x720 (constantI S_ 32 0#32)) (ix2 e x)) rfl ?_
    pointwise
    exact rowWord_eq _ _)]
  rcases fold_maxsi Finset.univ (fun x : Fin 720 => rowWord (m ((c : Thread nD τ).loc main_arg6) (ix2 e x)) x.val) (fun x => rowWord_le _ x) with h | ⟨h1, h2⟩
  · exact absurd h (Finset.univ_nonempty.ne_empty)
  · refine ⟨h1, fun r hr => ?_⟩
    have := h2 r (Finset.mem_univ r)
    rw [rowWord_of _ r hr] at this
    omega

end Cert.ExpertsIdeal.Gen

end
-- ==== Proof.ExpertsIdealFrame.lean ====
/- The experts kernel run over its grid: the body at every point, the launch, and the frame. -/
module

public import proofs.«01_k».proof.Proof.ExpertsIdealRunC
public import Idealize.ShloMosaic.Lib.Pipeline.ArrRel
public import proofs.«01_k».proof.Proof.ExpertsIdealBlocks

@[expose] public section

set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

/-- The invariant before point `k`: the scratch buffers the body takes whole, the generator register, and the ring of transfers. -/
def PhiR (c : Dev nD) (k : ℕ) : sProp 𝕄 := iprop((∃ x16 x17, ⌜Scr m c k x16 x17⌝ ∗ owns (c : Thread nD τ) scM0_0 fullShare x16 ∗ owns (c : Thread nD τ) scM0_1 fullShare x17) ∗ (∃ d, owns (c : Thread nD τ) scM0_2 fullShare d) ∗ (∃ d, owns (c : Thread nD τ) scM0_3 fullShare d) ∗ (∃ d, owns (c : Thread nD τ) scM0_5 fullShare d) ∗ (∃ d, owns (c : Thread nD τ) scM0_6 fullShare d) ∗ (∃ r, prngReg c r) ∗ (wringAt0_0 c k ∗ wtileSpare0_0 c ∗ wpieceSpare0_0 c))

/-- The exact data whose inputs are left in place and whose outputs are not named. -/
def datB (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Dat.unnamed 8 t
    | ⟨9, _⟩ => Dat.unnamed 9 t
    | ⟨10, _⟩ => Dat.unnamed 10 t
    | ⟨11, _⟩ => Dat.unnamed 11 t
    | ⟨12, _⟩ => Dat.unnamed 12 t
  Φ t := PhiR m c t.val
  q _ := fullShare
  owed _ := 0

/-- The relational data: inputs left in place, the outputs constrained. -/
def rdat (c : Dev nD) : RDat τ (Elt Ideal) Unit ℕ (Pipeline.UD sig nD τ) ℕ cfg0 c :=
  (datB m c).toR.override fun w => match w with
    | ⟨8, _⟩ => some fun t _ X => R8 m c t X
    | ⟨9, _⟩ => some fun t _ X => R9 m c t X
    | ⟨10, _⟩ => some fun _ _ _ => True
    | ⟨11, _⟩ => some fun _ _ _ => True
    | ⟨12, _⟩ => some fun _ _ _ => True
    | _ => none

theorem finds_0 (c : Dev nD) (t : Fin cfg0.N) (X) (h : (rdat m c).Finds 0 t X) : X = iblk m c 0 t := by
  obtain ⟨d, rfl⟩ := (datB m c).toR_finds 0 t X ((RDat.override_finds _ rfl t X).mp h)
  exact before0_0_of m (datB m c) rfl (fun _ => rfl) t d
theorem after_0 (c : Dev nD) (t : Fin cfg0.N) (Y) : (rdat m c).after 0 t Y (iblk m c 0 t) := by
  show (datB m c).toR.after 0 t Y (iblk m c 0 t)
  exact rfl
theorem finds_1 (c : Dev nD) (t : Fin cfg0.N) (X) (h : (rdat m c).Finds 1 t X) : X = iblk m c 1 t := by
  obtain ⟨d, rfl⟩ := (datB m c).toR_finds 1 t X ((RDat.override_finds _ rfl t X).mp h)
  exact before0_1_of m (datB m c) rfl (fun _ => rfl) t d
theorem after_1 (c : Dev nD) (t : Fin cfg0.N) (Y) : (rdat m c).after 1 t Y (iblk m c 1 t) := by
  show (datB m c).toR.after 1 t Y (iblk m c 1 t)
  exact rfl
theorem finds_2 (c : Dev nD) (t : Fin cfg0.N) (X) (h : (rdat m c).Finds 2 t X) : X = iblk m c 2 t := by
  obtain ⟨d, rfl⟩ := (datB m c).toR_finds 2 t X ((RDat.override_finds _ rfl t X).mp h)
  exact before0_2_of m (datB m c) rfl (fun _ => rfl) t d
theorem after_2 (c : Dev nD) (t : Fin cfg0.N) (Y) : (rdat m c).after 2 t Y (iblk m c 2 t) := by
  show (datB m c).toR.after 2 t Y (iblk m c 2 t)
  exact rfl
theorem finds_3 (c : Dev nD) (t : Fin cfg0.N) (X) (h : (rdat m c).Finds 3 t X) : X = iblk m c 3 t := by
  obtain ⟨d, rfl⟩ := (datB m c).toR_finds 3 t X ((RDat.override_finds _ rfl t X).mp h)
  exact before0_3_of m (datB m c) rfl (fun _ => rfl) t d
theorem after_3 (c : Dev nD) (t : Fin cfg0.N) (Y) : (rdat m c).after 3 t Y (iblk m c 3 t) := by
  show (datB m c).toR.after 3 t Y (iblk m c 3 t)
  exact rfl
theorem finds_4 (c : Dev nD) (t : Fin cfg0.N) (X) (h : (rdat m c).Finds 4 t X) : X = iblk m c 4 t := by
  obtain ⟨d, rfl⟩ := (datB m c).toR_finds 4 t X ((RDat.override_finds _ rfl t X).mp h)
  exact before0_4_of m (datB m c) rfl (fun _ => rfl) t d
theorem after_4 (c : Dev nD) (t : Fin cfg0.N) (Y) : (rdat m c).after 4 t Y (iblk m c 4 t) := by
  show (datB m c).toR.after 4 t Y (iblk m c 4 t)
  exact rfl
theorem finds_5 (c : Dev nD) (t : Fin cfg0.N) (X) (h : (rdat m c).Finds 5 t X) : X = iblk m c 5 t := by
  obtain ⟨d, rfl⟩ := (datB m c).toR_finds 5 t X ((RDat.override_finds _ rfl t X).mp h)
  exact before0_5_of m (datB m c) rfl (fun _ => rfl) t d
theorem after_5 (c : Dev nD) (t : Fin cfg0.N) (Y) : (rdat m c).after 5 t Y (iblk m c 5 t) := by
  show (datB m c).toR.after 5 t Y (iblk m c 5 t)
  exact rfl
theorem finds_6 (c : Dev nD) (t : Fin cfg0.N) (X) (h : (rdat m c).Finds 6 t X) : X = iblk m c 6 t := by
  obtain ⟨d, rfl⟩ := (datB m c).toR_finds 6 t X ((RDat.override_finds _ rfl t X).mp h)
  exact before0_6_of m (datB m c) rfl (fun _ => rfl) t d
theorem after_6 (c : Dev nD) (t : Fin cfg0.N) (Y) : (rdat m c).after 6 t Y (iblk m c 6 t) := by
  show (datB m c).toR.after 6 t Y (iblk m c 6 t)
  exact rfl
theorem finds_7 (c : Dev nD) (t : Fin cfg0.N) (X) (h : (rdat m c).Finds 7 t X) : X = iblk m c 7 t := by
  obtain ⟨d, rfl⟩ := (datB m c).toR_finds 7 t X ((RDat.override_finds _ rfl t X).mp h)
  exact before0_7_of m (datB m c) rfl (fun _ => rfl) t d
theorem after_7 (c : Dev nD) (t : Fin cfg0.N) (Y) : (rdat m c).after 7 t Y (iblk m c 7 t) := by
  show (datB m c).toR.after 7 t Y (iblk m c 7 t)
  exact rfl

theorem defs₀_row (t : Fin cfg0.N) :
    defs₀ (F := Ideal) .tc cfg0.body (cfg0.bodyArgs t (cfg0.slots t)) = bodyAt0 t := by
  unfold defs₀; rw [Defs.onTc_tc]

set_option maxHeartbeats 6400000 in
/-- The library's body obligation at every point. -/
theorem body_obligation (c : Dev nD) : (rdat m c).BodyObligation (defs₀ (F := Ideal)) Variants.none () Set.univ := by
  intro t Y hY
  rw [defs₀_row, bigSep_W0]
  simp only [bigSep_W0]
  rw [finds_0 m c t _ (hY 0)]
  rw [finds_1 m c t _ (hY 1)]
  rw [finds_2 m c t _ (hY 2)]
  rw [finds_3 m c t _ (hY 3)]
  rw [finds_4 m c t _ (hY 4)]
  rw [finds_5 m c t _ (hY 5)]
  rw [finds_6 m c t _ (hY 6)]
  rw [finds_7 m c t _ (hY 7)]
  rw [show (rdat m c).Φ t.castSucc = PhiR m c t.val from rfl, show (rdat m c).Φ t.succ = PhiR m c (t.val + 1) from rfl]
  unfold RDat.owesAt Pipeline.owesWithin
  rw [show (rdat m c).owed t.castSucc = 0 from rfl, show (rdat m c).owed t.succ = 0 from rfl]
  unfold PhiR wringAt0_0
  have hgN : grid0.N = 56 := N_0
  have hN : t.val < 56 := lt_of_lt_of_eq t.isLt (show cfg0.N = 56 from N_0)
  by_cases h0 : 2 ≤ t.val
  · by_cases h1 : t.val % 56 = 55
    · obtain ⟨hW20, hWend0, hWs0⟩ := wstep0_0_C t ((hcond0_0 t).mpr h0) ((hcond0_1 t).mpr h1)
      rw [Ring.AtBΦ_lt _ _ _ _ _ t.val (by omega), Ring.AtB22_here_last _ _ _ _ t.val hW20 hWend0, Ring.AtBΦ_end _ _ _ _ _ (t.val + 1) hWend0, Ring.AtB22_drained _ _ t.val hW20 hWend0]
      iintro ⟨⟨⟨%x16, %x17, %hS, HS0, HS1⟩, HS2, HS3, HS5, HS6, Hg, ⟨⟨⟨Hp0_0_0, Hp0_0_1⟩, HB0_0, HF0_0, HI0_0⟩, HTsp0_0, HPsp0_0⟩⟩, ⟨%W, -, HW⟩, H0, H1, H2, H3, H4, H5, H6, H7, H8, H9, H10, H11, H12⟩
      iapply (run_C c t _ _ _ _ _ _ _ _ _ _ _ _ _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t) (iblk m c 7 t) x16 x17 (fun h => hS h t rfl) (eOf t) (coord0 t).symm W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [HS0]; · iexact HS0
      isplitl [HS1]; · iexact HS1
      isplitl [HS2]; · iexact HS2
      isplitl [HS3]; · iexact HS3
      isplitl [HS5]; · iexact HS5
      isplitl [HS6]; · iexact HS6
      isplitl [Hp0_0_0]; · iexact Hp0_0_0
      isplitl [Hp0_0_1]; · iexact Hp0_0_1
      isplitl [HF0_0]; · iexact HF0_0
      isplitl [HI0_0]; · iexact HI0_0
      isplitl [HW]; · iexact HW
      iintro ⟨H0, H1, H2, H3, H4, H5, H6, H7, ⟨%y8, %hy8, H8⟩, ⟨%y9, %hy9, H9⟩, ⟨%y10, H10⟩, ⟨%y11, H11⟩, ⟨%y12, H12⟩, ⟨%y16, %y17, %hS2, HS0, HS1⟩, HS2, HS3, HS5, HS6, Ho0_0_0, Ho0_0_1, Hl0_0_0, Hl0_0_1, Hm0_0_0, Hm0_0_1, Hqo0_0, Hto0_0_0, Hto0_0_1, Hqp0_0, Htp0_0_0, Htp0_0_1, ⟨%W', HW'⟩⟩
      isplitl [HS0 HS1 HS2 HS3 HS5 HS6 Hg HB0_0 HTsp0_0 HPsp0_0 Ho0_0_0 Ho0_0_1 Hl0_0_0 Hl0_0_1 Hm0_0_0 Hm0_0_1 Hqo0_0 Hto0_0_0 Hto0_0_1 Hqp0_0 Htp0_0_0 Htp0_0_1]
      · isplitl [HS0 HS1]
        · iexists y16; iexists y17
          isplitr; · ipureintro; exact scr_next m c t y16 y17 hS2
          isplitl [HS0]; · iexact HS0
          iexact HS1
        isplitl [HS2]; · iexact HS2
        isplitl [HS3]; · iexact HS3
        isplitl [HS5]; · iexact HS5
        isplitl [HS6]; · iexact HS6
        isplitl [Hg]; · iexact Hg
        isplitl [Ho0_0_0 Ho0_0_1 Hl0_0_0 Hl0_0_1 Hm0_0_0 Hm0_0_1 HB0_0 Hqo0_0 Hto0_0_0 Hto0_0_1 Hqp0_0 Htp0_0_0 Htp0_0_1]
        · isplitl [Ho0_0_0 Ho0_0_1 Hl0_0_0 Hl0_0_1 Hm0_0_0 Hm0_0_1 HB0_0]
          · isplitl [Ho0_0_0 Ho0_0_1]
            · isplitl [Ho0_0_0]
              · iexact Ho0_0_0
              iexact Ho0_0_1
            isplitl [Hl0_0_0 Hl0_0_1]
            · isplitl [Hl0_0_0]
              · iexact Hl0_0_0
              iexact Hl0_0_1
            isplitl [Hm0_0_0 Hm0_0_1]
            · isplitl [Hm0_0_0]
              · iexact Hm0_0_0
              iexact Hm0_0_1
            iexact HB0_0
          isplitl [Hqo0_0 Hto0_0_0 Hto0_0_1]
          · isplitl [Hqo0_0]
            · iexact Hqo0_0
            isplitl [Hto0_0_0]
            · iexact Hto0_0_0
            iexact Hto0_0_1
          isplitl [Hqp0_0]
          · iexact Hqp0_0
          isplitl [Htp0_0_0]
          · iexact Htp0_0_0
          iexact Htp0_0_1
        isplitl [HTsp0_0]
        · iexact HTsp0_0
        iexact HPsp0_0
      isplitl [HW']
      · iexists W'; isplitr; · ipureintro; exact fun _ _ => Or.inl trivial
        iexact HW'
      isplitl [H0]
      · iexists _; isplitr; swap; · iexact H0
        ipureintro; exact after_0 m c t _
      isplitl [H1]
      · iexists _; isplitr; swap; · iexact H1
        ipureintro; exact after_1 m c t _
      isplitl [H2]
      · iexists _; isplitr; swap; · iexact H2
        ipureintro; exact after_2 m c t _
      isplitl [H3]
      · iexists _; isplitr; swap; · iexact H3
        ipureintro; exact after_3 m c t _
      isplitl [H4]
      · iexists _; isplitr; swap; · iexact H4
        ipureintro; exact after_4 m c t _
      isplitl [H5]
      · iexists _; isplitr; swap; · iexact H5
        ipureintro; exact after_5 m c t _
      isplitl [H6]
      · iexists _; isplitr; swap; · iexact H6
        ipureintro; exact after_6 m c t _
      isplitl [H7]
      · iexists _; isplitr; swap; · iexact H7
        ipureintro; exact after_7 m c t _
      isplitl [H8]
      · iexists _; isplitr; swap; · iexact H8
        ipureintro; exact hy8
      isplitl [H9]
      · iexists _; isplitr; swap; · iexact H9
        ipureintro; exact hy9
      isplitl [H10]
      · iexists _; isplitr; swap; · iexact H10
        ipureintro; exact trivial
      isplitl [H11]
      · iexists _; isplitr; swap; · iexact H11
        ipureintro; exact trivial
      iexists _; isplitr; swap; · iexact H12
      ipureintro; exact trivial
    · obtain ⟨hW20, hWlt0, hWs0⟩ := wstep0_0_B t ((hcond0_0 t).mpr h0) (fun h => h1 ((hcond0_1 t).mp h))
      rw [Ring.AtBΦ_lt _ _ _ _ _ t.val (by omega), Ring.AtB22_here _ _ _ _ t.val hW20 (by omega), Ring.AtBΦ_lt _ _ _ _ _ (t.val + 1) hWlt0, Ring.AtB22_next _ _ _ _ t.val hW20 (by omega)]
      iintro ⟨⟨⟨%x16, %x17, %hS, HS0, HS1⟩, HS2, HS3, HS5, HS6, Hg, ⟨⟨⟨⟨Hp0_0_0, Hp0_0_1⟩, HA0_0⟩, HB0_0, HF0_0, Hcar0_0⟩, HTsp0_0, HPsp0_0⟩⟩, ⟨%W, -, HW⟩, H0, H1, H2, H3, H4, H5, H6, H7, H8, H9, H10, H11, H12⟩
      iapply (run_B c t _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) x16 x17 (fun h => hS h t rfl) (eOf t) (coord0 t).symm W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [HS0]; · iexact HS0
      isplitl [HS1]; · iexact HS1
      isplitl [HS2]; · iexact HS2
      isplitl [HS3]; · iexact HS3
      isplitl [HS5]; · iexact HS5
      isplitl [HS6]; · iexact HS6
      isplitl [Hp0_0_0]; · iexact Hp0_0_0
      isplitl [Hp0_0_1]; · iexact Hp0_0_1
      isplitl [HF0_0]; · iexact HF0_0
      isplitl [HW]; · iexact HW
      iintro ⟨H0, H1, H2, H3, H4, H5, H6, H7, ⟨%y8, %hy8, H8⟩, ⟨%y9, %hy9, H9⟩, ⟨%y10, H10⟩, ⟨%y11, H11⟩, ⟨%y12, H12⟩, ⟨%y16, %y17, %hS2, HS0, HS1⟩, HS2, HS3, HS5, HS6, Hl0_0_0, Hl0_0_1, Hn0_0, ⟨%W', HW'⟩⟩
      isplitl [HS0 HS1 HS2 HS3 HS5 HS6 Hg HA0_0 HB0_0 Hcar0_0 HTsp0_0 HPsp0_0 Hl0_0_0 Hl0_0_1 Hn0_0]
      · isplitl [HS0 HS1]
        · iexists y16; iexists y17
          isplitr; · ipureintro; exact scr_next m c t y16 y17 hS2
          isplitl [HS0]; · iexact HS0
          iexact HS1
        isplitl [HS2]; · iexact HS2
        isplitl [HS3]; · iexact HS3
        isplitl [HS5]; · iexact HS5
        isplitl [HS6]; · iexact HS6
        isplitl [Hg]; · iexact Hg
        isplitl [HA0_0 Hl0_0_0 Hl0_0_1 HB0_0 Hcar0_0 Hn0_0]
        · isplitl [HA0_0]
          · iexact HA0_0
          isplitl [Hl0_0_0 Hl0_0_1 HB0_0]
          · isplitl [Hl0_0_0 Hl0_0_1]
            · isplitl [Hl0_0_0]
              · iexact Hl0_0_0
              iexact Hl0_0_1
            iexact HB0_0
          isplitl [Hcar0_0]
          · iexact Hcar0_0
          iexact Hn0_0
        isplitl [HTsp0_0]
        · iexact HTsp0_0
        iexact HPsp0_0
      isplitl [HW']
      · iexists W'; isplitr; · ipureintro; exact fun _ _ => Or.inl trivial
        iexact HW'
      isplitl [H0]
      · iexists _; isplitr; swap; · iexact H0
        ipureintro; exact after_0 m c t _
      isplitl [H1]
      · iexists _; isplitr; swap; · iexact H1
        ipureintro; exact after_1 m c t _
      isplitl [H2]
      · iexists _; isplitr; swap; · iexact H2
        ipureintro; exact after_2 m c t _
      isplitl [H3]
      · iexists _; isplitr; swap; · iexact H3
        ipureintro; exact after_3 m c t _
      isplitl [H4]
      · iexists _; isplitr; swap; · iexact H4
        ipureintro; exact after_4 m c t _
      isplitl [H5]
      · iexists _; isplitr; swap; · iexact H5
        ipureintro; exact after_5 m c t _
      isplitl [H6]
      · iexists _; isplitr; swap; · iexact H6
        ipureintro; exact after_6 m c t _
      isplitl [H7]
      · iexists _; isplitr; swap; · iexact H7
        ipureintro; exact after_7 m c t _
      isplitl [H8]
      · iexists _; isplitr; swap; · iexact H8
        ipureintro; exact hy8
      isplitl [H9]
      · iexists _; isplitr; swap; · iexact H9
        ipureintro; exact hy9
      isplitl [H10]
      · iexists _; isplitr; swap; · iexact H10
        ipureintro; exact trivial
      isplitl [H11]
      · iexists _; isplitr; swap; · iexact H11
        ipureintro; exact trivial
      iexists _; isplitr; swap; · iexact H12
      ipureintro; exact trivial
  · by_cases h1 : t.val % 56 = 55
    · exfalso; omega
    · obtain ⟨hWlt0, hWs0⟩ := wstep0_0_A t (fun h => h0 ((hcond0_0 t).mp h)) (fun h => h1 ((hcond0_1 t).mp h))
      rcases (show t.val = 0 ∨ t.val = 1 by omega) with hW0 | hW0
      · rw [Ring.AtBΦ_lt _ _ _ _ _ t.val (by omega), Ring.AtB2_zero' 2 _ _ _ _ t.val hW0, Ring.AtBΦ_lt _ _ _ _ _ (t.val + 1) (by omega), Ring.AtB22_next_zero' _ _ _ _ t.val hW0]
        iintro ⟨⟨⟨%x16, %x17, %hS, HS0, HS1⟩, HS2, HS3, HS5, HS6, Hg, ⟨⟨⟨⟨Hp0_0_0, Hp0_0_1⟩, HA0_0⟩, ⟨Hq0_0, Ht0_0_0, Ht0_0_1⟩, Hfx0_0⟩, HTsp0_0, HPsp0_0⟩⟩, ⟨%W, -, HW⟩, H0, H1, H2, H3, H4, H5, H6, H7, H8, H9, H10, H11, H12⟩
        iapply (run_A c t _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) x16 x17 (fun h => hS h t rfl) (eOf t) (coord0 t).symm W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [H11]; · iexists _; iexact H11
        isplitl [H12]; · iexists _; iexact H12
        isplitl [HS0]; · iexact HS0
        isplitl [HS1]; · iexact HS1
        isplitl [HS2]; · iexact HS2
        isplitl [HS3]; · iexact HS3
        isplitl [HS5]; · iexact HS5
        isplitl [HS6]; · iexact HS6
        isplitl [Hp0_0_0]; · iexact Hp0_0_0
        isplitl [Hp0_0_1]; · iexact Hp0_0_1
        isplitl [Hq0_0]; · iexact Hq0_0
        isplitl [Ht0_0_0]; · iexact Ht0_0_0
        isplitl [Ht0_0_1]; · iexact Ht0_0_1
        isplitl [HW]; · iexact HW
        iintro ⟨H0, H1, H2, H3, H4, H5, H6, H7, ⟨%y8, %hy8, H8⟩, ⟨%y9, %hy9, H9⟩, ⟨%y10, H10⟩, ⟨%y11, H11⟩, ⟨%y12, H12⟩, ⟨%y16, %y17, %hS2, HS0, HS1⟩, HS2, HS3, HS5, HS6, Hn0_0, ⟨%W', HW'⟩⟩
        isplitl [HS0 HS1 HS2 HS3 HS5 HS6 Hg HA0_0 Hfx0_0 HTsp0_0 HPsp0_0 Hn0_0]
        · isplitl [HS0 HS1]
          · iexists y16; iexists y17
            isplitr; · ipureintro; exact scr_next m c t y16 y17 hS2
            isplitl [HS0]; · iexact HS0
            iexact HS1
          isplitl [HS2]; · iexact HS2
          isplitl [HS3]; · iexact HS3
          isplitl [HS5]; · iexact HS5
          isplitl [HS6]; · iexact HS6
          isplitl [Hg]; · iexact Hg
          isplitl [HA0_0 Hfx0_0 Hn0_0]
          · isplitl [HA0_0]
            · iexact HA0_0
            isplitl [Hfx0_0]
            · iexact Hfx0_0
            iexact Hn0_0
          isplitl [HTsp0_0]
          · iexact HTsp0_0
          iexact HPsp0_0
        isplitl [HW']
        · iexists W'; isplitr; · ipureintro; exact fun _ _ => Or.inl trivial
          iexact HW'
        isplitl [H0]
        · iexists _; isplitr; swap; · iexact H0
          ipureintro; exact after_0 m c t _
        isplitl [H1]
        · iexists _; isplitr; swap; · iexact H1
          ipureintro; exact after_1 m c t _
        isplitl [H2]
        · iexists _; isplitr; swap; · iexact H2
          ipureintro; exact after_2 m c t _
        isplitl [H3]
        · iexists _; isplitr; swap; · iexact H3
          ipureintro; exact after_3 m c t _
        isplitl [H4]
        · iexists _; isplitr; swap; · iexact H4
          ipureintro; exact after_4 m c t _
        isplitl [H5]
        · iexists _; isplitr; swap; · iexact H5
          ipureintro; exact after_5 m c t _
        isplitl [H6]
        · iexists _; isplitr; swap; · iexact H6
          ipureintro; exact after_6 m c t _
        isplitl [H7]
        · iexists _; isplitr; swap; · iexact H7
          ipureintro; exact after_7 m c t _
        isplitl [H8]
        · iexists _; isplitr; swap; · iexact H8
          ipureintro; exact hy8
        isplitl [H9]
        · iexists _; isplitr; swap; · iexact H9
          ipureintro; exact hy9
        isplitl [H10]
        · iexists _; isplitr; swap; · iexact H10
          ipureintro; exact trivial
        isplitl [H11]
        · iexists _; isplitr; swap; · iexact H11
          ipureintro; exact trivial
        iexists _; isplitr; swap; · iexact H12
        ipureintro; exact trivial
      · rw [Ring.AtBΦ_lt _ _ _ _ _ t.val (by omega), Ring.AtB22_one' _ _ _ _ t.val hW0 (by decide), Ring.AtBΦ_lt _ _ _ _ _ (t.val + 1) (by omega), Ring.AtB22_next_one' _ _ _ _ t.val hW0]
        iintro ⟨⟨⟨%x16, %x17, %hS, HS0, HS1⟩, HS2, HS3, HS5, HS6, Hg, ⟨⟨⟨⟨Hp0_0_0, Hp0_0_1⟩, HA0_0⟩, ⟨Hq0_0, Ht0_0_0, Ht0_0_1⟩, Hcar0_0⟩, HTsp0_0, HPsp0_0⟩⟩, ⟨%W, -, HW⟩, H0, H1, H2, H3, H4, H5, H6, H7, H8, H9, H10, H11, H12⟩
        iapply (run_A c t _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) x16 x17 (fun h => hS h t rfl) (eOf t) (coord0 t).symm W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [H11]; · iexists _; iexact H11
        isplitl [H12]; · iexists _; iexact H12
        isplitl [HS0]; · iexact HS0
        isplitl [HS1]; · iexact HS1
        isplitl [HS2]; · iexact HS2
        isplitl [HS3]; · iexact HS3
        isplitl [HS5]; · iexact HS5
        isplitl [HS6]; · iexact HS6
        isplitl [Hp0_0_0]; · iexact Hp0_0_0
        isplitl [Hp0_0_1]; · iexact Hp0_0_1
        isplitl [Hq0_0]; · iexact Hq0_0
        isplitl [Ht0_0_0]; · iexact Ht0_0_0
        isplitl [Ht0_0_1]; · iexact Ht0_0_1
        isplitl [HW]; · iexact HW
        iintro ⟨H0, H1, H2, H3, H4, H5, H6, H7, ⟨%y8, %hy8, H8⟩, ⟨%y9, %hy9, H9⟩, ⟨%y10, H10⟩, ⟨%y11, H11⟩, ⟨%y12, H12⟩, ⟨%y16, %y17, %hS2, HS0, HS1⟩, HS2, HS3, HS5, HS6, Hn0_0, ⟨%W', HW'⟩⟩
        isplitl [HS0 HS1 HS2 HS3 HS5 HS6 Hg HA0_0 Hcar0_0 HTsp0_0 HPsp0_0 Hn0_0]
        · isplitl [HS0 HS1]
          · iexists y16; iexists y17
            isplitr; · ipureintro; exact scr_next m c t y16 y17 hS2
            isplitl [HS0]; · iexact HS0
            iexact HS1
          isplitl [HS2]; · iexact HS2
          isplitl [HS3]; · iexact HS3
          isplitl [HS5]; · iexact HS5
          isplitl [HS6]; · iexact HS6
          isplitl [Hg]; · iexact Hg
          isplitl [HA0_0 Hcar0_0 Hn0_0]
          · isplitl [HA0_0]
            · iexact HA0_0
            isplitl [Hcar0_0]
            · iexact Hcar0_0
            iexact Hn0_0
          isplitl [HTsp0_0]
          · iexact HTsp0_0
          iexact HPsp0_0
        isplitl [HW']
        · iexists W'; isplitr; · ipureintro; exact fun _ _ => Or.inl trivial
          iexact HW'
        isplitl [H0]
        · iexists _; isplitr; swap; · iexact H0
          ipureintro; exact after_0 m c t _
        isplitl [H1]
        · iexists _; isplitr; swap; · iexact H1
          ipureintro; exact after_1 m c t _
        isplitl [H2]
        · iexists _; isplitr; swap; · iexact H2
          ipureintro; exact after_2 m c t _
        isplitl [H3]
        · iexists _; isplitr; swap; · iexact H3
          ipureintro; exact after_3 m c t _
        isplitl [H4]
        · iexists _; isplitr; swap; · iexact H4
          ipureintro; exact after_4 m c t _
        isplitl [H5]
        · iexists _; isplitr; swap; · iexact H5
          ipureintro; exact after_5 m c t _
        isplitl [H6]
        · iexists _; isplitr; swap; · iexact H6
          ipureintro; exact after_6 m c t _
        isplitl [H7]
        · iexists _; isplitr; swap; · iexact H7
          ipureintro; exact after_7 m c t _
        isplitl [H8]
        · iexists _; isplitr; swap; · iexact H8
          ipureintro; exact hy8
        isplitl [H9]
        · iexists _; isplitr; swap; · iexact H9
          ipureintro; exact hy9
        isplitl [H10]
        · iexists _; isplitr; swap; · iexact H10
          ipureintro; exact trivial
        isplitl [H11]
        · iexists _; isplitr; swap; · iexact H11
          ipureintro; exact trivial
        iexists _; isplitr; swap; · iexact H12
        ipureintro; exact trivial

/-- What the launch hands the region is the invariant before the first point. -/
theorem hin (c : Dev nD) : Pipeline.ΦDR osem0 spec0 H0 R0 (V m) c ⊢ (rdat m c).Φ 0 := by
  rw [PhiDR0_eq, show (rdat m c).Φ 0 = PhiR m c 0 from rfl]
  unfold PhiR
  iintro ⟨⟨⟨%x16, HS0⟩, ⟨%x17, HS1⟩, HS2, HS3, HRS0_0, HS5, HS6⟩, Hg, ⟨Hq0, Hq1⟩, -, Ho0⟩
  isplitl [HS0 HS1]
  · iexists x16; iexists x17
    isplitr; · ipureintro; exact fun h => absurd rfl h
    isplitl [HS0]; · iexact HS0
    iexact HS1
  isplitl [HS2]; · iexact HS2
  isplitl [HS3]; · iexact HS3
  isplitl [HS5]; · iexact HS5
  isplitl [HS6]; · iexact HS6
  isplitl [Hg]; · iexact Hg
  iapply (wring0_0_in (F := Ideal) c)
  isplitl [HRS0_0]; · iexact HRS0_0
  isplitl [Hq0 Hq1]
  · isplitl [Hq0]; · iexact Hq0
    iexact Hq1
  iexact Ho0

/-- The invariant after the last point hands it back. -/
theorem hout (c : Dev nD) : (rdat m c).Φ (Fin.last cfg0.N) ⊢ Pipeline.ΦDR osem0 spec0 H0 R0 (V m) c := by
  rw [PhiDR0_eq, show (rdat m c).Φ (Fin.last cfg0.N) = PhiR m c grid0.N from rfl]
  unfold PhiR
  rw [show grid0.N = 56 by rw [N_0]]
  iintro ⟨⟨%x16, %x17, -, HS0, HS1⟩, HS2, HS3, HS5, HS6, Hg, HRW0_0⟩
  ihave HX0_0 := (wring0_0_out (F := Ideal) c) $$ HRW0_0
  icases HX0_0 with ⟨HRS0_0, ⟨Hq0, Hq1⟩, Ho0⟩
  isplitl [HS0 HS1 HS2 HS3 HRS0_0 HS5 HS6]
  · isplitl [HS0]; · iexists x16; iexact HS0
    isplitl [HS1]; · iexists x17; iexact HS1
    isplitl [HS2]; · iexact HS2
    isplitl [HS3]; · iexact HS3
    isplitl [HRS0_0]; · iexact HRS0_0
    isplitl [HS5]; · iexact HS5
    iexact HS6
  isplitl [Hg]
  · iexact Hg
  isplitl [Hq0 Hq1]
  · isplitl [Hq0]; · iexact Hq0
    iexact Hq1
  isplitr; · iempintro
  iexact Ho0

set_option backward.isDefEq.respectTransparency.types false in
set_option maxHeartbeats 800000 in
/-- The launch: every array ends at contents that the relational data allow, and every semaphore counter at zero. -/
theorem run_main : θ_run defs (onTc (τ := τ) (main (F := Ideal))) (s₀ m ρ) (fun r => (RDat.FramePostR cfg0 (rdat m) R0 (V m)) r ∧ r.2.sem = fun _ => 0) :=
  RDat.θ_run_frame_dmaR (Q' := _) cfgs (0 : Fin 1) launch0 osem0 defs₀ Variants.none (rdat m) ownSemFacts0 H0 R0 H0_sub R0_sub m ρ main
    (hbody := fun c => body_obligation m c) (hshare := fun c => (rdat m c).share_full fun _ => rfl)
    (howed := fun _ _ => rfl) (V := V m) (hmain := hmain m Variants.none) (hA := fun _ _ => rfl)
    (hin := hin m) (hout := hout m)

/-- The argument arrays end unchanged, off the launch's post. -/
theorem args_unchanged (r : PUnit × MemSt nD τ sig (Elt Ideal)) (h : RDat.FramePostR cfg0 (rdat m) R0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (Finset.mem_sdiff.mpr ⟨Pipeline.mem_restRefs_of main_arg0 (by decide) (by decide), by decide⟩)).trans (V_main_arg0 m c),
    ((h c).2 main_arg1 (Finset.mem_sdiff.mpr ⟨Pipeline.mem_restRefs_of main_arg1 (by decide) (by decide), by decide⟩)).trans (V_main_arg1 m c),
    ((h c).2 main_arg2 (Finset.mem_sdiff.mpr ⟨Pipeline.mem_restRefs_of main_arg2 (by decide) (by decide), by decide⟩)).trans (V_main_arg2 m c),
    ((h c).2 main_arg3 (Finset.mem_sdiff.mpr ⟨Pipeline.mem_restRefs_of main_arg3 (by decide) (by decide), by decide⟩)).trans (V_main_arg3 m c),
    (h.arr_in c 2 rfl).trans (V_main_arg4 m c),
    (h.arr_in c 3 rfl).trans (V_main_arg5 m c),
    ((h c).2 main_arg6 (Finset.mem_sdiff.mpr ⟨Pipeline.mem_restRefs_of main_arg6 (by decide) (by decide), by decide⟩)).trans (V_main_arg6 m c),
    (h.arr_in c 4 rfl).trans (V_main_arg7 m c),
    (h.arr_in c 5 rfl).trans (V_main_arg8 m c),
    ((h c).2 main_arg9 (Finset.mem_sdiff.mpr ⟨Pipeline.mem_restRefs_of main_arg9 (by decide) (by decide), by decide⟩)).trans (V_main_arg9 m c),
    (h.arr_in c 7 rfl).trans (V_main_arg10 m c)⟩

/-- The frame: the argument arrays end unchanged, every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => args_unchanged m r h.1 c, h.2⟩) (run_main m ρ)

end Cert.ExpertsIdeal.Gen

end
-- ==== Proof.ExpertsIdealValue.lean ====
/- The hidden codes and the gradient codes after the run of the experts kernel, in the rows that hold tokens: the formulas of the
   specification. -/
module

public import proofs.«01_k».proof.Proof.ExpertsIdealFrame
public import Idealize.ShloMosaic.Lib.Pipeline.ArrRel
public import Idealize.ShloMosaic.Lib.Pipeline.ValueKit

@[expose] public section

set_option maxRecDepth 16384

noncomputable section

namespace Cert.ExpertsIdeal.Gen

open Cert.Experts.Spec
open Idealize.ShloMosaic Idealize.ShloMosaic.TcCoe Idealize.ShloMosaic.Tactic Idealize.SL.Sem
open Idealize.ShloMosaic.Pipeline (Dat RDat Cfg Window)

variable (m : (ℓ : Loc nD τ sig) → Buf (Elt Ideal) ℓ) (ρ : Dev nD → PrngReg)

/-- A row holds a token. -/
def Holds (c : Dev nD) (e : Fin 8) (r : Fin 720) : Prop := BitVec.slt (m ((c : Thread nD τ).loc main_arg6) (ix2 e r)) 4608#32 = true

/-- The run: in the rows that hold tokens the two code arrays are the formulas, and the arguments end unchanged. -/
theorem run_value : θ_run defs (onTc (τ := τ) (main (F := Ideal))) (s₀ m ρ) (fun r => (∀ c : Dev nD,
      (∀ i : S8x720x1792.Idx, Holds m c (i 0) (i 1) → (r.2.mem ((c : Thread nD τ).loc main_v13_0) i : EReal) = THm m c (i 0) (i 1) (i 2))
      ∧ (∀ i : S8x2x720x1792.Idx, Holds m c (i 0) (i 2) → (r.2.mem ((c : Thread nD τ).loc main_v13_1) i : EReal) = TAm m c (i 0) (i 1) (i 2) (i 3)))
      ∧ RDat.FramePostR cfg0 (rdat m) R0 (V m) r ∧ r.2.sem = fun _ => 0) := by
  refine (θ_run defs _ _).mono (fun r h => ⟨fun c => ?_, h⟩) (run_main m ρ)
  obtain ⟨after, hL, hA⟩ := RDat.FramePostR.exists_exact h.1 c
  constructor
  · intro i
    rw [show r.2.mem ((c : Thread nD τ).loc main_v13_0) = _ from hA 8]
    revert i
    refine ((rdat m c).withAfter after).arrAt_forall_of_covers 8 (fun (i : S8x720x1792.Idx) v => Holds m c (i 0) (i 1) → (v : EReal) = THm m c (i 0) (i 1) (i 2)) (by decide +kernel) fun t hf (y : S1x720x256.Idx) => ?_
    obtain ⟨z, r', q, rfl⟩ : ∃ (z : Fin 1) (r' : Fin 720) (q : Fin 256), y = ix3 z r' q := ⟨_, _, _, eq_ix3 y⟩
    obtain ⟨Y, -, h8⟩ := hL 8 t hf
    have h8' : R8 m c t (after 8 t) := h8
    have hy : ((cfg0.win 8).blk t).view.emb (ix3 z r' q) = ix3 (eOf t) r' (kOf t q) := by
      have hz : z.val = 0 := by omega
      have he : (eOf t).val = t.val / 7 := rfl
      have hd : (kOf t q).val = t.val % 7 * 256 + q.val := rfl
      blk_ext [(idx_facts t).2.2.2.2.2.2.2.2.1, he, hd]
    rw [hy]
    intro hh
    have hz : z = 0 := Subsingleton.elim _ _
    subst hz
    have hn := (iblk_small m c t).1 (ix1 (eOf t))
    have hcnt := count m c (eOf t)
    rw [← hn] at hcnt
    exact (h8' hcnt.1 r' q (hcnt.2 r' hh)).trans (HX_eq m c t r' q)
  · intro i
    rw [show r.2.mem ((c : Thread nD τ).loc main_v13_1) = _ from hA 9]
    revert i
    refine ((rdat m c).withAfter after).arrAt_forall_of_covers 9 (fun (i : S8x2x720x1792.Idx) v => Holds m c (i 0) (i 2) → (v : EReal) = TAm m c (i 0) (i 1) (i 2) (i 3)) (by decide +kernel) fun t hf (y : S1x2x720x256.Idx) => ?_
    obtain ⟨z, g, r', q, rfl⟩ : ∃ (z : Fin 1) (g : Fin 2) (r' : Fin 720) (q : Fin 256), y = ix4 z g r' q := ⟨_, _, _, _, eq_ix4 y⟩
    obtain ⟨Y, -, h8⟩ := hL 9 t hf
    have h8' : R9 m c t (after 9 t) := h8
    have hy : ((cfg0.win 9).blk t).view.emb (ix4 z g r' q) = ix4 (eOf t) g r' (kOf t q) := by
      have hz : z.val = 0 := by omega
      have he : (eOf t).val = t.val / 7 := rfl
      have hd : (kOf t q).val = t.val % 7 * 256 + q.val := rfl
      blk_ext [(idx_facts t).2.2.2.2.2.2.2.2.2, he, hd]
    rw [hy]
    intro hh
    have hz : z = 0 := Subsingleton.elim _ _
    subst hz
    have hn := (iblk_small m c t).1 (ix1 (eOf t))
    have hcnt := count m c (eOf t)
    rw [← hn] at hcnt
    exact (h8' hcnt.1 g r' q (hcnt.2 r' hh)).trans (DX_eq m c t g r' q)

end Cert.ExpertsIdeal.Gen

end
-- ==== Proof.ExpertsRefValue.lean ====
/- The reference's hidden and gradient codes after its run, at an index: the formulas of the specification. -/
module

public import proofs.«01_k».proof.Proof.ExpertsResult
public import proofs.«01_k».proof.Proof.Gen.ExpertsRefIdeal.Value
public import proofs.«01_k».proof.Proof.Gen.ExpertsRefIdeal.Skeleton
public import Idealize.ShloMosaic.Lib.Pipeline.ValueKit
public import Idealize.ShloMosaic.Lib.Claim
public import Idealize.ShloMosaic.Lib.Tactic

@[expose] public section

set_option maxRecDepth 16384

noncomputable section

namespace Cert.ExpertsRefIdeal.Value

open Cert.ExpertsRefIdeal Cert.ExpertsRefIdeal.Gen Cert.Experts.Spec
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- The one grid point's block is the whole array, for every window. -/
theorem idx0 : ∀ t : Fin cfg0.N, win0_0.index t = (fun _ => 0) ∧ win0_1.index t = (fun _ => 0) ∧ win0_2.index t = (fun _ => 0) ∧ win0_3.index t = (fun _ => 0) ∧ win0_4.index t = (fun _ => 0) ∧ win0_5.index t = (fun _ => 0) ∧ win0_6.index t = (fun _ => 0) ∧ win0_7.index t = (fun _ => 0) ∧ win0_8.index t = (fun _ => 0) ∧ win0_9.index t = (fun _ => 0) ∧ win0_10.index t = (fun _ => 0) ∧ win0_11.index t = (fun _ => 0) ∧ win0_12.index t = (fun _ => 0) ∧ win0_13.index t = (fun _ => 0) ∧ win0_14.index t = (fun _ => 0) ∧ win0_15.index t = (fun _ => 0) ∧ win0_16.index t = (fun _ => 0) := by
  decide +kernel

/-- The scale of the first product that the host computes, at an expert. -/
theorem V_v4 (c : Dev nD) (e : Fin 8) : (V m c main_v4 (ix3 e 0 0) : EReal) = sc (m ((c : Thread nD τ).loc main_arg0)) (m ((c : Thread nD τ).loc main_arg4)) e := by
  unfold sc; entry_read; pointwise
/-- The scale of the returning gradient that the host computes, at an expert. -/
theorem V_v7 (c : Dev nD) (e : Fin 8) : (V m c main_v7 (ix3 e 0 0) : EReal) = sc (m ((c : Thread nD τ).loc main_arg2)) (m ((c : Thread nD τ).loc main_arg5)) e := by
  unfold sc; entry_read; pointwise
theorem V_v0 (c : Dev nD) : (V m c main_v0 (ix3 0 0 0) : EReal) = m ((c : Thread nD τ).loc main_arg1) ix0 := by
  entry_read; pointwise
theorem V_v1 (c : Dev nD) : (V m c main_v1 (ix3 0 0 0) : EReal) = m ((c : Thread nD τ).loc main_arg3) ix0 := by
  entry_read; pointwise
/-- The gate's half of the first weights. -/
theorem V_v13 (c : Dev nD) (e : Fin 8) (d : Fin 4096) (k : Fin 1792) : V m c main_v13 (ix3 e d k) = m ((c : Thread nD τ).loc main_arg9) (ix4 e d 0 k) := by
  entry_read; pointwise
/-- The other half of the first weights. -/
theorem V_v15 (c : Dev nD) (e : Fin 8) (d : Fin 4096) (k : Fin 1792) : V m c main_v15 (ix3 e d k) = m ((c : Thread nD τ).loc main_arg9) (ix4 e d 1 k) := by
  entry_read; pointwise

set_option maxHeartbeats 3200000 in
/-- A block read is the array read at the same place. -/
theorem iblk_at (c : Dev nD) (t : Fin cfg0.N) :
    (∀ x, iblk m c 0 t x = V m c main_v0 x) ∧ (∀ x, iblk m c 1 t x = V m c main_v1 x) ∧ (∀ x, iblk m c 2 t x = V m c main_v4 x)
    ∧ (∀ x, iblk m c 3 t x = V m c main_v7 x) ∧ (∀ x, iblk m c 6 t x = V m c main_arg7 x) ∧ (∀ x, iblk m c 7 t x = V m c main_arg8 x)
    ∧ (∀ x, iblk m c 8 t x = V m c main_v13 x) ∧ (∀ x, iblk m c 9 t x = V m c main_v15 x) ∧ (∀ x, iblk m c 10 t x = V m c main_arg10 x) := by
  obtain ⟨e0, e1, e2, e3, -, -, e6, e7, e8, e9, e10, -⟩ := idx0 t
  refine ⟨fun x => ?_, fun x => ?_, fun x => ?_, fun x => ?_, fun x => ?_, fun x => ?_, fun x => ?_, fun x => ?_, fun x => ?_⟩
  · blk_ext [iblk, e0]
  · blk_ext [iblk, e1]
  · blk_ext [iblk, e2]
  · blk_ext [iblk, e3]
  · blk_ext [iblk, e6]
  · blk_ext [iblk, e7]
  · blk_ext [iblk, e8]
  · blk_ext [iblk, e9]
  · blk_ext [iblk, e10]

section at_index

variable (X : Vec Ideal S8x720x4096 .fp8e4m3) (Y : Vec Ideal S8x720x4096 .fp8e5m2) (W U : Vec Ideal S8x4096x1792 .fp8e4m3) (S D : Vec Ideal S8x1x1 .f32)
  (Z : Vec Ideal S8x1792x4096 .fp8e4m3) (q : Vec Ideal S1x1x1 .f32) (e : Fin 8) (r : Fin 720) (k : Fin 1792)

theorem pay2_at : (k0_pay2 (F := Ideal) X W S (ix3 e r k) : EReal) = dotS (fun d => X (ix3 e r d)) (fun d => W (ix3 e d k)) (S (ix3 e 0 0)) := by
  pointwise [k0_pay2, dotS]
theorem pay3_at : (k0_pay3 (F := Ideal) X W S (ix3 e r k) : EReal) = dotS (fun d => X (ix3 e r d)) (fun d => W (ix3 e d k)) (S (ix3 e 0 0)) := by
  pointwise [k0_pay3, dotS]
theorem pay9_at : (k0_pay9 (F := Ideal) Y Z D (ix3 e r k) : EReal) = dotS (fun d => Y (ix3 e r d)) (fun d => Z (ix3 e k d)) (D (ix3 e 0 0)) := by
  pointwise [k0_pay9, dotS]
theorem pay6_at : (k0_pay6 (F := Ideal) X W S U S q (ix3 e r k) : EReal) = hq (k0_pay2 (F := Ideal) X W S (ix3 e r k)) (k0_pay3 (F := Ideal) X U S (ix3 e r k)) (q (ix3 0 0 0)) := by
  pointwise [k0_pay6, k0_pay5, k0_pay4, hq, quant, sg]

variable (A B : FVec Ideal S8x720x1792 .f32)

theorem pay12_at : (k0_pay12 (F := Ideal) Y A B (logistic A) Z D q (ix3 e r k) : EReal) = gq (A (ix3 e r k)) (B (ix3 e r k)) (k0_pay9 (F := Ideal) Y Z D (ix3 e r k)) (q (ix3 0 0 0)) := by
  pointwise [k0_pay12, k0_pay10, gq, quant, sg]
theorem pay15_at : (k0_pay15 (F := Ideal) (k0_pay13 (F := Ideal) Y A (logistic A) Z D q) k0_pay14 (ix3 e r k) : EReal)
    = uq (A (ix3 e r k)) (k0_pay9 (F := Ideal) Y Z D (ix3 e r k)) (q (ix3 0 0 0)) := by
  pointwise [k0_pay15, k0_pay13, k0_pay14, k0_pay11, uq, quant, sg]

/-- The two halves stacked, at each. -/
theorem pay16_0 (G : FVec Ideal S8x720x1792 .fp8e5m2) : (k0_pay16 (F := Ideal) G A B (ix4 e 0 r k) : EReal) = G (ix3 e r k) := by
  unfold k0_pay16
  concat_tiles i h
  · pointwise
    exact congrArg G (funext fun a => Fin.ext (by fin_cases a; exacts [h0, h2, h3]))
  · exact absurd h (by simp)
theorem pay16_1 (G : FVec Ideal S8x720x1792 .fp8e5m2) : (k0_pay16 (F := Ideal) G A B (ix4 e 1 r k) : EReal) = k0_pay15 (F := Ideal) A B (ix3 e r k) := by
  unfold k0_pay16
  concat_tiles i h
  · exact absurd h (by simp)
  · pointwise
    exact congrArg (k0_pay15 (F := Ideal) A B) (funext fun a => Fin.ext (by fin_cases a; exacts [h0, h2, h3]))

end at_index

theorem ld_q (q : Vec Ideal S1x1x1 .f32) : View.ld q r0_3 = q := View.ld_unit_lit _ _ (by decide)

/-- The gradient codes by half. -/
theorem TA_half (sx sd sa s1 s2 xs dy w1 w2) (e : Fin 8) (r : Fin 720) (k : Fin 1792) :
    TA sx sd sa s1 s2 xs dy w1 w2 e 0 r k = gq (pre sx s1 xs w1 0 e r k) (pre sx s1 xs w1 1 e r k) (back sd s2 dy w2 e r k) (sa ix0)
    ∧ TA sx sd sa s1 s2 xs dy w1 w2 e 1 r k = uq (pre sx s1 xs w1 0 e r k) (back sd s2 dy w2 e r k) (sa ix0) := by
  unfold TA dq
  exact ⟨if_pos rfl, if_neg (by decide)⟩

/-- The gate's half of the first product. -/
theorem pre0_eq (c : Dev nD) (t : Fin cfg0.N) (e : Fin 8) (r : Fin 720) (k : Fin 1792) :
    dotS (fun d => iblk m c 6 t (ix3 e r d)) (fun d => iblk m c 8 t (ix3 e d k)) (iblk m c 2 t (ix3 e 0 0)) = pre (m ((c : Thread nD τ).loc main_arg0)) (m ((c : Thread nD τ).loc main_arg4)) (m ((c : Thread nD τ).loc main_arg7)) (m ((c : Thread nD τ).loc main_arg9)) 0 e r k := by
  obtain ⟨h0, h1, h2, h3, h6, h7, h8, h9, h10⟩ := iblk_at m c t
  have hx : (fun d => (iblk m c 6 t (ix3 e r d) : EReal)) = fun d => (m ((c : Thread nD τ).loc main_arg7) (ix3 e r d) : EReal) := funext fun d => (h6 _).trans (congrFun (V_main_arg7 m c) _)
  have hw : (fun d => (iblk m c 8 t (ix3 e d k) : EReal)) = fun d => (m ((c : Thread nD τ).loc main_arg9) (ix4 e d 0 k) : EReal) := funext fun d => (h8 _).trans (V_v13 m c e d k)
  have hs : (iblk m c 2 t (ix3 e 0 0) : EReal) = sc (m ((c : Thread nD τ).loc main_arg0)) (m ((c : Thread nD τ).loc main_arg4)) e := (h2 _).trans (V_v4 m c e)
  unfold pre; rw [← hx, ← hw, ← hs]
/-- The other half of the first product. -/
theorem pre1_eq (c : Dev nD) (t : Fin cfg0.N) (e : Fin 8) (r : Fin 720) (k : Fin 1792) :
    dotS (fun d => iblk m c 6 t (ix3 e r d)) (fun d => iblk m c 9 t (ix3 e d k)) (iblk m c 2 t (ix3 e 0 0)) = pre (m ((c : Thread nD τ).loc main_arg0)) (m ((c : Thread nD τ).loc main_arg4)) (m ((c : Thread nD τ).loc main_arg7)) (m ((c : Thread nD τ).loc main_arg9)) 1 e r k := by
  obtain ⟨h0, h1, h2, h3, h6, h7, h8, h9, h10⟩ := iblk_at m c t
  have hx : (fun d => (iblk m c 6 t (ix3 e r d) : EReal)) = fun d => (m ((c : Thread nD τ).loc main_arg7) (ix3 e r d) : EReal) := funext fun d => (h6 _).trans (congrFun (V_main_arg7 m c) _)
  have hw : (fun d => (iblk m c 9 t (ix3 e d k) : EReal)) = fun d => (m ((c : Thread nD τ).loc main_arg9) (ix4 e d 1 k) : EReal) := funext fun d => (h9 _).trans (V_v15 m c e d k)
  have hs : (iblk m c 2 t (ix3 e 0 0) : EReal) = sc (m ((c : Thread nD τ).loc main_arg0)) (m ((c : Thread nD τ).loc main_arg4)) e := (h2 _).trans (V_v4 m c e)
  unfold pre; rw [← hx, ← hw, ← hs]
/-- The returning gradient. -/
theorem back_eq (c : Dev nD) (t : Fin cfg0.N) (e : Fin 8) (r : Fin 720) (k : Fin 1792) :
    dotS (fun d => iblk m c 7 t (ix3 e r d)) (fun d => iblk m c 10 t (ix3 e k d)) (iblk m c 3 t (ix3 e 0 0)) = back (m ((c : Thread nD τ).loc main_arg2)) (m ((c : Thread nD τ).loc main_arg5)) (m ((c : Thread nD τ).loc main_arg8)) (m ((c : Thread nD τ).loc main_arg10)) e r k := by
  obtain ⟨h0, h1, h2, h3, h6, h7, h8, h9, h10⟩ := iblk_at m c t
  have hx : (fun d => (iblk m c 7 t (ix3 e r d) : EReal)) = fun d => (m ((c : Thread nD τ).loc main_arg8) (ix3 e r d) : EReal) := funext fun d => (h7 _).trans (congrFun (V_main_arg8 m c) _)
  have hw : (fun d => (iblk m c 10 t (ix3 e k d) : EReal)) = fun d => (m ((c : Thread nD τ).loc main_arg10) (ix3 e k d) : EReal) := funext fun d => (h10 _).trans (congrFun (V_main_arg10 m c) _)
  have hs : (iblk m c 3 t (ix3 e 0 0) : EReal) = sc (m ((c : Thread nD τ).loc main_arg2)) (m ((c : Thread nD τ).loc main_arg5)) e := (h3 _).trans (V_v7 m c e)
  unfold back; rw [← hx, ← hw, ← hs]

/-- The reference's hidden codes. -/
theorem arr11 (c : Dev nD) (i : S8x720x1792.Idx) :
    ((dats m 0 c).arrAt 11 cfg0.N i : EReal) = TH (m ((c : Thread nD τ).loc main_arg0)) (m ((c : Thread nD τ).loc main_arg1)) (m ((c : Thread nD τ).loc main_arg4)) (m ((c : Thread nD τ).loc main_arg7)) (m ((c : Thread nD τ).loc main_arg9)) (i 0) (i 1) (i 2) := by
  suffices h : (dats m 0 c).arrAt 11 cfg0.N = fun i : S8x720x1792.Idx => TH (m ((c : Thread nD τ).loc main_arg0)) (m ((c : Thread nD τ).loc main_arg1)) (m ((c : Thread nD τ).loc main_arg4)) (m ((c : Thread nD τ).loc main_arg7)) (m ((c : Thread nD τ).loc main_arg9)) (i 0) (i 1) (i 2) from congrFun h i
  refine (dats m 0 c).arrAt_eq_of_covers 11 _ (by decide +kernel) fun t hf (y : S8x720x1792.Idx) => ?_
  have hy : ((cfg0.win 11).blk t).view.emb y = y := by
    blk_ext [(idx0 t).2.2.2.2.2.2.2.2.2.2.2.1]
  rw [hy]; clear hy
  obtain ⟨e, r, k, rfl⟩ : ∃ (e : Fin 8) (r : Fin 720) (k : Fin 1792), y = ix3 e r k := ⟨_, _, _, eq_ix3 y⟩
  blk_simp; rw [after0_11]; frame_out
  obtain ⟨h0, h1, h2, h3, h6, h7, h8, h9, h10⟩ := iblk_at m c t
  refine (pay6_at _ _ _ _ _ _ _ _).trans ?_
  rw [pay2_at, pay3_at, h0, V_v0, pre0_eq, pre1_eq]
  rfl

set_option maxHeartbeats 1600000 in
/-- The reference's gradient codes. -/
theorem arr12 (c : Dev nD) (i : S8x2x720x1792.Idx) :
    ((dats m 0 c).arrAt 12 cfg0.N i : EReal) = TA (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) (i 0) (i 1) (i 2) (i 3) := by
  suffices h : (dats m 0 c).arrAt 12 cfg0.N = fun i : S8x2x720x1792.Idx => TA (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) (i 0) (i 1) (i 2) (i 3) from congrFun h i
  refine (dats m 0 c).arrAt_eq_of_covers 12 _ (by decide +kernel) fun t hf (y : S8x2x720x1792.Idx) => ?_
  have hy : ((cfg0.win 12).blk t).view.emb y = y := by
    blk_ext [(idx0 t).2.2.2.2.2.2.2.2.2.2.2.2.1]
  rw [hy]; clear hy
  obtain ⟨e, g, r, k, rfl⟩ : ∃ (e : Fin 8) (g : Fin 2) (r : Fin 720) (k : Fin 1792), y = ix4 e g r k := ⟨_, _, _, _, eq_ix4 y⟩
  blk_simp; rw [after0_12]; frame_out
  obtain ⟨h0, h1, h2, h3, h6, h7, h8, h9, h10⟩ := iblk_at m c t
  have hq : View.ld (iblk m c 1 t) r0_3 (ix3 0 0 0) = V m c main_v1 (ix3 0 0 0) := (congrFun (ld_q (iblk m c 1 t)) _).trans (h1 _)
  have hg : g = 0 ∨ g = 1 := by fin_cases g <;> simp
  rcases hg with rfl | rfl
  · refine (pay16_0 _ _ _ _ _ _).trans ((pay12_at _ _ _ _ _ _ _ _ _).trans ?_)
    unfold k0_pay20 k0_pay21
    simp (disch := decide) only [View.ld_unit_lit]
    rw [pay2_at, pay3_at, pay9_at, hq, V_v1, pre0_eq, pre1_eq, back_eq]
    exact (TA_half _ _ _ _ _ _ _ _ _ e r k).1.symm
  · refine (pay16_1 _ _ _ _ _ _).trans ((pay15_at _ _ _ _ _ _ _ _).trans ?_)
    unfold k0_pay20
    simp (disch := decide) only [View.ld_unit_lit]
    rw [pay2_at, pay9_at, hq, V_v1, pre0_eq, back_eq]
    exact (TA_half _ _ _ _ _ _ _ _ _ e r k).2.symm

end Cert.ExpertsRefIdeal.Value

end
-- ==== Proof.QuantSpec.lean ====
/- The quantiser as mathematics: the code of an entry, and the facts about greatest elements that the kernel's and the reference's
   maxima of absolute values are compared by. -/
module

public import Idealize.ShloMosaic.Lib.ValueIdx
public import Idealize.ShloMosaic.Lib.Pointwise
public import Idealize.ShloMosaic.PureOps.Ideal.Laws
public import Idealize.ShloMosaic.Lib.Tactic

@[expose] public section

set_option maxRecDepth 16384

noncomputable section

namespace Cert.Quant.Spec

open Idealize.ShloMosaic

/-- The code of entry `(r, d)`: the entry over the scale, clipped to the greatest magnitude 448 of the format. -/
def code (x : (⟨2, ![2304, 4096]⟩ : Shape).Idx → EReal) (s : (⟨0, ![]⟩ : Shape).Idx → EReal) (r : Fin 2304) (d : Fin 4096) : EReal :=
  min (Ideal.ofBits .f32 0x43E00000#32) (max (Ideal.ofBits .f32 0xC3E00000#32) (FloatOps.divf (F := Ideal) (φ := .f32) (x (ix2 r d)) (s ix0)))

/-- The absolute value over the extended reals. -/
def mag (x : EReal) : EReal := max x (-x)

theorem mag_nonneg (x : EReal) : 0 ≤ mag x := by
  unfold mag
  rcases le_total 0 x with h | h
  · exact h.trans (le_max_left _ _)
  · exact (EReal.neg_nonneg.mpr h).trans (le_max_right _ _)

theorem negInf : Ideal.ofBits .f32 0xFF800000#32 = (⊥ : EReal) := by
  first | rfl | decide | simp

theorem zero32 : Ideal.ofBits .f32 0x00000000#32 = (0 : EReal) := by
  first | rfl | decide | simp

/-- The greatest of a finite family, from the least extended real, by what it lies under. -/
theorem fold_le {ι : Type} [Fintype ι] (f : ι → EReal) (z : EReal) :
    Finset.fold max (Ideal.ofBits .f32 0xFF800000#32) f Finset.univ ≤ z ↔ ∀ i, f i ≤ z := by
  rw [negInf, Finset.fold_max_le]
  simp

/-- The same for a family over pairs. -/
theorem fold_le_pairs {m n : ℕ} (f : Fin m × Fin n → EReal) (z : EReal) :
    Finset.fold max (Ideal.ofBits .f32 0xFF800000#32) f Finset.univ ≤ z ↔ ∀ (a : Fin m) (b : Fin n), f (a, b) ≤ z := by
  rw [fold_le, Prod.forall]

end Cert.Quant.Spec

end
-- ==== Proof.QuantIdealStep.lean ====
/- What one point of the quantiser computes: its block of codes, and how its running maxima grow. -/
module

public import proofs.«01_k».proof.Proof.QuantSpec
public import proofs.«01_k».proof.Proof.Gen.QuantIdeal.Value
public import proofs.«01_k».proof.Proof.Gen.QuantIdeal.Skeleton
public import Idealize.ShloMosaic.Lib.Pipeline.ValueKit
public import Idealize.ShloMosaic.Lib.Claim
public import Idealize.ShloMosaic.Lib.Tactic

@[expose] public section

set_option maxRecDepth 16384

noncomputable section

namespace Cert.QuantIdeal.Value

open Cert.QuantIdeal Cert.QuantIdeal.Gen Cert.Quant.Spec
open Idealize.ShloMosaic Idealize.ShloMosaic.TcCoe Idealize.ShloMosaic.Tactic Idealize.SL.Sem
open Idealize.ShloMosaic.Pipeline (Dat)

/-- The greatest magnitude in the rows of one residue modulo 8, at a column. -/
theorem rows_le (x : Vec Ideal S256x4096 .bf16) (a : Fin 8) (d : Fin 4096) (z : EReal) :
    @LE.le EReal _ (k0_pay6 x (ix2 a d)) z ↔ ∀ q : Fin 32, mag (x (ix2 ⟨q.val * 8 + a.val, by omega⟩ d)) ≤ z := by
  unfold k0_pay6
  pointwise
  exact fold_le (fun q : Fin 32 => mag (x (ix2 ⟨q.val * 8 + a.val, by omega⟩ d))) z

/-- The running maxima after a point, over what they were before. -/
theorem step_le (acc : Vec Ideal S8x128 .f32) (x : Vec Ideal S256x4096 .bf16) (a : Fin 8) (b : Fin 128) (z : EReal) :
    @LE.le EReal _ (k0_pay1 acc (k0_pay6 x) (k0_pay7 x) (ix2 a b)) z ↔ @LE.le EReal _ (acc (ix2 a b)) z
      ∧ ∀ k : Fin 32, @LE.le EReal _ (k0_pay6 x (ix2 a ⟨k.val * 128 + b.val, by omega⟩)) z := by
  generalize hw : k0_pay6 x = w
  unfold k0_pay1 k0_pay7
  rw [hw]
  pointwise
  simp only [max_le_iff, and_assoc]
  constructor
  · rintro ⟨h, h0, h1, h2, h3, h4, h5, h6, h7, h8, h9, h10, h11, h12, h13, h14, h15, h16, h17, h18, h19, h20, h21, h22, h23, h24, h25, h26, h27, h28, h29, h30, h31⟩
    refine ⟨h, fun k => ?_⟩
    fin_cases k
    exacts [by simpa using h0, h1, h2, h3, h4, h5, h6, h7, h8, h9, h10, h11, h12, h13, h14, h15, h16, h17, h18, h19, h20, h21, h22, h23, h24, h25, h26, h27, h28, h29, h30, h31]
  · rintro ⟨h, g⟩
    exact ⟨h, by simpa using g 0, g 1, g 2, g 3, g 4, g 5, g 6, g 7, g 8, g 9, g 10, g 11, g 12, g 13, g 14, g 15, g 16, g 17, g 18, g 19, g 20, g 21, g 22, g 23, g 24, g 25, g 26, g 27, g 28, g 29, g 30, g 31⟩

/-- The greatest of the running maxima. -/
theorem all_le (acc : Vec Ideal S8x128 .f32) (z : EReal) :
    @LE.le EReal _ (k0_pay2 acc) z ↔ ∀ (a : Fin 8) (b : Fin 128), @LE.le EReal _ (acc (ix2 a b)) z := by
  unfold k0_pay2
  pointwise
  exact fold_le_pairs (fun x => acc (ix2 x.1 x.2)) z

theorem hz : (![0, 0] : Fin 2 → Nat) = fun _ => 0 := funext fun a => by fin_cases a <;> rfl

/-- An array of one entry has one index. -/
theorem one_idx (i : S1.Idx) : i = ix1 0 := by
  refine (eq_ix1 i).trans (congrArg ix1 (Fin.ext ?_))
  have : (i 0).val < 1 := (i 0).isLt
  show (i 0).val = 0
  omega

section Runs

variable (c : Dev nD) (i : grid0.Coords) (a1 : Memref sig .tc .smem S1 .f32) (h1 : a1.IsWhole) (a2 : Memref sig .tc .vmem S256x4096 .bf16) (h2 : a2.IsWhole)
  (a3 : Memref sig .tc .vmem S256x4096 .fp8e4m3) (h3 : a3.IsWhole) (a4 : Memref sig .tc .smem S1x1 .f32) (h4 : a4.IsWhole)
  (a5 : Memref sig .tc .vmem S8x128 .f32) (h5 : a5.IsWhole) (x0 : Vec Ideal S1 .f32) (x1 : Vec Ideal S256x4096 .bf16) (xs : Vec Ideal S8x128 .f32)

/-- The codes that the first point leaves. -/
theorem out_A_2 (hc0 : cond0_0 i) (hc1 : ¬cond0_1 i) : out0_A_2 c i a1 h1 a2 h2 a3 h3 a4 h4 a5 h5 hc0 hc1 x0 x1 = k0_pay5 x1 (x0 (ix1 0)) := by
  unfold out0_A_2
  rw [View.read_writes_eq_canon _ _ _ (cover0_A_2 c i a1 h1 a2 h2 a3 h3 a4 h4 a5 h5 hc0 hc1 x0 x1)]
  unfold kernelRun0_A
  dsimp only
  sl_unfold_words
  rw [View.canon_unit_zero hz]
  simp only [View.readAt_eq_ld, h1.read_unread, h2.read_unread, View.ld_unit_zero (S := S256x4096) hz]
  exact congrArg (k0_pay5 x1) (congrArg x0 (one_idx _))

/-- The codes that a middle point leaves. -/
theorem out_B_2 (hc0 : ¬cond0_0 i) (hc1 : ¬cond0_1 i) : out0_B_2 c i a1 h1 a2 h2 a3 h3 a4 h4 a5 h5 hc0 hc1 x0 x1 xs = k0_pay5 x1 (x0 (ix1 0)) := by
  unfold out0_B_2
  rw [View.read_writes_eq_canon _ _ _ (cover0_B_2 c i a1 h1 a2 h2 a3 h3 a4 h4 a5 h5 hc0 hc1 x0 x1 xs)]
  unfold kernelRun0_B
  dsimp only
  sl_unfold_words
  rw [View.canon_unit_zero hz]
  simp only [View.readAt_eq_ld, h1.read_unread, h2.read_unread, View.ld_unit_zero (S := S256x4096) hz]
  exact congrArg (k0_pay5 x1) (congrArg x0 (one_idx _))

/-- The codes that the last point leaves. -/
theorem out_C_2 (hc0 : ¬cond0_0 i) (hc1 : cond0_1 i) : out0_C_2 c i a1 h1 a2 h2 a3 h3 a4 h4 a5 h5 hc0 hc1 x0 x1 xs = k0_pay5 x1 (x0 (ix1 0)) := by
  unfold out0_C_2
  rw [View.read_writes_eq_canon _ _ _ (cover0_C_2 c i a1 h1 a2 h2 a3 h3 a4 h4 a5 h5 hc0 hc1 x0 x1 xs)]
  unfold kernelRun0_C
  dsimp only
  sl_unfold_words
  rw [View.canon_unit_zero hz]
  simp only [View.readAt_eq_ld, h1.read_unread, h2.read_unread, View.ld_unit_zero (S := S256x4096) hz]
  exact congrArg (k0_pay5 x1) (congrArg x0 (one_idx _))

/-- The running maxima that the first point leaves. -/
theorem sout_A (hc0 : cond0_0 i) (hc1 : ¬cond0_1 i) : sout0_A_0 c i a1 h1 a2 h2 a3 h3 a4 h4 a5 h5 hc0 hc1 x0 x1 = k0_pay1 k0_pay3 (k0_pay6 x1) (k0_pay7 x1) := by
  unfold sout0_A_0
  rw [View.read_writes_eq_canon _ _ _ (scover0_A_0 c i a1 h1 a2 h2 a3 h3 a4 h4 a5 h5 hc0 hc1 x0 x1)]
  unfold kernelRun0_A
  dsimp only
  sl_unfold_words
  rw [View.canon_cons_unit_zero (S := S8x128) hz, View.readCov_unit_zero (S := S8x128) _ hz]
  simp only [View.readAt_eq_ld, h2.read_unread, View.ld_unit_zero (S := S256x4096) hz]

/-- The running maxima that a middle point leaves. -/
theorem sout_B (hc0 : ¬cond0_0 i) (hc1 : ¬cond0_1 i) : sout0_B_0 c i a1 h1 a2 h2 a3 h3 a4 h4 a5 h5 hc0 hc1 x0 x1 xs = k0_pay1 xs (k0_pay6 x1) (k0_pay7 x1) := by
  unfold sout0_B_0
  rw [View.read_writes_eq_canon _ _ _ (scover0_B_0 c i a1 h1 a2 h2 a3 h3 a4 h4 a5 h5 hc0 hc1 x0 x1 xs)]
  unfold kernelRun0_B
  dsimp only
  sl_unfold_words
  rw [View.canon_unit_zero (S := S8x128) hz]
  simp only [View.readAt_eq_ld, h2.read_unread, h5.read_unread, View.ld_unit_zero (S := S256x4096) hz, View.ld_unit_zero (S := S8x128) hz]

/-- The running maxima that the last point leaves. -/
theorem sout_C (hc0 : ¬cond0_0 i) (hc1 : cond0_1 i) : sout0_C_0 c i a1 h1 a2 h2 a3 h3 a4 h4 a5 h5 hc0 hc1 x0 x1 xs = k0_pay1 xs (k0_pay6 x1) (k0_pay7 x1) := by
  unfold sout0_C_0
  rw [View.read_writes_eq_canon _ _ _ (scover0_C_0 c i a1 h1 a2 h2 a3 h3 a4 h4 a5 h5 hc0 hc1 x0 x1 xs)]
  unfold kernelRun0_C
  dsimp only
  sl_unfold_words
  rw [View.canon_unit_zero (S := S8x128) hz]
  simp only [View.readAt_eq_ld, h2.read_unread, h5.read_unread, View.ld_unit_zero (S := S256x4096) hz, View.ld_unit_zero (S := S8x128) hz]

/-- The greatest magnitude that the last point leaves. -/
theorem out_C_3 (hc0 : ¬cond0_0 i) (hc1 : cond0_1 i) : out0_C_3 c i a1 h1 a2 h2 a3 h3 a4 h4 a5 h5 hc0 hc1 x0 x1 xs = fun _ => k0_pay2 (k0_pay1 xs (k0_pay6 x1) (k0_pay7 x1)) := by
  unfold out0_C_3
  rw [View.read_writes_eq_canon _ _ _ (cover0_C_3 c i a1 h1 a2 h2 a3 h3 a4 h4 a5 h5 hc0 hc1 x0 x1 xs)]
  unfold kernelRun0_C
  dsimp only
  sl_unfold_words
  rw [View.canon_unit_zero hz]
  simp only [View.readCov_unit_zero (S := S8x128) _ hz, View.readAt_eq_ld, h2.read_unread, h5.read_unread, View.ld_unit_zero (S := S256x4096) hz, View.ld_unit_zero (S := S8x128) hz]
  rfl

end Runs

end Cert.QuantIdeal.Value

end
-- ==== Proof.QuantIdealValue.lean ====
/- The quantiser kernel's two arrays after its run: the codes by the specification's formula, and the greatest magnitude by what it lies
   under. -/
module

public import proofs.«01_k».proof.Proof.QuantIdealStep

@[expose] public section

set_option maxRecDepth 16384

noncomputable section

namespace Cert.QuantIdeal.Value

open Cert.QuantIdeal Cert.QuantIdeal.Gen Cert.Quant.Spec
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- Where each window's block sits at a point: the rows go with the point, the scale and the maximum stay. -/
theorem idx : ∀ t : Fin cfg0.N, win0_0.index t = ![0] ∧ win0_1.index t = ![t.val, 0] ∧ win0_2.index t = ![t.val, 0] ∧ win0_3.index t = ![0, 0] := by
  decide +kernel

/-- The scale that the host reshapes. -/
theorem V_v0 (c : Dev nD) (i : S1.Idx) : V m c main_v0 i = m ((c : Thread nD τ).loc main_arg1) ix0 := by
  entry_read; pointwise

theorem lt9 (t : Fin cfg0.N) : t.val < 9 := lt_of_lt_of_eq t.isLt N_0

/-- Row `r` of point `t`'s block is row `256 t + r` of the array. -/
def row (t : Fin cfg0.N) (r : Fin 256) : Fin 2304 := ⟨t.val * 256 + r.val, by have := lt9 t; omega⟩

/-- The scale at every point. -/
theorem iblk0 (c : Dev nD) (t : Fin cfg0.N) (i : S1.Idx) : iblk m c 0 t i = m ((c : Thread nD τ).loc main_arg1) ix0 := by
  obtain ⟨e0, -, -, -⟩ := idx t
  have h : iblk m c 0 t i = V m c main_v0 i := by
    blk_ext [iblk, e0]
  rw [h, V_v0]

/-- The entries of a point's block. -/
theorem iblk1 (c : Dev nD) (t : Fin cfg0.N) (r : Fin 256) (d : Fin 4096) : iblk m c 1 t (ix2 r d) = m ((c : Thread nD τ).loc main_arg0) (ix2 (row t r) d) := by
  obtain ⟨-, e1, -, -⟩ := idx t
  have h : iblk m c 1 t (ix2 r d) = V m c main_arg0 (ix2 (row t r) d) := by
    blk_ext [iblk, e1, row]
  rw [h, V_main_arg0]

/-- The codes a point leaves, in any case. -/
theorem codes_at (c : Dev nD) (t : Fin cfg0.N) : (outsAt0 m c t.val t.isLt).1 = k0_pay5 (iblk m c 1 t) (iblk m c 0 t (ix1 0)) := by
  have h9 := lt9 t
  by_cases h0 : t.val % 9 = 0
  · have h1 : ¬t.val % 9 = 8 := by omega
    rw [outsAt0_A m c t h0 h1]; dsimp only; rw [out_A_2]
  · by_cases h1 : t.val % 9 = 8
    · rw [outsAt0_C m c t h0 h1]; dsimp only; rw [out_C_2]
    · rw [outsAt0_B m c t h0 h1]; dsimp only; rw [out_B_2]

/-- The kernel's codes. -/
theorem arr2 (c : Dev nD) : (dats m 0 c).arrAt 2 cfg0.N = fun i : S2304x4096.Idx => code (m ((c : Thread nD τ).loc main_arg0)) (m ((c : Thread nD τ).loc main_arg1)) (i 0) (i 1) := by
  refine (dats m 0 c).arrAt_eq_of_covers 2 _ (by decide +kernel) fun t hf (y : S256x4096.Idx) => ?_
  obtain ⟨r, d, rfl⟩ : ∃ (r : Fin 256) (d : Fin 4096), y = ix2 r d := ⟨_, _, eq_ix2 y⟩
  have hy : ((cfg0.win 2).blk t).view.emb (ix2 r d) = ix2 (row t r) d := by
    blk_ext [(idx t).2.2.1, row]
  rw [hy]; clear hy
  blk_simp; rw [after0_2, codes_at]
  pointwise [k0_pay5, k0_pay4, code]
  rw [iblk0]
  exact congrArg (fun v : EReal => min _ (max _ (Ideal.div v _))) (iblk1 m c t r d)

/-- The running maxima after a point: at least zero, and at least every magnitude of the points so far at the entries they stand for. -/
theorem acc_le (c : Dev nD) (a : Fin 8) (b : Fin 128) (z : EReal) : ∀ (n : ℕ) (hn : n < cfg0.N),
    @LE.le EReal _ ((outsAt0 m c n hn).2.2 (ix2 a b)) z ↔ (0 ≤ z ∧ ∀ (t : Fin cfg0.N), t.val ≤ n → ∀ k q : Fin 32,
      mag (m ((c : Thread nD τ).loc main_arg0) (ix2 (row t ⟨q.val * 8 + a.val, by omega⟩) ⟨k.val * 128 + b.val, by omega⟩)) ≤ z) := by
  have hstep : ∀ (acc : Vec Ideal S8x128 .f32) (t : Fin cfg0.N), @LE.le EReal _ (k0_pay1 acc (k0_pay6 (iblk m c 1 t)) (k0_pay7 (iblk m c 1 t)) (ix2 a b)) z ↔
      (@LE.le EReal _ (acc (ix2 a b)) z ∧ ∀ k q : Fin 32,
        mag (m ((c : Thread nD τ).loc main_arg0) (ix2 (row t ⟨q.val * 8 + a.val, by omega⟩) ⟨k.val * 128 + b.val, by omega⟩)) ≤ z) := fun acc t => by
    rw [step_le]
    refine and_congr Iff.rfl (forall_congr' fun k => ?_)
    rw [rows_le]
    refine forall_congr' fun q => ?_
    rw [← iblk1 m c t]
  have hzero : k0_pay3 (F := Ideal) (ix2 a b) = (0 : EReal) := by
    unfold k0_pay3
    pointwise
  intro n
  induction n with
  | zero =>
    intro hn
    rw [outsAt0_A m c ⟨0, hn⟩ rfl (by decide : ¬0 % 9 = 8)]
    dsimp only
    rw [sout_A, hstep, hzero]
    refine and_congr Iff.rfl ⟨fun h t ht => ?_, fun h => h ⟨0, hn⟩ le_rfl⟩
    obtain rfl : t = ⟨0, hn⟩ := Fin.ext (Nat.le_zero.mp ht)
    exact h
  | succ n ih =>
    intro hn
    have h9 := lt9 ⟨n + 1, hn⟩
    dsimp only at h9
    have e : (outsAt0 m c (n + 1) hn).2.2 = k0_pay1 (outsAt0 m c n (Nat.lt_of_succ_lt hn)).2.2 (k0_pay6 (iblk m c 1 ⟨n + 1, hn⟩)) (k0_pay7 (iblk m c 1 ⟨n + 1, hn⟩)) := by
      have h0 : ¬(n + 1) % 9 = 0 := by omega
      by_cases h1 : (n + 1) % 9 = 8
      · rw [outsAt0_C m c ⟨n + 1, hn⟩ h0 h1]; dsimp only; rw [sout_C]; rfl
      · rw [outsAt0_B m c ⟨n + 1, hn⟩ h0 h1]; dsimp only; rw [sout_B]; rfl
    rw [e, hstep, ih, and_assoc]
    refine and_congr Iff.rfl ⟨fun h t ht => ?_, fun h => ⟨fun t ht => h t (by omega), h ⟨n + 1, hn⟩ le_rfl⟩⟩
    rcases Nat.lt_or_ge n t.val with hlt | hle
    · obtain rfl : t = ⟨n + 1, hn⟩ := Fin.ext (by dsimp only; omega)
      exact h.2
    · exact h.1 t hle

theorem n8 : 8 < cfg0.N := lt_of_lt_of_eq (by decide) N_0.symm

theorem acc_congr (c : Dev nD) (n k : ℕ) (hn : n < cfg0.N) (hk : k < cfg0.N) (h : n = k) : (outsAt0 m c n hn).2.2 = (outsAt0 m c k hk).2.2 := by
  subst h; rfl

/-- What the last point stores is the greatest of the running maxima it leaves. -/
theorem last_at (c : Dev nD) (t : Fin cfg0.N) (h1 : t.val % 9 = 8) : (outsAt0 m c t.val t.isLt).2.1 = fun _ => k0_pay2 (F := Ideal) (outsAt0 m c t.val t.isLt).2.2 := by
  have e := outsAt0_C m c t (by omega) h1
  have e1 := congrArg (fun p => p.2.1) e
  have e2 := congrArg (fun p => p.2.2) e
  dsimp only at e1 e2
  rw [out_C_3] at e1
  rw [sout_C] at e2
  exact e1.trans (funext fun _ => congrArg (k0_pay2 (F := Ideal)) e2.symm)

/-- The kernel's greatest magnitude. -/
theorem arr3 (c : Dev nD) (i : S1x1.Idx) (z : EReal) :
    @LE.le EReal _ ((dats m 0 c).arrAt 3 cfg0.N i) z ↔ ∀ (r : Fin 2304) (d : Fin 4096), mag (m ((c : Thread nD τ).loc main_arg0) (ix2 r d)) ≤ z := by
  have hlast : (dats m 0 c).arrAt 3 cfg0.N = fun _ : S1x1.Idx => k0_pay2 (F := Ideal) (outsAt0 m c 8 n8).2.2 := by
    refine (dats m 0 c).arrAt_eq_of_covers 3 _ (by decide +kernel) fun t hf (y : S1x1.Idx) => ?_
    have ht : t.val = 8 := by
      have := (flush0_3 t).mp hf
      have := lt9 t
      omega
    blk_simp
    rw [after0_3]
    exact (congrFun (last_at m c t (by omega)) _).trans (congrArg (k0_pay2 (F := Ideal)) (acc_congr m c _ _ t.isLt n8 ht))
  rw [hlast]
  dsimp only
  rw [all_le]
  constructor
  · intro h r d
    have hr := r.isLt
    have hd := d.isLt
    have hlt : r.val / 256 < cfg0.N := lt_of_lt_of_eq (by omega : r.val / 256 < 9) N_0.symm
    have g := ((acc_le m c ⟨r.val % 8, by omega⟩ ⟨d.val % 128, by omega⟩ z 8 n8).mp (h _ _)).2 ⟨r.val / 256, hlt⟩ (by dsimp only; omega)
      ⟨d.val / 128, by omega⟩ ⟨r.val % 256 / 8, by omega⟩
    have er : row ⟨r.val / 256, hlt⟩ ⟨r.val % 256 / 8 * 8 + r.val % 8, by omega⟩ = r := Fin.ext (by unfold row; dsimp only; omega)
    have ed : (⟨d.val / 128 * 128 + d.val % 128, by omega⟩ : Fin 4096) = d := Fin.ext (by dsimp only; omega)
    dsimp only at g
    rw [er, ed] at g
    exact g
  · intro h a b
    exact (acc_le m c a b z 8 n8).mpr ⟨(mag_nonneg _).trans (h 0 0), fun t _ k q => h _ _⟩

end Cert.QuantIdeal.Value

end
-- ==== Proof.QuantRefValue.lean ====
/- The reference quantiser's two arrays after its run: the codes by the specification's formula, and the greatest magnitude by what it
   lies under. -/
module

public import proofs.«01_k».proof.Proof.QuantSpec
public import proofs.«01_k».proof.Proof.Gen.QuantRefIdeal.Value
public import proofs.«01_k».proof.Proof.Gen.QuantRefIdeal.Skeleton
public import Idealize.ShloMosaic.Lib.Pipeline.ValueKit
public import Idealize.ShloMosaic.Lib.Claim
public import Idealize.ShloMosaic.Lib.Tactic

@[expose] public section

set_option maxRecDepth 16384

noncomputable section

namespace Cert.QuantRefIdeal.Value

open Cert.QuantRefIdeal Cert.QuantRefIdeal.Gen Cert.Quant.Spec
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- The one grid point's block is the whole array, for every window. -/
theorem idx0 : ∀ t : Fin cfg0.N, win0_0.index t = (fun _ => 0) ∧ win0_1.index t = (fun _ => 0) ∧ win0_2.index t = (fun _ => 0) ∧ win0_3.index t = (fun _ => 0) := by
  decide +kernel

/-- The scale that the host reshapes. -/
theorem V_v0 (c : Dev nD) (i : S1.Idx) : V m c main_v0 i = m ((c : Thread nD τ).loc main_arg1) ix0 := by
  entry_read; pointwise

/-- A block read is the array read at the same place. -/
theorem iblk_at (c : Dev nD) (t : Fin cfg0.N) :
    (∀ x, iblk m c 0 t x = V m c main_v0 x) ∧ (∀ x, iblk m c 1 t x = V m c main_arg0 x) := by
  obtain ⟨e0, e1, -, -⟩ := idx0 t
  refine ⟨fun x => ?_, fun x => ?_⟩
  · blk_ext [iblk, e0]
  · blk_ext [iblk, e1]

theorem hz : (![0, 0] : Fin 2 → Nat) = fun _ => 0 := funext fun a => by fin_cases a <;> rfl

/-- An array of one entry has one index. -/
theorem one_idx (i : S1.Idx) : i = ix1 0 := by
  refine (eq_ix1 i).trans (congrArg ix1 (Fin.ext ?_))
  have : (i 0).val < 1 := (i 0).isLt
  show (i 0).val = 0
  omega

/-- The one run leaves the codes of its input under its scale. -/
theorem out_A_2 (c : Dev nD) (a0 : Memref sig .tc .smem S1 .f32) (h0 : a0.IsWhole) (a1 : Memref sig .tc .vmem S2304x4096 .bf16) (h1 : a1.IsWhole)
    (a2 : Memref sig .tc .vmem S2304x4096 .fp8e4m3) (h2 : a2.IsWhole) (a3 : Memref sig .tc .smem S1x1 .f32) (h3 : a3.IsWhole)
    (x0 : Vec Ideal S1 .f32) (x1 : Vec Ideal S2304x4096 .bf16) :
    out0_A_2 c a0 h0 a1 h1 a2 h2 a3 h3 x0 x1 = k0_pay2 x1 (x0 (ix1 0)) := by
  unfold out0_A_2
  rw [View.read_writes_eq_canon _ _ _ (cover0_A_2 c a0 h0 a1 h1 a2 h2 a3 h3 x0 x1)]
  unfold kernelRun0_A
  dsimp only
  rw [View.canon_unit_zero hz]
  simp only [View.readAt_eq_ld, h1.read_unread, h0.read_unread, View.ld_unit_zero (S := S2304x4096) hz]
  sl_unfold_words
  simp only [View.readAt_eq_ld, h0.read_unread]
  exact congrArg (k0_pay2 x1) (congrArg x0 (one_idx _))

/-- The one run leaves the greatest magnitude of its input. -/
theorem out_A_3 (c : Dev nD) (a0 : Memref sig .tc .smem S1 .f32) (h0 : a0.IsWhole) (a1 : Memref sig .tc .vmem S2304x4096 .bf16) (h1 : a1.IsWhole)
    (a2 : Memref sig .tc .vmem S2304x4096 .fp8e4m3) (h2 : a2.IsWhole) (a3 : Memref sig .tc .smem S1x1 .f32) (h3 : a3.IsWhole)
    (x0 : Vec Ideal S1 .f32) (x1 : Vec Ideal S2304x4096 .bf16) :
    out0_A_3 c a0 h0 a1 h1 a2 h2 a3 h3 x0 x1 = fun _ => k0_pay3 x1 := by
  unfold out0_A_3
  rw [View.read_writes_eq_canon _ _ _ (cover0_A_3 c a0 h0 a1 h1 a2 h2 a3 h3 x0 x1)]
  unfold kernelRun0_A
  dsimp only
  rw [View.canon_unit_zero hz]
  simp only [View.readAt_eq_ld, h1.read_unread, h0.read_unread, View.ld_unit_zero (S := S2304x4096) hz]
  rfl

/-- The reference's codes. -/
theorem arr2 (c : Dev nD) : (dats m 0 c).arrAt 2 cfg0.N = fun i : S2304x4096.Idx => code (m ((c : Thread nD τ).loc main_arg0)) (m ((c : Thread nD τ).loc main_arg1)) (i 0) (i 1) := by
  refine (dats m 0 c).arrAt_eq_of_covers 2 _ (by decide +kernel) fun t hf (y : S2304x4096.Idx) => ?_
  have hy : ((cfg0.win 2).blk t).view.emb y = y := by
    blk_ext [(idx0 t).2.2.1]
  rw [hy]; clear hy
  obtain ⟨r, d, rfl⟩ : ∃ (r : Fin 2304) (d : Fin 4096), y = ix2 r d := ⟨_, _, eq_ix2 y⟩
  blk_simp; rw [after0_2]; unfold outsAt0; rw [out_A_2]
  obtain ⟨h0, h1⟩ := iblk_at m c t
  pointwise [k0_pay2, k0_pay1, code]
  rw [h0, V_v0]
  refine congrArg (fun v : EReal => min _ (max _ (Ideal.div v _))) ((h1 _).trans ?_)
  rw [V_main_arg0]

/-- The reference's greatest magnitude. -/
theorem arr3 (c : Dev nD) (i : S1x1.Idx) (z : EReal) :
    @LE.le EReal _ ((dats m 0 c).arrAt 3 cfg0.N i) z ↔ ∀ (r : Fin 2304) (d : Fin 4096), mag (m ((c : Thread nD τ).loc main_arg0) (ix2 r d)) ≤ z := by
  suffices h : (dats m 0 c).arrAt 3 cfg0.N = fun _ : S1x1.Idx => k0_pay3 (F := Ideal) (m ((c : Thread nD τ).loc main_arg0)) by
    rw [h]
    unfold k0_pay3
    pointwise
    exact fold_le_pairs (fun x => mag (m ((c : Thread nD τ).loc main_arg0) (ix2 x.1 x.2))) z
  refine (dats m 0 c).arrAt_eq_of_covers 3 _ (by decide +kernel) fun t hf (y : S1x1.Idx) => ?_
  blk_simp; rw [after0_3]; unfold outsAt0; rw [out_A_3]
  have e : iblk m c 1 t = m ((c : Thread nD τ).loc main_arg0) := funext fun x => ((iblk_at m c t).2 x).trans (by rw [V_main_arg0])
  rw [e]

end Cert.QuantRefIdeal.Value

end
-- ==== Proof.lean ====
module

public import proofs.«01_k».proof.Proof.Gen.Quant.Frame
public import proofs.«01_k».proof.Proof.Gen.ExpertsRefIdeal.Frame
public import proofs.«01_k».proof.Proof.Gen.ExpertsRefIdeal.Value
public import proofs.«01_k».proof.Proof.Gen.QuantIdeal.Frame
public import proofs.«01_k».proof.Proof.Gen.QuantIdeal.Value
public import proofs.«01_k».proof.Proof.Gen.QuantRefIdeal.Frame
public import proofs.«01_k».proof.Proof.Gen.QuantRefIdeal.Value
public import proofs.«01_k».proof.Defs
public import proofs.«01_k».proof.Proof.ProjectFrame
public import proofs.«01_k».proof.Proof.ProjectIdealValue
public import proofs.«01_k».proof.Proof.ProjectRefValue
public import proofs.«01_k».proof.Proof.ExpertsFrame
public import proofs.«01_k».proof.Proof.ExpertsIdealValue
public import proofs.«01_k».proof.Proof.ExpertsRefValue
public import proofs.«01_k».proof.Proof.QuantIdealValue
public import proofs.«01_k».proof.Proof.QuantRefValue
public import Idealize.ShloMosaic.Adequacy
public import Idealize.ShloMosaic.Init

@[expose] public section

noncomputable section

namespace Cert.Proof

open Idealize.ShloMosaic Idealize.ShloMosaic.TcCoe Idealize.SL.Sem

/-- The mask's shape facts. -/
theorem maskFacts : Cert.On_holds_token.Facts where
  bcast_S_S8x720 := by decide
  bcast_S8x720_S8x720x4096_0_1 := by decide

/-- The mask at an index says that the row holds a token. -/
theorem mask_at [Cert.On_holds_token.Facts] (a0 a1 a2 a3 a4 a5 a6 a7 a8 a9 a10) (i : (⟨3, ![8, 720, 4096]⟩ : Shape).Idx) :
    ((Cert.On_holds_token.fn (F := Ideal) a0 a1 a2 a3 a4 a5 a6 a7 a8 a9 a10).1 i = 1#1 → BitVec.slt (a6 (ix2 (i 0) (i 1))) 4608#32 = true)
    ∧ ((Cert.On_holds_token.fn (F := Ideal) a0 a1 a2 a3 a4 a5 a6 a7 a8 a9 a10).2 i = 1#1 → BitVec.slt (a6 (ix2 (i 0) (i 1))) 4608#32 = true) := by
  have h : ∀ b : Bool, BitVec.ofBool b = 1#1 → b = true := by decide
  constructor <;>
  · intro hi
    refine h _ (Eq.trans ?_ hi)
    unfold Cert.On_holds_token.fn
    pointwise
    rfl

theorem frame_ideal [Cert.ProjectIdeal.Facts] : Cert.quiescent_ProjectIdeal := fun m g _ =>
  (θ_run _ _ _).mono (fun r h => ⟨fun c => Cert.ProjectIdeal.Gen.args_unchanged m _ _ _ r h.2.1 c, h.2.2⟩) (Cert.ProjectIdeal.Gen.run_value m g)

theorem value : Cert.algebraic_ProjectIdeal_ProjectRefIdeal_on_holds_token (hOn_holds_token := maskFacts) := by
  intro m g m' g' _ hagree
  refine ⟨fun c i => Cert.ProjectIdeal.Gen.TOm m c (i 0) (i 1) (i 2), fun c i => Cert.ProjectIdeal.Gen.TDm m c (i 0) (i 1) (i 2), ?_, ?_⟩
  · refine (θ_run _ _ _).mono (fun r h c => ⟨fun i hi => (h.1 c).1 i ((@mask_at maskFacts _ _ _ _ _ _ _ _ _ _ _ i).1 hi), fun i hi => (h.1 c).2 i ((@mask_at maskFacts _ _ _ _ _ _ _ _ _ _ _ i).2 hi),
      Cert.ProjectIdeal.Gen.args_unchanged m _ _ _ r h.2.1 c⟩) (Cert.ProjectIdeal.Gen.run_value m g)
  · refine (θ_run _ _ _).mono (fun r h c => ?_) (Cert.ProjectRefIdeal.Value.run_blocks m' g')
    obtain ⟨h6, h7, hargs⟩ := h c
    obtain ⟨e0, e1, e2, e3, e4, e5, e6, e7, e8, e9, e10⟩ := hagree c
    refine ⟨fun i _ => ?_, fun i _ => ?_, hargs⟩
    · refine (congrFun h6 i).trans ((Cert.ProjectRefIdeal.Value.arr6 m' c i).trans ?_)
      rw [e1, e5, e7, e10]
    · refine (congrFun h7 i).trans ((Cert.ProjectRefIdeal.Value.arr7 m' c i).trans ?_)
      rw [e3, e4, e8, e9]

theorem quant_value : Cert.algebraic_QuantIdeal_QuantRefIdeal := by
  intro m g m' g' _ hagree
  refine ⟨fun c => (Cert.QuantIdeal.Gen.dats m 0 c).arrAt 2 Cert.QuantIdeal.cfg0.N, fun c => (Cert.QuantIdeal.Gen.dats m 0 c).arrAt 3 Cert.QuantIdeal.cfg0.N,
    Cert.QuantIdeal.Value.run_blocks m g, ?_⟩
  refine (θ_run _ _ _).mono (fun r h c => ?_) (Cert.QuantRefIdeal.Value.run_blocks m' g')
  obtain ⟨h2, h3, hargs⟩ := h c
  obtain ⟨e0, e1⟩ := hagree c
  refine ⟨h2.trans ?_, h3.trans (funext fun i => ?_), hargs⟩
  · rw [Cert.QuantRefIdeal.Value.arr2, e0, e1]
    exact (Cert.QuantIdeal.Value.arr2 m c).symm
  · refine eq_of_forall_ge_iff (α := EReal) fun z => (Cert.QuantRefIdeal.Value.arr3 m' c i z).trans ?_
    rw [e0]
    exact (Cert.QuantIdeal.Value.arr3 m c i z).symm

/-- The codes' mask's shape facts. -/
theorem codesMaskFacts : Cert.On_codes_of_tokens.Facts where
  bcast_S_S8x720 := by decide
  bcast_S_S1x1 := by decide
  bcast_S8x720_S8x720x1792_0_1 := by decide
  bcast_S8x720_S8x2x720x1792_0_2 := by decide
  bcast_S_S8x4096x2x1792 := by decide
  bcast_S_S8x1792x4096 := by decide

/-- The codes' mask at an index of the hidden or of the gradient codes says that the row holds a token. -/
theorem codesMask_at [Cert.On_codes_of_tokens.Facts] (a0 a1 a2 a3 a4 a5 a6 a7 a8 a9 a10) :
    (∀ i : (⟨3, ![8, 720, 1792]⟩ : Shape).Idx, (Cert.On_codes_of_tokens.fn (F := Ideal) a0 a1 a2 a3 a4 a5 a6 a7 a8 a9 a10).1 i = 1#1 → BitVec.slt (a6 (ix2 (i 0) (i 1))) 4608#32 = true)
    ∧ (∀ i : (⟨4, ![8, 2, 720, 1792]⟩ : Shape).Idx, (Cert.On_codes_of_tokens.fn (F := Ideal) a0 a1 a2 a3 a4 a5 a6 a7 a8 a9 a10).2.1 i = 1#1 → BitVec.slt (a6 (ix2 (i 0) (i 2))) 4608#32 = true) := by
  have h : ∀ b : Bool, BitVec.ofBool b = 1#1 → b = true := by decide
  constructor <;>
  · intro i hi
    refine h _ (Eq.trans ?_ hi)
    unfold Cert.On_codes_of_tokens.fn
    pointwise
    rfl

/-- The codes' mask selects nothing of the other four arrays. -/
theorem codesMask_off [Cert.On_codes_of_tokens.Facts] (a0 a1 a2 a3 a4 a5 a6 a7 a8 a9 a10) :
    (∀ i, (Cert.On_codes_of_tokens.fn (F := Ideal) a0 a1 a2 a3 a4 a5 a6 a7 a8 a9 a10).2.2.1 i ≠ 1#1) ∧ (∀ i, (Cert.On_codes_of_tokens.fn (F := Ideal) a0 a1 a2 a3 a4 a5 a6 a7 a8 a9 a10).2.2.2.1 i ≠ 1#1) ∧ (∀ i, (Cert.On_codes_of_tokens.fn (F := Ideal) a0 a1 a2 a3 a4 a5 a6 a7 a8 a9 a10).2.2.2.2.1 i ≠ 1#1) ∧ (∀ i, (Cert.On_codes_of_tokens.fn (F := Ideal) a0 a1 a2 a3 a4 a5 a6 a7 a8 a9 a10).2.2.2.2.2 i ≠ 1#1) := by
  have h : (0#1 : BitVec 1) ≠ 1#1 := by decide
  exact ⟨fun _ => h, fun _ => h, fun _ => h, fun _ => h⟩

theorem experts_value : Cert.algebraic_ExpertsIdeal_ExpertsRefIdeal_on_codes_of_tokens (hOn_codes_of_tokens := codesMaskFacts) := by
  intro m g m' g' _ hagree
  refine ⟨fun c i => Cert.ExpertsIdeal.Gen.THm m c (i 0) (i 1) (i 2), fun c i => Cert.ExpertsIdeal.Gen.TAm m c (i 0) (i 1) (i 2) (i 3),
    fun c _ => (0 : EReal), fun c _ => (0 : EReal), fun c _ => (0 : EReal), fun c _ => (0 : EReal), ?_, ?_⟩
  · refine (θ_run _ _ _).mono (fun r h c => ⟨fun i hi => (h.1 c).1 i ((@codesMask_at codesMaskFacts _ _ _ _ _ _ _ _ _ _ _).1 i hi), fun i hi => (h.1 c).2 i ((@codesMask_at codesMaskFacts _ _ _ _ _ _ _ _ _ _ _).2 i hi),
      fun i hi => absurd hi ((@codesMask_off codesMaskFacts _ _ _ _ _ _ _ _ _ _ _).1 i), fun i hi => absurd hi ((@codesMask_off codesMaskFacts _ _ _ _ _ _ _ _ _ _ _).2.1 i),
      fun i hi => absurd hi ((@codesMask_off codesMaskFacts _ _ _ _ _ _ _ _ _ _ _).2.2.1 i), fun i hi => absurd hi ((@codesMask_off codesMaskFacts _ _ _ _ _ _ _ _ _ _ _).2.2.2 i),
      Cert.ExpertsIdeal.Gen.args_unchanged m r h.2.1 c⟩) (Cert.ExpertsIdeal.Gen.run_value m g)
  · refine (θ_run _ _ _).mono (fun r h c => ?_) (Cert.ExpertsRefIdeal.Value.run_blocks m' g')
    obtain ⟨h11, h12, -, -, -, -, hargs⟩ := h c
    obtain ⟨e0, e1, e2, e3, e4, e5, e6, e7, e8, e9, e10⟩ := hagree c
    refine ⟨fun i _ => ?_, fun i _ => ?_, fun i hi => absurd hi ((@codesMask_off codesMaskFacts _ _ _ _ _ _ _ _ _ _ _).1 i), fun i hi => absurd hi ((@codesMask_off codesMaskFacts _ _ _ _ _ _ _ _ _ _ _).2.1 i),
      fun i hi => absurd hi ((@codesMask_off codesMaskFacts _ _ _ _ _ _ _ _ _ _ _).2.2.1 i), fun i hi => absurd hi ((@codesMask_off codesMaskFacts _ _ _ _ _ _ _ _ _ _ _).2.2.2 i), hargs⟩
    · refine (congrFun h11 i).trans ((Cert.ExpertsRefIdeal.Value.arr11 m' c i).trans ?_)
      rw [e0, e1, e4, e7, e9]
    · refine (congrFun h12 i).trans ((Cert.ExpertsRefIdeal.Value.arr12 m' c i).trans ?_)
      rw [e0, e2, e3, e4, e5, e7, e8, e9, e10]

theorem claim : Cert.Claim :=
  ⟨Cert.Project.Gen.facts, Cert.ProjectIdeal.Gen.facts, Cert.ProjectRefIdeal.Gen.facts, Cert.Quant.Gen.facts, Cert.QuantIdeal.Gen.facts,
    Cert.QuantRefIdeal.Gen.facts, Cert.Experts.Gen.facts, Cert.ExpertsIdeal.Gen.facts, Cert.ExpertsRefIdeal.Gen.facts, maskFacts, codesMaskFacts,
    fun m g _ => Cert.Project.Gen.frame m g, frame_ideal, fun m g _ => Cert.ProjectRefIdeal.Gen.frame m g,
    fun m g _ => Cert.Quant.Gen.frame m g, fun m g _ => Cert.QuantIdeal.Gen.frame m g, fun m g _ => Cert.QuantRefIdeal.Gen.frame m g,
    fun m g _ => Cert.Experts.Gen.frame m g, fun m g _ => Cert.ExpertsIdeal.Gen.frame m g, fun m g _ => Cert.ExpertsRefIdeal.Gen.frame m g,
    trivial, value, trivial, quant_value, trivial, experts_value⟩

end Cert.Proof

end
